-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_NarrowW (m : (ℓ : Loc Cert.NarrowW.nD Cert.NarrowW.τ Cert.NarrowW.sig) → Buf (Elt Bits) ℓ) : Prop :=
  True

def Pre_NarrowWIdeal (m : (ℓ : Loc Cert.NarrowWIdeal.nD Cert.NarrowWIdeal.τ Cert.NarrowWIdeal.sig) → Buf (Elt Ideal) ℓ) : Prop :=
  True

def Pre_NarrowWRefIdeal (m : (ℓ : Loc Cert.NarrowWRefIdeal.nD Cert.NarrowWRefIdeal.τ Cert.NarrowWRefIdeal.sig) → Buf (Elt Ideal) ℓ) : Prop :=
  True

def Pre_MiddleW (m : (ℓ : Loc Cert.MiddleW.nD Cert.MiddleW.τ Cert.MiddleW.sig) → Buf (Elt Bits) ℓ) : Prop :=
  True

def Pre_MiddleWIdeal (m : (ℓ : Loc Cert.MiddleWIdeal.nD Cert.MiddleWIdeal.τ Cert.MiddleWIdeal.sig) → Buf (Elt Ideal) ℓ) : Prop :=
  True

def Pre_MiddleWRefIdeal (m : (ℓ : Loc Cert.MiddleWRefIdeal.nD Cert.MiddleWRefIdeal.τ Cert.MiddleWRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpGate (m : (ℓ : Loc Cert.UpGate.nD Cert.UpGate.τ Cert.UpGate.sig) → Buf (Elt Bits) ℓ) : Prop :=
  True

def Pre_UpGateIdeal (m : (ℓ : Loc Cert.UpGateIdeal.nD Cert.UpGateIdeal.τ Cert.UpGateIdeal.sig) → Buf (Elt Ideal) ℓ) : Prop :=
  True

def Pre_UpGateRefIdeal (m : (ℓ : Loc Cert.UpGateRefIdeal.nD Cert.UpGateRefIdeal.τ Cert.UpGateRefIdeal.sig) → Buf (Elt Ideal) ℓ) : Prop :=
  True

def Pre_UpVal (m : (ℓ : Loc Cert.UpVal.nD Cert.UpVal.τ Cert.UpVal.sig) → Buf (Elt Bits) ℓ) : Prop :=
  True

def Pre_UpValIdeal (m : (ℓ : Loc Cert.UpValIdeal.nD Cert.UpValIdeal.τ Cert.UpValIdeal.sig) → Buf (Elt Ideal) ℓ) : Prop :=
  True

def Pre_UpValRefIdeal (m : (ℓ : Loc Cert.UpValRefIdeal.nD Cert.UpValRefIdeal.τ Cert.UpValRefIdeal.sig) → Buf (Elt Ideal) ℓ) : Prop :=
  True

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_BranchARefIdeal (m : (ℓ : Loc Cert.BranchARefIdeal.nD Cert.BranchARefIdeal.τ Cert.BranchARefIdeal.sig) → Buf (Elt Ideal) ℓ) : Prop :=
  True

def Pre_BranchC (m : (ℓ : Loc Cert.BranchC.nD Cert.BranchC.τ Cert.BranchC.sig) → Buf (Elt Bits) ℓ) : Prop :=
  True

def Pre_BranchCIdeal (m : (ℓ : Loc Cert.BranchCIdeal.nD Cert.BranchCIdeal.τ Cert.BranchCIdeal.sig) → Buf (Elt Ideal) ℓ) : Prop :=
  True

def Pre_BranchCRefIdeal (m : (ℓ : Loc Cert.BranchCRefIdeal.nD Cert.BranchCRefIdeal.τ Cert.BranchCRefIdeal.sig) → Buf (Elt Ideal) ℓ) : Prop :=
  True

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutRefIdeal (m : (ℓ : Loc Cert.MergeOutRefIdeal.nD Cert.MergeOutRefIdeal.τ Cert.MergeOutRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossRefIdeal (m : (ℓ : Loc Cert.FfnLossRefIdeal.nD Cert.FfnLossRefIdeal.τ Cert.FfnLossRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamNarrow (m : (ℓ : Loc Cert.AdamNarrow.nD Cert.AdamNarrow.τ Cert.AdamNarrow.sig) → Buf (Elt Bits) ℓ) : Prop :=
  True

def Pre_AdamNarrowIdeal (m : (ℓ : Loc Cert.AdamNarrowIdeal.nD Cert.AdamNarrowIdeal.τ Cert.AdamNarrowIdeal.sig) → Buf (Elt Ideal) ℓ) : Prop :=
  True

def Pre_AdamNarrowRefIdeal (m : (ℓ : Loc Cert.AdamNarrowRefIdeal.nD Cert.AdamNarrowRefIdeal.τ Cert.AdamNarrowRefIdeal.sig) → Buf (Elt Ideal) ℓ) : Prop :=
  True

def Pre_AdamMiddle (m : (ℓ : Loc Cert.AdamMiddle.nD Cert.AdamMiddle.τ Cert.AdamMiddle.sig) → Buf (Elt Bits) ℓ) : Prop :=
  True

def Pre_AdamMiddleIdeal (m : (ℓ : Loc Cert.AdamMiddleIdeal.nD Cert.AdamMiddleIdeal.τ Cert.AdamMiddleIdeal.sig) → Buf (Elt Ideal) ℓ) : Prop :=
  True

def Pre_AdamMiddleRefIdeal (m : (ℓ : Loc Cert.AdamMiddleRefIdeal.nD Cert.AdamMiddleRefIdeal.τ Cert.AdamMiddleRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdRefIdeal (m : (ℓ : Loc Cert.PoolFwdRefIdeal.nD Cert.PoolFwdRefIdeal.τ Cert.PoolFwdRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def Pre_SmallLate (m : (ℓ : Loc Cert.SmallLate.nD Cert.SmallLate.τ Cert.SmallLate.sig) → Buf (Elt Bits) ℓ) : Prop :=
  True

def Pre_SmallLateIdeal (m : (ℓ : Loc Cert.SmallLateIdeal.nD Cert.SmallLateIdeal.τ Cert.SmallLateIdeal.sig) → Buf (Elt Ideal) ℓ) : Prop :=
  True

def Pre_SmallLateRefIdeal (m : (ℓ : Loc Cert.SmallLateRefIdeal.nD Cert.SmallLateRefIdeal.τ Cert.SmallLateRefIdeal.sig) → Buf (Elt Ideal) ℓ) : Prop :=
  True

def Pre_SmallEarly (m : (ℓ : Loc Cert.SmallEarly.nD Cert.SmallEarly.τ Cert.SmallEarly.sig) → Buf (Elt Bits) ℓ) : Prop :=
  True

def Pre_SmallEarlyIdeal (m : (ℓ : Loc Cert.SmallEarlyIdeal.nD Cert.SmallEarlyIdeal.τ Cert.SmallEarlyIdeal.sig) → Buf (Elt Ideal) ℓ) : Prop :=
  True

def Pre_SmallEarlyRefIdeal (m : (ℓ : Loc Cert.SmallEarlyRefIdeal.nD Cert.SmallEarlyRefIdeal.τ Cert.SmallEarlyRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_NarrowW [hNarrowW : Cert.NarrowW.Facts] : Prop :=
  ∀ (m : (ℓ : Loc Cert.NarrowW.nD Cert.NarrowW.τ Cert.NarrowW.sig) → Buf (Elt Bits) ℓ) (g : Dev Cert.NarrowW.nD → PrngReg), Pre_NarrowW m →
    θ_run (Cert.NarrowW.defs (F := Bits)) (onTc (τ := Cert.NarrowW.τ) (Cert.NarrowW.main (F := Bits))) ⟨m, fun _ => 0, g⟩ (fun r => (∀ c : Dev Cert.NarrowW.nD,
      r.2.mem ((c.tc : Thread Cert.NarrowW.nD Cert.NarrowW.τ).loc Cert.NarrowW.main_arg0) = m ((c.tc : Thread Cert.NarrowW.nD Cert.NarrowW.τ).loc Cert.NarrowW.main_arg0)
      ∧ r.2.mem ((c.tc : Thread Cert.NarrowW.nD Cert.NarrowW.τ).loc Cert.NarrowW.main_arg1) = m ((c.tc : Thread Cert.NarrowW.nD Cert.NarrowW.τ).loc Cert.NarrowW.main_arg1))
      ∧ r.2.sem = fun _ => 0)

def quiescent_NarrowWIdeal [hNarrowWIdeal : Cert.NarrowWIdeal.Facts] : Prop :=
  ∀ (m : (ℓ : Loc Cert.NarrowWIdeal.nD Cert.NarrowWIdeal.τ Cert.NarrowWIdeal.sig) → Buf (Elt Ideal) ℓ) (g : Dev Cert.NarrowWIdeal.nD → PrngReg), Pre_NarrowWIdeal m →
    θ_run (Cert.NarrowWIdeal.defs (F := Ideal)) (onTc (τ := Cert.NarrowWIdeal.τ) (Cert.NarrowWIdeal.main (F := Ideal))) ⟨m, fun _ => 0, g⟩ (fun r => (∀ c : Dev Cert.NarrowWIdeal.nD,
      r.2.mem ((c.tc : Thread Cert.NarrowWIdeal.nD Cert.NarrowWIdeal.τ).loc Cert.NarrowWIdeal.main_arg0) = m ((c.tc : Thread Cert.NarrowWIdeal.nD Cert.NarrowWIdeal.τ).loc Cert.NarrowWIdeal.main_arg0)
      ∧ r.2.mem ((c.tc : Thread Cert.NarrowWIdeal.nD Cert.NarrowWIdeal.τ).loc Cert.NarrowWIdeal.main_arg1) = m ((c.tc : Thread Cert.NarrowWIdeal.nD Cert.NarrowWIdeal.τ).loc Cert.NarrowWIdeal.main_arg1))
      ∧ r.2.sem = fun _ => 0)

def quiescent_NarrowWRefIdeal [hNarrowWRefIdeal : Cert.NarrowWRefIdeal.Facts] : Prop :=
  ∀ (m : (ℓ : Loc Cert.NarrowWRefIdeal.nD Cert.NarrowWRefIdeal.τ Cert.NarrowWRefIdeal.sig) → Buf (Elt Ideal) ℓ) (g : Dev Cert.NarrowWRefIdeal.nD → PrngReg), Pre_NarrowWRefIdeal m →
    θ_run (Cert.NarrowWRefIdeal.defs (F := Ideal)) (onTc (τ := Cert.NarrowWRefIdeal.τ) (Cert.NarrowWRefIdeal.main (F := Ideal))) ⟨m, fun _ => 0, g⟩ (fun r => (∀ c : Dev Cert.NarrowWRefIdeal.nD,
      r.2.mem ((c.tc : Thread Cert.NarrowWRefIdeal.nD Cert.NarrowWRefIdeal.τ).loc Cert.NarrowWRefIdeal.main_arg0) = m ((c.tc : Thread Cert.NarrowWRefIdeal.nD Cert.NarrowWRefIdeal.τ).loc Cert.NarrowWRefIdeal.main_arg0)
      ∧ r.2.mem ((c.tc : Thread Cert.NarrowWRefIdeal.nD Cert.NarrowWRefIdeal.τ).loc Cert.NarrowWRefIdeal.main_arg1) = m ((c.tc : Thread Cert.NarrowWRefIdeal.nD Cert.NarrowWRefIdeal.τ).loc Cert.NarrowWRefIdeal.main_arg1))
      ∧ r.2.sem = fun _ => 0)

def quiescent_MiddleW [hMiddleW : Cert.MiddleW.Facts] : Prop :=
  ∀ (m : (ℓ : Loc Cert.MiddleW.nD Cert.MiddleW.τ Cert.MiddleW.sig) → Buf (Elt Bits) ℓ) (g : Dev Cert.MiddleW.nD → PrngReg), Pre_MiddleW m →
    θ_run (Cert.MiddleW.defs (F := Bits)) (onTc (τ := Cert.MiddleW.τ) (Cert.MiddleW.main (F := Bits))) ⟨m, fun _ => 0, g⟩ (fun r => (∀ c : Dev Cert.MiddleW.nD,
      r.2.mem ((c.tc : Thread Cert.MiddleW.nD Cert.MiddleW.τ).loc Cert.MiddleW.main_arg0) = m ((c.tc : Thread Cert.MiddleW.nD Cert.MiddleW.τ).loc Cert.MiddleW.main_arg0)
      ∧ r.2.mem ((c.tc : Thread Cert.MiddleW.nD Cert.MiddleW.τ).loc Cert.MiddleW.main_arg1) = m ((c.tc : Thread Cert.MiddleW.nD Cert.MiddleW.τ).loc Cert.MiddleW.main_arg1))
      ∧ r.2.sem = fun _ => 0)

def quiescent_MiddleWIdeal [hMiddleWIdeal : Cert.MiddleWIdeal.Facts] : Prop :=
  ∀ (m : (ℓ : Loc Cert.MiddleWIdeal.nD Cert.MiddleWIdeal.τ Cert.MiddleWIdeal.sig) → Buf (Elt Ideal) ℓ) (g : Dev Cert.MiddleWIdeal.nD → PrngReg), Pre_MiddleWIdeal m →
    θ_run (Cert.MiddleWIdeal.defs (F := Ideal)) (onTc (τ := Cert.MiddleWIdeal.τ) (Cert.MiddleWIdeal.main (F := Ideal))) ⟨m, fun _ => 0, g⟩ (fun r => (∀ c : Dev Cert.MiddleWIdeal.nD,
      r.2.mem ((c.tc : Thread Cert.MiddleWIdeal.nD Cert.MiddleWIdeal.τ).loc Cert.MiddleWIdeal.main_arg0) = m ((c.tc : Thread Cert.MiddleWIdeal.nD Cert.MiddleWIdeal.τ).loc Cert.MiddleWIdeal.main_arg0)
      ∧ r.2.mem ((c.tc : Thread Cert.MiddleWIdeal.nD Cert.MiddleWIdeal.τ).loc Cert.MiddleWIdeal.main_arg1) = m ((c.tc : Thread Cert.MiddleWIdeal.nD Cert.MiddleWIdeal.τ).loc Cert.MiddleWIdeal.main_arg1))
      ∧ r.2.sem = fun _ => 0)

def quiescent_MiddleWRefIdeal [hMiddleWRefIdeal : Cert.MiddleWRefIdeal.Facts] : Prop :=
  ∀ (m : (ℓ : Loc Cert.MiddleWRefIdeal.nD Cert.MiddleWRefIdeal.τ Cert.MiddleWRefIdeal.sig) → Buf (Elt Ideal) ℓ) (g : Dev Cert.MiddleWRefIdeal.nD → PrngReg), Pre_MiddleWRefIdeal m →
    θ_run (Cert.MiddleWRefIdeal.defs (F := Ideal)) (onTc (τ := Cert.MiddleWRefIdeal.τ) (Cert.MiddleWRefIdeal.main (F := Ideal))) ⟨m, fun _ => 0, g⟩ (fun r => (∀ c : Dev Cert.MiddleWRefIdeal.nD,
      r.2.mem ((c.tc : Thread Cert.MiddleWRefIdeal.nD Cert.MiddleWRefIdeal.τ).loc Cert.MiddleWRefIdeal.main_arg0) = m ((c.tc : Thread Cert.MiddleWRefIdeal.nD Cert.MiddleWRefIdeal.τ).loc Cert.MiddleWRefIdeal.main_arg0)
      ∧ r.2.mem ((c.tc : Thread Cert.MiddleWRefIdeal.nD Cert.MiddleWRefIdeal.τ).loc Cert.MiddleWRefIdeal.main_arg1) = m ((c.tc : Thread Cert.MiddleWRefIdeal.nD Cert.MiddleWRefIdeal.τ).loc Cert.MiddleWRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_UpGate [hUpGate : Cert.UpGate.Facts] : Prop :=
  ∀ (m : (ℓ : Loc Cert.UpGate.nD Cert.UpGate.τ Cert.UpGate.sig) → Buf (Elt Bits) ℓ) (g : Dev Cert.UpGate.nD → PrngReg), Pre_UpGate m →
    θ_run (Cert.UpGate.defs (F := Bits)) (onTc (τ := Cert.UpGate.τ) (Cert.UpGate.main (F := Bits))) ⟨m, fun _ => 0, g⟩ (fun r => (∀ c : Dev Cert.UpGate.nD,
      r.2.mem ((c.tc : Thread Cert.UpGate.nD Cert.UpGate.τ).loc Cert.UpGate.main_arg0) = m ((c.tc : Thread Cert.UpGate.nD Cert.UpGate.τ).loc Cert.UpGate.main_arg0)
      ∧ r.2.mem ((c.tc : Thread Cert.UpGate.nD Cert.UpGate.τ).loc Cert.UpGate.main_arg1) = m ((c.tc : Thread Cert.UpGate.nD Cert.UpGate.τ).loc Cert.UpGate.main_arg1))
      ∧ r.2.sem = fun _ => 0)

def quiescent_UpGateIdeal [hUpGateIdeal : Cert.UpGateIdeal.Facts] : Prop :=
  ∀ (m : (ℓ : Loc Cert.UpGateIdeal.nD Cert.UpGateIdeal.τ Cert.UpGateIdeal.sig) → Buf (Elt Ideal) ℓ) (g : Dev Cert.UpGateIdeal.nD → PrngReg), Pre_UpGateIdeal m →
    θ_run (Cert.UpGateIdeal.defs (F := Ideal)) (onTc (τ := Cert.UpGateIdeal.τ) (Cert.UpGateIdeal.main (F := Ideal))) ⟨m, fun _ => 0, g⟩ (fun r => (∀ c : Dev Cert.UpGateIdeal.nD,
      r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
      ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1))
      ∧ r.2.sem = fun _ => 0)

def quiescent_UpGateRefIdeal [hUpGateRefIdeal : Cert.UpGateRefIdeal.Facts] : Prop :=
  ∀ (m : (ℓ : Loc Cert.UpGateRefIdeal.nD Cert.UpGateRefIdeal.τ Cert.UpGateRefIdeal.sig) → Buf (Elt Ideal) ℓ) (g : Dev Cert.UpGateRefIdeal.nD → PrngReg), Pre_UpGateRefIdeal m →
    θ_run (Cert.UpGateRefIdeal.defs (F := Ideal)) (onTc (τ := Cert.UpGateRefIdeal.τ) (Cert.UpGateRefIdeal.main (F := Ideal))) ⟨m, fun _ => 0, g⟩ (fun r => (∀ c : Dev Cert.UpGateRefIdeal.nD,
      r.2.mem ((c.tc : Thread Cert.UpGateRefIdeal.nD Cert.UpGateRefIdeal.τ).loc Cert.UpGateRefIdeal.main_arg0) = m ((c.tc : Thread Cert.UpGateRefIdeal.nD Cert.UpGateRefIdeal.τ).loc Cert.UpGateRefIdeal.main_arg0)
      ∧ r.2.mem ((c.tc : Thread Cert.UpGateRefIdeal.nD Cert.UpGateRefIdeal.τ).loc Cert.UpGateRefIdeal.main_arg1) = m ((c.tc : Thread Cert.UpGateRefIdeal.nD Cert.UpGateRefIdeal.τ).loc Cert.UpGateRefIdeal.main_arg1))
      ∧ r.2.sem = fun _ => 0)

def quiescent_UpVal [hUpVal : Cert.UpVal.Facts] : Prop :=
  ∀ (m : (ℓ : Loc Cert.UpVal.nD Cert.UpVal.τ Cert.UpVal.sig) → Buf (Elt Bits) ℓ) (g : Dev Cert.UpVal.nD → PrngReg), Pre_UpVal m →
    θ_run (Cert.UpVal.defs (F := Bits)) (onTc (τ := Cert.UpVal.τ) (Cert.UpVal.main (F := Bits))) ⟨m, fun _ => 0, g⟩ (fun r => (∀ c : Dev Cert.UpVal.nD,
      r.2.mem ((c.tc : Thread Cert.UpVal.nD Cert.UpVal.τ).loc Cert.UpVal.main_arg0) = m ((c.tc : Thread Cert.UpVal.nD Cert.UpVal.τ).loc Cert.UpVal.main_arg0)
      ∧ r.2.mem ((c.tc : Thread Cert.UpVal.nD Cert.UpVal.τ).loc Cert.UpVal.main_arg1) = m ((c.tc : Thread Cert.UpVal.nD Cert.UpVal.τ).loc Cert.UpVal.main_arg1))
      ∧ r.2.sem = fun _ => 0)

def quiescent_UpValIdeal [hUpValIdeal : Cert.UpValIdeal.Facts] : Prop :=
  ∀ (m : (ℓ : Loc Cert.UpValIdeal.nD Cert.UpValIdeal.τ Cert.UpValIdeal.sig) → Buf (Elt Ideal) ℓ) (g : Dev Cert.UpValIdeal.nD → PrngReg), Pre_UpValIdeal m →
    θ_run (Cert.UpValIdeal.defs (F := Ideal)) (onTc (τ := Cert.UpValIdeal.τ) (Cert.UpValIdeal.main (F := Ideal))) ⟨m, fun _ => 0, g⟩ (fun r => (∀ c : Dev Cert.UpValIdeal.nD,
      r.2.mem ((c.tc : Thread Cert.UpValIdeal.nD Cert.UpValIdeal.τ).loc Cert.UpValIdeal.main_arg0) = m ((c.tc : Thread Cert.UpValIdeal.nD Cert.UpValIdeal.τ).loc Cert.UpValIdeal.main_arg0)
      ∧ r.2.mem ((c.tc : Thread Cert.UpValIdeal.nD Cert.UpValIdeal.τ).loc Cert.UpValIdeal.main_arg1) = m ((c.tc : Thread Cert.UpValIdeal.nD Cert.UpValIdeal.τ).loc Cert.UpValIdeal.main_arg1))
      ∧ r.2.sem = fun _ => 0)

def quiescent_UpValRefIdeal [hUpValRefIdeal : Cert.UpValRefIdeal.Facts] : Prop :=
  ∀ (m : (ℓ : Loc Cert.UpValRefIdeal.nD Cert.UpValRefIdeal.τ Cert.UpValRefIdeal.sig) → Buf (Elt Ideal) ℓ) (g : Dev Cert.UpValRefIdeal.nD → PrngReg), Pre_UpValRefIdeal m →
    θ_run (Cert.UpValRefIdeal.defs (F := Ideal)) (onTc (τ := Cert.UpValRefIdeal.τ) (Cert.UpValRefIdeal.main (F := Ideal))) ⟨m, fun _ => 0, g⟩ (fun r => (∀ c : Dev Cert.UpValRefIdeal.nD,
      r.2.mem ((c.tc : Thread Cert.UpValRefIdeal.nD Cert.UpValRefIdeal.τ).loc Cert.UpValRefIdeal.main_arg0) = m ((c.tc : Thread Cert.UpValRefIdeal.nD Cert.UpValRefIdeal.τ).loc Cert.UpValRefIdeal.main_arg0)
      ∧ r.2.mem ((c.tc : Thread Cert.UpValRefIdeal.nD Cert.UpValRefIdeal.τ).loc Cert.UpValRefIdeal.main_arg1) = m ((c.tc : Thread Cert.UpValRefIdeal.nD Cert.UpValRefIdeal.τ).loc Cert.UpValRefIdeal.main_arg1))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1)
      ∧ r.2.mem ((c.tc : Thread Cert.BranchA.nD Cert.BranchA.τ).loc Cert.BranchA.main_arg2) = m ((c.tc : Thread Cert.BranchA.nD Cert.BranchA.τ).loc Cert.BranchA.main_arg2)
      ∧ r.2.mem ((c.tc : Thread Cert.BranchA.nD Cert.BranchA.τ).loc Cert.BranchA.main_arg3) = m ((c.tc : Thread Cert.BranchA.nD Cert.BranchA.τ).loc Cert.BranchA.main_arg3))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1)
      ∧ r.2.mem ((c.tc : Thread Cert.BranchAIdeal.nD Cert.BranchAIdeal.τ).loc Cert.BranchAIdeal.main_arg2) = m ((c.tc : Thread Cert.BranchAIdeal.nD Cert.BranchAIdeal.τ).loc Cert.BranchAIdeal.main_arg2)
      ∧ r.2.mem ((c.tc : Thread Cert.BranchAIdeal.nD Cert.BranchAIdeal.τ).loc Cert.BranchAIdeal.main_arg3) = m ((c.tc : Thread Cert.BranchAIdeal.nD Cert.BranchAIdeal.τ).loc Cert.BranchAIdeal.main_arg3))
      ∧ r.2.sem = fun _ => 0)

def quiescent_BranchARefIdeal [hBranchARefIdeal : Cert.BranchARefIdeal.Facts] : Prop :=
  ∀ (m : (ℓ : Loc Cert.BranchARefIdeal.nD Cert.BranchARefIdeal.τ Cert.BranchARefIdeal.sig) → Buf (Elt Ideal) ℓ) (g : Dev Cert.BranchARefIdeal.nD → PrngReg), Pre_BranchARefIdeal m →
    θ_run (Cert.BranchARefIdeal.defs (F := Ideal)) (onTc (τ := Cert.BranchARefIdeal.τ) (Cert.BranchARefIdeal.main (F := Ideal))) ⟨m, fun _ => 0, g⟩ (fun r => (∀ c : Dev Cert.BranchARefIdeal.nD,
      r.2.mem ((c.tc : Thread Cert.BranchARefIdeal.nD Cert.BranchARefIdeal.τ).loc Cert.BranchARefIdeal.main_arg0) = m ((c.tc : Thread Cert.BranchARefIdeal.nD Cert.BranchARefIdeal.τ).loc Cert.BranchARefIdeal.main_arg0)
      ∧ r.2.mem ((c.tc : Thread Cert.BranchARefIdeal.nD Cert.BranchARefIdeal.τ).loc Cert.BranchARefIdeal.main_arg1) = m ((c.tc : Thread Cert.BranchARefIdeal.nD Cert.BranchARefIdeal.τ).loc Cert.BranchARefIdeal.main_arg1)
      ∧ r.2.mem ((c.tc : Thread Cert.BranchARefIdeal.nD Cert.BranchARefIdeal.τ).loc Cert.BranchARefIdeal.main_arg2) = m ((c.tc : Thread Cert.BranchARefIdeal.nD Cert.BranchARefIdeal.τ).loc Cert.BranchARefIdeal.main_arg2)
      ∧ r.2.mem ((c.tc : Thread Cert.BranchARefIdeal.nD Cert.BranchARefIdeal.τ).loc Cert.BranchARefIdeal.main_arg3) = m ((c.tc : Thread Cert.BranchARefIdeal.nD Cert.BranchARefIdeal.τ).loc Cert.BranchARefIdeal.main_arg3))
      ∧ r.2.sem = fun _ => 0)

def quiescent_BranchC [hBranchC : Cert.BranchC.Facts] : Prop :=
  ∀ (m : (ℓ : Loc Cert.BranchC.nD Cert.BranchC.τ Cert.BranchC.sig) → Buf (Elt Bits) ℓ) (g : Dev Cert.BranchC.nD → PrngReg), Pre_BranchC m →
    θ_run (Cert.BranchC.defs (F := Bits)) (onTc (τ := Cert.BranchC.τ) (Cert.BranchC.main (F := Bits))) ⟨m, fun _ => 0, g⟩ (fun r => (∀ c : Dev Cert.BranchC.nD,
      r.2.mem ((c.tc : Thread Cert.BranchC.nD Cert.BranchC.τ).loc Cert.BranchC.main_arg0) = m ((c.tc : Thread Cert.BranchC.nD Cert.BranchC.τ).loc Cert.BranchC.main_arg0)
      ∧ r.2.mem ((c.tc : Thread Cert.BranchC.nD Cert.BranchC.τ).loc Cert.BranchC.main_arg1) = m ((c.tc : Thread Cert.BranchC.nD Cert.BranchC.τ).loc Cert.BranchC.main_arg1)
      ∧ r.2.mem ((c.tc : Thread Cert.BranchC.nD Cert.BranchC.τ).loc Cert.BranchC.main_arg2) = m ((c.tc : Thread Cert.BranchC.nD Cert.BranchC.τ).loc Cert.BranchC.main_arg2)
      ∧ r.2.mem ((c.tc : Thread Cert.BranchC.nD Cert.BranchC.τ).loc Cert.BranchC.main_arg3) = m ((c.tc : Thread Cert.BranchC.nD Cert.BranchC.τ).loc Cert.BranchC.main_arg3)
      ∧ r.2.mem ((c.tc : Thread Cert.BranchC.nD Cert.BranchC.τ).loc Cert.BranchC.main_arg4) = m ((c.tc : Thread Cert.BranchC.nD Cert.BranchC.τ).loc Cert.BranchC.main_arg4))
      ∧ r.2.sem = fun _ => 0)

def quiescent_BranchCIdeal [hBranchCIdeal : Cert.BranchCIdeal.Facts] : Prop :=
  ∀ (m : (ℓ : Loc Cert.BranchCIdeal.nD Cert.BranchCIdeal.τ Cert.BranchCIdeal.sig) → Buf (Elt Ideal) ℓ) (g : Dev Cert.BranchCIdeal.nD → PrngReg), Pre_BranchCIdeal m →
    θ_run (Cert.BranchCIdeal.defs (F := Ideal)) (onTc (τ := Cert.BranchCIdeal.τ) (Cert.BranchCIdeal.main (F := Ideal))) ⟨m, fun _ => 0, g⟩ (fun r => (∀ c : Dev Cert.BranchCIdeal.nD,
      r.2.mem ((c.tc : Thread Cert.BranchCIdeal.nD Cert.BranchCIdeal.τ).loc Cert.BranchCIdeal.main_arg0) = m ((c.tc : Thread Cert.BranchCIdeal.nD Cert.BranchCIdeal.τ).loc Cert.BranchCIdeal.main_arg0)
      ∧ r.2.mem ((c.tc : Thread Cert.BranchCIdeal.nD Cert.BranchCIdeal.τ).loc Cert.BranchCIdeal.main_arg1) = m ((c.tc : Thread Cert.BranchCIdeal.nD Cert.BranchCIdeal.τ).loc Cert.BranchCIdeal.main_arg1)
      ∧ r.2.mem ((c.tc : Thread Cert.BranchCIdeal.nD Cert.BranchCIdeal.τ).loc Cert.BranchCIdeal.main_arg2) = m ((c.tc : Thread Cert.BranchCIdeal.nD Cert.BranchCIdeal.τ).loc Cert.BranchCIdeal.main_arg2)
      ∧ r.2.mem ((c.tc : Thread Cert.BranchCIdeal.nD Cert.BranchCIdeal.τ).loc Cert.BranchCIdeal.main_arg3) = m ((c.tc : Thread Cert.BranchCIdeal.nD Cert.BranchCIdeal.τ).loc Cert.BranchCIdeal.main_arg3)
      ∧ r.2.mem ((c.tc : Thread Cert.BranchCIdeal.nD Cert.BranchCIdeal.τ).loc Cert.BranchCIdeal.main_arg4) = m ((c.tc : Thread Cert.BranchCIdeal.nD Cert.BranchCIdeal.τ).loc Cert.BranchCIdeal.main_arg4))
      ∧ r.2.sem = fun _ => 0)

def quiescent_BranchCRefIdeal [hBranchCRefIdeal : Cert.BranchCRefIdeal.Facts] : Prop :=
  ∀ (m : (ℓ : Loc Cert.BranchCRefIdeal.nD Cert.BranchCRefIdeal.τ Cert.BranchCRefIdeal.sig) → Buf (Elt Ideal) ℓ) (g : Dev Cert.BranchCRefIdeal.nD → PrngReg), Pre_BranchCRefIdeal m →
    θ_run (Cert.BranchCRefIdeal.defs (F := Ideal)) (onTc (τ := Cert.BranchCRefIdeal.τ) (Cert.BranchCRefIdeal.main (F := Ideal))) ⟨m, fun _ => 0, g⟩ (fun r => (∀ c : Dev Cert.BranchCRefIdeal.nD,
      r.2.mem ((c.tc : Thread Cert.BranchCRefIdeal.nD Cert.BranchCRefIdeal.τ).loc Cert.BranchCRefIdeal.main_arg0) = m ((c.tc : Thread Cert.BranchCRefIdeal.nD Cert.BranchCRefIdeal.τ).loc Cert.BranchCRefIdeal.main_arg0)
      ∧ r.2.mem ((c.tc : Thread Cert.BranchCRefIdeal.nD Cert.BranchCRefIdeal.τ).loc Cert.BranchCRefIdeal.main_arg1) = m ((c.tc : Thread Cert.BranchCRefIdeal.nD Cert.BranchCRefIdeal.τ).loc Cert.BranchCRefIdeal.main_arg1)
      ∧ r.2.mem ((c.tc : Thread Cert.BranchCRefIdeal.nD Cert.BranchCRefIdeal.τ).loc Cert.BranchCRefIdeal.main_arg2) = m ((c.tc : Thread Cert.BranchCRefIdeal.nD Cert.BranchCRefIdeal.τ).loc Cert.BranchCRefIdeal.main_arg2)
      ∧ r.2.mem ((c.tc : Thread Cert.BranchCRefIdeal.nD Cert.BranchCRefIdeal.τ).loc Cert.BranchCRefIdeal.main_arg3) = m ((c.tc : Thread Cert.BranchCRefIdeal.nD Cert.BranchCRefIdeal.τ).loc Cert.BranchCRefIdeal.main_arg3)
      ∧ r.2.mem ((c.tc : Thread Cert.BranchCRefIdeal.nD Cert.BranchCRefIdeal.τ).loc Cert.BranchCRefIdeal.main_arg4) = m ((c.tc : Thread Cert.BranchCRefIdeal.nD Cert.BranchCRefIdeal.τ).loc Cert.BranchCRefIdeal.main_arg4))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4)
      ∧ r.2.mem ((c.tc : Thread Cert.MergeOut.nD Cert.MergeOut.τ).loc Cert.MergeOut.main_arg5) = m ((c.tc : Thread Cert.MergeOut.nD Cert.MergeOut.τ).loc Cert.MergeOut.main_arg5)
      ∧ r.2.mem ((c.tc : Thread Cert.MergeOut.nD Cert.MergeOut.τ).loc Cert.MergeOut.main_arg6) = m ((c.tc : Thread Cert.MergeOut.nD Cert.MergeOut.τ).loc Cert.MergeOut.main_arg6)
      ∧ r.2.mem ((c.tc : Thread Cert.MergeOut.nD Cert.MergeOut.τ).loc Cert.MergeOut.main_arg7) = m ((c.tc : Thread Cert.MergeOut.nD Cert.MergeOut.τ).loc Cert.MergeOut.main_arg7)
      ∧ r.2.mem ((c.tc : Thread Cert.MergeOut.nD Cert.MergeOut.τ).loc Cert.MergeOut.main_arg8) = m ((c.tc : Thread Cert.MergeOut.nD Cert.MergeOut.τ).loc Cert.MergeOut.main_arg8)
      ∧ r.2.mem ((c.tc : Thread Cert.MergeOut.nD Cert.MergeOut.τ).loc Cert.MergeOut.main_arg9) = m ((c.tc : Thread Cert.MergeOut.nD Cert.MergeOut.τ).loc Cert.MergeOut.main_arg9))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
      ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
      ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6)
      ∧ r.2.mem ((c.tc : Thread Cert.MergeOutIdeal.nD Cert.MergeOutIdeal.τ).loc Cert.MergeOutIdeal.main_arg7) = m ((c.tc : Thread Cert.MergeOutIdeal.nD Cert.MergeOutIdeal.τ).loc Cert.MergeOutIdeal.main_arg7)
      ∧ r.2.mem ((c.tc : Thread Cert.MergeOutIdeal.nD Cert.MergeOutIdeal.τ).loc Cert.MergeOutIdeal.main_arg8) = m ((c.tc : Thread Cert.MergeOutIdeal.nD Cert.MergeOutIdeal.τ).loc Cert.MergeOutIdeal.main_arg8)
      ∧ r.2.mem ((c.tc : Thread Cert.MergeOutIdeal.nD Cert.MergeOutIdeal.τ).loc Cert.MergeOutIdeal.main_arg9) = m ((c.tc : Thread Cert.MergeOutIdeal.nD Cert.MergeOutIdeal.τ).loc Cert.MergeOutIdeal.main_arg9))
      ∧ r.2.sem = fun _ => 0)

def quiescent_MergeOutRefIdeal [hMergeOutRefIdeal : Cert.MergeOutRefIdeal.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3)
      ∧ r.2.mem ((c.tc : Thread Cert.MergeOutRefIdeal.nD Cert.MergeOutRefIdeal.τ).loc Cert.MergeOutRefIdeal.main_arg4) = m ((c.tc : Thread Cert.MergeOutRefIdeal.nD Cert.MergeOutRefIdeal.τ).loc Cert.MergeOutRefIdeal.main_arg4)
      ∧ r.2.mem ((c.tc : Thread Cert.MergeOutRefIdeal.nD Cert.MergeOutRefIdeal.τ).loc Cert.MergeOutRefIdeal.main_arg5) = m ((c.tc : Thread Cert.MergeOutRefIdeal.nD Cert.MergeOutRefIdeal.τ).loc Cert.MergeOutRefIdeal.main_arg5)
      ∧ r.2.mem ((c.tc : Thread Cert.MergeOutRefIdeal.nD Cert.MergeOutRefIdeal.τ).loc Cert.MergeOutRefIdeal.main_arg6) = m ((c.tc : Thread Cert.MergeOutRefIdeal.nD Cert.MergeOutRefIdeal.τ).loc Cert.MergeOutRefIdeal.main_arg6)
      ∧ r.2.mem ((c.tc : Thread Cert.MergeOutRefIdeal.nD Cert.MergeOutRefIdeal.τ).loc Cert.MergeOutRefIdeal.main_arg7) = m ((c.tc : Thread Cert.MergeOutRefIdeal.nD Cert.MergeOutRefIdeal.τ).loc Cert.MergeOutRefIdeal.main_arg7)
      ∧ r.2.mem ((c.tc : Thread Cert.MergeOutRefIdeal.nD Cert.MergeOutRefIdeal.τ).loc Cert.MergeOutRefIdeal.main_arg8) = m ((c.tc : Thread Cert.MergeOutRefIdeal.nD Cert.MergeOutRefIdeal.τ).loc Cert.MergeOutRefIdeal.main_arg8)
      ∧ r.2.mem ((c.tc : Thread Cert.MergeOutRefIdeal.nD Cert.MergeOutRefIdeal.τ).loc Cert.MergeOutRefIdeal.main_arg9) = m ((c.tc : Thread Cert.MergeOutRefIdeal.nD Cert.MergeOutRefIdeal.τ).loc Cert.MergeOutRefIdeal.main_arg9))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5)
      ∧ r.2.mem ((c.tc : Thread Cert.FfnDown.nD Cert.FfnDown.τ).loc Cert.FfnDown.main_arg6) = m ((c.tc : Thread Cert.FfnDown.nD Cert.FfnDown.τ).loc Cert.FfnDown.main_arg6))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
      ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5)
      ∧ r.2.mem ((c.tc : Thread Cert.FfnLoss.nD Cert.FfnLoss.τ).loc Cert.FfnLoss.main_arg6) = m ((c.tc : Thread Cert.FfnLoss.nD Cert.FfnLoss.τ).loc Cert.FfnLoss.main_arg6))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5)
      ∧ r.2.mem ((c.tc : Thread Cert.FfnLossRefIdeal.nD Cert.FfnLossRefIdeal.τ).loc Cert.FfnLossRefIdeal.main_arg6) = m ((c.tc : Thread Cert.FfnLossRefIdeal.nD Cert.FfnLossRefIdeal.τ).loc Cert.FfnLossRefIdeal.main_arg6))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamNarrow [hAdamNarrow : Cert.AdamNarrow.Facts] : Prop :=
  ∀ (m : (ℓ : Loc Cert.AdamNarrow.nD Cert.AdamNarrow.τ Cert.AdamNarrow.sig) → Buf (Elt Bits) ℓ) (g : Dev Cert.AdamNarrow.nD → PrngReg), Pre_AdamNarrow m →
    θ_run (Cert.AdamNarrow.defs (F := Bits)) (onTc (τ := Cert.AdamNarrow.τ) (Cert.AdamNarrow.main (F := Bits))) ⟨m, fun _ => 0, g⟩ (fun r => (∀ c : Dev Cert.AdamNarrow.nD,
      r.2.mem ((c.tc : Thread Cert.AdamNarrow.nD Cert.AdamNarrow.τ).loc Cert.AdamNarrow.main_arg0) = m ((c.tc : Thread Cert.AdamNarrow.nD Cert.AdamNarrow.τ).loc Cert.AdamNarrow.main_arg0)
      ∧ r.2.mem ((c.tc : Thread Cert.AdamNarrow.nD Cert.AdamNarrow.τ).loc Cert.AdamNarrow.main_arg1) = m ((c.tc : Thread Cert.AdamNarrow.nD Cert.AdamNarrow.τ).loc Cert.AdamNarrow.main_arg1)
      ∧ r.2.mem ((c.tc : Thread Cert.AdamNarrow.nD Cert.AdamNarrow.τ).loc Cert.AdamNarrow.main_arg2) = m ((c.tc : Thread Cert.AdamNarrow.nD Cert.AdamNarrow.τ).loc Cert.AdamNarrow.main_arg2)
      ∧ r.2.mem ((c.tc : Thread Cert.AdamNarrow.nD Cert.AdamNarrow.τ).loc Cert.AdamNarrow.main_arg3) = m ((c.tc : Thread Cert.AdamNarrow.nD Cert.AdamNarrow.τ).loc Cert.AdamNarrow.main_arg3)
      ∧ r.2.mem ((c.tc : Thread Cert.AdamNarrow.nD Cert.AdamNarrow.τ).loc Cert.AdamNarrow.main_arg4) = m ((c.tc : Thread Cert.AdamNarrow.nD Cert.AdamNarrow.τ).loc Cert.AdamNarrow.main_arg4))
      ∧ r.2.sem = fun _ => 0)

def quiescent_AdamNarrowIdeal [hAdamNarrowIdeal : Cert.AdamNarrowIdeal.Facts] : Prop :=
  ∀ (m : (ℓ : Loc Cert.AdamNarrowIdeal.nD Cert.AdamNarrowIdeal.τ Cert.AdamNarrowIdeal.sig) → Buf (Elt Ideal) ℓ) (g : Dev Cert.AdamNarrowIdeal.nD → PrngReg), Pre_AdamNarrowIdeal m →
    θ_run (Cert.AdamNarrowIdeal.defs (F := Ideal)) (onTc (τ := Cert.AdamNarrowIdeal.τ) (Cert.AdamNarrowIdeal.main (F := Ideal))) ⟨m, fun _ => 0, g⟩ (fun r => (∀ c : Dev Cert.AdamNarrowIdeal.nD,
      r.2.mem ((c.tc : Thread Cert.AdamNarrowIdeal.nD Cert.AdamNarrowIdeal.τ).loc Cert.AdamNarrowIdeal.main_arg0) = m ((c.tc : Thread Cert.AdamNarrowIdeal.nD Cert.AdamNarrowIdeal.τ).loc Cert.AdamNarrowIdeal.main_arg0)
      ∧ r.2.mem ((c.tc : Thread Cert.AdamNarrowIdeal.nD Cert.AdamNarrowIdeal.τ).loc Cert.AdamNarrowIdeal.main_arg1) = m ((c.tc : Thread Cert.AdamNarrowIdeal.nD Cert.AdamNarrowIdeal.τ).loc Cert.AdamNarrowIdeal.main_arg1)
      ∧ r.2.mem ((c.tc : Thread Cert.AdamNarrowIdeal.nD Cert.AdamNarrowIdeal.τ).loc Cert.AdamNarrowIdeal.main_arg2) = m ((c.tc : Thread Cert.AdamNarrowIdeal.nD Cert.AdamNarrowIdeal.τ).loc Cert.AdamNarrowIdeal.main_arg2)
      ∧ r.2.mem ((c.tc : Thread Cert.AdamNarrowIdeal.nD Cert.AdamNarrowIdeal.τ).loc Cert.AdamNarrowIdeal.main_arg3) = m ((c.tc : Thread Cert.AdamNarrowIdeal.nD Cert.AdamNarrowIdeal.τ).loc Cert.AdamNarrowIdeal.main_arg3)
      ∧ r.2.mem ((c.tc : Thread Cert.AdamNarrowIdeal.nD Cert.AdamNarrowIdeal.τ).loc Cert.AdamNarrowIdeal.main_arg4) = m ((c.tc : Thread Cert.AdamNarrowIdeal.nD Cert.AdamNarrowIdeal.τ).loc Cert.AdamNarrowIdeal.main_arg4))
      ∧ r.2.sem = fun _ => 0)

def quiescent_AdamNarrowRefIdeal [hAdamNarrowRefIdeal : Cert.AdamNarrowRefIdeal.Facts] : Prop :=
  ∀ (m : (ℓ : Loc Cert.AdamNarrowRefIdeal.nD Cert.AdamNarrowRefIdeal.τ Cert.AdamNarrowRefIdeal.sig) → Buf (Elt Ideal) ℓ) (g : Dev Cert.AdamNarrowRefIdeal.nD → PrngReg), Pre_AdamNarrowRefIdeal m →
    θ_run (Cert.AdamNarrowRefIdeal.defs (F := Ideal)) (onTc (τ := Cert.AdamNarrowRefIdeal.τ) (Cert.AdamNarrowRefIdeal.main (F := Ideal))) ⟨m, fun _ => 0, g⟩ (fun r => (∀ c : Dev Cert.AdamNarrowRefIdeal.nD,
      r.2.mem ((c.tc : Thread Cert.AdamNarrowRefIdeal.nD Cert.AdamNarrowRefIdeal.τ).loc Cert.AdamNarrowRefIdeal.main_arg0) = m ((c.tc : Thread Cert.AdamNarrowRefIdeal.nD Cert.AdamNarrowRefIdeal.τ).loc Cert.AdamNarrowRefIdeal.main_arg0)
      ∧ r.2.mem ((c.tc : Thread Cert.AdamNarrowRefIdeal.nD Cert.AdamNarrowRefIdeal.τ).loc Cert.AdamNarrowRefIdeal.main_arg1) = m ((c.tc : Thread Cert.AdamNarrowRefIdeal.nD Cert.AdamNarrowRefIdeal.τ).loc Cert.AdamNarrowRefIdeal.main_arg1)
      ∧ r.2.mem ((c.tc : Thread Cert.AdamNarrowRefIdeal.nD Cert.AdamNarrowRefIdeal.τ).loc Cert.AdamNarrowRefIdeal.main_arg2) = m ((c.tc : Thread Cert.AdamNarrowRefIdeal.nD Cert.AdamNarrowRefIdeal.τ).loc Cert.AdamNarrowRefIdeal.main_arg2)
      ∧ r.2.mem ((c.tc : Thread Cert.AdamNarrowRefIdeal.nD Cert.AdamNarrowRefIdeal.τ).loc Cert.AdamNarrowRefIdeal.main_arg3) = m ((c.tc : Thread Cert.AdamNarrowRefIdeal.nD Cert.AdamNarrowRefIdeal.τ).loc Cert.AdamNarrowRefIdeal.main_arg3)
      ∧ r.2.mem ((c.tc : Thread Cert.AdamNarrowRefIdeal.nD Cert.AdamNarrowRefIdeal.τ).loc Cert.AdamNarrowRefIdeal.main_arg4) = m ((c.tc : Thread Cert.AdamNarrowRefIdeal.nD Cert.AdamNarrowRefIdeal.τ).loc Cert.AdamNarrowRefIdeal.main_arg4))
      ∧ r.2.sem = fun _ => 0)

def quiescent_AdamMiddle [hAdamMiddle : Cert.AdamMiddle.Facts] : Prop :=
  ∀ (m : (ℓ : Loc Cert.AdamMiddle.nD Cert.AdamMiddle.τ Cert.AdamMiddle.sig) → Buf (Elt Bits) ℓ) (g : Dev Cert.AdamMiddle.nD → PrngReg), Pre_AdamMiddle m →
    θ_run (Cert.AdamMiddle.defs (F := Bits)) (onTc (τ := Cert.AdamMiddle.τ) (Cert.AdamMiddle.main (F := Bits))) ⟨m, fun _ => 0, g⟩ (fun r => (∀ c : Dev Cert.AdamMiddle.nD,
      r.2.mem ((c.tc : Thread Cert.AdamMiddle.nD Cert.AdamMiddle.τ).loc Cert.AdamMiddle.main_arg0) = m ((c.tc : Thread Cert.AdamMiddle.nD Cert.AdamMiddle.τ).loc Cert.AdamMiddle.main_arg0)
      ∧ r.2.mem ((c.tc : Thread Cert.AdamMiddle.nD Cert.AdamMiddle.τ).loc Cert.AdamMiddle.main_arg1) = m ((c.tc : Thread Cert.AdamMiddle.nD Cert.AdamMiddle.τ).loc Cert.AdamMiddle.main_arg1)
      ∧ r.2.mem ((c.tc : Thread Cert.AdamMiddle.nD Cert.AdamMiddle.τ).loc Cert.AdamMiddle.main_arg2) = m ((c.tc : Thread Cert.AdamMiddle.nD Cert.AdamMiddle.τ).loc Cert.AdamMiddle.main_arg2)
      ∧ r.2.mem ((c.tc : Thread Cert.AdamMiddle.nD Cert.AdamMiddle.τ).loc Cert.AdamMiddle.main_arg3) = m ((c.tc : Thread Cert.AdamMiddle.nD Cert.AdamMiddle.τ).loc Cert.AdamMiddle.main_arg3)
      ∧ r.2.mem ((c.tc : Thread Cert.AdamMiddle.nD Cert.AdamMiddle.τ).loc Cert.AdamMiddle.main_arg4) = m ((c.tc : Thread Cert.AdamMiddle.nD Cert.AdamMiddle.τ).loc Cert.AdamMiddle.main_arg4))
      ∧ r.2.sem = fun _ => 0)

def quiescent_AdamMiddleIdeal [hAdamMiddleIdeal : Cert.AdamMiddleIdeal.Facts] : Prop :=
  ∀ (m : (ℓ : Loc Cert.AdamMiddleIdeal.nD Cert.AdamMiddleIdeal.τ Cert.AdamMiddleIdeal.sig) → Buf (Elt Ideal) ℓ) (g : Dev Cert.AdamMiddleIdeal.nD → PrngReg), Pre_AdamMiddleIdeal m →
    θ_run (Cert.AdamMiddleIdeal.defs (F := Ideal)) (onTc (τ := Cert.AdamMiddleIdeal.τ) (Cert.AdamMiddleIdeal.main (F := Ideal))) ⟨m, fun _ => 0, g⟩ (fun r => (∀ c : Dev Cert.AdamMiddleIdeal.nD,
      r.2.mem ((c.tc : Thread Cert.AdamMiddleIdeal.nD Cert.AdamMiddleIdeal.τ).loc Cert.AdamMiddleIdeal.main_arg0) = m ((c.tc : Thread Cert.AdamMiddleIdeal.nD Cert.AdamMiddleIdeal.τ).loc Cert.AdamMiddleIdeal.main_arg0)
      ∧ r.2.mem ((c.tc : Thread Cert.AdamMiddleIdeal.nD Cert.AdamMiddleIdeal.τ).loc Cert.AdamMiddleIdeal.main_arg1) = m ((c.tc : Thread Cert.AdamMiddleIdeal.nD Cert.AdamMiddleIdeal.τ).loc Cert.AdamMiddleIdeal.main_arg1)
      ∧ r.2.mem ((c.tc : Thread Cert.AdamMiddleIdeal.nD Cert.AdamMiddleIdeal.τ).loc Cert.AdamMiddleIdeal.main_arg2) = m ((c.tc : Thread Cert.AdamMiddleIdeal.nD Cert.AdamMiddleIdeal.τ).loc Cert.AdamMiddleIdeal.main_arg2)
      ∧ r.2.mem ((c.tc : Thread Cert.AdamMiddleIdeal.nD Cert.AdamMiddleIdeal.τ).loc Cert.AdamMiddleIdeal.main_arg3) = m ((c.tc : Thread Cert.AdamMiddleIdeal.nD Cert.AdamMiddleIdeal.τ).loc Cert.AdamMiddleIdeal.main_arg3)
      ∧ r.2.mem ((c.tc : Thread Cert.AdamMiddleIdeal.nD Cert.AdamMiddleIdeal.τ).loc Cert.AdamMiddleIdeal.main_arg4) = m ((c.tc : Thread Cert.AdamMiddleIdeal.nD Cert.AdamMiddleIdeal.τ).loc Cert.AdamMiddleIdeal.main_arg4))
      ∧ r.2.sem = fun _ => 0)

def quiescent_AdamMiddleRefIdeal [hAdamMiddleRefIdeal : Cert.AdamMiddleRefIdeal.Facts] : Prop :=
  ∀ (m : (ℓ : Loc Cert.AdamMiddleRefIdeal.nD Cert.AdamMiddleRefIdeal.τ Cert.AdamMiddleRefIdeal.sig) → Buf (Elt Ideal) ℓ) (g : Dev Cert.AdamMiddleRefIdeal.nD → PrngReg), Pre_AdamMiddleRefIdeal m →
    θ_run (Cert.AdamMiddleRefIdeal.defs (F := Ideal)) (onTc (τ := Cert.AdamMiddleRefIdeal.τ) (Cert.AdamMiddleRefIdeal.main (F := Ideal))) ⟨m, fun _ => 0, g⟩ (fun r => (∀ c : Dev Cert.AdamMiddleRefIdeal.nD,
      r.2.mem ((c.tc : Thread Cert.AdamMiddleRefIdeal.nD Cert.AdamMiddleRefIdeal.τ).loc Cert.AdamMiddleRefIdeal.main_arg0) = m ((c.tc : Thread Cert.AdamMiddleRefIdeal.nD Cert.AdamMiddleRefIdeal.τ).loc Cert.AdamMiddleRefIdeal.main_arg0)
      ∧ r.2.mem ((c.tc : Thread Cert.AdamMiddleRefIdeal.nD Cert.AdamMiddleRefIdeal.τ).loc Cert.AdamMiddleRefIdeal.main_arg1) = m ((c.tc : Thread Cert.AdamMiddleRefIdeal.nD Cert.AdamMiddleRefIdeal.τ).loc Cert.AdamMiddleRefIdeal.main_arg1)
      ∧ r.2.mem ((c.tc : Thread Cert.AdamMiddleRefIdeal.nD Cert.AdamMiddleRefIdeal.τ).loc Cert.AdamMiddleRefIdeal.main_arg2) = m ((c.tc : Thread Cert.AdamMiddleRefIdeal.nD Cert.AdamMiddleRefIdeal.τ).loc Cert.AdamMiddleRefIdeal.main_arg2)
      ∧ r.2.mem ((c.tc : Thread Cert.AdamMiddleRefIdeal.nD Cert.AdamMiddleRefIdeal.τ).loc Cert.AdamMiddleRefIdeal.main_arg3) = m ((c.tc : Thread Cert.AdamMiddleRefIdeal.nD Cert.AdamMiddleRefIdeal.τ).loc Cert.AdamMiddleRefIdeal.main_arg3)
      ∧ r.2.mem ((c.tc : Thread Cert.AdamMiddleRefIdeal.nD Cert.AdamMiddleRefIdeal.τ).loc Cert.AdamMiddleRefIdeal.main_arg4) = m ((c.tc : Thread Cert.AdamMiddleRefIdeal.nD Cert.AdamMiddleRefIdeal.τ).loc Cert.AdamMiddleRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_SmallLate [hSmallLate : Cert.SmallLate.Facts] : Prop :=
  ∀ (m : (ℓ : Loc Cert.SmallLate.nD Cert.SmallLate.τ Cert.SmallLate.sig) → Buf (Elt Bits) ℓ) (g : Dev Cert.SmallLate.nD → PrngReg), Pre_SmallLate m →
    θ_run (Cert.SmallLate.defs (F := Bits)) (onTc (τ := Cert.SmallLate.τ) (Cert.SmallLate.main (F := Bits))) ⟨m, fun _ => 0, g⟩ (fun r => (∀ c : Dev Cert.SmallLate.nD,
      r.2.mem ((c.tc : Thread Cert.SmallLate.nD Cert.SmallLate.τ).loc Cert.SmallLate.main_arg0) = m ((c.tc : Thread Cert.SmallLate.nD Cert.SmallLate.τ).loc Cert.SmallLate.main_arg0)
      ∧ r.2.mem ((c.tc : Thread Cert.SmallLate.nD Cert.SmallLate.τ).loc Cert.SmallLate.main_arg1) = m ((c.tc : Thread Cert.SmallLate.nD Cert.SmallLate.τ).loc Cert.SmallLate.main_arg1)
      ∧ r.2.mem ((c.tc : Thread Cert.SmallLate.nD Cert.SmallLate.τ).loc Cert.SmallLate.main_arg2) = m ((c.tc : Thread Cert.SmallLate.nD Cert.SmallLate.τ).loc Cert.SmallLate.main_arg2)
      ∧ r.2.mem ((c.tc : Thread Cert.SmallLate.nD Cert.SmallLate.τ).loc Cert.SmallLate.main_arg3) = m ((c.tc : Thread Cert.SmallLate.nD Cert.SmallLate.τ).loc Cert.SmallLate.main_arg3)
      ∧ r.2.mem ((c.tc : Thread Cert.SmallLate.nD Cert.SmallLate.τ).loc Cert.SmallLate.main_arg4) = m ((c.tc : Thread Cert.SmallLate.nD Cert.SmallLate.τ).loc Cert.SmallLate.main_arg4)
      ∧ r.2.mem ((c.tc : Thread Cert.SmallLate.nD Cert.SmallLate.τ).loc Cert.SmallLate.main_arg5) = m ((c.tc : Thread Cert.SmallLate.nD Cert.SmallLate.τ).loc Cert.SmallLate.main_arg5)
      ∧ r.2.mem ((c.tc : Thread Cert.SmallLate.nD Cert.SmallLate.τ).loc Cert.SmallLate.main_arg6) = m ((c.tc : Thread Cert.SmallLate.nD Cert.SmallLate.τ).loc Cert.SmallLate.main_arg6)
      ∧ r.2.mem ((c.tc : Thread Cert.SmallLate.nD Cert.SmallLate.τ).loc Cert.SmallLate.main_arg7) = m ((c.tc : Thread Cert.SmallLate.nD Cert.SmallLate.τ).loc Cert.SmallLate.main_arg7))
      ∧ r.2.sem = fun _ => 0)

def quiescent_SmallLateIdeal [hSmallLateIdeal : Cert.SmallLateIdeal.Facts] : Prop :=
  ∀ (m : (ℓ : Loc Cert.SmallLateIdeal.nD Cert.SmallLateIdeal.τ Cert.SmallLateIdeal.sig) → Buf (Elt Ideal) ℓ) (g : Dev Cert.SmallLateIdeal.nD → PrngReg), Pre_SmallLateIdeal m →
    θ_run (Cert.SmallLateIdeal.defs (F := Ideal)) (onTc (τ := Cert.SmallLateIdeal.τ) (Cert.SmallLateIdeal.main (F := Ideal))) ⟨m, fun _ => 0, g⟩ (fun r => (∀ c : Dev Cert.SmallLateIdeal.nD,
      r.2.mem ((c.tc : Thread Cert.SmallLateIdeal.nD Cert.SmallLateIdeal.τ).loc Cert.SmallLateIdeal.main_arg0) = m ((c.tc : Thread Cert.SmallLateIdeal.nD Cert.SmallLateIdeal.τ).loc Cert.SmallLateIdeal.main_arg0)
      ∧ r.2.mem ((c.tc : Thread Cert.SmallLateIdeal.nD Cert.SmallLateIdeal.τ).loc Cert.SmallLateIdeal.main_arg1) = m ((c.tc : Thread Cert.SmallLateIdeal.nD Cert.SmallLateIdeal.τ).loc Cert.SmallLateIdeal.main_arg1)
      ∧ r.2.mem ((c.tc : Thread Cert.SmallLateIdeal.nD Cert.SmallLateIdeal.τ).loc Cert.SmallLateIdeal.main_arg2) = m ((c.tc : Thread Cert.SmallLateIdeal.nD Cert.SmallLateIdeal.τ).loc Cert.SmallLateIdeal.main_arg2)
      ∧ r.2.mem ((c.tc : Thread Cert.SmallLateIdeal.nD Cert.SmallLateIdeal.τ).loc Cert.SmallLateIdeal.main_arg3) = m ((c.tc : Thread Cert.SmallLateIdeal.nD Cert.SmallLateIdeal.τ).loc Cert.SmallLateIdeal.main_arg3)
      ∧ r.2.mem ((c.tc : Thread Cert.SmallLateIdeal.nD Cert.SmallLateIdeal.τ).loc Cert.SmallLateIdeal.main_arg4) = m ((c.tc : Thread Cert.SmallLateIdeal.nD Cert.SmallLateIdeal.τ).loc Cert.SmallLateIdeal.main_arg4)
      ∧ r.2.mem ((c.tc : Thread Cert.SmallLateIdeal.nD Cert.SmallLateIdeal.τ).loc Cert.SmallLateIdeal.main_arg5) = m ((c.tc : Thread Cert.SmallLateIdeal.nD Cert.SmallLateIdeal.τ).loc Cert.SmallLateIdeal.main_arg5)
      ∧ r.2.mem ((c.tc : Thread Cert.SmallLateIdeal.nD Cert.SmallLateIdeal.τ).loc Cert.SmallLateIdeal.main_arg6) = m ((c.tc : Thread Cert.SmallLateIdeal.nD Cert.SmallLateIdeal.τ).loc Cert.SmallLateIdeal.main_arg6)
      ∧ r.2.mem ((c.tc : Thread Cert.SmallLateIdeal.nD Cert.SmallLateIdeal.τ).loc Cert.SmallLateIdeal.main_arg7) = m ((c.tc : Thread Cert.SmallLateIdeal.nD Cert.SmallLateIdeal.τ).loc Cert.SmallLateIdeal.main_arg7))
      ∧ r.2.sem = fun _ => 0)

def quiescent_SmallLateRefIdeal [hSmallLateRefIdeal : Cert.SmallLateRefIdeal.Facts] : Prop :=
  ∀ (m : (ℓ : Loc Cert.SmallLateRefIdeal.nD Cert.SmallLateRefIdeal.τ Cert.SmallLateRefIdeal.sig) → Buf (Elt Ideal) ℓ) (g : Dev Cert.SmallLateRefIdeal.nD → PrngReg), Pre_SmallLateRefIdeal m →
    θ_run (Cert.SmallLateRefIdeal.defs (F := Ideal)) (onTc (τ := Cert.SmallLateRefIdeal.τ) (Cert.SmallLateRefIdeal.main (F := Ideal))) ⟨m, fun _ => 0, g⟩ (fun r => (∀ c : Dev Cert.SmallLateRefIdeal.nD,
      r.2.mem ((c.tc : Thread Cert.SmallLateRefIdeal.nD Cert.SmallLateRefIdeal.τ).loc Cert.SmallLateRefIdeal.main_arg0) = m ((c.tc : Thread Cert.SmallLateRefIdeal.nD Cert.SmallLateRefIdeal.τ).loc Cert.SmallLateRefIdeal.main_arg0)
      ∧ r.2.mem ((c.tc : Thread Cert.SmallLateRefIdeal.nD Cert.SmallLateRefIdeal.τ).loc Cert.SmallLateRefIdeal.main_arg1) = m ((c.tc : Thread Cert.SmallLateRefIdeal.nD Cert.SmallLateRefIdeal.τ).loc Cert.SmallLateRefIdeal.main_arg1)
      ∧ r.2.mem ((c.tc : Thread Cert.SmallLateRefIdeal.nD Cert.SmallLateRefIdeal.τ).loc Cert.SmallLateRefIdeal.main_arg2) = m ((c.tc : Thread Cert.SmallLateRefIdeal.nD Cert.SmallLateRefIdeal.τ).loc Cert.SmallLateRefIdeal.main_arg2)
      ∧ r.2.mem ((c.tc : Thread Cert.SmallLateRefIdeal.nD Cert.SmallLateRefIdeal.τ).loc Cert.SmallLateRefIdeal.main_arg3) = m ((c.tc : Thread Cert.SmallLateRefIdeal.nD Cert.SmallLateRefIdeal.τ).loc Cert.SmallLateRefIdeal.main_arg3)
      ∧ r.2.mem ((c.tc : Thread Cert.SmallLateRefIdeal.nD Cert.SmallLateRefIdeal.τ).loc Cert.SmallLateRefIdeal.main_arg4) = m ((c.tc : Thread Cert.SmallLateRefIdeal.nD Cert.SmallLateRefIdeal.τ).loc Cert.SmallLateRefIdeal.main_arg4)
      ∧ r.2.mem ((c.tc : Thread Cert.SmallLateRefIdeal.nD Cert.SmallLateRefIdeal.τ).loc Cert.SmallLateRefIdeal.main_arg5) = m ((c.tc : Thread Cert.SmallLateRefIdeal.nD Cert.SmallLateRefIdeal.τ).loc Cert.SmallLateRefIdeal.main_arg5)
      ∧ r.2.mem ((c.tc : Thread Cert.SmallLateRefIdeal.nD Cert.SmallLateRefIdeal.τ).loc Cert.SmallLateRefIdeal.main_arg6) = m ((c.tc : Thread Cert.SmallLateRefIdeal.nD Cert.SmallLateRefIdeal.τ).loc Cert.SmallLateRefIdeal.main_arg6)
      ∧ r.2.mem ((c.tc : Thread Cert.SmallLateRefIdeal.nD Cert.SmallLateRefIdeal.τ).loc Cert.SmallLateRefIdeal.main_arg7) = m ((c.tc : Thread Cert.SmallLateRefIdeal.nD Cert.SmallLateRefIdeal.τ).loc Cert.SmallLateRefIdeal.main_arg7))
      ∧ r.2.sem = fun _ => 0)

def quiescent_SmallEarly [hSmallEarly : Cert.SmallEarly.Facts] : Prop :=
  ∀ (m : (ℓ : Loc Cert.SmallEarly.nD Cert.SmallEarly.τ Cert.SmallEarly.sig) → Buf (Elt Bits) ℓ) (g : Dev Cert.SmallEarly.nD → PrngReg), Pre_SmallEarly m →
    θ_run (Cert.SmallEarly.defs (F := Bits)) (onTc (τ := Cert.SmallEarly.τ) (Cert.SmallEarly.main (F := Bits))) ⟨m, fun _ => 0, g⟩ (fun r => (∀ c : Dev Cert.SmallEarly.nD,
      r.2.mem ((c.tc : Thread Cert.SmallEarly.nD Cert.SmallEarly.τ).loc Cert.SmallEarly.main_arg0) = m ((c.tc : Thread Cert.SmallEarly.nD Cert.SmallEarly.τ).loc Cert.SmallEarly.main_arg0)
      ∧ r.2.mem ((c.tc : Thread Cert.SmallEarly.nD Cert.SmallEarly.τ).loc Cert.SmallEarly.main_arg1) = m ((c.tc : Thread Cert.SmallEarly.nD Cert.SmallEarly.τ).loc Cert.SmallEarly.main_arg1)
      ∧ r.2.mem ((c.tc : Thread Cert.SmallEarly.nD Cert.SmallEarly.τ).loc Cert.SmallEarly.main_arg2) = m ((c.tc : Thread Cert.SmallEarly.nD Cert.SmallEarly.τ).loc Cert.SmallEarly.main_arg2)
      ∧ r.2.mem ((c.tc : Thread Cert.SmallEarly.nD Cert.SmallEarly.τ).loc Cert.SmallEarly.main_arg3) = m ((c.tc : Thread Cert.SmallEarly.nD Cert.SmallEarly.τ).loc Cert.SmallEarly.main_arg3)
      ∧ r.2.mem ((c.tc : Thread Cert.SmallEarly.nD Cert.SmallEarly.τ).loc Cert.SmallEarly.main_arg4) = m ((c.tc : Thread Cert.SmallEarly.nD Cert.SmallEarly.τ).loc Cert.SmallEarly.main_arg4)
      ∧ r.2.mem ((c.tc : Thread Cert.SmallEarly.nD Cert.SmallEarly.τ).loc Cert.SmallEarly.main_arg5) = m ((c.tc : Thread Cert.SmallEarly.nD Cert.SmallEarly.τ).loc Cert.SmallEarly.main_arg5)
      ∧ r.2.mem ((c.tc : Thread Cert.SmallEarly.nD Cert.SmallEarly.τ).loc Cert.SmallEarly.main_arg6) = m ((c.tc : Thread Cert.SmallEarly.nD Cert.SmallEarly.τ).loc Cert.SmallEarly.main_arg6)
      ∧ r.2.mem ((c.tc : Thread Cert.SmallEarly.nD Cert.SmallEarly.τ).loc Cert.SmallEarly.main_arg7) = m ((c.tc : Thread Cert.SmallEarly.nD Cert.SmallEarly.τ).loc Cert.SmallEarly.main_arg7)
      ∧ r.2.mem ((c.tc : Thread Cert.SmallEarly.nD Cert.SmallEarly.τ).loc Cert.SmallEarly.main_arg8) = m ((c.tc : Thread Cert.SmallEarly.nD Cert.SmallEarly.τ).loc Cert.SmallEarly.main_arg8)
      ∧ r.2.mem ((c.tc : Thread Cert.SmallEarly.nD Cert.SmallEarly.τ).loc Cert.SmallEarly.main_arg9) = m ((c.tc : Thread Cert.SmallEarly.nD Cert.SmallEarly.τ).loc Cert.SmallEarly.main_arg9)
      ∧ r.2.mem ((c.tc : Thread Cert.SmallEarly.nD Cert.SmallEarly.τ).loc Cert.SmallEarly.main_arg10) = m ((c.tc : Thread Cert.SmallEarly.nD Cert.SmallEarly.τ).loc Cert.SmallEarly.main_arg10)
      ∧ r.2.mem ((c.tc : Thread Cert.SmallEarly.nD Cert.SmallEarly.τ).loc Cert.SmallEarly.main_arg11) = m ((c.tc : Thread Cert.SmallEarly.nD Cert.SmallEarly.τ).loc Cert.SmallEarly.main_arg11)
      ∧ r.2.mem ((c.tc : Thread Cert.SmallEarly.nD Cert.SmallEarly.τ).loc Cert.SmallEarly.main_arg12) = m ((c.tc : Thread Cert.SmallEarly.nD Cert.SmallEarly.τ).loc Cert.SmallEarly.main_arg12)
      ∧ r.2.mem ((c.tc : Thread Cert.SmallEarly.nD Cert.SmallEarly.τ).loc Cert.SmallEarly.main_arg13) = m ((c.tc : Thread Cert.SmallEarly.nD Cert.SmallEarly.τ).loc Cert.SmallEarly.main_arg13)
      ∧ r.2.mem ((c.tc : Thread Cert.SmallEarly.nD Cert.SmallEarly.τ).loc Cert.SmallEarly.main_arg14) = m ((c.tc : Thread Cert.SmallEarly.nD Cert.SmallEarly.τ).loc Cert.SmallEarly.main_arg14)
      ∧ r.2.mem ((c.tc : Thread Cert.SmallEarly.nD Cert.SmallEarly.τ).loc Cert.SmallEarly.main_arg15) = m ((c.tc : Thread Cert.SmallEarly.nD Cert.SmallEarly.τ).loc Cert.SmallEarly.main_arg15)
      ∧ r.2.mem ((c.tc : Thread Cert.SmallEarly.nD Cert.SmallEarly.τ).loc Cert.SmallEarly.main_arg16) = m ((c.tc : Thread Cert.SmallEarly.nD Cert.SmallEarly.τ).loc Cert.SmallEarly.main_arg16)
      ∧ r.2.mem ((c.tc : Thread Cert.SmallEarly.nD Cert.SmallEarly.τ).loc Cert.SmallEarly.main_arg17) = m ((c.tc : Thread Cert.SmallEarly.nD Cert.SmallEarly.τ).loc Cert.SmallEarly.main_arg17)
      ∧ r.2.mem ((c.tc : Thread Cert.SmallEarly.nD Cert.SmallEarly.τ).loc Cert.SmallEarly.main_arg18) = m ((c.tc : Thread Cert.SmallEarly.nD Cert.SmallEarly.τ).loc Cert.SmallEarly.main_arg18)
      ∧ r.2.mem ((c.tc : Thread Cert.SmallEarly.nD Cert.SmallEarly.τ).loc Cert.SmallEarly.main_arg19) = m ((c.tc : Thread Cert.SmallEarly.nD Cert.SmallEarly.τ).loc Cert.SmallEarly.main_arg19)
      ∧ r.2.mem ((c.tc : Thread Cert.SmallEarly.nD Cert.SmallEarly.τ).loc Cert.SmallEarly.main_arg20) = m ((c.tc : Thread Cert.SmallEarly.nD Cert.SmallEarly.τ).loc Cert.SmallEarly.main_arg20)
      ∧ r.2.mem ((c.tc : Thread Cert.SmallEarly.nD Cert.SmallEarly.τ).loc Cert.SmallEarly.main_arg21) = m ((c.tc : Thread Cert.SmallEarly.nD Cert.SmallEarly.τ).loc Cert.SmallEarly.main_arg21)
      ∧ r.2.mem ((c.tc : Thread Cert.SmallEarly.nD Cert.SmallEarly.τ).loc Cert.SmallEarly.main_arg22) = m ((c.tc : Thread Cert.SmallEarly.nD Cert.SmallEarly.τ).loc Cert.SmallEarly.main_arg22)
      ∧ r.2.mem ((c.tc : Thread Cert.SmallEarly.nD Cert.SmallEarly.τ).loc Cert.SmallEarly.main_arg23) = m ((c.tc : Thread Cert.SmallEarly.nD Cert.SmallEarly.τ).loc Cert.SmallEarly.main_arg23)
      ∧ r.2.mem ((c.tc : Thread Cert.SmallEarly.nD Cert.SmallEarly.τ).loc Cert.SmallEarly.main_arg24) = m ((c.tc : Thread Cert.SmallEarly.nD Cert.SmallEarly.τ).loc Cert.SmallEarly.main_arg24)
      ∧ r.2.mem ((c.tc : Thread Cert.SmallEarly.nD Cert.SmallEarly.τ).loc Cert.SmallEarly.main_arg25) = m ((c.tc : Thread Cert.SmallEarly.nD Cert.SmallEarly.τ).loc Cert.SmallEarly.main_arg25)
      ∧ r.2.mem ((c.tc : Thread Cert.SmallEarly.nD Cert.SmallEarly.τ).loc Cert.SmallEarly.main_arg26) = m ((c.tc : Thread Cert.SmallEarly.nD Cert.SmallEarly.τ).loc Cert.SmallEarly.main_arg26)
      ∧ r.2.mem ((c.tc : Thread Cert.SmallEarly.nD Cert.SmallEarly.τ).loc Cert.SmallEarly.main_arg27) = m ((c.tc : Thread Cert.SmallEarly.nD Cert.SmallEarly.τ).loc Cert.SmallEarly.main_arg27)
      ∧ r.2.mem ((c.tc : Thread Cert.SmallEarly.nD Cert.SmallEarly.τ).loc Cert.SmallEarly.main_arg28) = m ((c.tc : Thread Cert.SmallEarly.nD Cert.SmallEarly.τ).loc Cert.SmallEarly.main_arg28)
      ∧ r.2.mem ((c.tc : Thread Cert.SmallEarly.nD Cert.SmallEarly.τ).loc Cert.SmallEarly.main_arg29) = m ((c.tc : Thread Cert.SmallEarly.nD Cert.SmallEarly.τ).loc Cert.SmallEarly.main_arg29)
      ∧ r.2.mem ((c.tc : Thread Cert.SmallEarly.nD Cert.SmallEarly.τ).loc Cert.SmallEarly.main_arg30) = m ((c.tc : Thread Cert.SmallEarly.nD Cert.SmallEarly.τ).loc Cert.SmallEarly.main_arg30)
      ∧ r.2.mem ((c.tc : Thread Cert.SmallEarly.nD Cert.SmallEarly.τ).loc Cert.SmallEarly.main_arg31) = m ((c.tc : Thread Cert.SmallEarly.nD Cert.SmallEarly.τ).loc Cert.SmallEarly.main_arg31)
      ∧ r.2.mem ((c.tc : Thread Cert.SmallEarly.nD Cert.SmallEarly.τ).loc Cert.SmallEarly.main_arg32) = m ((c.tc : Thread Cert.SmallEarly.nD Cert.SmallEarly.τ).loc Cert.SmallEarly.main_arg32)
      ∧ r.2.mem ((c.tc : Thread Cert.SmallEarly.nD Cert.SmallEarly.τ).loc Cert.SmallEarly.main_arg33) = m ((c.tc : Thread Cert.SmallEarly.nD Cert.SmallEarly.τ).loc Cert.SmallEarly.main_arg33)
      ∧ r.2.mem ((c.tc : Thread Cert.SmallEarly.nD Cert.SmallEarly.τ).loc Cert.SmallEarly.main_arg34) = m ((c.tc : Thread Cert.SmallEarly.nD Cert.SmallEarly.τ).loc Cert.SmallEarly.main_arg34)
      ∧ r.2.mem ((c.tc : Thread Cert.SmallEarly.nD Cert.SmallEarly.τ).loc Cert.SmallEarly.main_arg35) = m ((c.tc : Thread Cert.SmallEarly.nD Cert.SmallEarly.τ).loc Cert.SmallEarly.main_arg35))
      ∧ r.2.sem = fun _ => 0)

def quiescent_SmallEarlyIdeal [hSmallEarlyIdeal : Cert.SmallEarlyIdeal.Facts] : Prop :=
  ∀ (m : (ℓ : Loc Cert.SmallEarlyIdeal.nD Cert.SmallEarlyIdeal.τ Cert.SmallEarlyIdeal.sig) → Buf (Elt Ideal) ℓ) (g : Dev Cert.SmallEarlyIdeal.nD → PrngReg), Pre_SmallEarlyIdeal m →
    θ_run (Cert.SmallEarlyIdeal.defs (F := Ideal)) (onTc (τ := Cert.SmallEarlyIdeal.τ) (Cert.SmallEarlyIdeal.main (F := Ideal))) ⟨m, fun _ => 0, g⟩ (fun r => (∀ c : Dev Cert.SmallEarlyIdeal.nD,
      r.2.mem ((c.tc : Thread Cert.SmallEarlyIdeal.nD Cert.SmallEarlyIdeal.τ).loc Cert.SmallEarlyIdeal.main_arg0) = m ((c.tc : Thread Cert.SmallEarlyIdeal.nD Cert.SmallEarlyIdeal.τ).loc Cert.SmallEarlyIdeal.main_arg0)
      ∧ r.2.mem ((c.tc : Thread Cert.SmallEarlyIdeal.nD Cert.SmallEarlyIdeal.τ).loc Cert.SmallEarlyIdeal.main_arg1) = m ((c.tc : Thread Cert.SmallEarlyIdeal.nD Cert.SmallEarlyIdeal.τ).loc Cert.SmallEarlyIdeal.main_arg1)
      ∧ r.2.mem ((c.tc : Thread Cert.SmallEarlyIdeal.nD Cert.SmallEarlyIdeal.τ).loc Cert.SmallEarlyIdeal.main_arg2) = m ((c.tc : Thread Cert.SmallEarlyIdeal.nD Cert.SmallEarlyIdeal.τ).loc Cert.SmallEarlyIdeal.main_arg2)
      ∧ r.2.mem ((c.tc : Thread Cert.SmallEarlyIdeal.nD Cert.SmallEarlyIdeal.τ).loc Cert.SmallEarlyIdeal.main_arg3) = m ((c.tc : Thread Cert.SmallEarlyIdeal.nD Cert.SmallEarlyIdeal.τ).loc Cert.SmallEarlyIdeal.main_arg3)
      ∧ r.2.mem ((c.tc : Thread Cert.SmallEarlyIdeal.nD Cert.SmallEarlyIdeal.τ).loc Cert.SmallEarlyIdeal.main_arg4) = m ((c.tc : Thread Cert.SmallEarlyIdeal.nD Cert.SmallEarlyIdeal.τ).loc Cert.SmallEarlyIdeal.main_arg4)
      ∧ r.2.mem ((c.tc : Thread Cert.SmallEarlyIdeal.nD Cert.SmallEarlyIdeal.τ).loc Cert.SmallEarlyIdeal.main_arg5) = m ((c.tc : Thread Cert.SmallEarlyIdeal.nD Cert.SmallEarlyIdeal.τ).loc Cert.SmallEarlyIdeal.main_arg5)
      ∧ r.2.mem ((c.tc : Thread Cert.SmallEarlyIdeal.nD Cert.SmallEarlyIdeal.τ).loc Cert.SmallEarlyIdeal.main_arg6) = m ((c.tc : Thread Cert.SmallEarlyIdeal.nD Cert.SmallEarlyIdeal.τ).loc Cert.SmallEarlyIdeal.main_arg6)
      ∧ r.2.mem ((c.tc : Thread Cert.SmallEarlyIdeal.nD Cert.SmallEarlyIdeal.τ).loc Cert.SmallEarlyIdeal.main_arg7) = m ((c.tc : Thread Cert.SmallEarlyIdeal.nD Cert.SmallEarlyIdeal.τ).loc Cert.SmallEarlyIdeal.main_arg7)
      ∧ r.2.mem ((c.tc : Thread Cert.SmallEarlyIdeal.nD Cert.SmallEarlyIdeal.τ).loc Cert.SmallEarlyIdeal.main_arg8) = m ((c.tc : Thread Cert.SmallEarlyIdeal.nD Cert.SmallEarlyIdeal.τ).loc Cert.SmallEarlyIdeal.main_arg8)
      ∧ r.2.mem ((c.tc : Thread Cert.SmallEarlyIdeal.nD Cert.SmallEarlyIdeal.τ).loc Cert.SmallEarlyIdeal.main_arg9) = m ((c.tc : Thread Cert.SmallEarlyIdeal.nD Cert.SmallEarlyIdeal.τ).loc Cert.SmallEarlyIdeal.main_arg9)
      ∧ r.2.mem ((c.tc : Thread Cert.SmallEarlyIdeal.nD Cert.SmallEarlyIdeal.τ).loc Cert.SmallEarlyIdeal.main_arg10) = m ((c.tc : Thread Cert.SmallEarlyIdeal.nD Cert.SmallEarlyIdeal.τ).loc Cert.SmallEarlyIdeal.main_arg10)
      ∧ r.2.mem ((c.tc : Thread Cert.SmallEarlyIdeal.nD Cert.SmallEarlyIdeal.τ).loc Cert.SmallEarlyIdeal.main_arg11) = m ((c.tc : Thread Cert.SmallEarlyIdeal.nD Cert.SmallEarlyIdeal.τ).loc Cert.SmallEarlyIdeal.main_arg11)
      ∧ r.2.mem ((c.tc : Thread Cert.SmallEarlyIdeal.nD Cert.SmallEarlyIdeal.τ).loc Cert.SmallEarlyIdeal.main_arg12) = m ((c.tc : Thread Cert.SmallEarlyIdeal.nD Cert.SmallEarlyIdeal.τ).loc Cert.SmallEarlyIdeal.main_arg12)
      ∧ r.2.mem ((c.tc : Thread Cert.SmallEarlyIdeal.nD Cert.SmallEarlyIdeal.τ).loc Cert.SmallEarlyIdeal.main_arg13) = m ((c.tc : Thread Cert.SmallEarlyIdeal.nD Cert.SmallEarlyIdeal.τ).loc Cert.SmallEarlyIdeal.main_arg13)
      ∧ r.2.mem ((c.tc : Thread Cert.SmallEarlyIdeal.nD Cert.SmallEarlyIdeal.τ).loc Cert.SmallEarlyIdeal.main_arg14) = m ((c.tc : Thread Cert.SmallEarlyIdeal.nD Cert.SmallEarlyIdeal.τ).loc Cert.SmallEarlyIdeal.main_arg14)
      ∧ r.2.mem ((c.tc : Thread Cert.SmallEarlyIdeal.nD Cert.SmallEarlyIdeal.τ).loc Cert.SmallEarlyIdeal.main_arg15) = m ((c.tc : Thread Cert.SmallEarlyIdeal.nD Cert.SmallEarlyIdeal.τ).loc Cert.SmallEarlyIdeal.main_arg15)
      ∧ r.2.mem ((c.tc : Thread Cert.SmallEarlyIdeal.nD Cert.SmallEarlyIdeal.τ).loc Cert.SmallEarlyIdeal.main_arg16) = m ((c.tc : Thread Cert.SmallEarlyIdeal.nD Cert.SmallEarlyIdeal.τ).loc Cert.SmallEarlyIdeal.main_arg16)
      ∧ r.2.mem ((c.tc : Thread Cert.SmallEarlyIdeal.nD Cert.SmallEarlyIdeal.τ).loc Cert.SmallEarlyIdeal.main_arg17) = m ((c.tc : Thread Cert.SmallEarlyIdeal.nD Cert.SmallEarlyIdeal.τ).loc Cert.SmallEarlyIdeal.main_arg17)
      ∧ r.2.mem ((c.tc : Thread Cert.SmallEarlyIdeal.nD Cert.SmallEarlyIdeal.τ).loc Cert.SmallEarlyIdeal.main_arg18) = m ((c.tc : Thread Cert.SmallEarlyIdeal.nD Cert.SmallEarlyIdeal.τ).loc Cert.SmallEarlyIdeal.main_arg18)
      ∧ r.2.mem ((c.tc : Thread Cert.SmallEarlyIdeal.nD Cert.SmallEarlyIdeal.τ).loc Cert.SmallEarlyIdeal.main_arg19) = m ((c.tc : Thread Cert.SmallEarlyIdeal.nD Cert.SmallEarlyIdeal.τ).loc Cert.SmallEarlyIdeal.main_arg19)
      ∧ r.2.mem ((c.tc : Thread Cert.SmallEarlyIdeal.nD Cert.SmallEarlyIdeal.τ).loc Cert.SmallEarlyIdeal.main_arg20) = m ((c.tc : Thread Cert.SmallEarlyIdeal.nD Cert.SmallEarlyIdeal.τ).loc Cert.SmallEarlyIdeal.main_arg20)
      ∧ r.2.mem ((c.tc : Thread Cert.SmallEarlyIdeal.nD Cert.SmallEarlyIdeal.τ).loc Cert.SmallEarlyIdeal.main_arg21) = m ((c.tc : Thread Cert.SmallEarlyIdeal.nD Cert.SmallEarlyIdeal.τ).loc Cert.SmallEarlyIdeal.main_arg21)
      ∧ r.2.mem ((c.tc : Thread Cert.SmallEarlyIdeal.nD Cert.SmallEarlyIdeal.τ).loc Cert.SmallEarlyIdeal.main_arg22) = m ((c.tc : Thread Cert.SmallEarlyIdeal.nD Cert.SmallEarlyIdeal.τ).loc Cert.SmallEarlyIdeal.main_arg22)
      ∧ r.2.mem ((c.tc : Thread Cert.SmallEarlyIdeal.nD Cert.SmallEarlyIdeal.τ).loc Cert.SmallEarlyIdeal.main_arg23) = m ((c.tc : Thread Cert.SmallEarlyIdeal.nD Cert.SmallEarlyIdeal.τ).loc Cert.SmallEarlyIdeal.main_arg23)
      ∧ r.2.mem ((c.tc : Thread Cert.SmallEarlyIdeal.nD Cert.SmallEarlyIdeal.τ).loc Cert.SmallEarlyIdeal.main_arg24) = m ((c.tc : Thread Cert.SmallEarlyIdeal.nD Cert.SmallEarlyIdeal.τ).loc Cert.SmallEarlyIdeal.main_arg24)
      ∧ r.2.mem ((c.tc : Thread Cert.SmallEarlyIdeal.nD Cert.SmallEarlyIdeal.τ).loc Cert.SmallEarlyIdeal.main_arg25) = m ((c.tc : Thread Cert.SmallEarlyIdeal.nD Cert.SmallEarlyIdeal.τ).loc Cert.SmallEarlyIdeal.main_arg25)
      ∧ r.2.mem ((c.tc : Thread Cert.SmallEarlyIdeal.nD Cert.SmallEarlyIdeal.τ).loc Cert.SmallEarlyIdeal.main_arg26) = m ((c.tc : Thread Cert.SmallEarlyIdeal.nD Cert.SmallEarlyIdeal.τ).loc Cert.SmallEarlyIdeal.main_arg26)
      ∧ r.2.mem ((c.tc : Thread Cert.SmallEarlyIdeal.nD Cert.SmallEarlyIdeal.τ).loc Cert.SmallEarlyIdeal.main_arg27) = m ((c.tc : Thread Cert.SmallEarlyIdeal.nD Cert.SmallEarlyIdeal.τ).loc Cert.SmallEarlyIdeal.main_arg27)
      ∧ r.2.mem ((c.tc : Thread Cert.SmallEarlyIdeal.nD Cert.SmallEarlyIdeal.τ).loc Cert.SmallEarlyIdeal.main_arg28) = m ((c.tc : Thread Cert.SmallEarlyIdeal.nD Cert.SmallEarlyIdeal.τ).loc Cert.SmallEarlyIdeal.main_arg28)
      ∧ r.2.mem ((c.tc : Thread Cert.SmallEarlyIdeal.nD Cert.SmallEarlyIdeal.τ).loc Cert.SmallEarlyIdeal.main_arg29) = m ((c.tc : Thread Cert.SmallEarlyIdeal.nD Cert.SmallEarlyIdeal.τ).loc Cert.SmallEarlyIdeal.main_arg29)
      ∧ r.2.mem ((c.tc : Thread Cert.SmallEarlyIdeal.nD Cert.SmallEarlyIdeal.τ).loc Cert.SmallEarlyIdeal.main_arg30) = m ((c.tc : Thread Cert.SmallEarlyIdeal.nD Cert.SmallEarlyIdeal.τ).loc Cert.SmallEarlyIdeal.main_arg30)
      ∧ r.2.mem ((c.tc : Thread Cert.SmallEarlyIdeal.nD Cert.SmallEarlyIdeal.τ).loc Cert.SmallEarlyIdeal.main_arg31) = m ((c.tc : Thread Cert.SmallEarlyIdeal.nD Cert.SmallEarlyIdeal.τ).loc Cert.SmallEarlyIdeal.main_arg31)
      ∧ r.2.mem ((c.tc : Thread Cert.SmallEarlyIdeal.nD Cert.SmallEarlyIdeal.τ).loc Cert.SmallEarlyIdeal.main_arg32) = m ((c.tc : Thread Cert.SmallEarlyIdeal.nD Cert.SmallEarlyIdeal.τ).loc Cert.SmallEarlyIdeal.main_arg32)
      ∧ r.2.mem ((c.tc : Thread Cert.SmallEarlyIdeal.nD Cert.SmallEarlyIdeal.τ).loc Cert.SmallEarlyIdeal.main_arg33) = m ((c.tc : Thread Cert.SmallEarlyIdeal.nD Cert.SmallEarlyIdeal.τ).loc Cert.SmallEarlyIdeal.main_arg33)
      ∧ r.2.mem ((c.tc : Thread Cert.SmallEarlyIdeal.nD Cert.SmallEarlyIdeal.τ).loc Cert.SmallEarlyIdeal.main_arg34) = m ((c.tc : Thread Cert.SmallEarlyIdeal.nD Cert.SmallEarlyIdeal.τ).loc Cert.SmallEarlyIdeal.main_arg34)
      ∧ r.2.mem ((c.tc : Thread Cert.SmallEarlyIdeal.nD Cert.SmallEarlyIdeal.τ).loc Cert.SmallEarlyIdeal.main_arg35) = m ((c.tc : Thread Cert.SmallEarlyIdeal.nD Cert.SmallEarlyIdeal.τ).loc Cert.SmallEarlyIdeal.main_arg35))
      ∧ r.2.sem = fun _ => 0)

def quiescent_SmallEarlyRefIdeal [hSmallEarlyRefIdeal : Cert.SmallEarlyRefIdeal.Facts] : Prop :=
  ∀ (m : (ℓ : Loc Cert.SmallEarlyRefIdeal.nD Cert.SmallEarlyRefIdeal.τ Cert.SmallEarlyRefIdeal.sig) → Buf (Elt Ideal) ℓ) (g : Dev Cert.SmallEarlyRefIdeal.nD → PrngReg), Pre_SmallEarlyRefIdeal m →
    θ_run (Cert.SmallEarlyRefIdeal.defs (F := Ideal)) (onTc (τ := Cert.SmallEarlyRefIdeal.τ) (Cert.SmallEarlyRefIdeal.main (F := Ideal))) ⟨m, fun _ => 0, g⟩ (fun r => (∀ c : Dev Cert.SmallEarlyRefIdeal.nD,
      r.2.mem ((c.tc : Thread Cert.SmallEarlyRefIdeal.nD Cert.SmallEarlyRefIdeal.τ).loc Cert.SmallEarlyRefIdeal.main_arg0) = m ((c.tc : Thread Cert.SmallEarlyRefIdeal.nD Cert.SmallEarlyRefIdeal.τ).loc Cert.SmallEarlyRefIdeal.main_arg0)
      ∧ r.2.mem ((c.tc : Thread Cert.SmallEarlyRefIdeal.nD Cert.SmallEarlyRefIdeal.τ).loc Cert.SmallEarlyRefIdeal.main_arg1) = m ((c.tc : Thread Cert.SmallEarlyRefIdeal.nD Cert.SmallEarlyRefIdeal.τ).loc Cert.SmallEarlyRefIdeal.main_arg1)
      ∧ r.2.mem ((c.tc : Thread Cert.SmallEarlyRefIdeal.nD Cert.SmallEarlyRefIdeal.τ).loc Cert.SmallEarlyRefIdeal.main_arg2) = m ((c.tc : Thread Cert.SmallEarlyRefIdeal.nD Cert.SmallEarlyRefIdeal.τ).loc Cert.SmallEarlyRefIdeal.main_arg2)
      ∧ r.2.mem ((c.tc : Thread Cert.SmallEarlyRefIdeal.nD Cert.SmallEarlyRefIdeal.τ).loc Cert.SmallEarlyRefIdeal.main_arg3) = m ((c.tc : Thread Cert.SmallEarlyRefIdeal.nD Cert.SmallEarlyRefIdeal.τ).loc Cert.SmallEarlyRefIdeal.main_arg3)
      ∧ r.2.mem ((c.tc : Thread Cert.SmallEarlyRefIdeal.nD Cert.SmallEarlyRefIdeal.τ).loc Cert.SmallEarlyRefIdeal.main_arg4) = m ((c.tc : Thread Cert.SmallEarlyRefIdeal.nD Cert.SmallEarlyRefIdeal.τ).loc Cert.SmallEarlyRefIdeal.main_arg4)
      ∧ r.2.mem ((c.tc : Thread Cert.SmallEarlyRefIdeal.nD Cert.SmallEarlyRefIdeal.τ).loc Cert.SmallEarlyRefIdeal.main_arg5) = m ((c.tc : Thread Cert.SmallEarlyRefIdeal.nD Cert.SmallEarlyRefIdeal.τ).loc Cert.SmallEarlyRefIdeal.main_arg5)
      ∧ r.2.mem ((c.tc : Thread Cert.SmallEarlyRefIdeal.nD Cert.SmallEarlyRefIdeal.τ).loc Cert.SmallEarlyRefIdeal.main_arg6) = m ((c.tc : Thread Cert.SmallEarlyRefIdeal.nD Cert.SmallEarlyRefIdeal.τ).loc Cert.SmallEarlyRefIdeal.main_arg6)
      ∧ r.2.mem ((c.tc : Thread Cert.SmallEarlyRefIdeal.nD Cert.SmallEarlyRefIdeal.τ).loc Cert.SmallEarlyRefIdeal.main_arg7) = m ((c.tc : Thread Cert.SmallEarlyRefIdeal.nD Cert.SmallEarlyRefIdeal.τ).loc Cert.SmallEarlyRefIdeal.main_arg7)
      ∧ r.2.mem ((c.tc : Thread Cert.SmallEarlyRefIdeal.nD Cert.SmallEarlyRefIdeal.τ).loc Cert.SmallEarlyRefIdeal.main_arg8) = m ((c.tc : Thread Cert.SmallEarlyRefIdeal.nD Cert.SmallEarlyRefIdeal.τ).loc Cert.SmallEarlyRefIdeal.main_arg8)
      ∧ r.2.mem ((c.tc : Thread Cert.SmallEarlyRefIdeal.nD Cert.SmallEarlyRefIdeal.τ).loc Cert.SmallEarlyRefIdeal.main_arg9) = m ((c.tc : Thread Cert.SmallEarlyRefIdeal.nD Cert.SmallEarlyRefIdeal.τ).loc Cert.SmallEarlyRefIdeal.main_arg9)
      ∧ r.2.mem ((c.tc : Thread Cert.SmallEarlyRefIdeal.nD Cert.SmallEarlyRefIdeal.τ).loc Cert.SmallEarlyRefIdeal.main_arg10) = m ((c.tc : Thread Cert.SmallEarlyRefIdeal.nD Cert.SmallEarlyRefIdeal.τ).loc Cert.SmallEarlyRefIdeal.main_arg10)
      ∧ r.2.mem ((c.tc : Thread Cert.SmallEarlyRefIdeal.nD Cert.SmallEarlyRefIdeal.τ).loc Cert.SmallEarlyRefIdeal.main_arg11) = m ((c.tc : Thread Cert.SmallEarlyRefIdeal.nD Cert.SmallEarlyRefIdeal.τ).loc Cert.SmallEarlyRefIdeal.main_arg11)
      ∧ r.2.mem ((c.tc : Thread Cert.SmallEarlyRefIdeal.nD Cert.SmallEarlyRefIdeal.τ).loc Cert.SmallEarlyRefIdeal.main_arg12) = m ((c.tc : Thread Cert.SmallEarlyRefIdeal.nD Cert.SmallEarlyRefIdeal.τ).loc Cert.SmallEarlyRefIdeal.main_arg12)
      ∧ r.2.mem ((c.tc : Thread Cert.SmallEarlyRefIdeal.nD Cert.SmallEarlyRefIdeal.τ).loc Cert.SmallEarlyRefIdeal.main_arg13) = m ((c.tc : Thread Cert.SmallEarlyRefIdeal.nD Cert.SmallEarlyRefIdeal.τ).loc Cert.SmallEarlyRefIdeal.main_arg13)
      ∧ r.2.mem ((c.tc : Thread Cert.SmallEarlyRefIdeal.nD Cert.SmallEarlyRefIdeal.τ).loc Cert.SmallEarlyRefIdeal.main_arg14) = m ((c.tc : Thread Cert.SmallEarlyRefIdeal.nD Cert.SmallEarlyRefIdeal.τ).loc Cert.SmallEarlyRefIdeal.main_arg14)
      ∧ r.2.mem ((c.tc : Thread Cert.SmallEarlyRefIdeal.nD Cert.SmallEarlyRefIdeal.τ).loc Cert.SmallEarlyRefIdeal.main_arg15) = m ((c.tc : Thread Cert.SmallEarlyRefIdeal.nD Cert.SmallEarlyRefIdeal.τ).loc Cert.SmallEarlyRefIdeal.main_arg15)
      ∧ r.2.mem ((c.tc : Thread Cert.SmallEarlyRefIdeal.nD Cert.SmallEarlyRefIdeal.τ).loc Cert.SmallEarlyRefIdeal.main_arg16) = m ((c.tc : Thread Cert.SmallEarlyRefIdeal.nD Cert.SmallEarlyRefIdeal.τ).loc Cert.SmallEarlyRefIdeal.main_arg16)
      ∧ r.2.mem ((c.tc : Thread Cert.SmallEarlyRefIdeal.nD Cert.SmallEarlyRefIdeal.τ).loc Cert.SmallEarlyRefIdeal.main_arg17) = m ((c.tc : Thread Cert.SmallEarlyRefIdeal.nD Cert.SmallEarlyRefIdeal.τ).loc Cert.SmallEarlyRefIdeal.main_arg17)
      ∧ r.2.mem ((c.tc : Thread Cert.SmallEarlyRefIdeal.nD Cert.SmallEarlyRefIdeal.τ).loc Cert.SmallEarlyRefIdeal.main_arg18) = m ((c.tc : Thread Cert.SmallEarlyRefIdeal.nD Cert.SmallEarlyRefIdeal.τ).loc Cert.SmallEarlyRefIdeal.main_arg18)
      ∧ r.2.mem ((c.tc : Thread Cert.SmallEarlyRefIdeal.nD Cert.SmallEarlyRefIdeal.τ).loc Cert.SmallEarlyRefIdeal.main_arg19) = m ((c.tc : Thread Cert.SmallEarlyRefIdeal.nD Cert.SmallEarlyRefIdeal.τ).loc Cert.SmallEarlyRefIdeal.main_arg19)
      ∧ r.2.mem ((c.tc : Thread Cert.SmallEarlyRefIdeal.nD Cert.SmallEarlyRefIdeal.τ).loc Cert.SmallEarlyRefIdeal.main_arg20) = m ((c.tc : Thread Cert.SmallEarlyRefIdeal.nD Cert.SmallEarlyRefIdeal.τ).loc Cert.SmallEarlyRefIdeal.main_arg20)
      ∧ r.2.mem ((c.tc : Thread Cert.SmallEarlyRefIdeal.nD Cert.SmallEarlyRefIdeal.τ).loc Cert.SmallEarlyRefIdeal.main_arg21) = m ((c.tc : Thread Cert.SmallEarlyRefIdeal.nD Cert.SmallEarlyRefIdeal.τ).loc Cert.SmallEarlyRefIdeal.main_arg21)
      ∧ r.2.mem ((c.tc : Thread Cert.SmallEarlyRefIdeal.nD Cert.SmallEarlyRefIdeal.τ).loc Cert.SmallEarlyRefIdeal.main_arg22) = m ((c.tc : Thread Cert.SmallEarlyRefIdeal.nD Cert.SmallEarlyRefIdeal.τ).loc Cert.SmallEarlyRefIdeal.main_arg22)
      ∧ r.2.mem ((c.tc : Thread Cert.SmallEarlyRefIdeal.nD Cert.SmallEarlyRefIdeal.τ).loc Cert.SmallEarlyRefIdeal.main_arg23) = m ((c.tc : Thread Cert.SmallEarlyRefIdeal.nD Cert.SmallEarlyRefIdeal.τ).loc Cert.SmallEarlyRefIdeal.main_arg23)
      ∧ r.2.mem ((c.tc : Thread Cert.SmallEarlyRefIdeal.nD Cert.SmallEarlyRefIdeal.τ).loc Cert.SmallEarlyRefIdeal.main_arg24) = m ((c.tc : Thread Cert.SmallEarlyRefIdeal.nD Cert.SmallEarlyRefIdeal.τ).loc Cert.SmallEarlyRefIdeal.main_arg24)
      ∧ r.2.mem ((c.tc : Thread Cert.SmallEarlyRefIdeal.nD Cert.SmallEarlyRefIdeal.τ).loc Cert.SmallEarlyRefIdeal.main_arg25) = m ((c.tc : Thread Cert.SmallEarlyRefIdeal.nD Cert.SmallEarlyRefIdeal.τ).loc Cert.SmallEarlyRefIdeal.main_arg25)
      ∧ r.2.mem ((c.tc : Thread Cert.SmallEarlyRefIdeal.nD Cert.SmallEarlyRefIdeal.τ).loc Cert.SmallEarlyRefIdeal.main_arg26) = m ((c.tc : Thread Cert.SmallEarlyRefIdeal.nD Cert.SmallEarlyRefIdeal.τ).loc Cert.SmallEarlyRefIdeal.main_arg26)
      ∧ r.2.mem ((c.tc : Thread Cert.SmallEarlyRefIdeal.nD Cert.SmallEarlyRefIdeal.τ).loc Cert.SmallEarlyRefIdeal.main_arg27) = m ((c.tc : Thread Cert.SmallEarlyRefIdeal.nD Cert.SmallEarlyRefIdeal.τ).loc Cert.SmallEarlyRefIdeal.main_arg27)
      ∧ r.2.mem ((c.tc : Thread Cert.SmallEarlyRefIdeal.nD Cert.SmallEarlyRefIdeal.τ).loc Cert.SmallEarlyRefIdeal.main_arg28) = m ((c.tc : Thread Cert.SmallEarlyRefIdeal.nD Cert.SmallEarlyRefIdeal.τ).loc Cert.SmallEarlyRefIdeal.main_arg28)
      ∧ r.2.mem ((c.tc : Thread Cert.SmallEarlyRefIdeal.nD Cert.SmallEarlyRefIdeal.τ).loc Cert.SmallEarlyRefIdeal.main_arg29) = m ((c.tc : Thread Cert.SmallEarlyRefIdeal.nD Cert.SmallEarlyRefIdeal.τ).loc Cert.SmallEarlyRefIdeal.main_arg29)
      ∧ r.2.mem ((c.tc : Thread Cert.SmallEarlyRefIdeal.nD Cert.SmallEarlyRefIdeal.τ).loc Cert.SmallEarlyRefIdeal.main_arg30) = m ((c.tc : Thread Cert.SmallEarlyRefIdeal.nD Cert.SmallEarlyRefIdeal.τ).loc Cert.SmallEarlyRefIdeal.main_arg30)
      ∧ r.2.mem ((c.tc : Thread Cert.SmallEarlyRefIdeal.nD Cert.SmallEarlyRefIdeal.τ).loc Cert.SmallEarlyRefIdeal.main_arg31) = m ((c.tc : Thread Cert.SmallEarlyRefIdeal.nD Cert.SmallEarlyRefIdeal.τ).loc Cert.SmallEarlyRefIdeal.main_arg31)
      ∧ r.2.mem ((c.tc : Thread Cert.SmallEarlyRefIdeal.nD Cert.SmallEarlyRefIdeal.τ).loc Cert.SmallEarlyRefIdeal.main_arg32) = m ((c.tc : Thread Cert.SmallEarlyRefIdeal.nD Cert.SmallEarlyRefIdeal.τ).loc Cert.SmallEarlyRefIdeal.main_arg32)
      ∧ r.2.mem ((c.tc : Thread Cert.SmallEarlyRefIdeal.nD Cert.SmallEarlyRefIdeal.τ).loc Cert.SmallEarlyRefIdeal.main_arg33) = m ((c.tc : Thread Cert.SmallEarlyRefIdeal.nD Cert.SmallEarlyRefIdeal.τ).loc Cert.SmallEarlyRefIdeal.main_arg33)
      ∧ r.2.mem ((c.tc : Thread Cert.SmallEarlyRefIdeal.nD Cert.SmallEarlyRefIdeal.τ).loc Cert.SmallEarlyRefIdeal.main_arg34) = m ((c.tc : Thread Cert.SmallEarlyRefIdeal.nD Cert.SmallEarlyRefIdeal.τ).loc Cert.SmallEarlyRefIdeal.main_arg34)
      ∧ r.2.mem ((c.tc : Thread Cert.SmallEarlyRefIdeal.nD Cert.SmallEarlyRefIdeal.τ).loc Cert.SmallEarlyRefIdeal.main_arg35) = m ((c.tc : Thread Cert.SmallEarlyRefIdeal.nD Cert.SmallEarlyRefIdeal.τ).loc Cert.SmallEarlyRefIdeal.main_arg35))
      ∧ r.2.sem = fun _ => 0)

def preserves_Sgu_SguIdeal : Prop :=
  IdealRules.named_const.Statement Cert.SguIdeal.κ "gelu_a" .f32 0x3D372713#32 ((8943 / 200000 : ℝ) : EReal)
  ∧ IdealRules.named_const.Statement Cert.SguIdeal.κ "gelu_3a" .f32 0x3E095D4F#32 ((26829 / 200000 : ℝ) : EReal)

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)) →
    ∃ (v0 : (c : Dev Cert.BranchIdeal.nD) → Buf (Elt Ideal) ((c.tc : Thread Cert.BranchIdeal.nD Cert.BranchIdeal.τ).loc Cert.BranchIdeal.main_v0_0)) (v1 : (c : Dev Cert.BranchIdeal.nD) → Buf (Elt Ideal) ((c.tc : Thread Cert.BranchIdeal.nD Cert.BranchIdeal.τ).loc Cert.BranchIdeal.main_v0_1)) (v2 : (c : Dev Cert.BranchIdeal.nD) → Buf (Elt Ideal) ((c.tc : Thread Cert.BranchIdeal.nD Cert.BranchIdeal.τ).loc Cert.BranchIdeal.main_v0_2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0_0) = v0 c
          ∧ r.2.mem ((c.tc : Thread Cert.BranchIdeal.nD Cert.BranchIdeal.τ).loc Cert.BranchIdeal.main_v0_1) = v1 c
          ∧ r.2.mem ((c.tc : Thread Cert.BranchIdeal.nD Cert.BranchIdeal.τ).loc Cert.BranchIdeal.main_v0_2) = v2 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v30) = v0 c
          ∧ r.2.mem ((c.tc : Thread Cert.BranchRefIdeal.nD Cert.BranchRefIdeal.τ).loc Cert.BranchRefIdeal.main_v31) = v1 c
          ∧ r.2.mem ((c.tc : Thread Cert.BranchRefIdeal.nD Cert.BranchRefIdeal.τ).loc Cert.BranchRefIdeal.main_v16) = v2 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v40) = v0 c
          ∧ r.2.mem ((c.tc : Thread Cert.UpRefIdeal.nD Cert.UpRefIdeal.τ).loc Cert.UpRefIdeal.main_v41) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v1_0)) (v1 : (c : Dev Cert.InBwdIdeal.nD) → Buf (Elt Ideal) ((c.tc : Thread Cert.InBwdIdeal.nD Cert.InBwdIdeal.τ).loc Cert.InBwdIdeal.main_v1_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v1_0) = v0 c
          ∧ r.2.mem ((c.tc : Thread Cert.InBwdIdeal.nD Cert.InBwdIdeal.τ).loc Cert.InBwdIdeal.main_v1_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v40) = v0 c
          ∧ r.2.mem ((c.tc : Thread Cert.InBwdRefIdeal.nD Cert.InBwdRefIdeal.τ).loc Cert.InBwdRefIdeal.main_v41) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)) →
    ∃ (v0 : (c : Dev Cert.DownBwdIdeal.nD) → Buf (Elt Ideal) ((c.tc : Thread Cert.DownBwdIdeal.nD Cert.DownBwdIdeal.τ).loc Cert.DownBwdIdeal.main_v0)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v3) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v3) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v5) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v6) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v5) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_NarrowW_NarrowWIdeal : Prop :=
  True

def algebraic_NarrowWIdeal_NarrowWRefIdeal [hNarrowWIdeal : Cert.NarrowWIdeal.Facts] [hNarrowWRefIdeal : Cert.NarrowWRefIdeal.Facts] : Prop :=
  ∀ (m : (ℓ : Loc Cert.NarrowWIdeal.nD Cert.NarrowWIdeal.τ Cert.NarrowWIdeal.sig) → Buf (Elt Ideal) ℓ) (g : Dev Cert.NarrowWIdeal.nD → PrngReg)
    (m' : (ℓ : Loc Cert.NarrowWRefIdeal.nD Cert.NarrowWRefIdeal.τ Cert.NarrowWRefIdeal.sig) → Buf (Elt Ideal) ℓ) (g' : Dev Cert.NarrowWRefIdeal.nD → PrngReg), Pre_NarrowWIdeal m →
    (∀ c : Dev Cert.NarrowWIdeal.nD,
      m' ((c.tc : Thread Cert.NarrowWRefIdeal.nD Cert.NarrowWRefIdeal.τ).loc Cert.NarrowWRefIdeal.main_arg0) = m ((c.tc : Thread Cert.NarrowWIdeal.nD Cert.NarrowWIdeal.τ).loc Cert.NarrowWIdeal.main_arg0)
      ∧ m' ((c.tc : Thread Cert.NarrowWRefIdeal.nD Cert.NarrowWRefIdeal.τ).loc Cert.NarrowWRefIdeal.main_arg1) = m ((c.tc : Thread Cert.NarrowWIdeal.nD Cert.NarrowWIdeal.τ).loc Cert.NarrowWIdeal.main_arg1)) →
    ∃ (v0 : (c : Dev Cert.NarrowWIdeal.nD) → Buf (Elt Ideal) ((c.tc : Thread Cert.NarrowWIdeal.nD Cert.NarrowWIdeal.τ).loc Cert.NarrowWIdeal.main_v0)),
      θ_run (Cert.NarrowWIdeal.defs (F := Ideal)) (onTc (τ := Cert.NarrowWIdeal.τ) (Cert.NarrowWIdeal.main (F := Ideal))) ⟨m, fun _ => 0, g⟩ (fun r => ∀ c : Dev Cert.NarrowWIdeal.nD,
          r.2.mem ((c.tc : Thread Cert.NarrowWIdeal.nD Cert.NarrowWIdeal.τ).loc Cert.NarrowWIdeal.main_v0) = v0 c
          ∧ r.2.mem ((c.tc : Thread Cert.NarrowWIdeal.nD Cert.NarrowWIdeal.τ).loc Cert.NarrowWIdeal.main_arg0) = m ((c.tc : Thread Cert.NarrowWIdeal.nD Cert.NarrowWIdeal.τ).loc Cert.NarrowWIdeal.main_arg0)
          ∧ r.2.mem ((c.tc : Thread Cert.NarrowWIdeal.nD Cert.NarrowWIdeal.τ).loc Cert.NarrowWIdeal.main_arg1) = m ((c.tc : Thread Cert.NarrowWIdeal.nD Cert.NarrowWIdeal.τ).loc Cert.NarrowWIdeal.main_arg1))
      ∧ θ_run (Cert.NarrowWRefIdeal.defs (F := Ideal)) (onTc (τ := Cert.NarrowWRefIdeal.τ) (Cert.NarrowWRefIdeal.main (F := Ideal))) ⟨m', fun _ => 0, g'⟩ (fun r => ∀ c : Dev Cert.NarrowWRefIdeal.nD,
          r.2.mem ((c.tc : Thread Cert.NarrowWRefIdeal.nD Cert.NarrowWRefIdeal.τ).loc Cert.NarrowWRefIdeal.main_v6) = v0 c
          ∧ r.2.mem ((c.tc : Thread Cert.NarrowWRefIdeal.nD Cert.NarrowWRefIdeal.τ).loc Cert.NarrowWRefIdeal.main_arg0) = m' ((c.tc : Thread Cert.NarrowWRefIdeal.nD Cert.NarrowWRefIdeal.τ).loc Cert.NarrowWRefIdeal.main_arg0)
          ∧ r.2.mem ((c.tc : Thread Cert.NarrowWRefIdeal.nD Cert.NarrowWRefIdeal.τ).loc Cert.NarrowWRefIdeal.main_arg1) = m' ((c.tc : Thread Cert.NarrowWRefIdeal.nD Cert.NarrowWRefIdeal.τ).loc Cert.NarrowWRefIdeal.main_arg1))

def preserves_MiddleW_MiddleWIdeal : Prop :=
  True

def algebraic_MiddleWIdeal_MiddleWRefIdeal [hMiddleWIdeal : Cert.MiddleWIdeal.Facts] [hMiddleWRefIdeal : Cert.MiddleWRefIdeal.Facts] : Prop :=
  ∀ (m : (ℓ : Loc Cert.MiddleWIdeal.nD Cert.MiddleWIdeal.τ Cert.MiddleWIdeal.sig) → Buf (Elt Ideal) ℓ) (g : Dev Cert.MiddleWIdeal.nD → PrngReg)
    (m' : (ℓ : Loc Cert.MiddleWRefIdeal.nD Cert.MiddleWRefIdeal.τ Cert.MiddleWRefIdeal.sig) → Buf (Elt Ideal) ℓ) (g' : Dev Cert.MiddleWRefIdeal.nD → PrngReg), Pre_MiddleWIdeal m →
    (∀ c : Dev Cert.MiddleWIdeal.nD,
      m' ((c.tc : Thread Cert.MiddleWRefIdeal.nD Cert.MiddleWRefIdeal.τ).loc Cert.MiddleWRefIdeal.main_arg0) = m ((c.tc : Thread Cert.MiddleWIdeal.nD Cert.MiddleWIdeal.τ).loc Cert.MiddleWIdeal.main_arg0)
      ∧ m' ((c.tc : Thread Cert.MiddleWRefIdeal.nD Cert.MiddleWRefIdeal.τ).loc Cert.MiddleWRefIdeal.main_arg1) = m ((c.tc : Thread Cert.MiddleWIdeal.nD Cert.MiddleWIdeal.τ).loc Cert.MiddleWIdeal.main_arg1)) →
    ∃ (v0 : (c : Dev Cert.MiddleWIdeal.nD) → Buf (Elt Ideal) ((c.tc : Thread Cert.MiddleWIdeal.nD Cert.MiddleWIdeal.τ).loc Cert.MiddleWIdeal.main_v0)),
      θ_run (Cert.MiddleWIdeal.defs (F := Ideal)) (onTc (τ := Cert.MiddleWIdeal.τ) (Cert.MiddleWIdeal.main (F := Ideal))) ⟨m, fun _ => 0, g⟩ (fun r => ∀ c : Dev Cert.MiddleWIdeal.nD,
          r.2.mem ((c.tc : Thread Cert.MiddleWIdeal.nD Cert.MiddleWIdeal.τ).loc Cert.MiddleWIdeal.main_v0) = v0 c
          ∧ r.2.mem ((c.tc : Thread Cert.MiddleWIdeal.nD Cert.MiddleWIdeal.τ).loc Cert.MiddleWIdeal.main_arg0) = m ((c.tc : Thread Cert.MiddleWIdeal.nD Cert.MiddleWIdeal.τ).loc Cert.MiddleWIdeal.main_arg0)
          ∧ r.2.mem ((c.tc : Thread Cert.MiddleWIdeal.nD Cert.MiddleWIdeal.τ).loc Cert.MiddleWIdeal.main_arg1) = m ((c.tc : Thread Cert.MiddleWIdeal.nD Cert.MiddleWIdeal.τ).loc Cert.MiddleWIdeal.main_arg1))
      ∧ θ_run (Cert.MiddleWRefIdeal.defs (F := Ideal)) (onTc (τ := Cert.MiddleWRefIdeal.τ) (Cert.MiddleWRefIdeal.main (F := Ideal))) ⟨m', fun _ => 0, g'⟩ (fun r => ∀ c : Dev Cert.MiddleWRefIdeal.nD,
          r.2.mem ((c.tc : Thread Cert.MiddleWRefIdeal.nD Cert.MiddleWRefIdeal.τ).loc Cert.MiddleWRefIdeal.main_v6) = v0 c
          ∧ r.2.mem ((c.tc : Thread Cert.MiddleWRefIdeal.nD Cert.MiddleWRefIdeal.τ).loc Cert.MiddleWRefIdeal.main_arg0) = m' ((c.tc : Thread Cert.MiddleWRefIdeal.nD Cert.MiddleWRefIdeal.τ).loc Cert.MiddleWRefIdeal.main_arg0)
          ∧ r.2.mem ((c.tc : Thread Cert.MiddleWRefIdeal.nD Cert.MiddleWRefIdeal.τ).loc Cert.MiddleWRefIdeal.main_arg1) = m' ((c.tc : Thread Cert.MiddleWRefIdeal.nD Cert.MiddleWRefIdeal.τ).loc Cert.MiddleWRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v6) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_UpGate_UpGateIdeal : Prop :=
  True

def algebraic_UpGateIdeal_UpGateRefIdeal [hUpGateIdeal : Cert.UpGateIdeal.Facts] [hUpGateRefIdeal : Cert.UpGateRefIdeal.Facts] : Prop :=
  ∀ (m : (ℓ : Loc Cert.UpGateIdeal.nD Cert.UpGateIdeal.τ Cert.UpGateIdeal.sig) → Buf (Elt Ideal) ℓ) (g : Dev Cert.UpGateIdeal.nD → PrngReg)
    (m' : (ℓ : Loc Cert.UpGateRefIdeal.nD Cert.UpGateRefIdeal.τ Cert.UpGateRefIdeal.sig) → Buf (Elt Ideal) ℓ) (g' : Dev Cert.UpGateRefIdeal.nD → PrngReg), Pre_UpGateIdeal m →
    (∀ c : Dev Cert.UpGateIdeal.nD,
      m' ((c.tc : Thread Cert.UpGateRefIdeal.nD Cert.UpGateRefIdeal.τ).loc Cert.UpGateRefIdeal.main_arg0) = m ((c.tc : Thread Cert.UpGateIdeal.nD Cert.UpGateIdeal.τ).loc Cert.UpGateIdeal.main_arg0)
      ∧ m' ((c.tc : Thread Cert.UpGateRefIdeal.nD Cert.UpGateRefIdeal.τ).loc Cert.UpGateRefIdeal.main_arg1) = m ((c.tc : Thread Cert.UpGateIdeal.nD Cert.UpGateIdeal.τ).loc Cert.UpGateIdeal.main_arg1)) →
    ∃ (v0 : (c : Dev Cert.UpGateIdeal.nD) → Buf (Elt Ideal) ((c.tc : Thread Cert.UpGateIdeal.nD Cert.UpGateIdeal.τ).loc Cert.UpGateIdeal.main_v0)),
      θ_run (Cert.UpGateIdeal.defs (F := Ideal)) (onTc (τ := Cert.UpGateIdeal.τ) (Cert.UpGateIdeal.main (F := Ideal))) ⟨m, fun _ => 0, g⟩ (fun r => ∀ c : Dev Cert.UpGateIdeal.nD,
          r.2.mem ((c.tc : Thread Cert.UpGateIdeal.nD Cert.UpGateIdeal.τ).loc Cert.UpGateIdeal.main_v0) = v0 c
          ∧ r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
          ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1))
      ∧ θ_run (Cert.UpGateRefIdeal.defs (F := Ideal)) (onTc (τ := Cert.UpGateRefIdeal.τ) (Cert.UpGateRefIdeal.main (F := Ideal))) ⟨m', fun _ => 0, g'⟩ (fun r => ∀ c : Dev Cert.UpGateRefIdeal.nD,
          r.2.mem ((c.tc : Thread Cert.UpGateRefIdeal.nD Cert.UpGateRefIdeal.τ).loc Cert.UpGateRefIdeal.main_v3) = v0 c
          ∧ r.2.mem ((c.tc : Thread Cert.UpGateRefIdeal.nD Cert.UpGateRefIdeal.τ).loc Cert.UpGateRefIdeal.main_arg0) = m' ((c.tc : Thread Cert.UpGateRefIdeal.nD Cert.UpGateRefIdeal.τ).loc Cert.UpGateRefIdeal.main_arg0)
          ∧ r.2.mem ((c.tc : Thread Cert.UpGateRefIdeal.nD Cert.UpGateRefIdeal.τ).loc Cert.UpGateRefIdeal.main_arg1) = m' ((c.tc : Thread Cert.UpGateRefIdeal.nD Cert.UpGateRefIdeal.τ).loc Cert.UpGateRefIdeal.main_arg1))

def preserves_UpVal_UpValIdeal : Prop :=
  True

def algebraic_UpValIdeal_UpValRefIdeal [hUpValIdeal : Cert.UpValIdeal.Facts] [hUpValRefIdeal : Cert.UpValRefIdeal.Facts] : Prop :=
  ∀ (m : (ℓ : Loc Cert.UpValIdeal.nD Cert.UpValIdeal.τ Cert.UpValIdeal.sig) → Buf (Elt Ideal) ℓ) (g : Dev Cert.UpValIdeal.nD → PrngReg)
    (m' : (ℓ : Loc Cert.UpValRefIdeal.nD Cert.UpValRefIdeal.τ Cert.UpValRefIdeal.sig) → Buf (Elt Ideal) ℓ) (g' : Dev Cert.UpValRefIdeal.nD → PrngReg), Pre_UpValIdeal m →
    (∀ c : Dev Cert.UpValIdeal.nD,
      m' ((c.tc : Thread Cert.UpValRefIdeal.nD Cert.UpValRefIdeal.τ).loc Cert.UpValRefIdeal.main_arg0) = m ((c.tc : Thread Cert.UpValIdeal.nD Cert.UpValIdeal.τ).loc Cert.UpValIdeal.main_arg0)
      ∧ m' ((c.tc : Thread Cert.UpValRefIdeal.nD Cert.UpValRefIdeal.τ).loc Cert.UpValRefIdeal.main_arg1) = m ((c.tc : Thread Cert.UpValIdeal.nD Cert.UpValIdeal.τ).loc Cert.UpValIdeal.main_arg1)) →
    ∃ (v0 : (c : Dev Cert.UpValIdeal.nD) → Buf (Elt Ideal) ((c.tc : Thread Cert.UpValIdeal.nD Cert.UpValIdeal.τ).loc Cert.UpValIdeal.main_v0)),
      θ_run (Cert.UpValIdeal.defs (F := Ideal)) (onTc (τ := Cert.UpValIdeal.τ) (Cert.UpValIdeal.main (F := Ideal))) ⟨m, fun _ => 0, g⟩ (fun r => ∀ c : Dev Cert.UpValIdeal.nD,
          r.2.mem ((c.tc : Thread Cert.UpValIdeal.nD Cert.UpValIdeal.τ).loc Cert.UpValIdeal.main_v0) = v0 c
          ∧ r.2.mem ((c.tc : Thread Cert.UpValIdeal.nD Cert.UpValIdeal.τ).loc Cert.UpValIdeal.main_arg0) = m ((c.tc : Thread Cert.UpValIdeal.nD Cert.UpValIdeal.τ).loc Cert.UpValIdeal.main_arg0)
          ∧ r.2.mem ((c.tc : Thread Cert.UpValIdeal.nD Cert.UpValIdeal.τ).loc Cert.UpValIdeal.main_arg1) = m ((c.tc : Thread Cert.UpValIdeal.nD Cert.UpValIdeal.τ).loc Cert.UpValIdeal.main_arg1))
      ∧ θ_run (Cert.UpValRefIdeal.defs (F := Ideal)) (onTc (τ := Cert.UpValRefIdeal.τ) (Cert.UpValRefIdeal.main (F := Ideal))) ⟨m', fun _ => 0, g'⟩ (fun r => ∀ c : Dev Cert.UpValRefIdeal.nD,
          r.2.mem ((c.tc : Thread Cert.UpValRefIdeal.nD Cert.UpValRefIdeal.τ).loc Cert.UpValRefIdeal.main_v3) = v0 c
          ∧ r.2.mem ((c.tc : Thread Cert.UpValRefIdeal.nD Cert.UpValRefIdeal.τ).loc Cert.UpValRefIdeal.main_arg0) = m' ((c.tc : Thread Cert.UpValRefIdeal.nD Cert.UpValRefIdeal.τ).loc Cert.UpValRefIdeal.main_arg0)
          ∧ r.2.mem ((c.tc : Thread Cert.UpValRefIdeal.nD Cert.UpValRefIdeal.τ).loc Cert.UpValRefIdeal.main_arg1) = m' ((c.tc : Thread Cert.UpValRefIdeal.nD Cert.UpValRefIdeal.τ).loc Cert.UpValRefIdeal.main_arg1))

def preserves_BranchA_BranchAIdeal : Prop :=
  True

def algebraic_BranchAIdeal_BranchARefIdeal [hBranchAIdeal : Cert.BranchAIdeal.Facts] [hBranchARefIdeal : Cert.BranchARefIdeal.Facts] : Prop :=
  ∀ (m : (ℓ : Loc Cert.BranchAIdeal.nD Cert.BranchAIdeal.τ Cert.BranchAIdeal.sig) → Buf (Elt Ideal) ℓ) (g : Dev Cert.BranchAIdeal.nD → PrngReg)
    (m' : (ℓ : Loc Cert.BranchARefIdeal.nD Cert.BranchARefIdeal.τ Cert.BranchARefIdeal.sig) → Buf (Elt Ideal) ℓ) (g' : Dev Cert.BranchARefIdeal.nD → PrngReg), Pre_BranchAIdeal m →
    (∀ c : Dev Cert.BranchAIdeal.nD,
      m' ((c.tc : Thread Cert.BranchARefIdeal.nD Cert.BranchARefIdeal.τ).loc Cert.BranchARefIdeal.main_arg0) = m ((c.tc : Thread Cert.BranchAIdeal.nD Cert.BranchAIdeal.τ).loc Cert.BranchAIdeal.main_arg0)
      ∧ m' ((c.tc : Thread Cert.BranchARefIdeal.nD Cert.BranchARefIdeal.τ).loc Cert.BranchARefIdeal.main_arg1) = m ((c.tc : Thread Cert.BranchAIdeal.nD Cert.BranchAIdeal.τ).loc Cert.BranchAIdeal.main_arg1)
      ∧ m' ((c.tc : Thread Cert.BranchARefIdeal.nD Cert.BranchARefIdeal.τ).loc Cert.BranchARefIdeal.main_arg2) = m ((c.tc : Thread Cert.BranchAIdeal.nD Cert.BranchAIdeal.τ).loc Cert.BranchAIdeal.main_arg2)
      ∧ m' ((c.tc : Thread Cert.BranchARefIdeal.nD Cert.BranchARefIdeal.τ).loc Cert.BranchARefIdeal.main_arg3) = m ((c.tc : Thread Cert.BranchAIdeal.nD Cert.BranchAIdeal.τ).loc Cert.BranchAIdeal.main_arg3)) →
    ∃ (v0 : (c : Dev Cert.BranchAIdeal.nD) → Buf (Elt Ideal) ((c.tc : Thread Cert.BranchAIdeal.nD Cert.BranchAIdeal.τ).loc Cert.BranchAIdeal.main_v1)) (v1 : (c : Dev Cert.BranchAIdeal.nD) → Buf (Elt Ideal) ((c.tc : Thread Cert.BranchAIdeal.nD Cert.BranchAIdeal.τ).loc Cert.BranchAIdeal.main_v0_1)) (v2 : (c : Dev Cert.BranchAIdeal.nD) → Buf (Elt Ideal) ((c.tc : Thread Cert.BranchAIdeal.nD Cert.BranchAIdeal.τ).loc Cert.BranchAIdeal.main_v0_2)),
      θ_run (Cert.BranchAIdeal.defs (F := Ideal)) (onTc (τ := Cert.BranchAIdeal.τ) (Cert.BranchAIdeal.main (F := Ideal))) ⟨m, fun _ => 0, g⟩ (fun r => ∀ c : Dev Cert.BranchAIdeal.nD,
          r.2.mem ((c.tc : Thread Cert.BranchAIdeal.nD Cert.BranchAIdeal.τ).loc Cert.BranchAIdeal.main_v1) = v0 c
          ∧ r.2.mem ((c.tc : Thread Cert.BranchAIdeal.nD Cert.BranchAIdeal.τ).loc Cert.BranchAIdeal.main_v0_1) = v1 c
          ∧ r.2.mem ((c.tc : Thread Cert.BranchAIdeal.nD Cert.BranchAIdeal.τ).loc Cert.BranchAIdeal.main_v0_2) = v2 c
          ∧ r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
          ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1)
          ∧ r.2.mem ((c.tc : Thread Cert.BranchAIdeal.nD Cert.BranchAIdeal.τ).loc Cert.BranchAIdeal.main_arg2) = m ((c.tc : Thread Cert.BranchAIdeal.nD Cert.BranchAIdeal.τ).loc Cert.BranchAIdeal.main_arg2)
          ∧ r.2.mem ((c.tc : Thread Cert.BranchAIdeal.nD Cert.BranchAIdeal.τ).loc Cert.BranchAIdeal.main_arg3) = m ((c.tc : Thread Cert.BranchAIdeal.nD Cert.BranchAIdeal.τ).loc Cert.BranchAIdeal.main_arg3))
      ∧ θ_run (Cert.BranchARefIdeal.defs (F := Ideal)) (onTc (τ := Cert.BranchARefIdeal.τ) (Cert.BranchARefIdeal.main (F := Ideal))) ⟨m', fun _ => 0, g'⟩ (fun r => ∀ c : Dev Cert.BranchARefIdeal.nD,
          r.2.mem ((c.tc : Thread Cert.BranchARefIdeal.nD Cert.BranchARefIdeal.τ).loc Cert.BranchARefIdeal.main_v27) = v0 c
          ∧ r.2.mem ((c.tc : Thread Cert.BranchARefIdeal.nD Cert.BranchARefIdeal.τ).loc Cert.BranchARefIdeal.main_v28) = v1 c
          ∧ r.2.mem ((c.tc : Thread Cert.BranchARefIdeal.nD Cert.BranchARefIdeal.τ).loc Cert.BranchARefIdeal.main_v16) = v2 c
          ∧ r.2.mem ((c.tc : Thread Cert.BranchARefIdeal.nD Cert.BranchARefIdeal.τ).loc Cert.BranchARefIdeal.main_arg0) = m' ((c.tc : Thread Cert.BranchARefIdeal.nD Cert.BranchARefIdeal.τ).loc Cert.BranchARefIdeal.main_arg0)
          ∧ r.2.mem ((c.tc : Thread Cert.BranchARefIdeal.nD Cert.BranchARefIdeal.τ).loc Cert.BranchARefIdeal.main_arg1) = m' ((c.tc : Thread Cert.BranchARefIdeal.nD Cert.BranchARefIdeal.τ).loc Cert.BranchARefIdeal.main_arg1)
          ∧ r.2.mem ((c.tc : Thread Cert.BranchARefIdeal.nD Cert.BranchARefIdeal.τ).loc Cert.BranchARefIdeal.main_arg2) = m' ((c.tc : Thread Cert.BranchARefIdeal.nD Cert.BranchARefIdeal.τ).loc Cert.BranchARefIdeal.main_arg2)
          ∧ r.2.mem ((c.tc : Thread Cert.BranchARefIdeal.nD Cert.BranchARefIdeal.τ).loc Cert.BranchARefIdeal.main_arg3) = m' ((c.tc : Thread Cert.BranchARefIdeal.nD Cert.BranchARefIdeal.τ).loc Cert.BranchARefIdeal.main_arg3))

def preserves_BranchC_BranchCIdeal : Prop :=
  True

def algebraic_BranchCIdeal_BranchCRefIdeal [hBranchCIdeal : Cert.BranchCIdeal.Facts] [hBranchCRefIdeal : Cert.BranchCRefIdeal.Facts] : Prop :=
  ∀ (m : (ℓ : Loc Cert.BranchCIdeal.nD Cert.BranchCIdeal.τ Cert.BranchCIdeal.sig) → Buf (Elt Ideal) ℓ) (g : Dev Cert.BranchCIdeal.nD → PrngReg)
    (m' : (ℓ : Loc Cert.BranchCRefIdeal.nD Cert.BranchCRefIdeal.τ Cert.BranchCRefIdeal.sig) → Buf (Elt Ideal) ℓ) (g' : Dev Cert.BranchCRefIdeal.nD → PrngReg), Pre_BranchCIdeal m →
    (∀ c : Dev Cert.BranchCIdeal.nD,
      m' ((c.tc : Thread Cert.BranchCRefIdeal.nD Cert.BranchCRefIdeal.τ).loc Cert.BranchCRefIdeal.main_arg0) = m ((c.tc : Thread Cert.BranchCIdeal.nD Cert.BranchCIdeal.τ).loc Cert.BranchCIdeal.main_arg0)
      ∧ m' ((c.tc : Thread Cert.BranchCRefIdeal.nD Cert.BranchCRefIdeal.τ).loc Cert.BranchCRefIdeal.main_arg1) = m ((c.tc : Thread Cert.BranchCIdeal.nD Cert.BranchCIdeal.τ).loc Cert.BranchCIdeal.main_arg1)
      ∧ m' ((c.tc : Thread Cert.BranchCRefIdeal.nD Cert.BranchCRefIdeal.τ).loc Cert.BranchCRefIdeal.main_arg2) = m ((c.tc : Thread Cert.BranchCIdeal.nD Cert.BranchCIdeal.τ).loc Cert.BranchCIdeal.main_arg2)
      ∧ m' ((c.tc : Thread Cert.BranchCRefIdeal.nD Cert.BranchCRefIdeal.τ).loc Cert.BranchCRefIdeal.main_arg3) = m ((c.tc : Thread Cert.BranchCIdeal.nD Cert.BranchCIdeal.τ).loc Cert.BranchCIdeal.main_arg3)
      ∧ m' ((c.tc : Thread Cert.BranchCRefIdeal.nD Cert.BranchCRefIdeal.τ).loc Cert.BranchCRefIdeal.main_arg4) = m ((c.tc : Thread Cert.BranchCIdeal.nD Cert.BranchCIdeal.τ).loc Cert.BranchCIdeal.main_arg4)) →
    ∃ (v0 : (c : Dev Cert.BranchCIdeal.nD) → Buf (Elt Ideal) ((c.tc : Thread Cert.BranchCIdeal.nD Cert.BranchCIdeal.τ).loc Cert.BranchCIdeal.main_v0_0)) (v1 : (c : Dev Cert.BranchCIdeal.nD) → Buf (Elt Ideal) ((c.tc : Thread Cert.BranchCIdeal.nD Cert.BranchCIdeal.τ).loc Cert.BranchCIdeal.main_v0_1)) (v2 : (c : Dev Cert.BranchCIdeal.nD) → Buf (Elt Ideal) ((c.tc : Thread Cert.BranchCIdeal.nD Cert.BranchCIdeal.τ).loc Cert.BranchCIdeal.main_v0_2)),
      θ_run (Cert.BranchCIdeal.defs (F := Ideal)) (onTc (τ := Cert.BranchCIdeal.τ) (Cert.BranchCIdeal.main (F := Ideal))) ⟨m, fun _ => 0, g⟩ (fun r => ∀ c : Dev Cert.BranchCIdeal.nD,
          r.2.mem ((c.tc : Thread Cert.BranchCIdeal.nD Cert.BranchCIdeal.τ).loc Cert.BranchCIdeal.main_v0_0) = v0 c
          ∧ r.2.mem ((c.tc : Thread Cert.BranchCIdeal.nD Cert.BranchCIdeal.τ).loc Cert.BranchCIdeal.main_v0_1) = v1 c
          ∧ r.2.mem ((c.tc : Thread Cert.BranchCIdeal.nD Cert.BranchCIdeal.τ).loc Cert.BranchCIdeal.main_v0_2) = v2 c
          ∧ r.2.mem ((c.tc : Thread Cert.BranchCIdeal.nD Cert.BranchCIdeal.τ).loc Cert.BranchCIdeal.main_arg0) = m ((c.tc : Thread Cert.BranchCIdeal.nD Cert.BranchCIdeal.τ).loc Cert.BranchCIdeal.main_arg0)
          ∧ r.2.mem ((c.tc : Thread Cert.BranchCIdeal.nD Cert.BranchCIdeal.τ).loc Cert.BranchCIdeal.main_arg1) = m ((c.tc : Thread Cert.BranchCIdeal.nD Cert.BranchCIdeal.τ).loc Cert.BranchCIdeal.main_arg1)
          ∧ r.2.mem ((c.tc : Thread Cert.BranchCIdeal.nD Cert.BranchCIdeal.τ).loc Cert.BranchCIdeal.main_arg2) = m ((c.tc : Thread Cert.BranchCIdeal.nD Cert.BranchCIdeal.τ).loc Cert.BranchCIdeal.main_arg2)
          ∧ r.2.mem ((c.tc : Thread Cert.BranchCIdeal.nD Cert.BranchCIdeal.τ).loc Cert.BranchCIdeal.main_arg3) = m ((c.tc : Thread Cert.BranchCIdeal.nD Cert.BranchCIdeal.τ).loc Cert.BranchCIdeal.main_arg3)
          ∧ r.2.mem ((c.tc : Thread Cert.BranchCIdeal.nD Cert.BranchCIdeal.τ).loc Cert.BranchCIdeal.main_arg4) = m ((c.tc : Thread Cert.BranchCIdeal.nD Cert.BranchCIdeal.τ).loc Cert.BranchCIdeal.main_arg4))
      ∧ θ_run (Cert.BranchCRefIdeal.defs (F := Ideal)) (onTc (τ := Cert.BranchCRefIdeal.τ) (Cert.BranchCRefIdeal.main (F := Ideal))) ⟨m', fun _ => 0, g'⟩ (fun r => ∀ c : Dev Cert.BranchCRefIdeal.nD,
          r.2.mem ((c.tc : Thread Cert.BranchCRefIdeal.nD Cert.BranchCRefIdeal.τ).loc Cert.BranchCRefIdeal.main_v29) = v0 c
          ∧ r.2.mem ((c.tc : Thread Cert.BranchCRefIdeal.nD Cert.BranchCRefIdeal.τ).loc Cert.BranchCRefIdeal.main_v30) = v1 c
          ∧ r.2.mem ((c.tc : Thread Cert.BranchCRefIdeal.nD Cert.BranchCRefIdeal.τ).loc Cert.BranchCRefIdeal.main_v16) = v2 c
          ∧ r.2.mem ((c.tc : Thread Cert.BranchCRefIdeal.nD Cert.BranchCRefIdeal.τ).loc Cert.BranchCRefIdeal.main_arg0) = m' ((c.tc : Thread Cert.BranchCRefIdeal.nD Cert.BranchCRefIdeal.τ).loc Cert.BranchCRefIdeal.main_arg0)
          ∧ r.2.mem ((c.tc : Thread Cert.BranchCRefIdeal.nD Cert.BranchCRefIdeal.τ).loc Cert.BranchCRefIdeal.main_arg1) = m' ((c.tc : Thread Cert.BranchCRefIdeal.nD Cert.BranchCRefIdeal.τ).loc Cert.BranchCRefIdeal.main_arg1)
          ∧ r.2.mem ((c.tc : Thread Cert.BranchCRefIdeal.nD Cert.BranchCRefIdeal.τ).loc Cert.BranchCRefIdeal.main_arg2) = m' ((c.tc : Thread Cert.BranchCRefIdeal.nD Cert.BranchCRefIdeal.τ).loc Cert.BranchCRefIdeal.main_arg2)
          ∧ r.2.mem ((c.tc : Thread Cert.BranchCRefIdeal.nD Cert.BranchCRefIdeal.τ).loc Cert.BranchCRefIdeal.main_arg3) = m' ((c.tc : Thread Cert.BranchCRefIdeal.nD Cert.BranchCRefIdeal.τ).loc Cert.BranchCRefIdeal.main_arg3)
          ∧ r.2.mem ((c.tc : Thread Cert.BranchCRefIdeal.nD Cert.BranchCRefIdeal.τ).loc Cert.BranchCRefIdeal.main_arg4) = m' ((c.tc : Thread Cert.BranchCRefIdeal.nD Cert.BranchCRefIdeal.τ).loc Cert.BranchCRefIdeal.main_arg4))

def preserves_MergeOut_MergeOutIdeal : Prop :=
  True

def algebraic_MergeOutIdeal_MergeOutRefIdeal [hMergeOutIdeal : Cert.MergeOutIdeal.Facts] [hMergeOutRefIdeal : Cert.MergeOutRefIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutRefIdeal.nD Cert.MergeOutRefIdeal.τ Cert.MergeOutRefIdeal.sig) → Buf (Elt Ideal) ℓ) (g' : Dev Cert.MergeOutRefIdeal.nD → PrngReg), Pre_MergeOutIdeal m →
    (∀ c : Dev Cert.MergeOutIdeal.nD,
      m' ((c.tc : Thread Cert.MergeOutRefIdeal.nD Cert.MergeOutRefIdeal.τ).loc Cert.MergeOutRefIdeal.main_arg0) = m ((c.tc : Thread Cert.MergeOutIdeal.nD Cert.MergeOutIdeal.τ).loc Cert.MergeOutIdeal.main_arg0)
      ∧ m' ((c.tc : Thread Cert.MergeOutRefIdeal.nD Cert.MergeOutRefIdeal.τ).loc Cert.MergeOutRefIdeal.main_arg1) = m ((c.tc : Thread Cert.MergeOutIdeal.nD Cert.MergeOutIdeal.τ).loc Cert.MergeOutIdeal.main_arg1)
      ∧ m' ((c.tc : Thread Cert.MergeOutRefIdeal.nD Cert.MergeOutRefIdeal.τ).loc Cert.MergeOutRefIdeal.main_arg2) = m ((c.tc : Thread Cert.MergeOutIdeal.nD Cert.MergeOutIdeal.τ).loc Cert.MergeOutIdeal.main_arg2)
      ∧ m' ((c.tc : Thread Cert.MergeOutRefIdeal.nD Cert.MergeOutRefIdeal.τ).loc Cert.MergeOutRefIdeal.main_arg3) = m ((c.tc : Thread Cert.MergeOutIdeal.nD Cert.MergeOutIdeal.τ).loc Cert.MergeOutIdeal.main_arg3)
      ∧ m' ((c.tc : Thread Cert.MergeOutRefIdeal.nD Cert.MergeOutRefIdeal.τ).loc Cert.MergeOutRefIdeal.main_arg4) = m ((c.tc : Thread Cert.MergeOutIdeal.nD Cert.MergeOutIdeal.τ).loc Cert.MergeOutIdeal.main_arg4)
      ∧ m' ((c.tc : Thread Cert.MergeOutRefIdeal.nD Cert.MergeOutRefIdeal.τ).loc Cert.MergeOutRefIdeal.main_arg5) = m ((c.tc : Thread Cert.MergeOutIdeal.nD Cert.MergeOutIdeal.τ).loc Cert.MergeOutIdeal.main_arg5)
      ∧ m' ((c.tc : Thread Cert.MergeOutRefIdeal.nD Cert.MergeOutRefIdeal.τ).loc Cert.MergeOutRefIdeal.main_arg6) = m ((c.tc : Thread Cert.MergeOutIdeal.nD Cert.MergeOutIdeal.τ).loc Cert.MergeOutIdeal.main_arg6)
      ∧ m' ((c.tc : Thread Cert.MergeOutRefIdeal.nD Cert.MergeOutRefIdeal.τ).loc Cert.MergeOutRefIdeal.main_arg7) = m ((c.tc : Thread Cert.MergeOutIdeal.nD Cert.MergeOutIdeal.τ).loc Cert.MergeOutIdeal.main_arg7)
      ∧ m' ((c.tc : Thread Cert.MergeOutRefIdeal.nD Cert.MergeOutRefIdeal.τ).loc Cert.MergeOutRefIdeal.main_arg8) = m ((c.tc : Thread Cert.MergeOutIdeal.nD Cert.MergeOutIdeal.τ).loc Cert.MergeOutIdeal.main_arg8)
      ∧ m' ((c.tc : Thread Cert.MergeOutRefIdeal.nD Cert.MergeOutRefIdeal.τ).loc Cert.MergeOutRefIdeal.main_arg9) = m ((c.tc : Thread Cert.MergeOutIdeal.nD Cert.MergeOutIdeal.τ).loc Cert.MergeOutIdeal.main_arg9)) →
    ∃ (v0 : (c : Dev Cert.MergeOutIdeal.nD) → Buf (Elt Ideal) ((c.tc : Thread Cert.MergeOutIdeal.nD Cert.MergeOutIdeal.τ).loc Cert.MergeOutIdeal.main_v1_0)) (v1 : (c : Dev Cert.MergeOutIdeal.nD) → Buf (Elt Ideal) ((c.tc : Thread Cert.MergeOutIdeal.nD Cert.MergeOutIdeal.τ).loc Cert.MergeOutIdeal.main_v1_1)) (v2 : (c : Dev Cert.MergeOutIdeal.nD) → Buf (Elt Ideal) ((c.tc : Thread Cert.MergeOutIdeal.nD Cert.MergeOutIdeal.τ).loc Cert.MergeOutIdeal.main_v1_2)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v1_0) = v0 c
          ∧ r.2.mem ((c.tc : Thread Cert.MergeOutIdeal.nD Cert.MergeOutIdeal.τ).loc Cert.MergeOutIdeal.main_v1_1) = v1 c
          ∧ r.2.mem ((c.tc : Thread Cert.MergeOutIdeal.nD Cert.MergeOutIdeal.τ).loc Cert.MergeOutIdeal.main_v1_2) = v2 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
          ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
          ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6)
          ∧ r.2.mem ((c.tc : Thread Cert.MergeOutIdeal.nD Cert.MergeOutIdeal.τ).loc Cert.MergeOutIdeal.main_arg7) = m ((c.tc : Thread Cert.MergeOutIdeal.nD Cert.MergeOutIdeal.τ).loc Cert.MergeOutIdeal.main_arg7)
          ∧ r.2.mem ((c.tc : Thread Cert.MergeOutIdeal.nD Cert.MergeOutIdeal.τ).loc Cert.MergeOutIdeal.main_arg8) = m ((c.tc : Thread Cert.MergeOutIdeal.nD Cert.MergeOutIdeal.τ).loc Cert.MergeOutIdeal.main_arg8)
          ∧ r.2.mem ((c.tc : Thread Cert.MergeOutIdeal.nD Cert.MergeOutIdeal.τ).loc Cert.MergeOutIdeal.main_arg9) = m ((c.tc : Thread Cert.MergeOutIdeal.nD Cert.MergeOutIdeal.τ).loc Cert.MergeOutIdeal.main_arg9))
      ∧ θ_run (Cert.MergeOutRefIdeal.defs (F := Ideal)) (onTc (τ := Cert.MergeOutRefIdeal.τ) (Cert.MergeOutRefIdeal.main (F := Ideal))) ⟨m', fun _ => 0, g'⟩ (fun r => ∀ c : Dev Cert.MergeOutRefIdeal.nD,
          r.2.mem ((c.tc : Thread Cert.MergeOutRefIdeal.nD Cert.MergeOutRefIdeal.τ).loc Cert.MergeOutRefIdeal.main_v38) = v0 c
          ∧ r.2.mem ((c.tc : Thread Cert.MergeOutRefIdeal.nD Cert.MergeOutRefIdeal.τ).loc Cert.MergeOutRefIdeal.main_v39) = v1 c
          ∧ r.2.mem ((c.tc : Thread Cert.MergeOutRefIdeal.nD Cert.MergeOutRefIdeal.τ).loc Cert.MergeOutRefIdeal.main_v53) = v2 c
          ∧ r.2.mem ((c.tc : Thread Cert.MergeOutRefIdeal.nD Cert.MergeOutRefIdeal.τ).loc Cert.MergeOutRefIdeal.main_arg0) = m' ((c.tc : Thread Cert.MergeOutRefIdeal.nD Cert.MergeOutRefIdeal.τ).loc Cert.MergeOutRefIdeal.main_arg0)
          ∧ r.2.mem ((c.tc : Thread Cert.MergeOutRefIdeal.nD Cert.MergeOutRefIdeal.τ).loc Cert.MergeOutRefIdeal.main_arg1) = m' ((c.tc : Thread Cert.MergeOutRefIdeal.nD Cert.MergeOutRefIdeal.τ).loc Cert.MergeOutRefIdeal.main_arg1)
          ∧ r.2.mem ((c.tc : Thread Cert.MergeOutRefIdeal.nD Cert.MergeOutRefIdeal.τ).loc Cert.MergeOutRefIdeal.main_arg2) = m' ((c.tc : Thread Cert.MergeOutRefIdeal.nD Cert.MergeOutRefIdeal.τ).loc Cert.MergeOutRefIdeal.main_arg2)
          ∧ r.2.mem ((c.tc : Thread Cert.MergeOutRefIdeal.nD Cert.MergeOutRefIdeal.τ).loc Cert.MergeOutRefIdeal.main_arg3) = m' ((c.tc : Thread Cert.MergeOutRefIdeal.nD Cert.MergeOutRefIdeal.τ).loc Cert.MergeOutRefIdeal.main_arg3)
          ∧ r.2.mem ((c.tc : Thread Cert.MergeOutRefIdeal.nD Cert.MergeOutRefIdeal.τ).loc Cert.MergeOutRefIdeal.main_arg4) = m' ((c.tc : Thread Cert.MergeOutRefIdeal.nD Cert.MergeOutRefIdeal.τ).loc Cert.MergeOutRefIdeal.main_arg4)
          ∧ r.2.mem ((c.tc : Thread Cert.MergeOutRefIdeal.nD Cert.MergeOutRefIdeal.τ).loc Cert.MergeOutRefIdeal.main_arg5) = m' ((c.tc : Thread Cert.MergeOutRefIdeal.nD Cert.MergeOutRefIdeal.τ).loc Cert.MergeOutRefIdeal.main_arg5)
          ∧ r.2.mem ((c.tc : Thread Cert.MergeOutRefIdeal.nD Cert.MergeOutRefIdeal.τ).loc Cert.MergeOutRefIdeal.main_arg6) = m' ((c.tc : Thread Cert.MergeOutRefIdeal.nD Cert.MergeOutRefIdeal.τ).loc Cert.MergeOutRefIdeal.main_arg6)
          ∧ r.2.mem ((c.tc : Thread Cert.MergeOutRefIdeal.nD Cert.MergeOutRefIdeal.τ).loc Cert.MergeOutRefIdeal.main_arg7) = m' ((c.tc : Thread Cert.MergeOutRefIdeal.nD Cert.MergeOutRefIdeal.τ).loc Cert.MergeOutRefIdeal.main_arg7)
          ∧ r.2.mem ((c.tc : Thread Cert.MergeOutRefIdeal.nD Cert.MergeOutRefIdeal.τ).loc Cert.MergeOutRefIdeal.main_arg8) = m' ((c.tc : Thread Cert.MergeOutRefIdeal.nD Cert.MergeOutRefIdeal.τ).loc Cert.MergeOutRefIdeal.main_arg8)
          ∧ r.2.mem ((c.tc : Thread Cert.MergeOutRefIdeal.nD Cert.MergeOutRefIdeal.τ).loc Cert.MergeOutRefIdeal.main_arg9) = m' ((c.tc : Thread Cert.MergeOutRefIdeal.nD Cert.MergeOutRefIdeal.τ).loc Cert.MergeOutRefIdeal.main_arg9))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)
      ∧ m' ((c.tc : Thread Cert.FfnDownRefIdeal.nD Cert.FfnDownRefIdeal.τ).loc Cert.FfnDownRefIdeal.main_arg6) = m ((c.tc : Thread Cert.FfnDownIdeal.nD Cert.FfnDownIdeal.τ).loc Cert.FfnDownIdeal.main_arg6)) →
    ∃ (v0 : (c : Dev Cert.FfnDownIdeal.nD) → Buf (Elt Ideal) ((c.tc : Thread Cert.FfnDownIdeal.nD Cert.FfnDownIdeal.τ).loc Cert.FfnDownIdeal.main_v7_0)) (v1 : (c : Dev Cert.FfnDownIdeal.nD) → Buf (Elt Ideal) ((c.tc : Thread Cert.FfnDownIdeal.nD Cert.FfnDownIdeal.τ).loc Cert.FfnDownIdeal.main_v7_1)) (v2 : (c : Dev Cert.FfnDownIdeal.nD) → Buf (Elt Ideal) ((c.tc : Thread Cert.FfnDownIdeal.nD Cert.FfnDownIdeal.τ).loc Cert.FfnDownIdeal.main_v7_2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v7_0) = v0 c
          ∧ r.2.mem ((c.tc : Thread Cert.FfnDownIdeal.nD Cert.FfnDownIdeal.τ).loc Cert.FfnDownIdeal.main_v7_1) = v1 c
          ∧ r.2.mem ((c.tc : Thread Cert.FfnDownIdeal.nD Cert.FfnDownIdeal.τ).loc Cert.FfnDownIdeal.main_v7_2) = v2 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
          ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v60) = v0 c
          ∧ r.2.mem ((c.tc : Thread Cert.FfnDownRefIdeal.nD Cert.FfnDownRefIdeal.τ).loc Cert.FfnDownRefIdeal.main_v61) = v1 c
          ∧ r.2.mem ((c.tc : Thread Cert.FfnDownRefIdeal.nD Cert.FfnDownRefIdeal.τ).loc Cert.FfnDownRefIdeal.main_v75) = v2 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5)
          ∧ r.2.mem ((c.tc : Thread Cert.FfnDownRefIdeal.nD Cert.FfnDownRefIdeal.τ).loc Cert.FfnDownRefIdeal.main_arg6) = m' ((c.tc : Thread Cert.FfnDownRefIdeal.nD Cert.FfnDownRefIdeal.τ).loc Cert.FfnDownRefIdeal.main_arg6))

def preserves_FfnLoss_FfnLossIdeal : Prop :=
  True

def algebraic_FfnLossIdeal_FfnLossRefIdeal [hFfnLossIdeal : Cert.FfnLossIdeal.Facts] [hFfnLossRefIdeal : Cert.FfnLossRefIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)
      ∧ m' ((c.tc : Thread Cert.FfnLossRefIdeal.nD Cert.FfnLossRefIdeal.τ).loc Cert.FfnLossRefIdeal.main_arg5) = m ((c.tc : Thread Cert.FfnLossIdeal.nD Cert.FfnLossIdeal.τ).loc Cert.FfnLossIdeal.main_arg5)
      ∧ m' ((c.tc : Thread Cert.FfnLossRefIdeal.nD Cert.FfnLossRefIdeal.τ).loc Cert.FfnLossRefIdeal.main_arg6) = m ((c.tc : Thread Cert.FfnLossIdeal.nD Cert.FfnLossIdeal.τ).loc Cert.FfnLossIdeal.main_arg6)) →
    ∃ (v0 : (c : Dev Cert.FfnLossIdeal.nD) → Buf (Elt Ideal) ((c.tc : Thread Cert.FfnLossIdeal.nD Cert.FfnLossIdeal.τ).loc Cert.FfnLossIdeal.main_v6_0)) (v1 : (c : Dev Cert.FfnLossIdeal.nD) → Buf (Elt Ideal) ((c.tc : Thread Cert.FfnLossIdeal.nD Cert.FfnLossIdeal.τ).loc Cert.FfnLossIdeal.main_v6_1)) (v2 : (c : Dev Cert.FfnLossIdeal.nD) → Buf (Elt Ideal) ((c.tc : Thread Cert.FfnLossIdeal.nD Cert.FfnLossIdeal.τ).loc Cert.FfnLossIdeal.main_v6_2)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v6_0) = v0 c
          ∧ r.2.mem ((c.tc : Thread Cert.FfnLossIdeal.nD Cert.FfnLossIdeal.τ).loc Cert.FfnLossIdeal.main_v6_1) = v1 c
          ∧ r.2.mem ((c.tc : Thread Cert.FfnLossIdeal.nD Cert.FfnLossIdeal.τ).loc Cert.FfnLossIdeal.main_v6_2) = v2 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
          ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v75) = v0 c
          ∧ r.2.mem ((c.tc : Thread Cert.FfnLossRefIdeal.nD Cert.FfnLossRefIdeal.τ).loc Cert.FfnLossRefIdeal.main_v76) = v1 c
          ∧ r.2.mem ((c.tc : Thread Cert.FfnLossRefIdeal.nD Cert.FfnLossRefIdeal.τ).loc Cert.FfnLossRefIdeal.main_v77) = v2 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4)
          ∧ r.2.mem ((c.tc : Thread Cert.FfnLossRefIdeal.nD Cert.FfnLossRefIdeal.τ).loc Cert.FfnLossRefIdeal.main_arg5) = m' ((c.tc : Thread Cert.FfnLossRefIdeal.nD Cert.FfnLossRefIdeal.τ).loc Cert.FfnLossRefIdeal.main_arg5)
          ∧ r.2.mem ((c.tc : Thread Cert.FfnLossRefIdeal.nD Cert.FfnLossRefIdeal.τ).loc Cert.FfnLossRefIdeal.main_arg6) = m' ((c.tc : Thread Cert.FfnLossRefIdeal.nD Cert.FfnLossRefIdeal.τ).loc Cert.FfnLossRefIdeal.main_arg6))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v1)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v1) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v13) = v0 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamNarrow_AdamNarrowIdeal : Prop :=
  True

def algebraic_AdamNarrowIdeal_AdamNarrowRefIdeal [hAdamNarrowIdeal : Cert.AdamNarrowIdeal.Facts] [hAdamNarrowRefIdeal : Cert.AdamNarrowRefIdeal.Facts] : Prop :=
  ∀ (m : (ℓ : Loc Cert.AdamNarrowIdeal.nD Cert.AdamNarrowIdeal.τ Cert.AdamNarrowIdeal.sig) → Buf (Elt Ideal) ℓ) (g : Dev Cert.AdamNarrowIdeal.nD → PrngReg)
    (m' : (ℓ : Loc Cert.AdamNarrowRefIdeal.nD Cert.AdamNarrowRefIdeal.τ Cert.AdamNarrowRefIdeal.sig) → Buf (Elt Ideal) ℓ) (g' : Dev Cert.AdamNarrowRefIdeal.nD → PrngReg), Pre_AdamNarrowIdeal m →
    (∀ c : Dev Cert.AdamNarrowIdeal.nD,
      m' ((c.tc : Thread Cert.AdamNarrowRefIdeal.nD Cert.AdamNarrowRefIdeal.τ).loc Cert.AdamNarrowRefIdeal.main_arg0) = m ((c.tc : Thread Cert.AdamNarrowIdeal.nD Cert.AdamNarrowIdeal.τ).loc Cert.AdamNarrowIdeal.main_arg0)
      ∧ m' ((c.tc : Thread Cert.AdamNarrowRefIdeal.nD Cert.AdamNarrowRefIdeal.τ).loc Cert.AdamNarrowRefIdeal.main_arg1) = m ((c.tc : Thread Cert.AdamNarrowIdeal.nD Cert.AdamNarrowIdeal.τ).loc Cert.AdamNarrowIdeal.main_arg1)
      ∧ m' ((c.tc : Thread Cert.AdamNarrowRefIdeal.nD Cert.AdamNarrowRefIdeal.τ).loc Cert.AdamNarrowRefIdeal.main_arg2) = m ((c.tc : Thread Cert.AdamNarrowIdeal.nD Cert.AdamNarrowIdeal.τ).loc Cert.AdamNarrowIdeal.main_arg2)
      ∧ m' ((c.tc : Thread Cert.AdamNarrowRefIdeal.nD Cert.AdamNarrowRefIdeal.τ).loc Cert.AdamNarrowRefIdeal.main_arg3) = m ((c.tc : Thread Cert.AdamNarrowIdeal.nD Cert.AdamNarrowIdeal.τ).loc Cert.AdamNarrowIdeal.main_arg3)
      ∧ m' ((c.tc : Thread Cert.AdamNarrowRefIdeal.nD Cert.AdamNarrowRefIdeal.τ).loc Cert.AdamNarrowRefIdeal.main_arg4) = m ((c.tc : Thread Cert.AdamNarrowIdeal.nD Cert.AdamNarrowIdeal.τ).loc Cert.AdamNarrowIdeal.main_arg4)) →
    ∃ (v0 : (c : Dev Cert.AdamNarrowIdeal.nD) → Buf (Elt Ideal) ((c.tc : Thread Cert.AdamNarrowIdeal.nD Cert.AdamNarrowIdeal.τ).loc Cert.AdamNarrowIdeal.main_v0_0)) (v1 : (c : Dev Cert.AdamNarrowIdeal.nD) → Buf (Elt Ideal) ((c.tc : Thread Cert.AdamNarrowIdeal.nD Cert.AdamNarrowIdeal.τ).loc Cert.AdamNarrowIdeal.main_v0_1)) (v2 : (c : Dev Cert.AdamNarrowIdeal.nD) → Buf (Elt Ideal) ((c.tc : Thread Cert.AdamNarrowIdeal.nD Cert.AdamNarrowIdeal.τ).loc Cert.AdamNarrowIdeal.main_v0_2)) (v3 : (c : Dev Cert.AdamNarrowIdeal.nD) → Buf (Elt Ideal) ((c.tc : Thread Cert.AdamNarrowIdeal.nD Cert.AdamNarrowIdeal.τ).loc Cert.AdamNarrowIdeal.main_v0_3)),
      θ_run (Cert.AdamNarrowIdeal.defs (F := Ideal)) (onTc (τ := Cert.AdamNarrowIdeal.τ) (Cert.AdamNarrowIdeal.main (F := Ideal))) ⟨m, fun _ => 0, g⟩ (fun r => ∀ c : Dev Cert.AdamNarrowIdeal.nD,
          r.2.mem ((c.tc : Thread Cert.AdamNarrowIdeal.nD Cert.AdamNarrowIdeal.τ).loc Cert.AdamNarrowIdeal.main_v0_0) = v0 c
          ∧ r.2.mem ((c.tc : Thread Cert.AdamNarrowIdeal.nD Cert.AdamNarrowIdeal.τ).loc Cert.AdamNarrowIdeal.main_v0_1) = v1 c
          ∧ r.2.mem ((c.tc : Thread Cert.AdamNarrowIdeal.nD Cert.AdamNarrowIdeal.τ).loc Cert.AdamNarrowIdeal.main_v0_2) = v2 c
          ∧ r.2.mem ((c.tc : Thread Cert.AdamNarrowIdeal.nD Cert.AdamNarrowIdeal.τ).loc Cert.AdamNarrowIdeal.main_v0_3) = v3 c
          ∧ r.2.mem ((c.tc : Thread Cert.AdamNarrowIdeal.nD Cert.AdamNarrowIdeal.τ).loc Cert.AdamNarrowIdeal.main_arg0) = m ((c.tc : Thread Cert.AdamNarrowIdeal.nD Cert.AdamNarrowIdeal.τ).loc Cert.AdamNarrowIdeal.main_arg0)
          ∧ r.2.mem ((c.tc : Thread Cert.AdamNarrowIdeal.nD Cert.AdamNarrowIdeal.τ).loc Cert.AdamNarrowIdeal.main_arg1) = m ((c.tc : Thread Cert.AdamNarrowIdeal.nD Cert.AdamNarrowIdeal.τ).loc Cert.AdamNarrowIdeal.main_arg1)
          ∧ r.2.mem ((c.tc : Thread Cert.AdamNarrowIdeal.nD Cert.AdamNarrowIdeal.τ).loc Cert.AdamNarrowIdeal.main_arg2) = m ((c.tc : Thread Cert.AdamNarrowIdeal.nD Cert.AdamNarrowIdeal.τ).loc Cert.AdamNarrowIdeal.main_arg2)
          ∧ r.2.mem ((c.tc : Thread Cert.AdamNarrowIdeal.nD Cert.AdamNarrowIdeal.τ).loc Cert.AdamNarrowIdeal.main_arg3) = m ((c.tc : Thread Cert.AdamNarrowIdeal.nD Cert.AdamNarrowIdeal.τ).loc Cert.AdamNarrowIdeal.main_arg3)
          ∧ r.2.mem ((c.tc : Thread Cert.AdamNarrowIdeal.nD Cert.AdamNarrowIdeal.τ).loc Cert.AdamNarrowIdeal.main_arg4) = m ((c.tc : Thread Cert.AdamNarrowIdeal.nD Cert.AdamNarrowIdeal.τ).loc Cert.AdamNarrowIdeal.main_arg4))
      ∧ θ_run (Cert.AdamNarrowRefIdeal.defs (F := Ideal)) (onTc (τ := Cert.AdamNarrowRefIdeal.τ) (Cert.AdamNarrowRefIdeal.main (F := Ideal))) ⟨m', fun _ => 0, g'⟩ (fun r => ∀ c : Dev Cert.AdamNarrowRefIdeal.nD,
          r.2.mem ((c.tc : Thread Cert.AdamNarrowRefIdeal.nD Cert.AdamNarrowRefIdeal.τ).loc Cert.AdamNarrowRefIdeal.main_v6) = v0 c
          ∧ r.2.mem ((c.tc : Thread Cert.AdamNarrowRefIdeal.nD Cert.AdamNarrowRefIdeal.τ).loc Cert.AdamNarrowRefIdeal.main_v30) = v1 c
          ∧ r.2.mem ((c.tc : Thread Cert.AdamNarrowRefIdeal.nD Cert.AdamNarrowRefIdeal.τ).loc Cert.AdamNarrowRefIdeal.main_v11) = v2 c
          ∧ r.2.mem ((c.tc : Thread Cert.AdamNarrowRefIdeal.nD Cert.AdamNarrowRefIdeal.τ).loc Cert.AdamNarrowRefIdeal.main_v17) = v3 c
          ∧ r.2.mem ((c.tc : Thread Cert.AdamNarrowRefIdeal.nD Cert.AdamNarrowRefIdeal.τ).loc Cert.AdamNarrowRefIdeal.main_arg0) = m' ((c.tc : Thread Cert.AdamNarrowRefIdeal.nD Cert.AdamNarrowRefIdeal.τ).loc Cert.AdamNarrowRefIdeal.main_arg0)
          ∧ r.2.mem ((c.tc : Thread Cert.AdamNarrowRefIdeal.nD Cert.AdamNarrowRefIdeal.τ).loc Cert.AdamNarrowRefIdeal.main_arg1) = m' ((c.tc : Thread Cert.AdamNarrowRefIdeal.nD Cert.AdamNarrowRefIdeal.τ).loc Cert.AdamNarrowRefIdeal.main_arg1)
          ∧ r.2.mem ((c.tc : Thread Cert.AdamNarrowRefIdeal.nD Cert.AdamNarrowRefIdeal.τ).loc Cert.AdamNarrowRefIdeal.main_arg2) = m' ((c.tc : Thread Cert.AdamNarrowRefIdeal.nD Cert.AdamNarrowRefIdeal.τ).loc Cert.AdamNarrowRefIdeal.main_arg2)
          ∧ r.2.mem ((c.tc : Thread Cert.AdamNarrowRefIdeal.nD Cert.AdamNarrowRefIdeal.τ).loc Cert.AdamNarrowRefIdeal.main_arg3) = m' ((c.tc : Thread Cert.AdamNarrowRefIdeal.nD Cert.AdamNarrowRefIdeal.τ).loc Cert.AdamNarrowRefIdeal.main_arg3)
          ∧ r.2.mem ((c.tc : Thread Cert.AdamNarrowRefIdeal.nD Cert.AdamNarrowRefIdeal.τ).loc Cert.AdamNarrowRefIdeal.main_arg4) = m' ((c.tc : Thread Cert.AdamNarrowRefIdeal.nD Cert.AdamNarrowRefIdeal.τ).loc Cert.AdamNarrowRefIdeal.main_arg4))

def preserves_AdamMiddle_AdamMiddleIdeal : Prop :=
  True

def algebraic_AdamMiddleIdeal_AdamMiddleRefIdeal [hAdamMiddleIdeal : Cert.AdamMiddleIdeal.Facts] [hAdamMiddleRefIdeal : Cert.AdamMiddleRefIdeal.Facts] : Prop :=
  ∀ (m : (ℓ : Loc Cert.AdamMiddleIdeal.nD Cert.AdamMiddleIdeal.τ Cert.AdamMiddleIdeal.sig) → Buf (Elt Ideal) ℓ) (g : Dev Cert.AdamMiddleIdeal.nD → PrngReg)
    (m' : (ℓ : Loc Cert.AdamMiddleRefIdeal.nD Cert.AdamMiddleRefIdeal.τ Cert.AdamMiddleRefIdeal.sig) → Buf (Elt Ideal) ℓ) (g' : Dev Cert.AdamMiddleRefIdeal.nD → PrngReg), Pre_AdamMiddleIdeal m →
    (∀ c : Dev Cert.AdamMiddleIdeal.nD,
      m' ((c.tc : Thread Cert.AdamMiddleRefIdeal.nD Cert.AdamMiddleRefIdeal.τ).loc Cert.AdamMiddleRefIdeal.main_arg0) = m ((c.tc : Thread Cert.AdamMiddleIdeal.nD Cert.AdamMiddleIdeal.τ).loc Cert.AdamMiddleIdeal.main_arg0)
      ∧ m' ((c.tc : Thread Cert.AdamMiddleRefIdeal.nD Cert.AdamMiddleRefIdeal.τ).loc Cert.AdamMiddleRefIdeal.main_arg1) = m ((c.tc : Thread Cert.AdamMiddleIdeal.nD Cert.AdamMiddleIdeal.τ).loc Cert.AdamMiddleIdeal.main_arg1)
      ∧ m' ((c.tc : Thread Cert.AdamMiddleRefIdeal.nD Cert.AdamMiddleRefIdeal.τ).loc Cert.AdamMiddleRefIdeal.main_arg2) = m ((c.tc : Thread Cert.AdamMiddleIdeal.nD Cert.AdamMiddleIdeal.τ).loc Cert.AdamMiddleIdeal.main_arg2)
      ∧ m' ((c.tc : Thread Cert.AdamMiddleRefIdeal.nD Cert.AdamMiddleRefIdeal.τ).loc Cert.AdamMiddleRefIdeal.main_arg3) = m ((c.tc : Thread Cert.AdamMiddleIdeal.nD Cert.AdamMiddleIdeal.τ).loc Cert.AdamMiddleIdeal.main_arg3)
      ∧ m' ((c.tc : Thread Cert.AdamMiddleRefIdeal.nD Cert.AdamMiddleRefIdeal.τ).loc Cert.AdamMiddleRefIdeal.main_arg4) = m ((c.tc : Thread Cert.AdamMiddleIdeal.nD Cert.AdamMiddleIdeal.τ).loc Cert.AdamMiddleIdeal.main_arg4)) →
    ∃ (v0 : (c : Dev Cert.AdamMiddleIdeal.nD) → Buf (Elt Ideal) ((c.tc : Thread Cert.AdamMiddleIdeal.nD Cert.AdamMiddleIdeal.τ).loc Cert.AdamMiddleIdeal.main_v0_0)) (v1 : (c : Dev Cert.AdamMiddleIdeal.nD) → Buf (Elt Ideal) ((c.tc : Thread Cert.AdamMiddleIdeal.nD Cert.AdamMiddleIdeal.τ).loc Cert.AdamMiddleIdeal.main_v0_1)) (v2 : (c : Dev Cert.AdamMiddleIdeal.nD) → Buf (Elt Ideal) ((c.tc : Thread Cert.AdamMiddleIdeal.nD Cert.AdamMiddleIdeal.τ).loc Cert.AdamMiddleIdeal.main_v0_2)) (v3 : (c : Dev Cert.AdamMiddleIdeal.nD) → Buf (Elt Ideal) ((c.tc : Thread Cert.AdamMiddleIdeal.nD Cert.AdamMiddleIdeal.τ).loc Cert.AdamMiddleIdeal.main_v0_3)),
      θ_run (Cert.AdamMiddleIdeal.defs (F := Ideal)) (onTc (τ := Cert.AdamMiddleIdeal.τ) (Cert.AdamMiddleIdeal.main (F := Ideal))) ⟨m, fun _ => 0, g⟩ (fun r => ∀ c : Dev Cert.AdamMiddleIdeal.nD,
          r.2.mem ((c.tc : Thread Cert.AdamMiddleIdeal.nD Cert.AdamMiddleIdeal.τ).loc Cert.AdamMiddleIdeal.main_v0_0) = v0 c
          ∧ r.2.mem ((c.tc : Thread Cert.AdamMiddleIdeal.nD Cert.AdamMiddleIdeal.τ).loc Cert.AdamMiddleIdeal.main_v0_1) = v1 c
          ∧ r.2.mem ((c.tc : Thread Cert.AdamMiddleIdeal.nD Cert.AdamMiddleIdeal.τ).loc Cert.AdamMiddleIdeal.main_v0_2) = v2 c
          ∧ r.2.mem ((c.tc : Thread Cert.AdamMiddleIdeal.nD Cert.AdamMiddleIdeal.τ).loc Cert.AdamMiddleIdeal.main_v0_3) = v3 c
          ∧ r.2.mem ((c.tc : Thread Cert.AdamMiddleIdeal.nD Cert.AdamMiddleIdeal.τ).loc Cert.AdamMiddleIdeal.main_arg0) = m ((c.tc : Thread Cert.AdamMiddleIdeal.nD Cert.AdamMiddleIdeal.τ).loc Cert.AdamMiddleIdeal.main_arg0)
          ∧ r.2.mem ((c.tc : Thread Cert.AdamMiddleIdeal.nD Cert.AdamMiddleIdeal.τ).loc Cert.AdamMiddleIdeal.main_arg1) = m ((c.tc : Thread Cert.AdamMiddleIdeal.nD Cert.AdamMiddleIdeal.τ).loc Cert.AdamMiddleIdeal.main_arg1)
          ∧ r.2.mem ((c.tc : Thread Cert.AdamMiddleIdeal.nD Cert.AdamMiddleIdeal.τ).loc Cert.AdamMiddleIdeal.main_arg2) = m ((c.tc : Thread Cert.AdamMiddleIdeal.nD Cert.AdamMiddleIdeal.τ).loc Cert.AdamMiddleIdeal.main_arg2)
          ∧ r.2.mem ((c.tc : Thread Cert.AdamMiddleIdeal.nD Cert.AdamMiddleIdeal.τ).loc Cert.AdamMiddleIdeal.main_arg3) = m ((c.tc : Thread Cert.AdamMiddleIdeal.nD Cert.AdamMiddleIdeal.τ).loc Cert.AdamMiddleIdeal.main_arg3)
          ∧ r.2.mem ((c.tc : Thread Cert.AdamMiddleIdeal.nD Cert.AdamMiddleIdeal.τ).loc Cert.AdamMiddleIdeal.main_arg4) = m ((c.tc : Thread Cert.AdamMiddleIdeal.nD Cert.AdamMiddleIdeal.τ).loc Cert.AdamMiddleIdeal.main_arg4))
      ∧ θ_run (Cert.AdamMiddleRefIdeal.defs (F := Ideal)) (onTc (τ := Cert.AdamMiddleRefIdeal.τ) (Cert.AdamMiddleRefIdeal.main (F := Ideal))) ⟨m', fun _ => 0, g'⟩ (fun r => ∀ c : Dev Cert.AdamMiddleRefIdeal.nD,
          r.2.mem ((c.tc : Thread Cert.AdamMiddleRefIdeal.nD Cert.AdamMiddleRefIdeal.τ).loc Cert.AdamMiddleRefIdeal.main_v6) = v0 c
          ∧ r.2.mem ((c.tc : Thread Cert.AdamMiddleRefIdeal.nD Cert.AdamMiddleRefIdeal.τ).loc Cert.AdamMiddleRefIdeal.main_v30) = v1 c
          ∧ r.2.mem ((c.tc : Thread Cert.AdamMiddleRefIdeal.nD Cert.AdamMiddleRefIdeal.τ).loc Cert.AdamMiddleRefIdeal.main_v11) = v2 c
          ∧ r.2.mem ((c.tc : Thread Cert.AdamMiddleRefIdeal.nD Cert.AdamMiddleRefIdeal.τ).loc Cert.AdamMiddleRefIdeal.main_v17) = v3 c
          ∧ r.2.mem ((c.tc : Thread Cert.AdamMiddleRefIdeal.nD Cert.AdamMiddleRefIdeal.τ).loc Cert.AdamMiddleRefIdeal.main_arg0) = m' ((c.tc : Thread Cert.AdamMiddleRefIdeal.nD Cert.AdamMiddleRefIdeal.τ).loc Cert.AdamMiddleRefIdeal.main_arg0)
          ∧ r.2.mem ((c.tc : Thread Cert.AdamMiddleRefIdeal.nD Cert.AdamMiddleRefIdeal.τ).loc Cert.AdamMiddleRefIdeal.main_arg1) = m' ((c.tc : Thread Cert.AdamMiddleRefIdeal.nD Cert.AdamMiddleRefIdeal.τ).loc Cert.AdamMiddleRefIdeal.main_arg1)
          ∧ r.2.mem ((c.tc : Thread Cert.AdamMiddleRefIdeal.nD Cert.AdamMiddleRefIdeal.τ).loc Cert.AdamMiddleRefIdeal.main_arg2) = m' ((c.tc : Thread Cert.AdamMiddleRefIdeal.nD Cert.AdamMiddleRefIdeal.τ).loc Cert.AdamMiddleRefIdeal.main_arg2)
          ∧ r.2.mem ((c.tc : Thread Cert.AdamMiddleRefIdeal.nD Cert.AdamMiddleRefIdeal.τ).loc Cert.AdamMiddleRefIdeal.main_arg3) = m' ((c.tc : Thread Cert.AdamMiddleRefIdeal.nD Cert.AdamMiddleRefIdeal.τ).loc Cert.AdamMiddleRefIdeal.main_arg3)
          ∧ r.2.mem ((c.tc : Thread Cert.AdamMiddleRefIdeal.nD Cert.AdamMiddleRefIdeal.τ).loc Cert.AdamMiddleRefIdeal.main_arg4) = m' ((c.tc : Thread Cert.AdamMiddleRefIdeal.nD Cert.AdamMiddleRefIdeal.τ).loc Cert.AdamMiddleRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v6) = v0 c
          ∧ r.2.mem ((c.tc : Thread Cert.AdamUpRefIdeal.nD Cert.AdamUpRefIdeal.τ).loc Cert.AdamUpRefIdeal.main_v30) = v1 c
          ∧ r.2.mem ((c.tc : Thread Cert.AdamUpRefIdeal.nD Cert.AdamUpRefIdeal.τ).loc Cert.AdamUpRefIdeal.main_v11) = v2 c
          ∧ r.2.mem ((c.tc : Thread Cert.AdamUpRefIdeal.nD Cert.AdamUpRefIdeal.τ).loc Cert.AdamUpRefIdeal.main_v17) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v4) = v0 c
          ∧ r.2.mem ((c.tc : Thread Cert.AdamConvRefIdeal.nD Cert.AdamConvRefIdeal.τ).loc Cert.AdamConvRefIdeal.main_v28) = v1 c
          ∧ r.2.mem ((c.tc : Thread Cert.AdamConvRefIdeal.nD Cert.AdamConvRefIdeal.τ).loc Cert.AdamConvRefIdeal.main_v9) = v2 c
          ∧ r.2.mem ((c.tc : Thread Cert.AdamConvRefIdeal.nD Cert.AdamConvRefIdeal.τ).loc Cert.AdamConvRefIdeal.main_v15) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4))

def preserves_PoolFwd_PoolFwdIdeal : Prop :=
  True

def algebraic_PoolFwdIdeal_PoolFwdRefIdeal [hPoolFwdIdeal : Cert.PoolFwdIdeal.Facts] [hPoolFwdRefIdeal : Cert.PoolFwdRefIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v14)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v14) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v165) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_PoolBwd_PoolBwdIdeal : Prop :=
  True

def algebraic_PoolBwdIdeal_PoolBwdRefIdeal [hPoolBwdIdeal : Cert.PoolBwdIdeal.Facts] [hPoolBwdRefIdeal : Cert.PoolBwdRefIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v1_0)) (v1 : (c : Dev Cert.PoolBwdIdeal.nD) → Buf (Elt Ideal) ((c.tc : Thread Cert.PoolBwdIdeal.nD Cert.PoolBwdIdeal.τ).loc Cert.PoolBwdIdeal.main_v1_1)) (v2 : (c : Dev Cert.PoolBwdIdeal.nD) → Buf (Elt Ideal) ((c.tc : Thread Cert.PoolBwdIdeal.nD Cert.PoolBwdIdeal.τ).loc Cert.PoolBwdIdeal.main_v1_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v1_0) = v0 c
          ∧ r.2.mem ((c.tc : Thread Cert.PoolBwdIdeal.nD Cert.PoolBwdIdeal.τ).loc Cert.PoolBwdIdeal.main_v1_1) = v1 c
          ∧ r.2.mem ((c.tc : Thread Cert.PoolBwdIdeal.nD Cert.PoolBwdIdeal.τ).loc Cert.PoolBwdIdeal.main_v1_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v143) = v0 c
          ∧ r.2.mem ((c.tc : Thread Cert.PoolBwdRefIdeal.nD Cert.PoolBwdRefIdeal.τ).loc Cert.PoolBwdRefIdeal.main_v106) = v1 c
          ∧ r.2.mem ((c.tc : Thread Cert.PoolBwdRefIdeal.nD Cert.PoolBwdRefIdeal.τ).loc Cert.PoolBwdRefIdeal.main_v144) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_SmallLate_SmallLateIdeal : Prop :=
  True

def algebraic_SmallLateIdeal_SmallLateRefIdeal [hSmallLateIdeal : Cert.SmallLateIdeal.Facts] [hSmallLateRefIdeal : Cert.SmallLateRefIdeal.Facts] : Prop :=
  ∀ (m : (ℓ : Loc Cert.SmallLateIdeal.nD Cert.SmallLateIdeal.τ Cert.SmallLateIdeal.sig) → Buf (Elt Ideal) ℓ) (g : Dev Cert.SmallLateIdeal.nD → PrngReg)
    (m' : (ℓ : Loc Cert.SmallLateRefIdeal.nD Cert.SmallLateRefIdeal.τ Cert.SmallLateRefIdeal.sig) → Buf (Elt Ideal) ℓ) (g' : Dev Cert.SmallLateRefIdeal.nD → PrngReg), Pre_SmallLateIdeal m →
    (∀ c : Dev Cert.SmallLateIdeal.nD,
      m' ((c.tc : Thread Cert.SmallLateRefIdeal.nD Cert.SmallLateRefIdeal.τ).loc Cert.SmallLateRefIdeal.main_arg0) = m ((c.tc : Thread Cert.SmallLateIdeal.nD Cert.SmallLateIdeal.τ).loc Cert.SmallLateIdeal.main_arg0)
      ∧ m' ((c.tc : Thread Cert.SmallLateRefIdeal.nD Cert.SmallLateRefIdeal.τ).loc Cert.SmallLateRefIdeal.main_arg1) = m ((c.tc : Thread Cert.SmallLateIdeal.nD Cert.SmallLateIdeal.τ).loc Cert.SmallLateIdeal.main_arg1)
      ∧ m' ((c.tc : Thread Cert.SmallLateRefIdeal.nD Cert.SmallLateRefIdeal.τ).loc Cert.SmallLateRefIdeal.main_arg2) = m ((c.tc : Thread Cert.SmallLateIdeal.nD Cert.SmallLateIdeal.τ).loc Cert.SmallLateIdeal.main_arg2)
      ∧ m' ((c.tc : Thread Cert.SmallLateRefIdeal.nD Cert.SmallLateRefIdeal.τ).loc Cert.SmallLateRefIdeal.main_arg3) = m ((c.tc : Thread Cert.SmallLateIdeal.nD Cert.SmallLateIdeal.τ).loc Cert.SmallLateIdeal.main_arg3)
      ∧ m' ((c.tc : Thread Cert.SmallLateRefIdeal.nD Cert.SmallLateRefIdeal.τ).loc Cert.SmallLateRefIdeal.main_arg4) = m ((c.tc : Thread Cert.SmallLateIdeal.nD Cert.SmallLateIdeal.τ).loc Cert.SmallLateIdeal.main_arg4)
      ∧ m' ((c.tc : Thread Cert.SmallLateRefIdeal.nD Cert.SmallLateRefIdeal.τ).loc Cert.SmallLateRefIdeal.main_arg5) = m ((c.tc : Thread Cert.SmallLateIdeal.nD Cert.SmallLateIdeal.τ).loc Cert.SmallLateIdeal.main_arg5)
      ∧ m' ((c.tc : Thread Cert.SmallLateRefIdeal.nD Cert.SmallLateRefIdeal.τ).loc Cert.SmallLateRefIdeal.main_arg6) = m ((c.tc : Thread Cert.SmallLateIdeal.nD Cert.SmallLateIdeal.τ).loc Cert.SmallLateIdeal.main_arg6)
      ∧ m' ((c.tc : Thread Cert.SmallLateRefIdeal.nD Cert.SmallLateRefIdeal.τ).loc Cert.SmallLateRefIdeal.main_arg7) = m ((c.tc : Thread Cert.SmallLateIdeal.nD Cert.SmallLateIdeal.τ).loc Cert.SmallLateIdeal.main_arg7)) →
    ∃ (v0 : (c : Dev Cert.SmallLateIdeal.nD) → Buf (Elt Ideal) ((c.tc : Thread Cert.SmallLateIdeal.nD Cert.SmallLateIdeal.τ).loc Cert.SmallLateIdeal.main_v31)) (v1 : (c : Dev Cert.SmallLateIdeal.nD) → Buf (Elt Ideal) ((c.tc : Thread Cert.SmallLateIdeal.nD Cert.SmallLateIdeal.τ).loc Cert.SmallLateIdeal.main_v38)) (v2 : (c : Dev Cert.SmallLateIdeal.nD) → Buf (Elt Ideal) ((c.tc : Thread Cert.SmallLateIdeal.nD Cert.SmallLateIdeal.τ).loc Cert.SmallLateIdeal.main_v45)) (v3 : (c : Dev Cert.SmallLateIdeal.nD) → Buf (Elt Ideal) ((c.tc : Thread Cert.SmallLateIdeal.nD Cert.SmallLateIdeal.τ).loc Cert.SmallLateIdeal.main_v52)) (v4 : (c : Dev Cert.SmallLateIdeal.nD) → Buf (Elt Ideal) ((c.tc : Thread Cert.SmallLateIdeal.nD Cert.SmallLateIdeal.τ).loc Cert.SmallLateIdeal.main_v35)) (v5 : (c : Dev Cert.SmallLateIdeal.nD) → Buf (Elt Ideal) ((c.tc : Thread Cert.SmallLateIdeal.nD Cert.SmallLateIdeal.τ).loc Cert.SmallLateIdeal.main_v42)) (v6 : (c : Dev Cert.SmallLateIdeal.nD) → Buf (Elt Ideal) ((c.tc : Thread Cert.SmallLateIdeal.nD Cert.SmallLateIdeal.τ).loc Cert.SmallLateIdeal.main_v49)) (v7 : (c : Dev Cert.SmallLateIdeal.nD) → Buf (Elt Ideal) ((c.tc : Thread Cert.SmallLateIdeal.nD Cert.SmallLateIdeal.τ).loc Cert.SmallLateIdeal.main_v56)),
      θ_run (Cert.SmallLateIdeal.defs (F := Ideal)) (onTc (τ := Cert.SmallLateIdeal.τ) (Cert.SmallLateIdeal.main (F := Ideal))) ⟨m, fun _ => 0, g⟩ (fun r => ∀ c : Dev Cert.SmallLateIdeal.nD,
          r.2.mem ((c.tc : Thread Cert.SmallLateIdeal.nD Cert.SmallLateIdeal.τ).loc Cert.SmallLateIdeal.main_v31) = v0 c
          ∧ r.2.mem ((c.tc : Thread Cert.SmallLateIdeal.nD Cert.SmallLateIdeal.τ).loc Cert.SmallLateIdeal.main_v38) = v1 c
          ∧ r.2.mem ((c.tc : Thread Cert.SmallLateIdeal.nD Cert.SmallLateIdeal.τ).loc Cert.SmallLateIdeal.main_v45) = v2 c
          ∧ r.2.mem ((c.tc : Thread Cert.SmallLateIdeal.nD Cert.SmallLateIdeal.τ).loc Cert.SmallLateIdeal.main_v52) = v3 c
          ∧ r.2.mem ((c.tc : Thread Cert.SmallLateIdeal.nD Cert.SmallLateIdeal.τ).loc Cert.SmallLateIdeal.main_v35) = v4 c
          ∧ r.2.mem ((c.tc : Thread Cert.SmallLateIdeal.nD Cert.SmallLateIdeal.τ).loc Cert.SmallLateIdeal.main_v42) = v5 c
          ∧ r.2.mem ((c.tc : Thread Cert.SmallLateIdeal.nD Cert.SmallLateIdeal.τ).loc Cert.SmallLateIdeal.main_v49) = v6 c
          ∧ r.2.mem ((c.tc : Thread Cert.SmallLateIdeal.nD Cert.SmallLateIdeal.τ).loc Cert.SmallLateIdeal.main_v56) = v7 c
          ∧ r.2.mem ((c.tc : Thread Cert.SmallLateIdeal.nD Cert.SmallLateIdeal.τ).loc Cert.SmallLateIdeal.main_arg0) = m ((c.tc : Thread Cert.SmallLateIdeal.nD Cert.SmallLateIdeal.τ).loc Cert.SmallLateIdeal.main_arg0)
          ∧ r.2.mem ((c.tc : Thread Cert.SmallLateIdeal.nD Cert.SmallLateIdeal.τ).loc Cert.SmallLateIdeal.main_arg1) = m ((c.tc : Thread Cert.SmallLateIdeal.nD Cert.SmallLateIdeal.τ).loc Cert.SmallLateIdeal.main_arg1)
          ∧ r.2.mem ((c.tc : Thread Cert.SmallLateIdeal.nD Cert.SmallLateIdeal.τ).loc Cert.SmallLateIdeal.main_arg2) = m ((c.tc : Thread Cert.SmallLateIdeal.nD Cert.SmallLateIdeal.τ).loc Cert.SmallLateIdeal.main_arg2)
          ∧ r.2.mem ((c.tc : Thread Cert.SmallLateIdeal.nD Cert.SmallLateIdeal.τ).loc Cert.SmallLateIdeal.main_arg3) = m ((c.tc : Thread Cert.SmallLateIdeal.nD Cert.SmallLateIdeal.τ).loc Cert.SmallLateIdeal.main_arg3)
          ∧ r.2.mem ((c.tc : Thread Cert.SmallLateIdeal.nD Cert.SmallLateIdeal.τ).loc Cert.SmallLateIdeal.main_arg4) = m ((c.tc : Thread Cert.SmallLateIdeal.nD Cert.SmallLateIdeal.τ).loc Cert.SmallLateIdeal.main_arg4)
          ∧ r.2.mem ((c.tc : Thread Cert.SmallLateIdeal.nD Cert.SmallLateIdeal.τ).loc Cert.SmallLateIdeal.main_arg5) = m ((c.tc : Thread Cert.SmallLateIdeal.nD Cert.SmallLateIdeal.τ).loc Cert.SmallLateIdeal.main_arg5)
          ∧ r.2.mem ((c.tc : Thread Cert.SmallLateIdeal.nD Cert.SmallLateIdeal.τ).loc Cert.SmallLateIdeal.main_arg6) = m ((c.tc : Thread Cert.SmallLateIdeal.nD Cert.SmallLateIdeal.τ).loc Cert.SmallLateIdeal.main_arg6)
          ∧ r.2.mem ((c.tc : Thread Cert.SmallLateIdeal.nD Cert.SmallLateIdeal.τ).loc Cert.SmallLateIdeal.main_arg7) = m ((c.tc : Thread Cert.SmallLateIdeal.nD Cert.SmallLateIdeal.τ).loc Cert.SmallLateIdeal.main_arg7))
      ∧ θ_run (Cert.SmallLateRefIdeal.defs (F := Ideal)) (onTc (τ := Cert.SmallLateRefIdeal.τ) (Cert.SmallLateRefIdeal.main (F := Ideal))) ⟨m', fun _ => 0, g'⟩ (fun r => ∀ c : Dev Cert.SmallLateRefIdeal.nD,
          r.2.mem ((c.tc : Thread Cert.SmallLateRefIdeal.nD Cert.SmallLateRefIdeal.τ).loc Cert.SmallLateRefIdeal.main_v0) = v0 c
          ∧ r.2.mem ((c.tc : Thread Cert.SmallLateRefIdeal.nD Cert.SmallLateRefIdeal.τ).loc Cert.SmallLateRefIdeal.main_v24) = v1 c
          ∧ r.2.mem ((c.tc : Thread Cert.SmallLateRefIdeal.nD Cert.SmallLateRefIdeal.τ).loc Cert.SmallLateRefIdeal.main_v5) = v2 c
          ∧ r.2.mem ((c.tc : Thread Cert.SmallLateRefIdeal.nD Cert.SmallLateRefIdeal.τ).loc Cert.SmallLateRefIdeal.main_v11) = v3 c
          ∧ r.2.mem ((c.tc : Thread Cert.SmallLateRefIdeal.nD Cert.SmallLateRefIdeal.τ).loc Cert.SmallLateRefIdeal.main_v25) = v4 c
          ∧ r.2.mem ((c.tc : Thread Cert.SmallLateRefIdeal.nD Cert.SmallLateRefIdeal.τ).loc Cert.SmallLateRefIdeal.main_v49) = v5 c
          ∧ r.2.mem ((c.tc : Thread Cert.SmallLateRefIdeal.nD Cert.SmallLateRefIdeal.τ).loc Cert.SmallLateRefIdeal.main_v30) = v6 c
          ∧ r.2.mem ((c.tc : Thread Cert.SmallLateRefIdeal.nD Cert.SmallLateRefIdeal.τ).loc Cert.SmallLateRefIdeal.main_v36) = v7 c
          ∧ r.2.mem ((c.tc : Thread Cert.SmallLateRefIdeal.nD Cert.SmallLateRefIdeal.τ).loc Cert.SmallLateRefIdeal.main_arg0) = m' ((c.tc : Thread Cert.SmallLateRefIdeal.nD Cert.SmallLateRefIdeal.τ).loc Cert.SmallLateRefIdeal.main_arg0)
          ∧ r.2.mem ((c.tc : Thread Cert.SmallLateRefIdeal.nD Cert.SmallLateRefIdeal.τ).loc Cert.SmallLateRefIdeal.main_arg1) = m' ((c.tc : Thread Cert.SmallLateRefIdeal.nD Cert.SmallLateRefIdeal.τ).loc Cert.SmallLateRefIdeal.main_arg1)
          ∧ r.2.mem ((c.tc : Thread Cert.SmallLateRefIdeal.nD Cert.SmallLateRefIdeal.τ).loc Cert.SmallLateRefIdeal.main_arg2) = m' ((c.tc : Thread Cert.SmallLateRefIdeal.nD Cert.SmallLateRefIdeal.τ).loc Cert.SmallLateRefIdeal.main_arg2)
          ∧ r.2.mem ((c.tc : Thread Cert.SmallLateRefIdeal.nD Cert.SmallLateRefIdeal.τ).loc Cert.SmallLateRefIdeal.main_arg3) = m' ((c.tc : Thread Cert.SmallLateRefIdeal.nD Cert.SmallLateRefIdeal.τ).loc Cert.SmallLateRefIdeal.main_arg3)
          ∧ r.2.mem ((c.tc : Thread Cert.SmallLateRefIdeal.nD Cert.SmallLateRefIdeal.τ).loc Cert.SmallLateRefIdeal.main_arg4) = m' ((c.tc : Thread Cert.SmallLateRefIdeal.nD Cert.SmallLateRefIdeal.τ).loc Cert.SmallLateRefIdeal.main_arg4)
          ∧ r.2.mem ((c.tc : Thread Cert.SmallLateRefIdeal.nD Cert.SmallLateRefIdeal.τ).loc Cert.SmallLateRefIdeal.main_arg5) = m' ((c.tc : Thread Cert.SmallLateRefIdeal.nD Cert.SmallLateRefIdeal.τ).loc Cert.SmallLateRefIdeal.main_arg5)
          ∧ r.2.mem ((c.tc : Thread Cert.SmallLateRefIdeal.nD Cert.SmallLateRefIdeal.τ).loc Cert.SmallLateRefIdeal.main_arg6) = m' ((c.tc : Thread Cert.SmallLateRefIdeal.nD Cert.SmallLateRefIdeal.τ).loc Cert.SmallLateRefIdeal.main_arg6)
          ∧ r.2.mem ((c.tc : Thread Cert.SmallLateRefIdeal.nD Cert.SmallLateRefIdeal.τ).loc Cert.SmallLateRefIdeal.main_arg7) = m' ((c.tc : Thread Cert.SmallLateRefIdeal.nD Cert.SmallLateRefIdeal.τ).loc Cert.SmallLateRefIdeal.main_arg7))

def preserves_SmallEarly_SmallEarlyIdeal : Prop :=
  True

def algebraic_SmallEarlyIdeal_SmallEarlyRefIdeal [hSmallEarlyIdeal : Cert.SmallEarlyIdeal.Facts] [hSmallEarlyRefIdeal : Cert.SmallEarlyRefIdeal.Facts] : Prop :=
  ∀ (m : (ℓ : Loc Cert.SmallEarlyIdeal.nD Cert.SmallEarlyIdeal.τ Cert.SmallEarlyIdeal.sig) → Buf (Elt Ideal) ℓ) (g : Dev Cert.SmallEarlyIdeal.nD → PrngReg)
    (m' : (ℓ : Loc Cert.SmallEarlyRefIdeal.nD Cert.SmallEarlyRefIdeal.τ Cert.SmallEarlyRefIdeal.sig) → Buf (Elt Ideal) ℓ) (g' : Dev Cert.SmallEarlyRefIdeal.nD → PrngReg), Pre_SmallEarlyIdeal m →
    (∀ c : Dev Cert.SmallEarlyIdeal.nD,
      m' ((c.tc : Thread Cert.SmallEarlyRefIdeal.nD Cert.SmallEarlyRefIdeal.τ).loc Cert.SmallEarlyRefIdeal.main_arg0) = m ((c.tc : Thread Cert.SmallEarlyIdeal.nD Cert.SmallEarlyIdeal.τ).loc Cert.SmallEarlyIdeal.main_arg0)
      ∧ m' ((c.tc : Thread Cert.SmallEarlyRefIdeal.nD Cert.SmallEarlyRefIdeal.τ).loc Cert.SmallEarlyRefIdeal.main_arg1) = m ((c.tc : Thread Cert.SmallEarlyIdeal.nD Cert.SmallEarlyIdeal.τ).loc Cert.SmallEarlyIdeal.main_arg1)
      ∧ m' ((c.tc : Thread Cert.SmallEarlyRefIdeal.nD Cert.SmallEarlyRefIdeal.τ).loc Cert.SmallEarlyRefIdeal.main_arg2) = m ((c.tc : Thread Cert.SmallEarlyIdeal.nD Cert.SmallEarlyIdeal.τ).loc Cert.SmallEarlyIdeal.main_arg2)
      ∧ m' ((c.tc : Thread Cert.SmallEarlyRefIdeal.nD Cert.SmallEarlyRefIdeal.τ).loc Cert.SmallEarlyRefIdeal.main_arg3) = m ((c.tc : Thread Cert.SmallEarlyIdeal.nD Cert.SmallEarlyIdeal.τ).loc Cert.SmallEarlyIdeal.main_arg3)
      ∧ m' ((c.tc : Thread Cert.SmallEarlyRefIdeal.nD Cert.SmallEarlyRefIdeal.τ).loc Cert.SmallEarlyRefIdeal.main_arg4) = m ((c.tc : Thread Cert.SmallEarlyIdeal.nD Cert.SmallEarlyIdeal.τ).loc Cert.SmallEarlyIdeal.main_arg4)
      ∧ m' ((c.tc : Thread Cert.SmallEarlyRefIdeal.nD Cert.SmallEarlyRefIdeal.τ).loc Cert.SmallEarlyRefIdeal.main_arg5) = m ((c.tc : Thread Cert.SmallEarlyIdeal.nD Cert.SmallEarlyIdeal.τ).loc Cert.SmallEarlyIdeal.main_arg5)
      ∧ m' ((c.tc : Thread Cert.SmallEarlyRefIdeal.nD Cert.SmallEarlyRefIdeal.τ).loc Cert.SmallEarlyRefIdeal.main_arg6) = m ((c.tc : Thread Cert.SmallEarlyIdeal.nD Cert.SmallEarlyIdeal.τ).loc Cert.SmallEarlyIdeal.main_arg6)
      ∧ m' ((c.tc : Thread Cert.SmallEarlyRefIdeal.nD Cert.SmallEarlyRefIdeal.τ).loc Cert.SmallEarlyRefIdeal.main_arg7) = m ((c.tc : Thread Cert.SmallEarlyIdeal.nD Cert.SmallEarlyIdeal.τ).loc Cert.SmallEarlyIdeal.main_arg7)
      ∧ m' ((c.tc : Thread Cert.SmallEarlyRefIdeal.nD Cert.SmallEarlyRefIdeal.τ).loc Cert.SmallEarlyRefIdeal.main_arg8) = m ((c.tc : Thread Cert.SmallEarlyIdeal.nD Cert.SmallEarlyIdeal.τ).loc Cert.SmallEarlyIdeal.main_arg8)
      ∧ m' ((c.tc : Thread Cert.SmallEarlyRefIdeal.nD Cert.SmallEarlyRefIdeal.τ).loc Cert.SmallEarlyRefIdeal.main_arg9) = m ((c.tc : Thread Cert.SmallEarlyIdeal.nD Cert.SmallEarlyIdeal.τ).loc Cert.SmallEarlyIdeal.main_arg9)
      ∧ m' ((c.tc : Thread Cert.SmallEarlyRefIdeal.nD Cert.SmallEarlyRefIdeal.τ).loc Cert.SmallEarlyRefIdeal.main_arg10) = m ((c.tc : Thread Cert.SmallEarlyIdeal.nD Cert.SmallEarlyIdeal.τ).loc Cert.SmallEarlyIdeal.main_arg10)
      ∧ m' ((c.tc : Thread Cert.SmallEarlyRefIdeal.nD Cert.SmallEarlyRefIdeal.τ).loc Cert.SmallEarlyRefIdeal.main_arg11) = m ((c.tc : Thread Cert.SmallEarlyIdeal.nD Cert.SmallEarlyIdeal.τ).loc Cert.SmallEarlyIdeal.main_arg11)
      ∧ m' ((c.tc : Thread Cert.SmallEarlyRefIdeal.nD Cert.SmallEarlyRefIdeal.τ).loc Cert.SmallEarlyRefIdeal.main_arg12) = m ((c.tc : Thread Cert.SmallEarlyIdeal.nD Cert.SmallEarlyIdeal.τ).loc Cert.SmallEarlyIdeal.main_arg12)
      ∧ m' ((c.tc : Thread Cert.SmallEarlyRefIdeal.nD Cert.SmallEarlyRefIdeal.τ).loc Cert.SmallEarlyRefIdeal.main_arg13) = m ((c.tc : Thread Cert.SmallEarlyIdeal.nD Cert.SmallEarlyIdeal.τ).loc Cert.SmallEarlyIdeal.main_arg13)
      ∧ m' ((c.tc : Thread Cert.SmallEarlyRefIdeal.nD Cert.SmallEarlyRefIdeal.τ).loc Cert.SmallEarlyRefIdeal.main_arg14) = m ((c.tc : Thread Cert.SmallEarlyIdeal.nD Cert.SmallEarlyIdeal.τ).loc Cert.SmallEarlyIdeal.main_arg14)
      ∧ m' ((c.tc : Thread Cert.SmallEarlyRefIdeal.nD Cert.SmallEarlyRefIdeal.τ).loc Cert.SmallEarlyRefIdeal.main_arg15) = m ((c.tc : Thread Cert.SmallEarlyIdeal.nD Cert.SmallEarlyIdeal.τ).loc Cert.SmallEarlyIdeal.main_arg15)
      ∧ m' ((c.tc : Thread Cert.SmallEarlyRefIdeal.nD Cert.SmallEarlyRefIdeal.τ).loc Cert.SmallEarlyRefIdeal.main_arg16) = m ((c.tc : Thread Cert.SmallEarlyIdeal.nD Cert.SmallEarlyIdeal.τ).loc Cert.SmallEarlyIdeal.main_arg16)
      ∧ m' ((c.tc : Thread Cert.SmallEarlyRefIdeal.nD Cert.SmallEarlyRefIdeal.τ).loc Cert.SmallEarlyRefIdeal.main_arg17) = m ((c.tc : Thread Cert.SmallEarlyIdeal.nD Cert.SmallEarlyIdeal.τ).loc Cert.SmallEarlyIdeal.main_arg17)
      ∧ m' ((c.tc : Thread Cert.SmallEarlyRefIdeal.nD Cert.SmallEarlyRefIdeal.τ).loc Cert.SmallEarlyRefIdeal.main_arg18) = m ((c.tc : Thread Cert.SmallEarlyIdeal.nD Cert.SmallEarlyIdeal.τ).loc Cert.SmallEarlyIdeal.main_arg18)
      ∧ m' ((c.tc : Thread Cert.SmallEarlyRefIdeal.nD Cert.SmallEarlyRefIdeal.τ).loc Cert.SmallEarlyRefIdeal.main_arg19) = m ((c.tc : Thread Cert.SmallEarlyIdeal.nD Cert.SmallEarlyIdeal.τ).loc Cert.SmallEarlyIdeal.main_arg19)
      ∧ m' ((c.tc : Thread Cert.SmallEarlyRefIdeal.nD Cert.SmallEarlyRefIdeal.τ).loc Cert.SmallEarlyRefIdeal.main_arg20) = m ((c.tc : Thread Cert.SmallEarlyIdeal.nD Cert.SmallEarlyIdeal.τ).loc Cert.SmallEarlyIdeal.main_arg20)
      ∧ m' ((c.tc : Thread Cert.SmallEarlyRefIdeal.nD Cert.SmallEarlyRefIdeal.τ).loc Cert.SmallEarlyRefIdeal.main_arg21) = m ((c.tc : Thread Cert.SmallEarlyIdeal.nD Cert.SmallEarlyIdeal.τ).loc Cert.SmallEarlyIdeal.main_arg21)
      ∧ m' ((c.tc : Thread Cert.SmallEarlyRefIdeal.nD Cert.SmallEarlyRefIdeal.τ).loc Cert.SmallEarlyRefIdeal.main_arg22) = m ((c.tc : Thread Cert.SmallEarlyIdeal.nD Cert.SmallEarlyIdeal.τ).loc Cert.SmallEarlyIdeal.main_arg22)
      ∧ m' ((c.tc : Thread Cert.SmallEarlyRefIdeal.nD Cert.SmallEarlyRefIdeal.τ).loc Cert.SmallEarlyRefIdeal.main_arg23) = m ((c.tc : Thread Cert.SmallEarlyIdeal.nD Cert.SmallEarlyIdeal.τ).loc Cert.SmallEarlyIdeal.main_arg23)
      ∧ m' ((c.tc : Thread Cert.SmallEarlyRefIdeal.nD Cert.SmallEarlyRefIdeal.τ).loc Cert.SmallEarlyRefIdeal.main_arg24) = m ((c.tc : Thread Cert.SmallEarlyIdeal.nD Cert.SmallEarlyIdeal.τ).loc Cert.SmallEarlyIdeal.main_arg24)
      ∧ m' ((c.tc : Thread Cert.SmallEarlyRefIdeal.nD Cert.SmallEarlyRefIdeal.τ).loc Cert.SmallEarlyRefIdeal.main_arg25) = m ((c.tc : Thread Cert.SmallEarlyIdeal.nD Cert.SmallEarlyIdeal.τ).loc Cert.SmallEarlyIdeal.main_arg25)
      ∧ m' ((c.tc : Thread Cert.SmallEarlyRefIdeal.nD Cert.SmallEarlyRefIdeal.τ).loc Cert.SmallEarlyRefIdeal.main_arg26) = m ((c.tc : Thread Cert.SmallEarlyIdeal.nD Cert.SmallEarlyIdeal.τ).loc Cert.SmallEarlyIdeal.main_arg26)
      ∧ m' ((c.tc : Thread Cert.SmallEarlyRefIdeal.nD Cert.SmallEarlyRefIdeal.τ).loc Cert.SmallEarlyRefIdeal.main_arg27) = m ((c.tc : Thread Cert.SmallEarlyIdeal.nD Cert.SmallEarlyIdeal.τ).loc Cert.SmallEarlyIdeal.main_arg27)
      ∧ m' ((c.tc : Thread Cert.SmallEarlyRefIdeal.nD Cert.SmallEarlyRefIdeal.τ).loc Cert.SmallEarlyRefIdeal.main_arg28) = m ((c.tc : Thread Cert.SmallEarlyIdeal.nD Cert.SmallEarlyIdeal.τ).loc Cert.SmallEarlyIdeal.main_arg28)
      ∧ m' ((c.tc : Thread Cert.SmallEarlyRefIdeal.nD Cert.SmallEarlyRefIdeal.τ).loc Cert.SmallEarlyRefIdeal.main_arg29) = m ((c.tc : Thread Cert.SmallEarlyIdeal.nD Cert.SmallEarlyIdeal.τ).loc Cert.SmallEarlyIdeal.main_arg29)
      ∧ m' ((c.tc : Thread Cert.SmallEarlyRefIdeal.nD Cert.SmallEarlyRefIdeal.τ).loc Cert.SmallEarlyRefIdeal.main_arg30) = m ((c.tc : Thread Cert.SmallEarlyIdeal.nD Cert.SmallEarlyIdeal.τ).loc Cert.SmallEarlyIdeal.main_arg30)
      ∧ m' ((c.tc : Thread Cert.SmallEarlyRefIdeal.nD Cert.SmallEarlyRefIdeal.τ).loc Cert.SmallEarlyRefIdeal.main_arg31) = m ((c.tc : Thread Cert.SmallEarlyIdeal.nD Cert.SmallEarlyIdeal.τ).loc Cert.SmallEarlyIdeal.main_arg31)
      ∧ m' ((c.tc : Thread Cert.SmallEarlyRefIdeal.nD Cert.SmallEarlyRefIdeal.τ).loc Cert.SmallEarlyRefIdeal.main_arg32) = m ((c.tc : Thread Cert.SmallEarlyIdeal.nD Cert.SmallEarlyIdeal.τ).loc Cert.SmallEarlyIdeal.main_arg32)
      ∧ m' ((c.tc : Thread Cert.SmallEarlyRefIdeal.nD Cert.SmallEarlyRefIdeal.τ).loc Cert.SmallEarlyRefIdeal.main_arg33) = m ((c.tc : Thread Cert.SmallEarlyIdeal.nD Cert.SmallEarlyIdeal.τ).loc Cert.SmallEarlyIdeal.main_arg33)
      ∧ m' ((c.tc : Thread Cert.SmallEarlyRefIdeal.nD Cert.SmallEarlyRefIdeal.τ).loc Cert.SmallEarlyRefIdeal.main_arg34) = m ((c.tc : Thread Cert.SmallEarlyIdeal.nD Cert.SmallEarlyIdeal.τ).loc Cert.SmallEarlyIdeal.main_arg34)
      ∧ m' ((c.tc : Thread Cert.SmallEarlyRefIdeal.nD Cert.SmallEarlyRefIdeal.τ).loc Cert.SmallEarlyRefIdeal.main_arg35) = m ((c.tc : Thread Cert.SmallEarlyIdeal.nD Cert.SmallEarlyIdeal.τ).loc Cert.SmallEarlyIdeal.main_arg35)) →
    ∃ (v0 : (c : Dev Cert.SmallEarlyIdeal.nD) → Buf (Elt Ideal) ((c.tc : Thread Cert.SmallEarlyIdeal.nD Cert.SmallEarlyIdeal.τ).loc Cert.SmallEarlyIdeal.main_v121)) (v1 : (c : Dev Cert.SmallEarlyIdeal.nD) → Buf (Elt Ideal) ((c.tc : Thread Cert.SmallEarlyIdeal.nD Cert.SmallEarlyIdeal.τ).loc Cert.SmallEarlyIdeal.main_v152)) (v2 : (c : Dev Cert.SmallEarlyIdeal.nD) → Buf (Elt Ideal) ((c.tc : Thread Cert.SmallEarlyIdeal.nD Cert.SmallEarlyIdeal.τ).loc Cert.SmallEarlyIdeal.main_v183)) (v3 : (c : Dev Cert.SmallEarlyIdeal.nD) → Buf (Elt Ideal) ((c.tc : Thread Cert.SmallEarlyIdeal.nD Cert.SmallEarlyIdeal.τ).loc Cert.SmallEarlyIdeal.main_v214)) (v4 : (c : Dev Cert.SmallEarlyIdeal.nD) → Buf (Elt Ideal) ((c.tc : Thread Cert.SmallEarlyIdeal.nD Cert.SmallEarlyIdeal.τ).loc Cert.SmallEarlyIdeal.main_v125)) (v5 : (c : Dev Cert.SmallEarlyIdeal.nD) → Buf (Elt Ideal) ((c.tc : Thread Cert.SmallEarlyIdeal.nD Cert.SmallEarlyIdeal.τ).loc Cert.SmallEarlyIdeal.main_v156)) (v6 : (c : Dev Cert.SmallEarlyIdeal.nD) → Buf (Elt Ideal) ((c.tc : Thread Cert.SmallEarlyIdeal.nD Cert.SmallEarlyIdeal.τ).loc Cert.SmallEarlyIdeal.main_v187)) (v7 : (c : Dev Cert.SmallEarlyIdeal.nD) → Buf (Elt Ideal) ((c.tc : Thread Cert.SmallEarlyIdeal.nD Cert.SmallEarlyIdeal.τ).loc Cert.SmallEarlyIdeal.main_v218)) (v8 : (c : Dev Cert.SmallEarlyIdeal.nD) → Buf (Elt Ideal) ((c.tc : Thread Cert.SmallEarlyIdeal.nD Cert.SmallEarlyIdeal.τ).loc Cert.SmallEarlyIdeal.main_v128)) (v9 : (c : Dev Cert.SmallEarlyIdeal.nD) → Buf (Elt Ideal) ((c.tc : Thread Cert.SmallEarlyIdeal.nD Cert.SmallEarlyIdeal.τ).loc Cert.SmallEarlyIdeal.main_v159)) (v10 : (c : Dev Cert.SmallEarlyIdeal.nD) → Buf (Elt Ideal) ((c.tc : Thread Cert.SmallEarlyIdeal.nD Cert.SmallEarlyIdeal.τ).loc Cert.SmallEarlyIdeal.main_v190)) (v11 : (c : Dev Cert.SmallEarlyIdeal.nD) → Buf (Elt Ideal) ((c.tc : Thread Cert.SmallEarlyIdeal.nD Cert.SmallEarlyIdeal.τ).loc Cert.SmallEarlyIdeal.main_v221)) (v12 : (c : Dev Cert.SmallEarlyIdeal.nD) → Buf (Elt Ideal) ((c.tc : Thread Cert.SmallEarlyIdeal.nD Cert.SmallEarlyIdeal.τ).loc Cert.SmallEarlyIdeal.main_v132)) (v13 : (c : Dev Cert.SmallEarlyIdeal.nD) → Buf (Elt Ideal) ((c.tc : Thread Cert.SmallEarlyIdeal.nD Cert.SmallEarlyIdeal.τ).loc Cert.SmallEarlyIdeal.main_v163)) (v14 : (c : Dev Cert.SmallEarlyIdeal.nD) → Buf (Elt Ideal) ((c.tc : Thread Cert.SmallEarlyIdeal.nD Cert.SmallEarlyIdeal.τ).loc Cert.SmallEarlyIdeal.main_v194)) (v15 : (c : Dev Cert.SmallEarlyIdeal.nD) → Buf (Elt Ideal) ((c.tc : Thread Cert.SmallEarlyIdeal.nD Cert.SmallEarlyIdeal.τ).loc Cert.SmallEarlyIdeal.main_v225)) (v16 : (c : Dev Cert.SmallEarlyIdeal.nD) → Buf (Elt Ideal) ((c.tc : Thread Cert.SmallEarlyIdeal.nD Cert.SmallEarlyIdeal.τ).loc Cert.SmallEarlyIdeal.main_v136)) (v17 : (c : Dev Cert.SmallEarlyIdeal.nD) → Buf (Elt Ideal) ((c.tc : Thread Cert.SmallEarlyIdeal.nD Cert.SmallEarlyIdeal.τ).loc Cert.SmallEarlyIdeal.main_v167)) (v18 : (c : Dev Cert.SmallEarlyIdeal.nD) → Buf (Elt Ideal) ((c.tc : Thread Cert.SmallEarlyIdeal.nD Cert.SmallEarlyIdeal.τ).loc Cert.SmallEarlyIdeal.main_v198)) (v19 : (c : Dev Cert.SmallEarlyIdeal.nD) → Buf (Elt Ideal) ((c.tc : Thread Cert.SmallEarlyIdeal.nD Cert.SmallEarlyIdeal.τ).loc Cert.SmallEarlyIdeal.main_v229)) (v20 : (c : Dev Cert.SmallEarlyIdeal.nD) → Buf (Elt Ideal) ((c.tc : Thread Cert.SmallEarlyIdeal.nD Cert.SmallEarlyIdeal.τ).loc Cert.SmallEarlyIdeal.main_v139)) (v21 : (c : Dev Cert.SmallEarlyIdeal.nD) → Buf (Elt Ideal) ((c.tc : Thread Cert.SmallEarlyIdeal.nD Cert.SmallEarlyIdeal.τ).loc Cert.SmallEarlyIdeal.main_v170)) (v22 : (c : Dev Cert.SmallEarlyIdeal.nD) → Buf (Elt Ideal) ((c.tc : Thread Cert.SmallEarlyIdeal.nD Cert.SmallEarlyIdeal.τ).loc Cert.SmallEarlyIdeal.main_v201)) (v23 : (c : Dev Cert.SmallEarlyIdeal.nD) → Buf (Elt Ideal) ((c.tc : Thread Cert.SmallEarlyIdeal.nD Cert.SmallEarlyIdeal.τ).loc Cert.SmallEarlyIdeal.main_v232)) (v24 : (c : Dev Cert.SmallEarlyIdeal.nD) → Buf (Elt Ideal) ((c.tc : Thread Cert.SmallEarlyIdeal.nD Cert.SmallEarlyIdeal.τ).loc Cert.SmallEarlyIdeal.main_v142)) (v25 : (c : Dev Cert.SmallEarlyIdeal.nD) → Buf (Elt Ideal) ((c.tc : Thread Cert.SmallEarlyIdeal.nD Cert.SmallEarlyIdeal.τ).loc Cert.SmallEarlyIdeal.main_v173)) (v26 : (c : Dev Cert.SmallEarlyIdeal.nD) → Buf (Elt Ideal) ((c.tc : Thread Cert.SmallEarlyIdeal.nD Cert.SmallEarlyIdeal.τ).loc Cert.SmallEarlyIdeal.main_v204)) (v27 : (c : Dev Cert.SmallEarlyIdeal.nD) → Buf (Elt Ideal) ((c.tc : Thread Cert.SmallEarlyIdeal.nD Cert.SmallEarlyIdeal.τ).loc Cert.SmallEarlyIdeal.main_v235)) (v28 : (c : Dev Cert.SmallEarlyIdeal.nD) → Buf (Elt Ideal) ((c.tc : Thread Cert.SmallEarlyIdeal.nD Cert.SmallEarlyIdeal.τ).loc Cert.SmallEarlyIdeal.main_v145)) (v29 : (c : Dev Cert.SmallEarlyIdeal.nD) → Buf (Elt Ideal) ((c.tc : Thread Cert.SmallEarlyIdeal.nD Cert.SmallEarlyIdeal.τ).loc Cert.SmallEarlyIdeal.main_v176)) (v30 : (c : Dev Cert.SmallEarlyIdeal.nD) → Buf (Elt Ideal) ((c.tc : Thread Cert.SmallEarlyIdeal.nD Cert.SmallEarlyIdeal.τ).loc Cert.SmallEarlyIdeal.main_v207)) (v31 : (c : Dev Cert.SmallEarlyIdeal.nD) → Buf (Elt Ideal) ((c.tc : Thread Cert.SmallEarlyIdeal.nD Cert.SmallEarlyIdeal.τ).loc Cert.SmallEarlyIdeal.main_v238)) (v32 : (c : Dev Cert.SmallEarlyIdeal.nD) → Buf (Elt Ideal) ((c.tc : Thread Cert.SmallEarlyIdeal.nD Cert.SmallEarlyIdeal.τ).loc Cert.SmallEarlyIdeal.main_v148)) (v33 : (c : Dev Cert.SmallEarlyIdeal.nD) → Buf (Elt Ideal) ((c.tc : Thread Cert.SmallEarlyIdeal.nD Cert.SmallEarlyIdeal.τ).loc Cert.SmallEarlyIdeal.main_v179)) (v34 : (c : Dev Cert.SmallEarlyIdeal.nD) → Buf (Elt Ideal) ((c.tc : Thread Cert.SmallEarlyIdeal.nD Cert.SmallEarlyIdeal.τ).loc Cert.SmallEarlyIdeal.main_v210)) (v35 : (c : Dev Cert.SmallEarlyIdeal.nD) → Buf (Elt Ideal) ((c.tc : Thread Cert.SmallEarlyIdeal.nD Cert.SmallEarlyIdeal.τ).loc Cert.SmallEarlyIdeal.main_v241)),
      θ_run (Cert.SmallEarlyIdeal.defs (F := Ideal)) (onTc (τ := Cert.SmallEarlyIdeal.τ) (Cert.SmallEarlyIdeal.main (F := Ideal))) ⟨m, fun _ => 0, g⟩ (fun r => ∀ c : Dev Cert.SmallEarlyIdeal.nD,
          r.2.mem ((c.tc : Thread Cert.SmallEarlyIdeal.nD Cert.SmallEarlyIdeal.τ).loc Cert.SmallEarlyIdeal.main_v121) = v0 c
          ∧ r.2.mem ((c.tc : Thread Cert.SmallEarlyIdeal.nD Cert.SmallEarlyIdeal.τ).loc Cert.SmallEarlyIdeal.main_v152) = v1 c
          ∧ r.2.mem ((c.tc : Thread Cert.SmallEarlyIdeal.nD Cert.SmallEarlyIdeal.τ).loc Cert.SmallEarlyIdeal.main_v183) = v2 c
          ∧ r.2.mem ((c.tc : Thread Cert.SmallEarlyIdeal.nD Cert.SmallEarlyIdeal.τ).loc Cert.SmallEarlyIdeal.main_v214) = v3 c
          ∧ r.2.mem ((c.tc : Thread Cert.SmallEarlyIdeal.nD Cert.SmallEarlyIdeal.τ).loc Cert.SmallEarlyIdeal.main_v125) = v4 c
          ∧ r.2.mem ((c.tc : Thread Cert.SmallEarlyIdeal.nD Cert.SmallEarlyIdeal.τ).loc Cert.SmallEarlyIdeal.main_v156) = v5 c
          ∧ r.2.mem ((c.tc : Thread Cert.SmallEarlyIdeal.nD Cert.SmallEarlyIdeal.τ).loc Cert.SmallEarlyIdeal.main_v187) = v6 c
          ∧ r.2.mem ((c.tc : Thread Cert.SmallEarlyIdeal.nD Cert.SmallEarlyIdeal.τ).loc Cert.SmallEarlyIdeal.main_v218) = v7 c
          ∧ r.2.mem ((c.tc : Thread Cert.SmallEarlyIdeal.nD Cert.SmallEarlyIdeal.τ).loc Cert.SmallEarlyIdeal.main_v128) = v8 c
          ∧ r.2.mem ((c.tc : Thread Cert.SmallEarlyIdeal.nD Cert.SmallEarlyIdeal.τ).loc Cert.SmallEarlyIdeal.main_v159) = v9 c
          ∧ r.2.mem ((c.tc : Thread Cert.SmallEarlyIdeal.nD Cert.SmallEarlyIdeal.τ).loc Cert.SmallEarlyIdeal.main_v190) = v10 c
          ∧ r.2.mem ((c.tc : Thread Cert.SmallEarlyIdeal.nD Cert.SmallEarlyIdeal.τ).loc Cert.SmallEarlyIdeal.main_v221) = v11 c
          ∧ r.2.mem ((c.tc : Thread Cert.SmallEarlyIdeal.nD Cert.SmallEarlyIdeal.τ).loc Cert.SmallEarlyIdeal.main_v132) = v12 c
          ∧ r.2.mem ((c.tc : Thread Cert.SmallEarlyIdeal.nD Cert.SmallEarlyIdeal.τ).loc Cert.SmallEarlyIdeal.main_v163) = v13 c
          ∧ r.2.mem ((c.tc : Thread Cert.SmallEarlyIdeal.nD Cert.SmallEarlyIdeal.τ).loc Cert.SmallEarlyIdeal.main_v194) = v14 c
          ∧ r.2.mem ((c.tc : Thread Cert.SmallEarlyIdeal.nD Cert.SmallEarlyIdeal.τ).loc Cert.SmallEarlyIdeal.main_v225) = v15 c
          ∧ r.2.mem ((c.tc : Thread Cert.SmallEarlyIdeal.nD Cert.SmallEarlyIdeal.τ).loc Cert.SmallEarlyIdeal.main_v136) = v16 c
          ∧ r.2.mem ((c.tc : Thread Cert.SmallEarlyIdeal.nD Cert.SmallEarlyIdeal.τ).loc Cert.SmallEarlyIdeal.main_v167) = v17 c
          ∧ r.2.mem ((c.tc : Thread Cert.SmallEarlyIdeal.nD Cert.SmallEarlyIdeal.τ).loc Cert.SmallEarlyIdeal.main_v198) = v18 c
          ∧ r.2.mem ((c.tc : Thread Cert.SmallEarlyIdeal.nD Cert.SmallEarlyIdeal.τ).loc Cert.SmallEarlyIdeal.main_v229) = v19 c
          ∧ r.2.mem ((c.tc : Thread Cert.SmallEarlyIdeal.nD Cert.SmallEarlyIdeal.τ).loc Cert.SmallEarlyIdeal.main_v139) = v20 c
          ∧ r.2.mem ((c.tc : Thread Cert.SmallEarlyIdeal.nD Cert.SmallEarlyIdeal.τ).loc Cert.SmallEarlyIdeal.main_v170) = v21 c
          ∧ r.2.mem ((c.tc : Thread Cert.SmallEarlyIdeal.nD Cert.SmallEarlyIdeal.τ).loc Cert.SmallEarlyIdeal.main_v201) = v22 c
          ∧ r.2.mem ((c.tc : Thread Cert.SmallEarlyIdeal.nD Cert.SmallEarlyIdeal.τ).loc Cert.SmallEarlyIdeal.main_v232) = v23 c
          ∧ r.2.mem ((c.tc : Thread Cert.SmallEarlyIdeal.nD Cert.SmallEarlyIdeal.τ).loc Cert.SmallEarlyIdeal.main_v142) = v24 c
          ∧ r.2.mem ((c.tc : Thread Cert.SmallEarlyIdeal.nD Cert.SmallEarlyIdeal.τ).loc Cert.SmallEarlyIdeal.main_v173) = v25 c
          ∧ r.2.mem ((c.tc : Thread Cert.SmallEarlyIdeal.nD Cert.SmallEarlyIdeal.τ).loc Cert.SmallEarlyIdeal.main_v204) = v26 c
          ∧ r.2.mem ((c.tc : Thread Cert.SmallEarlyIdeal.nD Cert.SmallEarlyIdeal.τ).loc Cert.SmallEarlyIdeal.main_v235) = v27 c
          ∧ r.2.mem ((c.tc : Thread Cert.SmallEarlyIdeal.nD Cert.SmallEarlyIdeal.τ).loc Cert.SmallEarlyIdeal.main_v145) = v28 c
          ∧ r.2.mem ((c.tc : Thread Cert.SmallEarlyIdeal.nD Cert.SmallEarlyIdeal.τ).loc Cert.SmallEarlyIdeal.main_v176) = v29 c
          ∧ r.2.mem ((c.tc : Thread Cert.SmallEarlyIdeal.nD Cert.SmallEarlyIdeal.τ).loc Cert.SmallEarlyIdeal.main_v207) = v30 c
          ∧ r.2.mem ((c.tc : Thread Cert.SmallEarlyIdeal.nD Cert.SmallEarlyIdeal.τ).loc Cert.SmallEarlyIdeal.main_v238) = v31 c
          ∧ r.2.mem ((c.tc : Thread Cert.SmallEarlyIdeal.nD Cert.SmallEarlyIdeal.τ).loc Cert.SmallEarlyIdeal.main_v148) = v32 c
          ∧ r.2.mem ((c.tc : Thread Cert.SmallEarlyIdeal.nD Cert.SmallEarlyIdeal.τ).loc Cert.SmallEarlyIdeal.main_v179) = v33 c
          ∧ r.2.mem ((c.tc : Thread Cert.SmallEarlyIdeal.nD Cert.SmallEarlyIdeal.τ).loc Cert.SmallEarlyIdeal.main_v210) = v34 c
          ∧ r.2.mem ((c.tc : Thread Cert.SmallEarlyIdeal.nD Cert.SmallEarlyIdeal.τ).loc Cert.SmallEarlyIdeal.main_v241) = v35 c
          ∧ r.2.mem ((c.tc : Thread Cert.SmallEarlyIdeal.nD Cert.SmallEarlyIdeal.τ).loc Cert.SmallEarlyIdeal.main_arg0) = m ((c.tc : Thread Cert.SmallEarlyIdeal.nD Cert.SmallEarlyIdeal.τ).loc Cert.SmallEarlyIdeal.main_arg0)
          ∧ r.2.mem ((c.tc : Thread Cert.SmallEarlyIdeal.nD Cert.SmallEarlyIdeal.τ).loc Cert.SmallEarlyIdeal.main_arg1) = m ((c.tc : Thread Cert.SmallEarlyIdeal.nD Cert.SmallEarlyIdeal.τ).loc Cert.SmallEarlyIdeal.main_arg1)
          ∧ r.2.mem ((c.tc : Thread Cert.SmallEarlyIdeal.nD Cert.SmallEarlyIdeal.τ).loc Cert.SmallEarlyIdeal.main_arg2) = m ((c.tc : Thread Cert.SmallEarlyIdeal.nD Cert.SmallEarlyIdeal.τ).loc Cert.SmallEarlyIdeal.main_arg2)
          ∧ r.2.mem ((c.tc : Thread Cert.SmallEarlyIdeal.nD Cert.SmallEarlyIdeal.τ).loc Cert.SmallEarlyIdeal.main_arg3) = m ((c.tc : Thread Cert.SmallEarlyIdeal.nD Cert.SmallEarlyIdeal.τ).loc Cert.SmallEarlyIdeal.main_arg3)
          ∧ r.2.mem ((c.tc : Thread Cert.SmallEarlyIdeal.nD Cert.SmallEarlyIdeal.τ).loc Cert.SmallEarlyIdeal.main_arg4) = m ((c.tc : Thread Cert.SmallEarlyIdeal.nD Cert.SmallEarlyIdeal.τ).loc Cert.SmallEarlyIdeal.main_arg4)
          ∧ r.2.mem ((c.tc : Thread Cert.SmallEarlyIdeal.nD Cert.SmallEarlyIdeal.τ).loc Cert.SmallEarlyIdeal.main_arg5) = m ((c.tc : Thread Cert.SmallEarlyIdeal.nD Cert.SmallEarlyIdeal.τ).loc Cert.SmallEarlyIdeal.main_arg5)
          ∧ r.2.mem ((c.tc : Thread Cert.SmallEarlyIdeal.nD Cert.SmallEarlyIdeal.τ).loc Cert.SmallEarlyIdeal.main_arg6) = m ((c.tc : Thread Cert.SmallEarlyIdeal.nD Cert.SmallEarlyIdeal.τ).loc Cert.SmallEarlyIdeal.main_arg6)
          ∧ r.2.mem ((c.tc : Thread Cert.SmallEarlyIdeal.nD Cert.SmallEarlyIdeal.τ).loc Cert.SmallEarlyIdeal.main_arg7) = m ((c.tc : Thread Cert.SmallEarlyIdeal.nD Cert.SmallEarlyIdeal.τ).loc Cert.SmallEarlyIdeal.main_arg7)
          ∧ r.2.mem ((c.tc : Thread Cert.SmallEarlyIdeal.nD Cert.SmallEarlyIdeal.τ).loc Cert.SmallEarlyIdeal.main_arg8) = m ((c.tc : Thread Cert.SmallEarlyIdeal.nD Cert.SmallEarlyIdeal.τ).loc Cert.SmallEarlyIdeal.main_arg8)
          ∧ r.2.mem ((c.tc : Thread Cert.SmallEarlyIdeal.nD Cert.SmallEarlyIdeal.τ).loc Cert.SmallEarlyIdeal.main_arg9) = m ((c.tc : Thread Cert.SmallEarlyIdeal.nD Cert.SmallEarlyIdeal.τ).loc Cert.SmallEarlyIdeal.main_arg9)
          ∧ r.2.mem ((c.tc : Thread Cert.SmallEarlyIdeal.nD Cert.SmallEarlyIdeal.τ).loc Cert.SmallEarlyIdeal.main_arg10) = m ((c.tc : Thread Cert.SmallEarlyIdeal.nD Cert.SmallEarlyIdeal.τ).loc Cert.SmallEarlyIdeal.main_arg10)
          ∧ r.2.mem ((c.tc : Thread Cert.SmallEarlyIdeal.nD Cert.SmallEarlyIdeal.τ).loc Cert.SmallEarlyIdeal.main_arg11) = m ((c.tc : Thread Cert.SmallEarlyIdeal.nD Cert.SmallEarlyIdeal.τ).loc Cert.SmallEarlyIdeal.main_arg11)
          ∧ r.2.mem ((c.tc : Thread Cert.SmallEarlyIdeal.nD Cert.SmallEarlyIdeal.τ).loc Cert.SmallEarlyIdeal.main_arg12) = m ((c.tc : Thread Cert.SmallEarlyIdeal.nD Cert.SmallEarlyIdeal.τ).loc Cert.SmallEarlyIdeal.main_arg12)
          ∧ r.2.mem ((c.tc : Thread Cert.SmallEarlyIdeal.nD Cert.SmallEarlyIdeal.τ).loc Cert.SmallEarlyIdeal.main_arg13) = m ((c.tc : Thread Cert.SmallEarlyIdeal.nD Cert.SmallEarlyIdeal.τ).loc Cert.SmallEarlyIdeal.main_arg13)
          ∧ r.2.mem ((c.tc : Thread Cert.SmallEarlyIdeal.nD Cert.SmallEarlyIdeal.τ).loc Cert.SmallEarlyIdeal.main_arg14) = m ((c.tc : Thread Cert.SmallEarlyIdeal.nD Cert.SmallEarlyIdeal.τ).loc Cert.SmallEarlyIdeal.main_arg14)
          ∧ r.2.mem ((c.tc : Thread Cert.SmallEarlyIdeal.nD Cert.SmallEarlyIdeal.τ).loc Cert.SmallEarlyIdeal.main_arg15) = m ((c.tc : Thread Cert.SmallEarlyIdeal.nD Cert.SmallEarlyIdeal.τ).loc Cert.SmallEarlyIdeal.main_arg15)
          ∧ r.2.mem ((c.tc : Thread Cert.SmallEarlyIdeal.nD Cert.SmallEarlyIdeal.τ).loc Cert.SmallEarlyIdeal.main_arg16) = m ((c.tc : Thread Cert.SmallEarlyIdeal.nD Cert.SmallEarlyIdeal.τ).loc Cert.SmallEarlyIdeal.main_arg16)
          ∧ r.2.mem ((c.tc : Thread Cert.SmallEarlyIdeal.nD Cert.SmallEarlyIdeal.τ).loc Cert.SmallEarlyIdeal.main_arg17) = m ((c.tc : Thread Cert.SmallEarlyIdeal.nD Cert.SmallEarlyIdeal.τ).loc Cert.SmallEarlyIdeal.main_arg17)
          ∧ r.2.mem ((c.tc : Thread Cert.SmallEarlyIdeal.nD Cert.SmallEarlyIdeal.τ).loc Cert.SmallEarlyIdeal.main_arg18) = m ((c.tc : Thread Cert.SmallEarlyIdeal.nD Cert.SmallEarlyIdeal.τ).loc Cert.SmallEarlyIdeal.main_arg18)
          ∧ r.2.mem ((c.tc : Thread Cert.SmallEarlyIdeal.nD Cert.SmallEarlyIdeal.τ).loc Cert.SmallEarlyIdeal.main_arg19) = m ((c.tc : Thread Cert.SmallEarlyIdeal.nD Cert.SmallEarlyIdeal.τ).loc Cert.SmallEarlyIdeal.main_arg19)
          ∧ r.2.mem ((c.tc : Thread Cert.SmallEarlyIdeal.nD Cert.SmallEarlyIdeal.τ).loc Cert.SmallEarlyIdeal.main_arg20) = m ((c.tc : Thread Cert.SmallEarlyIdeal.nD Cert.SmallEarlyIdeal.τ).loc Cert.SmallEarlyIdeal.main_arg20)
          ∧ r.2.mem ((c.tc : Thread Cert.SmallEarlyIdeal.nD Cert.SmallEarlyIdeal.τ).loc Cert.SmallEarlyIdeal.main_arg21) = m ((c.tc : Thread Cert.SmallEarlyIdeal.nD Cert.SmallEarlyIdeal.τ).loc Cert.SmallEarlyIdeal.main_arg21)
          ∧ r.2.mem ((c.tc : Thread Cert.SmallEarlyIdeal.nD Cert.SmallEarlyIdeal.τ).loc Cert.SmallEarlyIdeal.main_arg22) = m ((c.tc : Thread Cert.SmallEarlyIdeal.nD Cert.SmallEarlyIdeal.τ).loc Cert.SmallEarlyIdeal.main_arg22)
          ∧ r.2.mem ((c.tc : Thread Cert.SmallEarlyIdeal.nD Cert.SmallEarlyIdeal.τ).loc Cert.SmallEarlyIdeal.main_arg23) = m ((c.tc : Thread Cert.SmallEarlyIdeal.nD Cert.SmallEarlyIdeal.τ).loc Cert.SmallEarlyIdeal.main_arg23)
          ∧ r.2.mem ((c.tc : Thread Cert.SmallEarlyIdeal.nD Cert.SmallEarlyIdeal.τ).loc Cert.SmallEarlyIdeal.main_arg24) = m ((c.tc : Thread Cert.SmallEarlyIdeal.nD Cert.SmallEarlyIdeal.τ).loc Cert.SmallEarlyIdeal.main_arg24)
          ∧ r.2.mem ((c.tc : Thread Cert.SmallEarlyIdeal.nD Cert.SmallEarlyIdeal.τ).loc Cert.SmallEarlyIdeal.main_arg25) = m ((c.tc : Thread Cert.SmallEarlyIdeal.nD Cert.SmallEarlyIdeal.τ).loc Cert.SmallEarlyIdeal.main_arg25)
          ∧ r.2.mem ((c.tc : Thread Cert.SmallEarlyIdeal.nD Cert.SmallEarlyIdeal.τ).loc Cert.SmallEarlyIdeal.main_arg26) = m ((c.tc : Thread Cert.SmallEarlyIdeal.nD Cert.SmallEarlyIdeal.τ).loc Cert.SmallEarlyIdeal.main_arg26)
          ∧ r.2.mem ((c.tc : Thread Cert.SmallEarlyIdeal.nD Cert.SmallEarlyIdeal.τ).loc Cert.SmallEarlyIdeal.main_arg27) = m ((c.tc : Thread Cert.SmallEarlyIdeal.nD Cert.SmallEarlyIdeal.τ).loc Cert.SmallEarlyIdeal.main_arg27)
          ∧ r.2.mem ((c.tc : Thread Cert.SmallEarlyIdeal.nD Cert.SmallEarlyIdeal.τ).loc Cert.SmallEarlyIdeal.main_arg28) = m ((c.tc : Thread Cert.SmallEarlyIdeal.nD Cert.SmallEarlyIdeal.τ).loc Cert.SmallEarlyIdeal.main_arg28)
          ∧ r.2.mem ((c.tc : Thread Cert.SmallEarlyIdeal.nD Cert.SmallEarlyIdeal.τ).loc Cert.SmallEarlyIdeal.main_arg29) = m ((c.tc : Thread Cert.SmallEarlyIdeal.nD Cert.SmallEarlyIdeal.τ).loc Cert.SmallEarlyIdeal.main_arg29)
          ∧ r.2.mem ((c.tc : Thread Cert.SmallEarlyIdeal.nD Cert.SmallEarlyIdeal.τ).loc Cert.SmallEarlyIdeal.main_arg30) = m ((c.tc : Thread Cert.SmallEarlyIdeal.nD Cert.SmallEarlyIdeal.τ).loc Cert.SmallEarlyIdeal.main_arg30)
          ∧ r.2.mem ((c.tc : Thread Cert.SmallEarlyIdeal.nD Cert.SmallEarlyIdeal.τ).loc Cert.SmallEarlyIdeal.main_arg31) = m ((c.tc : Thread Cert.SmallEarlyIdeal.nD Cert.SmallEarlyIdeal.τ).loc Cert.SmallEarlyIdeal.main_arg31)
          ∧ r.2.mem ((c.tc : Thread Cert.SmallEarlyIdeal.nD Cert.SmallEarlyIdeal.τ).loc Cert.SmallEarlyIdeal.main_arg32) = m ((c.tc : Thread Cert.SmallEarlyIdeal.nD Cert.SmallEarlyIdeal.τ).loc Cert.SmallEarlyIdeal.main_arg32)
          ∧ r.2.mem ((c.tc : Thread Cert.SmallEarlyIdeal.nD Cert.SmallEarlyIdeal.τ).loc Cert.SmallEarlyIdeal.main_arg33) = m ((c.tc : Thread Cert.SmallEarlyIdeal.nD Cert.SmallEarlyIdeal.τ).loc Cert.SmallEarlyIdeal.main_arg33)
          ∧ r.2.mem ((c.tc : Thread Cert.SmallEarlyIdeal.nD Cert.SmallEarlyIdeal.τ).loc Cert.SmallEarlyIdeal.main_arg34) = m ((c.tc : Thread Cert.SmallEarlyIdeal.nD Cert.SmallEarlyIdeal.τ).loc Cert.SmallEarlyIdeal.main_arg34)
          ∧ r.2.mem ((c.tc : Thread Cert.SmallEarlyIdeal.nD Cert.SmallEarlyIdeal.τ).loc Cert.SmallEarlyIdeal.main_arg35) = m ((c.tc : Thread Cert.SmallEarlyIdeal.nD Cert.SmallEarlyIdeal.τ).loc Cert.SmallEarlyIdeal.main_arg35))
      ∧ θ_run (Cert.SmallEarlyRefIdeal.defs (F := Ideal)) (onTc (τ := Cert.SmallEarlyRefIdeal.τ) (Cert.SmallEarlyRefIdeal.main (F := Ideal))) ⟨m', fun _ => 0, g'⟩ (fun r => ∀ c : Dev Cert.SmallEarlyRefIdeal.nD,
          r.2.mem ((c.tc : Thread Cert.SmallEarlyRefIdeal.nD Cert.SmallEarlyRefIdeal.τ).loc Cert.SmallEarlyRefIdeal.main_v0) = v0 c
          ∧ r.2.mem ((c.tc : Thread Cert.SmallEarlyRefIdeal.nD Cert.SmallEarlyRefIdeal.τ).loc Cert.SmallEarlyRefIdeal.main_v24) = v1 c
          ∧ r.2.mem ((c.tc : Thread Cert.SmallEarlyRefIdeal.nD Cert.SmallEarlyRefIdeal.τ).loc Cert.SmallEarlyRefIdeal.main_v5) = v2 c
          ∧ r.2.mem ((c.tc : Thread Cert.SmallEarlyRefIdeal.nD Cert.SmallEarlyRefIdeal.τ).loc Cert.SmallEarlyRefIdeal.main_v11) = v3 c
          ∧ r.2.mem ((c.tc : Thread Cert.SmallEarlyRefIdeal.nD Cert.SmallEarlyRefIdeal.τ).loc Cert.SmallEarlyRefIdeal.main_v25) = v4 c
          ∧ r.2.mem ((c.tc : Thread Cert.SmallEarlyRefIdeal.nD Cert.SmallEarlyRefIdeal.τ).loc Cert.SmallEarlyRefIdeal.main_v49) = v5 c
          ∧ r.2.mem ((c.tc : Thread Cert.SmallEarlyRefIdeal.nD Cert.SmallEarlyRefIdeal.τ).loc Cert.SmallEarlyRefIdeal.main_v30) = v6 c
          ∧ r.2.mem ((c.tc : Thread Cert.SmallEarlyRefIdeal.nD Cert.SmallEarlyRefIdeal.τ).loc Cert.SmallEarlyRefIdeal.main_v36) = v7 c
          ∧ r.2.mem ((c.tc : Thread Cert.SmallEarlyRefIdeal.nD Cert.SmallEarlyRefIdeal.τ).loc Cert.SmallEarlyRefIdeal.main_v50) = v8 c
          ∧ r.2.mem ((c.tc : Thread Cert.SmallEarlyRefIdeal.nD Cert.SmallEarlyRefIdeal.τ).loc Cert.SmallEarlyRefIdeal.main_v74) = v9 c
          ∧ r.2.mem ((c.tc : Thread Cert.SmallEarlyRefIdeal.nD Cert.SmallEarlyRefIdeal.τ).loc Cert.SmallEarlyRefIdeal.main_v55) = v10 c
          ∧ r.2.mem ((c.tc : Thread Cert.SmallEarlyRefIdeal.nD Cert.SmallEarlyRefIdeal.τ).loc Cert.SmallEarlyRefIdeal.main_v61) = v11 c
          ∧ r.2.mem ((c.tc : Thread Cert.SmallEarlyRefIdeal.nD Cert.SmallEarlyRefIdeal.τ).loc Cert.SmallEarlyRefIdeal.main_v75) = v12 c
          ∧ r.2.mem ((c.tc : Thread Cert.SmallEarlyRefIdeal.nD Cert.SmallEarlyRefIdeal.τ).loc Cert.SmallEarlyRefIdeal.main_v99) = v13 c
          ∧ r.2.mem ((c.tc : Thread Cert.SmallEarlyRefIdeal.nD Cert.SmallEarlyRefIdeal.τ).loc Cert.SmallEarlyRefIdeal.main_v80) = v14 c
          ∧ r.2.mem ((c.tc : Thread Cert.SmallEarlyRefIdeal.nD Cert.SmallEarlyRefIdeal.τ).loc Cert.SmallEarlyRefIdeal.main_v86) = v15 c
          ∧ r.2.mem ((c.tc : Thread Cert.SmallEarlyRefIdeal.nD Cert.SmallEarlyRefIdeal.τ).loc Cert.SmallEarlyRefIdeal.main_v100) = v16 c
          ∧ r.2.mem ((c.tc : Thread Cert.SmallEarlyRefIdeal.nD Cert.SmallEarlyRefIdeal.τ).loc Cert.SmallEarlyRefIdeal.main_v124) = v17 c
          ∧ r.2.mem ((c.tc : Thread Cert.SmallEarlyRefIdeal.nD Cert.SmallEarlyRefIdeal.τ).loc Cert.SmallEarlyRefIdeal.main_v105) = v18 c
          ∧ r.2.mem ((c.tc : Thread Cert.SmallEarlyRefIdeal.nD Cert.SmallEarlyRefIdeal.τ).loc Cert.SmallEarlyRefIdeal.main_v111) = v19 c
          ∧ r.2.mem ((c.tc : Thread Cert.SmallEarlyRefIdeal.nD Cert.SmallEarlyRefIdeal.τ).loc Cert.SmallEarlyRefIdeal.main_v125) = v20 c
          ∧ r.2.mem ((c.tc : Thread Cert.SmallEarlyRefIdeal.nD Cert.SmallEarlyRefIdeal.τ).loc Cert.SmallEarlyRefIdeal.main_v149) = v21 c
          ∧ r.2.mem ((c.tc : Thread Cert.SmallEarlyRefIdeal.nD Cert.SmallEarlyRefIdeal.τ).loc Cert.SmallEarlyRefIdeal.main_v130) = v22 c
          ∧ r.2.mem ((c.tc : Thread Cert.SmallEarlyRefIdeal.nD Cert.SmallEarlyRefIdeal.τ).loc Cert.SmallEarlyRefIdeal.main_v136) = v23 c
          ∧ r.2.mem ((c.tc : Thread Cert.SmallEarlyRefIdeal.nD Cert.SmallEarlyRefIdeal.τ).loc Cert.SmallEarlyRefIdeal.main_v150) = v24 c
          ∧ r.2.mem ((c.tc : Thread Cert.SmallEarlyRefIdeal.nD Cert.SmallEarlyRefIdeal.τ).loc Cert.SmallEarlyRefIdeal.main_v174) = v25 c
          ∧ r.2.mem ((c.tc : Thread Cert.SmallEarlyRefIdeal.nD Cert.SmallEarlyRefIdeal.τ).loc Cert.SmallEarlyRefIdeal.main_v155) = v26 c
          ∧ r.2.mem ((c.tc : Thread Cert.SmallEarlyRefIdeal.nD Cert.SmallEarlyRefIdeal.τ).loc Cert.SmallEarlyRefIdeal.main_v161) = v27 c
          ∧ r.2.mem ((c.tc : Thread Cert.SmallEarlyRefIdeal.nD Cert.SmallEarlyRefIdeal.τ).loc Cert.SmallEarlyRefIdeal.main_v175) = v28 c
          ∧ r.2.mem ((c.tc : Thread Cert.SmallEarlyRefIdeal.nD Cert.SmallEarlyRefIdeal.τ).loc Cert.SmallEarlyRefIdeal.main_v199) = v29 c
          ∧ r.2.mem ((c.tc : Thread Cert.SmallEarlyRefIdeal.nD Cert.SmallEarlyRefIdeal.τ).loc Cert.SmallEarlyRefIdeal.main_v180) = v30 c
          ∧ r.2.mem ((c.tc : Thread Cert.SmallEarlyRefIdeal.nD Cert.SmallEarlyRefIdeal.τ).loc Cert.SmallEarlyRefIdeal.main_v186) = v31 c
          ∧ r.2.mem ((c.tc : Thread Cert.SmallEarlyRefIdeal.nD Cert.SmallEarlyRefIdeal.τ).loc Cert.SmallEarlyRefIdeal.main_v200) = v32 c
          ∧ r.2.mem ((c.tc : Thread Cert.SmallEarlyRefIdeal.nD Cert.SmallEarlyRefIdeal.τ).loc Cert.SmallEarlyRefIdeal.main_v224) = v33 c
          ∧ r.2.mem ((c.tc : Thread Cert.SmallEarlyRefIdeal.nD Cert.SmallEarlyRefIdeal.τ).loc Cert.SmallEarlyRefIdeal.main_v205) = v34 c
          ∧ r.2.mem ((c.tc : Thread Cert.SmallEarlyRefIdeal.nD Cert.SmallEarlyRefIdeal.τ).loc Cert.SmallEarlyRefIdeal.main_v211) = v35 c
          ∧ r.2.mem ((c.tc : Thread Cert.SmallEarlyRefIdeal.nD Cert.SmallEarlyRefIdeal.τ).loc Cert.SmallEarlyRefIdeal.main_arg0) = m' ((c.tc : Thread Cert.SmallEarlyRefIdeal.nD Cert.SmallEarlyRefIdeal.τ).loc Cert.SmallEarlyRefIdeal.main_arg0)
          ∧ r.2.mem ((c.tc : Thread Cert.SmallEarlyRefIdeal.nD Cert.SmallEarlyRefIdeal.τ).loc Cert.SmallEarlyRefIdeal.main_arg1) = m' ((c.tc : Thread Cert.SmallEarlyRefIdeal.nD Cert.SmallEarlyRefIdeal.τ).loc Cert.SmallEarlyRefIdeal.main_arg1)
          ∧ r.2.mem ((c.tc : Thread Cert.SmallEarlyRefIdeal.nD Cert.SmallEarlyRefIdeal.τ).loc Cert.SmallEarlyRefIdeal.main_arg2) = m' ((c.tc : Thread Cert.SmallEarlyRefIdeal.nD Cert.SmallEarlyRefIdeal.τ).loc Cert.SmallEarlyRefIdeal.main_arg2)
          ∧ r.2.mem ((c.tc : Thread Cert.SmallEarlyRefIdeal.nD Cert.SmallEarlyRefIdeal.τ).loc Cert.SmallEarlyRefIdeal.main_arg3) = m' ((c.tc : Thread Cert.SmallEarlyRefIdeal.nD Cert.SmallEarlyRefIdeal.τ).loc Cert.SmallEarlyRefIdeal.main_arg3)
          ∧ r.2.mem ((c.tc : Thread Cert.SmallEarlyRefIdeal.nD Cert.SmallEarlyRefIdeal.τ).loc Cert.SmallEarlyRefIdeal.main_arg4) = m' ((c.tc : Thread Cert.SmallEarlyRefIdeal.nD Cert.SmallEarlyRefIdeal.τ).loc Cert.SmallEarlyRefIdeal.main_arg4)
          ∧ r.2.mem ((c.tc : Thread Cert.SmallEarlyRefIdeal.nD Cert.SmallEarlyRefIdeal.τ).loc Cert.SmallEarlyRefIdeal.main_arg5) = m' ((c.tc : Thread Cert.SmallEarlyRefIdeal.nD Cert.SmallEarlyRefIdeal.τ).loc Cert.SmallEarlyRefIdeal.main_arg5)
          ∧ r.2.mem ((c.tc : Thread Cert.SmallEarlyRefIdeal.nD Cert.SmallEarlyRefIdeal.τ).loc Cert.SmallEarlyRefIdeal.main_arg6) = m' ((c.tc : Thread Cert.SmallEarlyRefIdeal.nD Cert.SmallEarlyRefIdeal.τ).loc Cert.SmallEarlyRefIdeal.main_arg6)
          ∧ r.2.mem ((c.tc : Thread Cert.SmallEarlyRefIdeal.nD Cert.SmallEarlyRefIdeal.τ).loc Cert.SmallEarlyRefIdeal.main_arg7) = m' ((c.tc : Thread Cert.SmallEarlyRefIdeal.nD Cert.SmallEarlyRefIdeal.τ).loc Cert.SmallEarlyRefIdeal.main_arg7)
          ∧ r.2.mem ((c.tc : Thread Cert.SmallEarlyRefIdeal.nD Cert.SmallEarlyRefIdeal.τ).loc Cert.SmallEarlyRefIdeal.main_arg8) = m' ((c.tc : Thread Cert.SmallEarlyRefIdeal.nD Cert.SmallEarlyRefIdeal.τ).loc Cert.SmallEarlyRefIdeal.main_arg8)
          ∧ r.2.mem ((c.tc : Thread Cert.SmallEarlyRefIdeal.nD Cert.SmallEarlyRefIdeal.τ).loc Cert.SmallEarlyRefIdeal.main_arg9) = m' ((c.tc : Thread Cert.SmallEarlyRefIdeal.nD Cert.SmallEarlyRefIdeal.τ).loc Cert.SmallEarlyRefIdeal.main_arg9)
          ∧ r.2.mem ((c.tc : Thread Cert.SmallEarlyRefIdeal.nD Cert.SmallEarlyRefIdeal.τ).loc Cert.SmallEarlyRefIdeal.main_arg10) = m' ((c.tc : Thread Cert.SmallEarlyRefIdeal.nD Cert.SmallEarlyRefIdeal.τ).loc Cert.SmallEarlyRefIdeal.main_arg10)
          ∧ r.2.mem ((c.tc : Thread Cert.SmallEarlyRefIdeal.nD Cert.SmallEarlyRefIdeal.τ).loc Cert.SmallEarlyRefIdeal.main_arg11) = m' ((c.tc : Thread Cert.SmallEarlyRefIdeal.nD Cert.SmallEarlyRefIdeal.τ).loc Cert.SmallEarlyRefIdeal.main_arg11)
          ∧ r.2.mem ((c.tc : Thread Cert.SmallEarlyRefIdeal.nD Cert.SmallEarlyRefIdeal.τ).loc Cert.SmallEarlyRefIdeal.main_arg12) = m' ((c.tc : Thread Cert.SmallEarlyRefIdeal.nD Cert.SmallEarlyRefIdeal.τ).loc Cert.SmallEarlyRefIdeal.main_arg12)
          ∧ r.2.mem ((c.tc : Thread Cert.SmallEarlyRefIdeal.nD Cert.SmallEarlyRefIdeal.τ).loc Cert.SmallEarlyRefIdeal.main_arg13) = m' ((c.tc : Thread Cert.SmallEarlyRefIdeal.nD Cert.SmallEarlyRefIdeal.τ).loc Cert.SmallEarlyRefIdeal.main_arg13)
          ∧ r.2.mem ((c.tc : Thread Cert.SmallEarlyRefIdeal.nD Cert.SmallEarlyRefIdeal.τ).loc Cert.SmallEarlyRefIdeal.main_arg14) = m' ((c.tc : Thread Cert.SmallEarlyRefIdeal.nD Cert.SmallEarlyRefIdeal.τ).loc Cert.SmallEarlyRefIdeal.main_arg14)
          ∧ r.2.mem ((c.tc : Thread Cert.SmallEarlyRefIdeal.nD Cert.SmallEarlyRefIdeal.τ).loc Cert.SmallEarlyRefIdeal.main_arg15) = m' ((c.tc : Thread Cert.SmallEarlyRefIdeal.nD Cert.SmallEarlyRefIdeal.τ).loc Cert.SmallEarlyRefIdeal.main_arg15)
          ∧ r.2.mem ((c.tc : Thread Cert.SmallEarlyRefIdeal.nD Cert.SmallEarlyRefIdeal.τ).loc Cert.SmallEarlyRefIdeal.main_arg16) = m' ((c.tc : Thread Cert.SmallEarlyRefIdeal.nD Cert.SmallEarlyRefIdeal.τ).loc Cert.SmallEarlyRefIdeal.main_arg16)
          ∧ r.2.mem ((c.tc : Thread Cert.SmallEarlyRefIdeal.nD Cert.SmallEarlyRefIdeal.τ).loc Cert.SmallEarlyRefIdeal.main_arg17) = m' ((c.tc : Thread Cert.SmallEarlyRefIdeal.nD Cert.SmallEarlyRefIdeal.τ).loc Cert.SmallEarlyRefIdeal.main_arg17)
          ∧ r.2.mem ((c.tc : Thread Cert.SmallEarlyRefIdeal.nD Cert.SmallEarlyRefIdeal.τ).loc Cert.SmallEarlyRefIdeal.main_arg18) = m' ((c.tc : Thread Cert.SmallEarlyRefIdeal.nD Cert.SmallEarlyRefIdeal.τ).loc Cert.SmallEarlyRefIdeal.main_arg18)
          ∧ r.2.mem ((c.tc : Thread Cert.SmallEarlyRefIdeal.nD Cert.SmallEarlyRefIdeal.τ).loc Cert.SmallEarlyRefIdeal.main_arg19) = m' ((c.tc : Thread Cert.SmallEarlyRefIdeal.nD Cert.SmallEarlyRefIdeal.τ).loc Cert.SmallEarlyRefIdeal.main_arg19)
          ∧ r.2.mem ((c.tc : Thread Cert.SmallEarlyRefIdeal.nD Cert.SmallEarlyRefIdeal.τ).loc Cert.SmallEarlyRefIdeal.main_arg20) = m' ((c.tc : Thread Cert.SmallEarlyRefIdeal.nD Cert.SmallEarlyRefIdeal.τ).loc Cert.SmallEarlyRefIdeal.main_arg20)
          ∧ r.2.mem ((c.tc : Thread Cert.SmallEarlyRefIdeal.nD Cert.SmallEarlyRefIdeal.τ).loc Cert.SmallEarlyRefIdeal.main_arg21) = m' ((c.tc : Thread Cert.SmallEarlyRefIdeal.nD Cert.SmallEarlyRefIdeal.τ).loc Cert.SmallEarlyRefIdeal.main_arg21)
          ∧ r.2.mem ((c.tc : Thread Cert.SmallEarlyRefIdeal.nD Cert.SmallEarlyRefIdeal.τ).loc Cert.SmallEarlyRefIdeal.main_arg22) = m' ((c.tc : Thread Cert.SmallEarlyRefIdeal.nD Cert.SmallEarlyRefIdeal.τ).loc Cert.SmallEarlyRefIdeal.main_arg22)
          ∧ r.2.mem ((c.tc : Thread Cert.SmallEarlyRefIdeal.nD Cert.SmallEarlyRefIdeal.τ).loc Cert.SmallEarlyRefIdeal.main_arg23) = m' ((c.tc : Thread Cert.SmallEarlyRefIdeal.nD Cert.SmallEarlyRefIdeal.τ).loc Cert.SmallEarlyRefIdeal.main_arg23)
          ∧ r.2.mem ((c.tc : Thread Cert.SmallEarlyRefIdeal.nD Cert.SmallEarlyRefIdeal.τ).loc Cert.SmallEarlyRefIdeal.main_arg24) = m' ((c.tc : Thread Cert.SmallEarlyRefIdeal.nD Cert.SmallEarlyRefIdeal.τ).loc Cert.SmallEarlyRefIdeal.main_arg24)
          ∧ r.2.mem ((c.tc : Thread Cert.SmallEarlyRefIdeal.nD Cert.SmallEarlyRefIdeal.τ).loc Cert.SmallEarlyRefIdeal.main_arg25) = m' ((c.tc : Thread Cert.SmallEarlyRefIdeal.nD Cert.SmallEarlyRefIdeal.τ).loc Cert.SmallEarlyRefIdeal.main_arg25)
          ∧ r.2.mem ((c.tc : Thread Cert.SmallEarlyRefIdeal.nD Cert.SmallEarlyRefIdeal.τ).loc Cert.SmallEarlyRefIdeal.main_arg26) = m' ((c.tc : Thread Cert.SmallEarlyRefIdeal.nD Cert.SmallEarlyRefIdeal.τ).loc Cert.SmallEarlyRefIdeal.main_arg26)
          ∧ r.2.mem ((c.tc : Thread Cert.SmallEarlyRefIdeal.nD Cert.SmallEarlyRefIdeal.τ).loc Cert.SmallEarlyRefIdeal.main_arg27) = m' ((c.tc : Thread Cert.SmallEarlyRefIdeal.nD Cert.SmallEarlyRefIdeal.τ).loc Cert.SmallEarlyRefIdeal.main_arg27)
          ∧ r.2.mem ((c.tc : Thread Cert.SmallEarlyRefIdeal.nD Cert.SmallEarlyRefIdeal.τ).loc Cert.SmallEarlyRefIdeal.main_arg28) = m' ((c.tc : Thread Cert.SmallEarlyRefIdeal.nD Cert.SmallEarlyRefIdeal.τ).loc Cert.SmallEarlyRefIdeal.main_arg28)
          ∧ r.2.mem ((c.tc : Thread Cert.SmallEarlyRefIdeal.nD Cert.SmallEarlyRefIdeal.τ).loc Cert.SmallEarlyRefIdeal.main_arg29) = m' ((c.tc : Thread Cert.SmallEarlyRefIdeal.nD Cert.SmallEarlyRefIdeal.τ).loc Cert.SmallEarlyRefIdeal.main_arg29)
          ∧ r.2.mem ((c.tc : Thread Cert.SmallEarlyRefIdeal.nD Cert.SmallEarlyRefIdeal.τ).loc Cert.SmallEarlyRefIdeal.main_arg30) = m' ((c.tc : Thread Cert.SmallEarlyRefIdeal.nD Cert.SmallEarlyRefIdeal.τ).loc Cert.SmallEarlyRefIdeal.main_arg30)
          ∧ r.2.mem ((c.tc : Thread Cert.SmallEarlyRefIdeal.nD Cert.SmallEarlyRefIdeal.τ).loc Cert.SmallEarlyRefIdeal.main_arg31) = m' ((c.tc : Thread Cert.SmallEarlyRefIdeal.nD Cert.SmallEarlyRefIdeal.τ).loc Cert.SmallEarlyRefIdeal.main_arg31)
          ∧ r.2.mem ((c.tc : Thread Cert.SmallEarlyRefIdeal.nD Cert.SmallEarlyRefIdeal.τ).loc Cert.SmallEarlyRefIdeal.main_arg32) = m' ((c.tc : Thread Cert.SmallEarlyRefIdeal.nD Cert.SmallEarlyRefIdeal.τ).loc Cert.SmallEarlyRefIdeal.main_arg32)
          ∧ r.2.mem ((c.tc : Thread Cert.SmallEarlyRefIdeal.nD Cert.SmallEarlyRefIdeal.τ).loc Cert.SmallEarlyRefIdeal.main_arg33) = m' ((c.tc : Thread Cert.SmallEarlyRefIdeal.nD Cert.SmallEarlyRefIdeal.τ).loc Cert.SmallEarlyRefIdeal.main_arg33)
          ∧ r.2.mem ((c.tc : Thread Cert.SmallEarlyRefIdeal.nD Cert.SmallEarlyRefIdeal.τ).loc Cert.SmallEarlyRefIdeal.main_arg34) = m' ((c.tc : Thread Cert.SmallEarlyRefIdeal.nD Cert.SmallEarlyRefIdeal.τ).loc Cert.SmallEarlyRefIdeal.main_arg34)
          ∧ r.2.mem ((c.tc : Thread Cert.SmallEarlyRefIdeal.nD Cert.SmallEarlyRefIdeal.τ).loc Cert.SmallEarlyRefIdeal.main_arg35) = m' ((c.tc : Thread Cert.SmallEarlyRefIdeal.nD Cert.SmallEarlyRefIdeal.τ).loc Cert.SmallEarlyRefIdeal.main_arg35))

def Claim : Prop :=
  ∃ (hSgu : Cert.Sgu.Facts) (hSguIdeal : Cert.SguIdeal.Facts) (hSguRefIdeal : Cert.SguRefIdeal.Facts) (hBranch : Cert.Branch.Facts) (hBranchIdeal : Cert.BranchIdeal.Facts) (hBranchRefIdeal : Cert.BranchRefIdeal.Facts) (hUp : Cert.Up.Facts) (hUpIdeal : Cert.UpIdeal.Facts) (hUpRefIdeal : Cert.UpRefIdeal.Facts) (hInBwd : Cert.InBwd.Facts) (hInBwdIdeal : Cert.InBwdIdeal.Facts) (hInBwdRefIdeal : Cert.InBwdRefIdeal.Facts) (hDownBwd : Cert.DownBwd.Facts) (hDownBwdIdeal : Cert.DownBwdIdeal.Facts) (hDownBwdRefIdeal : Cert.DownBwdRefIdeal.Facts) (hOutBwd : Cert.OutBwd.Facts) (hOutBwdIdeal : Cert.OutBwdIdeal.Facts) (hOutBwdRefIdeal : Cert.OutBwdRefIdeal.Facts) (hDownW : Cert.DownW.Facts) (hDownWIdeal : Cert.DownWIdeal.Facts) (hDownWRefIdeal : Cert.DownWRefIdeal.Facts) (hUpW : Cert.UpW.Facts) (hUpWIdeal : Cert.UpWIdeal.Facts) (hUpWRefIdeal : Cert.UpWRefIdeal.Facts) (hOutW : Cert.OutW.Facts) (hOutWIdeal : Cert.OutWIdeal.Facts) (hOutWRefIdeal : Cert.OutWRefIdeal.Facts) (hNarrowW : Cert.NarrowW.Facts) (hNarrowWIdeal : Cert.NarrowWIdeal.Facts) (hNarrowWRefIdeal : Cert.NarrowWRefIdeal.Facts) (hMiddleW : Cert.MiddleW.Facts) (hMiddleWIdeal : Cert.MiddleWIdeal.Facts) (hMiddleWRefIdeal : Cert.MiddleWRefIdeal.Facts) (hInW : Cert.InW.Facts) (hInWIdeal : Cert.InWIdeal.Facts) (hInWRefIdeal : Cert.InWRefIdeal.Facts) (hInProj : Cert.InProj.Facts) (hInProjIdeal : Cert.InProjIdeal.Facts) (hInProjRefIdeal : Cert.InProjRefIdeal.Facts) (hUpGate : Cert.UpGate.Facts) (hUpGateIdeal : Cert.UpGateIdeal.Facts) (hUpGateRefIdeal : Cert.UpGateRefIdeal.Facts) (hUpVal : Cert.UpVal.Facts) (hUpValIdeal : Cert.UpValIdeal.Facts) (hUpValRefIdeal : Cert.UpValRefIdeal.Facts) (hBranchA : Cert.BranchA.Facts) (hBranchAIdeal : Cert.BranchAIdeal.Facts) (hBranchARefIdeal : Cert.BranchARefIdeal.Facts) (hBranchC : Cert.BranchC.Facts) (hBranchCIdeal : Cert.BranchCIdeal.Facts) (hBranchCRefIdeal : Cert.BranchCRefIdeal.Facts) (hMergeOut : Cert.MergeOut.Facts) (hMergeOutIdeal : Cert.MergeOutIdeal.Facts) (hMergeOutRefIdeal : Cert.MergeOutRefIdeal.Facts) (hFfnDown : Cert.FfnDown.Facts) (hFfnDownIdeal : Cert.FfnDownIdeal.Facts) (hFfnDownRefIdeal : Cert.FfnDownRefIdeal.Facts) (hFfnLoss : Cert.FfnLoss.Facts) (hFfnLossIdeal : Cert.FfnLossIdeal.Facts) (hFfnLossRefIdeal : Cert.FfnLossRefIdeal.Facts) (hFirstNorm : Cert.FirstNorm.Facts) (hFirstNormIdeal : Cert.FirstNormIdeal.Facts) (hFirstNormRefIdeal : Cert.FirstNormRefIdeal.Facts) (hAdamIn : Cert.AdamIn.Facts) (hAdamInIdeal : Cert.AdamInIdeal.Facts) (hAdamInRefIdeal : Cert.AdamInRefIdeal.Facts) (hAdamNarrow : Cert.AdamNarrow.Facts) (hAdamNarrowIdeal : Cert.AdamNarrowIdeal.Facts) (hAdamNarrowRefIdeal : Cert.AdamNarrowRefIdeal.Facts) (hAdamMiddle : Cert.AdamMiddle.Facts) (hAdamMiddleIdeal : Cert.AdamMiddleIdeal.Facts) (hAdamMiddleRefIdeal : Cert.AdamMiddleRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamConv : Cert.AdamConv.Facts) (hAdamConvIdeal : Cert.AdamConvIdeal.Facts) (hAdamConvRefIdeal : Cert.AdamConvRefIdeal.Facts) (hPoolFwd : Cert.PoolFwd.Facts) (hPoolFwdIdeal : Cert.PoolFwdIdeal.Facts) (hPoolFwdRefIdeal : Cert.PoolFwdRefIdeal.Facts) (hPoolBwd : Cert.PoolBwd.Facts) (hPoolBwdIdeal : Cert.PoolBwdIdeal.Facts) (hPoolBwdRefIdeal : Cert.PoolBwdRefIdeal.Facts) (hSmallLate : Cert.SmallLate.Facts) (hSmallLateIdeal : Cert.SmallLateIdeal.Facts) (hSmallLateRefIdeal : Cert.SmallLateRefIdeal.Facts) (hSmallEarly : Cert.SmallEarly.Facts) (hSmallEarlyIdeal : Cert.SmallEarlyIdeal.Facts) (hSmallEarlyRefIdeal : Cert.SmallEarlyRefIdeal.Facts),
    quiescent_Sgu (hSgu := hSgu)
    ∧ quiescent_SguIdeal (hSguIdeal := hSguIdeal)
    ∧ quiescent_SguRefIdeal (hSguRefIdeal := hSguRefIdeal)
    ∧ quiescent_Branch (hBranch := hBranch)
    ∧ quiescent_BranchIdeal (hBranchIdeal := hBranchIdeal)
    ∧ quiescent_BranchRefIdeal (hBranchRefIdeal := hBranchRefIdeal)
    ∧ quiescent_Up (hUp := hUp)
    ∧ quiescent_UpIdeal (hUpIdeal := hUpIdeal)
    ∧ quiescent_UpRefIdeal (hUpRefIdeal := hUpRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_DownW (hDownW := hDownW)
    ∧ quiescent_DownWIdeal (hDownWIdeal := hDownWIdeal)
    ∧ quiescent_DownWRefIdeal (hDownWRefIdeal := hDownWRefIdeal)
    ∧ quiescent_UpW (hUpW := hUpW)
    ∧ quiescent_UpWIdeal (hUpWIdeal := hUpWIdeal)
    ∧ quiescent_UpWRefIdeal (hUpWRefIdeal := hUpWRefIdeal)
    ∧ quiescent_OutW (hOutW := hOutW)
    ∧ quiescent_OutWIdeal (hOutWIdeal := hOutWIdeal)
    ∧ quiescent_OutWRefIdeal (hOutWRefIdeal := hOutWRefIdeal)
    ∧ quiescent_NarrowW (hNarrowW := hNarrowW)
    ∧ quiescent_NarrowWIdeal (hNarrowWIdeal := hNarrowWIdeal)
    ∧ quiescent_NarrowWRefIdeal (hNarrowWRefIdeal := hNarrowWRefIdeal)
    ∧ quiescent_MiddleW (hMiddleW := hMiddleW)
    ∧ quiescent_MiddleWIdeal (hMiddleWIdeal := hMiddleWIdeal)
    ∧ quiescent_MiddleWRefIdeal (hMiddleWRefIdeal := hMiddleWRefIdeal)
    ∧ quiescent_InW (hInW := hInW)
    ∧ quiescent_InWIdeal (hInWIdeal := hInWIdeal)
    ∧ quiescent_InWRefIdeal (hInWRefIdeal := hInWRefIdeal)
    ∧ quiescent_InProj (hInProj := hInProj)
    ∧ quiescent_InProjIdeal (hInProjIdeal := hInProjIdeal)
    ∧ quiescent_InProjRefIdeal (hInProjRefIdeal := hInProjRefIdeal)
    ∧ quiescent_UpGate (hUpGate := hUpGate)
    ∧ quiescent_UpGateIdeal (hUpGateIdeal := hUpGateIdeal)
    ∧ quiescent_UpGateRefIdeal (hUpGateRefIdeal := hUpGateRefIdeal)
    ∧ quiescent_UpVal (hUpVal := hUpVal)
    ∧ quiescent_UpValIdeal (hUpValIdeal := hUpValIdeal)
    ∧ quiescent_UpValRefIdeal (hUpValRefIdeal := hUpValRefIdeal)
    ∧ quiescent_BranchA (hBranchA := hBranchA)
    ∧ quiescent_BranchAIdeal (hBranchAIdeal := hBranchAIdeal)
    ∧ quiescent_BranchARefIdeal (hBranchARefIdeal := hBranchARefIdeal)
    ∧ quiescent_BranchC (hBranchC := hBranchC)
    ∧ quiescent_BranchCIdeal (hBranchCIdeal := hBranchCIdeal)
    ∧ quiescent_BranchCRefIdeal (hBranchCRefIdeal := hBranchCRefIdeal)
    ∧ quiescent_MergeOut (hMergeOut := hMergeOut)
    ∧ quiescent_MergeOutIdeal (hMergeOutIdeal := hMergeOutIdeal)
    ∧ quiescent_MergeOutRefIdeal (hMergeOutRefIdeal := hMergeOutRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnLoss (hFfnLoss := hFfnLoss)
    ∧ quiescent_FfnLossIdeal (hFfnLossIdeal := hFfnLossIdeal)
    ∧ quiescent_FfnLossRefIdeal (hFfnLossRefIdeal := hFfnLossRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamNarrow (hAdamNarrow := hAdamNarrow)
    ∧ quiescent_AdamNarrowIdeal (hAdamNarrowIdeal := hAdamNarrowIdeal)
    ∧ quiescent_AdamNarrowRefIdeal (hAdamNarrowRefIdeal := hAdamNarrowRefIdeal)
    ∧ quiescent_AdamMiddle (hAdamMiddle := hAdamMiddle)
    ∧ quiescent_AdamMiddleIdeal (hAdamMiddleIdeal := hAdamMiddleIdeal)
    ∧ quiescent_AdamMiddleRefIdeal (hAdamMiddleRefIdeal := hAdamMiddleRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_PoolFwd (hPoolFwd := hPoolFwd)
    ∧ quiescent_PoolFwdIdeal (hPoolFwdIdeal := hPoolFwdIdeal)
    ∧ quiescent_PoolFwdRefIdeal (hPoolFwdRefIdeal := hPoolFwdRefIdeal)
    ∧ quiescent_PoolBwd (hPoolBwd := hPoolBwd)
    ∧ quiescent_PoolBwdIdeal (hPoolBwdIdeal := hPoolBwdIdeal)
    ∧ quiescent_PoolBwdRefIdeal (hPoolBwdRefIdeal := hPoolBwdRefIdeal)
    ∧ quiescent_SmallLate (hSmallLate := hSmallLate)
    ∧ quiescent_SmallLateIdeal (hSmallLateIdeal := hSmallLateIdeal)
    ∧ quiescent_SmallLateRefIdeal (hSmallLateRefIdeal := hSmallLateRefIdeal)
    ∧ quiescent_SmallEarly (hSmallEarly := hSmallEarly)
    ∧ quiescent_SmallEarlyIdeal (hSmallEarlyIdeal := hSmallEarlyIdeal)
    ∧ quiescent_SmallEarlyRefIdeal (hSmallEarlyRefIdeal := hSmallEarlyRefIdeal)
    ∧ preserves_Sgu_SguIdeal
    ∧ preserves_Branch_BranchIdeal
    ∧ algebraic_BranchIdeal_BranchRefIdeal (hBranchIdeal := hBranchIdeal) (hBranchRefIdeal := hBranchRefIdeal)
    ∧ preserves_Up_UpIdeal
    ∧ algebraic_UpIdeal_UpRefIdeal (hUpIdeal := hUpIdeal) (hUpRefIdeal := hUpRefIdeal)
    ∧ preserves_InBwd_InBwdIdeal
    ∧ algebraic_InBwdIdeal_InBwdRefIdeal (hInBwdIdeal := hInBwdIdeal) (hInBwdRefIdeal := hInBwdRefIdeal)
    ∧ preserves_DownBwd_DownBwdIdeal
    ∧ algebraic_DownBwdIdeal_DownBwdRefIdeal (hDownBwdIdeal := hDownBwdIdeal) (hDownBwdRefIdeal := hDownBwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_DownW_DownWIdeal
    ∧ algebraic_DownWIdeal_DownWRefIdeal (hDownWIdeal := hDownWIdeal) (hDownWRefIdeal := hDownWRefIdeal)
    ∧ preserves_UpW_UpWIdeal
    ∧ algebraic_UpWIdeal_UpWRefIdeal (hUpWIdeal := hUpWIdeal) (hUpWRefIdeal := hUpWRefIdeal)
    ∧ preserves_OutW_OutWIdeal
    ∧ algebraic_OutWIdeal_OutWRefIdeal (hOutWIdeal := hOutWIdeal) (hOutWRefIdeal := hOutWRefIdeal)
    ∧ preserves_NarrowW_NarrowWIdeal
    ∧ algebraic_NarrowWIdeal_NarrowWRefIdeal (hNarrowWIdeal := hNarrowWIdeal) (hNarrowWRefIdeal := hNarrowWRefIdeal)
    ∧ preserves_MiddleW_MiddleWIdeal
    ∧ algebraic_MiddleWIdeal_MiddleWRefIdeal (hMiddleWIdeal := hMiddleWIdeal) (hMiddleWRefIdeal := hMiddleWRefIdeal)
    ∧ preserves_InW_InWIdeal
    ∧ algebraic_InWIdeal_InWRefIdeal (hInWIdeal := hInWIdeal) (hInWRefIdeal := hInWRefIdeal)
    ∧ preserves_InProj_InProjIdeal
    ∧ algebraic_InProjIdeal_InProjRefIdeal (hInProjIdeal := hInProjIdeal) (hInProjRefIdeal := hInProjRefIdeal)
    ∧ preserves_UpGate_UpGateIdeal
    ∧ algebraic_UpGateIdeal_UpGateRefIdeal (hUpGateIdeal := hUpGateIdeal) (hUpGateRefIdeal := hUpGateRefIdeal)
    ∧ preserves_UpVal_UpValIdeal
    ∧ algebraic_UpValIdeal_UpValRefIdeal (hUpValIdeal := hUpValIdeal) (hUpValRefIdeal := hUpValRefIdeal)
    ∧ preserves_BranchA_BranchAIdeal
    ∧ algebraic_BranchAIdeal_BranchARefIdeal (hBranchAIdeal := hBranchAIdeal) (hBranchARefIdeal := hBranchARefIdeal)
    ∧ preserves_BranchC_BranchCIdeal
    ∧ algebraic_BranchCIdeal_BranchCRefIdeal (hBranchCIdeal := hBranchCIdeal) (hBranchCRefIdeal := hBranchCRefIdeal)
    ∧ preserves_MergeOut_MergeOutIdeal
    ∧ algebraic_MergeOutIdeal_MergeOutRefIdeal (hMergeOutIdeal := hMergeOutIdeal) (hMergeOutRefIdeal := hMergeOutRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnLoss_FfnLossIdeal
    ∧ algebraic_FfnLossIdeal_FfnLossRefIdeal (hFfnLossIdeal := hFfnLossIdeal) (hFfnLossRefIdeal := hFfnLossRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_AdamIn_AdamInIdeal
    ∧ algebraic_AdamInIdeal_AdamInRefIdeal (hAdamInIdeal := hAdamInIdeal) (hAdamInRefIdeal := hAdamInRefIdeal)
    ∧ preserves_AdamNarrow_AdamNarrowIdeal
    ∧ algebraic_AdamNarrowIdeal_AdamNarrowRefIdeal (hAdamNarrowIdeal := hAdamNarrowIdeal) (hAdamNarrowRefIdeal := hAdamNarrowRefIdeal)
    ∧ preserves_AdamMiddle_AdamMiddleIdeal
    ∧ algebraic_AdamMiddleIdeal_AdamMiddleRefIdeal (hAdamMiddleIdeal := hAdamMiddleIdeal) (hAdamMiddleRefIdeal := hAdamMiddleRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamConv_AdamConvIdeal
    ∧ algebraic_AdamConvIdeal_AdamConvRefIdeal (hAdamConvIdeal := hAdamConvIdeal) (hAdamConvRefIdeal := hAdamConvRefIdeal)
    ∧ preserves_PoolFwd_PoolFwdIdeal
    ∧ algebraic_PoolFwdIdeal_PoolFwdRefIdeal (hPoolFwdIdeal := hPoolFwdIdeal) (hPoolFwdRefIdeal := hPoolFwdRefIdeal)
    ∧ preserves_PoolBwd_PoolBwdIdeal
    ∧ algebraic_PoolBwdIdeal_PoolBwdRefIdeal (hPoolBwdIdeal := hPoolBwdIdeal) (hPoolBwdRefIdeal := hPoolBwdRefIdeal)
    ∧ preserves_SmallLate_SmallLateIdeal
    ∧ algebraic_SmallLateIdeal_SmallLateRefIdeal (hSmallLateIdeal := hSmallLateIdeal) (hSmallLateRefIdeal := hSmallLateRefIdeal)
    ∧ preserves_SmallEarly_SmallEarlyIdeal
    ∧ algebraic_SmallEarlyIdeal_SmallEarlyRefIdeal (hSmallEarlyIdeal := hSmallEarlyIdeal) (hSmallEarlyRefIdeal := hSmallEarlyRefIdeal)
-- ==== Sgu.lean ====
abbrev S8192x4608 : Shape := ⟨2, ![8192, 4608]⟩
abbrev S4x128x128 : Shape := ⟨3, ![4, 128, 128]⟩
abbrev S4x128 : Shape := ⟨2, ![4, 128]⟩
abbrev S64 : Shape := ⟨1, ![64]⟩
abbrev S8192x256 : Shape := ⟨2, ![8192, 256]⟩
abbrev S128x4 : Shape := ⟨2, ![128, 4]⟩
abbrev S128x4x64 : Shape := ⟨3, ![128, 4, 64]⟩
abbrev S128x256 : Shape := ⟨2, ![128, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8192x512 : Shape := ⟨2, ![8192, 512]⟩
abbrev S8x128 : Shape := ⟨2, ![8, 128]⟩
abbrev S128x512 : Shape := ⟨2, ![128, 512]⟩
abbrev S128x128 : Shape := ⟨2, ![128, 128]⟩
abbrev S1x128x128 : Shape := ⟨3, ![1, 128, 128]⟩
abbrev S1x128 : Shape := ⟨2, ![1, 128]⟩

abbrev nBuf : Space → Nat
  | .hbm => 16
  | .vmem => 12
  | .smem => 0
  | _ => 0

abbrev bufTy : (tb : Table) → Fin (tcTables nBuf tb) → BufTy
  | .hbm, ⟨0, _⟩ => ⟨S8192x4608, .f32⟩
  | .hbm, ⟨1, _⟩ => ⟨S4x128x128, .f32⟩
  | .hbm, ⟨2, _⟩ => ⟨S4x128, .f32⟩
  | .hbm, ⟨3, _⟩ => ⟨S64, .f32⟩
  | .hbm, ⟨4, _⟩ => ⟨S8192x256, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x64, .f32⟩
  | .hbm, ⟨9, _⟩ => ⟨S4x64, .f32⟩
  | .hbm, ⟨10, _⟩ => ⟨S256, .f32⟩
  | .hbm, ⟨11, _⟩ => ⟨S1x256, .f32⟩
  | .hbm, ⟨12, _⟩ => ⟨S8192x512, .bf16⟩
  | .hbm, ⟨13, _⟩ => ⟨S4x128x128, .f32⟩
  | .hbm, ⟨14, _⟩ => ⟨S128x256, .f32⟩
  | .hbm, ⟨15, _⟩ => ⟨S8x128, .f32⟩
  | .local _ .vmem, ⟨0, _⟩ => ⟨S128x512, .f32⟩
  | .local _ .vmem, ⟨1, _⟩ => ⟨S128x512, .f32⟩
  | .local _ .vmem, ⟨2, _⟩ => ⟨S4x128x128, .f32⟩
  | .local _ .vmem, ⟨3, _⟩ => ⟨S128x256, .f32⟩
  | .local _ .vmem, ⟨4, _⟩ => ⟨S1x256, .f32⟩
  | .local _ .vmem, ⟨5, _⟩ => ⟨S128x256, .f32⟩
  | .local _ .vmem, ⟨6, _⟩ => ⟨S128x256, .f32⟩
  | .local _ .vmem, ⟨7, _⟩ => ⟨S128x512, .bf16⟩
  | .local _ .vmem, ⟨8, _⟩ => ⟨S128x512, .bf16⟩
  | .local _ .vmem, ⟨9, _⟩ => ⟨S4x128x128, .f32⟩
  | .local _ .vmem, ⟨10, _⟩ => ⟨S128x256, .f32⟩
  | .local _ .vmem, ⟨11, _⟩ => ⟨S8x128, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SguIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== SguRefIdeal.lean ====
abbrev S8192x4608 : Shape := ⟨2, ![8192, 4608]⟩
abbrev S4x128x128 : Shape := ⟨3, ![4, 128, 128]⟩
abbrev S4x128 : Shape := ⟨2, ![4, 128]⟩
abbrev S64 : Shape := ⟨1, ![64]⟩
abbrev S8192x256 : Shape := ⟨2, ![8192, 256]⟩
abbrev S1x8192x256 : Shape := ⟨3, ![1, 8192, 256]⟩
abbrev S_ : Shape := ⟨0, ![]⟩
abbrev S1x8192x4x64 : Shape := ⟨4, ![1, 8192, 4, 64]⟩
abbrev S1x8192x4 : Shape := ⟨3, ![1, 8192, 4]⟩
abbrev S1x8192x4x1 : Shape := ⟨4, ![1, 8192, 4, 1]⟩
abbrev S1x1x1x64 : Shape := ⟨4, ![1, 1, 1, 64]⟩
abbrev S1x64x128x4x64 : Shape := ⟨5, ![1, 64, 128, 4, 64]⟩
abbrev S128x128 : Shape := ⟨2, ![128, 128]⟩
abbrev S4x1x64x64x128 : Shape := ⟨5, ![4, 1, 64, 64, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S1x64 : Shape := ⟨2, ![1, 64]⟩
abbrev S8192x4 : Shape := ⟨2, ![8192, 4]⟩
abbrev S8192x512 : Shape := ⟨2, ![8192, 512]⟩
abbrev S128x4x1 : Shape := ⟨3, ![128, 4, 1]⟩
abbrev S128x4x64 : Shape := ⟨3, ![128, 4, 64]⟩
abbrev S128x256 : Shape := ⟨2, ![128, 256]⟩
abbrev S128 : Shape := ⟨1, ![128]⟩
abbrev S1x128 : Shape := ⟨2, ![1, 128]⟩
abbrev S8x128 : Shape := ⟨2, ![8, 128]⟩

abbrev nBuf : Space → Nat
  | .hbm => 193
  | .vmem => 0
  | .smem => 0
  | _ => 0

abbrev hbmTy0_0 (i : Nat) : BufTy := match i % 128 with
  | 0 => ⟨S8192x4608, .f32⟩
  | 1 => ⟨S4x128x128, .f32⟩
  | 2 => ⟨S4x128, .f32⟩
  | 3 => ⟨S64, .f32⟩
  | 4 => ⟨S8192x256, .f32⟩
  | 5 => ⟨S8192x256, .f32⟩
  | 6 => ⟨S1x8192x256, .f32⟩
  | 7 => ⟨S8192x256, .f32⟩
  | 8 => ⟨S1x8192x256, .f32⟩
  | 9 => ⟨S1x8192x256, .f32⟩
  | 10 => ⟨S1x8192x256, .f32⟩
  | 11 => ⟨S1x8192x256, .f32⟩
  | 12 => ⟨S_, .f32⟩
  | 13 => ⟨S1x8192x256, .f32⟩
  | 14 => ⟨S1x8192x256, .f32⟩
  | 15 => ⟨S_, .f32⟩
  | 16 => ⟨S1x8192x256, .f32⟩
  | 17 => ⟨S1x8192x256, .f32⟩
  | 18 => ⟨S1x8192x256, .f32⟩
  | 19 => ⟨S_, .f32⟩
  | 20 => ⟨S1x8192x256, .f32⟩
  | 21 => ⟨S1x8192x256, .f32⟩
  | 22 => ⟨S1x8192x256, .f32⟩
  | 23 => ⟨S_, .f32⟩
  | 24 => ⟨S1x8192x256, .f32⟩
  | 25 => ⟨S1x8192x256, .f32⟩
  | 26 => ⟨S_, .f32⟩
  | 27 => ⟨S1x8192x256, .f32⟩
  | 28 => ⟨S1x8192x256, .f32⟩
  | 29 => ⟨S1x8192x256, .f32⟩
  | 30 => ⟨S_, .f32⟩
  | 31 => ⟨S1x8192x256, .f32⟩
  | 32 => ⟨S1x8192x256, .f32⟩
  | 33 => ⟨S_, .f32⟩
  | 34 => ⟨S1x8192x256, .f32⟩
  | 35 => ⟨S1x8192x256, .f32⟩
  | 36 => ⟨S1x8192x256, .f32⟩
  | 37 => ⟨S1x8192x256, .f32⟩
  | 38 => ⟨S1x8192x256, .f32⟩
  | 39 => ⟨S1x8192x256, .f32⟩
  | 40 => ⟨S_, .f32⟩
  | 41 => ⟨S1x8192x256, .f32⟩
  | 42 => ⟨S1x8192x256, .f32⟩
  | 43 => ⟨S_, .f32⟩
  | 44 => ⟨S1x8192x256, .f32⟩
  | 45 => ⟨S1x8192x256, .f32⟩
  | 46 => ⟨S1x8192x256, .f32⟩
  | 47 => ⟨S_, .f32⟩
  | 48 => ⟨S1x8192x256, .f32⟩
  | 49 => ⟨S1x8192x256, .f32⟩
  | 50 => ⟨S1x8192x256, .f32⟩
  | 51 => ⟨S_, .f32⟩
  | 52 => ⟨S1x8192x256, .f32⟩
  | 53 => ⟨S1x8192x256, .f32⟩
  | 54 => ⟨S_, .f32⟩
  | 55 => ⟨S1x8192x256, .f32⟩
  | 56 => ⟨S1x8192x256, .f32⟩
  | 57 => ⟨S1x8192x256, .f32⟩
  | 58 => ⟨S_, .f32⟩
  | 59 => ⟨S1x8192x256, .f32⟩
  | 60 => ⟨S1x8192x256, .f32⟩
  | 61 => ⟨S_, .f32⟩
  | 62 => ⟨S1x8192x256, .f32⟩
  | 63 => ⟨S1x8192x256, .f32⟩
  | 64 => ⟨S1x8192x256, .f32⟩
  | 65 => ⟨S1x8192x4x64, .f32⟩
  | 66 => ⟨S1x8192x4x64, .f32⟩
  | 67 => ⟨S_, .f32⟩
  | 68 => ⟨S1x8192x4, .f32⟩
  | 69 => ⟨S1x8192x4x1, .f32⟩
  | 70 => ⟨S_, .f32⟩
  | 71 => ⟨S1x8192x4x1, .f32⟩
  | 72 => ⟨S1x8192x4x1, .f32⟩
  | 73 => ⟨S_, .f32⟩
  | 74 => ⟨S1x8192x4x1, .f32⟩
  | 75 => ⟨S1x8192x4x1, .f32⟩
  | 76 => ⟨S1x8192x4x1, .f32⟩
  | 77 => ⟨S1x8192x4x1, .f32⟩
  | 78 => ⟨S_, .f32⟩
  | 79 => ⟨S1x8192x4x1, .f32⟩
  | 80 => ⟨S1x8192x4x1, .f32⟩
  | 81 => ⟨S1x8192x4x64, .f32⟩
  | 82 => ⟨S1x8192x4x64, .f32⟩
  | 83 => ⟨S1x1x1x64, .f32⟩
  | 84 => ⟨S1x8192x4x64, .f32⟩
  | 85 => ⟨S1x8192x4x64, .f32⟩
  | 86 => ⟨S1x64x128x4x64, .f32⟩
  | 87 => ⟨S128x128, .i32⟩
  | 88 => ⟨S_, .i32⟩
  | 89 => ⟨S128x128, .i32⟩
  | 90 => ⟨S128x128, .i32⟩
  | 91 => ⟨S128x128, .i32⟩
  | 92 => ⟨S128x128, .i1⟩
  | 93 => ⟨S4x128x128, .i1⟩
  | 94 => ⟨S_, .f32⟩
  | 95 => ⟨S4x128x128, .f32⟩
  | 96 => ⟨S4x128x128, .f32⟩
  | 97 => ⟨S_, .f32⟩
  | 98 => ⟨S4x128x128, .f32⟩
  | 99 => ⟨S4x1x64x64x128, .f32⟩
  | 100 => ⟨S1x64x128x4x64, .f32⟩
  | 101 => ⟨S128x4, .f32⟩
  | 102 => ⟨S1x1x128x4x1, .f32⟩
  | 103 => ⟨S1x64x128x4x64, .f32⟩
  | 104 => ⟨S1x64x128x4x64, .f32⟩
  | 105 => ⟨S1x8192x256, .f32⟩
  | 106 => ⟨S1x8192x256, .f32⟩
  | 107 => ⟨S1x8192x256, .f32⟩
  | 108 => ⟨S1x8192x256, .f32⟩
  | 109 => ⟨S1x8192x256, .f32⟩
  | 110 => ⟨S1x64x128x4x64, .f32⟩
  | 111 => ⟨S_, .f32⟩
  | 112 => ⟨S1x128x4, .f32⟩
  | 113 => ⟨S1x1x128x4x1, .f32⟩
  | 114 => ⟨S_, .f32⟩
  | 115 => ⟨S128x4, .f32⟩
  | 116 => ⟨S4x128, .f32⟩
  | 117 => ⟨S4x1x64x64x128, .f32⟩
  | 118 => ⟨S4x128x128, .f32⟩
  | 119 => ⟨S4x1x64x64x128, .f32⟩
  | 120 => ⟨S1x64x128x4x64, .f32⟩
  | 121 => ⟨S_, .f32⟩
  | 122 => ⟨S4x128x128, .f32⟩
  | 123 => ⟨S4x128x128, .f32⟩
  | 124 => ⟨S1x8192x4x64, .f32⟩
  | 125 => ⟨S1x8192x4x64, .f32⟩
  | 126 => ⟨S_, .f32⟩
  | 127 => ⟨S1x64, .f32⟩
  | _ => ⟨S8192x4608, .f32⟩

abbrev hbmTy0_1 (i : Nat) : BufTy := match i % 128 with
  | 0 => ⟨S1x1x1x64, .f32⟩
  | 1 => ⟨S1x8192x4x64, .f32⟩
  | 2 => ⟨S1x8192x4x64, .f32⟩
  | 3 => ⟨S_, .f32⟩
  | 4 => ⟨S64, .f32⟩
  | 5 => ⟨S1x8192x4x64, .f32⟩
  | 6 => ⟨S_, .f32⟩
  | 7 => ⟨S1x8192x4, .f32⟩
  | 8 => ⟨S1x8192x4x1, .f32⟩
  | 9 => ⟨S1x8192x4x64, .f32⟩
  | 10 => ⟨S1x8192x4x64, .f32⟩
  | 11 => ⟨S1x8192x4x1, .f32⟩
  | 12 => ⟨S_, .f32⟩
  | 13 => ⟨S1x8192x4x1, .f32⟩
  | 14 => ⟨S1x8192x4x1, .f32⟩
  | 15 => ⟨S_, .f32⟩
  | 16 => ⟨S8192x4, .f32⟩
  | 17 => ⟨S1x8192x4, .f32⟩
  | 18 => ⟨S1x8192x4x64, .f32⟩
  | 19 => ⟨S1x8192x4x64, .f32⟩
  | 20 => ⟨S1x8192x4x64, .f32⟩
  | 21 => ⟨S1x8192x4x64, .f32⟩
  | 22 => ⟨S1x8192x4x64, .f32⟩
  | 23 => ⟨S1x8192x256, .f32⟩
  | 24 => ⟨S1x8192x256, .f32⟩
  | 25 => ⟨S1x8192x256, .f32⟩
  | 26 => ⟨S_, .f32⟩
  | 27 => ⟨S1x8192x256, .f32⟩
  | 28 => ⟨S1x8192x256, .f32⟩
  | 29 => ⟨S1x8192x256, .f32⟩
  | 30 => ⟨S_, .f32⟩
  | 31 => ⟨S1x8192x256, .f32⟩
  | 32 => ⟨S1x8192x256, .f32⟩
  | 33 => ⟨S1x8192x256, .f32⟩
  | 34 => ⟨S_, .f32⟩
  | 35 => ⟨S1x8192x256, .f32⟩
  | 36 => ⟨S1x8192x256, .f32⟩
  | 37 => ⟨S1x8192x256, .f32⟩
  | 38 => ⟨S1x8192x256, .f32⟩
  | 39 => ⟨S1x8192x256, .f32⟩
  | 40 => ⟨S1x8192x256, .f32⟩
  | 41 => ⟨S_, .f32⟩
  | 42 => ⟨S1x8192x256, .f32⟩
  | 43 => ⟨S1x8192x256, .f32⟩
  | 44 => ⟨S1x8192x256, .f32⟩
  | 45 => ⟨S_, .f32⟩
  | 46 => ⟨S1x8192x256, .f32⟩
  | 47 => ⟨S1x8192x256, .f32⟩
  | 48 => ⟨S1x8192x256, .f32⟩
  | 49 => ⟨S_, .f32⟩
  | 50 => ⟨S1x8192x256, .f32⟩
  | 51 => ⟨S1x8192x256, .f32⟩
  | 52 => ⟨S1x8192x256, .f32⟩
  | 53 => ⟨S1x8192x256, .f32⟩
  | 54 => ⟨S8192x256, .f32⟩
  | 55 => ⟨S8192x256, .f32⟩
  | 56 => ⟨S8192x512, .f32⟩
  | 57 => ⟨S8192x512, .bf16⟩
  | 58 => ⟨S128x4, .f32⟩
  | 59 => ⟨S128x4x1, .f32⟩
  | 60 => ⟨S128x4x64, .f32⟩
  | 61 => ⟨S128x256, .f32⟩
  | 62 => ⟨S128, .f32⟩
  | 63 => ⟨S1x128, .f32⟩
  | 64 => ⟨S8x128, .f32⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call0_v0 : Ref sig .tc := ⟨.hbm, 87, rfl⟩
abbrev main_call0_c : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_v64_1 : Ref sig .tc := ⟨.hbm, 93, rfl⟩
abbrev main_call0_cst : Ref sig .tc := ⟨.hbm, 94, rfl⟩
abbrev main_call0_v6 : Ref sig .tc := ⟨.hbm, 95, rfl⟩
abbrev main_v64_0 : Ref sig .tc := ⟨.hbm, 96, rfl⟩
abbrev main_call0_cst_0 : Ref sig .tc := ⟨.hbm, 97, rfl⟩
abbrev main_v64_2 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_v78 : Ref sig .tc := ⟨.hbm, 113, rfl⟩
abbrev main_cst_18 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call1_cst : Ref sig .tc := ⟨.hbm, 121, rfl⟩
abbrev main_call1_v0 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_19 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_cst_21 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_22 : Ref sig .tc := ⟨.hbm, 140, rfl⟩
abbrev main_v99 : Ref sig .tc := ⟨.hbm, 141, rfl⟩
abbrev main_v100 : Ref sig .tc := ⟨.hbm, 142, rfl⟩
abbrev main_cst_23 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_25 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_26 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_27 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_28 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_29 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩

abbrev nD : Nat := 1
abbrev τ : Topo := Topo.v7x

variable {F : FTy → Type} [FloatOps F]

def κ : String → Option EReal := fun
  | "gelu_a" => some ((8943 / 200000 : ℝ) : EReal)
  | _ => none
-- ==== Branch.lean ====
abbrev S8192x512 : Shape := ⟨2, ![8192, 512]⟩
abbrev S512x1024 : Shape := ⟨2, ![512, 1024]⟩
abbrev S8192x4608 : Shape := ⟨2, ![8192, 4608]⟩
abbrev S8192x1024 : Shape := ⟨2, ![8192, 1024]⟩
abbrev S1024x512 : Shape := ⟨2, ![1024, 512]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x4608, .f32⟩
  | .hbm, ⟨3, _⟩ => ⟨S8192x1024, .f32⟩
  | .hbm, ⟨4, _⟩ => ⟨S8192x4608, .bf16⟩
  | .hbm, ⟨5, _⟩ => ⟨S8192x4608, .bf16⟩
  | .hbm, ⟨6, _⟩ => ⟨S8192x1024, .bf16⟩
  | .hbm, ⟨7, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_15 : BitVec 32 := 0#32
  let v20 : BitVec 1 := Scalar.cmpi .ne v19 c0_i32_15
  v20

def k0_cond2 (i : grid0.Coords) : BitVec 1 :=
  let arg1 : BitVec 32 := BitVec.ofNat 32 (i 1).val
  let c0_i32_16 : BitVec 32 := 0#32
  let v21 : BitVec 1 := Scalar.cmpi .sgt arg1 c0_i32_16
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== BranchRefIdeal.lean ====
abbrev S8192x512 : Shape := ⟨2, ![8192, 512]⟩
abbrev S512x1024 : Shape := ⟨2, ![512, 1024]⟩
abbrev S8192x4608 : Shape := ⟨2, ![8192, 4608]⟩
abbrev S8192x1024 : Shape := ⟨2, ![8192, 1024]⟩
abbrev S_ : Shape := ⟨0, ![]⟩
abbrev S8192x2560 : Shape := ⟨2, ![8192, 2560]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x4608, .f32⟩
  | .hbm, ⟨3, _⟩ => ⟨S8192x1024, .f32⟩
  | .hbm, ⟨4, _⟩ => ⟨S8192x4608, .bf16⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x512, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x2560, .bf16⟩
  | .hbm, ⟨38, _⟩ => ⟨S8192x1024, .bf16⟩
  | .hbm, ⟨39, _⟩ => ⟨S8192x1024, .bf16⟩
  | .hbm, ⟨40, _⟩ => ⟨S8192x4608, .bf16⟩
  | .hbm, ⟨41, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Up.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_15 : BitVec 32 := 0#32
  let v39 : BitVec 1 := Scalar.cmpi .ne v38 c0_i32_15
  v39

def k0_cond2 (i : grid0.Coords) : BitVec 1 :=
  let arg0 : BitVec 32 := BitVec.ofNat 32 (i 0).val
  let c0_i32_16 : BitVec 32 := 0#32
  let v40 : BitVec 1 := Scalar.cmpi .sgt arg0 c0_i32_16
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== UpRefIdeal.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== InBwd.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S1x1024 : Shape := ⟨2, ![1, 1024]⟩
abbrev S512x4608 : Shape := ⟨2, ![512, 4608]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_15 : BitVec 32 := 0#32
  let v39 : BitVec 1 := Scalar.cmpi .ne v38 c0_i32_15
  v39

def k0_cond2 (i : grid0.Coords) : BitVec 1 :=
  let arg0 : BitVec 32 := BitVec.ofNat 32 (i 0).val
  let c0_i32_16 : BitVec 32 := 0#32
  let v40 : BitVec 1 := Scalar.cmpi .sgt arg0 c0_i32_16
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== InBwdRefIdeal.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x4608, .f32⟩
  | .hbm, ⟨6, _⟩ => ⟨S8192x4608, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x4608, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DownBwd.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwdRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S8192x2816, .f32⟩
  | .hbm, ⟨5, _⟩ => ⟨S8192x1024, .f32⟩
  | .hbm, ⟨6, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutBwd.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownW.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWIdeal.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpW.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWIdeal.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutW.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NarrowW.lean ====
abbrev S8192x256 : Shape := ⟨2, ![8192, 256]⟩
abbrev S8192x1024 : Shape := ⟨2, ![8192, 1024]⟩
abbrev S256x1024 : Shape := ⟨2, ![256, 1024]⟩
abbrev S8192x128 : Shape := ⟨2, ![8192, 128]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .bf16⟩
  | .local _ .vmem, ⟨0, _⟩ => ⟨S8192x128, .bf16⟩
  | .local _ .vmem, ⟨1, _⟩ => ⟨S8192x128, .bf16⟩
  | .local _ .vmem, ⟨2, _⟩ => ⟨S8192x1024, .bf16⟩
  | .local _ .vmem, ⟨3, _⟩ => ⟨S128x1024, .bf16⟩
  | .local _ .vmem, ⟨4, _⟩ => ⟨S128x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NarrowWIdeal.lean ====
abbrev S8192x256 : Shape := ⟨2, ![8192, 256]⟩
abbrev S8192x1024 : Shape := ⟨2, ![8192, 1024]⟩
abbrev S256x1024 : Shape := ⟨2, ![256, 1024]⟩
abbrev S8192x128 : Shape := ⟨2, ![8192, 128]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .bf16⟩
  | .local _ .vmem, ⟨0, _⟩ => ⟨S8192x128, .bf16⟩
  | .local _ .vmem, ⟨1, _⟩ => ⟨S8192x128, .bf16⟩
  | .local _ .vmem, ⟨2, _⟩ => ⟨S8192x1024, .bf16⟩
  | .local _ .vmem, ⟨3, _⟩ => ⟨S128x1024, .bf16⟩
  | .local _ .vmem, ⟨4, _⟩ => ⟨S128x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NarrowWRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x256, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MiddleW.lean ====
abbrev S8192x512 : Shape := ⟨2, ![8192, 512]⟩
abbrev S8192x1024 : Shape := ⟨2, ![8192, 1024]⟩
abbrev S512x1024 : Shape := ⟨2, ![512, 1024]⟩
abbrev S8192x128 : Shape := ⟨2, ![8192, 128]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S8192x128, .bf16⟩
  | .local _ .vmem, ⟨1, _⟩ => ⟨S8192x128, .bf16⟩
  | .local _ .vmem, ⟨2, _⟩ => ⟨S8192x1024, .bf16⟩
  | .local _ .vmem, ⟨3, _⟩ => ⟨S128x1024, .bf16⟩
  | .local _ .vmem, ⟨4, _⟩ => ⟨S128x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MiddleWIdeal.lean ====
abbrev S8192x512 : Shape := ⟨2, ![8192, 512]⟩
abbrev S8192x1024 : Shape := ⟨2, ![8192, 1024]⟩
abbrev S512x1024 : Shape := ⟨2, ![512, 1024]⟩
abbrev S8192x128 : Shape := ⟨2, ![8192, 128]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S8192x128, .bf16⟩
  | .local _ .vmem, ⟨1, _⟩ => ⟨S8192x128, .bf16⟩
  | .local _ .vmem, ⟨2, _⟩ => ⟨S8192x1024, .bf16⟩
  | .local _ .vmem, ⟨3, _⟩ => ⟨S128x1024, .bf16⟩
  | .local _ .vmem, ⟨4, _⟩ => ⟨S128x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MiddleWRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InW.lean ====
abbrev S8192x1024 : Shape := ⟨2, ![8192, 1024]⟩
abbrev S8192x4608 : Shape := ⟨2, ![8192, 4608]⟩
abbrev S1024x4608 : Shape := ⟨2, ![1024, 4608]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S8192x1024, .f32⟩
  | .hbm, ⟨3, _⟩ => ⟨S_, .f32⟩
  | .hbm, ⟨4, _⟩ => ⟨S1024x4608, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | .hbm, ⟨9, _⟩ => ⟨S1024x4608, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProj.lean ====
abbrev S8192x1024 : Shape := ⟨2, ![8192, 1024]⟩
abbrev S1024x4608 : Shape := ⟨2, ![1024, 4608]⟩
abbrev S8192x4608 : Shape := ⟨2, ![8192, 4608]⟩
abbrev S2048x1024 : Shape := ⟨2, ![2048, 1024]⟩
abbrev S1024x1152 : Shape := ⟨2, ![1024, 1152]⟩
abbrev S2048x1152 : Shape := ⟨2, ![2048, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x4608, .f32⟩
  | .local _ .vmem, ⟨0, _⟩ => ⟨S2048x1024, .bf16⟩
  | .local _ .vmem, ⟨1, _⟩ => ⟨S2048x1024, .bf16⟩
  | .local _ .vmem, ⟨2, _⟩ => ⟨S1024x1152, .bf16⟩
  | .local _ .vmem, ⟨3, _⟩ => ⟨S1024x1152, .bf16⟩
  | .local _ .vmem, ⟨4, _⟩ => ⟨S2048x1152, .f32⟩
  | .local _ .vmem, ⟨5, _⟩ => ⟨S2048x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x1024, .f32⟩
  | .hbm, ⟨3, _⟩ => ⟨S1024x4608, .f32⟩
  | .hbm, ⟨4, _⟩ => ⟨S8192x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpGate.lean ====
abbrev S8192x1024 : Shape := ⟨2, ![8192, 1024]⟩
abbrev S1024x5632 : Shape := ⟨2, ![1024, 5632]⟩
abbrev S8192x2816 : Shape := ⟨2, ![8192, 2816]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGateRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpVal.lean ====
abbrev S8192x1024 : Shape := ⟨2, ![8192, 1024]⟩
abbrev S1024x5632 : Shape := ⟨2, ![1024, 5632]⟩
abbrev S8192x2816 : Shape := ⟨2, ![8192, 2816]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c2_i32 : BitVec 32 := 2#32
  let v1 : BitVec 32 := Scalar.addi arg1 c2_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpValRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchA.lean ====
abbrev S8192x256 : Shape := ⟨2, ![8192, 256]⟩
abbrev S256x1024 : Shape := ⟨2, ![256, 1024]⟩
abbrev S8192x4608 : Shape := ⟨2, ![8192, 4608]⟩
abbrev S8192x1024 : Shape := ⟨2, ![8192, 1024]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x4608, .f32⟩
  | .hbm, ⟨3, _⟩ => ⟨S8192x1024, .f32⟩
  | .hbm, ⟨4, _⟩ => ⟨S8192x4608, .bf16⟩
  | .hbm, ⟨5, _⟩ => ⟨S8192x1024, .bf16⟩
  | .hbm, ⟨6, _⟩ => ⟨S8192x256, .f32⟩
  | .hbm, ⟨7, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x256, .f32⟩
  | .local _ .vmem, ⟨13, _⟩ => ⟨S1024x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_15 : BitVec 32 := 0#32
  let v20 : BitVec 1 := Scalar.cmpi .ne v19 c0_i32_15
  v20

def k0_cond2 (i : grid0.Coords) : BitVec 1 :=
  let arg1 : BitVec 32 := BitVec.ofNat 32 (i 1).val
  let c0_i32_16 : BitVec 32 := 0#32
  let v21 : BitVec 1 := Scalar.cmpi .sgt arg1 c0_i32_16
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== BranchARefIdeal.lean ====
abbrev S8192x256 : Shape := ⟨2, ![8192, 256]⟩
abbrev S256x1024 : Shape := ⟨2, ![256, 1024]⟩
abbrev S8192x4608 : Shape := ⟨2, ![8192, 4608]⟩
abbrev S8192x1024 : Shape := ⟨2, ![8192, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x4608, .f32⟩
  | .hbm, ⟨3, _⟩ => ⟨S8192x1024, .f32⟩
  | .hbm, ⟨4, _⟩ => ⟨S8192x256, .f32⟩
  | .hbm, ⟨5, _⟩ => ⟨S256x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x256, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== BranchC.lean ====
abbrev S8192x256 : Shape := ⟨2, ![8192, 256]⟩
abbrev S256x1024 : Shape := ⟨2, ![256, 1024]⟩
abbrev S8192x4608 : Shape := ⟨2, ![8192, 4608]⟩
abbrev S8192x1024 : Shape := ⟨2, ![8192, 1024]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x4608, .f32⟩
  | .hbm, ⟨3, _⟩ => ⟨S8192x1024, .f32⟩
  | .hbm, ⟨4, _⟩ => ⟨S8192x4608, .bf16⟩
  | .hbm, ⟨5, _⟩ => ⟨S8192x4608, .bf16⟩
  | .hbm, ⟨6, _⟩ => ⟨S8192x1024, .bf16⟩
  | .hbm, ⟨7, _⟩ => ⟨S8192x256, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x256, .f32⟩
  | .local _ .vmem, ⟨13, _⟩ => ⟨S1024x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_15 : BitVec 32 := 0#32
  let v20 : BitVec 1 := Scalar.cmpi .ne v19 c0_i32_15
  v20

def k0_cond2 (i : grid0.Coords) : BitVec 1 :=
  let arg1 : BitVec 32 := BitVec.ofNat 32 (i 1).val
  let c0_i32_16 : BitVec 32 := 0#32
  let v21 : BitVec 1 := Scalar.cmpi .sgt arg1 c0_i32_16
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== BranchCRefIdeal.lean ====
abbrev S8192x256 : Shape := ⟨2, ![8192, 256]⟩
abbrev S256x1024 : Shape := ⟨2, ![256, 1024]⟩
abbrev S8192x4608 : Shape := ⟨2, ![8192, 4608]⟩
abbrev S8192x1024 : Shape := ⟨2, ![8192, 1024]⟩
abbrev S_ : Shape := ⟨0, ![]⟩
abbrev S8192x3584 : Shape := ⟨2, ![8192, 3584]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x4608, .f32⟩
  | .hbm, ⟨3, _⟩ => ⟨S8192x1024, .f32⟩
  | .hbm, ⟨4, _⟩ => ⟨S8192x4608, .bf16⟩
  | .hbm, ⟨5, _⟩ => ⟨S8192x256, .f32⟩
  | .hbm, ⟨6, _⟩ => ⟨S256x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x256, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x3584, .bf16⟩
  | .hbm, ⟨38, _⟩ => ⟨S8192x1024, .bf16⟩
  | .hbm, ⟨39, _⟩ => ⟨S8192x4608, .bf16⟩
  | .hbm, ⟨40, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== MergeOut.lean ====
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S8192x4608 : Shape := ⟨2, ![8192, 4608]⟩
abbrev S1024x1024 : Shape := ⟨2, ![1024, 1024]⟩
abbrev S8192x1024 : Shape := ⟨2, ![8192, 1024]⟩
abbrev S1024 : Shape := ⟨1, ![1024]⟩
abbrev S1x1024 : Shape := ⟨2, ![1, 1024]⟩
abbrev S512x256 : Shape := ⟨2, ![512, 256]⟩
abbrev S512x512 : Shape := ⟨2, ![512, 512]⟩
abbrev S256x512 : Shape := ⟨2, ![256, 512]⟩
abbrev S512 : Shape := ⟨1, ![512]⟩
abbrev S512x1 : Shape := ⟨2, ![512, 1]⟩

abbrev nBuf : Space → Nat
  | .hbm => 14
  | .vmem => 30
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S256x1024, .bf16⟩
  | .hbm, ⟨4, _⟩ => ⟨S512x1024, .bf16⟩
  | .hbm, ⟨5, _⟩ => ⟨S256x1024, .bf16⟩
  | .hbm, ⟨6, _⟩ => ⟨S8192x4608, .f32⟩
  | .hbm, ⟨7, _⟩ => ⟨S1024x1024, .bf16⟩
  | .hbm, ⟨8, _⟩ => ⟨S8192x1024, .f32⟩
  | .hbm, ⟨9, _⟩ => ⟨S1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S256x512, .bf16⟩
  | .local _ .vmem, ⟨7, _⟩ => ⟨S256x512, .bf16⟩
  | .local _ .vmem, ⟨8, _⟩ => ⟨S512x512, .bf16⟩
  | .local _ .vmem, ⟨9, _⟩ => ⟨S512x512, .bf16⟩
  | .local _ .vmem, ⟨10, _⟩ => ⟨S256x512, .bf16⟩
  | .local _ .vmem, ⟨11, _⟩ => ⟨S256x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x512, .bf16⟩
  | .local _ .vmem, ⟨26, _⟩ => ⟨S512x512, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v32 : BitVec 1 := Scalar.cmpi .eq arg1 c1_i32
  let v33 : BitVec 32 := Scalar.extui v32
  let c0_i32_29 : BitVec 32 := 0#32
  let v34 : BitVec 1 := Scalar.cmpi .ne v33 c0_i32_29
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== MergeOutRefIdeal.lean ====
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S8192x4608 : Shape := ⟨2, ![8192, 4608]⟩
abbrev S1024x1024 : Shape := ⟨2, ![1024, 1024]⟩
abbrev S8192x1024 : Shape := ⟨2, ![8192, 1024]⟩
abbrev S1024 : Shape := ⟨1, ![1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S256x1024, .bf16⟩
  | .hbm, ⟨4, _⟩ => ⟨S512x1024, .bf16⟩
  | .hbm, ⟨5, _⟩ => ⟨S256x1024, .bf16⟩
  | .hbm, ⟨6, _⟩ => ⟨S8192x4608, .f32⟩
  | .hbm, ⟨7, _⟩ => ⟨S1024x1024, .bf16⟩
  | .hbm, ⟨8, _⟩ => ⟨S8192x1024, .f32⟩
  | .hbm, ⟨9, _⟩ => ⟨S1024, .f32⟩
  | .hbm, ⟨10, _⟩ => ⟨S8192x3072, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x256, .f32⟩
  | .hbm, ⟨21, _⟩ => ⟨S256x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x512, .f32⟩
  | .hbm, ⟨34, _⟩ => ⟨S512x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x256, .f32⟩
  | .hbm, ⟨48, _⟩ => ⟨S256x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1024x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== FfnDown.lean ====
abbrev S8192x2816 : Shape := ⟨2, ![8192, 2816]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S1024 : Shape := ⟨1, ![1024]⟩
abbrev S3x2816 : Shape := ⟨2, ![3, 2816]⟩
abbrev S2816 : Shape := ⟨1, ![2816]⟩
abbrev S1x2816 : Shape := ⟨2, ![1, 2816]⟩
abbrev S1x1024 : Shape := ⟨2, ![1, 1024]⟩
abbrev S256x2816 : Shape := ⟨2, ![256, 2816]⟩
abbrev S8x2816 : Shape := ⟨2, ![8, 2816]⟩
abbrev S256x1024 : Shape := ⟨2, ![256, 1024]⟩
abbrev S264x2816 : Shape := ⟨2, ![264, 2816]⟩
abbrev S256 : Shape := ⟨1, ![256]⟩
abbrev S256x1 : Shape := ⟨2, ![256, 1]⟩

abbrev nBuf : Space → Nat
  | .hbm => 17
  | .vmem => 23
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S2816x1024, .bf16⟩
  | .hbm, ⟨5, _⟩ => ⟨S8192x1024, .f32⟩
  | .hbm, ⟨6, _⟩ => ⟨S1024, .f32⟩
  | .hbm, ⟨7, _⟩ => ⟨S3x2816, .f32⟩
  | .hbm, ⟨8, _⟩ => ⟨S3x2816, .f32⟩
  | .hbm, ⟨9, _⟩ => ⟨S2816, .f32⟩
  | .hbm, ⟨10, _⟩ => ⟨S1x2816, .f32⟩
  | .hbm, ⟨11, _⟩ => ⟨S2816, .f32⟩
  | .hbm, ⟨12, _⟩ => ⟨S1x2816, .f32⟩
  | .hbm, ⟨13, _⟩ => ⟨S1x1024, .f32⟩
  | .hbm, ⟨14, _⟩ => ⟨S8192x1024, .f32⟩
  | .hbm, ⟨15, _⟩ => ⟨S8192x2816, .bf16⟩
  | .hbm, ⟨16, _⟩ => ⟨S8192x1024, .bf16⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .f32⟩
  | .local _ .vmem, ⟨5, _⟩ => ⟨S256x2816, .f32⟩
  | .local _ .vmem, ⟨6, _⟩ => ⟨S8x2816, .f32⟩
  | .local _ .vmem, ⟨7, _⟩ => ⟨S8x2816, .f32⟩
  | .local _ .vmem, ⟨8, _⟩ => ⟨S3x2816, .f32⟩
  | .local _ .vmem, ⟨9, _⟩ => ⟨S3x2816, .f32⟩
  | .local _ .vmem, ⟨10, _⟩ => ⟨S1x2816, .f32⟩
  | .local _ .vmem, ⟨11, _⟩ => ⟨S1x2816, .f32⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_35 : BitVec 32 := 0#32
  let v70 : BitVec 1 := Scalar.cmpi .eq arg1 c0_i32_35
  let v71 : BitVec 32 := Scalar.extui v70
  let c0_i32_36 : BitVec 32 := 0#32
  let v72 : BitVec 1 := Scalar.cmpi .ne v71 c0_i32_36
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnDownRefIdeal.lean ====
abbrev S8192x2816 : Shape := ⟨2, ![8192, 2816]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S1024 : Shape := ⟨1, ![1024]⟩
abbrev S3x2816 : Shape := ⟨2, ![3, 2816]⟩
abbrev S2816 : Shape := ⟨1, ![2816]⟩
abbrev S1x2816 : Shape := ⟨2, ![1, 2816]⟩
abbrev S_ : Shape := ⟨0, ![]⟩
abbrev S2x2816 : Shape := ⟨2, ![2, 2816]⟩
abbrev S8190x2816 : Shape := ⟨2, ![8190, 2816]⟩
abbrev S8191x2816 : Shape := ⟨2, ![8191, 2816]⟩
abbrev S8192 : Shape := ⟨1, ![8192]⟩
abbrev S8192x1 : Shape := ⟨2, ![8192, 1]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S2816x1024, .bf16⟩
  | .hbm, ⟨5, _⟩ => ⟨S8192x1024, .f32⟩
  | .hbm, ⟨6, _⟩ => ⟨S1024, .f32⟩
  | .hbm, ⟨7, _⟩ => ⟨S3x2816, .f32⟩
  | .hbm, ⟨8, _⟩ => ⟨S2816, .f32⟩
  | .hbm, ⟨9, _⟩ => ⟨S1x2816, .f32⟩
  | .hbm, ⟨10, _⟩ => ⟨S2816, .f32⟩
  | .hbm, ⟨11, _⟩ => ⟨S_, .f32⟩
  | .hbm, ⟨12, _⟩ => ⟨S2x2816, .f32⟩
  | .hbm, ⟨13, _⟩ => ⟨S8190x2816, .f32⟩
  | .hbm, ⟨14, _⟩ => ⟨S8192x2816, .f32⟩
  | .hbm, ⟨15, _⟩ => ⟨S1x2816, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S2816, .f32⟩
  | .hbm, ⟨20, _⟩ => ⟨S_, .f32⟩
  | .hbm, ⟨21, _⟩ => ⟨S1x2816, .f32⟩
  | .hbm, ⟨22, _⟩ => ⟨S8191x2816, .f32⟩
  | .hbm, ⟨23, _⟩ => ⟨S8192x2816, .f32⟩
  | .hbm, ⟨24, _⟩ => ⟨S1x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S1x2816, .f32⟩
  | .hbm, ⟨35, _⟩ => ⟨S8192x2816, .f32⟩
  | .hbm, ⟨36, _⟩ => ⟨S8192x2816, .f32⟩
  | .hbm, ⟨37, _⟩ => ⟨S3x2816, .f32⟩
  | .hbm, ⟨38, _⟩ => ⟨S2816, .f32⟩
  | .hbm, ⟨39, _⟩ => ⟨S1x2816, .f32⟩
  | .hbm, ⟨40, _⟩ => ⟨S2816, .f32⟩
  | .hbm, ⟨41, _⟩ => ⟨S_, .f32⟩
  | .hbm, ⟨42, _⟩ => ⟨S2x2816, .f32⟩
  | .hbm, ⟨43, _⟩ => ⟨S8190x2816, .f32⟩
  | .hbm, ⟨44, _⟩ => ⟨S8192x2816, .f32⟩
  | .hbm, ⟨45, _⟩ => ⟨S1x2816, .f32⟩
  | .hbm, ⟨46, _⟩ => ⟨S8192x2816, .f32⟩
  | .hbm, ⟨47, _⟩ => ⟨S8192x2816, .f32⟩
  | .hbm, ⟨48, _⟩ => ⟨S1x2816, .f32⟩
  | .hbm, ⟨49, _⟩ => ⟨S2816, .f32⟩
  | .hbm, ⟨50, _⟩ => ⟨S_, .f32⟩
  | .hbm, ⟨51, _⟩ => ⟨S1x2816, .f32⟩
  | .hbm, ⟨52, _⟩ => ⟨S8191x2816, .f32⟩
  | .hbm, ⟨53, _⟩ => ⟨S8192x2816, .f32⟩
  | .hbm, ⟨54, _⟩ => ⟨S1x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S1x2816, .f32⟩
  | .hbm, ⟨59, _⟩ => ⟨S2816, .f32⟩
  | .hbm, ⟨60, _⟩ => ⟨S1x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S1x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S_, .f32⟩
  | .hbm, ⟨70, _⟩ => ⟨S8192x2816, .f32⟩
  | .hbm, ⟨71, _⟩ => ⟨S8192x2816, .f32⟩
  | .hbm, ⟨72, _⟩ => ⟨S_, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S2816x1024, .f32⟩
  | .hbm, ⟨78, _⟩ => ⟨S8192x1024, .f32⟩
  | .hbm, ⟨79, _⟩ => ⟨S8192x1024, .f32⟩
  | .hbm, ⟨80, _⟩ => ⟨S8192x2816, .bf16⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S1x1024, .f32⟩
  | .hbm, ⟨95, _⟩ => ⟨S8192x1024, .f32⟩
  | .hbm, ⟨96, _⟩ => ⟨S8192x1024, .f32⟩
  | .hbm, ⟨97, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_3 : Ref sig .tc := ⟨.hbm, 82, rfl⟩
abbrev main_v63 : Ref sig .tc := ⟨.hbm, 83, rfl⟩
abbrev main_v64 : Ref sig .tc := ⟨.hbm, 84, rfl⟩
abbrev main_cst_4 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== FfnLoss.lean ====
abbrev S8192x2816 : Shape := ⟨2, ![8192, 2816]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S3x2816 : Shape := ⟨2, ![3, 2816]⟩
abbrev S2816 : Shape := ⟨1, ![2816]⟩
abbrev S1x2816 : Shape := ⟨2, ![1, 2816]⟩
abbrev S8x128 : Shape := ⟨2, ![8, 128]⟩
abbrev S256x2816 : Shape := ⟨2, ![256, 2816]⟩
abbrev S8x2816 : Shape := ⟨2, ![8, 2816]⟩
abbrev S256x1024 : Shape := ⟨2, ![256, 1024]⟩
abbrev S264x2816 : Shape := ⟨2, ![264, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 16
  | .vmem => 23
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S2816x1024, .bf16⟩
  | .hbm, ⟨5, _⟩ => ⟨S8192x1024, .f32⟩
  | .hbm, ⟨6, _⟩ => ⟨S8192x1024, .f32⟩
  | .hbm, ⟨7, _⟩ => ⟨S3x2816, .f32⟩
  | .hbm, ⟨8, _⟩ => ⟨S3x2816, .f32⟩
  | .hbm, ⟨9, _⟩ => ⟨S2816, .f32⟩
  | .hbm, ⟨10, _⟩ => ⟨S1x2816, .f32⟩
  | .hbm, ⟨11, _⟩ => ⟨S2816, .f32⟩
  | .hbm, ⟨12, _⟩ => ⟨S1x2816, .f32⟩
  | .hbm, ⟨13, _⟩ => ⟨S8192x1024, .f32⟩
  | .hbm, ⟨14, _⟩ => ⟨S8192x2816, .bf16⟩
  | .hbm, ⟨15, _⟩ => ⟨S8x128, .f32⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .f32⟩
  | .local _ .vmem, ⟨5, _⟩ => ⟨S256x2816, .f32⟩
  | .local _ .vmem, ⟨6, _⟩ => ⟨S8x2816, .f32⟩
  | .local _ .vmem, ⟨7, _⟩ => ⟨S8x2816, .f32⟩
  | .local _ .vmem, ⟨8, _⟩ => ⟨S3x2816, .f32⟩
  | .local _ .vmem, ⟨9, _⟩ => ⟨S3x2816, .f32⟩
  | .local _ .vmem, ⟨10, _⟩ => ⟨S1x2816, .f32⟩
  | .local _ .vmem, ⟨11, _⟩ => ⟨S1x2816, .f32⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x2816, .bf16⟩
  | .local _ .vmem, ⟨20, _⟩ => ⟨S256x2816, .bf16⟩
  | .local _ .vmem, ⟨21, _⟩ => ⟨S8x128, .f32⟩
  | .local _ .vmem, ⟨22, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_35 : BitVec 32 := 0#32
  let v70 : BitVec 1 := Scalar.cmpi .eq arg1 c0_i32_35
  let v71 : BitVec 32 := Scalar.extui v70
  let c0_i32_36 : BitVec 32 := 0#32
  let v72 : BitVec 1 := Scalar.cmpi .ne v71 c0_i32_36
  v72

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v92 : BitVec 32 := Scalar.extui v0
  let c0_i32_50 : BitVec 32 := 0#32
  let v93 : BitVec 1 := Scalar.cmpi .ne v92 c0_i32_50
  v93

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v94 : BitVec 1 := Scalar.xori v0 v_true
  let v95 : BitVec 32 := Scalar.extui v94
  let c0_i32_51 : BitVec 32 := 0#32
  let v96 : BitVec 1 := Scalar.cmpi .ne v95 c0_i32_51
  v96

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== FfnLossRefIdeal.lean ====
abbrev S8192x2816 : Shape := ⟨2, ![8192, 2816]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S3x2816 : Shape := ⟨2, ![3, 2816]⟩
abbrev S2816 : Shape := ⟨1, ![2816]⟩
abbrev S1x2816 : Shape := ⟨2, ![1, 2816]⟩
abbrev S_ : Shape := ⟨0, ![]⟩
abbrev S2x2816 : Shape := ⟨2, ![2, 2816]⟩
abbrev S8190x2816 : Shape := ⟨2, ![8190, 2816]⟩
abbrev S8191x2816 : Shape := ⟨2, ![8191, 2816]⟩
abbrev S8192 : Shape := ⟨1, ![8192]⟩
abbrev S8x128 : Shape := ⟨2, ![8, 128]⟩

abbrev nBuf : Space → Nat
  | .hbm => 105
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S2816x1024, .bf16⟩
  | .hbm, ⟨5, _⟩ => ⟨S8192x1024, .f32⟩
  | .hbm, ⟨6, _⟩ => ⟨S8192x1024, .f32⟩
  | .hbm, ⟨7, _⟩ => ⟨S3x2816, .f32⟩
  | .hbm, ⟨8, _⟩ => ⟨S2816, .f32⟩
  | .hbm, ⟨9, _⟩ => ⟨S1x2816, .f32⟩
  | .hbm, ⟨10, _⟩ => ⟨S2816, .f32⟩
  | .hbm, ⟨11, _⟩ => ⟨S_, .f32⟩
  | .hbm, ⟨12, _⟩ => ⟨S2x2816, .f32⟩
  | .hbm, ⟨13, _⟩ => ⟨S8190x2816, .f32⟩
  | .hbm, ⟨14, _⟩ => ⟨S8192x2816, .f32⟩
  | .hbm, ⟨15, _⟩ => ⟨S1x2816, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S2816, .f32⟩
  | .hbm, ⟨20, _⟩ => ⟨S_, .f32⟩
  | .hbm, ⟨21, _⟩ => ⟨S1x2816, .f32⟩
  | .hbm, ⟨22, _⟩ => ⟨S8191x2816, .f32⟩
  | .hbm, ⟨23, _⟩ => ⟨S8192x2816, .f32⟩
  | .hbm, ⟨24, _⟩ => ⟨S1x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S1x2816, .f32⟩
  | .hbm, ⟨35, _⟩ => ⟨S8192x2816, .f32⟩
  | .hbm, ⟨36, _⟩ => ⟨S8192x2816, .f32⟩
  | .hbm, ⟨37, _⟩ => ⟨S3x2816, .f32⟩
  | .hbm, ⟨38, _⟩ => ⟨S2816, .f32⟩
  | .hbm, ⟨39, _⟩ => ⟨S1x2816, .f32⟩
  | .hbm, ⟨40, _⟩ => ⟨S2816, .f32⟩
  | .hbm, ⟨41, _⟩ => ⟨S_, .f32⟩
  | .hbm, ⟨42, _⟩ => ⟨S2x2816, .f32⟩
  | .hbm, ⟨43, _⟩ => ⟨S8190x2816, .f32⟩
  | .hbm, ⟨44, _⟩ => ⟨S8192x2816, .f32⟩
  | .hbm, ⟨45, _⟩ => ⟨S1x2816, .f32⟩
  | .hbm, ⟨46, _⟩ => ⟨S8192x2816, .f32⟩
  | .hbm, ⟨47, _⟩ => ⟨S8192x2816, .f32⟩
  | .hbm, ⟨48, _⟩ => ⟨S1x2816, .f32⟩
  | .hbm, ⟨49, _⟩ => ⟨S2816, .f32⟩
  | .hbm, ⟨50, _⟩ => ⟨S_, .f32⟩
  | .hbm, ⟨51, _⟩ => ⟨S1x2816, .f32⟩
  | .hbm, ⟨52, _⟩ => ⟨S8191x2816, .f32⟩
  | .hbm, ⟨53, _⟩ => ⟨S8192x2816, .f32⟩
  | .hbm, ⟨54, _⟩ => ⟨S1x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S1x2816, .f32⟩
  | .hbm, ⟨59, _⟩ => ⟨S2816, .f32⟩
  | .hbm, ⟨60, _⟩ => ⟨S1x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S1x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S_, .f32⟩
  | .hbm, ⟨70, _⟩ => ⟨S8192x2816, .f32⟩
  | .hbm, ⟨71, _⟩ => ⟨S8192x2816, .f32⟩
  | .hbm, ⟨72, _⟩ => ⟨S_, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S2816x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S8192, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x2816, .bf16⟩
  | .hbm, ⟨104, _⟩ => ⟨S8x128, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_3 : Ref sig .tc := ⟨.hbm, 82, rfl⟩
abbrev main_v63 : Ref sig .tc := ⟨.hbm, 83, rfl⟩
abbrev main_v64 : Ref sig .tc := ⟨.hbm, 84, rfl⟩
abbrev main_cst_4 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_cst_7 : Ref sig .tc := ⟨.hbm, 92, rfl⟩
abbrev main_v69 : Ref sig .tc := ⟨.hbm, 93, rfl⟩
abbrev main_cst_8 : Ref sig .tc := ⟨.hbm, 94, rfl⟩
abbrev main_cst_9 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== FirstNorm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AdamIn.lean ====
abbrev S8x1024x576 : Shape := ⟨3, ![8, 1024, 576]⟩
abbrev S2x1024x576 : Shape := ⟨3, ![2, 1024, 576]⟩
abbrev S8x256x576 : Shape := ⟨3, ![8, 256, 576]⟩
abbrev S1x256x576 : Shape := ⟨3, ![1, 256, 576]⟩
abbrev S256x576 : Shape := ⟨2, ![256, 576]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x576, .bf16⟩
  | .hbm, ⟨1, _⟩ => ⟨S8x1024x576, .bf16⟩
  | .hbm, ⟨2, _⟩ => ⟨S2x1024x576, .f32⟩
  | .hbm, ⟨3, _⟩ => ⟨S2x1024x576, .f32⟩
  | .hbm, ⟨4, _⟩ => ⟨S2x1024x576, .f32⟩
  | .hbm, ⟨5, _⟩ => ⟨S2x1024x576, .f32⟩
  | .hbm, ⟨6, _⟩ => ⟨S2x1024x576, .f32⟩
  | .hbm, ⟨7, _⟩ => ⟨S2x1024x576, .f32⟩
  | .hbm, ⟨8, _⟩ => ⟨S2x1024x576, .f32⟩
  | .local _ .vmem, ⟨0, _⟩ => ⟨S8x256x576, .bf16⟩
  | .local _ .vmem, ⟨1, _⟩ => ⟨S8x256x576, .bf16⟩
  | .local _ .vmem, ⟨2, _⟩ => ⟨S8x256x576, .bf16⟩
  | .local _ .vmem, ⟨3, _⟩ => ⟨S8x256x576, .bf16⟩
  | .local _ .vmem, ⟨4, _⟩ => ⟨S1x256x576, .f32⟩
  | .local _ .vmem, ⟨5, _⟩ => ⟨S1x256x576, .f32⟩
  | .local _ .vmem, ⟨6, _⟩ => ⟨S1x256x576, .f32⟩
  | .local _ .vmem, ⟨7, _⟩ => ⟨S1x256x576, .f32⟩
  | .local _ .vmem, ⟨8, _⟩ => ⟨S1x256x576, .f32⟩
  | .local _ .vmem, ⟨9, _⟩ => ⟨S1x256x576, .f32⟩
  | .local _ .vmem, ⟨10, _⟩ => ⟨S1x256x576, .f32⟩
  | .local _ .vmem, ⟨11, _⟩ => ⟨S1x256x576, .f32⟩
  | .local _ .vmem, ⟨12, _⟩ => ⟨S1x256x576, .f32⟩
  | .local _ .vmem, ⟨13, _⟩ => ⟨S1x256x576, .f32⟩
  | .local _ .vmem, ⟨14, _⟩ => ⟨S1x256x576, .f32⟩
  | .local _ .vmem, ⟨15, _⟩ => ⟨S1x256x576, .f32⟩
  | .local _ .vmem, ⟨16, _⟩ => ⟨S1x256x576, .f32⟩
  | .local _ .vmem, ⟨17, _⟩ => ⟨S1x256x576, .f32⟩
  | _, _ => ⟨S8x1024x576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInIdeal.lean ====
abbrev S8x1024x576 : Shape := ⟨3, ![8, 1024, 576]⟩
abbrev S2x1024x576 : Shape := ⟨3, ![2, 1024, 576]⟩
abbrev S8x256x576 : Shape := ⟨3, ![8, 256, 576]⟩
abbrev S1x256x576 : Shape := ⟨3, ![1, 256, 576]⟩
abbrev S256x576 : Shape := ⟨2, ![256, 576]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x576, .bf16⟩
  | .hbm, ⟨1, _⟩ => ⟨S8x1024x576, .bf16⟩
  | .hbm, ⟨2, _⟩ => ⟨S2x1024x576, .f32⟩
  | .hbm, ⟨3, _⟩ => ⟨S2x1024x576, .f32⟩
  | .hbm, ⟨4, _⟩ => ⟨S2x1024x576, .f32⟩
  | .hbm, ⟨5, _⟩ => ⟨S2x1024x576, .f32⟩
  | .hbm, ⟨6, _⟩ => ⟨S2x1024x576, .f32⟩
  | .hbm, ⟨7, _⟩ => ⟨S2x1024x576, .f32⟩
  | .hbm, ⟨8, _⟩ => ⟨S2x1024x576, .f32⟩
  | .local _ .vmem, ⟨0, _⟩ => ⟨S8x256x576, .bf16⟩
  | .local _ .vmem, ⟨1, _⟩ => ⟨S8x256x576, .bf16⟩
  | .local _ .vmem, ⟨2, _⟩ => ⟨S8x256x576, .bf16⟩
  | .local _ .vmem, ⟨3, _⟩ => ⟨S8x256x576, .bf16⟩
  | .local _ .vmem, ⟨4, _⟩ => ⟨S1x256x576, .f32⟩
  | .local _ .vmem, ⟨5, _⟩ => ⟨S1x256x576, .f32⟩
  | .local _ .vmem, ⟨6, _⟩ => ⟨S1x256x576, .f32⟩
  | .local _ .vmem, ⟨7, _⟩ => ⟨S1x256x576, .f32⟩
  | .local _ .vmem, ⟨8, _⟩ => ⟨S1x256x576, .f32⟩
  | .local _ .vmem, ⟨9, _⟩ => ⟨S1x256x576, .f32⟩
  | .local _ .vmem, ⟨10, _⟩ => ⟨S1x256x576, .f32⟩
  | .local _ .vmem, ⟨11, _⟩ => ⟨S1x256x576, .f32⟩
  | .local _ .vmem, ⟨12, _⟩ => ⟨S1x256x576, .f32⟩
  | .local _ .vmem, ⟨13, _⟩ => ⟨S1x256x576, .f32⟩
  | .local _ .vmem, ⟨14, _⟩ => ⟨S1x256x576, .f32⟩
  | .local _ .vmem, ⟨15, _⟩ => ⟨S1x256x576, .f32⟩
  | .local _ .vmem, ⟨16, _⟩ => ⟨S1x256x576, .f32⟩
  | .local _ .vmem, ⟨17, _⟩ => ⟨S1x256x576, .f32⟩
  | _, _ => ⟨S8x1024x576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S8x1024x576 : Shape := ⟨3, ![8, 1024, 576]⟩
abbrev S2x1024x576 : Shape := ⟨3, ![2, 1024, 576]⟩
abbrev S_ : Shape := ⟨0, ![]⟩
abbrev S1024x576 : Shape := ⟨2, ![1024, 576]⟩
abbrev S1x1024x576 : Shape := ⟨3, ![1, 1024, 576]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x576, .bf16⟩
  | .hbm, ⟨1, _⟩ => ⟨S8x1024x576, .bf16⟩
  | .hbm, ⟨2, _⟩ => ⟨S2x1024x576, .f32⟩
  | .hbm, ⟨3, _⟩ => ⟨S2x1024x576, .f32⟩
  | .hbm, ⟨4, _⟩ => ⟨S2x1024x576, .f32⟩
  | .hbm, ⟨5, _⟩ => ⟨S8x1024x576, .f32⟩
  | .hbm, ⟨6, _⟩ => ⟨S_, .f32⟩
  | .hbm, ⟨7, _⟩ => ⟨S1024x576, .f32⟩
  | .hbm, ⟨8, _⟩ => ⟨S8x1024x576, .f32⟩
  | .hbm, ⟨9, _⟩ => ⟨S_, .f32⟩
  | .hbm, ⟨10, _⟩ => ⟨S1024x576, .f32⟩
  | .hbm, ⟨11, _⟩ => ⟨S1x1024x576, .f32⟩
  | .hbm, ⟨12, _⟩ => ⟨S1x1024x576, .f32⟩
  | .hbm, ⟨13, _⟩ => ⟨S2x1024x576, .f32⟩
  | .hbm, ⟨14, _⟩ => ⟨S_, .f32⟩
  | .hbm, ⟨15, _⟩ => ⟨S2x1024x576, .f32⟩
  | .hbm, ⟨16, _⟩ => ⟨S2x1024x576, .f32⟩
  | .hbm, ⟨17, _⟩ => ⟨S_, .f32⟩
  | .hbm, ⟨18, _⟩ => ⟨S2x1024x576, .f32⟩
  | .hbm, ⟨19, _⟩ => ⟨S2x1024x576, .f32⟩
  | .hbm, ⟨20, _⟩ => ⟨S2x1024x576, .f32⟩
  | .hbm, ⟨21, _⟩ => ⟨S_, .f32⟩
  | .hbm, ⟨22, _⟩ => ⟨S2x1024x576, .f32⟩
  | .hbm, ⟨23, _⟩ => ⟨S2x1024x576, .f32⟩
  | .hbm, ⟨24, _⟩ => ⟨S2x1024x576, .f32⟩
  | .hbm, ⟨25, _⟩ => ⟨S_, .f32⟩
  | .hbm, ⟨26, _⟩ => ⟨S2x1024x576, .f32⟩
  | .hbm, ⟨27, _⟩ => ⟨S2x1024x576, .f32⟩
  | .hbm, ⟨28, _⟩ => ⟨S2x1024x576, .f32⟩
  | .hbm, ⟨29, _⟩ => ⟨S_, .f32⟩
  | .hbm, ⟨30, _⟩ => ⟨S2x1024x576, .f32⟩
  | .hbm, ⟨31, _⟩ => ⟨S2x1024x576, .f32⟩
  | .hbm, ⟨32, _⟩ => ⟨S_, .f32⟩
  | .hbm, ⟨33, _⟩ => ⟨S2x1024x576, .f32⟩
  | .hbm, ⟨34, _⟩ => ⟨S2x1024x576, .f32⟩
  | .hbm, ⟨35, _⟩ => ⟨S2x1024x576, .f32⟩
  | .hbm, ⟨36, _⟩ => ⟨S_, .f32⟩
  | .hbm, ⟨37, _⟩ => ⟨S2x1024x576, .f32⟩
  | .hbm, ⟨38, _⟩ => ⟨S2x1024x576, .f32⟩
  | .hbm, ⟨39, _⟩ => ⟨S2x1024x576, .f32⟩
  | .hbm, ⟨40, _⟩ => ⟨S_, .f32⟩
  | .hbm, ⟨41, _⟩ => ⟨S2x1024x576, .f32⟩
  | .hbm, ⟨42, _⟩ => ⟨S2x1024x576, .f32⟩
  | .hbm, ⟨43, _⟩ => ⟨S2x1024x576, .f32⟩
  | .hbm, ⟨44, _⟩ => ⟨S_, .f32⟩
  | .hbm, ⟨45, _⟩ => ⟨S2x1024x576, .f32⟩
  | .hbm, ⟨46, _⟩ => ⟨S2x1024x576, .f32⟩
  | _, _ => ⟨S8x1024x576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamNarrow.lean ====
abbrev S8x256x128 : Shape := ⟨3, ![8, 256, 128]⟩
abbrev S2x256x128 : Shape := ⟨3, ![2, 256, 128]⟩
abbrev S1x256x128 : Shape := ⟨3, ![1, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x256x128, .bf16⟩
  | .hbm, ⟨1, _⟩ => ⟨S8x256x128, .bf16⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamNarrowIdeal.lean ====
abbrev S8x256x128 : Shape := ⟨3, ![8, 256, 128]⟩
abbrev S2x256x128 : Shape := ⟨3, ![2, 256, 128]⟩
abbrev S1x256x128 : Shape := ⟨3, ![1, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x256x128, .bf16⟩
  | .hbm, ⟨1, _⟩ => ⟨S8x256x128, .bf16⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamNarrowRefIdeal.lean ====
abbrev S8x256x128 : Shape := ⟨3, ![8, 256, 128]⟩
abbrev S2x256x128 : Shape := ⟨3, ![2, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S8x256x128, .bf16⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S8x256x128, .f32⟩
  | .hbm, ⟨6, _⟩ => ⟨S_, .f32⟩
  | .hbm, ⟨7, _⟩ => ⟨S256x128, .f32⟩
  | .hbm, ⟨8, _⟩ => ⟨S8x256x128, .f32⟩
  | .hbm, ⟨9, _⟩ => ⟨S_, .f32⟩
  | .hbm, ⟨10, _⟩ => ⟨S256x128, .f32⟩
  | .hbm, ⟨11, _⟩ => ⟨S1x256x128, .f32⟩
  | .hbm, ⟨12, _⟩ => ⟨S1x256x128, .f32⟩
  | .hbm, ⟨13, _⟩ => ⟨S2x256x128, .f32⟩
  | .hbm, ⟨14, _⟩ => ⟨S_, .f32⟩
  | .hbm, ⟨15, _⟩ => ⟨S2x256x128, .f32⟩
  | .hbm, ⟨16, _⟩ => ⟨S2x256x128, .f32⟩
  | .hbm, ⟨17, _⟩ => ⟨S_, .f32⟩
  | .hbm, ⟨18, _⟩ => ⟨S2x256x128, .f32⟩
  | .hbm, ⟨19, _⟩ => ⟨S2x256x128, .f32⟩
  | .hbm, ⟨20, _⟩ => ⟨S2x256x128, .f32⟩
  | .hbm, ⟨21, _⟩ => ⟨S_, .f32⟩
  | .hbm, ⟨22, _⟩ => ⟨S2x256x128, .f32⟩
  | .hbm, ⟨23, _⟩ => ⟨S2x256x128, .f32⟩
  | .hbm, ⟨24, _⟩ => ⟨S2x256x128, .f32⟩
  | .hbm, ⟨25, _⟩ => ⟨S_, .f32⟩
  | .hbm, ⟨26, _⟩ => ⟨S2x256x128, .f32⟩
  | .hbm, ⟨27, _⟩ => ⟨S2x256x128, .f32⟩
  | .hbm, ⟨28, _⟩ => ⟨S2x256x128, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S_, .f32⟩
  | .hbm, ⟨33, _⟩ => ⟨S2x256x128, .f32⟩
  | .hbm, ⟨34, _⟩ => ⟨S2x256x128, .f32⟩
  | .hbm, ⟨35, _⟩ => ⟨S2x256x128, .f32⟩
  | .hbm, ⟨36, _⟩ => ⟨S_, .f32⟩
  | .hbm, ⟨37, _⟩ => ⟨S2x256x128, .f32⟩
  | .hbm, ⟨38, _⟩ => ⟨S2x256x128, .f32⟩
  | .hbm, ⟨39, _⟩ => ⟨S2x256x128, .f32⟩
  | .hbm, ⟨40, _⟩ => ⟨S_, .f32⟩
  | .hbm, ⟨41, _⟩ => ⟨S2x256x128, .f32⟩
  | .hbm, ⟨42, _⟩ => ⟨S2x256x128, .f32⟩
  | .hbm, ⟨43, _⟩ => ⟨S2x256x128, .f32⟩
  | .hbm, ⟨44, _⟩ => ⟨S_, .f32⟩
  | .hbm, ⟨45, _⟩ => ⟨S2x256x128, .f32⟩
  | .hbm, ⟨46, _⟩ => ⟨S2x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamMiddle.lean ====
abbrev S8x512x128 : Shape := ⟨3, ![8, 512, 128]⟩
abbrev S2x512x128 : Shape := ⟨3, ![2, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMiddleIdeal.lean ====
abbrev S8x512x128 : Shape := ⟨3, ![8, 512, 128]⟩
abbrev S2x512x128 : Shape := ⟨3, ![2, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMiddleRefIdeal.lean ====
abbrev S8x512x128 : Shape := ⟨3, ![8, 512, 128]⟩
abbrev S2x512x128 : Shape := ⟨3, ![2, 512, 128]⟩
abbrev S_ : Shape := ⟨0, ![]⟩
abbrev S512x128 : Shape := ⟨2, ![512, 128]⟩
abbrev S1x512x128 : Shape := ⟨3, ![1, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S1x512x128, .f32⟩
  | .hbm, ⟨12, _⟩ => ⟨S1x512x128, .f32⟩
  | .hbm, ⟨13, _⟩ => ⟨S2x512x128, .f32⟩
  | .hbm, ⟨14, _⟩ => ⟨S_, .f32⟩
  | .hbm, ⟨15, _⟩ => ⟨S2x512x128, .f32⟩
  | .hbm, ⟨16, _⟩ => ⟨S2x512x128, .f32⟩
  | .hbm, ⟨17, _⟩ => ⟨S_, .f32⟩
  | .hbm, ⟨18, _⟩ => ⟨S2x512x128, .f32⟩
  | .hbm, ⟨19, _⟩ => ⟨S2x512x128, .f32⟩
  | .hbm, ⟨20, _⟩ => ⟨S2x512x128, .f32⟩
  | .hbm, ⟨21, _⟩ => ⟨S_, .f32⟩
  | .hbm, ⟨22, _⟩ => ⟨S2x512x128, .f32⟩
  | .hbm, ⟨23, _⟩ => ⟨S2x512x128, .f32⟩
  | .hbm, ⟨24, _⟩ => ⟨S2x512x128, .f32⟩
  | .hbm, ⟨25, _⟩ => ⟨S_, .f32⟩
  | .hbm, ⟨26, _⟩ => ⟨S2x512x128, .f32⟩
  | .hbm, ⟨27, _⟩ => ⟨S2x512x128, .f32⟩
  | .hbm, ⟨28, _⟩ => ⟨S2x512x128, .f32⟩
  | .hbm, ⟨29, _⟩ => ⟨S_, .f32⟩
  | .hbm, ⟨30, _⟩ => ⟨S2x512x128, .f32⟩
  | .hbm, ⟨31, _⟩ => ⟨S2x512x128, .f32⟩
  | .hbm, ⟨32, _⟩ => ⟨S_, .f32⟩
  | .hbm, ⟨33, _⟩ => ⟨S2x512x128, .f32⟩
  | .hbm, ⟨34, _⟩ => ⟨S2x512x128, .f32⟩
  | .hbm, ⟨35, _⟩ => ⟨S2x512x128, .f32⟩
  | .hbm, ⟨36, _⟩ => ⟨S_, .f32⟩
  | .hbm, ⟨37, _⟩ => ⟨S2x512x128, .f32⟩
  | .hbm, ⟨38, _⟩ => ⟨S2x512x128, .f32⟩
  | .hbm, ⟨39, _⟩ => ⟨S2x512x128, .f32⟩
  | .hbm, ⟨40, _⟩ => ⟨S_, .f32⟩
  | .hbm, ⟨41, _⟩ => ⟨S2x512x128, .f32⟩
  | .hbm, ⟨42, _⟩ => ⟨S2x512x128, .f32⟩
  | .hbm, ⟨43, _⟩ => ⟨S2x512x128, .f32⟩
  | .hbm, ⟨44, _⟩ => ⟨S_, .f32⟩
  | .hbm, ⟨45, _⟩ => ⟨S2x512x128, .f32⟩
  | .hbm, ⟨46, _⟩ => ⟨S2x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamUp.lean ====
abbrev S8x1024x704 : Shape := ⟨3, ![8, 1024, 704]⟩
abbrev S2x1024x704 : Shape := ⟨3, ![2, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpIdeal.lean ====
abbrev S8x1024x704 : Shape := ⟨3, ![8, 1024, 704]⟩
abbrev S2x1024x704 : Shape := ⟨3, ![2, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S8x1024x704 : Shape := ⟨3, ![8, 1024, 704]⟩
abbrev S2x1024x704 : Shape := ⟨3, ![2, 1024, 704]⟩
abbrev S_ : Shape := ⟨0, ![]⟩
abbrev S1024x704 : Shape := ⟨2, ![1024, 704]⟩
abbrev S1x1024x704 : Shape := ⟨3, ![1, 1024, 704]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x1024x704, .f32⟩
  | .hbm, ⟨6, _⟩ => ⟨S_, .f32⟩
  | .hbm, ⟨7, _⟩ => ⟨S1024x704, .f32⟩
  | .hbm, ⟨8, _⟩ => ⟨S8x1024x704, .f32⟩
  | .hbm, ⟨9, _⟩ => ⟨S_, .f32⟩
  | .hbm, ⟨10, _⟩ => ⟨S1024x704, .f32⟩
  | .hbm, ⟨11, _⟩ => ⟨S1x1024x704, .f32⟩
  | .hbm, ⟨12, _⟩ => ⟨S1x1024x704, .f32⟩
  | .hbm, ⟨13, _⟩ => ⟨S2x1024x704, .f32⟩
  | .hbm, ⟨14, _⟩ => ⟨S_, .f32⟩
  | .hbm, ⟨15, _⟩ => ⟨S2x1024x704, .f32⟩
  | .hbm, ⟨16, _⟩ => ⟨S2x1024x704, .f32⟩
  | .hbm, ⟨17, _⟩ => ⟨S_, .f32⟩
  | .hbm, ⟨18, _⟩ => ⟨S2x1024x704, .f32⟩
  | .hbm, ⟨19, _⟩ => ⟨S2x1024x704, .f32⟩
  | .hbm, ⟨20, _⟩ => ⟨S2x1024x704, .f32⟩
  | .hbm, ⟨21, _⟩ => ⟨S_, .f32⟩
  | .hbm, ⟨22, _⟩ => ⟨S2x1024x704, .f32⟩
  | .hbm, ⟨23, _⟩ => ⟨S2x1024x704, .f32⟩
  | .hbm, ⟨24, _⟩ => ⟨S2x1024x704, .f32⟩
  | .hbm, ⟨25, _⟩ => ⟨S_, .f32⟩
  | .hbm, ⟨26, _⟩ => ⟨S2x1024x704, .f32⟩
  | .hbm, ⟨27, _⟩ => ⟨S2x1024x704, .f32⟩
  | .hbm, ⟨28, _⟩ => ⟨S2x1024x704, .f32⟩
  | .hbm, ⟨29, _⟩ => ⟨S_, .f32⟩
  | .hbm, ⟨30, _⟩ => ⟨S2x1024x704, .f32⟩
  | .hbm, ⟨31, _⟩ => ⟨S2x1024x704, .f32⟩
  | .hbm, ⟨32, _⟩ => ⟨S_, .f32⟩
  | .hbm, ⟨33, _⟩ => ⟨S2x1024x704, .f32⟩
  | .hbm, ⟨34, _⟩ => ⟨S2x1024x704, .f32⟩
  | .hbm, ⟨35, _⟩ => ⟨S2x1024x704, .f32⟩
  | .hbm, ⟨36, _⟩ => ⟨S_, .f32⟩
  | .hbm, ⟨37, _⟩ => ⟨S2x1024x704, .f32⟩
  | .hbm, ⟨38, _⟩ => ⟨S2x1024x704, .f32⟩
  | .hbm, ⟨39, _⟩ => ⟨S2x1024x704, .f32⟩
  | .hbm, ⟨40, _⟩ => ⟨S_, .f32⟩
  | .hbm, ⟨41, _⟩ => ⟨S2x1024x704, .f32⟩
  | .hbm, ⟨42, _⟩ => ⟨S2x1024x704, .f32⟩
  | .hbm, ⟨43, _⟩ => ⟨S2x1024x704, .f32⟩
  | .hbm, ⟨44, _⟩ => ⟨S_, .f32⟩
  | .hbm, ⟨45, _⟩ => ⟨S2x1024x704, .f32⟩
  | .hbm, ⟨46, _⟩ => ⟨S2x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamDown.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownIdeal.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamConv.lean ====
abbrev S8x3x704 : Shape := ⟨3, ![8, 3, 704]⟩
abbrev S2x3x704 : Shape := ⟨3, ![2, 3, 704]⟩
abbrev S1x3x704 : Shape := ⟨3, ![1, 3, 704]⟩
abbrev S3x704 : Shape := ⟨2, ![3, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x3x704, .f32⟩
  | .hbm, ⟨1, _⟩ => ⟨S8x3x704, .f32⟩
  | .hbm, ⟨2, _⟩ => ⟨S2x3x704, .f32⟩
  | .hbm, ⟨3, _⟩ => ⟨S2x3x704, .f32⟩
  | .hbm, ⟨4, _⟩ => ⟨S2x3x704, .f32⟩
  | .hbm, ⟨5, _⟩ => ⟨S2x3x704, .f32⟩
  | .hbm, ⟨6, _⟩ => ⟨S2x3x704, .f32⟩
  | .hbm, ⟨7, _⟩ => ⟨S2x3x704, .f32⟩
  | .hbm, ⟨8, _⟩ => ⟨S2x3x704, .f32⟩
  | .local _ .vmem, ⟨0, _⟩ => ⟨S8x3x704, .f32⟩
  | .local _ .vmem, ⟨1, _⟩ => ⟨S8x3x704, .f32⟩
  | .local _ .vmem, ⟨2, _⟩ => ⟨S8x3x704, .f32⟩
  | .local _ .vmem, ⟨3, _⟩ => ⟨S8x3x704, .f32⟩
  | .local _ .vmem, ⟨4, _⟩ => ⟨S1x3x704, .f32⟩
  | .local _ .vmem, ⟨5, _⟩ => ⟨S1x3x704, .f32⟩
  | .local _ .vmem, ⟨6, _⟩ => ⟨S1x3x704, .f32⟩
  | .local _ .vmem, ⟨7, _⟩ => ⟨S1x3x704, .f32⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | .local _ .vmem, ⟨16, _⟩ => ⟨S1x3x704, .f32⟩
  | .local _ .vmem, ⟨17, _⟩ => ⟨S1x3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x3x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvRefIdeal.lean ====
abbrev S8x3x704 : Shape := ⟨3, ![8, 3, 704]⟩
abbrev S2x3x704 : Shape := ⟨3, ![2, 3, 704]⟩
abbrev S_ : Shape := ⟨0, ![]⟩
abbrev S3x704 : Shape := ⟨2, ![3, 704]⟩
abbrev S1x3x704 : Shape := ⟨3, ![1, 3, 704]⟩

abbrev nBuf : Space → Nat
  | .hbm => 45
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S8x3x704, .f32⟩
  | .hbm, ⟨2, _⟩ => ⟨S2x3x704, .f32⟩
  | .hbm, ⟨3, _⟩ => ⟨S2x3x704, .f32⟩
  | .hbm, ⟨4, _⟩ => ⟨S2x3x704, .f32⟩
  | .hbm, ⟨5, _⟩ => ⟨S_, .f32⟩
  | .hbm, ⟨6, _⟩ => ⟨S3x704, .f32⟩
  | .hbm, ⟨7, _⟩ => ⟨S_, .f32⟩
  | .hbm, ⟨8, _⟩ => ⟨S3x704, .f32⟩
  | .hbm, ⟨9, _⟩ => ⟨S1x3x704, .f32⟩
  | .hbm, ⟨10, _⟩ => ⟨S1x3x704, .f32⟩
  | .hbm, ⟨11, _⟩ => ⟨S2x3x704, .f32⟩
  | .hbm, ⟨12, _⟩ => ⟨S_, .f32⟩
  | .hbm, ⟨13, _⟩ => ⟨S2x3x704, .f32⟩
  | .hbm, ⟨14, _⟩ => ⟨S2x3x704, .f32⟩
  | .hbm, ⟨15, _⟩ => ⟨S_, .f32⟩
  | .hbm, ⟨16, _⟩ => ⟨S2x3x704, .f32⟩
  | .hbm, ⟨17, _⟩ => ⟨S2x3x704, .f32⟩
  | .hbm, ⟨18, _⟩ => ⟨S2x3x704, .f32⟩
  | .hbm, ⟨19, _⟩ => ⟨S_, .f32⟩
  | .hbm, ⟨20, _⟩ => ⟨S2x3x704, .f32⟩
  | .hbm, ⟨21, _⟩ => ⟨S2x3x704, .f32⟩
  | .hbm, ⟨22, _⟩ => ⟨S2x3x704, .f32⟩
  | .hbm, ⟨23, _⟩ => ⟨S_, .f32⟩
  | .hbm, ⟨24, _⟩ => ⟨S2x3x704, .f32⟩
  | .hbm, ⟨25, _⟩ => ⟨S2x3x704, .f32⟩
  | .hbm, ⟨26, _⟩ => ⟨S2x3x704, .f32⟩
  | .hbm, ⟨27, _⟩ => ⟨S_, .f32⟩
  | .hbm, ⟨28, _⟩ => ⟨S2x3x704, .f32⟩
  | .hbm, ⟨29, _⟩ => ⟨S2x3x704, .f32⟩
  | .hbm, ⟨30, _⟩ => ⟨S_, .f32⟩
  | .hbm, ⟨31, _⟩ => ⟨S2x3x704, .f32⟩
  | .hbm, ⟨32, _⟩ => ⟨S2x3x704, .f32⟩
  | .hbm, ⟨33, _⟩ => ⟨S2x3x704, .f32⟩
  | .hbm, ⟨34, _⟩ => ⟨S_, .f32⟩
  | .hbm, ⟨35, _⟩ => ⟨S2x3x704, .f32⟩
  | .hbm, ⟨36, _⟩ => ⟨S2x3x704, .f32⟩
  | .hbm, ⟨37, _⟩ => ⟨S2x3x704, .f32⟩
  | .hbm, ⟨38, _⟩ => ⟨S_, .f32⟩
  | .hbm, ⟨39, _⟩ => ⟨S2x3x704, .f32⟩
  | .hbm, ⟨40, _⟩ => ⟨S2x3x704, .f32⟩
  | .hbm, ⟨41, _⟩ => ⟨S2x3x704, .f32⟩
  | .hbm, ⟨42, _⟩ => ⟨S_, .f32⟩
  | .hbm, ⟨43, _⟩ => ⟨S2x3x704, .f32⟩
  | .hbm, ⟨44, _⟩ => ⟨S2x3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== PoolFwd.lean ====
abbrev S8192x4608 : Shape := ⟨2, ![8192, 4608]⟩
abbrev S4x64x64 : Shape := ⟨3, ![4, 64, 64]⟩
abbrev S256 : Shape := ⟨1, ![256]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S8192x256 : Shape := ⟨2, ![8192, 256]⟩
abbrev S128x256 : Shape := ⟨2, ![128, 256]⟩
abbrev S16x256 : Shape := ⟨2, ![16, 256]⟩
abbrev S144x256 : Shape := ⟨2, ![144, 256]⟩

abbrev nBuf : Space → Nat
  | .hbm => 19
  | .vmem => 8
  | .smem => 0
  | _ => 0

abbrev bufTy : (tb : Table) → Fin (tcTables nBuf tb) → BufTy
  | .hbm, ⟨0, _⟩ => ⟨S8192x4608, .f32⟩
  | .hbm, ⟨1, _⟩ => ⟨S4x64x64, .f32⟩
  | .hbm, ⟨2, _⟩ => ⟨S256, .f32⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .f32⟩
  | .hbm, ⟨10, _⟩ => ⟨S4x1x4x1, .f32⟩
  | .hbm, ⟨11, _⟩ => ⟨S4x64x1x64, .f32⟩
  | .hbm, ⟨12, _⟩ => ⟨S4x64x4x64, .f32⟩
  | .hbm, ⟨13, _⟩ => ⟨S4x64x4x64, .f32⟩
  | .hbm, ⟨14, _⟩ => ⟨S4x64x4x64, .f32⟩
  | .hbm, ⟨15, _⟩ => ⟨S256x256, .f32⟩
  | .hbm, ⟨16, _⟩ => ⟨S256x256, .bf16⟩
  | .hbm, ⟨17, _⟩ => ⟨S1x256, .f32⟩
  | .hbm, ⟨18, _⟩ => ⟨S8192x256, .bf16⟩
  | .local _ .vmem, ⟨0, _⟩ => ⟨S128x256, .f32⟩
  | .local _ .vmem, ⟨1, _⟩ => ⟨S128x256, .f32⟩
  | .local _ .vmem, ⟨2, _⟩ => ⟨S16x256, .f32⟩
  | .local _ .vmem, ⟨3, _⟩ => ⟨S16x256, .f32⟩
  | .local _ .vmem, ⟨4, _⟩ => ⟨S256x256, .bf16⟩
  | .local _ .vmem, ⟨5, _⟩ => ⟨S1x256, .f32⟩
  | .local _ .vmem, ⟨6, _⟩ => ⟨S128x256, .bf16⟩
  | .local _ .vmem, ⟨7, _⟩ => ⟨S128x256, .bf16⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S8192x4608 : Shape := ⟨2, ![8192, 4608]⟩
abbrev S4x64x64 : Shape := ⟨3, ![4, 64, 64]⟩
abbrev S256 : Shape := ⟨1, ![256]⟩
abbrev S8192x256 : Shape := ⟨2, ![8192, 256]⟩
abbrev S8192x64 : Shape := ⟨2, ![8192, 64]⟩
abbrev S_ : Shape := ⟨0, ![]⟩
abbrev S1x64 : Shape := ⟨2, ![1, 64]⟩
abbrev S8191x64 : Shape := ⟨2, ![8191, 64]⟩
abbrev S8192 : Shape := ⟨1, ![8192]⟩
abbrev S8192x1 : Shape := ⟨2, ![8192, 1]⟩
abbrev S1x64x64 : Shape := ⟨3, ![1, 64, 64]⟩
abbrev S64x64 : Shape := ⟨2, ![64, 64]⟩
abbrev S2x64 : Shape := ⟨2, ![2, 64]⟩
abbrev S8190x64 : Shape := ⟨2, ![8190, 64]⟩
abbrev S3x64 : Shape := ⟨2, ![3, 64]⟩
abbrev S8189x64 : Shape := ⟨2, ![8189, 64]⟩
abbrev S4x64 : Shape := ⟨2, ![4, 64]⟩
abbrev S8188x64 : Shape := ⟨2, ![8188, 64]⟩
abbrev S5x64 : Shape := ⟨2, ![5, 64]⟩
abbrev S8187x64 : Shape := ⟨2, ![8187, 64]⟩
abbrev S6x64 : Shape := ⟨2, ![6, 64]⟩
abbrev S8186x64 : Shape := ⟨2, ![8186, 64]⟩
abbrev S7x64 : Shape := ⟨2, ![7, 64]⟩
abbrev S8185x64 : Shape := ⟨2, ![8185, 64]⟩
abbrev S8x64 : Shape := ⟨2, ![8, 64]⟩
abbrev S8184x64 : Shape := ⟨2, ![8184, 64]⟩
abbrev S9x64 : Shape := ⟨2, ![9, 64]⟩
abbrev S8183x64 : Shape := ⟨2, ![8183, 64]⟩
abbrev S10x64 : Shape := ⟨2, ![10, 64]⟩
abbrev S8182x64 : Shape := ⟨2, ![8182, 64]⟩
abbrev S11x64 : Shape := ⟨2, ![11, 64]⟩
abbrev S8181x64 : Shape := ⟨2, ![8181, 64]⟩
abbrev S12x64 : Shape := ⟨2, ![12, 64]⟩
abbrev S8180x64 : Shape := ⟨2, ![8180, 64]⟩
abbrev S13x64 : Shape := ⟨2, ![13, 64]⟩
abbrev S8179x64 : Shape := ⟨2, ![8179, 64]⟩
abbrev S14x64 : Shape := ⟨2, ![14, 64]⟩
abbrev S8178x64 : Shape := ⟨2, ![8178, 64]⟩
abbrev S15x64 : Shape := ⟨2, ![15, 64]⟩
abbrev S8177x64 : Shape := ⟨2, ![8177, 64]⟩
abbrev S1x256 : Shape := ⟨2, ![1, 256]⟩

abbrev nBuf : Space → Nat
  | .hbm => 203
  | .vmem => 0
  | .smem => 0
  | _ => 0

abbrev hbmTy0_0 (i : Nat) : BufTy := match i % 128 with
  | 0 => ⟨S8192x4608, .f32⟩
  | 1 => ⟨S4x64x64, .f32⟩
  | 2 => ⟨S256, .f32⟩
  | 3 => ⟨S8192x256, .f32⟩
  | 4 => ⟨S8192x64, .f32⟩
  | 5 => ⟨S_, .f32⟩
  | 6 => ⟨S1x64, .f32⟩
  | 7 => ⟨S8191x64, .f32⟩
  | 8 => ⟨S8192x64, .f32⟩
  | 9 => ⟨S8192x64, .f32⟩
  | 10 => ⟨S8192, .i32⟩
  | 11 => ⟨S_, .i32⟩
  | 12 => ⟨S8192, .i32⟩
  | 13 => ⟨S8192, .i32⟩
  | 14 => ⟨S_, .i32⟩
  | 15 => ⟨S8192, .i32⟩
  | 16 => ⟨S8192, .i32⟩
  | 17 => ⟨S8192, .f32⟩
  | 18 => ⟨S8192x1, .f32⟩
  | 19 => ⟨S8192x64, .f32⟩
  | 20 => ⟨S8192x64, .f32⟩
  | 21 => ⟨S8192x64, .f32⟩
  | 22 => ⟨S1x64x64, .f32⟩
  | 23 => ⟨S64x64, .f32⟩
  | 24 => ⟨S8192x64, .f32⟩
  | 25 => ⟨S8192x64, .f32⟩
  | 26 => ⟨S_, .f32⟩
  | 27 => ⟨S1x64, .f32⟩
  | 28 => ⟨S8191x64, .f32⟩
  | 29 => ⟨S8192x64, .f32⟩
  | 30 => ⟨S8192x64, .f32⟩
  | 31 => ⟨S_, .f32⟩
  | 32 => ⟨S2x64, .f32⟩
  | 33 => ⟨S8190x64, .f32⟩
  | 34 => ⟨S8192x64, .f32⟩
  | 35 => ⟨S8192x64, .f32⟩
  | 36 => ⟨S_, .f32⟩
  | 37 => ⟨S3x64, .f32⟩
  | 38 => ⟨S8189x64, .f32⟩
  | 39 => ⟨S8192x64, .f32⟩
  | 40 => ⟨S8192x64, .f32⟩
  | 41 => ⟨S8192, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192, .f32⟩
  | 49 => ⟨S8192x1, .f32⟩
  | 50 => ⟨S8192x64, .f32⟩
  | 51 => ⟨S8192x64, .f32⟩
  | 52 => ⟨S8192x64, .f32⟩
  | 53 => ⟨S1x64x64, .f32⟩
  | 54 => ⟨S64x64, .f32⟩
  | 55 => ⟨S8192x64, .f32⟩
  | 56 => ⟨S8192x64, .f32⟩
  | 57 => ⟨S_, .f32⟩
  | 58 => ⟨S1x64, .f32⟩
  | 59 => ⟨S8191x64, .f32⟩
  | 60 => ⟨S8192x64, .f32⟩
  | 61 => ⟨S8192x64, .f32⟩
  | 62 => ⟨S_, .f32⟩
  | 63 => ⟨S2x64, .f32⟩
  | 64 => ⟨S8190x64, .f32⟩
  | 65 => ⟨S8192x64, .f32⟩
  | 66 => ⟨S8192x64, .f32⟩
  | 67 => ⟨S_, .f32⟩
  | 68 => ⟨S3x64, .f32⟩
  | 69 => ⟨S8189x64, .f32⟩
  | 70 => ⟨S8192x64, .f32⟩
  | 71 => ⟨S8192x64, .f32⟩
  | 72 => ⟨S_, .f32⟩
  | 73 => ⟨S4x64, .f32⟩
  | 74 => ⟨S8188x64, .f32⟩
  | 75 => ⟨S8192x64, .f32⟩
  | 76 => ⟨S8192x64, .f32⟩
  | 77 => ⟨S_, .f32⟩
  | 78 => ⟨S5x64, .f32⟩
  | 79 => ⟨S8187x64, .f32⟩
  | 80 => ⟨S8192x64, .f32⟩
  | 81 => ⟨S8192x64, .f32⟩
  | 82 => ⟨S_, .f32⟩
  | 83 => ⟨S6x64, .f32⟩
  | 84 => ⟨S8186x64, .f32⟩
  | 85 => ⟨S8192x64, .f32⟩
  | 86 => ⟨S8192x64, .f32⟩
  | 87 => ⟨S_, .f32⟩
  | 88 => ⟨S7x64, .f32⟩
  | 89 => ⟨S8185x64, .f32⟩
  | 90 => ⟨S8192x64, .f32⟩
  | 91 => ⟨S8192x64, .f32⟩
  | 92 => ⟨S8192, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S8192, .f32⟩
  | 100 => ⟨S8192x1, .f32⟩
  | 101 => ⟨S8192x64, .f32⟩
  | 102 => ⟨S8192x64, .f32⟩
  | 103 => ⟨S8192x64, .f32⟩
  | 104 => ⟨S1x64x64, .f32⟩
  | 105 => ⟨S64x64, .f32⟩
  | 106 => ⟨S8192x64, .f32⟩
  | 107 => ⟨S8192x64, .f32⟩
  | 108 => ⟨S_, .f32⟩
  | 109 => ⟨S1x64, .f32⟩
  | 110 => ⟨S8191x64, .f32⟩
  | 111 => ⟨S8192x64, .f32⟩
  | 112 => ⟨S8192x64, .f32⟩
  | 113 => ⟨S_, .f32⟩
  | 114 => ⟨S2x64, .f32⟩
  | 115 => ⟨S8190x64, .f32⟩
  | 116 => ⟨S8192x64, .f32⟩
  | 117 => ⟨S8192x64, .f32⟩
  | 118 => ⟨S_, .f32⟩
  | 119 => ⟨S3x64, .f32⟩
  | 120 => ⟨S8189x64, .f32⟩
  | 121 => ⟨S8192x64, .f32⟩
  | 122 => ⟨S8192x64, .f32⟩
  | 123 => ⟨S_, .f32⟩
  | 124 => ⟨S4x64, .f32⟩
  | 125 => ⟨S8188x64, .f32⟩
  | 126 => ⟨S8192x64, .f32⟩
  | 127 => ⟨S8192x64, .f32⟩
  | _ => ⟨S8192x4608, .f32⟩

abbrev hbmTy0_1 (i : Nat) : BufTy := match i % 128 with
  | 0 => ⟨S_, .f32⟩
  | 1 => ⟨S5x64, .f32⟩
  | 2 => ⟨S8187x64, .f32⟩
  | 3 => ⟨S8192x64, .f32⟩
  | 4 => ⟨S8192x64, .f32⟩
  | 5 => ⟨S_, .f32⟩
  | 6 => ⟨S6x64, .f32⟩
  | 7 => ⟨S8186x64, .f32⟩
  | 8 => ⟨S8192x64, .f32⟩
  | 9 => ⟨S8192x64, .f32⟩
  | 10 => ⟨S_, .f32⟩
  | 11 => ⟨S7x64, .f32⟩
  | 12 => ⟨S8185x64, .f32⟩
  | 13 => ⟨S8192x64, .f32⟩
  | 14 => ⟨S8192x64, .f32⟩
  | 15 => ⟨S_, .f32⟩
  | 16 => ⟨S8x64, .f32⟩
  | 17 => ⟨S8184x64, .f32⟩
  | 18 => ⟨S8192x64, .f32⟩
  | 19 => ⟨S8192x64, .f32⟩
  | 20 => ⟨S_, .f32⟩
  | 21 => ⟨S9x64, .f32⟩
  | 22 => ⟨S8183x64, .f32⟩
  | 23 => ⟨S8192x64, .f32⟩
  | 24 => ⟨S8192x64, .f32⟩
  | 25 => ⟨S_, .f32⟩
  | 26 => ⟨S10x64, .f32⟩
  | 27 => ⟨S8182x64, .f32⟩
  | 28 => ⟨S8192x64, .f32⟩
  | 29 => ⟨S8192x64, .f32⟩
  | 30 => ⟨S_, .f32⟩
  | 31 => ⟨S11x64, .f32⟩
  | 32 => ⟨S8181x64, .f32⟩
  | 33 => ⟨S8192x64, .f32⟩
  | 34 => ⟨S8192x64, .f32⟩
  | 35 => ⟨S_, .f32⟩
  | 36 => ⟨S12x64, .f32⟩
  | 37 => ⟨S8180x64, .f32⟩
  | 38 => ⟨S8192x64, .f32⟩
  | 39 => ⟨S8192x64, .f32⟩
  | 40 => ⟨S_, .f32⟩
  | 41 => ⟨S13x64, .f32⟩
  | 42 => ⟨S8179x64, .f32⟩
  | 43 => ⟨S8192x64, .f32⟩
  | 44 => ⟨S8192x64, .f32⟩
  | 45 => ⟨S_, .f32⟩
  | 46 => ⟨S14x64, .f32⟩
  | 47 => ⟨S8178x64, .f32⟩
  | 48 => ⟨S8192x64, .f32⟩
  | 49 => ⟨S8192x64, .f32⟩
  | 50 => ⟨S_, .f32⟩
  | 51 => ⟨S15x64, .f32⟩
  | 52 => ⟨S8177x64, .f32⟩
  | 53 => ⟨S8192x64, .f32⟩
  | 54 => ⟨S8192x64, .f32⟩
  | 55 => ⟨S8192, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S8192x1, .f32⟩
  | 64 => ⟨S8192x64, .f32⟩
  | 65 => ⟨S8192x64, .f32⟩
  | 66 => ⟨S8192x64, .f32⟩
  | 67 => ⟨S1x64x64, .f32⟩
  | 68 => ⟨S64x64, .f32⟩
  | 69 => ⟨S8192x64, .f32⟩
  | 70 => ⟨S8192x256, .f32⟩
  | 71 => ⟨S1x256, .f32⟩
  | 72 => ⟨S8192x256, .f32⟩
  | 73 => ⟨S8192x256, .f32⟩
  | 74 => ⟨S8192x256, .bf16⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c_13 : Ref sig .tc := ⟨.hbm, 93, rfl⟩
abbrev main_v75 : Ref sig .tc := ⟨.hbm, 94, rfl⟩
abbrev main_v76 : Ref sig .tc := ⟨.hbm, 95, rfl⟩
abbrev main_c_14 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_15 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_16 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_17 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_18 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_19 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_20 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_21 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_22 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_23 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_24 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_25 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_cst_26 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_cst_27 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_28 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_29 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_c_30 : Ref sig .tc := ⟨.hbm, 184, rfl⟩
abbrev main_v149 : Ref sig .tc := ⟨.hbm, 185, rfl⟩
abbrev main_v150 : Ref sig .tc := ⟨.hbm, 186, rfl⟩
abbrev main_c_31 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩

abbrev nD : Nat := 1
abbrev τ : Topo := Topo.v7x

variable {F : FTy → Type} [FloatOps F]
-- ==== PoolBwd.lean ====
abbrev S8192x4608 : Shape := ⟨2, ![8192, 4608]⟩
abbrev S8192x256 : Shape := ⟨2, ![8192, 256]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S16x256 : Shape := ⟨2, ![16, 256]⟩
abbrev S144x256 : Shape := ⟨2, ![144, 256]⟩

abbrev nBuf : Space → Nat
  | .hbm => 8
  | .vmem => 14
  | .smem => 0
  | _ => 0

abbrev bufTy : (tb : Table) → Fin (tcTables nBuf tb) → BufTy
  | .hbm, ⟨0, _⟩ => ⟨S8192x4608, .f32⟩
  | .hbm, ⟨1, _⟩ => ⟨S8192x256, .f32⟩
  | .hbm, ⟨2, _⟩ => ⟨S256x256, .bf16⟩
  | .hbm, ⟨3, _⟩ => ⟨S256, .f32⟩
  | .hbm, ⟨4, _⟩ => ⟨S1x256, .f32⟩
  | .hbm, ⟨5, _⟩ => ⟨S8192x256, .bf16⟩
  | .hbm, ⟨6, _⟩ => ⟨S256x256, .f32⟩
  | .hbm, ⟨7, _⟩ => ⟨S1x256, .f32⟩
  | .local _ .vmem, ⟨0, _⟩ => ⟨S128x256, .f32⟩
  | .local _ .vmem, ⟨1, _⟩ => ⟨S128x256, .f32⟩
  | .local _ .vmem, ⟨2, _⟩ => ⟨S16x256, .f32⟩
  | .local _ .vmem, ⟨3, _⟩ => ⟨S16x256, .f32⟩
  | .local _ .vmem, ⟨4, _⟩ => ⟨S128x256, .f32⟩
  | .local _ .vmem, ⟨5, _⟩ => ⟨S128x256, .f32⟩
  | .local _ .vmem, ⟨6, _⟩ => ⟨S16x256, .f32⟩
  | .local _ .vmem, ⟨7, _⟩ => ⟨S16x256, .f32⟩
  | .local _ .vmem, ⟨8, _⟩ => ⟨S256x256, .bf16⟩
  | .local _ .vmem, ⟨9, _⟩ => ⟨S1x256, .f32⟩
  | .local _ .vmem, ⟨10, _⟩ => ⟨S128x256, .bf16⟩
  | .local _ .vmem, ⟨11, _⟩ => ⟨S128x256, .bf16⟩
  | .local _ .vmem, ⟨12, _⟩ => ⟨S256x256, .f32⟩
  | .local _ .vmem, ⟨13, _⟩ => ⟨S1x256, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_40 : BitVec 32 := 0#32
  let v118 : BitVec 1 := Scalar.cmpi .eq arg0 c0_i32_40
  let v119 : BitVec 32 := Scalar.extui v118
  let c0_i32_41 : BitVec 32 := 0#32
  let v120 : BitVec 1 := Scalar.cmpi .ne v119 c0_i32_41
  v120

def k0_cond2 (i : grid0.Coords) : BitVec 1 :=
  let arg0 : BitVec 32 := BitVec.ofNat 32 (i 0).val
  let c0_i32_42 : BitVec 32 := 0#32
  let v121 : BitVec 1 := Scalar.cmpi .sgt arg0 c0_i32_42
  let v122 : BitVec 32 := Scalar.extui v121
  let c0_i32_43 : BitVec 32 := 0#32
  let v123 : BitVec 1 := Scalar.cmpi .ne v122 c0_i32_43
  v123

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolBwdRefIdeal.lean ====
abbrev S8192x4608 : Shape := ⟨2, ![8192, 4608]⟩
abbrev S8192x256 : Shape := ⟨2, ![8192, 256]⟩
abbrev S256x256 : Shape := ⟨2, ![256, 256]⟩
abbrev S256 : Shape := ⟨1, ![256]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩
abbrev S8192x8192 : Shape := ⟨2, ![8192, 8192]⟩
abbrev S_ : Shape := ⟨0, ![]⟩
abbrev S1x256 : Shape := ⟨2, ![1, 256]⟩
abbrev S64x8192 : Shape := ⟨2, ![64, 8192]⟩

abbrev nBuf : Space → Nat
  | .hbm => 167
  | .vmem => 0
  | .smem => 0
  | _ => 0

abbrev hbmTy0_0 (i : Nat) : BufTy := match i % 128 with
  | 0 => ⟨S8192x4608, .f32⟩
  | 1 => ⟨S8192x256, .f32⟩
  | 2 => ⟨S256x256, .bf16⟩
  | 3 => ⟨S256, .f32⟩
  | 4 => ⟨S8192x256, .f32⟩
  | 5 => ⟨S256x256, .f32⟩
  | 6 => ⟨S8192, .i32⟩
  | 7 => ⟨S8192x1, .i32⟩
  | 8 => ⟨S8192, .i32⟩
  | 9 => ⟨S1x8192, .i32⟩
  | 10 => ⟨S8192x64, .f32⟩
  | 11 => ⟨S8192x8192, .i32⟩
  | 12 => ⟨S8192x8192, .i32⟩
  | 13 => ⟨S8192x8192, .i1⟩
  | 14 => ⟨S_, .i32⟩
  | 15 => ⟨S1x8192, .i32⟩
  | 16 => ⟨S1x8192, .i32⟩
  | 17 => ⟨S8192x8192, .i32⟩
  | 18 => ⟨S8192x8192, .i32⟩
  | 19 => ⟨S8192x8192, .i1⟩
  | 20 => ⟨S8192x8192, .i1⟩
  | 21 => ⟨S8192x8192, .f32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S8192, .f32⟩
  | 30 => ⟨S8192x1, .f32⟩
  | 31 => ⟨S8192x64, .f32⟩
  | 32 => ⟨S8192x64, .f32⟩
  | 33 => ⟨S8192x64, .f32⟩
  | 34 => ⟨S8192x64, .f32⟩
  | 35 => ⟨S8192x64, .f32⟩
  | 36 => ⟨S8192x8192, .i32⟩
  | 37 => ⟨S8192x8192, .i32⟩
  | 38 => ⟨S8192x8192, .i1⟩
  | 39 => ⟨S_, .i32⟩
  | 40 => ⟨S1x8192, .i32⟩
  | 41 => ⟨S1x8192, .i32⟩
  | 42 => ⟨S8192x8192, .i32⟩
  | 43 => ⟨S8192x8192, .i32⟩
  | 44 => ⟨S8192x8192, .i1⟩
  | 45 => ⟨S8192x8192, .i1⟩
  | 46 => ⟨S8192x8192, .f32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S8192x1, .f32⟩
  | 56 => ⟨S8192x64, .f32⟩
  | 57 => ⟨S8192x64, .f32⟩
  | 58 => ⟨S8192x64, .f32⟩
  | 59 => ⟨S8192x64, .f32⟩
  | 60 => ⟨S8192x64, .f32⟩
  | 61 => ⟨S8192x8192, .i32⟩
  | 62 => ⟨S8192x8192, .i32⟩
  | 63 => ⟨S8192x8192, .i1⟩
  | 64 => ⟨S_, .i32⟩
  | 65 => ⟨S1x8192, .i32⟩
  | 66 => ⟨S1x8192, .i32⟩
  | 67 => ⟨S8192x8192, .i32⟩
  | 68 => ⟨S8192x8192, .i32⟩
  | 69 => ⟨S8192x8192, .i1⟩
  | 70 => ⟨S8192x8192, .i1⟩
  | 71 => ⟨S8192x8192, .f32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192, .f32⟩
  | 80 => ⟨S8192x1, .f32⟩
  | 81 => ⟨S8192x64, .f32⟩
  | 82 => ⟨S8192x64, .f32⟩
  | 83 => ⟨S8192x64, .f32⟩
  | 84 => ⟨S8192x64, .f32⟩
  | 85 => ⟨S8192x64, .f32⟩
  | 86 => ⟨S8192x8192, .i32⟩
  | 87 => ⟨S8192x8192, .i32⟩
  | 88 => ⟨S8192x8192, .i1⟩
  | 89 => ⟨S_, .i32⟩
  | 90 => ⟨S1x8192, .i32⟩
  | 91 => ⟨S1x8192, .i32⟩
  | 92 => ⟨S8192x8192, .i32⟩
  | 93 => ⟨S8192x8192, .i32⟩
  | 94 => ⟨S8192x8192, .i1⟩
  | 95 => ⟨S8192x8192, .i1⟩
  | 96 => ⟨S8192x8192, .f32⟩
  | 97 => ⟨S8192, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S8192, .f32⟩
  | 105 => ⟨S8192x1, .f32⟩
  | 106 => ⟨S8192x64, .f32⟩
  | 107 => ⟨S8192x64, .f32⟩
  | 108 => ⟨S8192x64, .f32⟩
  | 109 => ⟨S8192x64, .f32⟩
  | 110 => ⟨S8192x256, .f32⟩
  | 111 => ⟨S8192x256, .f32⟩
  | 112 => ⟨S1x256, .f32⟩
  | 113 => ⟨S8192x256, .f32⟩
  | 114 => ⟨S8192x256, .f32⟩
  | 115 => ⟨S8192x256, .f32⟩
  | 116 => ⟨S_, .f32⟩
  | 117 => ⟨S256, .f32⟩
  | 118 => ⟨S1x256, .f32⟩
  | 119 => ⟨S8192x256, .f32⟩
  | 120 => ⟨S8192x256, .f32⟩
  | 121 => ⟨S_, .f32⟩
  | 122 => ⟨S256, .f32⟩
  | 123 => ⟨S256x256, .f32⟩
  | 124 => ⟨S256x256, .f32⟩
  | 125 => ⟨S8192x256, .f32⟩
  | 126 => ⟨S8192x64, .f32⟩
  | 127 => ⟨S8192x64, .f32⟩
  | _ => ⟨S8192x4608, .f32⟩

abbrev hbmTy0_1 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S8192x64, .f32⟩
  | 5 => ⟨S64x8192, .f32⟩
  | 6 => ⟨S8192x64, .f32⟩
  | 7 => ⟨S8192x64, .f32⟩
  | 8 => ⟨S_, .f32⟩
  | 9 => ⟨S8192x256, .f32⟩
  | 10 => ⟨S8192x64, .f32⟩
  | 11 => ⟨S8192x64, .f32⟩
  | 12 => ⟨S8192x64, .f32⟩
  | 13 => ⟨S64x8192, .f32⟩
  | 14 => ⟨S8192x64, .f32⟩
  | 15 => ⟨S8192x64, .f32⟩
  | 16 => ⟨S_, .f32⟩
  | 17 => ⟨S8192x256, .f32⟩
  | 18 => ⟨S8192x256, .f32⟩
  | 19 => ⟨S8192x64, .f32⟩
  | 20 => ⟨S8192x64, .f32⟩
  | 21 => ⟨S8192x64, .f32⟩
  | 22 => ⟨S64x8192, .f32⟩
  | 23 => ⟨S8192x64, .f32⟩
  | 24 => ⟨S8192x64, .f32⟩
  | 25 => ⟨S_, .f32⟩
  | 26 => ⟨S8192x256, .f32⟩
  | 27 => ⟨S8192x256, .f32⟩
  | 28 => ⟨S8192x64, .f32⟩
  | 29 => ⟨S8192x64, .f32⟩
  | 30 => ⟨S8192x64, .f32⟩
  | 31 => ⟨S64x8192, .f32⟩
  | 32 => ⟨S8192x64, .f32⟩
  | 33 => ⟨S8192x64, .f32⟩
  | 34 => ⟨S_, .f32⟩
  | 35 => ⟨S8192x256, .f32⟩
  | 36 => ⟨S8192x256, .f32⟩
  | 37 => ⟨S8192x256, .bf16⟩
  | 38 => ⟨S1x256, .f32⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_v40 : Ref sig .tc := ⟨.hbm, 49, rfl⟩
abbrev main_v41 : Ref sig .tc := ⟨.hbm, 50, rfl⟩
abbrev main_c_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_5 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_c_6 : Ref sig .tc := ⟨.hbm, 73, rfl⟩
abbrev main_v62 : Ref sig .tc := ⟨.hbm, 74, rfl⟩
abbrev main_v63 : Ref sig .tc := ⟨.hbm, 75, rfl⟩
abbrev main_c_7 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_c_8 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_c_9 : Ref sig .tc := ⟨.hbm, 98, rfl⟩
abbrev main_v84 : Ref sig .tc := ⟨.hbm, 99, rfl⟩
abbrev main_v85 : Ref sig .tc := ⟨.hbm, 100, rfl⟩
abbrev main_c_10 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_11 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_12 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_cst_13 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_cst_14 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_15 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩

abbrev nD : Nat := 1
abbrev τ : Topo := Topo.v7x

variable {F : FTy → Type} [FloatOps F]
-- ==== SmallLate.lean ====
abbrev S8x2x1024 : Shape := ⟨3, ![8, 2, 1024]⟩
abbrev S8x2x64 : Shape := ⟨3, ![8, 2, 64]⟩
abbrev S2x1024 : Shape := ⟨2, ![2, 1024]⟩
abbrev S2x64 : Shape := ⟨2, ![2, 64]⟩
abbrev S8x2048 : Shape := ⟨2, ![8, 2048]⟩
abbrev S_ : Shape := ⟨0, ![]⟩
abbrev S8x16x128 : Shape := ⟨3, ![8, 16, 128]⟩
abbrev S8x128 : Shape := ⟨2, ![8, 128]⟩
abbrev S8x1024 : Shape := ⟨2, ![8, 1024]⟩
abbrev S8x8x128 : Shape := ⟨3, ![8, 8, 128]⟩
abbrev S8x24x128 : Shape := ⟨3, ![8, 24, 128]⟩
abbrev S2048 : Shape := ⟨1, ![2048]⟩
abbrev S16x128 : Shape := ⟨2, ![16, 128]⟩
abbrev S128 : Shape := ⟨1, ![128]⟩
abbrev S1024 : Shape := ⟨1, ![1024]⟩
abbrev S24x128 : Shape := ⟨2, ![24, 128]⟩
abbrev S1x8x128 : Shape := ⟨3, ![1, 8, 128]⟩

abbrev nBuf : Space → Nat
  | .hbm => 84
  | .vmem => 16
  | .smem => 0
  | _ => 0

abbrev bufTy : (tb : Table) → Fin (tcTables nBuf tb) → BufTy
  | .hbm, ⟨0, _⟩ => ⟨S8x2x1024, .f32⟩
  | .hbm, ⟨1, _⟩ => ⟨S8x2x64, .f32⟩
  | .hbm, ⟨2, _⟩ => ⟨S2x1024, .f32⟩
  | .hbm, ⟨3, _⟩ => ⟨S2x64, .f32⟩
  | .hbm, ⟨4, _⟩ => ⟨S2x1024, .f32⟩
  | .hbm, ⟨5, _⟩ => ⟨S2x64, .f32⟩
  | .hbm, ⟨6, _⟩ => ⟨S2x1024, .f32⟩
  | .hbm, ⟨7, _⟩ => ⟨S2x64, .f32⟩
  | .hbm, ⟨8, _⟩ => ⟨S8x2048, .f32⟩
  | .hbm, ⟨9, _⟩ => ⟨S_, .i32⟩
  | .hbm, ⟨10, _⟩ => ⟨S_, .f32⟩
  | .hbm, ⟨11, _⟩ => ⟨S8x2048, .f32⟩
  | .hbm, ⟨12, _⟩ => ⟨S8x16x128, .f32⟩
  | .hbm, ⟨13, _⟩ => ⟨S8x128, .f32⟩
  | .hbm, ⟨14, _⟩ => ⟨S_, .i32⟩
  | .hbm, ⟨15, _⟩ => ⟨S_, .f32⟩
  | .hbm, ⟨16, _⟩ => ⟨S8x1024, .f32⟩
  | .hbm, ⟨17, _⟩ => ⟨S8x8x128, .f32⟩
  | .hbm, ⟨18, _⟩ => ⟨S8x24x128, .f32⟩
  | .hbm, ⟨19, _⟩ => ⟨S2048, .f32⟩
  | .hbm, ⟨20, _⟩ => ⟨S_, .i32⟩
  | .hbm, ⟨21, _⟩ => ⟨S_, .f32⟩
  | .hbm, ⟨22, _⟩ => ⟨S2048, .f32⟩
  | .hbm, ⟨23, _⟩ => ⟨S16x128, .f32⟩
  | .hbm, ⟨24, _⟩ => ⟨S128, .f32⟩
  | .hbm, ⟨25, _⟩ => ⟨S_, .i32⟩
  | .hbm, ⟨26, _⟩ => ⟨S_, .f32⟩
  | .hbm, ⟨27, _⟩ => ⟨S1024, .f32⟩
  | .hbm, ⟨28, _⟩ => ⟨S8x128, .f32⟩
  | .hbm, ⟨29, _⟩ => ⟨S24x128, .f32⟩
  | .hbm, ⟨30, _⟩ => ⟨S2048, .f32⟩
  | .hbm, ⟨31, _⟩ => ⟨S_, .i32⟩
  | .hbm, ⟨32, _⟩ => ⟨S_, .f32⟩
  | .hbm, ⟨33, _⟩ => ⟨S2048, .f32⟩
  | .hbm, ⟨34, _⟩ => ⟨S16x128, .f32⟩
  | .hbm, ⟨35, _⟩ => ⟨S128, .f32⟩
  | .hbm, ⟨36, _⟩ => ⟨S_, .i32⟩
  | .hbm, ⟨37, _⟩ => ⟨S_, .f32⟩
  | .hbm, ⟨38, _⟩ => ⟨S1024, .f32⟩
  | .hbm, ⟨39, _⟩ => ⟨S8x128, .f32⟩
  | .hbm, ⟨40, _⟩ => ⟨S24x128, .f32⟩
  | .hbm, ⟨41, _⟩ => ⟨S2048, .f32⟩
  | .hbm, ⟨42, _⟩ => ⟨S_, .i32⟩
  | .hbm, ⟨43, _⟩ => ⟨S_, .f32⟩
  | .hbm, ⟨44, _⟩ => ⟨S2048, .f32⟩
  | .hbm, ⟨45, _⟩ => ⟨S16x128, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S1024, .f32⟩
  | .hbm, ⟨50, _⟩ => ⟨S8x128, .f32⟩
  | .hbm, ⟨51, _⟩ => ⟨S24x128, .f32⟩
  | .hbm, ⟨52, _⟩ => ⟨S24x128, .f32⟩
  | .hbm, ⟨53, _⟩ => ⟨S24x128, .f32⟩
  | .hbm, ⟨54, _⟩ => ⟨S24x128, .f32⟩
  | .hbm, ⟨55, _⟩ => ⟨S24x128, .f32⟩
  | .hbm, ⟨56, _⟩ => ⟨S16x128, .f32⟩
  | .hbm, ⟨57, _⟩ => ⟨S2048, .f32⟩
  | .hbm, ⟨58, _⟩ => ⟨S2x1024, .f32⟩
  | .hbm, ⟨59, _⟩ => ⟨S8x128, .f32⟩
  | .hbm, ⟨60, _⟩ => ⟨S1024, .f32⟩
  | .hbm, ⟨61, _⟩ => ⟨S128, .f32⟩
  | .hbm, ⟨62, _⟩ => ⟨S2x64, .f32⟩
  | .hbm, ⟨63, _⟩ => ⟨S16x128, .f32⟩
  | .hbm, ⟨64, _⟩ => ⟨S2048, .f32⟩
  | .hbm, ⟨65, _⟩ => ⟨S2x1024, .f32⟩
  | .hbm, ⟨66, _⟩ => ⟨S8x128, .f32⟩
  | .hbm, ⟨67, _⟩ => ⟨S1024, .f32⟩
  | .hbm, ⟨68, _⟩ => ⟨S128, .f32⟩
  | .hbm, ⟨69, _⟩ => ⟨S2x64, .f32⟩
  | .hbm, ⟨70, _⟩ => ⟨S16x128, .f32⟩
  | .hbm, ⟨71, _⟩ => ⟨S2048, .f32⟩
  | .hbm, ⟨72, _⟩ => ⟨S2x1024, .f32⟩
  | .hbm, ⟨73, _⟩ => ⟨S8x128, .f32⟩
  | .hbm, ⟨74, _⟩ => ⟨S1024, .f32⟩
  | .hbm, ⟨75, _⟩ => ⟨S128, .f32⟩
  | .hbm, ⟨76, _⟩ => ⟨S2x64, .f32⟩
  | .hbm, ⟨77, _⟩ => ⟨S16x128, .f32⟩
  | .hbm, ⟨78, _⟩ => ⟨S2048, .f32⟩
  | .hbm, ⟨79, _⟩ => ⟨S2x1024, .f32⟩
  | .hbm, ⟨80, _⟩ => ⟨S8x128, .f32⟩
  | .hbm, ⟨81, _⟩ => ⟨S1024, .f32⟩
  | .hbm, ⟨82, _⟩ => ⟨S128, .f32⟩
  | .hbm, ⟨83, _⟩ => ⟨S2x64, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S8x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_call4_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_call5_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_call6_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_call7_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v28_2 : Ref sig .tc := ⟨.hbm, 54, rfl⟩
abbrev main_v28_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmallLateRefIdeal.lean ====
abbrev S8x2x1024 : Shape := ⟨3, ![8, 2, 1024]⟩
abbrev S8x2x64 : Shape := ⟨3, ![8, 2, 64]⟩
abbrev S2x1024 : Shape := ⟨2, ![2, 1024]⟩
abbrev S2x64 : Shape := ⟨2, ![2, 64]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S8x2x1024, .f32⟩
  | .hbm, ⟨1, _⟩ => ⟨S8x2x64, .f32⟩
  | .hbm, ⟨2, _⟩ => ⟨S2x1024, .f32⟩
  | .hbm, ⟨3, _⟩ => ⟨S2x64, .f32⟩
  | .hbm, ⟨4, _⟩ => ⟨S2x1024, .f32⟩
  | .hbm, ⟨5, _⟩ => ⟨S2x64, .f32⟩
  | .hbm, ⟨6, _⟩ => ⟨S2x1024, .f32⟩
  | .hbm, ⟨7, _⟩ => ⟨S2x64, .f32⟩
  | .hbm, ⟨8, _⟩ => ⟨S_, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S2x1024, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S2x1024, .f32⟩
  | .hbm, ⟨23, _⟩ => ⟨S2x1024, .f32⟩
  | .hbm, ⟨24, _⟩ => ⟨S2x1024, .f32⟩
  | .hbm, ⟨25, _⟩ => ⟨S_, .f32⟩
  | .hbm, ⟨26, _⟩ => ⟨S2x1024, .f32⟩
  | .hbm, ⟨27, _⟩ => ⟨S2x1024, .f32⟩
  | .hbm, ⟨28, _⟩ => ⟨S_, .f32⟩
  | .hbm, ⟨29, _⟩ => ⟨S2x1024, .f32⟩
  | .hbm, ⟨30, _⟩ => ⟨S2x1024, .f32⟩
  | .hbm, ⟨31, _⟩ => ⟨S2x1024, .f32⟩
  | .hbm, ⟨32, _⟩ => ⟨S_, .f32⟩
  | .hbm, ⟨33, _⟩ => ⟨S2x1024, .f32⟩
  | .hbm, ⟨34, _⟩ => ⟨S2x1024, .f32⟩
  | .hbm, ⟨35, _⟩ => ⟨S2x1024, .f32⟩
  | .hbm, ⟨36, _⟩ => ⟨S_, .f32⟩
  | .hbm, ⟨37, _⟩ => ⟨S2x1024, .f32⟩
  | .hbm, ⟨38, _⟩ => ⟨S2x1024, .f32⟩
  | .hbm, ⟨39, _⟩ => ⟨S2x1024, .f32⟩
  | .hbm, ⟨40, _⟩ => ⟨S_, .f32⟩
  | .hbm, ⟨41, _⟩ => ⟨S2x1024, .f32⟩
  | .hbm, ⟨42, _⟩ => ⟨S2x1024, .f32⟩
  | .hbm, ⟨43, _⟩ => ⟨S_, .f32⟩
  | .hbm, ⟨44, _⟩ => ⟨S2x64, .f32⟩
  | .hbm, ⟨45, _⟩ => ⟨S_, .f32⟩
  | .hbm, ⟨46, _⟩ => ⟨S2x64, .f32⟩
  | .hbm, ⟨47, _⟩ => ⟨S2x64, .f32⟩
  | .hbm, ⟨48, _⟩ => ⟨S_, .f32⟩
  | .hbm, ⟨49, _⟩ => ⟨S2x64, .f32⟩
  | .hbm, ⟨50, _⟩ => ⟨S2x64, .f32⟩
  | .hbm, ⟨51, _⟩ => ⟨S2x64, .f32⟩
  | .hbm, ⟨52, _⟩ => ⟨S_, .f32⟩
  | .hbm, ⟨53, _⟩ => ⟨S2x64, .f32⟩
  | .hbm, ⟨54, _⟩ => ⟨S2x64, .f32⟩
  | .hbm, ⟨55, _⟩ => ⟨S2x64, .f32⟩
  | .hbm, ⟨56, _⟩ => ⟨S_, .f32⟩
  | .hbm, ⟨57, _⟩ => ⟨S2x64, .f32⟩
  | .hbm, ⟨58, _⟩ => ⟨S2x64, .f32⟩
  | .hbm, ⟨59, _⟩ => ⟨S2x64, .f32⟩
  | .hbm, ⟨60, _⟩ => ⟨S_, .f32⟩
  | .hbm, ⟨61, _⟩ => ⟨S2x64, .f32⟩
  | .hbm, ⟨62, _⟩ => ⟨S2x64, .f32⟩
  | .hbm, ⟨63, _⟩ => ⟨S_, .f32⟩
  | .hbm, ⟨64, _⟩ => ⟨S2x64, .f32⟩
  | .hbm, ⟨65, _⟩ => ⟨S2x64, .f32⟩
  | .hbm, ⟨66, _⟩ => ⟨S2x64, .f32⟩
  | .hbm, ⟨67, _⟩ => ⟨S_, .f32⟩
  | .hbm, ⟨68, _⟩ => ⟨S2x64, .f32⟩
  | .hbm, ⟨69, _⟩ => ⟨S2x64, .f32⟩
  | .hbm, ⟨70, _⟩ => ⟨S2x64, .f32⟩
  | .hbm, ⟨71, _⟩ => ⟨S_, .f32⟩
  | .hbm, ⟨72, _⟩ => ⟨S2x64, .f32⟩
  | .hbm, ⟨73, _⟩ => ⟨S2x64, .f32⟩
  | .hbm, ⟨74, _⟩ => ⟨S2x64, .f32⟩
  | .hbm, ⟨75, _⟩ => ⟨S_, .f32⟩
  | .hbm, ⟨76, _⟩ => ⟨S2x64, .f32⟩
  | .hbm, ⟨77, _⟩ => ⟨S2x64, .f32⟩
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩
abbrev main_cst_11 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_v38 : Ref sig .tc := ⟨.hbm, 62, rfl⟩
abbrev main_cst_15 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_16 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_17 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_18 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== SmallEarly.lean ====
abbrev S8x2x64 : Shape := ⟨3, ![8, 2, 64]⟩
abbrev S8x2x8 : Shape := ⟨3, ![8, 2, 8]⟩
abbrev S8x2x4x64x64 : Shape := ⟨5, ![8, 2, 4, 64, 64]⟩
abbrev S8x2x256 : Shape := ⟨3, ![8, 2, 256]⟩
abbrev S8x2x4x128x128 : Shape := ⟨5, ![8, 2, 4, 128, 128]⟩
abbrev S8x2x4x128 : Shape := ⟨4, ![8, 2, 4, 128]⟩
abbrev S8x2x1024 : Shape := ⟨3, ![8, 2, 1024]⟩
abbrev S8x2x5632 : Shape := ⟨3, ![8, 2, 5632]⟩
abbrev S2x64 : Shape := ⟨2, ![2, 64]⟩
abbrev S2x8 : Shape := ⟨2, ![2, 8]⟩
abbrev S2x4x64x64 : Shape := ⟨4, ![2, 4, 64, 64]⟩
abbrev S2x256 : Shape := ⟨2, ![2, 256]⟩
abbrev S2x4x128x128 : Shape := ⟨4, ![2, 4, 128, 128]⟩
abbrev S2x4x128 : Shape := ⟨3, ![2, 4, 128]⟩
abbrev S2x1024 : Shape := ⟨2, ![2, 1024]⟩
abbrev S2x5632 : Shape := ⟨2, ![2, 5632]⟩
abbrev S8x128 : Shape := ⟨2, ![8, 128]⟩
abbrev S_ : Shape := ⟨0, ![]⟩
abbrev S8x1024 : Shape := ⟨2, ![8, 1024]⟩
abbrev S8x8x128 : Shape := ⟨3, ![8, 8, 128]⟩
abbrev S8x16 : Shape := ⟨2, ![8, 16]⟩
abbrev S8x32768 : Shape := ⟨2, ![8, 32768]⟩
abbrev S8x256x128 : Shape := ⟨3, ![8, 256, 128]⟩
abbrev S8x512 : Shape := ⟨2, ![8, 512]⟩
abbrev S8x131072 : Shape := ⟨2, ![8, 131072]⟩
abbrev S8x1024x128 : Shape := ⟨3, ![8, 1024, 128]⟩
abbrev S8x2048 : Shape := ⟨2, ![8, 2048]⟩
abbrev S8x16x128 : Shape := ⟨3, ![8, 16, 128]⟩
abbrev S8x11264 : Shape := ⟨2, ![8, 11264]⟩
abbrev S8x88x128 : Shape := ⟨3, ![8, 88, 128]⟩
abbrev S112x128 : Shape := ⟨2, ![112, 128]⟩
abbrev S8x112x128 : Shape := ⟨3, ![8, 112, 128]⟩
abbrev S8x1536x128 : Shape := ⟨3, ![8, 1536, 128]⟩
abbrev S128 : Shape := ⟨1, ![128]⟩
abbrev S1024 : Shape := ⟨1, ![1024]⟩
abbrev S16 : Shape := ⟨1, ![16]⟩
abbrev S32768 : Shape := ⟨1, ![32768]⟩
abbrev S256x128 : Shape := ⟨2, ![256, 128]⟩
abbrev S512 : Shape := ⟨1, ![512]⟩
abbrev S131072 : Shape := ⟨1, ![131072]⟩
abbrev S1024x128 : Shape := ⟨2, ![1024, 128]⟩
abbrev S2048 : Shape := ⟨1, ![2048]⟩
abbrev S16x128 : Shape := ⟨2, ![16, 128]⟩
abbrev S11264 : Shape := ⟨1, ![11264]⟩
abbrev S88x128 : Shape := ⟨2, ![88, 128]⟩
abbrev S1536x128 : Shape := ⟨2, ![1536, 128]⟩
abbrev S1x256x128 : Shape := ⟨3, ![1, 256, 128]⟩

abbrev nBuf : Space → Nat
  | .hbm => 357
  | .vmem => 16
  | .smem => 0
  | _ => 0

abbrev hbmTy0_0 (i : Nat) : BufTy := match i % 128 with
  | 0 => ⟨S8x2x64, .f32⟩
  | 1 => ⟨S8x2x8, .f32⟩
  | 2 => ⟨S8x2x4x64x64, .f32⟩
  | 3 => ⟨S8x2x256, .f32⟩
  | 4 => ⟨S8x2x64, .f32⟩
  | 5 => ⟨S8x2x4x128x128, .f32⟩
  | 6 => ⟨S8x2x4x128, .f32⟩
  | 7 => ⟨S8x2x1024, .f32⟩
  | 8 => ⟨S8x2x5632, .f32⟩
  | 9 => ⟨S2x64, .f32⟩
  | 10 => ⟨S2x8, .f32⟩
  | 11 => ⟨S2x4x64x64, .f32⟩
  | 12 => ⟨S2x256, .f32⟩
  | 13 => ⟨S2x64, .f32⟩
  | 14 => ⟨S2x4x128x128, .f32⟩
  | 15 => ⟨S2x4x128, .f32⟩
  | 16 => ⟨S2x1024, .f32⟩
  | 17 => ⟨S2x5632, .f32⟩
  | 18 => ⟨S2x64, .f32⟩
  | 19 => ⟨S2x8, .f32⟩
  | 20 => ⟨S2x4x64x64, .f32⟩
  | 21 => ⟨S2x256, .f32⟩
  | 22 => ⟨S2x64, .f32⟩
  | 23 => ⟨S2x4x128x128, .f32⟩
  | 24 => ⟨S2x4x128, .f32⟩
  | 25 => ⟨S2x1024, .f32⟩
  | 26 => ⟨S2x5632, .f32⟩
  | 27 => ⟨S2x64, .f32⟩
  | 28 => ⟨S2x8, .f32⟩
  | 29 => ⟨S2x4x64x64, .f32⟩
  | 30 => ⟨S2x256, .f32⟩
  | 31 => ⟨S2x64, .f32⟩
  | 32 => ⟨S2x4x128x128, .f32⟩
  | 33 => ⟨S2x4x128, .f32⟩
  | 34 => ⟨S2x1024, .f32⟩
  | 35 => ⟨S2x5632, .f32⟩
  | 36 => ⟨S8x128, .f32⟩
  | 37 => ⟨S_, .i32⟩
  | 38 => ⟨S_, .f32⟩
  | 39 => ⟨S8x1024, .f32⟩
  | 40 => ⟨S8x8x128, .f32⟩
  | 41 => ⟨S8x16, .f32⟩
  | 42 => ⟨S_, .i32⟩
  | 43 => ⟨S_, .f32⟩
  | 44 => ⟨S8x1024, .f32⟩
  | 45 => ⟨S8x8x128, .f32⟩
  | 46 => ⟨S8x32768, .f32⟩
  | 47 => ⟨S_, .i32⟩
  | 48 => ⟨S_, .f32⟩
  | 49 => ⟨S8x32768, .f32⟩
  | 50 => ⟨S8x256x128, .f32⟩
  | 51 => ⟨S8x512, .f32⟩
  | 52 => ⟨S_, .i32⟩
  | 53 => ⟨S_, .f32⟩
  | 54 => ⟨S8x1024, .f32⟩
  | 55 => ⟨S8x8x128, .f32⟩
  | 56 => ⟨S8x128, .f32⟩
  | 57 => ⟨S_, .i32⟩
  | 58 => ⟨S_, .f32⟩
  | 59 => ⟨S8x1024, .f32⟩
  | 60 => ⟨S8x8x128, .f32⟩
  | 61 => ⟨S8x131072, .f32⟩
  | 62 => ⟨S_, .i32⟩
  | 63 => ⟨S_, .f32⟩
  | 64 => ⟨S8x131072, .f32⟩
  | 65 => ⟨S8x1024x128, .f32⟩
  | 66 => ⟨S8x1024, .f32⟩
  | 67 => ⟨S_, .i32⟩
  | 68 => ⟨S_, .f32⟩
  | 69 => ⟨S8x1024, .f32⟩
  | 70 => ⟨S8x8x128, .f32⟩
  | 71 => ⟨S8x2048, .f32⟩
  | 72 => ⟨S_, .i32⟩
  | 73 => ⟨S_, .f32⟩
  | 74 => ⟨S8x2048, .f32⟩
  | 75 => ⟨S8x16x128, .f32⟩
  | 76 => ⟨S8x11264, .f32⟩
  | 77 => ⟨S_, .i32⟩
  | 78 => ⟨S_, .f32⟩
  | 79 => ⟨S8x11264, .f32⟩
  | 80 => ⟨S8x88x128, .f32⟩
  | 81 => ⟨S_, .f32⟩
  | 82 => ⟨S112x128, .f32⟩
  | 83 => ⟨S8x112x128, .f32⟩
  | 84 => ⟨S8x1536x128, .f32⟩
  | 85 => ⟨S128, .f32⟩
  | 86 => ⟨S_, .i32⟩
  | 87 => ⟨S_, .f32⟩
  | 88 => ⟨S1024, .f32⟩
  | 89 => ⟨S8x128, .f32⟩
  | 90 => ⟨S16, .f32⟩
  | 91 => ⟨S_, .i32⟩
  | 92 => ⟨S_, .f32⟩
  | 93 => ⟨S1024, .f32⟩
  | 94 => ⟨S8x128, .f32⟩
  | 95 => ⟨S32768, .f32⟩
  | 96 => ⟨S_, .i32⟩
  | 97 => ⟨S_, .f32⟩
  | 98 => ⟨S32768, .f32⟩
  | 99 => ⟨S256x128, .f32⟩
  | 100 => ⟨S512, .f32⟩
  | 101 => ⟨S_, .i32⟩
  | 102 => ⟨S_, .f32⟩
  | 103 => ⟨S1024, .f32⟩
  | 104 => ⟨S8x128, .f32⟩
  | 105 => ⟨S128, .f32⟩
  | 106 => ⟨S_, .i32⟩
  | 107 => ⟨S_, .f32⟩
  | 108 => ⟨S1024, .f32⟩
  | 109 => ⟨S8x128, .f32⟩
  | 110 => ⟨S131072, .f32⟩
  | 111 => ⟨S_, .i32⟩
  | 112 => ⟨S_, .f32⟩
  | 113 => ⟨S131072, .f32⟩
  | 114 => ⟨S1024x128, .f32⟩
  | 115 => ⟨S1024, .f32⟩
  | 116 => ⟨S_, .i32⟩
  | 117 => ⟨S_, .f32⟩
  | 118 => ⟨S1024, .f32⟩
  | 119 => ⟨S8x128, .f32⟩
  | 120 => ⟨S2048, .f32⟩
  | 121 => ⟨S_, .i32⟩
  | 122 => ⟨S_, .f32⟩
  | 123 => ⟨S2048, .f32⟩
  | 124 => ⟨S16x128, .f32⟩
  | 125 => ⟨S11264, .f32⟩
  | 126 => ⟨S_, .i32⟩
  | 127 => ⟨S_, .f32⟩
  | _ => ⟨S8x2x64, .f32⟩

abbrev hbmTy0_1 (i : Nat) : BufTy := match i % 128 with
  | 0 => ⟨S11264, .f32⟩
  | 1 => ⟨S88x128, .f32⟩
  | 2 => ⟨S_, .f32⟩
  | 3 => ⟨S112x128, .f32⟩
  | 4 => ⟨S1536x128, .f32⟩
  | 5 => ⟨S128, .f32⟩
  | 6 => ⟨S_, .i32⟩
  | 7 => ⟨S_, .f32⟩
  | 8 => ⟨S1024, .f32⟩
  | 9 => ⟨S8x128, .f32⟩
  | 10 => ⟨S16, .f32⟩
  | 11 => ⟨S_, .i32⟩
  | 12 => ⟨S_, .f32⟩
  | 13 => ⟨S1024, .f32⟩
  | 14 => ⟨S8x128, .f32⟩
  | 15 => ⟨S32768, .f32⟩
  | 16 => ⟨S_, .i32⟩
  | 17 => ⟨S_, .f32⟩
  | 18 => ⟨S32768, .f32⟩
  | 19 => ⟨S256x128, .f32⟩
  | 20 => ⟨S512, .f32⟩
  | 21 => ⟨S_, .i32⟩
  | 22 => ⟨S_, .f32⟩
  | 23 => ⟨S1024, .f32⟩
  | 24 => ⟨S8x128, .f32⟩
  | 25 => ⟨S128, .f32⟩
  | 26 => ⟨S_, .i32⟩
  | 27 => ⟨S_, .f32⟩
  | 28 => ⟨S1024, .f32⟩
  | 29 => ⟨S8x128, .f32⟩
  | 30 => ⟨S131072, .f32⟩
  | 31 => ⟨S_, .i32⟩
  | 32 => ⟨S_, .f32⟩
  | 33 => ⟨S131072, .f32⟩
  | 34 => ⟨S1024x128, .f32⟩
  | 35 => ⟨S1024, .f32⟩
  | 36 => ⟨S_, .i32⟩
  | 37 => ⟨S_, .f32⟩
  | 38 => ⟨S1024, .f32⟩
  | 39 => ⟨S8x128, .f32⟩
  | 40 => ⟨S2048, .f32⟩
  | 41 => ⟨S_, .i32⟩
  | 42 => ⟨S_, .f32⟩
  | 43 => ⟨S2048, .f32⟩
  | 44 => ⟨S16x128, .f32⟩
  | 45 => ⟨S11264, .f32⟩
  | 46 => ⟨S_, .i32⟩
  | 47 => ⟨S_, .f32⟩
  | 48 => ⟨S11264, .f32⟩
  | 49 => ⟨S88x128, .f32⟩
  | 50 => ⟨S_, .f32⟩
  | 51 => ⟨S112x128, .f32⟩
  | 52 => ⟨S1536x128, .f32⟩
  | 53 => ⟨S128, .f32⟩
  | 54 => ⟨S_, .i32⟩
  | 55 => ⟨S_, .f32⟩
  | 56 => ⟨S1024, .f32⟩
  | 57 => ⟨S8x128, .f32⟩
  | 58 => ⟨S16, .f32⟩
  | 59 => ⟨S_, .i32⟩
  | 60 => ⟨S_, .f32⟩
  | 61 => ⟨S1024, .f32⟩
  | 62 => ⟨S8x128, .f32⟩
  | 63 => ⟨S32768, .f32⟩
  | 64 => ⟨S_, .i32⟩
  | 65 => ⟨S_, .f32⟩
  | 66 => ⟨S32768, .f32⟩
  | 67 => ⟨S256x128, .f32⟩
  | 68 => ⟨S512, .f32⟩
  | 69 => ⟨S_, .i32⟩
  | 70 => ⟨S_, .f32⟩
  | 71 => ⟨S1024, .f32⟩
  | 72 => ⟨S8x128, .f32⟩
  | 73 => ⟨S128, .f32⟩
  | 74 => ⟨S_, .i32⟩
  | 75 => ⟨S_, .f32⟩
  | 76 => ⟨S1024, .f32⟩
  | 77 => ⟨S8x128, .f32⟩
  | 78 => ⟨S131072, .f32⟩
  | 79 => ⟨S_, .i32⟩
  | 80 => ⟨S_, .f32⟩
  | 81 => ⟨S131072, .f32⟩
  | 82 => ⟨S1024x128, .f32⟩
  | 83 => ⟨S1024, .f32⟩
  | 84 => ⟨S_, .i32⟩
  | 85 => ⟨S_, .f32⟩
  | 86 => ⟨S1024, .f32⟩
  | 87 => ⟨S8x128, .f32⟩
  | 88 => ⟨S2048, .f32⟩
  | 89 => ⟨S_, .i32⟩
  | 90 => ⟨S_, .f32⟩
  | 91 => ⟨S2048, .f32⟩
  | 92 => ⟨S16x128, .f32⟩
  | 93 => ⟨S11264, .f32⟩
  | 94 => ⟨S_, .i32⟩
  | 95 => ⟨S_, .f32⟩
  | 96 => ⟨S11264, .f32⟩
  | 97 => ⟨S88x128, .f32⟩
  | 98 => ⟨S_, .f32⟩
  | 99 => ⟨S112x128, .f32⟩
  | 100 => ⟨S1536x128, .f32⟩
  | 101 => ⟨S1536x128, .f32⟩
  | 102 => ⟨S1536x128, .f32⟩
  | 103 => ⟨S1536x128, .f32⟩
  | 104 => ⟨S1536x128, .f32⟩
  | 105 => ⟨S8x128, .f32⟩
  | 106 => ⟨S1024, .f32⟩
  | 107 => ⟨S128, .f32⟩
  | 108 => ⟨S2x64, .f32⟩
  | 109 => ⟨S8x128, .f32⟩
  | 110 => ⟨S1024, .f32⟩
  | 111 => ⟨S16, .f32⟩
  | 112 => ⟨S2x8, .f32⟩
  | 113 => ⟨S256x128, .f32⟩
  | 114 => ⟨S32768, .f32⟩
  | 115 => ⟨S2x4x64x64, .f32⟩
  | 116 => ⟨S8x128, .f32⟩
  | 117 => ⟨S1024, .f32⟩
  | 118 => ⟨S512, .f32⟩
  | 119 => ⟨S2x256, .f32⟩
  | 120 => ⟨S8x128, .f32⟩
  | 121 => ⟨S1024, .f32⟩
  | 122 => ⟨S128, .f32⟩
  | 123 => ⟨S2x64, .f32⟩
  | 124 => ⟨S1024x128, .f32⟩
  | 125 => ⟨S131072, .f32⟩
  | 126 => ⟨S2x4x128x128, .f32⟩
  | 127 => ⟨S8x128, .f32⟩
  | _ => ⟨S8x2x64, .f32⟩

abbrev hbmTy0_2 (i : Nat) : BufTy := match i % 128 with
  | 0 => ⟨S1024, .f32⟩
  | 1 => ⟨S2x4x128, .f32⟩
  | 2 => ⟨S16x128, .f32⟩
  | 3 => ⟨S2048, .f32⟩
  | 4 => ⟨S2x1024, .f32⟩
  | 5 => ⟨S88x128, .f32⟩
  | 6 => ⟨S11264, .f32⟩
  | 7 => ⟨S2x5632, .f32⟩
  | 8 => ⟨S8x128, .f32⟩
  | 9 => ⟨S1024, .f32⟩
  | 10 => ⟨S128, .f32⟩
  | 11 => ⟨S2x64, .f32⟩
  | 12 => ⟨S8x128, .f32⟩
  | 13 => ⟨S1024, .f32⟩
  | 14 => ⟨S16, .f32⟩
  | 15 => ⟨S2x8, .f32⟩
  | 16 => ⟨S256x128, .f32⟩
  | 17 => ⟨S32768, .f32⟩
  | 18 => ⟨S2x4x64x64, .f32⟩
  | 19 => ⟨S8x128, .f32⟩
  | 20 => ⟨S1024, .f32⟩
  | 21 => ⟨S512, .f32⟩
  | 22 => ⟨S2x256, .f32⟩
  | 23 => ⟨S8x128, .f32⟩
  | 24 => ⟨S1024, .f32⟩
  | 25 => ⟨S128, .f32⟩
  | 26 => ⟨S2x64, .f32⟩
  | 27 => ⟨S1024x128, .f32⟩
  | 28 => ⟨S131072, .f32⟩
  | 29 => ⟨S2x4x128x128, .f32⟩
  | 30 => ⟨S8x128, .f32⟩
  | 31 => ⟨S1024, .f32⟩
  | 32 => ⟨S2x4x128, .f32⟩
  | 33 => ⟨S16x128, .f32⟩
  | 34 => ⟨S2048, .f32⟩
  | 35 => ⟨S2x1024, .f32⟩
  | 36 => ⟨S88x128, .f32⟩
  | 37 => ⟨S11264, .f32⟩
  | 38 => ⟨S2x5632, .f32⟩
  | 39 => ⟨S8x128, .f32⟩
  | 40 => ⟨S1024, .f32⟩
  | 41 => ⟨S128, .f32⟩
  | 42 => ⟨S2x64, .f32⟩
  | 43 => ⟨S8x128, .f32⟩
  | 44 => ⟨S1024, .f32⟩
  | 45 => ⟨S16, .f32⟩
  | 46 => ⟨S2x8, .f32⟩
  | 47 => ⟨S256x128, .f32⟩
  | 48 => ⟨S32768, .f32⟩
  | 49 => ⟨S2x4x64x64, .f32⟩
  | 50 => ⟨S8x128, .f32⟩
  | 51 => ⟨S1024, .f32⟩
  | 52 => ⟨S512, .f32⟩
  | 53 => ⟨S2x256, .f32⟩
  | 54 => ⟨S8x128, .f32⟩
  | 55 => ⟨S1024, .f32⟩
  | 56 => ⟨S128, .f32⟩
  | 57 => ⟨S2x64, .f32⟩
  | 58 => ⟨S1024x128, .f32⟩
  | 59 => ⟨S131072, .f32⟩
  | 60 => ⟨S2x4x128x128, .f32⟩
  | 61 => ⟨S8x128, .f32⟩
  | 62 => ⟨S1024, .f32⟩
  | 63 => ⟨S2x4x128, .f32⟩
  | 64 => ⟨S16x128, .f32⟩
  | 65 => ⟨S2048, .f32⟩
  | 66 => ⟨S2x1024, .f32⟩
  | 67 => ⟨S88x128, .f32⟩
  | 68 => ⟨S11264, .f32⟩
  | 69 => ⟨S2x5632, .f32⟩
  | 70 => ⟨S8x128, .f32⟩
  | 71 => ⟨S1024, .f32⟩
  | 72 => ⟨S128, .f32⟩
  | 73 => ⟨S2x64, .f32⟩
  | 74 => ⟨S8x128, .f32⟩
  | 75 => ⟨S1024, .f32⟩
  | 76 => ⟨S16, .f32⟩
  | 77 => ⟨S2x8, .f32⟩
  | 78 => ⟨S256x128, .f32⟩
  | 79 => ⟨S32768, .f32⟩
  | 80 => ⟨S2x4x64x64, .f32⟩
  | 81 => ⟨S8x128, .f32⟩
  | 82 => ⟨S1024, .f32⟩
  | 83 => ⟨S512, .f32⟩
  | 84 => ⟨S2x256, .f32⟩
  | 85 => ⟨S8x128, .f32⟩
  | 86 => ⟨S1024, .f32⟩
  | 87 => ⟨S128, .f32⟩
  | 88 => ⟨S2x64, .f32⟩
  | 89 => ⟨S1024x128, .f32⟩
  | 90 => ⟨S131072, .f32⟩
  | 91 => ⟨S2x4x128x128, .f32⟩
  | 92 => ⟨S8x128, .f32⟩
  | 93 => ⟨S1024, .f32⟩
  | 94 => ⟨S2x4x128, .f32⟩
  | 95 => ⟨S16x128, .f32⟩
  | 96 => ⟨S2048, .f32⟩
  | 97 => ⟨S2x1024, .f32⟩
  | 98 => ⟨S88x128, .f32⟩
  | 99 => ⟨S11264, .f32⟩
  | 100 => ⟨S2x5632, .f32⟩
  | _ => ⟨S8x2x64, .f32⟩

abbrev hbmTy (i : Nat) : BufTy := match i / 128 with
  | 0 => hbmTy0_0 i
  | 1 => hbmTy0_1 i
  | 2 => hbmTy0_2 i
  | _ => ⟨S8x2x64, .f32⟩

abbrev bufTy : (tb : Table) → Fin (tcTables nBuf tb) → BufTy
  | .hbm, ⟨i, _⟩ => hbmTy i
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_c : Ref sig .tc := ⟨.hbm, 37, rfl⟩
abbrev main_call0_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_c_0 : Ref sig .tc := ⟨.hbm, 42, rfl⟩
abbrev main_call1_v0 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_c_1 : Ref sig .tc := ⟨.hbm, 47, rfl⟩
abbrev main_call2_v0 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_c_2 : Ref sig .tc := ⟨.hbm, 52, rfl⟩
abbrev main_call3_v0 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_3 : Ref sig .tc := ⟨.hbm, 57, rfl⟩
abbrev main_call4_v0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_c_4 : Ref sig .tc := ⟨.hbm, 62, rfl⟩
abbrev main_call5_v0 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_c_5 : Ref sig .tc := ⟨.hbm, 67, rfl⟩
abbrev main_call6_v0 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_6 : Ref sig .tc := ⟨.hbm, 72, rfl⟩
abbrev main_call7_v0 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_c_7 : Ref sig .tc := ⟨.hbm, 77, rfl⟩
abbrev main_call8_v0 : Ref sig .tc := ⟨.hbm, 78, rfl⟩
abbrev main_v25 : Ref sig .tc := ⟨.hbm, 79, rfl⟩
abbrev main_v26 : Ref sig .tc := ⟨.hbm, 80, rfl⟩
abbrev main_cst : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_c_8 : Ref sig .tc := ⟨.hbm, 86, rfl⟩
abbrev main_call9_v0 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_c_9 : Ref sig .tc := ⟨.hbm, 91, rfl⟩
abbrev main_call10_v0 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_c_10 : Ref sig .tc := ⟨.hbm, 96, rfl⟩
abbrev main_call11_v0 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_c_11 : Ref sig .tc := ⟨.hbm, 101, rfl⟩
abbrev main_call12_v0 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_c_12 : Ref sig .tc := ⟨.hbm, 106, rfl⟩
abbrev main_call13_v0 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_c_13 : Ref sig .tc := ⟨.hbm, 111, rfl⟩
abbrev main_call14_v0 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_c_14 : Ref sig .tc := ⟨.hbm, 116, rfl⟩
abbrev main_call15_v0 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_c_15 : Ref sig .tc := ⟨.hbm, 121, rfl⟩
abbrev main_call16_v0 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_c_16 : Ref sig .tc := ⟨.hbm, 126, rfl⟩
abbrev main_call17_v0 : Ref sig .tc := ⟨.hbm, 127, rfl⟩
abbrev main_v55 : Ref sig .tc := ⟨.hbm, 128, rfl⟩
abbrev main_v56 : Ref sig .tc := ⟨.hbm, 129, rfl⟩
abbrev main_cst_17 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_c_18 : Ref sig .tc := ⟨.hbm, 134, rfl⟩
abbrev main_call18_v0 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_c_19 : Ref sig .tc := ⟨.hbm, 139, rfl⟩
abbrev main_call19_v0 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_c_20 : Ref sig .tc := ⟨.hbm, 144, rfl⟩
abbrev main_call20_v0 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_c_21 : Ref sig .tc := ⟨.hbm, 149, rfl⟩
abbrev main_call21_v0 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_c_22 : Ref sig .tc := ⟨.hbm, 154, rfl⟩
abbrev main_call22_v0 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_c_23 : Ref sig .tc := ⟨.hbm, 159, rfl⟩
abbrev main_call23_v0 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_c_24 : Ref sig .tc := ⟨.hbm, 164, rfl⟩
abbrev main_call24_v0 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_c_25 : Ref sig .tc := ⟨.hbm, 169, rfl⟩
abbrev main_call25_v0 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_c_26 : Ref sig .tc := ⟨.hbm, 174, rfl⟩
abbrev main_call26_v0 : Ref sig .tc := ⟨.hbm, 175, rfl⟩
abbrev main_v84 : Ref sig .tc := ⟨.hbm, 176, rfl⟩
abbrev main_v85 : Ref sig .tc := ⟨.hbm, 177, rfl⟩
abbrev main_cst_27 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_c_28 : Ref sig .tc := ⟨.hbm, 182, rfl⟩
abbrev main_call27_v0 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_c_29 : Ref sig .tc := ⟨.hbm, 187, rfl⟩
abbrev main_call28_v0 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_c_30 : Ref sig .tc := ⟨.hbm, 192, rfl⟩
abbrev main_call29_v0 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_c_31 : Ref sig .tc := ⟨.hbm, 197, rfl⟩
abbrev main_call30_v0 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_c_32 : Ref sig .tc := ⟨.hbm, 202, rfl⟩
abbrev main_call31_v0 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_c_33 : Ref sig .tc := ⟨.hbm, 207, rfl⟩
abbrev main_call32_v0 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_c_34 : Ref sig .tc := ⟨.hbm, 212, rfl⟩
abbrev main_call33_v0 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_c_35 : Ref sig .tc := ⟨.hbm, 217, rfl⟩
abbrev main_call34_v0 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_c_36 : Ref sig .tc := ⟨.hbm, 222, rfl⟩
abbrev main_call35_v0 : Ref sig .tc := ⟨.hbm, 223, rfl⟩
abbrev main_v113 : Ref sig .tc := ⟨.hbm, 224, rfl⟩
abbrev main_v114 : Ref sig .tc := ⟨.hbm, 225, rfl⟩
abbrev main_cst_37 : Ref sig .tc := ⟨.hbm, 226, rfl⟩
abbrev main_v115 : Ref sig .tc := ⟨.hbm, 227, rfl⟩
abbrev main_v116 : Ref sig .tc := ⟨.hbm, 228, rfl⟩
abbrev main_v117_0 : Ref sig .tc := ⟨.hbm, 229, rfl⟩
abbrev main_v117_1 : Ref sig .tc := ⟨.hbm, 230, rfl⟩
abbrev main_v117_2 : Ref sig .tc := ⟨.hbm, 231, rfl⟩
abbrev main_v117_3 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_v241 : Ref sig .tc := ⟨.hbm, 356, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmallEarlyRefIdeal.lean ====
abbrev S8x2x64 : Shape := ⟨3, ![8, 2, 64]⟩
abbrev S8x2x8 : Shape := ⟨3, ![8, 2, 8]⟩
abbrev S8x2x4x64x64 : Shape := ⟨5, ![8, 2, 4, 64, 64]⟩
abbrev S8x2x256 : Shape := ⟨3, ![8, 2, 256]⟩
abbrev S8x2x4x128x128 : Shape := ⟨5, ![8, 2, 4, 128, 128]⟩
abbrev S8x2x4x128 : Shape := ⟨4, ![8, 2, 4, 128]⟩
abbrev S8x2x1024 : Shape := ⟨3, ![8, 2, 1024]⟩
abbrev S8x2x5632 : Shape := ⟨3, ![8, 2, 5632]⟩
abbrev S2x64 : Shape := ⟨2, ![2, 64]⟩
abbrev S2x8 : Shape := ⟨2, ![2, 8]⟩
abbrev S2x4x64x64 : Shape := ⟨4, ![2, 4, 64, 64]⟩
abbrev S2x256 : Shape := ⟨2, ![2, 256]⟩
abbrev S2x4x128x128 : Shape := ⟨4, ![2, 4, 128, 128]⟩
abbrev S2x4x128 : Shape := ⟨3, ![2, 4, 128]⟩
abbrev S2x1024 : Shape := ⟨2, ![2, 1024]⟩
abbrev S2x5632 : Shape := ⟨2, ![2, 5632]⟩
abbrev S_ : Shape := ⟨0, ![]⟩

abbrev nBuf : Space → Nat
  | .hbm => 351
  | .vmem => 0
  | .smem => 0
  | _ => 0

abbrev hbmTy0_0 (i : Nat) : BufTy := match i % 128 with
  | 0 => ⟨S8x2x64, .f32⟩
  | 1 => ⟨S8x2x8, .f32⟩
  | 2 => ⟨S8x2x4x64x64, .f32⟩
  | 3 => ⟨S8x2x256, .f32⟩
  | 4 => ⟨S8x2x64, .f32⟩
  | 5 => ⟨S8x2x4x128x128, .f32⟩
  | 6 => ⟨S8x2x4x128, .f32⟩
  | 7 => ⟨S8x2x1024, .f32⟩
  | 8 => ⟨S8x2x5632, .f32⟩
  | 9 => ⟨S2x64, .f32⟩
  | 10 => ⟨S2x8, .f32⟩
  | 11 => ⟨S2x4x64x64, .f32⟩
  | 12 => ⟨S2x256, .f32⟩
  | 13 => ⟨S2x64, .f32⟩
  | 14 => ⟨S2x4x128x128, .f32⟩
  | 15 => ⟨S2x4x128, .f32⟩
  | 16 => ⟨S2x1024, .f32⟩
  | 17 => ⟨S2x5632, .f32⟩
  | 18 => ⟨S2x64, .f32⟩
  | 19 => ⟨S2x8, .f32⟩
  | 20 => ⟨S2x4x64x64, .f32⟩
  | 21 => ⟨S2x256, .f32⟩
  | 22 => ⟨S2x64, .f32⟩
  | 23 => ⟨S2x4x128x128, .f32⟩
  | 24 => ⟨S2x4x128, .f32⟩
  | 25 => ⟨S2x1024, .f32⟩
  | 26 => ⟨S2x5632, .f32⟩
  | 27 => ⟨S2x64, .f32⟩
  | 28 => ⟨S2x8, .f32⟩
  | 29 => ⟨S2x4x64x64, .f32⟩
  | 30 => ⟨S2x256, .f32⟩
  | 31 => ⟨S2x64, .f32⟩
  | 32 => ⟨S2x4x128x128, .f32⟩
  | 33 => ⟨S2x4x128, .f32⟩
  | 34 => ⟨S2x1024, .f32⟩
  | 35 => ⟨S2x5632, .f32⟩
  | 36 => ⟨S_, .f32⟩
  | 37 => ⟨S2x64, .f32⟩
  | 38 => ⟨S_, .f32⟩
  | 39 => ⟨S2x64, .f32⟩
  | 40 => ⟨S2x64, .f32⟩
  | 41 => ⟨S_, .f32⟩
  | 42 => ⟨S2x64, .f32⟩
  | 43 => ⟨S2x64, .f32⟩
  | 44 => ⟨S2x64, .f32⟩
  | 45 => ⟨S_, .f32⟩
  | 46 => ⟨S2x64, .f32⟩
  | 47 => ⟨S2x64, .f32⟩
  | 48 => ⟨S2x64, .f32⟩
  | 49 => ⟨S_, .f32⟩
  | 50 => ⟨S2x64, .f32⟩
  | 51 => ⟨S2x64, .f32⟩
  | 52 => ⟨S2x64, .f32⟩
  | 53 => ⟨S_, .f32⟩
  | 54 => ⟨S2x64, .f32⟩
  | 55 => ⟨S2x64, .f32⟩
  | 56 => ⟨S_, .f32⟩
  | 57 => ⟨S2x64, .f32⟩
  | 58 => ⟨S2x64, .f32⟩
  | 59 => ⟨S2x64, .f32⟩
  | 60 => ⟨S_, .f32⟩
  | 61 => ⟨S2x64, .f32⟩
  | 62 => ⟨S2x64, .f32⟩
  | 63 => ⟨S2x64, .f32⟩
  | 64 => ⟨S_, .f32⟩
  | 65 => ⟨S2x64, .f32⟩
  | 66 => ⟨S2x64, .f32⟩
  | 67 => ⟨S2x64, .f32⟩
  | 68 => ⟨S_, .f32⟩
  | 69 => ⟨S2x64, .f32⟩
  | 70 => ⟨S2x64, .f32⟩
  | 71 => ⟨S_, .f32⟩
  | 72 => ⟨S2x8, .f32⟩
  | 73 => ⟨S_, .f32⟩
  | 74 => ⟨S2x8, .f32⟩
  | 75 => ⟨S2x8, .f32⟩
  | 76 => ⟨S_, .f32⟩
  | 77 => ⟨S2x8, .f32⟩
  | 78 => ⟨S2x8, .f32⟩
  | 79 => ⟨S2x8, .f32⟩
  | 80 => ⟨S_, .f32⟩
  | 81 => ⟨S2x8, .f32⟩
  | 82 => ⟨S2x8, .f32⟩
  | 83 => ⟨S2x8, .f32⟩
  | 84 => ⟨S_, .f32⟩
  | 85 => ⟨S2x8, .f32⟩
  | 86 => ⟨S2x8, .f32⟩
  | 87 => ⟨S2x8, .f32⟩
  | 88 => ⟨S_, .f32⟩
  | 89 => ⟨S2x8, .f32⟩
  | 90 => ⟨S2x8, .f32⟩
  | 91 => ⟨S_, .f32⟩
  | 92 => ⟨S2x8, .f32⟩
  | 93 => ⟨S2x8, .f32⟩
  | 94 => ⟨S2x8, .f32⟩
  | 95 => ⟨S_, .f32⟩
  | 96 => ⟨S2x8, .f32⟩
  | 97 => ⟨S2x8, .f32⟩
  | 98 => ⟨S2x8, .f32⟩
  | 99 => ⟨S_, .f32⟩
  | 100 => ⟨S2x8, .f32⟩
  | 101 => ⟨S2x8, .f32⟩
  | 102 => ⟨S2x8, .f32⟩
  | 103 => ⟨S_, .f32⟩
  | 104 => ⟨S2x8, .f32⟩
  | 105 => ⟨S2x8, .f32⟩
  | 106 => ⟨S_, .f32⟩
  | 107 => ⟨S2x4x64x64, .f32⟩
  | 108 => ⟨S_, .f32⟩
  | 109 => ⟨S2x4x64x64, .f32⟩
  | 110 => ⟨S2x4x64x64, .f32⟩
  | 111 => ⟨S_, .f32⟩
  | 112 => ⟨S2x4x64x64, .f32⟩
  | 113 => ⟨S2x4x64x64, .f32⟩
  | 114 => ⟨S2x4x64x64, .f32⟩
  | 115 => ⟨S_, .f32⟩
  | 116 => ⟨S2x4x64x64, .f32⟩
  | 117 => ⟨S2x4x64x64, .f32⟩
  | 118 => ⟨S2x4x64x64, .f32⟩
  | 119 => ⟨S_, .f32⟩
  | 120 => ⟨S2x4x64x64, .f32⟩
  | 121 => ⟨S2x4x64x64, .f32⟩
  | 122 => ⟨S2x4x64x64, .f32⟩
  | 123 => ⟨S_, .f32⟩
  | 124 => ⟨S2x4x64x64, .f32⟩
  | 125 => ⟨S2x4x64x64, .f32⟩
  | 126 => ⟨S_, .f32⟩
  | 127 => ⟨S2x4x64x64, .f32⟩
  | _ => ⟨S8x2x64, .f32⟩

abbrev hbmTy0_1 (i : Nat) : BufTy := match i % 128 with
  | 0 => ⟨S2x4x64x64, .f32⟩
  | 1 => ⟨S2x4x64x64, .f32⟩
  | 2 => ⟨S_, .f32⟩
  | 3 => ⟨S2x4x64x64, .f32⟩
  | 4 => ⟨S2x4x64x64, .f32⟩
  | 5 => ⟨S2x4x64x64, .f32⟩
  | 6 => ⟨S_, .f32⟩
  | 7 => ⟨S2x4x64x64, .f32⟩
  | 8 => ⟨S2x4x64x64, .f32⟩
  | 9 => ⟨S2x4x64x64, .f32⟩
  | 10 => ⟨S_, .f32⟩
  | 11 => ⟨S2x4x64x64, .f32⟩
  | 12 => ⟨S2x4x64x64, .f32⟩
  | 13 => ⟨S_, .f32⟩
  | 14 => ⟨S2x256, .f32⟩
  | 15 => ⟨S_, .f32⟩
  | 16 => ⟨S2x256, .f32⟩
  | 17 => ⟨S2x256, .f32⟩
  | 18 => ⟨S_, .f32⟩
  | 19 => ⟨S2x256, .f32⟩
  | 20 => ⟨S2x256, .f32⟩
  | 21 => ⟨S2x256, .f32⟩
  | 22 => ⟨S_, .f32⟩
  | 23 => ⟨S2x256, .f32⟩
  | 24 => ⟨S2x256, .f32⟩
  | 25 => ⟨S2x256, .f32⟩
  | 26 => ⟨S_, .f32⟩
  | 27 => ⟨S2x256, .f32⟩
  | 28 => ⟨S2x256, .f32⟩
  | 29 => ⟨S2x256, .f32⟩
  | 30 => ⟨S_, .f32⟩
  | 31 => ⟨S2x256, .f32⟩
  | 32 => ⟨S2x256, .f32⟩
  | 33 => ⟨S_, .f32⟩
  | 34 => ⟨S2x256, .f32⟩
  | 35 => ⟨S2x256, .f32⟩
  | 36 => ⟨S2x256, .f32⟩
  | 37 => ⟨S_, .f32⟩
  | 38 => ⟨S2x256, .f32⟩
  | 39 => ⟨S2x256, .f32⟩
  | 40 => ⟨S2x256, .f32⟩
  | 41 => ⟨S_, .f32⟩
  | 42 => ⟨S2x256, .f32⟩
  | 43 => ⟨S2x256, .f32⟩
  | 44 => ⟨S2x256, .f32⟩
  | 45 => ⟨S_, .f32⟩
  | 46 => ⟨S2x256, .f32⟩
  | 47 => ⟨S2x256, .f32⟩
  | 48 => ⟨S_, .f32⟩
  | 49 => ⟨S2x64, .f32⟩
  | 50 => ⟨S_, .f32⟩
  | 51 => ⟨S2x64, .f32⟩
  | 52 => ⟨S2x64, .f32⟩
  | 53 => ⟨S_, .f32⟩
  | 54 => ⟨S2x64, .f32⟩
  | 55 => ⟨S2x64, .f32⟩
  | 56 => ⟨S2x64, .f32⟩
  | 57 => ⟨S_, .f32⟩
  | 58 => ⟨S2x64, .f32⟩
  | 59 => ⟨S2x64, .f32⟩
  | 60 => ⟨S2x64, .f32⟩
  | 61 => ⟨S_, .f32⟩
  | 62 => ⟨S2x64, .f32⟩
  | 63 => ⟨S2x64, .f32⟩
  | 64 => ⟨S2x64, .f32⟩
  | 65 => ⟨S_, .f32⟩
  | 66 => ⟨S2x64, .f32⟩
  | 67 => ⟨S2x64, .f32⟩
  | 68 => ⟨S_, .f32⟩
  | 69 => ⟨S2x64, .f32⟩
  | 70 => ⟨S2x64, .f32⟩
  | 71 => ⟨S2x64, .f32⟩
  | 72 => ⟨S_, .f32⟩
  | 73 => ⟨S2x64, .f32⟩
  | 74 => ⟨S2x64, .f32⟩
  | 75 => ⟨S2x64, .f32⟩
  | 76 => ⟨S_, .f32⟩
  | 77 => ⟨S2x64, .f32⟩
  | 78 => ⟨S2x64, .f32⟩
  | 79 => ⟨S2x64, .f32⟩
  | 80 => ⟨S_, .f32⟩
  | 81 => ⟨S2x64, .f32⟩
  | 82 => ⟨S2x64, .f32⟩
  | 83 => ⟨S_, .f32⟩
  | 84 => ⟨S2x4x128x128, .f32⟩
  | 85 => ⟨S_, .f32⟩
  | 86 => ⟨S2x4x128x128, .f32⟩
  | 87 => ⟨S2x4x128x128, .f32⟩
  | 88 => ⟨S_, .f32⟩
  | 89 => ⟨S2x4x128x128, .f32⟩
  | 90 => ⟨S2x4x128x128, .f32⟩
  | 91 => ⟨S2x4x128x128, .f32⟩
  | 92 => ⟨S_, .f32⟩
  | 93 => ⟨S2x4x128x128, .f32⟩
  | 94 => ⟨S2x4x128x128, .f32⟩
  | 95 => ⟨S2x4x128x128, .f32⟩
  | 96 => ⟨S_, .f32⟩
  | 97 => ⟨S2x4x128x128, .f32⟩
  | 98 => ⟨S2x4x128x128, .f32⟩
  | 99 => ⟨S2x4x128x128, .f32⟩
  | 100 => ⟨S_, .f32⟩
  | 101 => ⟨S2x4x128x128, .f32⟩
  | 102 => ⟨S2x4x128x128, .f32⟩
  | 103 => ⟨S_, .f32⟩
  | 104 => ⟨S2x4x128x128, .f32⟩
  | 105 => ⟨S2x4x128x128, .f32⟩
  | 106 => ⟨S2x4x128x128, .f32⟩
  | 107 => ⟨S_, .f32⟩
  | 108 => ⟨S2x4x128x128, .f32⟩
  | 109 => ⟨S2x4x128x128, .f32⟩
  | 110 => ⟨S2x4x128x128, .f32⟩
  | 111 => ⟨S_, .f32⟩
  | 112 => ⟨S2x4x128x128, .f32⟩
  | 113 => ⟨S2x4x128x128, .f32⟩
  | 114 => ⟨S2x4x128x128, .f32⟩
  | 115 => ⟨S_, .f32⟩
  | 116 => ⟨S2x4x128x128, .f32⟩
  | 117 => ⟨S2x4x128x128, .f32⟩
  | 118 => ⟨S_, .f32⟩
  | 119 => ⟨S2x4x128, .f32⟩
  | 120 => ⟨S_, .f32⟩
  | 121 => ⟨S2x4x128, .f32⟩
  | 122 => ⟨S2x4x128, .f32⟩
  | 123 => ⟨S_, .f32⟩
  | 124 => ⟨S2x4x128, .f32⟩
  | 125 => ⟨S2x4x128, .f32⟩
  | 126 => ⟨S2x4x128, .f32⟩
  | 127 => ⟨S_, .f32⟩
  | _ => ⟨S8x2x64, .f32⟩

abbrev hbmTy0_2 (i : Nat) : BufTy := match i % 128 with
  | 0 => ⟨S2x4x128, .f32⟩
  | 1 => ⟨S2x4x128, .f32⟩
  | 2 => ⟨S2x4x128, .f32⟩
  | 3 => ⟨S_, .f32⟩
  | 4 => ⟨S2x4x128, .f32⟩
  | 5 => ⟨S2x4x128, .f32⟩
  | 6 => ⟨S2x4x128, .f32⟩
  | 7 => ⟨S_, .f32⟩
  | 8 => ⟨S2x4x128, .f32⟩
  | 9 => ⟨S2x4x128, .f32⟩
  | 10 => ⟨S_, .f32⟩
  | 11 => ⟨S2x4x128, .f32⟩
  | 12 => ⟨S2x4x128, .f32⟩
  | 13 => ⟨S2x4x128, .f32⟩
  | 14 => ⟨S_, .f32⟩
  | 15 => ⟨S2x4x128, .f32⟩
  | 16 => ⟨S2x4x128, .f32⟩
  | 17 => ⟨S2x4x128, .f32⟩
  | 18 => ⟨S_, .f32⟩
  | 19 => ⟨S2x4x128, .f32⟩
  | 20 => ⟨S2x4x128, .f32⟩
  | 21 => ⟨S2x4x128, .f32⟩
  | 22 => ⟨S_, .f32⟩
  | 23 => ⟨S2x4x128, .f32⟩
  | 24 => ⟨S2x4x128, .f32⟩
  | 25 => ⟨S_, .f32⟩
  | 26 => ⟨S2x1024, .f32⟩
  | 27 => ⟨S_, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S_, .f32⟩
  | 61 => ⟨S2x5632, .f32⟩
  | 62 => ⟨S_, .f32⟩
  | 63 => ⟨S2x5632, .f32⟩
  | 64 => ⟨S2x5632, .f32⟩
  | 65 => ⟨S_, .f32⟩
  | 66 => ⟨S2x5632, .f32⟩
  | 67 => ⟨S2x5632, .f32⟩
  | 68 => ⟨S2x5632, .f32⟩
  | 69 => ⟨S_, .f32⟩
  | 70 => ⟨S2x5632, .f32⟩
  | 71 => ⟨S2x5632, .f32⟩
  | 72 => ⟨S2x5632, .f32⟩
  | 73 => ⟨S_, .f32⟩
  | 74 => ⟨S2x5632, .f32⟩
  | 75 => ⟨S2x5632, .f32⟩
  | 76 => ⟨S2x5632, .f32⟩
  | 77 => ⟨S_, .f32⟩
  | 78 => ⟨S2x5632, .f32⟩
  | 79 => ⟨S2x5632, .f32⟩
  | 80 => ⟨S_, .f32⟩
  | 81 => ⟨S2x5632, .f32⟩
  | 82 => ⟨S2x5632, .f32⟩
  | 83 => ⟨S2x5632, .f32⟩
  | 84 => ⟨S_, .f32⟩
  | 85 => ⟨S2x5632, .f32⟩
  | 86 => ⟨S2x5632, .f32⟩
  | 87 => ⟨S2x5632, .f32⟩
  | 88 => ⟨S_, .f32⟩
  | 89 => ⟨S2x5632, .f32⟩
  | 90 => ⟨S2x5632, .f32⟩
  | 91 => ⟨S2x5632, .f32⟩
  | 92 => ⟨S_, .f32⟩
  | 93 => ⟨S2x5632, .f32⟩
  | 94 => ⟨S2x5632, .f32⟩
  | _ => ⟨S8x2x64, .f32⟩

abbrev hbmTy (i : Nat) : BufTy := match i / 128 with
  | 0 => hbmTy0_0 i
  | 1 => hbmTy0_1 i
  | 2 => hbmTy0_2 i
  | _ => ⟨S8x2x64, .f32⟩

abbrev bufTy : (tb : Table) → Fin (tcTables nBuf tb) → BufTy
  | .hbm, ⟨i, _⟩ => hbmTy i
  | _, _ => ⟨S8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_cst_0 : Ref sig .tc := ⟨.hbm, 38, rfl⟩
abbrev main_v1 : Ref sig .tc := ⟨.hbm, 39, rfl⟩
abbrev main_v2 : Ref sig .tc := ⟨.hbm, 40, rfl⟩
abbrev main_cst_1 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_cst_2 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_3 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_cst_4 : Ref sig .tc := ⟨.hbm, 53, rfl⟩
abbrev main_v12 : Ref sig .tc := ⟨.hbm, 54, rfl⟩
abbrev main_v13 : Ref sig .tc := ⟨.hbm, 55, rfl⟩
abbrev main_cst_5 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_6 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_7 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_8 : Ref sig .tc := ⟨.hbm, 68, rfl⟩
abbrev main_v23 : Ref sig .tc := ⟨.hbm, 69, rfl⟩
abbrev main_v24 : Ref sig .tc := ⟨.hbm, 70, rfl⟩
abbrev main_cst_9 : Ref sig .tc := ⟨.hbm, 71, rfl⟩
abbrev main_v25 : Ref sig .tc := ⟨.hbm, 72, rfl⟩
abbrev main_cst_10 : Ref sig .tc := ⟨.hbm, 73, rfl⟩
abbrev main_v26 : Ref sig .tc := ⟨.hbm, 74, rfl⟩
abbrev main_v27 : Ref sig .tc := ⟨.hbm, 75, rfl⟩
abbrev main_cst_11 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst_12 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_cst_13 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst_14 : Ref sig .tc := ⟨.hbm, 88, rfl⟩
abbrev main_v37 : Ref sig .tc := ⟨.hbm, 89, rfl⟩
abbrev main_v38 : Ref sig .tc := ⟨.hbm, 90, rfl⟩
abbrev main_cst_15 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_16 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_17 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_18 : Ref sig .tc := ⟨.hbm, 103, rfl⟩
abbrev main_v48 : Ref sig .tc := ⟨.hbm, 104, rfl⟩
abbrev main_v49 : Ref sig .tc := ⟨.hbm, 105, rfl⟩
abbrev main_cst_19 : Ref sig .tc := ⟨.hbm, 106, rfl⟩
abbrev main_v50 : Ref sig .tc := ⟨.hbm, 107, rfl⟩
abbrev main_cst_20 : Ref sig .tc := ⟨.hbm, 108, rfl⟩
abbrev main_v51 : Ref sig .tc := ⟨.hbm, 109, rfl⟩
abbrev main_v52 : Ref sig .tc := ⟨.hbm, 110, rfl⟩
abbrev main_cst_21 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_22 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_23 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_cst_24 : Ref sig .tc := ⟨.hbm, 123, rfl⟩
abbrev main_v62 : Ref sig .tc := ⟨.hbm, 124, rfl⟩
abbrev main_v63 : Ref sig .tc := ⟨.hbm, 125, rfl⟩
abbrev main_cst_25 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_cst_26 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_cst_27 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_28 : Ref sig .tc := ⟨.hbm, 138, rfl⟩
abbrev main_v73 : Ref sig .tc := ⟨.hbm, 139, rfl⟩
abbrev main_v74 : Ref sig .tc := ⟨.hbm, 140, rfl⟩
abbrev main_cst_29 : Ref sig .tc := ⟨.hbm, 141, rfl⟩
abbrev main_v75 : Ref sig .tc := ⟨.hbm, 142, rfl⟩
abbrev main_cst_30 : Ref sig .tc := ⟨.hbm, 143, rfl⟩
abbrev main_v76 : Ref sig .tc := ⟨.hbm, 144, rfl⟩
abbrev main_v77 : Ref sig .tc := ⟨.hbm, 145, rfl⟩
abbrev main_cst_31 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_32 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_33 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_cst_34 : Ref sig .tc := ⟨.hbm, 158, rfl⟩
abbrev main_v87 : Ref sig .tc := ⟨.hbm, 159, rfl⟩
abbrev main_v88 : Ref sig .tc := ⟨.hbm, 160, rfl⟩
abbrev main_cst_35 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_cst_36 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_cst_37 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_cst_38 : Ref sig .tc := ⟨.hbm, 173, rfl⟩
abbrev main_v98 : Ref sig .tc := ⟨.hbm, 174, rfl⟩
abbrev main_v99 : Ref sig .tc := ⟨.hbm, 175, rfl⟩
abbrev main_cst_39 : Ref sig .tc := ⟨.hbm, 176, rfl⟩
abbrev main_v100 : Ref sig .tc := ⟨.hbm, 177, rfl⟩
abbrev main_cst_40 : Ref sig .tc := ⟨.hbm, 178, rfl⟩
abbrev main_v101 : Ref sig .tc := ⟨.hbm, 179, rfl⟩
abbrev main_v102 : Ref sig .tc := ⟨.hbm, 180, rfl⟩
abbrev main_cst_41 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_cst_42 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_cst_43 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_cst_44 : Ref sig .tc := ⟨.hbm, 193, rfl⟩
abbrev main_v112 : Ref sig .tc := ⟨.hbm, 194, rfl⟩
abbrev main_v113 : Ref sig .tc := ⟨.hbm, 195, rfl⟩
abbrev main_cst_45 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_cst_46 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_47 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_cst_48 : Ref sig .tc := ⟨.hbm, 208, rfl⟩
abbrev main_v123 : Ref sig .tc := ⟨.hbm, 209, rfl⟩
abbrev main_v124 : Ref sig .tc := ⟨.hbm, 210, rfl⟩
abbrev main_cst_49 : Ref sig .tc := ⟨.hbm, 211, rfl⟩
abbrev main_v125 : Ref sig .tc := ⟨.hbm, 212, rfl⟩
abbrev main_cst_50 : Ref sig .tc := ⟨.hbm, 213, rfl⟩
abbrev main_v126 : Ref sig .tc := ⟨.hbm, 214, rfl⟩
abbrev main_v127 : Ref sig .tc := ⟨.hbm, 215, rfl⟩
abbrev main_cst_51 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_52 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_cst_53 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_cst_54 : Ref sig .tc := ⟨.hbm, 228, rfl⟩
abbrev main_v137 : Ref sig .tc := ⟨.hbm, 229, rfl⟩
abbrev main_v138 : Ref sig .tc := ⟨.hbm, 230, rfl⟩
abbrev main_cst_55 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_56 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_cst_57 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_cst_58 : Ref sig .tc := ⟨.hbm, 243, rfl⟩
abbrev main_v148 : Ref sig .tc := ⟨.hbm, 244, rfl⟩
abbrev main_v149 : Ref sig .tc := ⟨.hbm, 245, rfl⟩
abbrev main_cst_59 : Ref sig .tc := ⟨.hbm, 246, rfl⟩
abbrev main_v150 : Ref sig .tc := ⟨.hbm, 247, rfl⟩
abbrev main_cst_60 : Ref sig .tc := ⟨.hbm, 248, rfl⟩
abbrev main_v151 : Ref sig .tc := ⟨.hbm, 249, rfl⟩
abbrev main_v152 : Ref sig .tc := ⟨.hbm, 250, rfl⟩
abbrev main_cst_61 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_cst_62 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_cst_63 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_cst_64 : Ref sig .tc := ⟨.hbm, 263, rfl⟩
abbrev main_v162 : Ref sig .tc := ⟨.hbm, 264, rfl⟩
abbrev main_v163 : Ref sig .tc := ⟨.hbm, 265, rfl⟩
abbrev main_cst_65 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_cst_66 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_cst_67 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_68 : Ref sig .tc := ⟨.hbm, 278, rfl⟩
abbrev main_v173 : Ref sig .tc := ⟨.hbm, 279, rfl⟩
abbrev main_v174 : Ref sig .tc := ⟨.hbm, 280, rfl⟩
abbrev main_cst_69 : Ref sig .tc := ⟨.hbm, 281, rfl⟩
abbrev main_v175 : Ref sig .tc := ⟨.hbm, 282, rfl⟩
abbrev main_cst_70 : Ref sig .tc := ⟨.hbm, 283, rfl⟩
abbrev main_v176 : Ref sig .tc := ⟨.hbm, 284, rfl⟩
abbrev main_v177 : Ref sig .tc := ⟨.hbm, 285, rfl⟩
abbrev main_cst_71 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_cst_72 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_cst_73 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_cst_74 : Ref sig .tc := ⟨.hbm, 298, rfl⟩
abbrev main_v187 : Ref sig .tc := ⟨.hbm, 299, rfl⟩
abbrev main_v188 : Ref sig .tc := ⟨.hbm, 300, rfl⟩
abbrev main_cst_75 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_cst_76 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_cst_77 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_cst_78 : Ref sig .tc := ⟨.hbm, 313, rfl⟩
abbrev main_v198 : Ref sig .tc := ⟨.hbm, 314, rfl⟩
abbrev main_v199 : Ref sig .tc := ⟨.hbm, 315, rfl⟩
abbrev main_cst_79 : Ref sig .tc := ⟨.hbm, 316, rfl⟩
abbrev main_v200 : Ref sig .tc := ⟨.hbm, 317, rfl⟩
abbrev main_cst_80 : Ref sig .tc := ⟨.hbm, 318, rfl⟩
abbrev main_v201 : Ref sig .tc := ⟨.hbm, 319, rfl⟩
abbrev main_v202 : Ref sig .tc := ⟨.hbm, 320, rfl⟩
abbrev main_cst_81 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_cst_82 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_cst_83 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_cst_84 : Ref sig .tc := ⟨.hbm, 333, rfl⟩
abbrev main_v212 : Ref sig .tc := ⟨.hbm, 334, rfl⟩
abbrev main_v213 : Ref sig .tc := ⟨.hbm, 335, rfl⟩
abbrev main_cst_85 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_cst_86 : Ref sig .tc := ⟨.hbm, 340, rfl⟩
abbrev main_v217 : Ref sig .tc := ⟨.hbm, 341, rfl⟩
abbrev main_v218 : Ref sig .tc := ⟨.hbm, 342, rfl⟩
abbrev main_v219 : Ref sig .tc := ⟨.hbm, 343, rfl⟩
abbrev main_cst_87 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_cst_88 : Ref sig .tc := ⟨.hbm, 348, rfl⟩
abbrev main_v223 : Ref sig .tc := ⟨.hbm, 349, rfl⟩
abbrev main_v224 : Ref sig .tc := ⟨.hbm, 350, rfl⟩

abbrev nD : Nat := 1
abbrev τ : Topo := Topo.v7x

variable {F : FTy → Type} [FloatOps F]
-- ==== Proof.RefFrames.lean ====
module

public import proofs.«01_k».proof.Defs
public import proofs.«01_k».proof.Proof.Gen.SguRefIdeal.Run
public import proofs.«01_k».proof.Proof.Gen.BranchRefIdeal.Run
public import proofs.«01_k».proof.Proof.Gen.UpRefIdeal.Run
public import proofs.«01_k».proof.Proof.Gen.InBwdRefIdeal.Run
public import proofs.«01_k».proof.Proof.Gen.BranchARefIdeal.Run
public import proofs.«01_k».proof.Proof.Gen.BranchCRefIdeal.Run
public import proofs.«01_k».proof.Proof.Gen.MergeOutRefIdeal.Run
public import proofs.«01_k».proof.Proof.Gen.FfnDownRefIdeal.Run
public import proofs.«01_k».proof.Proof.Gen.FfnLossRefIdeal.Run
public import Idealize.ShloMosaic.Lib.Quiescent

/-!
The references run to an end, leave their arguments alone and every semaphore at zero.
-/

@[expose] public section

set_option maxRecDepth 16384

noncomputable section

open Idealize.ShloMosaic Idealize.ShloMosaic.TcCoe Idealize.SL.Sem

namespace Cert.Proof

theorem frame_sgu_ref : Cert.quiescent_SguRefIdeal := fun m ρ _ =>
  (θ_run Cert.SguRefIdeal.defs _ _).mono
    (fun r h => ⟨fun c => (h c).2.2.2.2, sem_eq_zero_of_no_sems (by decide) r.2⟩)
    (Cert.SguRefIdeal.Value.run (F := Ideal) m ρ)

theorem frame_branch_ref : Cert.quiescent_BranchRefIdeal := fun m ρ _ =>
  (θ_run Cert.BranchRefIdeal.defs _ _).mono
    (fun r h => ⟨fun c => (h c).2.2.2, sem_eq_zero_of_no_sems (by decide) r.2⟩)
    (Cert.BranchRefIdeal.Value.run (F := Ideal) m ρ)

theorem frame_up_ref : Cert.quiescent_UpRefIdeal := fun m ρ _ =>
  (θ_run Cert.UpRefIdeal.defs _ _).mono
    (fun r h => ⟨fun c => (h c).2.2, sem_eq_zero_of_no_sems (by decide) r.2⟩)
    (Cert.UpRefIdeal.Value.run (F := Ideal) m ρ)

theorem frame_in_bwd_ref : Cert.quiescent_InBwdRefIdeal := fun m ρ _ =>
  (θ_run Cert.InBwdRefIdeal.defs _ _).mono
    (fun r h => ⟨fun c => (h c).2.2, sem_eq_zero_of_no_sems (by decide) r.2⟩)
    (Cert.InBwdRefIdeal.Value.run (F := Ideal) m ρ)

theorem frame_branch_a_ref : Cert.quiescent_BranchARefIdeal := fun m ρ _ =>
  (θ_run Cert.BranchARefIdeal.defs _ _).mono
    (fun r h => ⟨fun c => (h c).2.2.2, sem_eq_zero_of_no_sems (by decide) r.2⟩)
    (Cert.BranchARefIdeal.Value.run (F := Ideal) m ρ)

theorem frame_branch_c_ref : Cert.quiescent_BranchCRefIdeal := fun m ρ _ =>
  (θ_run Cert.BranchCRefIdeal.defs _ _).mono
    (fun r h => ⟨fun c => (h c).2.2.2, sem_eq_zero_of_no_sems (by decide) r.2⟩)
    (Cert.BranchCRefIdeal.Value.run (F := Ideal) m ρ)

theorem frame_merge_out_ref : Cert.quiescent_MergeOutRefIdeal := fun m ρ _ =>
  (θ_run Cert.MergeOutRefIdeal.defs _ _).mono
    (fun r h => ⟨fun c => (h c).2.2.2, sem_eq_zero_of_no_sems (by decide) r.2⟩)
    (Cert.MergeOutRefIdeal.Value.run (F := Ideal) m ρ)

theorem frame_ffn_down_ref : Cert.quiescent_FfnDownRefIdeal := fun m ρ _ =>
  (θ_run Cert.FfnDownRefIdeal.defs _ _).mono
    (fun r h => ⟨fun c => (h c).2.2.2, sem_eq_zero_of_no_sems (by decide) r.2⟩)
    (Cert.FfnDownRefIdeal.Value.run (F := Ideal) m ρ)

theorem frame_ffn_loss_ref : Cert.quiescent_FfnLossRefIdeal := fun m ρ _ =>
  (θ_run Cert.FfnLossRefIdeal.defs _ _).mono
    (fun r h => ⟨fun c => (h c).2.2.2, sem_eq_zero_of_no_sems (by decide) r.2⟩)
    (Cert.FfnLossRefIdeal.Value.run (F := Ideal) m ρ)

end Cert.Proof

end
-- ==== Proof.BranchPure.lean ====
module

public import proofs.«01_k».proof.Proof.Gen.BranchIdeal.Skeleton
public import proofs.«01_k».proof.Proof.Gen.BranchRefIdeal.Read
public import Idealize.ShloMosaic.Lib.Pointwise

/-!
The gated branch's gradients as formulas on the five argument arrays, and the reference's arrays read as
these formulas.
-/

@[expose] public section

set_option maxRecDepth 16384

noncomputable section

open Idealize.ShloMosaic Idealize.ShloMosaic.TcCoe Idealize.SL.Sem

namespace Cert.BranchIdeal.Value
open Cert.BranchIdeal

/-- The sigmoid gate of row `r`, column `l` of the branch. -/
def gate (z : FVec Ideal S8192x4608 .f32) (r : Fin 8192) (l : Fin 1024) : EReal :=
  Ideal.logistic (z (ix2 r ⟨2560 + l, by omega⟩))

/-- The cotangent of the branch's product. -/
def DY (z : FVec Ideal S8192x4608 .f32) (d : FVec Ideal S8192x1024 .f32) : FVec Ideal S8192x1024 .bf16 :=
  fun i => d i * gate z (i 0) (i 1)

/-- The cotangent of the branch's input: the product's cotangent times the transposed weight. -/
def DX (w : FVec Ideal S512x1024 .bf16) (z : FVec Ideal S8192x4608 .f32) (d : FVec Ideal S8192x1024 .f32) :
    FVec Ideal S8192x512 .f32 :=
  fun i => ∑ k : Fin 1024, d (ix2 (i 0) k) * gate z (i 0) k * w (ix2 (i 1) k)

/-- The cotangent of one gate. -/
def dgate (x : FVec Ideal S8192x512 .bf16) (w : FVec Ideal S512x1024 .bf16) (z : FVec Ideal S8192x4608 .f32)
    (d : FVec Ideal S8192x1024 .f32) (r : Fin 8192) (l : Fin 1024) : EReal :=
  (d (ix2 r l) * ∑ k : Fin 512, x (ix2 r k) * w (ix2 k l)) * (gate z r l * (1 - gate z r l))

/-- The gates' cotangent at an index of the whole projection's cotangent (zero outside the branch's columns). -/
def DZ (x : FVec Ideal S8192x512 .bf16) (w : FVec Ideal S512x1024 .bf16) (z : FVec Ideal S8192x4608 .f32)
    (d : FVec Ideal S8192x1024 .f32) : FVec Ideal S8192x4608 .bf16 :=
  fun i => if h : (i 1 : ℕ) - 2560 < 1024 then dgate x w z d (i 0) ⟨(i 1 : ℕ) - 2560, h⟩ else 0

end Cert.BranchIdeal.Value

namespace Cert.BranchRefIdeal.Value
open Cert.BranchRefIdeal Cert.BranchRefIdeal.Read Cert.BranchIdeal.Value

/-- The reference's sigmoid is the gate. -/
theorem gate_apply (z : FVec Ideal S8192x4608 .f32) (r : Fin 8192) (l : Fin 1024) :
    val_main_v8 (F := Ideal) z (ix2 r l) = gate z r l := by
  simp only [val_main_v8, val_main_v7, val_main_v6, val_main_v5, val_main_v4, val_main_v3, val_main_v2,
    val_main_cst, val_main_cst_0]
  pointwise
  rfl

/-- The reference's second sigmoid is the same. -/
theorem gate2_apply (z : FVec Ideal S8192x4608 .f32) (r : Fin 8192) (l : Fin 1024) :
    val_main_v24 (F := Ideal) z (ix2 r l) = gate z r l := gate_apply z r l

/-- The reference's cotangent of the product. -/
theorem dy_eq (z : FVec Ideal S8192x4608 .f32) (d : FVec Ideal S8192x1024 .f32) :
    val_main_v31 (F := Ideal) z d = DY z d := by
  funext i
  idx_vars i
  simp only [val_main_v31, DY]
  pointwise [val_main_v26]
  rw [gate2_apply, mul_comm]

/-- The reference's cotangent of the branch's input. -/
theorem dx_eq (w : FVec Ideal S512x1024 .bf16) (z : FVec Ideal S8192x4608 .f32) (d : FVec Ideal S8192x1024 .f32) :
    val_main_v16 (F := Ideal) w z d = DX w z d := by
  funext i
  idx_vars i
  simp only [val_main_v16, val_main_v1, val_main_v14, DX]
  pointwise
  refine Finset.sum_congr rfl fun k _ => ?_
  rw [gate_apply, mul_comm (gate _ _ _)]

/-- The reference's cotangent of the projection: the gates' cotangent in the branch's columns, the array it was
    given elsewhere. -/
theorem dz_eq (x : FVec Ideal S8192x512 .bf16) (w : FVec Ideal S512x1024 .bf16) (z : FVec Ideal S8192x4608 .f32)
    (d : FVec Ideal S8192x1024 .f32) (dz : FVec Ideal S8192x4608 .bf16) :
    val_main_v30 (F := Ideal) x w z d dz
      = fun i => if 2560 ≤ (i 1 : ℕ) ∧ (i 1 : ℕ) < 3584 then DZ x w z d i else dz i := by
  funext i
  idx_vars i
  simp only [val_main_v30, val_main_v29, val_main_v28, val_main_v27, val_main_v17, val_main_v15, val_main_v12,
    val_main_v11, val_main_v10, val_main_v9, val_main_cst_1, val_main_v0, val_main_v1, DZ, dgate]
  pointwise
  by_cases h : (i1 : ℕ) < 2560
  · exact (dif_pos h).trans (if_neg (show ¬(2560 ≤ (i1 : ℕ) ∧ (i1 : ℕ) < 3584) by omega)).symm
  · refine (dif_neg h).trans ?_
    by_cases h' : (i1 : ℕ) - 2560 < 1024
    · refine (dif_pos h').trans (Eq.trans ?_
        ((if_pos (show 2560 ≤ (i1 : ℕ) ∧ (i1 : ℕ) < 3584 by omega)).trans (dif_pos h')).symm)
      rw [gate_apply]
    · refine (dif_neg h').trans (Eq.trans (congrArg dz ?_)
        (if_neg (show ¬(2560 ≤ (i1 : ℕ) ∧ (i1 : ℕ) < 3584) by omega)).symm)
      exact (ix2_inj ..).2 ⟨rfl, Fin.ext (by dsimp only; omega)⟩

end Cert.BranchRefIdeal.Value
-- ==== Proof.BranchValue.lean ====
module

public import proofs.«01_k».proof.Proof.BranchPure
public import proofs.«01_k».proof.Proof.Gen.BranchIdeal.Value
public import Idealize.ShloMosaic.Lib.Pipeline.ValueKit

/-!
What the branch kernel leaves in its three results: the formulas of `BranchPure`.
-/

@[expose] public section

set_option maxRecDepth 16384

noncomputable section

open Idealize.ShloMosaic Idealize.ShloMosaic.TcCoe Idealize.SL.Sem
open Idealize.ShloMosaic.Pipeline (Dat)

namespace Cert.BranchIdeal.Value

open Cert.BranchIdeal Cert.BranchIdeal.Gen

variable (m : (ℓ : Loc nD τ sig) → Buf (Elt Ideal) ℓ)

/-- Each window's block index at grid point `t`. -/
theorem idx : ∀ t : Fin cfg0.N, win0_0.index t = ![t.val / 2, 0] ∧ win0_1.index t = ![0, t.val % 2]
    ∧ win0_2.index t = ![t.val / 2, 5 + t.val % 2] ∧ win0_3.index t = ![t.val / 2, t.val % 2]
    ∧ win0_4.index t = ![t.val / 2, 5 + t.val % 2] ∧ win0_5.index t = ![t.val / 2, t.val % 2]
    ∧ win0_6.index t = ![t.val / 2, 0] :=
  (by decide +kernel : ∀ t : Fin grid0.N, _)

/-- The cotangent of the product, block by block. -/
theorem point5 (c : Dev nD) (t : Fin cfg0.N) (y) :
    k0_pay2 (iblk m c 2 t) (iblk m c 3 t) y
      = DY (m ((c : Thread nD τ).loc main_arg2)) (m ((c : Thread nD τ).loc main_arg3))
        (((cfg0.win 5).blk t).view.emb y) := by
  pointwise [k0_pay2, k0_pay1, DY, gate]
  blk_point [iblk, V, idx t]

/-- The cotangent of the product. -/
theorem final5 (c : Dev nD) : (dats m 0 c).arrAt 5 (cfgs 0).N
    = DY (m ((c : Thread nD τ).loc main_arg2)) (m ((c : Thread nD τ).loc main_arg3)) := by
  refine (dats m 0 c).arrAt_eq_of_covers 5 _ (by decide +kernel) fun t hf y => ?_
  blk_simp
  rw [after0_5]
  rcases (by omega : t.val % 2 = 0 ∨ t.val % 2 = 1) with h | h
  · rw [outsAt0_A m c t h (by omega)]
    frame_out
    exact point5 m c t y
  · rw [outsAt0_B m c t (by omega) (by omega)]
    frame_out
    exact point5 m c t y

/-- The gates' cotangent, block by block. -/
theorem point4 (c : Dev nD) (t : Fin cfg0.N) (y) :
    k0_pay3 (iblk m c 0 t) (iblk m c 1 t) (iblk m c 2 t) (iblk m c 3 t) y
      = DZ (m ((c : Thread nD τ).loc main_arg0)) (m ((c : Thread nD τ).loc main_arg1))
          (m ((c : Thread nD τ).loc main_arg2)) (m ((c : Thread nD τ).loc main_arg3))
          (((cfg0.win 4).blk t).view.emb y) := by
  have h : (((((cfg0.win 4).blk t).view.emb y) 1 : ℕ)) - 2560 < 1024 := by
    blk_simp [idx t]
    idx_bounds y
    omega
  rw [DZ, dif_pos h]
  pointwise [k0_pay3, k0_pay1, dgate, gate]
  blk_point [iblk, V, idx t]

/-- The gates' cotangent in the branch's columns, what the array held elsewhere. -/
theorem final4 (c : Dev nD) : (dats m 0 c).arrAt 4 (cfgs 0).N
    = fun i => if 2560 ≤ (i 1 : ℕ) ∧ (i 1 : ℕ) < 3584
        then DZ (m ((c : Thread nD τ).loc main_arg0)) (m ((c : Thread nD τ).loc main_arg1))
          (m ((c : Thread nD τ).loc main_arg2)) (m ((c : Thread nD τ).loc main_arg3)) i
        else V m c main_v0_0 i := by
  refine (dats m 0 c).arrAt_eq_of_coversWhere 4 _ (fun β => 5 ≤ β 1 ∧ β 1 < 7) (by decide +kernel) (fun t hf y => ?_)
    (fun j => by blk_simp [Pipeline.Window.cell_apply]; omega)
  blk_simp
  rw [after0_4]
  rcases (by omega : t.val % 2 = 0 ∨ t.val % 2 = 1) with h | h
  · rw [outsAt0_A m c t h (by omega)]
    frame_out
    exact point4 m c t y
  · rw [outsAt0_B m c t (by omega) (by omega)]
    frame_out
    exact point4 m c t y

/-- One column tile's part of the input's cotangent. -/
theorem part (g d : FVec Ideal S1024x512 .f32) (w : FVec Ideal S512x512 .bf16) (j) :
    k0_pay4 (F := Ideal) g d w j
      = ∑ k : Fin 512, d (ix2 (j 0) k) * Ideal.logistic (g (ix2 (j 0) k)) * w (ix2 (j 1) k) := by
  pointwise [k0_pay4, k0_pay2, k0_pay1]

/-- The second tile adds its part. -/
theorem step (acc g d : FVec Ideal S1024x512 .f32) (w : FVec Ideal S512x512 .bf16) (j) :
    k0_pay5 (F := Ideal) g d w acc j
      = acc j + ∑ k : Fin 512, d (ix2 (j 0) k) * Ideal.logistic (g (ix2 (j 0) k)) * w (ix2 (j 1) k) := by
  pointwise [k0_pay5, k0_pay4, k0_pay2, k0_pay1]

/-- The input's cotangent: the two column tiles' parts add up to the whole contraction. -/
theorem final6 (c : Dev nD) : (dats m 0 c).arrAt 6 (cfgs 0).N
    = DX (m ((c : Thread nD τ).loc main_arg1)) (m ((c : Thread nD τ).loc main_arg2))
      (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 2 (fun _ => 0) _
    (fun t h j => by rw [outsAt0_A m c t h (by omega)]; frame_out; rw [part, ← zero_add (Finset.sum _ _)])
    (fun t h j => by rw [outsAt0_B m c t h (by omega)]; frame_out; rw [step])
    t ((flush0_6 t).mp hf) _, zero_add]
  pointwise [DX, gate]
  refine Fin.sum_mul_add_congr fun s k hl => ?_
  blk_point [iblk, V, idx t, idx ⟨_, Pipeline.run_point_lt_of_flush t ((flush0_6 t).mp hf) s⟩]

end Cert.BranchIdeal.Value
-- ==== Proof.BranchClaim.lean ====
module

public import proofs.«01_k».proof.Defs
public import proofs.«01_k».proof.Proof.BranchValue
public import proofs.«01_k».proof.Proof.Gen.BranchRefIdeal.Run
public import Idealize.ShloMosaic.Lib.Claim

/-!
The branch's gradient call and its reference leave equal results.
-/

@[expose] public section

set_option maxRecDepth 16384

noncomputable section

open Idealize.ShloMosaic Idealize.SL.Sem

namespace Cert.BranchIdeal.Value
open Cert.BranchIdeal Cert.BranchIdeal.Gen

/-- Before the call the result the call writes into holds the fifth argument. -/
theorem entry (m : (ℓ : Loc nD τ sig) → Buf (Elt Ideal) ℓ) (c : Dev nD) :
    V m c main_v0_0 = m ((c.tc : Thread nD τ).loc main_arg4) := by
  unfold V; after_results; try rfl

end Cert.BranchIdeal.Value

namespace Cert.Proof

/-- The branch's gradient: kernel and reference agree. -/
theorem algebraic_branch : Cert.algebraic_BranchIdeal_BranchRefIdeal := by
  pair_intro
  · run_from Cert.BranchIdeal.Gen.run_main m g
  · run_from Cert.BranchRefIdeal.Value.run m' g'
    · rw [(hagree c).2.2.2.2, Cert.BranchIdeal.Value.final4 m c, Cert.BranchIdeal.Value.entry m c]
      exact Cert.BranchRefIdeal.Value.dz_eq _ _ _ _ _
    · rw [Cert.BranchIdeal.Value.final5 m c]
      exact Cert.BranchRefIdeal.Value.dy_eq _ _
    · rw [Cert.BranchIdeal.Value.final6 m c]
      exact Cert.BranchRefIdeal.Value.dx_eq _ _ _

end Cert.Proof

end
-- ==== Proof.Consts.lean ====
module

public import Idealize.ShloMosaic.PureOps.Ideal

/-!
The float constants of the programs, as the reals their patterns denote.
-/

@[expose] public section

noncomputable section

namespace Cert.Consts

open Idealize.ShloMosaic

/-- The width of a row. -/
theorem ofBits_1024 : Ideal.ofBits .f32 0x44800000#32 = ((1024 : ℝ) : EReal) := by
  simp [Ideal.ofBits, Ideal.ieee, -EReal.coe_mul]; norm_num

/-- The width of a head. -/
theorem ofBits_64 : Ideal.ofBits .f32 0x42800000#32 = ((64 : ℝ) : EReal) := by
  simp [Ideal.ofBits, Ideal.ieee, -EReal.coe_mul]; norm_num

/-- The exponent of a root's derivative. -/
theorem ofBits_neg_half : Ideal.ofBits .f32 0xBF000000#32 = ((-(1 / 2) : ℝ) : EReal) := by
  simp [Ideal.ofBits, Ideal.ieee, -EReal.coe_mul]; norm_num

/-- One half. -/
theorem ofBits_half : Ideal.ofBits .f32 0x3F000000#32 = ((1 / 2 : ℝ) : EReal) := by
  simp [Ideal.ofBits, Ideal.ieee, -EReal.coe_mul]; norm_num

/-- One. -/
theorem ofBits_one : Ideal.ofBits .f32 0x3F800000#32 = ((1 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- One over the width of a row. -/
theorem ofBits_inv_1024 : Ideal.ofBits .f32 0x3A800000#32 = ((1 / 1024 : ℝ) : EReal) := by
  simp [Ideal.ofBits, Ideal.ieee, -EReal.coe_mul]; norm_num

/-- A square is not negative. -/
theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

/-- Terms that are not negative may be scaled one by one. -/
theorem sum_mul_of_nonneg {ι : Type} (s : Finset ι) (f : ι → EReal) (c : EReal) (h : ∀ i, 0 ≤ f i) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (h a) (Finset.sum_nonneg fun i _ => h i), ih]

/-- The real the normalisation adds to a mean square. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, eps, -EReal.coe_mul]; norm_num

end Cert.Consts

end
-- ==== Proof.NormScalar.lean ====
module

public import proofs.«01_k».proof.Proof.Consts

/-!
The arithmetic of the gradient of a row's normalisation by its root mean square, on extended reals.
-/

@[expose] public section

noncomputable section

namespace Cert.Norm

open Idealize.ShloMosaic Cert.Consts

/-- A square is not negative. -/
theorem sq_nonneg (x : EReal) : 0 ≤ x * x := by
  induction x using EReal.rec with
  | bot => simp
  | top => simp
  | coe r => rw [← EReal.coe_mul]; exact_mod_cast mul_self_nonneg r

/-- The mean square with its small addend is positive. -/
theorem pos (s : EReal) (h : 0 ≤ s) :
    0 < Ideal.div s (Ideal.ofBits .f32 0x44800000#32) + Ideal.ofBits .f32 0x358637BD#32 := by
  rw [ofBits_1024, ofBits_eps, Ideal.div_coe (by norm_num)]
  have h1 : (0 : EReal) ≤ s * ((1 / 1024 : ℝ) : EReal) :=
    mul_nonneg h (by exact_mod_cast (by norm_num : (0 : ℝ) ≤ 1 / 1024))
  have h2 : (0 : EReal) < (eps : EReal) := by exact_mod_cast eps_pos
  calc (0 : EReal) < (eps : EReal) := h2
    _ = 0 + (eps : EReal) := (zero_add _).symm
    _ ≤ _ := add_le_add_left h1 _

/-- The root's reciprocal over the radicand is the reciprocal's cube. -/
theorem cube (v : EReal) (h : 0 < v) :
    Ideal.div (Ideal.rsqrt v) v = Ideal.rsqrt v * Ideal.rsqrt v * Ideal.rsqrt v := by
  induction v using EReal.rec with
  | bot => simp at h
  | top =>
    have hq : Ideal.rsqrt ⊤ = 0 := rfl
    rw [hq]
    simp [Ideal.div]
  | coe r =>
    have hr : 0 < r := by exact_mod_cast h
    have hq : Ideal.rsqrt (r : EReal) = (((Real.sqrt r)⁻¹ : ℝ) : EReal) := by
      show (if r < 0 then (⊥ : EReal) else if r = 0 then ⊤ else (((Real.sqrt r)⁻¹ : ℝ) : EReal)) = _
      rw [if_neg hr.not_gt, if_neg hr.ne']
    rw [Ideal.div_coe hr.ne', hq, ← EReal.coe_mul, ← EReal.coe_mul, ← EReal.coe_mul]
    congr 1
    have hs : Real.sqrt r ≠ 0 := (Real.sqrt_pos.2 hr).ne'
    have h2 : r = Real.sqrt r * Real.sqrt r := (Real.mul_self_sqrt hr.le).symm
    rw [one_div]
    conv_lhs => rw [show r⁻¹ = (Real.sqrt r * Real.sqrt r)⁻¹ by rw [← h2]]
    field_simp

/-- Twice a half. -/
theorem half_add_half (a : EReal) :
    a * ((-(1 / 2) : ℝ) : EReal) + a * ((-(1 / 2) : ℝ) : EReal) = -a := by
  induction a using EReal.rec with
  | bot => rw [EReal.bot_mul_coe_of_neg (by norm_num)]; simp
  | top => rw [EReal.top_mul_coe_of_neg (by norm_num)]; simp
  | coe r => rw [← EReal.coe_mul, ← EReal.coe_add, ← EReal.coe_neg]; congr 1; ring

/-- The two spellings of the gradient at one element: the kernel's, with the reciprocal root's cube and one
    subtraction; the reference's, with the derivative of the reciprocal root and the square's two equal parts. -/
theorem grad (d u x s v : EReal) (h : 0 < v) :
    d + (Ideal.rsqrt v * u - x * (Ideal.rsqrt v * Ideal.rsqrt v * Ideal.rsqrt v)
          * Ideal.div s (Ideal.ofBits .f32 0x44800000#32))
      = ((d + u * Ideal.rsqrt v)
          + x * Ideal.div (s * (Ideal.ofBits .f32 0xBF000000#32 * Ideal.div (Ideal.rsqrt v) v))
              (Ideal.ofBits .f32 0x44800000#32))
        + Ideal.div (s * (Ideal.ofBits .f32 0xBF000000#32 * Ideal.div (Ideal.rsqrt v) v))
              (Ideal.ofBits .f32 0x44800000#32) * x := by
  rw [cube v h, ofBits_1024, ofBits_neg_half, Ideal.div_coe (by norm_num), Ideal.div_coe (by norm_num)]
  generalize Ideal.rsqrt v = q
  generalize ((1 / 1024 : ℝ) : EReal) = n
  have e : x * (q * q * q) * (s * n) * ((-(1 / 2) : ℝ) : EReal)
      = x * (s * (((-(1 / 2) : ℝ) : EReal) * (q * q * q)) * n) := by ac_rfl
  rw [mul_comm (s * _ * n) x, ← e, add_assoc, half_add_half, sub_eq_add_neg, mul_comm q u, ← add_assoc]

end Cert.Norm

end
-- ==== Proof.UpPure.lean ====
module

public import proofs.«01_k».proof.Proof.NormScalar
public import proofs.«01_k».proof.Proof.Gen.UpRefIdeal.Read
public import Idealize.ShloMosaic.Lib.Pointwise

/-!
The gradients of the normalised product as formulas on the five argument arrays, and the reference's
arrays read as these formulas.
-/

@[expose] public section

set_option maxRecDepth 16384

noncomputable section

open Idealize.ShloMosaic Idealize.ShloMosaic.TcCoe Idealize.SL.Sem

namespace Cert.UpRefIdeal.Value
open Cert.UpRefIdeal Cert.UpRefIdeal.Read Cert.Consts

/-- The radicand of row `r`: its mean square and the small addend. -/
def ms (x : FVec Ideal S8192x1024 .f32) (r : Fin 8192) : EReal :=
  Ideal.div (∑ k : Fin 1024, x (ix2 r k) * x (ix2 r k)) (Ideal.ofBits .f32 0x44800000#32)
    + Ideal.ofBits .f32 0x358637BD#32

/-- The cotangent of the normalised row: the product's cotangent times the transposed weight. -/
def dh (ct : FVec Ideal S8192x5632 .bf16) (w : FVec Ideal S1024x5632 .bf16) (r : Fin 8192) (l : Fin 1024) : EReal :=
  ∑ k : Fin 5632, ct (ix2 r k) * w (ix2 l k)

/-- The cotangent of the row, added to the cotangent that comes around the product. -/
def DXat (ct : FVec Ideal S8192x5632 .bf16) (w : FVec Ideal S1024x5632 .bf16) (x : FVec Ideal S8192x1024 .f32)
    (g : FVec Ideal S1024 .f32) (dres : FVec Ideal S8192x1024 .f32) (r : Fin 8192) (l : Fin 1024) : EReal :=
  dres (ix2 r l) + (Ideal.rsqrt (ms x r) * (dh ct w r l * g (ix1 l))
    - x (ix2 r l) * (Ideal.rsqrt (ms x r) * Ideal.rsqrt (ms x r) * Ideal.rsqrt (ms x r))
      * Ideal.div (∑ k : Fin 1024, x (ix2 r k) * (dh ct w r k * g (ix1 k))) (Ideal.ofBits .f32 0x44800000#32))

/-- The rows' cotangent. -/
def DX (ct : FVec Ideal S8192x5632 .bf16) (w : FVec Ideal S1024x5632 .bf16) (x : FVec Ideal S8192x1024 .f32)
    (g : FVec Ideal S1024 .f32) (dres : FVec Ideal S8192x1024 .f32) : FVec Ideal S8192x1024 .f32 :=
  fun i => DXat ct w x g dres (i 0) (i 1)

/-- The gain's cotangent: over all rows, the normalised row times its cotangent. -/
def DG (ct : FVec Ideal S8192x5632 .bf16) (w : FVec Ideal S1024x5632 .bf16) (x : FVec Ideal S8192x1024 .f32) :
    FVec Ideal S1x1024 .f32 :=
  fun i => ∑ r : Fin 8192, dh ct w r (i 1) * (x (ix2 r (i 1)) * Ideal.rsqrt (ms x r))

theorem ms_pos (x : FVec Ideal S8192x1024 .f32) (r : Fin 8192) : 0 < ms x r :=
  Norm.pos _ (Finset.sum_nonneg fun k _ => Norm.sq_nonneg _)

theorem v8_apply (x : FVec Ideal S8192x1024 .f32) (r : Fin 8192) (l : Fin 1) :
    val_main_v8 (F := Ideal) x (ix2 r l) = ms x r := by
  simp only [val_main_v8, val_main_v7, val_main_v6, val_main_v5, val_main_v4, val_main_v3, val_main_v2,
    val_main_cst, val_main_cst_0, val_main_cst_1, ms]
  pointwise

theorem v9_apply (x : FVec Ideal S8192x1024 .f32) (r : Fin 8192) (l : Fin 1) :
    val_main_v9 (F := Ideal) x (ix2 r l) = Ideal.rsqrt (ms x r) := by
  simp only [val_main_v9]
  pointwise
  rw [v8_apply]

theorem v12_apply (x : FVec Ideal S8192x1024 .f32) (r : Fin 8192) (l : Fin 1) :
    val_main_v12 (F := Ideal) x (ix2 r l)
      = Ideal.ofBits .f32 0xBF000000#32 * Ideal.div (Ideal.rsqrt (ms x r)) (ms x r) := by
  simp only [val_main_v12, val_main_v11, val_main_v10, val_main_cst_2]
  pointwise
  rw [v8_apply, v9_apply]

theorem v19_apply (ct : FVec Ideal S8192x5632 .bf16) (w : FVec Ideal S1024x5632 .bf16) (r : Fin 8192) (l : Fin 1024) :
    val_main_v19 (F := Ideal) ct w (ix2 r l) = dh ct w r l := by
  simp only [val_main_v19, val_main_v1, val_main_v0, dh]
  pointwise

theorem v24_apply (ct : FVec Ideal S8192x5632 .bf16) (w : FVec Ideal S1024x5632 .bf16) (g : FVec Ideal S1024 .f32)
    (r : Fin 8192) (l : Fin 1024) :
    val_main_v24 (F := Ideal) ct w g (ix2 r l) = dh ct w r l * g (ix1 l) := by
  simp only [val_main_v24, val_main_v23, val_main_v15]
  pointwise
  rw [v19_apply]

theorem v36_apply (ct : FVec Ideal S8192x5632 .bf16) (w : FVec Ideal S1024x5632 .bf16) (x : FVec Ideal S8192x1024 .f32)
    (g : FVec Ideal S1024 .f32) (r : Fin 8192) (l : Fin 1024) :
    val_main_v36 (F := Ideal) ct w x g (ix2 r l)
      = Ideal.div ((∑ k : Fin 1024, x (ix2 r k) * (dh ct w r k * g (ix1 k)))
          * (Ideal.ofBits .f32 0xBF000000#32 * Ideal.div (Ideal.rsqrt (ms x r)) (ms x r)))
          (Ideal.ofBits .f32 0x44800000#32) := by
  simp only [val_main_v36, val_main_v35, val_main_v34, val_main_v33, val_main_v32, val_main_v28, val_main_v27,
    val_main_v26, val_main_cst_5, val_main_cst_6, val_main_cst_7]
  pointwise
  rw [Fin.sum_univ_one, v12_apply]
  simp only [v24_apply]

/-- The reference's rows' cotangent. -/
theorem dx_eq (ct : FVec Ideal S8192x5632 .bf16) (w : FVec Ideal S1024x5632 .bf16) (x : FVec Ideal S8192x1024 .f32)
    (g : FVec Ideal S1024 .f32) (dres : FVec Ideal S8192x1024 .f32) :
    val_main_v40 (F := Ideal) ct w x g dres = DX ct w x g dres := by
  funext i
  idx_vars i
  show _ = DXat ct w x g dres i0 i1
  rw [DXat, Norm.grad _ _ _ _ _ (ms_pos x i0)]
  simp only [val_main_v40, val_main_v39, val_main_v38, val_main_v37, val_main_v31, val_main_v30, val_main_v29]
  pointwise
  rw [v36_apply, v9_apply, v24_apply]

/-- The reference's gain's cotangent. -/
theorem dg_eq (ct : FVec Ideal S8192x5632 .bf16) (w : FVec Ideal S1024x5632 .bf16) (x : FVec Ideal S8192x1024 .f32) :
    val_main_v41 (F := Ideal) ct w x = DG ct w x := by
  funext i
  idx_vars i
  simp only [val_main_v41, val_main_v25, val_main_v22, val_main_v21, val_main_v20, val_main_v14, val_main_v13,
    val_main_cst_3, val_main_cst_4, DG]
  pointwise
  rw [Fin.sum_univ_one]
  refine Finset.sum_congr rfl fun r _ => ?_
  rw [v9_apply, v19_apply, mul_comm]

end Cert.UpRefIdeal.Value
-- ==== Proof.UpValue.lean ====
module

public import proofs.«01_k».proof.Proof.UpPure
public import proofs.«01_k».proof.Proof.Gen.UpIdeal.Value
public import Idealize.ShloMosaic.Lib.Pipeline.ValueKit

/-!
What the kernel of the normalised product's gradient leaves in its two results: the formulas of `UpPure`.
-/

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen
open Cert.UpRefIdeal.Value (DX DG DXat dh ms)

variable (m : (ℓ : Loc nD τ sig) → Buf (Elt Ideal) ℓ)

/-- Each window's block index at grid point `t`. -/
theorem idx : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- There are 32 grid points. -/
theorem lt (t : Fin cfg0.N) : t.val < 32 := lt_of_lt_of_eq t.isLt N_0

/-- The product of a block. -/
theorem pay2_apply (a : FVec Ideal S256x5632 .bf16) (w : FVec Ideal S1024x5632 .bf16) (r : Fin 256) (l : Fin 1024) :
    k0_pay2 (F := Ideal) a w (ix2 r l) = ∑ k : Fin 5632, a (ix2 r k) * w (ix2 l k) := by
  pointwise [k0_pay2]

/-- The reciprocal root of a block's row. -/
theorem pay3_apply (x : FVec Ideal S256x1024 .f32) (r : Fin 256) (l : Fin 1) :
    k0_pay3 (F := Ideal) x (ix2 r l)
      = Ideal.rsqrt (Ideal.div (∑ k : Fin 1024, x (ix2 r k) * x (ix2 r k)) (Ideal.ofBits .f32 0x44800000#32)
          + Ideal.ofBits .f32 0x358637BD#32) := by
  pointwise [k0_pay3]

/-- The rows' cotangent, block by block. -/
theorem point5 (c : Dev nD) (t : Fin cfg0.N) (y) :
    k0_pay5 (iblk m c 0 t) (iblk m c 1 t) (iblk m c 2 t) (iblk m c 3 t) (iblk m c 4 t) y
      = DX (m ((c : Thread nD τ).loc main_arg0)) (m ((c : Thread nD τ).loc main_arg1))
        (m ((c : Thread nD τ).loc main_arg2)) (m ((c : Thread nD τ).loc main_arg3))
        (m ((c : Thread nD τ).loc main_arg4)) (((cfg0.win 5).blk t).view.emb y) := by
  pointwise [k0_pay5, k0_pay2, k0_pay3, DX, DXat, dh, ms]
  blk_point [iblk, V, idx t]

/-- The rows' cotangent. -/
theorem final5 (c : Dev nD) : (dats m 0 c).arrAt 5 (cfgs 0).N
    = DX (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp
  rw [after0_5]
  by_cases h : t.val = 0
  · rw [outsAt0_A m c t (by omega) (by omega)]
    frame_out
    exact point5 m c t y
  · rw [outsAt0_B m c t (by have := lt t; omega) (by omega)]
    frame_out
    exact point5 m c t y

/-- One row block's part of the gain's cotangent. -/
theorem part (a : FVec Ideal S256x5632 .bf16) (w : FVec Ideal S1024x5632 .bf16) (x : FVec Ideal S256x1024 .f32) (j) :
    k0_pay4 (F := Ideal) a w x j
      = ∑ r : Fin 256, (∑ k : Fin 5632, a (ix2 r k) * w (ix2 (j 1) k)) * (x (ix2 r (j 1))
          * Ideal.rsqrt (Ideal.div (∑ k : Fin 1024, x (ix2 r k) * x (ix2 r k)) (Ideal.ofBits .f32 0x44800000#32)
            + Ideal.ofBits .f32 0x358637BD#32)) := by
  pointwise [k0_pay4, k0_pay2, k0_pay3]

/-- A later block adds its part. -/
theorem step (p acc : FVec Ideal S1x1024 .f32) (j) : k0_pay1 (F := Ideal) p acc j = acc j + p j := by
  pointwise [k0_pay1]

/-- The gain's cotangent: the row blocks' parts add up to the sum over all rows. -/
theorem final6 (c : Dev nD) : (dats m 0 c).arrAt 6 (cfgs 0).N
    = DG (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => 0) _
    (fun t h j => by
      rw [outsAt0_A m c t h (by have := lt t; omega)]; frame_out; rw [part, ← zero_add (Finset.sum _ _)])
    (fun t h j => by rw [outsAt0_B m c t h (by omega)]; frame_out; rw [step, part])
    t ((flush0_6 t).mp hf) _, zero_add]
  pointwise [DG, dh, ms]
  refine Fin.sum_mul_add_congr fun s k hl => ?_
  blk_point [iblk, V, idx t, idx ⟨_, Pipeline.run_point_lt_of_flush t ((flush0_6 t).mp hf) s⟩]

end Cert.UpIdeal.Value
-- ==== Proof.UpClaim.lean ====
module

public import proofs.«01_k».proof.Defs
public import proofs.«01_k».proof.Proof.UpValue
public import proofs.«01_k».proof.Proof.Gen.UpRefIdeal.Run
public import Idealize.ShloMosaic.Lib.Claim

/-!
The normalised product's gradient call and its reference leave equal results.
-/

@[expose] public section

set_option maxRecDepth 16384

noncomputable section

open Idealize.ShloMosaic Idealize.SL.Sem

namespace Cert.Proof

/-- The gradient of the normalised product: kernel and reference agree. -/
theorem algebraic_up : Cert.algebraic_UpIdeal_UpRefIdeal := by
  pair_intro
  · run_from Cert.UpIdeal.Gen.run_main m g
  · run_from Cert.UpRefIdeal.Value.run m' g'
    · rw [Cert.UpIdeal.Value.final5 m c, ← (hagree c).1, ← (hagree c).2.1, ← (hagree c).2.2.1,
        ← (hagree c).2.2.2.1, ← (hagree c).2.2.2.2]
      exact Cert.UpRefIdeal.Value.dx_eq _ _ _ _ _
    · rw [Cert.UpIdeal.Value.final6 m c]
      exact Cert.UpRefIdeal.Value.dg_eq _ _ _

end Cert.Proof

end
-- ==== Proof.InBwdPure.lean ====
module

public import proofs.«01_k».proof.Proof.NormScalar
public import proofs.«01_k».proof.Proof.Gen.InBwdRefIdeal.Read
public import Idealize.ShloMosaic.Lib.Pointwise

/-!
The gradients of the normalised product as formulas on the five argument arrays, and the reference's
arrays read as these formulas.
-/

@[expose] public section

set_option maxRecDepth 16384

noncomputable section

open Idealize.ShloMosaic Idealize.ShloMosaic.TcCoe Idealize.SL.Sem

namespace Cert.InBwdRefIdeal.Value
open Cert.InBwdRefIdeal Cert.InBwdRefIdeal.Read Cert.Consts

/-- The radicand of row `r`: its mean square and the small addend. -/
def ms (x : FVec Ideal S8192x1024 .f32) (r : Fin 8192) : EReal :=
  Ideal.div (∑ k : Fin 1024, x (ix2 r k) * x (ix2 r k)) (Ideal.ofBits .f32 0x44800000#32)
    + Ideal.ofBits .f32 0x358637BD#32

/-- The cotangent of the normalised row: the product's cotangent times the transposed weight. -/
def dh (ct : FVec Ideal S8192x4608 .bf16) (w : FVec Ideal S1024x4608 .bf16) (r : Fin 8192) (l : Fin 1024) : EReal :=
  ∑ k : Fin 4608, ct (ix2 r k) * w (ix2 l k)

/-- The cotangent of the row, added to the cotangent that comes around the product. -/
def DXat (ct : FVec Ideal S8192x4608 .bf16) (w : FVec Ideal S1024x4608 .bf16) (x : FVec Ideal S8192x1024 .f32)
    (g : FVec Ideal S1024 .f32) (dres : FVec Ideal S8192x1024 .f32) (r : Fin 8192) (l : Fin 1024) : EReal :=
  dres (ix2 r l) + (Ideal.rsqrt (ms x r) * (dh ct w r l * g (ix1 l))
    - x (ix2 r l) * (Ideal.rsqrt (ms x r) * Ideal.rsqrt (ms x r) * Ideal.rsqrt (ms x r))
      * Ideal.div (∑ k : Fin 1024, x (ix2 r k) * (dh ct w r k * g (ix1 k))) (Ideal.ofBits .f32 0x44800000#32))

/-- The rows' cotangent. -/
def DX (ct : FVec Ideal S8192x4608 .bf16) (w : FVec Ideal S1024x4608 .bf16) (x : FVec Ideal S8192x1024 .f32)
    (g : FVec Ideal S1024 .f32) (dres : FVec Ideal S8192x1024 .f32) : FVec Ideal S8192x1024 .f32 :=
  fun i => DXat ct w x g dres (i 0) (i 1)

/-- The gain's cotangent: over all rows, the normalised row times its cotangent. -/
def DG (ct : FVec Ideal S8192x4608 .bf16) (w : FVec Ideal S1024x4608 .bf16) (x : FVec Ideal S8192x1024 .f32) :
    FVec Ideal S1x1024 .f32 :=
  fun i => ∑ r : Fin 8192, dh ct w r (i 1) * (x (ix2 r (i 1)) * Ideal.rsqrt (ms x r))

theorem ms_pos (x : FVec Ideal S8192x1024 .f32) (r : Fin 8192) : 0 < ms x r :=
  Norm.pos _ (Finset.sum_nonneg fun k _ => Norm.sq_nonneg _)

theorem v8_apply (x : FVec Ideal S8192x1024 .f32) (r : Fin 8192) (l : Fin 1) :
    val_main_v8 (F := Ideal) x (ix2 r l) = ms x r := by
  simp only [val_main_v8, val_main_v7, val_main_v6, val_main_v5, val_main_v4, val_main_v3, val_main_v2,
    val_main_cst, val_main_cst_0, val_main_cst_1, ms]
  pointwise

theorem v9_apply (x : FVec Ideal S8192x1024 .f32) (r : Fin 8192) (l : Fin 1) :
    val_main_v9 (F := Ideal) x (ix2 r l) = Ideal.rsqrt (ms x r) := by
  simp only [val_main_v9]
  pointwise
  rw [v8_apply]

theorem v12_apply (x : FVec Ideal S8192x1024 .f32) (r : Fin 8192) (l : Fin 1) :
    val_main_v12 (F := Ideal) x (ix2 r l)
      = Ideal.ofBits .f32 0xBF000000#32 * Ideal.div (Ideal.rsqrt (ms x r)) (ms x r) := by
  simp only [val_main_v12, val_main_v11, val_main_v10, val_main_cst_2]
  pointwise
  rw [v8_apply, v9_apply]

theorem v19_apply (ct : FVec Ideal S8192x4608 .bf16) (w : FVec Ideal S1024x4608 .bf16) (r : Fin 8192) (l : Fin 1024) :
    val_main_v19 (F := Ideal) ct w (ix2 r l) = dh ct w r l := by
  simp only [val_main_v19, val_main_v1, val_main_v0, dh]
  pointwise

theorem v24_apply (ct : FVec Ideal S8192x4608 .bf16) (w : FVec Ideal S1024x4608 .bf16) (g : FVec Ideal S1024 .f32)
    (r : Fin 8192) (l : Fin 1024) :
    val_main_v24 (F := Ideal) ct w g (ix2 r l) = dh ct w r l * g (ix1 l) := by
  simp only [val_main_v24, val_main_v23, val_main_v15]
  pointwise
  rw [v19_apply]

theorem v36_apply (ct : FVec Ideal S8192x4608 .bf16) (w : FVec Ideal S1024x4608 .bf16) (x : FVec Ideal S8192x1024 .f32)
    (g : FVec Ideal S1024 .f32) (r : Fin 8192) (l : Fin 1024) :
    val_main_v36 (F := Ideal) ct w x g (ix2 r l)
      = Ideal.div ((∑ k : Fin 1024, x (ix2 r k) * (dh ct w r k * g (ix1 k)))
          * (Ideal.ofBits .f32 0xBF000000#32 * Ideal.div (Ideal.rsqrt (ms x r)) (ms x r)))
          (Ideal.ofBits .f32 0x44800000#32) := by
  simp only [val_main_v36, val_main_v35, val_main_v34, val_main_v33, val_main_v32, val_main_v28, val_main_v27,
    val_main_v26, val_main_cst_5, val_main_cst_6, val_main_cst_7]
  pointwise
  rw [Fin.sum_univ_one, v12_apply]
  simp only [v24_apply]

/-- The reference's rows' cotangent. -/
theorem dx_eq (ct : FVec Ideal S8192x4608 .bf16) (w : FVec Ideal S1024x4608 .bf16) (x : FVec Ideal S8192x1024 .f32)
    (g : FVec Ideal S1024 .f32) (dres : FVec Ideal S8192x1024 .f32) :
    val_main_v40 (F := Ideal) ct w x g dres = DX ct w x g dres := by
  funext i
  idx_vars i
  show _ = DXat ct w x g dres i0 i1
  rw [DXat, Norm.grad _ _ _ _ _ (ms_pos x i0)]
  simp only [val_main_v40, val_main_v39, val_main_v38, val_main_v37, val_main_v31, val_main_v30, val_main_v29]
  pointwise
  rw [v36_apply, v9_apply, v24_apply]

/-- The reference's gain's cotangent. -/
theorem dg_eq (ct : FVec Ideal S8192x4608 .bf16) (w : FVec Ideal S1024x4608 .bf16) (x : FVec Ideal S8192x1024 .f32) :
    val_main_v41 (F := Ideal) ct w x = DG ct w x := by
  funext i
  idx_vars i
  simp only [val_main_v41, val_main_v25, val_main_v22, val_main_v21, val_main_v20, val_main_v14, val_main_v13,
    val_main_cst_3, val_main_cst_4, DG]
  pointwise
  rw [Fin.sum_univ_one]
  refine Finset.sum_congr rfl fun r _ => ?_
  rw [v9_apply, v19_apply, mul_comm]

end Cert.InBwdRefIdeal.Value
-- ==== Proof.InBwdValue.lean ====
module

public import proofs.«01_k».proof.Proof.InBwdPure
public import proofs.«01_k».proof.Proof.Gen.InBwdIdeal.Value
public import Idealize.ShloMosaic.Lib.Pipeline.ValueKit

/-!
What the kernel of the normalised product's gradient leaves in its two results: the formulas of `InBwdPure`.
-/

@[expose] public section

set_option maxRecDepth 16384

noncomputable section

open Idealize.ShloMosaic Idealize.ShloMosaic.TcCoe Idealize.SL.Sem
open Idealize.ShloMosaic.Pipeline (Dat)

namespace Cert.InBwdIdeal.Value

open Cert.InBwdIdeal Cert.InBwdIdeal.Gen
open Cert.InBwdRefIdeal.Value (DX DG DXat dh ms)

variable (m : (ℓ : Loc nD τ sig) → Buf (Elt Ideal) ℓ)

/-- Each window's block index at grid point `t`. -/
theorem idx : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- There are 16 grid points. -/
theorem lt (t : Fin cfg0.N) : t.val < 16 := lt_of_lt_of_eq t.isLt N_0

/-- The product of a block. -/
theorem pay2_apply (a : FVec Ideal S512x4608 .bf16) (w : FVec Ideal S1024x4608 .bf16) (r : Fin 512) (l : Fin 1024) :
    k0_pay2 (F := Ideal) a w (ix2 r l) = ∑ k : Fin 4608, a (ix2 r k) * w (ix2 l k) := by
  pointwise [k0_pay2]

/-- The reciprocal root of a block's row. -/
theorem pay3_apply (x : FVec Ideal S512x1024 .f32) (r : Fin 512) (l : Fin 1) :
    k0_pay3 (F := Ideal) x (ix2 r l)
      = Ideal.rsqrt (Ideal.div (∑ k : Fin 1024, x (ix2 r k) * x (ix2 r k)) (Ideal.ofBits .f32 0x44800000#32)
          + Ideal.ofBits .f32 0x358637BD#32) := by
  pointwise [k0_pay3]

/-- The rows' cotangent, block by block. -/
theorem point5 (c : Dev nD) (t : Fin cfg0.N) (y) :
    k0_pay5 (iblk m c 0 t) (iblk m c 1 t) (iblk m c 2 t) (iblk m c 3 t) (iblk m c 4 t) y
      = DX (m ((c : Thread nD τ).loc main_arg0)) (m ((c : Thread nD τ).loc main_arg1))
        (m ((c : Thread nD τ).loc main_arg2)) (m ((c : Thread nD τ).loc main_arg3))
        (m ((c : Thread nD τ).loc main_arg4)) (((cfg0.win 5).blk t).view.emb y) := by
  pointwise [k0_pay5, k0_pay2, k0_pay3, DX, DXat, dh, ms]
  blk_point [iblk, V, idx t]

/-- The rows' cotangent. -/
theorem final5 (c : Dev nD) : (dats m 0 c).arrAt 5 (cfgs 0).N
    = DX (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp
  rw [after0_5]
  by_cases h : t.val = 0
  · rw [outsAt0_A m c t (by omega) (by omega)]
    frame_out
    exact point5 m c t y
  · rw [outsAt0_B m c t (by have := lt t; omega) (by omega)]
    frame_out
    exact point5 m c t y

/-- One row block's part of the gain's cotangent. -/
theorem part (a : FVec Ideal S512x4608 .bf16) (w : FVec Ideal S1024x4608 .bf16) (x : FVec Ideal S512x1024 .f32) (j) :
    k0_pay4 (F := Ideal) a w x j
      = ∑ r : Fin 512, (∑ k : Fin 4608, a (ix2 r k) * w (ix2 (j 1) k)) * (x (ix2 r (j 1))
          * Ideal.rsqrt (Ideal.div (∑ k : Fin 1024, x (ix2 r k) * x (ix2 r k)) (Ideal.ofBits .f32 0x44800000#32)
            + Ideal.ofBits .f32 0x358637BD#32)) := by
  pointwise [k0_pay4, k0_pay2, k0_pay3]

/-- A later block adds its part. -/
theorem step (p acc : FVec Ideal S1x1024 .f32) (j) : k0_pay1 (F := Ideal) p acc j = acc j + p j := by
  pointwise [k0_pay1]

/-- The gain's cotangent: the row blocks' parts add up to the sum over all rows. -/
theorem final6 (c : Dev nD) : (dats m 0 c).arrAt 6 (cfgs 0).N
    = DG (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2) 16 (fun _ => 0) _
    (fun t h j => by
      rw [outsAt0_A m c t h (by have := lt t; omega)]; frame_out; rw [part, ← zero_add (Finset.sum _ _)])
    (fun t h j => by rw [outsAt0_B m c t h (by omega)]; frame_out; rw [step, part])
    t ((flush0_6 t).mp hf) _, zero_add]
  pointwise [DG, dh, ms]
  refine Fin.sum_mul_add_congr fun s k hl => ?_
  blk_point [iblk, V, idx t, idx ⟨_, Pipeline.run_point_lt_of_flush t ((flush0_6 t).mp hf) s⟩]

end Cert.InBwdIdeal.Value
-- ==== Proof.InBwdClaim.lean ====
module

public import proofs.«01_k».proof.Defs
public import proofs.«01_k».proof.Proof.InBwdValue
public import proofs.«01_k».proof.Proof.Gen.InBwdRefIdeal.Run
public import Idealize.ShloMosaic.Lib.Claim

/-!
The normalised product's gradient call and its reference leave equal results.
-/

@[expose] public section

set_option maxRecDepth 16384

noncomputable section

open Idealize.ShloMosaic Idealize.SL.Sem

namespace Cert.Proof

/-- The gradient of the normalised product: kernel and reference agree. -/
theorem algebraic_in_bwd : Cert.algebraic_InBwdIdeal_InBwdRefIdeal := by
  pair_intro
  · run_from Cert.InBwdIdeal.Gen.run_main m g
  · run_from Cert.InBwdRefIdeal.Value.run m' g'
    · rw [Cert.InBwdIdeal.Value.final5 m c, ← (hagree c).1, ← (hagree c).2.1, ← (hagree c).2.2.1,
        ← (hagree c).2.2.2.1, ← (hagree c).2.2.2.2]
      exact Cert.InBwdRefIdeal.Value.dx_eq _ _ _ _ _
    · rw [Cert.InBwdIdeal.Value.final6 m c]
      exact Cert.InBwdRefIdeal.Value.dg_eq _ _ _

end Cert.Proof

end
-- ==== Proof.DownBwd.lean ====
module

public import proofs.«01_k».proof.Defs
public import proofs.«01_k».proof.Proof.Gen.DownBwdIdeal.Value
public import proofs.«01_k».proof.Proof.Gen.DownBwdRefIdeal.Run
public import proofs.«01_k».proof.Proof.Gen.DownBwdRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`DownBwd`, the gradient of the feed-forward's second product in its input: one sum of products per element.
-/

@[expose] public section

set_option maxRecDepth 16384

noncomputable section

open Idealize.ShloMosaic Idealize.ShloMosaic.TcCoe Idealize.SL.Sem
open Idealize.ShloMosaic.Pipeline (Dat)

namespace Cert.DownBwdRefIdeal.Value
open Cert.DownBwdRefIdeal Cert.DownBwdRefIdeal.Read

/-- The product, element by element. -/
def Out (a : FVec Ideal S8192x1024 .f32) (b : FVec Ideal S2816x1024 .bf16) : FVec Ideal S8192x2816 .f32 :=
  fun i => ∑ k : Fin 1024, a (ix2 (i 0) k) * b (ix2 (i 1) k)

/-- The reference computes it. -/
theorem out_eq (a : FVec Ideal S8192x1024 .f32) (b : FVec Ideal S2816x1024 .bf16) : val_main_v3 (F := Ideal) a b = Out a b := by
  funext i
  idx_vars i
  simp only [val_main_v3, val_main_v0, Out]
  pointwise

end Cert.DownBwdRefIdeal.Value

namespace Cert.DownBwdIdeal.Value
open Cert.DownBwdIdeal Cert.DownBwdIdeal.Gen
open Cert.DownBwdRefIdeal.Value (Out)

variable (m : (ℓ : Loc nD τ sig) → Buf (Elt Ideal) ℓ)

/-- Each window's block at grid point `t`. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem lt (t : Fin cfg0.N) : t.val < 16 := lt_of_lt_of_eq t.isLt N_0

/-- A block of the product. -/
theorem point (c : Dev nD) (t : Fin cfg0.N) (y) :
    k0_pay1 (iblk m c 0 t) (iblk m c 1 t) y
      = Out (m ((c : Thread nD τ).loc main_arg0)) (m ((c : Thread nD τ).loc main_arg1))
        (((cfg0.win 2).blk t).view.emb y) := by
  pointwise [k0_pay1, Out]
  blk_point [iblk, V, idx t]

/-- The product. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.DownBwdIdeal.Value

namespace Cert.Proof

/-- Kernel and reference leave equal products. -/
theorem algebraic_DownBwd : Cert.algebraic_DownBwdIdeal_DownBwdRefIdeal := by
  pair_intro
  · run_from Cert.DownBwdIdeal.Gen.run_main m g
  · run_from Cert.DownBwdRefIdeal.Value.run m' g'
    rw [Cert.DownBwdIdeal.Value.final m c]
    exact Cert.DownBwdRefIdeal.Value.out_eq _ _

/-- The reference runs to an end and leaves its arguments alone. -/
theorem frame_DownBwd_ref : Cert.quiescent_DownBwdRefIdeal := fun m ρ _ =>
  (θ_run Cert.DownBwdRefIdeal.defs _ _).mono
    (fun r h => ⟨fun c => (h c).2, sem_eq_zero_of_no_sems (by decide) r.2⟩)
    (Cert.DownBwdRefIdeal.Value.run (F := Ideal) m ρ)

end Cert.Proof

end
-- ==== Proof.OutBwd.lean ====
module

public import proofs.«01_k».proof.Defs
public import proofs.«01_k».proof.Proof.Gen.OutBwdIdeal.Value
public import proofs.«01_k».proof.Proof.Gen.OutBwdRefIdeal.Run
public import proofs.«01_k».proof.Proof.Gen.OutBwdRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`OutBwd`, the gradient of the output product in its input: one sum of products per element.
-/

@[expose] public section

set_option maxRecDepth 16384

noncomputable section

open Idealize.ShloMosaic Idealize.ShloMosaic.TcCoe Idealize.SL.Sem
open Idealize.ShloMosaic.Pipeline (Dat)

namespace Cert.OutBwdRefIdeal.Value
open Cert.OutBwdRefIdeal Cert.OutBwdRefIdeal.Read

/-- The product, element by element. -/
def Out (a : FVec Ideal S8192x1024 .f32) (b : FVec Ideal S1024x1024 .bf16) : FVec Ideal S8192x1024 .f32 :=
  fun i => ∑ k : Fin 1024, a (ix2 (i 0) k) * b (ix2 (i 1) k)

/-- The reference computes it. -/
theorem out_eq (a : FVec Ideal S8192x1024 .f32) (b : FVec Ideal S1024x1024 .bf16) : val_main_v3 (F := Ideal) a b = Out a b := by
  funext i
  idx_vars i
  simp only [val_main_v3, val_main_v0, Out]
  pointwise

end Cert.OutBwdRefIdeal.Value

namespace Cert.OutBwdIdeal.Value
open Cert.OutBwdIdeal Cert.OutBwdIdeal.Gen
open Cert.OutBwdRefIdeal.Value (Out)

variable (m : (ℓ : Loc nD τ sig) → Buf (Elt Ideal) ℓ)

/-- Each window's block at grid point `t`. -/
theorem idx : ∀ t : Fin cfg0.N, win0_0.index t = ![t.val, 0] ∧ win0_1.index t = ![0, 0]
    ∧ win0_2.index t = ![t.val, 0] :=
  (by decide +kernel : ∀ t : Fin grid0.N, _)

theorem lt (t : Fin cfg0.N) : t.val < 4 := lt_of_lt_of_eq t.isLt N_0

/-- A block of the product. -/
theorem point (c : Dev nD) (t : Fin cfg0.N) (y) :
    k0_pay1 (iblk m c 0 t) (iblk m c 1 t) y
      = Out (m ((c : Thread nD τ).loc main_arg0)) (m ((c : Thread nD τ).loc main_arg1))
        (((cfg0.win 2).blk t).view.emb y) := by
  pointwise [k0_pay1, Out]
  blk_point [iblk, V, idx t]

/-- The product. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.OutBwdIdeal.Value

namespace Cert.Proof

/-- Kernel and reference leave equal products. -/
theorem algebraic_OutBwd : Cert.algebraic_OutBwdIdeal_OutBwdRefIdeal := by
  pair_intro
  · run_from Cert.OutBwdIdeal.Gen.run_main m g
  · run_from Cert.OutBwdRefIdeal.Value.run m' g'
    rw [Cert.OutBwdIdeal.Value.final m c]
    exact Cert.OutBwdRefIdeal.Value.out_eq _ _

/-- The reference runs to an end and leaves its arguments alone. -/
theorem frame_OutBwd_ref : Cert.quiescent_OutBwdRefIdeal := fun m ρ _ =>
  (θ_run Cert.OutBwdRefIdeal.defs _ _).mono
    (fun r h => ⟨fun c => (h c).2, sem_eq_zero_of_no_sems (by decide) r.2⟩)
    (Cert.OutBwdRefIdeal.Value.run (F := Ideal) m ρ)

end Cert.Proof

end
-- ==== Proof.DownW.lean ====
module

public import proofs.«01_k».proof.Defs
public import proofs.«01_k».proof.Proof.Gen.DownWIdeal.Value
public import proofs.«01_k».proof.Proof.Gen.DownWRefIdeal.Run
public import proofs.«01_k».proof.Proof.Gen.DownWRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`DownW`, the gradient of the feed-forward's second product in its weight: one sum of products per element.
-/

@[expose] public section

set_option maxRecDepth 16384

noncomputable section

open Idealize.ShloMosaic Idealize.ShloMosaic.TcCoe Idealize.SL.Sem
open Idealize.ShloMosaic.Pipeline (Dat)

namespace Cert.DownWRefIdeal.Value
open Cert.DownWRefIdeal Cert.DownWRefIdeal.Read

/-- The product, element by element. -/
def Out (a : FVec Ideal S8192x2816 .bf16) (b : FVec Ideal S8192x1024 .f32) : FVec Ideal S2816x1024 .bf16 :=
  fun i => ∑ k : Fin 8192, a (ix2 k (i 0)) * b (ix2 k (i 1))

/-- The reference computes it. -/
theorem out_eq (a : FVec Ideal S8192x2816 .bf16) (b : FVec Ideal S8192x1024 .f32) : val_main_v5 (F := Ideal) a b = Out a b := by
  funext i
  idx_vars i
  simp only [val_main_v0, val_main_v3, val_main_v4, val_main_v5, Out]
  pointwise
  exact Finset.sum_congr rfl fun _ _ => mul_comm _ _

end Cert.DownWRefIdeal.Value

namespace Cert.DownWIdeal.Value
open Cert.DownWIdeal Cert.DownWIdeal.Gen
open Cert.DownWRefIdeal.Value (Out)

variable (m : (ℓ : Loc nD τ sig) → Buf (Elt Ideal) ℓ)

/-- Each window's block at grid point `t`. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem lt (t : Fin cfg0.N) : t.val < 8 := lt_of_lt_of_eq t.isLt N_0

/-- The accumulator starts from zero. -/
theorem start (j) : k0_pay1 (F := Ideal) j = 0 := by
  pointwise [k0_pay1]

/-- A block of rows' part. -/
def part (a : FVec Ideal S2048x1408 .bf16) (b : FVec Ideal S2048x1024 .f32) (j : S1408x1024.Idx) : EReal :=
  ∑ k : Fin 2048, a (ix2 k (j 0)) * b (ix2 k (j 1))

/-- A block of rows adds its part. -/
theorem step (acc : FVec Ideal S1408x1024 .f32) (a : FVec Ideal S2048x1408 .bf16) (b : FVec Ideal S2048x1024 .f32) (j) :
    k0_pay2 (F := Ideal) acc a b j = acc j + part a b j := by
  pointwise [k0_pay2, part]

/-- The last block's sum is what is stored. -/
theorem last (acc : FVec Ideal S1408x1024 .f32) (j) : k0_pay3 (F := Ideal) acc j = acc j := by
  pointwise [k0_pay3]

/-- What the accumulator holds after the last block of rows. -/
theorem acc_last (c : Dev nD) (t : Fin cfg0.N) (h : t.val % 4 = 4 - 1) (j) :
    (outsAt0 m c t.val t.isLt).2 j = ∑ s : Fin 4,
      part (iblk m c 0 ⟨4 * (t.val / 4) + s.val, Pipeline.run_point_lt_of_flush t h s⟩)
        (iblk m c 1 ⟨4 * (t.val / 4) + s.val, Pipeline.run_point_lt_of_flush t h s⟩) j := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega)]; frame_out; rw [step, start])
    (fun t h j => by
      by_cases h' : t.val % 4 = 3
      · rw [outsAt0_C m c t h h']; frame_out; rw [step, read_unread_whole]
      · rw [outsAt0_B m c t h h']; frame_out; rw [step, read_unread_whole])
    t h j, zero_add]

/-- The product: the row blocks' parts add up. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  have e : (outsAt0 m c t.val t.isLt).1 y = (outsAt0 m c t.val t.isLt).2 y := by
    rw [outsAt0_C m c t (by omega) (by omega)]
    frame_out
    rw [last]
  rw [e, acc_last m c t h]
  pointwise [part, Out]
  refine Fin.sum_mul_add_congr fun s k hl => ?_
  blk_point [iblk, V, idx t, idx ⟨_, Pipeline.run_point_lt_of_flush t h s⟩]

end Cert.DownWIdeal.Value

namespace Cert.Proof

/-- Kernel and reference leave equal products. -/
theorem algebraic_DownW : Cert.algebraic_DownWIdeal_DownWRefIdeal := by
  pair_intro
  · run_from Cert.DownWIdeal.Gen.run_main m g
  · run_from Cert.DownWRefIdeal.Value.run m' g'
    rw [Cert.DownWIdeal.Value.final m c]
    exact Cert.DownWRefIdeal.Value.out_eq _ _

/-- The reference runs to an end and leaves its arguments alone. -/
theorem frame_DownW_ref : Cert.quiescent_DownWRefIdeal := fun m ρ _ =>
  (θ_run Cert.DownWRefIdeal.defs _ _).mono
    (fun r h => ⟨fun c => (h c).2, sem_eq_zero_of_no_sems (by decide) r.2⟩)
    (Cert.DownWRefIdeal.Value.run (F := Ideal) m ρ)

end Cert.Proof

end
-- ==== Proof.UpW.lean ====
module

public import proofs.«01_k».proof.Defs
public import proofs.«01_k».proof.Proof.Gen.UpWIdeal.Value
public import proofs.«01_k».proof.Proof.Gen.UpWRefIdeal.Run
public import proofs.«01_k».proof.Proof.Gen.UpWRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`UpW`, the gradient of the feed-forward's first product in its weight: one sum of products per element.
-/

@[expose] public section

set_option maxRecDepth 16384

noncomputable section

open Idealize.ShloMosaic Idealize.ShloMosaic.TcCoe Idealize.SL.Sem
open Idealize.ShloMosaic.Pipeline (Dat)

namespace Cert.UpWRefIdeal.Value
open Cert.UpWRefIdeal Cert.UpWRefIdeal.Read

/-- The product, element by element. -/
def Out (a : FVec Ideal S8192x1024 .bf16) (b : FVec Ideal S8192x5632 .bf16) : FVec Ideal S1024x5632 .bf16 :=
  fun i => ∑ k : Fin 8192, a (ix2 k (i 0)) * b (ix2 k (i 1))

/-- The reference computes it. -/
theorem out_eq (a : FVec Ideal S8192x1024 .bf16) (b : FVec Ideal S8192x5632 .bf16) : val_main_v6 (F := Ideal) a b = Out a b := by
  funext i
  idx_vars i
  simp only [val_main_v0, val_main_v3, val_main_v4, val_main_v5, val_main_v6, Out]
  pointwise
  exact Finset.sum_congr rfl fun _ _ => mul_comm _ _

end Cert.UpWRefIdeal.Value

namespace Cert.UpWIdeal.Value
open Cert.UpWIdeal Cert.UpWIdeal.Gen
open Cert.UpWRefIdeal.Value (Out)

variable (m : (ℓ : Loc nD τ sig) → Buf (Elt Ideal) ℓ)

/-- Each window's block at grid point `t`. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

theorem lt (t : Fin cfg0.N) : t.val < 16 := lt_of_lt_of_eq t.isLt N_0

/-- The accumulator starts from zero. -/
theorem start (j) : k0_pay1 (F := Ideal) j = 0 := by
  pointwise [k0_pay1]

/-- A block of rows' part. -/
def part (a : FVec Ideal S2048x1024 .bf16) (b : FVec Ideal S2048x1408 .bf16) (j : S1024x1408.Idx) : EReal :=
  ∑ k : Fin 2048, a (ix2 k (j 0)) * b (ix2 k (j 1))

/-- A block of rows adds its part. -/
theorem step (acc : FVec Ideal S1024x1408 .f32) (a : FVec Ideal S2048x1024 .bf16) (b : FVec Ideal S2048x1408 .bf16) (j) :
    k0_pay2 (F := Ideal) acc a b j = acc j + part a b j := by
  pointwise [k0_pay2, part]

/-- The last block's sum is what is stored. -/
theorem last (acc : FVec Ideal S1024x1408 .f32) (j) : k0_pay3 (F := Ideal) acc j = acc j := by
  pointwise [k0_pay3]

/-- What the accumulator holds after the last block of rows. -/
theorem acc_last (c : Dev nD) (t : Fin cfg0.N) (h : t.val % 4 = 4 - 1) (j) :
    (outsAt0 m c t.val t.isLt).2 j = ∑ s : Fin 4,
      part (iblk m c 0 ⟨4 * (t.val / 4) + s.val, Pipeline.run_point_lt_of_flush t h s⟩)
        (iblk m c 1 ⟨4 * (t.val / 4) + s.val, Pipeline.run_point_lt_of_flush t h s⟩) j := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega)]; frame_out; rw [step, start])
    (fun t h j => by
      by_cases h' : t.val % 4 = 3
      · rw [outsAt0_C m c t h h']; frame_out; rw [step, read_unread_whole]
      · rw [outsAt0_B m c t h h']; frame_out; rw [step, read_unread_whole])
    t h j, zero_add]

/-- The product: the row blocks' parts add up. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  have e : (outsAt0 m c t.val t.isLt).1 y = (outsAt0 m c t.val t.isLt).2 y := by
    rw [outsAt0_C m c t (by omega) (by omega)]
    frame_out
    rw [last]
  rw [e, acc_last m c t h]
  pointwise [part, Out]
  refine Fin.sum_mul_add_congr fun s k hl => ?_
  blk_point [iblk, V, idx t, idx ⟨_, Pipeline.run_point_lt_of_flush t h s⟩]

end Cert.UpWIdeal.Value

namespace Cert.Proof

/-- Kernel and reference leave equal products. -/
theorem algebraic_UpW : Cert.algebraic_UpWIdeal_UpWRefIdeal := by
  pair_intro
  · run_from Cert.UpWIdeal.Gen.run_main m g
  · run_from Cert.UpWRefIdeal.Value.run m' g'
    rw [Cert.UpWIdeal.Value.final m c]
    exact Cert.UpWRefIdeal.Value.out_eq _ _

/-- The reference runs to an end and leaves its arguments alone. -/
theorem frame_UpW_ref : Cert.quiescent_UpWRefIdeal := fun m ρ _ =>
  (θ_run Cert.UpWRefIdeal.defs _ _).mono
    (fun r h => ⟨fun c => (h c).2, sem_eq_zero_of_no_sems (by decide) r.2⟩)
    (Cert.UpWRefIdeal.Value.run (F := Ideal) m ρ)

end Cert.Proof

end
-- ==== Proof.OutW.lean ====
module

public import proofs.«01_k».proof.Defs
public import proofs.«01_k».proof.Proof.Gen.OutWIdeal.Value
public import proofs.«01_k».proof.Proof.Gen.OutWRefIdeal.Run
public import proofs.«01_k».proof.Proof.Gen.OutWRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`OutW`, the gradient of the output product in its weight: one sum of products per element.
-/

@[expose] public section

set_option maxRecDepth 16384

noncomputable section

open Idealize.ShloMosaic Idealize.ShloMosaic.TcCoe Idealize.SL.Sem
open Idealize.ShloMosaic.Pipeline (Dat)

namespace Cert.OutWRefIdeal.Value
open Cert.OutWRefIdeal Cert.OutWRefIdeal.Read

/-- The product, element by element. -/
def Out (a : FVec Ideal S8192x1024 .bf16) (b : FVec Ideal S8192x1024 .f32) : FVec Ideal S1024x1024 .bf16 :=
  fun i => ∑ k : Fin 8192, a (ix2 k (i 0)) * b (ix2 k (i 1))

/-- The reference computes it. -/
theorem out_eq (a : FVec Ideal S8192x1024 .bf16) (b : FVec Ideal S8192x1024 .f32) : val_main_v5 (F := Ideal) a b = Out a b := by
  funext i
  idx_vars i
  simp only [val_main_v0, val_main_v3, val_main_v4, val_main_v5, Out]
  pointwise
  exact Finset.sum_congr rfl fun _ _ => mul_comm _ _

end Cert.OutWRefIdeal.Value

namespace Cert.OutWIdeal.Value
open Cert.OutWIdeal Cert.OutWIdeal.Gen
open Cert.OutWRefIdeal.Value (Out)

variable (m : (ℓ : Loc nD τ sig) → Buf (Elt Ideal) ℓ)

/-- Each window's block at grid point `t`. -/
theorem idx : ∀ t : Fin cfg0.N, win0_0.index t = ![t.val, 0] ∧ win0_1.index t = ![t.val, 0]
    ∧ win0_2.index t = ![0, 0] :=
  (by decide +kernel : ∀ t : Fin grid0.N, _)

theorem lt (t : Fin cfg0.N) : t.val < 4 := lt_of_lt_of_eq t.isLt N_0

/-- The accumulator starts from zero. -/
theorem start (j) : k0_pay1 (F := Ideal) j = 0 := by
  pointwise [k0_pay1]

/-- A block of rows' part. -/
def part (a : FVec Ideal S2048x1024 .bf16) (b : FVec Ideal S2048x1024 .f32) (j : S1024x1024.Idx) : EReal :=
  ∑ k : Fin 2048, a (ix2 k (j 0)) * b (ix2 k (j 1))

/-- A block of rows adds its part. -/
theorem step (acc : FVec Ideal S1024x1024 .f32) (a : FVec Ideal S2048x1024 .bf16) (b : FVec Ideal S2048x1024 .f32) (j) :
    k0_pay2 (F := Ideal) acc a b j = acc j + part a b j := by
  pointwise [k0_pay2, part]

/-- The last block's sum is what is stored. -/
theorem last (acc : FVec Ideal S1024x1024 .f32) (j) : k0_pay3 (F := Ideal) acc j = acc j := by
  pointwise [k0_pay3]

/-- What the accumulator holds after the last block of rows. -/
theorem acc_last (c : Dev nD) (t : Fin cfg0.N) (h : t.val % 4 = 4 - 1) (j) :
    (outsAt0 m c t.val t.isLt).2 j = ∑ s : Fin 4,
      part (iblk m c 0 ⟨4 * (t.val / 4) + s.val, Pipeline.run_point_lt_of_flush t h s⟩)
        (iblk m c 1 ⟨4 * (t.val / 4) + s.val, Pipeline.run_point_lt_of_flush t h s⟩) j := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega)]; frame_out; rw [step, start])
    (fun t h j => by
      by_cases h' : t.val % 4 = 3
      · rw [outsAt0_C m c t h h']; frame_out; rw [step, read_unread_whole]
      · rw [outsAt0_B m c t h h']; frame_out; rw [step, read_unread_whole])
    t h j, zero_add]

/-- The product: the row blocks' parts add up. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  have e : (outsAt0 m c t.val t.isLt).1 y = (outsAt0 m c t.val t.isLt).2 y := by
    rw [outsAt0_C m c t (by omega) (by omega)]
    frame_out
    rw [last]
  rw [e, acc_last m c t h]
  pointwise [part, Out]
  refine Fin.sum_mul_add_congr fun s k hl => ?_
  blk_point [iblk, V, idx t, idx ⟨_, Pipeline.run_point_lt_of_flush t h s⟩]

end Cert.OutWIdeal.Value

namespace Cert.Proof

/-- Kernel and reference leave equal products. -/
theorem algebraic_OutW : Cert.algebraic_OutWIdeal_OutWRefIdeal := by
  pair_intro
  · run_from Cert.OutWIdeal.Gen.run_main m g
  · run_from Cert.OutWRefIdeal.Value.run m' g'
    rw [Cert.OutWIdeal.Value.final m c]
    exact Cert.OutWRefIdeal.Value.out_eq _ _

/-- The reference runs to an end and leaves its arguments alone. -/
theorem frame_OutW_ref : Cert.quiescent_OutWRefIdeal := fun m ρ _ =>
  (θ_run Cert.OutWRefIdeal.defs _ _).mono
    (fun r h => ⟨fun c => (h c).2, sem_eq_zero_of_no_sems (by decide) r.2⟩)
    (Cert.OutWRefIdeal.Value.run (F := Ideal) m ρ)

end Cert.Proof

end
-- ==== Proof.NarrowW.lean ====
module

public import proofs.«01_k».proof.Defs
public import proofs.«01_k».proof.Proof.Gen.NarrowWIdeal.Value
public import proofs.«01_k».proof.Proof.Gen.NarrowWRefIdeal.Run
public import proofs.«01_k».proof.Proof.Gen.NarrowWRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`NarrowW`, the gradient of the first or third branch's product in its weight: one sum of products per element.
-/

@[expose] public section

set_option maxRecDepth 16384

noncomputable section

open Idealize.ShloMosaic Idealize.ShloMosaic.TcCoe Idealize.SL.Sem
open Idealize.ShloMosaic.Pipeline (Dat)

namespace Cert.NarrowWRefIdeal.Value
open Cert.NarrowWRefIdeal Cert.NarrowWRefIdeal.Read

/-- The product, element by element. -/
def Out (a : FVec Ideal S8192x256 .bf16) (b : FVec Ideal S8192x1024 .bf16) : FVec Ideal S256x1024 .bf16 :=
  fun i => ∑ k : Fin 8192, a (ix2 k (i 0)) * b (ix2 k (i 1))

/-- The reference computes it. -/
theorem out_eq (a : FVec Ideal S8192x256 .bf16) (b : FVec Ideal S8192x1024 .bf16) : val_main_v6 (F := Ideal) a b = Out a b := by
  funext i
  idx_vars i
  simp only [val_main_v0, val_main_v3, val_main_v4, val_main_v5, val_main_v6, Out]
  pointwise
  exact Finset.sum_congr rfl fun _ _ => mul_comm _ _

end Cert.NarrowWRefIdeal.Value

namespace Cert.NarrowWIdeal.Value
open Cert.NarrowWIdeal Cert.NarrowWIdeal.Gen
open Cert.NarrowWRefIdeal.Value (Out)

variable (m : (ℓ : Loc nD τ sig) → Buf (Elt Ideal) ℓ)

/-- Each window's block at grid point `t`. -/
theorem idx : ∀ t : Fin cfg0.N, win0_0.index t = ![0, t.val] ∧ win0_1.index t = ![0, 0]
    ∧ win0_2.index t = ![t.val, 0] :=
  (by decide +kernel : ∀ t : Fin grid0.N, _)

theorem lt (t : Fin cfg0.N) : t.val < 2 := lt_of_lt_of_eq t.isLt N_0

/-- A block of the product. -/
theorem point (c : Dev nD) (t : Fin cfg0.N) (y) :
    k0_pay1 (iblk m c 0 t) (iblk m c 1 t) y
      = Out (m ((c : Thread nD τ).loc main_arg0)) (m ((c : Thread nD τ).loc main_arg1))
        (((cfg0.win 2).blk t).view.emb y) := by
  pointwise [k0_pay1, Out]
  blk_point [iblk, V, idx t]

/-- The product. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.NarrowWIdeal.Value

namespace Cert.Proof

/-- Kernel and reference leave equal products. -/
theorem algebraic_NarrowW : Cert.algebraic_NarrowWIdeal_NarrowWRefIdeal := by
  pair_intro
  · run_from Cert.NarrowWIdeal.Gen.run_main m g
  · run_from Cert.NarrowWRefIdeal.Value.run m' g'
    rw [Cert.NarrowWIdeal.Value.final m c]
    exact Cert.NarrowWRefIdeal.Value.out_eq _ _

/-- The reference runs to an end and leaves its arguments alone. -/
theorem frame_NarrowW_ref : Cert.quiescent_NarrowWRefIdeal := fun m ρ _ =>
  (θ_run Cert.NarrowWRefIdeal.defs _ _).mono
    (fun r h => ⟨fun c => (h c).2, sem_eq_zero_of_no_sems (by decide) r.2⟩)
    (Cert.NarrowWRefIdeal.Value.run (F := Ideal) m ρ)

end Cert.Proof

end
-- ==== Proof.MiddleW.lean ====
module

public import proofs.«01_k».proof.Defs
public import proofs.«01_k».proof.Proof.Gen.MiddleWIdeal.Value
public import proofs.«01_k».proof.Proof.Gen.MiddleWRefIdeal.Run
public import proofs.«01_k».proof.Proof.Gen.MiddleWRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`MiddleW`, the gradient of the second branch's product in its weight: one sum of products per element.
-/

@[expose] public section

set_option maxRecDepth 16384

noncomputable section

open Idealize.ShloMosaic Idealize.ShloMosaic.TcCoe Idealize.SL.Sem
open Idealize.ShloMosaic.Pipeline (Dat)

namespace Cert.MiddleWRefIdeal.Value
open Cert.MiddleWRefIdeal Cert.MiddleWRefIdeal.Read

/-- The product, element by element. -/
def Out (a : FVec Ideal S8192x512 .bf16) (b : FVec Ideal S8192x1024 .bf16) : FVec Ideal S512x1024 .bf16 :=
  fun i => ∑ k : Fin 8192, a (ix2 k (i 0)) * b (ix2 k (i 1))

/-- The reference computes it. -/
theorem out_eq (a : FVec Ideal S8192x512 .bf16) (b : FVec Ideal S8192x1024 .bf16) : val_main_v6 (F := Ideal) a b = Out a b := by
  funext i
  idx_vars i
  simp only [val_main_v0, val_main_v3, val_main_v4, val_main_v5, val_main_v6, Out]
  pointwise
  exact Finset.sum_congr rfl fun _ _ => mul_comm _ _

end Cert.MiddleWRefIdeal.Value

namespace Cert.MiddleWIdeal.Value
open Cert.MiddleWIdeal Cert.MiddleWIdeal.Gen
open Cert.MiddleWRefIdeal.Value (Out)

variable (m : (ℓ : Loc nD τ sig) → Buf (Elt Ideal) ℓ)

/-- Each window's block at grid point `t`. -/
theorem idx : ∀ t : Fin cfg0.N, win0_0.index t = ![0, t.val] ∧ win0_1.index t = ![0, 0]
    ∧ win0_2.index t = ![t.val, 0] :=
  (by decide +kernel : ∀ t : Fin grid0.N, _)

theorem lt (t : Fin cfg0.N) : t.val < 4 := lt_of_lt_of_eq t.isLt N_0

/-- A block of the product. -/
theorem point (c : Dev nD) (t : Fin cfg0.N) (y) :
    k0_pay1 (iblk m c 0 t) (iblk m c 1 t) y
      = Out (m ((c : Thread nD τ).loc main_arg0)) (m ((c : Thread nD τ).loc main_arg1))
        (((cfg0.win 2).blk t).view.emb y) := by
  pointwise [k0_pay1, Out]
  blk_point [iblk, V, idx t]

/-- The product. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.MiddleWIdeal.Value

namespace Cert.Proof

/-- Kernel and reference leave equal products. -/
theorem algebraic_MiddleW : Cert.algebraic_MiddleWIdeal_MiddleWRefIdeal := by
  pair_intro
  · run_from Cert.MiddleWIdeal.Gen.run_main m g
  · run_from Cert.MiddleWRefIdeal.Value.run m' g'
    rw [Cert.MiddleWIdeal.Value.final m c]
    exact Cert.MiddleWRefIdeal.Value.out_eq _ _

/-- The reference runs to an end and leaves its arguments alone. -/
theorem frame_MiddleW_ref : Cert.quiescent_MiddleWRefIdeal := fun m ρ _ =>
  (θ_run Cert.MiddleWRefIdeal.defs _ _).mono
    (fun r h => ⟨fun c => (h c).2, sem_eq_zero_of_no_sems (by decide) r.2⟩)
    (Cert.MiddleWRefIdeal.Value.run (F := Ideal) m ρ)

end Cert.Proof

end
-- ==== Proof.InW.lean ====
module

public import proofs.«01_k».proof.Defs
public import proofs.«01_k».proof.Proof.Gen.InWIdeal.Value
public import proofs.«01_k».proof.Proof.Gen.InWRefIdeal.Run
public import proofs.«01_k».proof.Proof.Gen.InWRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`InW`, the gradient of the input product in its weight: one sum of products per element.
-/

@[expose] public section

set_option maxRecDepth 16384

noncomputable section

open Idealize.ShloMosaic Idealize.ShloMosaic.TcCoe Idealize.SL.Sem
open Idealize.ShloMosaic.Pipeline (Dat)

namespace Cert.InWRefIdeal.Value
open Cert.InWRefIdeal Cert.InWRefIdeal.Read

/-- The product, element by element. -/
def Out (a : FVec Ideal S8192x1024 .bf16) (b : FVec Ideal S8192x4608 .bf16) : FVec Ideal S1024x4608 .bf16 :=
  fun i => ∑ k : Fin 8192, a (ix2 k (i 0)) * b (ix2 k (i 1))

/-- The reference computes it. -/
theorem out_eq (a : FVec Ideal S8192x1024 .bf16) (b : FVec Ideal S8192x4608 .bf16) : val_main_v6 (F := Ideal) a b = Out a b := by
  funext i
  idx_vars i
  simp only [val_main_v0, val_main_v3, val_main_v4, val_main_v5, val_main_v6, Out]
  pointwise
  exact Finset.sum_congr rfl fun _ _ => mul_comm _ _

end Cert.InWRefIdeal.Value

namespace Cert.InWIdeal.Value
open Cert.InWIdeal Cert.InWIdeal.Gen
open Cert.InWRefIdeal.Value (Out)

variable (m : (ℓ : Loc nD τ sig) → Buf (Elt Ideal) ℓ)

/-- Each window's block at grid point `t`. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

theorem lt (t : Fin cfg0.N) : t.val < 16 := lt_of_lt_of_eq t.isLt N_0

/-- The accumulator starts from zero. -/
theorem start (j) : k0_pay1 (F := Ideal) j = 0 := by
  pointwise [k0_pay1]

/-- A block of rows' part. -/
def part (a : FVec Ideal S2048x1024 .bf16) (b : FVec Ideal S2048x1152 .bf16) (j : S1024x1152.Idx) : EReal :=
  ∑ k : Fin 2048, a (ix2 k (j 0)) * b (ix2 k (j 1))

/-- A block of rows adds its part. -/
theorem step (acc : FVec Ideal S1024x1152 .f32) (a : FVec Ideal S2048x1024 .bf16) (b : FVec Ideal S2048x1152 .bf16) (j) :
    k0_pay2 (F := Ideal) acc a b j = acc j + part a b j := by
  pointwise [k0_pay2, part]

/-- The last block's sum is what is stored. -/
theorem last (acc : FVec Ideal S1024x1152 .f32) (j) : k0_pay3 (F := Ideal) acc j = acc j := by
  pointwise [k0_pay3]

/-- What the accumulator holds after the last block of rows. -/
theorem acc_last (c : Dev nD) (t : Fin cfg0.N) (h : t.val % 4 = 4 - 1) (j) :
    (outsAt0 m c t.val t.isLt).2 j = ∑ s : Fin 4,
      part (iblk m c 0 ⟨4 * (t.val / 4) + s.val, Pipeline.run_point_lt_of_flush t h s⟩)
        (iblk m c 1 ⟨4 * (t.val / 4) + s.val, Pipeline.run_point_lt_of_flush t h s⟩) j := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega)]; frame_out; rw [step, start])
    (fun t h j => by
      by_cases h' : t.val % 4 = 3
      · rw [outsAt0_C m c t h h']; frame_out; rw [step, read_unread_whole]
      · rw [outsAt0_B m c t h h']; frame_out; rw [step, read_unread_whole])
    t h j, zero_add]

/-- The product: the row blocks' parts add up. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  have e : (outsAt0 m c t.val t.isLt).1 y = (outsAt0 m c t.val t.isLt).2 y := by
    rw [outsAt0_C m c t (by omega) (by omega)]
    frame_out
    rw [last]
  rw [e, acc_last m c t h]
  pointwise [part, Out]
  refine Fin.sum_mul_add_congr fun s k hl => ?_
  blk_point [iblk, V, idx t, idx ⟨_, Pipeline.run_point_lt_of_flush t h s⟩]

end Cert.InWIdeal.Value

namespace Cert.Proof

/-- Kernel and reference leave equal products. -/
theorem algebraic_InW : Cert.algebraic_InWIdeal_InWRefIdeal := by
  pair_intro
  · run_from Cert.InWIdeal.Gen.run_main m g
  · run_from Cert.InWRefIdeal.Value.run m' g'
    rw [Cert.InWIdeal.Value.final m c]
    exact Cert.InWRefIdeal.Value.out_eq _ _

/-- The reference runs to an end and leaves its arguments alone. -/
theorem frame_InW_ref : Cert.quiescent_InWRefIdeal := fun m ρ _ =>
  (θ_run Cert.InWRefIdeal.defs _ _).mono
    (fun r h => ⟨fun c => (h c).2, sem_eq_zero_of_no_sems (by decide) r.2⟩)
    (Cert.InWRefIdeal.Value.run (F := Ideal) m ρ)

end Cert.Proof

end
-- ==== Proof.InProj.lean ====
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`InProj`, the input product: one sum of products per element.
-/

@[expose] public section

set_option maxRecDepth 16384

noncomputable section

open Idealize.ShloMosaic Idealize.ShloMosaic.TcCoe Idealize.SL.Sem
open Idealize.ShloMosaic.Pipeline (Dat)

namespace Cert.InProjRefIdeal.Value
open Cert.InProjRefIdeal Cert.InProjRefIdeal.Read

/-- The product, element by element. -/
def Out (a : FVec Ideal S8192x1024 .bf16) (b : FVec Ideal S1024x4608 .bf16) : FVec Ideal S8192x4608 .f32 :=
  fun i => ∑ k : Fin 1024, a (ix2 (i 0) k) * b (ix2 k (i 1))

/-- The reference computes it. -/
theorem out_eq (a : FVec Ideal S8192x1024 .bf16) (b : FVec Ideal S1024x4608 .bf16) : val_main_v2 (F := Ideal) a b = Out a b := by
  funext i
  idx_vars i
  simp only [val_main_v0, val_main_v1, val_main_v2, Out]
  pointwise

end Cert.InProjRefIdeal.Value

namespace Cert.InProjIdeal.Value
open Cert.InProjIdeal Cert.InProjIdeal.Gen
open Cert.InProjRefIdeal.Value (Out)

variable (m : (ℓ : Loc nD τ sig) → Buf (Elt Ideal) ℓ)

/-- Each window's block at grid point `t`. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

theorem lt (t : Fin cfg0.N) : t.val < 16 := lt_of_lt_of_eq t.isLt N_0

/-- A block of the product. -/
theorem point (c : Dev nD) (t : Fin cfg0.N) (y) :
    k0_pay1 (iblk m c 0 t) (iblk m c 1 t) y
      = Out (m ((c : Thread nD τ).loc main_arg0)) (m ((c : Thread nD τ).loc main_arg1))
        (((cfg0.win 2).blk t).view.emb y) := by
  pointwise [k0_pay1, Out]
  blk_point [iblk, V, idx t]

/-- The product. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.InProjIdeal.Value

namespace Cert.Proof

/-- Kernel and reference leave equal products. -/
theorem algebraic_InProj : Cert.algebraic_InProjIdeal_InProjRefIdeal := by
  pair_intro
  · run_from Cert.InProjIdeal.Gen.run_main m g
  · run_from Cert.InProjRefIdeal.Value.run m' g'
    rw [Cert.InProjIdeal.Value.final m c]
    exact Cert.InProjRefIdeal.Value.out_eq _ _

/-- The reference runs to an end and leaves its arguments alone. -/
theorem frame_InProj_ref : Cert.quiescent_InProjRefIdeal := fun m ρ _ =>
  (θ_run Cert.InProjRefIdeal.defs _ _).mono
    (fun r h => ⟨fun c => (h c).2, sem_eq_zero_of_no_sems (by decide) r.2⟩)
    (Cert.InProjRefIdeal.Value.run (F := Ideal) m ρ)

end Cert.Proof

end
-- ==== Proof.UpGate.lean ====
module

public import proofs.«01_k».proof.Defs
public import proofs.«01_k».proof.Proof.Gen.UpGateIdeal.Value
public import proofs.«01_k».proof.Proof.Gen.UpGateRefIdeal.Run
public import proofs.«01_k».proof.Proof.Gen.UpGateRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`UpGate`, the feed-forward's first product, its gate columns: one sum of products per element.
-/

@[expose] public section

set_option maxRecDepth 16384

noncomputable section

open Idealize.ShloMosaic Idealize.ShloMosaic.TcCoe Idealize.SL.Sem
open Idealize.ShloMosaic.Pipeline (Dat)

namespace Cert.UpGateRefIdeal.Value
open Cert.UpGateRefIdeal Cert.UpGateRefIdeal.Read

theorem col_lt (l : Fin 2816) : l.val < 5632 := by omega

/-- One element of the product. -/
def at_ (a : FVec Ideal S8192x1024 .bf16) (b : FVec Ideal S1024x5632 .bf16) (r : Fin 8192) (l : Fin 2816) : EReal :=
  ∑ k : Fin 1024, a (ix2 r k) * b (ix2 k ⟨l.val, col_lt l⟩)

/-- The product, in these columns of the weight. -/
def Out (a : FVec Ideal S8192x1024 .bf16) (b : FVec Ideal S1024x5632 .bf16) : FVec Ideal S8192x2816 .f32 := fun i => at_ a b (i 0) (i 1)

/-- The reference computes it. -/
theorem out_eq (a : FVec Ideal S8192x1024 .bf16) (b : FVec Ideal S1024x5632 .bf16) : val_main_v3 (F := Ideal) a b = Out a b := by
  funext i
  idx_vars i
  simp only [val_main_v0, val_main_v1, val_main_v2, val_main_v3, Out, at_]
  pointwise

end Cert.UpGateRefIdeal.Value

namespace Cert.UpGateIdeal.Value
open Cert.UpGateIdeal Cert.UpGateIdeal.Gen
open Cert.UpGateRefIdeal.Value (Out at_)

variable (m : (ℓ : Loc nD τ sig) → Buf (Elt Ideal) ℓ)

/-- Each window's block at grid point `t`. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem lt (t : Fin cfg0.N) : t.val < 8 := lt_of_lt_of_eq t.isLt N_0

/-- A block of the product. -/
theorem point (c : Dev nD) (t : Fin cfg0.N) (y) :
    k0_pay1 (iblk m c 0 t) (iblk m c 1 t) y
      = Out (m ((c : Thread nD τ).loc main_arg0)) (m ((c : Thread nD τ).loc main_arg1))
        (((cfg0.win 2).blk t).view.emb y) := by
  pointwise [k0_pay1, Out, at_]
  blk_point [iblk, V, idx t]

/-- The product. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.UpGateIdeal.Value

namespace Cert.Proof

/-- Kernel and reference leave equal products. -/
theorem algebraic_UpGate : Cert.algebraic_UpGateIdeal_UpGateRefIdeal := by
  pair_intro
  · run_from Cert.UpGateIdeal.Gen.run_main m g
  · run_from Cert.UpGateRefIdeal.Value.run m' g'
    rw [Cert.UpGateIdeal.Value.final m c]
    exact Cert.UpGateRefIdeal.Value.out_eq _ _

/-- The reference runs to an end and leaves its arguments alone. -/
theorem frame_UpGate_ref : Cert.quiescent_UpGateRefIdeal := fun m ρ _ =>
  (θ_run Cert.UpGateRefIdeal.defs _ _).mono
    (fun r h => ⟨fun c => (h c).2, sem_eq_zero_of_no_sems (by decide) r.2⟩)
    (Cert.UpGateRefIdeal.Value.run (F := Ideal) m ρ)

end Cert.Proof

end
-- ==== Proof.UpVal.lean ====
module

public import proofs.«01_k».proof.Defs
public import proofs.«01_k».proof.Proof.Gen.UpValIdeal.Value
public import proofs.«01_k».proof.Proof.Gen.UpValRefIdeal.Run
public import proofs.«01_k».proof.Proof.Gen.UpValRefIdeal.Read
public import Idealize.ShloMosaic.Lib.Pipeline.ValueKit
public import Idealize.ShloMosaic.Lib.Claim
public import Idealize.ShloMosaic.Lib.Quiescent
public import Idealize.ShloMosaic.Lib.Pipeline.ReadBack

/-!
`UpVal`, the feed-forward's first product, its value columns: one sum of products per element.
-/

@[expose] public section

set_option maxRecDepth 16384

noncomputable section

open Idealize.ShloMosaic Idealize.ShloMosaic.TcCoe Idealize.SL.Sem
open Idealize.ShloMosaic.Pipeline (Dat)

namespace Cert.UpValRefIdeal.Value
open Cert.UpValRefIdeal Cert.UpValRefIdeal.Read

theorem col_lt (l : Fin 2816) : 2816 + l.val < 5632 := by omega

/-- One element of the product. -/
def at_ (a : FVec Ideal S8192x1024 .bf16) (b : FVec Ideal S1024x5632 .bf16) (r : Fin 8192) (l : Fin 2816) : EReal :=
  ∑ k : Fin 1024, a (ix2 r k) * b (ix2 k ⟨2816 + l.val, col_lt l⟩)

/-- The product, in these columns of the weight. -/
def Out (a : FVec Ideal S8192x1024 .bf16) (b : FVec Ideal S1024x5632 .bf16) : FVec Ideal S8192x2816 .f32 := fun i => at_ a b (i 0) (i 1)

/-- The reference computes it. -/
theorem out_eq (a : FVec Ideal S8192x1024 .bf16) (b : FVec Ideal S1024x5632 .bf16) : val_main_v3 (F := Ideal) a b = Out a b := by
  funext i
  idx_vars i
  simp only [val_main_v0, val_main_v1, val_main_v2, val_main_v3, Out, at_]
  pointwise

end Cert.UpValRefIdeal.Value

namespace Cert.UpValIdeal.Value
open Cert.UpValIdeal Cert.UpValIdeal.Gen
open Cert.UpValRefIdeal.Value (Out at_)

variable (m : (ℓ : Loc nD τ sig) → Buf (Elt Ideal) ℓ)

/-- Each window's block at grid point `t`. -/
theorem idx : ∀ t : Fin cfg0.N, win0_0.index t = ![t.val / 2, 0] ∧ win0_1.index t = ![0, 2 + t.val % 2]
    ∧ win0_2.index t = ![t.val / 2, t.val % 2] :=
  (by decide +kernel : ∀ t : Fin grid0.N, _)

theorem lt (t : Fin cfg0.N) : t.val < 8 := lt_of_lt_of_eq t.isLt N_0

/-- A block of the product. -/
theorem point (c : Dev nD) (t : Fin cfg0.N) (y) :
    k0_pay1 (iblk m c 0 t) (iblk m c 1 t) y
      = Out (m ((c : Thread nD τ).loc main_arg0)) (m ((c : Thread nD τ).loc main_arg1))
        (((cfg0.win 2).blk t).view.emb y) := by
  pointwise [k0_pay1, Out, at_]
  blk_point [iblk, V, idx t]

/-- The product. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.UpValIdeal.Value

namespace Cert.Proof

/-- Kernel and reference leave equal products. -/
theorem algebraic_UpVal : Cert.algebraic_UpValIdeal_UpValRefIdeal := by
  pair_intro
  · run_from Cert.UpValIdeal.Gen.run_main m g
  · run_from Cert.UpValRefIdeal.Value.run m' g'
    rw [Cert.UpValIdeal.Value.final m c]
    exact Cert.UpValRefIdeal.Value.out_eq _ _

/-- The reference runs to an end and leaves its arguments alone. -/
theorem frame_UpVal_ref : Cert.quiescent_UpValRefIdeal := fun m ρ _ =>
  (θ_run Cert.UpValRefIdeal.defs _ _).mono
    (fun r h => ⟨fun c => (h c).2, sem_eq_zero_of_no_sems (by decide) r.2⟩)
    (Cert.UpValRefIdeal.Value.run (F := Ideal) m ρ)

end Cert.Proof

end
-- ==== Proof.BranchAPure.lean ====
module

public import proofs.«01_k».proof.Proof.Gen.BranchAIdeal.Skeleton
public import proofs.«01_k».proof.Proof.Gen.BranchARefIdeal.Read
public import Idealize.ShloMosaic.Lib.Pointwise

/-!
The gated branch's gradients as formulas on the five argument arrays, and the reference's arrays read as
these formulas.
-/

@[expose] public section

set_option maxRecDepth 16384

noncomputable section

open Idealize.ShloMosaic Idealize.ShloMosaic.TcCoe Idealize.SL.Sem

namespace Cert.BranchAIdeal.Value
open Cert.BranchAIdeal

/-- The sigmoid gate of row `r`, column `l` of the branch. -/
def gate (z : FVec Ideal S8192x4608 .f32) (r : Fin 8192) (l : Fin 1024) : EReal :=
  Ideal.logistic (z (ix2 r ⟨1536 + l, by omega⟩))

/-- The cotangent of the branch's product. -/
def DY (z : FVec Ideal S8192x4608 .f32) (d : FVec Ideal S8192x1024 .f32) : FVec Ideal S8192x1024 .bf16 :=
  fun i => d i * gate z (i 0) (i 1)

/-- The cotangent of the branch's input: the product's cotangent times the transposed weight. -/
def DX (w : FVec Ideal S256x1024 .bf16) (z : FVec Ideal S8192x4608 .f32) (d : FVec Ideal S8192x1024 .f32) :
    FVec Ideal S8192x256 .f32 :=
  fun i => ∑ k : Fin 1024, d (ix2 (i 0) k) * gate z (i 0) k * w (ix2 (i 1) k)

/-- The cotangent of one gate. -/
def dgate (x : FVec Ideal S8192x256 .bf16) (w : FVec Ideal S256x1024 .bf16) (z : FVec Ideal S8192x4608 .f32)
    (d : FVec Ideal S8192x1024 .f32) (r : Fin 8192) (l : Fin 1024) : EReal :=
  (d (ix2 r l) * ∑ k : Fin 256, x (ix2 r k) * w (ix2 k l)) * (gate z r l * (1 - gate z r l))

/-- The gates' cotangent at an index of the whole projection's cotangent (zero outside the branch's columns). -/
def DZ (x : FVec Ideal S8192x256 .bf16) (w : FVec Ideal S256x1024 .bf16) (z : FVec Ideal S8192x4608 .f32)
    (d : FVec Ideal S8192x1024 .f32) : FVec Ideal S8192x4608 .bf16 :=
  fun i => if h : (i 1 : ℕ) - 1536 < 1024 then dgate x w z d (i 0) ⟨(i 1 : ℕ) - 1536, h⟩ else 0

end Cert.BranchAIdeal.Value

namespace Cert.BranchARefIdeal.Value
open Cert.BranchARefIdeal Cert.BranchARefIdeal.Read Cert.BranchAIdeal.Value

/-- The reference's sigmoid is the gate. -/
theorem gate_apply (z : FVec Ideal S8192x4608 .f32) (r : Fin 8192) (l : Fin 1024) :
    val_main_v8 (F := Ideal) z (ix2 r l) = gate z r l := by
  simp only [val_main_v8, val_main_v7, val_main_v6, val_main_v5, val_main_v4, val_main_v3, val_main_v2,
    val_main_cst, val_main_cst_0]
  pointwise
  rfl

/-- The reference's second sigmoid is the same. -/
theorem gate2_apply (z : FVec Ideal S8192x4608 .f32) (r : Fin 8192) (l : Fin 1024) :
    val_main_v24 (F := Ideal) z (ix2 r l) = gate z r l := gate_apply z r l

/-- The reference's cotangent of the product. -/
theorem dy_eq (z : FVec Ideal S8192x4608 .f32) (d : FVec Ideal S8192x1024 .f32) :
    val_main_v28 (F := Ideal) z d = DY z d := by
  funext i
  idx_vars i
  simp only [val_main_v28, DY]
  pointwise [val_main_v26]
  rw [gate2_apply, mul_comm]

/-- The reference's cotangent of the branch's input. -/
theorem dx_eq (w : FVec Ideal S256x1024 .bf16) (z : FVec Ideal S8192x4608 .f32) (d : FVec Ideal S8192x1024 .f32) :
    val_main_v16 (F := Ideal) w z d = DX w z d := by
  funext i
  idx_vars i
  simp only [val_main_v16, val_main_v1, val_main_v14, DX]
  pointwise
  refine Finset.sum_congr rfl fun k _ => ?_
  rw [gate_apply, mul_comm (gate _ _ _)]

/-- The reference's cotangent of the gates. -/
theorem dz_eq (x : FVec Ideal S8192x256 .bf16) (w : FVec Ideal S256x1024 .bf16) (z : FVec Ideal S8192x4608 .f32)
    (d : FVec Ideal S8192x1024 .f32) :
    val_main_v27 (F := Ideal) x w z d = fun i => dgate x w z d (i 0) (i 1) := by
  funext i
  idx_vars i
  simp only [val_main_v27, val_main_v17, val_main_v15, val_main_v12,
    val_main_v11, val_main_v10, val_main_v9, val_main_cst_1, val_main_v0, val_main_v1, dgate]
  pointwise
  rw [gate_apply]

end Cert.BranchARefIdeal.Value
-- ==== Proof.BranchAValue.lean ====
module

public import proofs.«01_k».proof.Proof.BranchAPure
public import proofs.«01_k».proof.Proof.Gen.BranchAIdeal.Frame
public import Idealize.ShloMosaic.Lib.Pipeline.ValueKit

/-!
What the branch kernel leaves in its three results: the formulas of `BranchPure`.
-/

@[expose] public section

set_option maxRecDepth 16384

noncomputable section

open Idealize.ShloMosaic Idealize.ShloMosaic.TcCoe Idealize.SL.Sem
open Idealize.ShloMosaic.Pipeline (Dat)

namespace Cert.BranchAIdeal.Value

open Cert.BranchAIdeal Cert.BranchAIdeal.Gen

variable (m : (ℓ : Loc nD τ sig) → Buf (Elt Ideal) ℓ)

/-- Each window's block index at grid point `t`. -/
theorem idx : ∀ t : Fin cfg0.N, win0_0.index t = ![t.val / 2, 0] ∧ win0_1.index t = ![0, t.val % 2]
    ∧ win0_2.index t = ![t.val / 2, 3 + t.val % 2] ∧ win0_3.index t = ![t.val / 2, t.val % 2]
    ∧ win0_4.index t = ![t.val / 2, 3 + t.val % 2] ∧ win0_5.index t = ![t.val / 2, t.val % 2]
    ∧ win0_6.index t = ![t.val / 2, 0] :=
  (by decide +kernel : ∀ t : Fin grid0.N, _)

/-- The cotangent of the product, block by block. -/
theorem point5 (c : Dev nD) (t : Fin cfg0.N) (y) :
    k0_pay2 (iblk m c 2 t) (iblk m c 3 t) y
      = DY (m ((c : Thread nD τ).loc main_arg2)) (m ((c : Thread nD τ).loc main_arg3))
        (((cfg0.win 5).blk t).view.emb y) := by
  pointwise [k0_pay2, k0_pay1, DY, gate]
  blk_point [iblk, V, idx t]

/-- The cotangent of the product. -/
theorem final5 (c : Dev nD) : (dats m 0 c).arrAt 5 (cfgs 0).N
    = DY (m ((c : Thread nD τ).loc main_arg2)) (m ((c : Thread nD τ).loc main_arg3)) := by
  refine (dats m 0 c).arrAt_eq_of_covers 5 _ (by decide +kernel) fun t hf y => ?_
  blk_simp
  rw [after0_5]
  rcases (by omega : t.val % 2 = 0 ∨ t.val % 2 = 1) with h | h
  · rw [outsAt0_A m c t h (by omega)]
    frame_out
    exact point5 m c t y
  · rw [outsAt0_B m c t (by omega) (by omega)]
    frame_out
    exact point5 m c t y

/-- The gates' cotangent, block by block. -/
theorem point4 (c : Dev nD) (t : Fin cfg0.N) (y) :
    k0_pay3 (iblk m c 0 t) (iblk m c 1 t) (iblk m c 2 t) (iblk m c 3 t) y
      = DZ (m ((c : Thread nD τ).loc main_arg0)) (m ((c : Thread nD τ).loc main_arg1))
          (m ((c : Thread nD τ).loc main_arg2)) (m ((c : Thread nD τ).loc main_arg3))
          (((cfg0.win 4).blk t).view.emb y) := by
  have h : (((((cfg0.win 4).blk t).view.emb y) 1 : ℕ)) - 1536 < 1024 := by
    blk_simp [idx t]
    idx_bounds y
    omega
  rw [DZ, dif_pos h]
  pointwise [k0_pay3, k0_pay1, dgate, gate]
  blk_point [iblk, V, idx t]

/-- The gates' cotangent in the branch's columns, what the array held elsewhere. -/
theorem final4 (c : Dev nD) : (dats m 0 c).arrAt 4 (cfgs 0).N
    = fun i => if 1536 ≤ (i 1 : ℕ) ∧ (i 1 : ℕ) < 2560
        then DZ (m ((c : Thread nD τ).loc main_arg0)) (m ((c : Thread nD τ).loc main_arg1))
          (m ((c : Thread nD τ).loc main_arg2)) (m ((c : Thread nD τ).loc main_arg3)) i
        else V m c main_v0_0 i := by
  refine (dats m 0 c).arrAt_eq_of_coversWhere 4 _ (fun β => 3 ≤ β 1 ∧ β 1 < 5) (by decide +kernel) (fun t hf y => ?_)
    (fun j => by blk_simp [Pipeline.Window.cell_apply]; omega)
  blk_simp
  rw [after0_4]
  rcases (by omega : t.val % 2 = 0 ∨ t.val % 2 = 1) with h | h
  · rw [outsAt0_A m c t h (by omega)]
    frame_out
    exact point4 m c t y
  · rw [outsAt0_B m c t (by omega) (by omega)]
    frame_out
    exact point4 m c t y

/-- One column tile's part of the input's cotangent. -/
theorem part (g d : FVec Ideal S1024x512 .f32) (w : FVec Ideal S256x512 .bf16) (j) :
    k0_pay4 (F := Ideal) g d w j
      = ∑ k : Fin 512, d (ix2 (j 0) k) * Ideal.logistic (g (ix2 (j 0) k)) * w (ix2 (j 1) k) := by
  pointwise [k0_pay4, k0_pay2, k0_pay1]

/-- The second tile adds its part. -/
theorem step (acc : FVec Ideal S1024x256 .f32) (g d : FVec Ideal S1024x512 .f32) (w : FVec Ideal S256x512 .bf16) (j) :
    k0_pay5 (F := Ideal) g d w acc j
      = acc j + ∑ k : Fin 512, d (ix2 (j 0) k) * Ideal.logistic (g (ix2 (j 0) k)) * w (ix2 (j 1) k) := by
  pointwise [k0_pay5, k0_pay4, k0_pay2, k0_pay1]

/-- The input's cotangent: the two column tiles' parts add up to the whole contraction. -/
theorem final6 (c : Dev nD) : (dats m 0 c).arrAt 6 (cfgs 0).N
    = DX (m ((c : Thread nD τ).loc main_arg1)) (m ((c : Thread nD τ).loc main_arg2))
      (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 2 (fun _ => 0) _
    (fun t h j => by rw [outsAt0_A m c t h (by omega)]; frame_out; rw [part, ← zero_add (Finset.sum _ _)])
    (fun t h j => by rw [outsAt0_B m c t h (by omega)]; frame_out; rw [step])
    t ((flush0_6 t).mp hf) _, zero_add]
  pointwise [DX, gate]
  refine Fin.sum_mul_add_congr fun s k hl => ?_
  blk_point [iblk, V, idx t, idx ⟨_, Pipeline.run_point_lt_of_flush t ((flush0_6 t).mp hf) s⟩]

end Cert.BranchAIdeal.Value
-- ==== Proof.BranchAClaim.lean ====
module

public import proofs.«01_k».proof.Defs
public import proofs.«01_k».proof.Proof.BranchAValue
public import proofs.«01_k».proof.Proof.Gen.BranchARefIdeal.Run
public import Idealize.ShloMosaic.Lib.Claim

/-!
The branch's gradient call and its reference leave equal results.
-/

@[expose] public section

set_option maxRecDepth 16384

noncomputable section

open Idealize.ShloMosaic Idealize.SL.Sem

namespace Cert.BranchAIdeal.Value
open Cert.BranchAIdeal Cert.BranchAIdeal.Gen

/-- The slice after the call: the branch's columns of what the call left. -/
theorem tail (m : (ℓ : Loc nD τ sig) → Buf (Elt Ideal) ℓ) (c : Dev nD) :
    Pipeline.afterTail₀ cfgs (dats m) 0 (V0 m) [hostOps1] c main_v1
      = fun i => dgate (m (c.tc.loc main_arg0)) (m (c.tc.loc main_arg1)) (m (c.tc.loc main_arg2))
        (m (c.tc.loc main_arg3)) (i 0) (i 1) := by
  unfold Pipeline.afterTail₀
  simp only [List.flatten_cons, List.flatten_nil, List.append_nil, hostOps1]
  after_results
  erw [Pipeline.withArrays_arr _ (by decide) c (V0 m c) (fun w => (dats m 0 c).arrAt w (cfgs 0).N) 4]
  rw [final4 m c]
  funext i
  idx_vars i
  pointwise [DZ]
  exact if_pos (by omega)

end Cert.BranchAIdeal.Value

namespace Cert.Proof

/-- The branch's gradient: kernel and reference agree. -/
theorem algebraic_branch_a : Cert.algebraic_BranchAIdeal_BranchARefIdeal := by
  pair_intro
  · run_from Cert.BranchAIdeal.Gen.run_main m g
  · run_from Cert.BranchARefIdeal.Value.run m' g'
    · have e := Cert.BranchAIdeal.Value.tail m c
      refine Eq.trans ?_ e.symm
      exact Cert.BranchARefIdeal.Value.dz_eq _ _ _ _
    · rw [Cert.BranchAIdeal.Value.final5 m c]
      exact Cert.BranchARefIdeal.Value.dy_eq _ _
    · rw [Cert.BranchAIdeal.Value.final6 m c]
      exact Cert.BranchARefIdeal.Value.dx_eq _ _ _

end Cert.Proof

end
-- ==== Proof.BranchCPure.lean ====
module

public import proofs.«01_k».proof.Proof.Gen.BranchCIdeal.Skeleton
public import proofs.«01_k».proof.Proof.Gen.BranchCRefIdeal.Read
public import Idealize.ShloMosaic.Lib.Pointwise

/-!
The gated branch's gradients as formulas on the five argument arrays, and the reference's arrays read as
these formulas.
-/

@[expose] public section

set_option maxRecDepth 16384

noncomputable section

open Idealize.ShloMosaic Idealize.ShloMosaic.TcCoe Idealize.SL.Sem

namespace Cert.BranchCIdeal.Value
open Cert.BranchCIdeal

/-- The sigmoid gate of row `r`, column `l` of the branch. -/
def gate (z : FVec Ideal S8192x4608 .f32) (r : Fin 8192) (l : Fin 1024) : EReal :=
  Ideal.logistic (z (ix2 r ⟨3584 + l, by omega⟩))

/-- The cotangent of the branch's product. -/
def DY (z : FVec Ideal S8192x4608 .f32) (d : FVec Ideal S8192x1024 .f32) : FVec Ideal S8192x1024 .bf16 :=
  fun i => d i * gate z (i 0) (i 1)

/-- The cotangent of the branch's input: the product's cotangent times the transposed weight. -/
def DX (w : FVec Ideal S256x1024 .bf16) (z : FVec Ideal S8192x4608 .f32) (d : FVec Ideal S8192x1024 .f32) :
    FVec Ideal S8192x256 .f32 :=
  fun i => ∑ k : Fin 1024, d (ix2 (i 0) k) * gate z (i 0) k * w (ix2 (i 1) k)

/-- The cotangent of one gate. -/
def dgate (x : FVec Ideal S8192x256 .bf16) (w : FVec Ideal S256x1024 .bf16) (z : FVec Ideal S8192x4608 .f32)
    (d : FVec Ideal S8192x1024 .f32) (r : Fin 8192) (l : Fin 1024) : EReal :=
  (d (ix2 r l) * ∑ k : Fin 256, x (ix2 r k) * w (ix2 k l)) * (gate z r l * (1 - gate z r l))

/-- The gates' cotangent at an index of the whole projection's cotangent (zero outside the branch's columns). -/
def DZ (x : FVec Ideal S8192x256 .bf16) (w : FVec Ideal S256x1024 .bf16) (z : FVec Ideal S8192x4608 .f32)
    (d : FVec Ideal S8192x1024 .f32) : FVec Ideal S8192x4608 .bf16 :=
  fun i => if h : (i 1 : ℕ) - 3584 < 1024 then dgate x w z d (i 0) ⟨(i 1 : ℕ) - 3584, h⟩ else 0

end Cert.BranchCIdeal.Value

namespace Cert.BranchCRefIdeal.Value
open Cert.BranchCRefIdeal Cert.BranchCRefIdeal.Read Cert.BranchCIdeal.Value

/-- The reference's sigmoid is the gate. -/
theorem gate_apply (z : FVec Ideal S8192x4608 .f32) (r : Fin 8192) (l : Fin 1024) :
    val_main_v8 (F := Ideal) z (ix2 r l) = gate z r l := by
  simp only [val_main_v8, val_main_v7, val_main_v6, val_main_v5, val_main_v4, val_main_v3, val_main_v2,
    val_main_cst, val_main_cst_0]
  pointwise
  rfl

/-- The reference's second sigmoid is the same. -/
theorem gate2_apply (z : FVec Ideal S8192x4608 .f32) (r : Fin 8192) (l : Fin 1024) :
    val_main_v24 (F := Ideal) z (ix2 r l) = gate z r l := gate_apply z r l

/-- The reference's cotangent of the product. -/
theorem dy_eq (z : FVec Ideal S8192x4608 .f32) (d : FVec Ideal S8192x1024 .f32) :
    val_main_v30 (F := Ideal) z d = DY z d := by
  funext i
  idx_vars i
  simp only [val_main_v30, DY]
  pointwise [val_main_v26]
  rw [gate2_apply, mul_comm]

/-- The reference's cotangent of the branch's input. -/
theorem dx_eq (w : FVec Ideal S256x1024 .bf16) (z : FVec Ideal S8192x4608 .f32) (d : FVec Ideal S8192x1024 .f32) :
    val_main_v16 (F := Ideal) w z d = DX w z d := by
  funext i
  idx_vars i
  simp only [val_main_v16, val_main_v1, val_main_v14, DX]
  pointwise
  refine Finset.sum_congr rfl fun k _ => ?_
  rw [gate_apply, mul_comm (gate _ _ _)]

/-- The reference's cotangent of the projection: the gates' cotangent in the branch's columns, the array it was
    given elsewhere. -/
theorem dz_eq (x : FVec Ideal S8192x256 .bf16) (w : FVec Ideal S256x1024 .bf16) (z : FVec Ideal S8192x4608 .f32)
    (d : FVec Ideal S8192x1024 .f32) (dz : FVec Ideal S8192x4608 .bf16) :
    val_main_v29 (F := Ideal) x w z d dz
      = fun i => if 3584 ≤ (i 1 : ℕ) ∧ (i 1 : ℕ) < 4608 then DZ x w z d i else dz i := by
  funext i
  idx_vars i
  simp only [val_main_v29, val_main_v28, val_main_v27, val_main_v17, val_main_v15, val_main_v12,
    val_main_v11, val_main_v10, val_main_v9, val_main_cst_1, val_main_v0, val_main_v1, DZ, dgate]
  pointwise
  by_cases h : (i1 : ℕ) < 3584
  · exact (dif_pos h).trans (if_neg (show ¬(3584 ≤ (i1 : ℕ)) by omega)).symm
  · refine (dif_neg h).trans ?_
    have h' : (i1 : ℕ) - 3584 < 1024 := by omega
    refine Eq.trans ?_ ((if_pos (show 3584 ≤ (i1 : ℕ) by omega)).trans (dif_pos h')).symm
    rw [gate_apply]

end Cert.BranchCRefIdeal.Value
-- ==== Proof.BranchCValue.lean ====
module

public import proofs.«01_k».proof.Proof.BranchCPure
public import proofs.«01_k».proof.Proof.Gen.BranchCIdeal.Value
public import Idealize.ShloMosaic.Lib.Pipeline.ValueKit

/-!
What the branch kernel leaves in its three results: the formulas of `BranchPure`.
-/

@[expose] public section

set_option maxRecDepth 16384

noncomputable section

open Idealize.ShloMosaic Idealize.ShloMosaic.TcCoe Idealize.SL.Sem
open Idealize.ShloMosaic.Pipeline (Dat)

namespace Cert.BranchCIdeal.Value

open Cert.BranchCIdeal Cert.BranchCIdeal.Gen

variable (m : (ℓ : Loc nD τ sig) → Buf (Elt Ideal) ℓ)

/-- Each window's block index at grid point `t`. -/
theorem idx : ∀ t : Fin cfg0.N, win0_0.index t = ![t.val / 2, 0] ∧ win0_1.index t = ![0, t.val % 2]
    ∧ win0_2.index t = ![t.val / 2, 7 + t.val % 2] ∧ win0_3.index t = ![t.val / 2, t.val % 2]
    ∧ win0_4.index t = ![t.val / 2, 7 + t.val % 2] ∧ win0_5.index t = ![t.val / 2, t.val % 2]
    ∧ win0_6.index t = ![t.val / 2, 0] :=
  (by decide +kernel : ∀ t : Fin grid0.N, _)

/-- The cotangent of the product, block by block. -/
theorem point5 (c : Dev nD) (t : Fin cfg0.N) (y) :
    k0_pay2 (iblk m c 2 t) (iblk m c 3 t) y
      = DY (m ((c : Thread nD τ).loc main_arg2)) (m ((c : Thread nD τ).loc main_arg3))
        (((cfg0.win 5).blk t).view.emb y) := by
  pointwise [k0_pay2, k0_pay1, DY, gate]
  blk_point [iblk, V, idx t]

/-- The cotangent of the product. -/
theorem final5 (c : Dev nD) : (dats m 0 c).arrAt 5 (cfgs 0).N
    = DY (m ((c : Thread nD τ).loc main_arg2)) (m ((c : Thread nD τ).loc main_arg3)) := by
  refine (dats m 0 c).arrAt_eq_of_covers 5 _ (by decide +kernel) fun t hf y => ?_
  blk_simp
  rw [after0_5]
  rcases (by omega : t.val % 2 = 0 ∨ t.val % 2 = 1) with h | h
  · rw [outsAt0_A m c t h (by omega)]
    frame_out
    exact point5 m c t y
  · rw [outsAt0_B m c t (by omega) (by omega)]
    frame_out
    exact point5 m c t y

/-- The gates' cotangent, block by block. -/
theorem point4 (c : Dev nD) (t : Fin cfg0.N) (y) :
    k0_pay3 (iblk m c 0 t) (iblk m c 1 t) (iblk m c 2 t) (iblk m c 3 t) y
      = DZ (m ((c : Thread nD τ).loc main_arg0)) (m ((c : Thread nD τ).loc main_arg1))
          (m ((c : Thread nD τ).loc main_arg2)) (m ((c : Thread nD τ).loc main_arg3))
          (((cfg0.win 4).blk t).view.emb y) := by
  have h : (((((cfg0.win 4).blk t).view.emb y) 1 : ℕ)) - 3584 < 1024 := by
    blk_simp [idx t]
    idx_bounds y
    omega
  rw [DZ, dif_pos h]
  pointwise [k0_pay3, k0_pay1, dgate, gate]
  blk_point [iblk, V, idx t]

/-- The gates' cotangent in the branch's columns, what the array held elsewhere. -/
theorem final4 (c : Dev nD) : (dats m 0 c).arrAt 4 (cfgs 0).N
    = fun i => if 3584 ≤ (i 1 : ℕ) ∧ (i 1 : ℕ) < 4608
        then DZ (m ((c : Thread nD τ).loc main_arg0)) (m ((c : Thread nD τ).loc main_arg1))
          (m ((c : Thread nD τ).loc main_arg2)) (m ((c : Thread nD τ).loc main_arg3)) i
        else V m c main_v0_0 i := by
  refine (dats m 0 c).arrAt_eq_of_coversWhere 4 _ (fun β => 7 ≤ β 1 ∧ β 1 < 9) (by decide +kernel) (fun t hf y => ?_)
    (fun j => by blk_simp [Pipeline.Window.cell_apply]; omega)
  blk_simp
  rw [after0_4]
  rcases (by omega : t.val % 2 = 0 ∨ t.val % 2 = 1) with h | h
  · rw [outsAt0_A m c t h (by omega)]
    frame_out
    exact point4 m c t y
  · rw [outsAt0_B m c t (by omega) (by omega)]
    frame_out
    exact point4 m c t y

/-- One column tile's part of the input's cotangent. -/
theorem part (g d : FVec Ideal S1024x512 .f32) (w : FVec Ideal S256x512 .bf16) (j) :
    k0_pay4 (F := Ideal) g d w j
      = ∑ k : Fin 512, d (ix2 (j 0) k) * Ideal.logistic (g (ix2 (j 0) k)) * w (ix2 (j 1) k) := by
  pointwise [k0_pay4, k0_pay2, k0_pay1]

/-- The second tile adds its part. -/
theorem step (acc : FVec Ideal S1024x256 .f32) (g d : FVec Ideal S1024x512 .f32) (w : FVec Ideal S256x512 .bf16) (j) :
    k0_pay5 (F := Ideal) g d w acc j
      = acc j + ∑ k : Fin 512, d (ix2 (j 0) k) * Ideal.logistic (g (ix2 (j 0) k)) * w (ix2 (j 1) k) := by
  pointwise [k0_pay5, k0_pay4, k0_pay2, k0_pay1]

/-- The input's cotangent: the two column tiles' parts add up to the whole contraction. -/
theorem final6 (c : Dev nD) : (dats m 0 c).arrAt 6 (cfgs 0).N
    = DX (m ((c : Thread nD τ).loc main_arg1)) (m ((c : Thread nD τ).loc main_arg2))
      (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 2 (fun _ => 0) _
    (fun t h j => by rw [outsAt0_A m c t h (by omega)]; frame_out; rw [part, ← zero_add (Finset.sum _ _)])
    (fun t h j => by rw [outsAt0_B m c t h (by omega)]; frame_out; rw [step])
    t ((flush0_6 t).mp hf) _, zero_add]
  pointwise [DX, gate]
  refine Fin.sum_mul_add_congr fun s k hl => ?_
  blk_point [iblk, V, idx t, idx ⟨_, Pipeline.run_point_lt_of_flush t ((flush0_6 t).mp hf) s⟩]

end Cert.BranchCIdeal.Value
-- ==== Proof.BranchCClaim.lean ====
module

public import proofs.«01_k».proof.Defs
public import proofs.«01_k».proof.Proof.BranchCValue
public import proofs.«01_k».proof.Proof.Gen.BranchCRefIdeal.Run
public import Idealize.ShloMosaic.Lib.Claim

/-!
The branch's gradient call and its reference leave equal results.
-/

@[expose] public section

set_option maxRecDepth 16384

noncomputable section

open Idealize.ShloMosaic Idealize.SL.Sem

namespace Cert.BranchCIdeal.Value
open Cert.BranchCIdeal Cert.BranchCIdeal.Gen

/-- Before the call the result the call writes into holds the fifth argument. -/
theorem entry (m : (ℓ : Loc nD τ sig) → Buf (Elt Ideal) ℓ) (c : Dev nD) :
    V m c main_v0_0 = m ((c.tc : Thread nD τ).loc main_arg4) := by
  unfold V; after_results; try rfl

end Cert.BranchCIdeal.Value

namespace Cert.Proof

/-- The branch's gradient: kernel and reference agree. -/
theorem algebraic_branch_c : Cert.algebraic_BranchCIdeal_BranchCRefIdeal := by
  pair_intro
  · run_from Cert.BranchCIdeal.Gen.run_main m g
  · run_from Cert.BranchCRefIdeal.Value.run m' g'
    · rw [(hagree c).2.2.2.2, Cert.BranchCIdeal.Value.final4 m c, Cert.BranchCIdeal.Value.entry m c]
      exact Cert.BranchCRefIdeal.Value.dz_eq _ _ _ _ _
    · rw [Cert.BranchCIdeal.Value.final5 m c]
      exact Cert.BranchCRefIdeal.Value.dy_eq _ _
    · rw [Cert.BranchCIdeal.Value.final6 m c]
      exact Cert.BranchCRefIdeal.Value.dx_eq _ _ _

end Cert.Proof

end
-- ==== Proof.MergeOutPure.lean ====
module

public import proofs.«01_k».proof.Proof.Gen.MergeOutRefIdeal.Read
public import Idealize.ShloMosaic.Lib.Pointwise

/-!
The three branches' gated projections, the product behind them and the next norm as formulas on the argument arrays,
and the reference's arrays read as these formulas.
-/

@[expose] public section

set_option maxRecDepth 16384

noncomputable section

open Idealize.ShloMosaic Idealize.ShloMosaic.TcCoe Idealize.SL.Sem

namespace Cert.MergeOutRefIdeal.Value
open Cert.MergeOutRefIdeal Cert.MergeOutRefIdeal.Read

theorem gate0_lt (l : Fin 1024) : 1536 + l.val < 4608 := by omega
theorem gate1_lt (l : Fin 1024) : 1536 + (1024 + l.val) < 4608 := by omega
theorem gate2_lt (l : Fin 1024) : 1536 + (2048 + l.val) < 4608 := by omega

/-- The three branches' projections, each under its gate. -/
def merged (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32) (r : Fin 8192) (l : Fin 1024) : EReal :=
  Ideal.logistic (z (ix2 r ⟨1536 + l.val, gate0_lt l⟩)) * (∑ k : Fin 256, a (ix2 r k) * u (ix2 k l))
    + Ideal.logistic (z (ix2 r ⟨1536 + (1024 + l.val), gate1_lt l⟩)) * (∑ k : Fin 512, b (ix2 r k) * v (ix2 k l))
    + Ideal.logistic (z (ix2 r ⟨1536 + (2048 + l.val), gate2_lt l⟩)) * (∑ k : Fin 256, c (ix2 r k) * w (ix2 k l))

/-- The row behind the product, on top of what it is added to. -/
def out (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32)
    (o : FVec Ideal S1024x1024 .bf16) (x : FVec Ideal S8192x1024 .f32) (r : Fin 8192) (l : Fin 1024) : EReal :=
  x (ix2 r l) + ∑ k : Fin 1024, merged a b c u v w z r k * o (ix2 k l)

/-- The norm of a row. -/
def norm (o : Fin 1024 → EReal) (g : FVec Ideal S1024 .f32) (l : Fin 1024) : EReal :=
  o l * Ideal.rsqrt (Ideal.div (∑ k : Fin 1024, o k * o k) (Ideal.ofBits .f32 0x44800000#32)
    + Ideal.ofBits .f32 0x358637BD#32) * g (ix1 l)

/-- The merged branches. -/
def Merged (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32) : FVec Ideal S8192x1024 .bf16 := fun i => merged a b c u v w z (i 0) (i 1)

/-- The rows behind the product. -/
def Out (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32)
    (o : FVec Ideal S1024x1024 .bf16) (x : FVec Ideal S8192x1024 .f32) : FVec Ideal S8192x1024 .f32 :=
  fun i => out a b c u v w z o x (i 0) (i 1)

/-- The normalised rows. -/
def Next (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32)
    (o : FVec Ideal S1024x1024 .bf16) (x : FVec Ideal S8192x1024 .f32) (g : FVec Ideal S1024 .f32) :
    FVec Ideal S8192x1024 .bf16 :=
  fun i => norm (out a b c u v w z o x (i 0)) g (i 1)

theorem v35_apply (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32) (r : Fin 8192) (l : Fin 1024) :
    val_main_v35 (F := Ideal) a b c u v w z (ix2 r l) = merged a b c u v w z r l := by
  simp only [val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, val_main_cst_4, merged]
  pointwise
  rfl

theorem v38_apply (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32)
    (o : FVec Ideal S1024x1024 .bf16) (x : FVec Ideal S8192x1024 .f32) (r : Fin 8192) (l : Fin 1024) :
    val_main_v38 (F := Ideal) a b c u v w z o x (ix2 r l) = out a b c u v w z o x r l := by
  simp only [val_main_v38, val_main_v37, val_main_v36, out]
  pointwise
  simp only [v35_apply]

theorem merged_eq (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32) :
    val_main_v39 (F := Ideal) a b c u v w z = Merged a b c u v w z := by
  funext i
  idx_vars i
  simp only [val_main_v39]
  pointwise
  rw [v35_apply]
  rfl

theorem out_eq (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32)
    (o : FVec Ideal S1024x1024 .bf16) (x : FVec Ideal S8192x1024 .f32) :
    val_main_v38 (F := Ideal) a b c u v w z o x = Out a b c u v w z o x := by
  funext i
  idx_vars i
  exact v38_apply a b c u v w z o x i0 i1

theorem next_eq (a : FVec Ideal S8192x256 .bf16) (b : FVec Ideal S8192x512 .bf16) (c : FVec Ideal S8192x256 .bf16)
    (u : FVec Ideal S256x1024 .bf16) (v : FVec Ideal S512x1024 .bf16) (w : FVec Ideal S256x1024 .bf16)
    (z : FVec Ideal S8192x4608 .f32)
    (o : FVec Ideal S1024x1024 .bf16) (x : FVec Ideal S8192x1024 .f32) (g : FVec Ideal S1024 .f32) :
    val_main_v53 (F := Ideal) a b c u v w z o x g = Next a b c u v w z o x g := by
  funext i
  idx_vars i
  simp only [val_main_v53, val_main_v52, val_main_v51, val_main_v50, val_main_v49, val_main_v48, val_main_v47,
    val_main_v46, val_main_v45, val_main_v44, val_main_v43, val_main_v42, val_main_v41, val_main_v40, val_main_cst_5,
    val_main_cst_6, val_main_cst_7, Next, norm]
  pointwise
  simp only [v38_apply]

end Cert.MergeOutRefIdeal.Value
-- ==== Proof.MergeOutValue.lean ====
module

public import proofs.«01_k».proof.Proof.MergeOutPure
public import proofs.«01_k».proof.Proof.Gen.MergeOutIdeal.Value
public import Idealize.ShloMosaic.Lib.Pipeline.ValueKit
public import Idealize.ShloMosaic.Lib.Pipeline.ReadBack

/-!
What the merging call leaves: half of the columns of the merged branches per grid point, their product with the
weight gathered over the two halves, and the norm behind it.
-/

@[expose] public section

set_option maxRecDepth 16384

noncomputable section

open Idealize.ShloMosaic Idealize.ShloMosaic.TcCoe Idealize.SL.Sem
open Idealize.ShloMosaic.Pipeline (Dat)

namespace Cert.MergeOutIdeal.Value
open Cert.MergeOutIdeal Cert.MergeOutIdeal.Gen
open Cert.MergeOutRefIdeal.Value (merged out norm Merged Out Next)

variable (m : (ℓ : Loc nD τ sig) → Buf (Elt Ideal) ℓ)

theorem lt (t : Fin cfg0.N) : t.val < 32 := lt_of_lt_of_eq t.isLt N_0

theorem row_lt (t : Fin cfg0.N) (r : Fin 512) : 512 * (t.val / 2) + r.val < 8192 := by
  have := lt t
  omega

theorem col_lt (t : Fin cfg0.N) (l : Fin 512) : 512 * (t.val % 2) + l.val < 1024 := by
  omega

/-- Each window's block at grid point `t`. -/
theorem idx : ∀ t : Fin cfg0.N, win0_0.index t = ![t.val / 2, 0] ∧ win0_1.index t = ![t.val / 2, 0]
    ∧ win0_2.index t = ![t.val / 2, 0] ∧ win0_3.index t = ![0, t.val % 2] ∧ win0_4.index t = ![0, t.val % 2]
    ∧ win0_5.index t = ![0, t.val % 2] ∧ win0_6.index t = ![t.val / 2, 3 + t.val % 2]
    ∧ win0_7.index t = ![t.val / 2, 5 + t.val % 2] ∧ win0_8.index t = ![t.val / 2, 7 + t.val % 2]
    ∧ win0_9.index t = ![t.val % 2, 0] ∧ win0_10.index t = ![t.val / 2, 0] ∧ win0_11.index t = ![0, 0]
    ∧ win0_12.index t = ![t.val / 2, 0] ∧ win0_13.index t = ![t.val / 2, t.val % 2]
    ∧ win0_14.index t = ![t.val / 2, 0] :=
  (by decide +kernel : ∀ t : Fin grid0.N, _)

/-- The merged branches of point `t`, as the body computes them from its blocks. -/
def half (c : Dev nD) (t : Fin cfg0.N) : FVec Ideal S512x512 .bf16 :=
  k0_pay4 (iblk m c 6 t) (iblk m c 0 t) (iblk m c 3 t) (iblk m c 7 t) (iblk m c 1 t) (iblk m c 4 t) (iblk m c 8 t)
    (iblk m c 2 t) (iblk m c 5 t)

theorem half_apply (c : Dev nD) (t : Fin cfg0.N) (r : Fin 512) (l : Fin 512) :
    half m c t (ix2 r l) = merged (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6))
      ⟨512 * (t.val / 2) + r.val, row_lt t r⟩ ⟨512 * (t.val % 2) + l.val, col_lt t l⟩ := by
  unfold half
  pointwise [k0_pay4, merged]
  blk_point [iblk, V, idx t]

theorem emb13 (x : FVec Ideal S8192x1024 .bf16) (t : Fin cfg0.N) (r : Fin 512) (l : Fin 512) :
    x (((cfg0.win 13).blk t).view.emb (ix2 r l))
      = x (ix2 ⟨512 * (t.val / 2) + r.val, row_lt t r⟩ ⟨512 * (t.val % 2) + l.val, col_lt t l⟩) := by
  blk_point [idx t]

theorem emb12 (x : FVec Ideal S8192x1024 .f32) (t : Fin cfg0.N) (r : Fin 512) (l : Fin 1024) :
    x (((cfg0.win 12).blk t).view.emb (ix2 r l)) = x (ix2 ⟨512 * (t.val / 2) + r.val, row_lt t r⟩ l) := by
  blk_point [idx t]

theorem emb14 (x : FVec Ideal S8192x1024 .bf16) (t : Fin cfg0.N) (r : Fin 512) (l : Fin 1024) :
    x (((cfg0.win 14).blk t).view.emb (ix2 r l)) = x (ix2 ⟨512 * (t.val / 2) + r.val, row_lt t r⟩ l) := by
  blk_point [idx t]

/-- The merged branches. -/
theorem result13 (c : Dev nD) : (dats m 0 c).arrAt 13 (cfgs 0).N
    = Merged (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) := by
  refine (dats m 0 c).arrAt_eq_of_covers 13 _ (by decide +kernel) fun t hf y => ?_
  blk_simp
  rw [after0_13]
  idx_vars y
  by_cases h : t.val % 2 = 0
  · rw [outsAt0_A m c t h (by omega)]
    frame_out
    exact (half_apply m c t y0 y1).trans (emb13 (Merged _ _ _ _ _ _ _) t y0 y1).symm
  · rw [outsAt0_B m c t h (by omega)]
    frame_out
    exact (half_apply m c t y0 y1).trans (emb13 (Merged _ _ _ _ _ _ _) t y0 y1).symm

/-- The accumulator starts from zero. -/
theorem start (j) : k0_pay5 (F := Ideal) j = 0 := by
  pointwise [k0_pay5]

/-- A half's part of the product. -/
def part (a : FVec Ideal S512x512 .bf16) (b : FVec Ideal S512x1024 .bf16) (j : S512x1024.Idx) : EReal :=
  ∑ k : Fin 512, a (ix2 (j 0) k) * b (ix2 k (j 1))

/-- A half adds its part. -/
theorem step (a : FVec Ideal S512x512 .bf16) (acc : FVec Ideal S512x1024 .f32) (b : FVec Ideal S512x1024 .bf16) (j) :
    k0_pay1 (F := Ideal) a acc b j = acc j + part a b j := by
  pointwise [k0_pay1, part]

/-- What the accumulator holds after the second half. -/
theorem acc_last (c : Dev nD) (t : Fin cfg0.N) (h : t.val % 2 = 2 - 1) (j) :
    (outsAt0 m c t.val t.isLt).2.2.2 j = ∑ s : Fin 2,
      part (half m c ⟨2 * (t.val / 2) + s.val, Pipeline.run_point_lt_of_flush t h s⟩)
        (iblk m c 9 ⟨2 * (t.val / 2) + s.val, Pipeline.run_point_lt_of_flush t h s⟩) j := by
  rw [Pipeline.eq_sum_fin_of_reset_step_apply_of_flush (fun n h => (outsAt0 m c n h).2.2.2) 2 (fun _ => 0)
    (fun t j => part (half m c t) (iblk m c 9 t) j)
    (fun t h j => by rw [outsAt0_A m c t h (by omega)]; frame_out; exact (step _ _ _ j).trans (congrArg (· + _) (start j)))
    (fun t h j => by
      rw [outsAt0_B m c t h (by omega)]; frame_out; rw [read_unread_whole]; exact step _ _ _ j)
    t h j, zero_add]

/-- The second half's accumulator is the whole product. -/
theorem acc_apply (c : Dev nD) (t : Fin cfg0.N) (h : t.val % 2 = 2 - 1) (r : Fin 512) (l : Fin 1024) :
    (outsAt0 m c t.val t.isLt).2.2.2 (ix2 r l) + iblk m c 10 t (ix2 r l)
      = out (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8))
      ⟨512 * (t.val / 2) + r.val, row_lt t r⟩ l := by
  rw [acc_last m c t h, add_comm]
  unfold out
  refine congrArg₂ (· + ·) ?_ ?_
  · blk_point [iblk, V, idx t]
  · refine Fin.sum_mul_add_congr fun s k hl => ?_
    refine congrArg₂ (· * ·) ((half_apply m c _ r k).trans ?_) ?_
    · refine congrArg₂ (merged _ _ _ _ _ _ _) (Fin.ext ?_) (Fin.ext ?_)
      · dsimp only
        omega
      · dsimp only
        omega
    · blk_point [iblk, V, idx t, idx ⟨_, Pipeline.run_point_lt_of_flush t h s⟩]

/-- The second half of a row block stores the accumulator on top of the rows it is added to. -/
theorem sum_apply (c : Dev nD) (t : Fin cfg0.N) (h : t.val % 2 = 2 - 1) (j) :
    (outsAt0 m c t.val t.isLt).1 j = (outsAt0 m c t.val t.isLt).2.2.2 j + iblk m c 10 t j := by
  rw [outsAt0_B m c t (by omega) (by omega)]
  frame_out
  rw [read_unread_whole]
  pointwise [k0_pay2]

theorem result12 (c : Dev nD) : (dats m 0 c).arrAt 12 (cfgs 0).N
    = Out (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) := by
  refine (dats m 0 c).arrAt_eq_of_covers 12 _ (by decide +kernel) fun t hf y => ?_
  have h := (flush0_12 t).mp hf
  blk_simp
  rw [after0_12]
  idx_vars y
  rw [sum_apply m c t h]
  exact (acc_apply m c t h y0 y1).trans (emb12 (Out _ _ _ _ _ _ _ _ _) t y0 y1).symm

/-- … and the norm of that. -/
theorem norm_apply (c : Dev nD) (t : Fin cfg0.N) (h : t.val % 2 = 2 - 1) (j) :
    (outsAt0 m c t.val t.isLt).2.2.1 j
      = k0_pay3 (F := Ideal) (outsAt0 m c t.val t.isLt).2.2.2 (iblk m c 10 t) (iblk m c 11 t) j := by
  rw [outsAt0_B m c t (by omega) (by omega)]
  frame_out

theorem result14 (c : Dev nD) : (dats m 0 c).arrAt 14 (cfgs 0).N
    = Next (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9)) := by
  refine (dats m 0 c).arrAt_eq_of_covers 14 _ (by decide +kernel) fun t hf y => ?_
  have h := (flush0_14 t).mp hf
  blk_simp
  rw [after0_14]
  idx_vars y
  rw [norm_apply m c t h]
  refine Eq.trans ?_ (emb14 (Next _ _ _ _ _ _ _ _ _ _) t y0 y1).symm
  pointwise [k0_pay3, k0_pay2]
  refine congrArg₂ (· * ·) (congrArg₂ (· * ·) (acc_apply m c t h y0 y1)
    (congrArg (fun s => Ideal.rsqrt (Ideal.div s _ + _)) (Finset.sum_congr rfl fun k _ =>
      congrArg₂ (· * ·) (acc_apply m c t h y0 k) (acc_apply m c t h y0 k)))) ?_
  blk_point [iblk, V, idx t]

end Cert.MergeOutIdeal.Value
-- ==== Proof.MergeOutClaim.lean ====
module

public import proofs.«01_k».proof.Defs
public import proofs.«01_k».proof.Proof.MergeOutValue
public import proofs.«01_k».proof.Proof.Gen.MergeOutRefIdeal.Run
public import Idealize.ShloMosaic.Lib.Claim

/-!
The call that merges the branches and its reference leave equal results.
-/

@[expose] public section

set_option maxRecDepth 16384
set_option maxHeartbeats 2000000

noncomputable section

open Idealize.ShloMosaic Idealize.SL.Sem

namespace Cert.Proof

/-- The merged branches and the product behind them: kernel and reference agree. -/
theorem algebraic_merge_out : Cert.algebraic_MergeOutIdeal_MergeOutRefIdeal := by
  pair_intro
  · run_from Cert.MergeOutIdeal.Gen.run_main m g
  · run_from Cert.MergeOutRefIdeal.Value.run m' g'
    · rw [Cert.MergeOutIdeal.Value.result12 m c, ← (hagree c).1, ← (hagree c).2.1, ← (hagree c).2.2.1,
        ← (hagree c).2.2.2.1, ← (hagree c).2.2.2.2.1, ← (hagree c).2.2.2.2.2.1, ← (hagree c).2.2.2.2.2.2.1,
        ← (hagree c).2.2.2.2.2.2.2.1, ← (hagree c).2.2.2.2.2.2.2.2.1]
      exact Cert.MergeOutRefIdeal.Value.out_eq _ _ _ _ _ _ _ _ _
    · rw [Cert.MergeOutIdeal.Value.result13 m c, ← (hagree c).1, ← (hagree c).2.1, ← (hagree c).2.2.1,
        ← (hagree c).2.2.2.1, ← (hagree c).2.2.2.2.1, ← (hagree c).2.2.2.2.2.1, ← (hagree c).2.2.2.2.2.2.1]
      exact Cert.MergeOutRefIdeal.Value.merged_eq _ _ _ _ _ _ _
    · rw [Cert.MergeOutIdeal.Value.result14 m c, ← (hagree c).1, ← (hagree c).2.1, ← (hagree c).2.2.1,
        ← (hagree c).2.2.2.1, ← (hagree c).2.2.2.2.1, ← (hagree c).2.2.2.2.2.1, ← (hagree c).2.2.2.2.2.2.1,
        ← (hagree c).2.2.2.2.2.2.2.1, ← (hagree c).2.2.2.2.2.2.2.2.1, ← (hagree c).2.2.2.2.2.2.2.2.2]
      exact Cert.MergeOutRefIdeal.Value.next_eq _ _ _ _ _ _ _ _ _ _

end Cert.Proof

end
-- ==== Proof.FfnDownPure.lean ====
module

public import proofs.«01_k».proof.Proof.Gen.FfnDownRefIdeal.Read
public import Idealize.ShloMosaic.Lib.Pointwise

/-!
The gated convolution, the product behind it and the next norm as formulas on the argument arrays, and the
reference's arrays read as these formulas.
-/

@[expose] public section

set_option maxRecDepth 16384

noncomputable section

open Idealize.ShloMosaic Idealize.ShloMosaic.TcCoe Idealize.SL.Sem

namespace Cert.FfnDownRefIdeal.Value
open Cert.FfnDownRefIdeal Cert.FfnDownRefIdeal.Read

theorem lo_lt (l : Fin 2816) : l.val < 5632 := by omega
theorem hi_lt (l : Fin 2816) : 2816 + l.val < 5632 := by omega
theorem sub_lt (k : ℕ) (r : Fin 8192) : r.val - k < 8192 := by omega

/-- Row `r` of the array delayed by `k` rows, zero before the first. -/
def later (x : FVec Ideal S8192x2816 .f32) (k : ℕ) (r : Fin 8192) (l : Fin 2816) : EReal :=
  if r.val < k then 0 else x (ix2 ⟨r.val - k, sub_lt k r⟩ l)

/-- The causal convolution of width three, with the weight's and the bias' column `o`. -/
def conv (x : FVec Ideal S8192x2816 .f32) (w : FVec Ideal S3x5632 .f32) (b : FVec Ideal S5632 .f32) (r : Fin 8192)
    (l : Fin 2816) (o : Fin 5632) : EReal :=
  w (ix2 0 o) * later x 2 r l + w (ix2 1 o) * later x 1 r l + w (ix2 2 o) * x (ix2 r l) + b (ix1 o)

/-- The gated value. -/
def act (g v : FVec Ideal S8192x2816 .f32) (w : FVec Ideal S3x5632 .f32) (b : FVec Ideal S5632 .f32) (r : Fin 8192)
    (l : Fin 2816) : EReal :=
  conv g w b r l ⟨l.val, lo_lt l⟩ * Ideal.logistic (conv g w b r l ⟨l.val, lo_lt l⟩)
    * conv v w b r l ⟨2816 + l.val, hi_lt l⟩

/-- The row behind the product, with what goes around it. -/
def out (g v : FVec Ideal S8192x2816 .f32) (w : FVec Ideal S3x5632 .f32) (b : FVec Ideal S5632 .f32)
    (d : FVec Ideal S2816x1024 .bf16) (x : FVec Ideal S8192x1024 .f32) (r : Fin 8192) (l : Fin 1024) : EReal :=
  x (ix2 r l) + ∑ k : Fin 2816, act g v w b r k * d (ix2 k l)

/-- The norm of a row. -/
def norm (o : Fin 1024 → EReal) (g : FVec Ideal S1024 .f32) (l : Fin 1024) : EReal :=
  o l * Ideal.rsqrt (Ideal.div (∑ k : Fin 1024, o k * o k) (Ideal.ofBits .f32 0x44800000#32)
    + Ideal.ofBits .f32 0x358637BD#32) * g (ix1 l)

/-- The gated values. -/
def Act (g v : FVec Ideal S8192x2816 .f32) (w : FVec Ideal S3x5632 .f32) (b : FVec Ideal S5632 .f32) :
    FVec Ideal S8192x2816 .bf16 := fun i => act g v w b (i 0) (i 1)

/-- The rows behind the product. -/
def Out (g v : FVec Ideal S8192x2816 .f32) (w : FVec Ideal S3x5632 .f32) (b : FVec Ideal S5632 .f32)
    (d : FVec Ideal S2816x1024 .bf16) (x : FVec Ideal S8192x1024 .f32) : FVec Ideal S8192x1024 .f32 :=
  fun i => out g v w b d x (i 0) (i 1)

/-- The normalised rows. -/
def Next (g v : FVec Ideal S8192x2816 .f32) (w : FVec Ideal S3x5632 .f32) (b : FVec Ideal S5632 .f32)
    (d : FVec Ideal S2816x1024 .bf16) (x : FVec Ideal S8192x1024 .f32) (n : FVec Ideal S1024 .f32) :
    FVec Ideal S8192x1024 .bf16 :=
  fun i => norm (out g v w b d x (i 0)) n (i 1)

theorem v6_apply (x : FVec Ideal S8192x2816 .f32) (r : Fin 8192) (l : Fin 2816) :
    val_main_v6 (F := Ideal) x (ix2 r l) = later x 2 r l := by
  simp only [val_main_v6, val_main_v5, val_main_v4, val_main_cst, later]
  pointwise
  split_ifs <;> rfl

theorem v14_apply (x : FVec Ideal S8192x2816 .f32) (r : Fin 8192) (l : Fin 2816) :
    val_main_v14 (F := Ideal) x (ix2 r l) = later x 1 r l := by
  simp only [val_main_v14, val_main_v13, val_main_v12, val_main_cst_0, later]
  pointwise
  split_ifs <;> rfl

theorem v34_apply (x : FVec Ideal S8192x2816 .f32) (r : Fin 8192) (l : Fin 2816) :
    val_main_v34 (F := Ideal) x (ix2 r l) = later x 2 r l := v6_apply x r l

theorem v42_apply (x : FVec Ideal S8192x2816 .f32) (r : Fin 8192) (l : Fin 2816) :
    val_main_v42 (F := Ideal) x (ix2 r l) = later x 1 r l := v14_apply x r l

/-- The reference's gate before its sigmoid. -/
theorem v27_apply (x : FVec Ideal S8192x2816 .f32) (w : FVec Ideal S3x5632 .f32) (b : FVec Ideal S5632 .f32)
    (r : Fin 8192) (l : Fin 2816) :
    val_main_v27 (F := Ideal) x w b (ix2 r l) = conv x w b r l ⟨l.val, lo_lt l⟩ := by
  simp only [val_main_v27, val_main_v26, val_main_v25, val_main_v24, val_main_v23, val_main_v22, val_main_v21,
    val_main_v20, val_main_v19, val_main_v18, val_main_v17, val_main_v16, val_main_v15, val_main_v11, val_main_v10,
    val_main_v9, val_main_v8, val_main_v7, val_main_v3, val_main_v2, val_main_v1, val_main_v0, conv]
  pointwise
  rw [v6_apply, v14_apply]

/-- The reference's value. -/
theorem v55_apply (x : FVec Ideal S8192x2816 .f32) (w : FVec Ideal S3x5632 .f32) (b : FVec Ideal S5632 .f32)
    (r : Fin 8192) (l : Fin 2816) :
    val_main_v55 (F := Ideal) x w b (ix2 r l) = conv x w b r l ⟨2816 + l.val, hi_lt l⟩ := by
  simp only [val_main_v55, val_main_v54, val_main_v53, val_main_v52, val_main_v51, val_main_v50, val_main_v49,
    val_main_v48, val_main_v47, val_main_v46, val_main_v45, val_main_v44, val_main_v43, val_main_v39, val_main_v38,
    val_main_v37, val_main_v36, val_main_v35, val_main_v31, val_main_v30, val_main_v29, val_main_v28, conv]
  pointwise
  rw [v34_apply, v42_apply]

/-- The reference's gated value. -/
theorem v57_apply (g v : FVec Ideal S8192x2816 .f32) (w : FVec Ideal S3x5632 .f32) (b : FVec Ideal S5632 .f32)
    (r : Fin 8192) (l : Fin 2816) :
    val_main_v57 (F := Ideal) g v w b (ix2 r l) = act g v w b r l := by
  simp only [val_main_v57, val_main_v56, val_main_call0_v5, val_main_call0_v4, val_main_call0_v3, val_main_call0_v2,
    val_main_call0_v1, val_main_call0_v0, val_main_call0_cst, val_main_call0_cst_0]
  pointwise
  rw [v27_apply, v55_apply]
  rfl

/-- The reference's row behind the product. -/
theorem v60_apply (g v : FVec Ideal S8192x2816 .f32) (w : FVec Ideal S3x5632 .f32) (b : FVec Ideal S5632 .f32)
    (d : FVec Ideal S2816x1024 .bf16) (x : FVec Ideal S8192x1024 .f32) (r : Fin 8192) (l : Fin 1024) :
    val_main_v60 (F := Ideal) g v w b d x (ix2 r l) = out g v w b d x r l := by
  simp only [val_main_v60, val_main_v59, val_main_v58, out]
  pointwise
  simp only [v57_apply]

theorem act_eq (g v : FVec Ideal S8192x2816 .f32) (w : FVec Ideal S3x5632 .f32) (b : FVec Ideal S5632 .f32) :
    val_main_v61 (F := Ideal) g v w b = Act g v w b := by
  funext i
  idx_vars i
  simp only [val_main_v61]
  pointwise
  rw [v57_apply]
  rfl

theorem out_eq (g v : FVec Ideal S8192x2816 .f32) (w : FVec Ideal S3x5632 .f32) (b : FVec Ideal S5632 .f32)
    (d : FVec Ideal S2816x1024 .bf16) (x : FVec Ideal S8192x1024 .f32) :
    val_main_v60 (F := Ideal) g v w b d x = Out g v w b d x := by
  funext i
  idx_vars i
  exact v60_apply g v w b d x i0 i1

theorem next_eq (g v : FVec Ideal S8192x2816 .f32) (w : FVec Ideal S3x5632 .f32) (b : FVec Ideal S5632 .f32)
    (d : FVec Ideal S2816x1024 .bf16) (x : FVec Ideal S8192x1024 .f32) (n : FVec Ideal S1024 .f32) :
    val_main_v75 (F := Ideal) g v w b d x n = Next g v w b d x n := by
  funext i
  idx_vars i
  simp only [val_main_v75, val_main_v74, val_main_v73, val_main_v72, val_main_v71, val_main_v70, val_main_v69,
    val_main_v68, val_main_v67, val_main_v66, val_main_v65, val_main_v64, val_main_v63, val_main_v62, val_main_cst_3,
    val_main_cst_4, val_main_cst_5, Next, norm]
  pointwise
  simp only [v60_apply]

end Cert.FfnDownRefIdeal.Value
-- ==== Proof.FfnDownValue.lean ====
module

public import proofs.«01_k».proof.Proof.FfnDownPure
public import proofs.«01_k».proof.Proof.Gen.FfnDownIdeal.Value
public import Idealize.ShloMosaic.Lib.Pipeline.ValueKit
public import Idealize.ShloMosaic.Lib.Pipeline.ReadBack

/-!
What the feed-forward's second call leaves: the gated values of its causal convolution, their product with the
weight on top of the residual, and the norm of that. A block reads its own rows and the eight rows before them.
-/

@[expose] public section

set_option maxRecDepth 16384

noncomputable section

open Idealize.ShloMosaic Idealize.ShloMosaic.TcCoe Idealize.SL.Sem
open Idealize.ShloMosaic.Pipeline (Dat)

namespace Cert.FfnDownIdeal.Value
open Cert.FfnDownIdeal Cert.FfnDownIdeal.Gen
open Cert.FfnDownRefIdeal.Value (later conv act out norm Act Out Next)

variable (m : (ℓ : Loc nD τ sig) → Buf (Elt Ideal) ℓ)

theorem lt (t : Fin cfg0.N) : t.val < 32 := lt_of_lt_of_eq t.isLt N_0

/-- Each window's block at grid point `t`. -/
theorem idx : ∀ t : Fin cfg0.N, win0_0.index t = ![t.val, 0] ∧ win0_1.index t = ![32 * t.val - 1, 0]
    ∧ win0_2.index t = ![t.val, 0] ∧ win0_3.index t = ![32 * t.val - 1, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![0, 0] ∧ win0_11.index t = ![t.val, 0]
    ∧ win0_12.index t = ![t.val, 0] ∧ win0_13.index t = ![t.val, 0] :=
  (by decide +kernel : ∀ t : Fin grid0.N, _)

theorem crd : ∀ t : Fin cfg0.N, (grid0.coords t 0).val = t.val :=
  (by decide +kernel : ∀ t : Fin grid0.N, _)

theorem row_lt {n : ℕ} (h : n < 32) (r : Fin 256) : 256 * n + r.val < 8192 := by omega

theorem prev_lt {n : ℕ} (h : n < 32) (r : Fin 8) : 8 * (32 * n - 1) + r.val < 8192 := by omega

theorem back_lt (r : Fin 256) (k : ℕ) : (8 + r.val + 264 - k) % 264 < 264 := Nat.mod_lt _ (by decide)

theorem back_sub_lt (r : Fin 256) (k : ℕ) : (8 + r.val + 264 - k) % 264 - 8 < 256 := by
  have := back_lt r k
  omega

/-- The first block's rows before it are zero. -/
theorem sel (n : ℕ) (h : n < 32) (a b : EReal) :
    Scalar.select (Scalar.cmpi CmpIPredicate.eq (BitVec.ofNat 32 n) 0#32) a b = if n = 0 then a else b := by
  have h2 : ∀ k : Fin 32, (Scalar.cmpi CmpIPredicate.eq (BitVec.ofNat 32 k.val) 0#32 = 1) ↔ k.val = 0 := by decide
  simp only [Scalar.select, h2 ⟨n, h⟩]

/-- A block below its eight rows before it, rotated by `k` rows, is the array delayed by `k` rows. -/
theorem halo (x : FVec Ideal S8192x2816 .f32) {n : ℕ} (hn : n < 32) (p : FVec Ideal S8x2816 .f32)
    (v : FVec Ideal S256x2816 .f32) (hp : ∀ r l, p (ix2 r l) = x (ix2 ⟨8 * (32 * n - 1) + r.val, prev_lt hn r⟩ l))
    (hv : ∀ r l, v (ix2 r l) = x (ix2 ⟨256 * n + r.val, row_lt hn r⟩ l)) (k : ℕ) (h0 : 0 < k) (h2 : k < 3)
    (r : Fin 256) (l : Fin 2816) :
    (if h : (8 + r.val + 264 - k) % 264 < 8 then
        Scalar.select (Scalar.cmpi CmpIPredicate.eq (BitVec.ofNat 32 n) 0#32) (0 : EReal)
          (p (ix2 ⟨(8 + r.val + 264 - k) % 264, h⟩ l))
      else v (ix2 ⟨(8 + r.val + 264 - k) % 264 - 8, back_sub_lt r k⟩ l))
      = later x k ⟨256 * n + r.val, row_lt hn r⟩ l := by
  have e : (8 + r.val + 264 - k) % 264 = 8 + r.val - k := by omega
  simp only [sel n hn]
  unfold later
  split_ifs with h3 h4 h5 h5 h5
  · rfl
  · exact absurd h5 (by dsimp only; omega)
  · exact absurd h5 (by dsimp only; omega)
  · rw [hp]
    exact congrArg x (congrArg (ix2 · l) (Fin.ext (by dsimp only; omega)))
  · exact absurd h5 (by dsimp only; omega)
  · rw [hv]
    exact congrArg x (congrArg (ix2 · l) (Fin.ext (by dsimp only; omega)))

/-- The gate's convolution in a block. -/
theorem pay5_apply (x : FVec Ideal S8192x2816 .f32) (w : FVec Ideal S3x5632 .f32) (b : FVec Ideal S5632 .f32)
    (i : grid0.Coords) {n : ℕ} (hn : n < 32) (hi : (i 0).val = n) (p : FVec Ideal S8x2816 .f32)
    (v : FVec Ideal S256x2816 .f32) (w0 w1 w2 b0 : FVec Ideal S1x2816 .f32)
    (hp : ∀ r l, p (ix2 r l) = x (ix2 ⟨8 * (32 * n - 1) + r.val, prev_lt hn r⟩ l))
    (hv : ∀ r l, v (ix2 r l) = x (ix2 ⟨256 * n + r.val, row_lt hn r⟩ l)) (r : Fin 256) (l : Fin 2816) (o : Fin 5632)
    (h0 : w0 (ix2 0 l) = w (ix2 0 o)) (h1 : w1 (ix2 0 l) = w (ix2 1 o)) (h2 : w2 (ix2 0 l) = w (ix2 2 o))
    (hb : b0 (ix2 0 l) = b (ix1 o)) :
    k0_pay5 (F := Ideal) i p v w0 w1 w2 b0 (ix2 r l) = conv x w b ⟨256 * n + r.val, row_lt hn r⟩ l o := by
  pointwise [k0_pay5]
  rw [hi, h0, h1, h2, hb, hv r l]
  have e2 := halo x hn p v hp hv 2 (by decide) (by decide) r l
  have e1 := halo x hn p v hp hv 1 (by decide) (by decide) r l
  rw [e2, e1]
  rfl

/-- The gated values in a block. -/
theorem pay6_apply (x : FVec Ideal S8192x2816 .f32) (w : FVec Ideal S3x5632 .f32) (b : FVec Ideal S5632 .f32)
    (i : grid0.Coords) {n : ℕ} (hn : n < 32) (hi : (i 0).val = n) (p : FVec Ideal S8x2816 .f32)
    (v : FVec Ideal S256x2816 .f32) (w0 w1 w2 b0 : FVec Ideal S1x2816 .f32)
    (hp : ∀ r l, p (ix2 r l) = x (ix2 ⟨8 * (32 * n - 1) + r.val, prev_lt hn r⟩ l))
    (hv : ∀ r l, v (ix2 r l) = x (ix2 ⟨256 * n + r.val, row_lt hn r⟩ l)) (r : Fin 256) (l : Fin 2816) (o : Fin 5632)
    (h0 : w0 (ix2 0 l) = w (ix2 0 o)) (h1 : w1 (ix2 0 l) = w (ix2 1 o)) (h2 : w2 (ix2 0 l) = w (ix2 2 o))
    (hb : b0 (ix2 0 l) = b (ix1 o)) (gate : FVec Ideal S256x2816 .f32) :
    k0_pay6 (F := Ideal) (k0_pay4 i p) gate v w0 w1 w2 b0 (ix2 r l)
      = gate (ix2 r l) * Ideal.logistic (gate (ix2 r l)) * conv x w b ⟨256 * n + r.val, row_lt hn r⟩ l o := by
  pointwise [k0_pay6, k0_pay4]
  rw [hi, h0, h1, h2, hb, hv r l]
  have e2 := halo x hn p v hp hv 2 (by decide) (by decide) r l
  have e1 := halo x hn p v hp hv 1 (by decide) (by decide) r l
  rw [e2, e1]
  rfl

theorem idx4 (X : FVec Ideal S3x2816 .f32) (t : Fin cfg0.N) (j : Fin 3) (l : Fin 2816) :
    X ((win0_4.blk t).view.emb (ix2 j l)) = X (ix2 j l) := by
  blk_point [idx t]

theorem idx5 (X : FVec Ideal S3x2816 .f32) (t : Fin cfg0.N) (j : Fin 3) (l : Fin 2816) :
    X ((win0_5.blk t).view.emb (ix2 j l)) = X (ix2 j l) := by
  blk_point [idx t]

theorem w4 (c : Dev nD) (t : Fin cfg0.N) (j : Fin 3) (l : Fin 2816) :
    iblk m c 4 t (ix2 j l) = m ((c : Thread nD τ).loc main_arg2) (ix2 j ⟨l.val, Cert.FfnDownRefIdeal.Value.lo_lt l⟩) := by
  refine (idx4 (extractStridedSlice S3x2816 ![0, 0] (m (c, Proc.tc.devRef main_arg2)) slices_S3x5632_S3x2816_0_0) t j l).trans ?_
  pointwise

theorem w5 (c : Dev nD) (t : Fin cfg0.N) (j : Fin 3) (l : Fin 2816) :
    iblk m c 5 t (ix2 j l) = m ((c : Thread nD τ).loc main_arg2) (ix2 j ⟨2816 + l.val, Cert.FfnDownRefIdeal.Value.hi_lt l⟩) := by
  refine (idx5 (extractStridedSlice S3x2816 ![0, 2816] (m (c, Proc.tc.devRef main_arg2)) slices_S3x5632_S3x2816_0_2816) t j l).trans ?_
  pointwise

theorem g0 (c : Dev nD) (t : Fin cfg0.N) (r : Fin 256) (l : Fin 2816) :
    iblk m c 0 t (ix2 r l) = m ((c : Thread nD τ).loc main_arg0) (ix2 ⟨256 * t.val + r.val, row_lt (lt t) r⟩ l) := by
  blk_point [iblk, V, idx t]

theorem g1 (c : Dev nD) (t : Fin cfg0.N) (r : Fin 8) (l : Fin 2816) :
    iblk m c 1 t (ix2 r l) = m ((c : Thread nD τ).loc main_arg0) (ix2 ⟨8 * (32 * t.val - 1) + r.val, prev_lt (lt t) r⟩ l) := by
  blk_point [iblk, V, idx t]

theorem g2 (c : Dev nD) (t : Fin cfg0.N) (r : Fin 256) (l : Fin 2816) :
    iblk m c 2 t (ix2 r l) = m ((c : Thread nD τ).loc main_arg1) (ix2 ⟨256 * t.val + r.val, row_lt (lt t) r⟩ l) := by
  blk_point [iblk, V, idx t]

theorem g3 (c : Dev nD) (t : Fin cfg0.N) (r : Fin 8) (l : Fin 2816) :
    iblk m c 3 t (ix2 r l) = m ((c : Thread nD τ).loc main_arg1) (ix2 ⟨8 * (32 * t.val - 1) + r.val, prev_lt (lt t) r⟩ l) := by
  blk_point [iblk, V, idx t]

theorem b6 (c : Dev nD) (t : Fin cfg0.N) (l : Fin 2816) :
    iblk m c 6 t (ix2 0 l) = m ((c : Thread nD τ).loc main_arg3) (ix1 ⟨l.val, Cert.FfnDownRefIdeal.Value.lo_lt l⟩) := by
  blk_point [iblk, V, idx t]

theorem b7 (c : Dev nD) (t : Fin cfg0.N) (l : Fin 2816) :
    iblk m c 7 t (ix2 0 l) = m ((c : Thread nD τ).loc main_arg3) (ix1 ⟨2816 + l.val, Cert.FfnDownRefIdeal.Value.hi_lt l⟩) := by
  blk_point [iblk, V, idx t]

theorem ld0 (X : Vec Ideal S3x2816 .f32) (l : Fin 2816) :
    View.ld (Val := Elt Ideal) (e' := .f32) X (Rect.unit ![0, 0] ![1, 2816] inb_S3x2816_S1x2816_0_0) (ix2 0 l) = X (ix2 0 l) := by
  refine congrArg X (funext fun a => ?_)
  fin_cases a <;> exact Fin.ext (by simp [LoadRect.idx, Rect.unit, ix2])

theorem ld1 (X : Vec Ideal S3x2816 .f32) (l : Fin 2816) :
    View.ld (Val := Elt Ideal) (e' := .f32) X (Rect.unit ![1, 0] ![1, 2816] inb_S3x2816_S1x2816_1_0) (ix2 0 l) = X (ix2 1 l) := by
  refine congrArg X (funext fun a => ?_)
  fin_cases a <;> exact Fin.ext (by simp [LoadRect.idx, Rect.unit, ix2])

theorem ld2 (X : Vec Ideal S3x2816 .f32) (l : Fin 2816) :
    View.ld (Val := Elt Ideal) (e' := .f32) X (Rect.unit ![2, 0] ![1, 2816] inb_S3x2816_S1x2816_2_0) (ix2 0 l) = X (ix2 2 l) := by
  refine congrArg X (funext fun a => ?_)
  fin_cases a <;> exact Fin.ext (by simp [LoadRect.idx, Rect.unit, ix2])

/-- The gated values of point `t`, as the body computes them from its blocks. -/
def gated (c : Dev nD) (t : Fin cfg0.N) : FVec Ideal S256x2816 .bf16 :=
  k0_pay6 (k0_pay4 (grid0.coords t) (iblk m c 3 t))
      (k0_pay5 (grid0.coords t) (iblk m c 1 t) (iblk m c 0 t)
        (View.ld (iblk m c 4 t) (Rect.unit ![0, 0] ![1, 2816] inb_S3x2816_S1x2816_0_0))
        (View.ld (iblk m c 4 t) (Rect.unit ![1, 0] ![1, 2816] inb_S3x2816_S1x2816_1_0))
        (View.ld (iblk m c 4 t) (Rect.unit ![2, 0] ![1, 2816] inb_S3x2816_S1x2816_2_0)) (iblk m c 6 t))
      (iblk m c 2 t) (View.ld (iblk m c 5 t) (Rect.unit ![0, 0] ![1, 2816] inb_S3x2816_S1x2816_0_0))
      (View.ld (iblk m c 5 t) (Rect.unit ![1, 0] ![1, 2816] inb_S3x2816_S1x2816_1_0))
      (View.ld (iblk m c 5 t) (Rect.unit ![2, 0] ![1, 2816] inb_S3x2816_S1x2816_2_0)) (iblk m c 7 t)

theorem gated_apply (c : Dev nD) (t : Fin cfg0.N) (r : Fin 256) (l : Fin 2816) :
    gated m c t (ix2 r l) = act (m ((c : Thread nD τ).loc main_arg0)) (m ((c : Thread nD τ).loc main_arg1))
      (m ((c : Thread nD τ).loc main_arg2)) (m ((c : Thread nD τ).loc main_arg3))
      ⟨256 * t.val + r.val, row_lt (lt t) r⟩ l := by
  unfold gated act
  refine (pay6_apply (m ((c : Thread nD τ).loc main_arg1)) (m ((c : Thread nD τ).loc main_arg2))
    (m ((c : Thread nD τ).loc main_arg3)) (grid0.coords t) (lt t) (crd t) (iblk m c 3 t) (iblk m c 2 t) _ _ _ _
    (g3 m c t) (g2 m c t) r l ⟨2816 + l.val, Cert.FfnDownRefIdeal.Value.hi_lt l⟩ ((ld0 _ l).trans (w5 m c t 0 l))
    ((ld1 _ l).trans (w5 m c t 1 l)) ((ld2 _ l).trans (w5 m c t 2 l)) (b7 m c t l) _).trans ?_
  refine congrArg (fun s => s * Ideal.logistic s * _) (pay5_apply (m ((c : Thread nD τ).loc main_arg0)) (m ((c : Thread nD τ).loc main_arg2))
    (m ((c : Thread nD τ).loc main_arg3)) (grid0.coords t) (lt t) (crd t) (iblk m c 1 t) (iblk m c 0 t) _ _ _ _
    (g1 m c t) (g0 m c t) r l ⟨l.val, Cert.FfnDownRefIdeal.Value.lo_lt l⟩ ((ld0 _ l).trans (w4 m c t 0 l))
    ((ld1 _ l).trans (w4 m c t 1 l)) ((ld2 _ l).trans (w4 m c t 2 l)) (b6 m c t l))

theorem emb12 (x : FVec Ideal S8192x2816 .bf16) (t : Fin cfg0.N) (r : Fin 256) (l : Fin 2816) :
    x (((View.whole main_v7_1).slice (win0_12.rect t)).emb (ix2 r l)) = x (ix2 ⟨256 * t.val + r.val, row_lt (lt t) r⟩ l) := by
  blk_point [idx t]

theorem emb11 (x : FVec Ideal S8192x1024 .f32) (t : Fin cfg0.N) (r : Fin 256) (l : Fin 1024) :
    x (((View.whole main_v7_0).slice (win0_11.rect t)).emb (ix2 r l)) = x (ix2 ⟨256 * t.val + r.val, row_lt (lt t) r⟩ l) := by
  blk_point [idx t]

theorem emb13 (x : FVec Ideal S8192x1024 .bf16) (t : Fin cfg0.N) (r : Fin 256) (l : Fin 1024) :
    x (((View.whole main_v7_2).slice (win0_13.rect t)).emb (ix2 r l)) = x (ix2 ⟨256 * t.val + r.val, row_lt (lt t) r⟩ l) := by
  blk_point [idx t]

theorem final12 (c : Dev nD) : (dats m 0 c).arrAt 12 (cfgs 0).N
    = Act (m ((c : Thread nD τ).loc main_arg0)) (m ((c : Thread nD τ).loc main_arg1))
     (m ((c : Thread nD τ).loc main_arg2)) (m ((c : Thread nD τ).loc main_arg3)) := by
  refine (dats m 0 c).arrAt_eq_of_covers 12 _ (by decide +kernel) fun t hf y => ?_
  blk_simp
  rw [after0_12]
  unfold outsAt0
  frame_out
  refine (show _ = gated m c t y from rfl).trans ?_
  idx_vars y
  rw [gated_apply]
  exact (emb12 (Act _ _ _ _) t y0 y1).symm

/-- The row behind the product in a block. -/
theorem row_apply (c : Dev nD) (t : Fin cfg0.N) (r : Fin 256) (l : Fin 1024) :
    k0_pay1 (F := Ideal) (k0_pay7 (k0_pay4 (grid0.coords t) (iblk m c 3 t))
      (k0_pay5 (grid0.coords t) (iblk m c 1 t) (iblk m c 0 t)
        (View.ld (iblk m c 4 t) (Rect.unit ![0, 0] ![1, 2816] inb_S3x2816_S1x2816_0_0))
        (View.ld (iblk m c 4 t) (Rect.unit ![1, 0] ![1, 2816] inb_S3x2816_S1x2816_1_0))
        (View.ld (iblk m c 4 t) (Rect.unit ![2, 0] ![1, 2816] inb_S3x2816_S1x2816_2_0)) (iblk m c 6 t))
      (iblk m c 2 t) (View.ld (iblk m c 5 t) (Rect.unit ![0, 0] ![1, 2816] inb_S3x2816_S1x2816_0_0))
      (View.ld (iblk m c 5 t) (Rect.unit ![1, 0] ![1, 2816] inb_S3x2816_S1x2816_1_0))
      (View.ld (iblk m c 5 t) (Rect.unit ![2, 0] ![1, 2816] inb_S3x2816_S1x2816_2_0)) (iblk m c 7 t) (k0_pay3 (F := Ideal))
      (iblk m c 8 t)) (iblk m c 9 t) (ix2 r l)
      = out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        ⟨256 * t.val + r.val, row_lt (lt t) r⟩ l := by
  pointwise [k0_pay1, k0_pay7, k0_pay3, out]
  rw [add_comm]
  refine congrArg₂ (· + ·) ?_ (Finset.sum_congr rfl fun k _ => congrArg₂ (· * ·) (gated_apply m c t r k) ?_)
  · blk_point [iblk, V, idx t]
  · blk_point [iblk, V, idx t]

theorem final11 (c : Dev nD) : (dats m 0 c).arrAt 11 (cfgs 0).N
    = Out (m ((c : Thread nD τ).loc main_arg0)) (m ((c : Thread nD τ).loc main_arg1))
     (m ((c : Thread nD τ).loc main_arg2)) (m ((c : Thread nD τ).loc main_arg3)) (m ((c : Thread nD τ).loc main_arg4))
     (m ((c : Thread nD τ).loc main_arg5)) := by
  refine (dats m 0 c).arrAt_eq_of_covers 11 _ (by decide +kernel) fun t hf y => ?_
  blk_simp
  rw [after0_11]
  unfold outsAt0
  frame_out
  idx_vars y
  exact (row_apply m c t y0 y1).trans (emb11 (Out _ _ _ _ _ _) t y0 y1).symm

theorem final13 (c : Dev nD) : (dats m 0 c).arrAt 13 (cfgs 0).N
    = Next (m ((c : Thread nD τ).loc main_arg0)) (m ((c : Thread nD τ).loc main_arg1))
     (m ((c : Thread nD τ).loc main_arg2)) (m ((c : Thread nD τ).loc main_arg3)) (m ((c : Thread nD τ).loc main_arg4))
     (m ((c : Thread nD τ).loc main_arg5)) (m ((c : Thread nD τ).loc main_arg6)) := by
  refine (dats m 0 c).arrAt_eq_of_covers 13 _ (by decide +kernel) fun t hf y => ?_
  blk_simp
  rw [after0_13]
  unfold outsAt0
  frame_out
  idx_vars y
  refine Eq.trans ?_ (emb13 (Next _ _ _ _ _ _ _) t y0 y1).symm
  pointwise [k0_pay2]
  refine congrArg₂ (· * ·) (congrArg₂ (· * ·) (row_apply m c t y0 y1)
    (congrArg (fun s => Ideal.rsqrt (Ideal.div s _ + _)) (Finset.sum_congr rfl fun k _ =>
      congrArg₂ (· * ·) (row_apply m c t y0 k) (row_apply m c t y0 k)))) ?_
  blk_point [iblk, V, idx t]

end Cert.FfnDownIdeal.Value
-- ==== Proof.FfnDownClaim.lean ====
module

public import proofs.«01_k».proof.Defs
public import proofs.«01_k».proof.Proof.FfnDownValue
public import proofs.«01_k».proof.Proof.Gen.FfnDownRefIdeal.Run
public import Idealize.ShloMosaic.Lib.Claim

/-!
The feed-forward's second call and its reference leave equal results.
-/

@[expose] public section

set_option maxRecDepth 16384
set_option maxHeartbeats 2000000

noncomputable section

open Idealize.ShloMosaic Idealize.SL.Sem

namespace Cert.Proof

/-- The feed-forward's second call: kernel and reference agree. -/
theorem algebraic_ffn_down : Cert.algebraic_FfnDownIdeal_FfnDownRefIdeal := by
  pair_intro
  · run_from Cert.FfnDownIdeal.Gen.run_main m g
  · run_from Cert.FfnDownRefIdeal.Value.run m' g'
    · rw [Cert.FfnDownIdeal.Value.final11 m c, ← (hagree c).1, ← (hagree c).2.1, ← (hagree c).2.2.1,
        ← (hagree c).2.2.2.1, ← (hagree c).2.2.2.2.1, ← (hagree c).2.2.2.2.2.1]
      exact Cert.FfnDownRefIdeal.Value.out_eq _ _ _ _ _ _
    · rw [Cert.FfnDownIdeal.Value.final12 m c, ← (hagree c).1, ← (hagree c).2.1, ← (hagree c).2.2.1,
        ← (hagree c).2.2.2.1]
      exact Cert.FfnDownRefIdeal.Value.act_eq _ _ _ _
    · rw [Cert.FfnDownIdeal.Value.final13 m c, ← (hagree c).1, ← (hagree c).2.1, ← (hagree c).2.2.1,
        ← (hagree c).2.2.2.1, ← (hagree c).2.2.2.2.1, ← (hagree c).2.2.2.2.2.1, ← (hagree c).2.2.2.2.2.2]
      exact Cert.FfnDownRefIdeal.Value.next_eq _ _ _ _ _ _ _

end Cert.Proof

end
-- ==== Proof.FfnLossPure.lean ====
module

public import proofs.«01_k».proof.Proof.Gen.FfnLossRefIdeal.Read
public import proofs.«01_k».proof.Proof.Consts
public import Idealize.ShloMosaic.Lib.Pointwise

/-!
The gated convolution, the product behind it, the loss and its gradient as formulas on the argument arrays, and the
reference's arrays read as these formulas.
-/

@[expose] public section

set_option maxRecDepth 16384

noncomputable section

open Idealize.ShloMosaic Idealize.ShloMosaic.TcCoe Idealize.SL.Sem

namespace Cert.FfnLossRefIdeal.Value
open Cert.FfnLossRefIdeal Cert.FfnLossRefIdeal.Read Cert.Consts

theorem lo_lt (l : Fin 2816) : l.val < 5632 := by omega
theorem hi_lt (l : Fin 2816) : 2816 + l.val < 5632 := by omega
theorem sub_lt (k : ℕ) (r : Fin 8192) : r.val - k < 8192 := by omega

/-- Row `r` of the array delayed by `k` rows, zero before the first. -/
def later (x : FVec Ideal S8192x2816 .f32) (k : ℕ) (r : Fin 8192) (l : Fin 2816) : EReal :=
  if r.val < k then 0 else x (ix2 ⟨r.val - k, sub_lt k r⟩ l)

/-- The causal convolution of width three, with the weight's and the bias' column `o`. -/
def conv (x : FVec Ideal S8192x2816 .f32) (w : FVec Ideal S3x5632 .f32) (b : FVec Ideal S5632 .f32) (r : Fin 8192)
    (l : Fin 2816) (o : Fin 5632) : EReal :=
  w (ix2 0 o) * later x 2 r l + w (ix2 1 o) * later x 1 r l + w (ix2 2 o) * x (ix2 r l) + b (ix1 o)

/-- The gated value. -/
def act (g v : FVec Ideal S8192x2816 .f32) (w : FVec Ideal S3x5632 .f32) (b : FVec Ideal S5632 .f32) (r : Fin 8192)
    (l : Fin 2816) : EReal :=
  conv g w b r l ⟨l.val, lo_lt l⟩ * Ideal.logistic (conv g w b r l ⟨l.val, lo_lt l⟩)
    * conv v w b r l ⟨2816 + l.val, hi_lt l⟩

/-- The row behind the product, with what goes around it. -/
def out (g v : FVec Ideal S8192x2816 .f32) (w : FVec Ideal S3x5632 .f32) (b : FVec Ideal S5632 .f32)
    (d : FVec Ideal S2816x1024 .bf16) (x : FVec Ideal S8192x1024 .f32) (r : Fin 8192) (l : Fin 1024) : EReal :=
  x (ix2 r l) + ∑ k : Fin 2816, act g v w b r k * d (ix2 k l)

/-- How far an element is from its target. -/
def err (g v : FVec Ideal S8192x2816 .f32) (w : FVec Ideal S3x5632 .f32) (b : FVec Ideal S5632 .f32)
    (d : FVec Ideal S2816x1024 .bf16) (x y : FVec Ideal S8192x1024 .f32) (r : Fin 8192) (l : Fin 1024) : EReal :=
  out g v w b d x r l - y (ix2 r l)

/-- A row's mean square. -/
def row (e : Fin 1024 → EReal) : EReal := (∑ k : Fin 1024, e k * e k) * ((1 / 1024 : ℝ) : EReal)

/-- The gated values. -/
def Act (g v : FVec Ideal S8192x2816 .f32) (w : FVec Ideal S3x5632 .f32) (b : FVec Ideal S5632 .f32) :
    FVec Ideal S8192x2816 .bf16 := fun i => act g v w b (i 0) (i 1)

/-- The loss' gradient. -/
def Diff (g v : FVec Ideal S8192x2816 .f32) (w : FVec Ideal S3x5632 .f32) (b : FVec Ideal S5632 .f32)
    (d : FVec Ideal S2816x1024 .bf16) (x y : FVec Ideal S8192x1024 .f32) : FVec Ideal S8192x1024 .f32 :=
  fun i => err g v w b d x y (i 0) (i 1) * ((1 / 1024 : ℝ) : EReal)

/-- The loss, in every element of a tile. -/
def Loss (g v : FVec Ideal S8192x2816 .f32) (w : FVec Ideal S3x5632 .f32) (b : FVec Ideal S5632 .f32)
    (d : FVec Ideal S2816x1024 .bf16) (x y : FVec Ideal S8192x1024 .f32) : FVec Ideal S8x128 .f32 :=
  fun _ => (∑ r : Fin 8192, row (err g v w b d x y r)) * ((1 / 2 : ℝ) : EReal)

theorem v6_apply (x : FVec Ideal S8192x2816 .f32) (r : Fin 8192) (l : Fin 2816) :
    val_main_v6 (F := Ideal) x (ix2 r l) = later x 2 r l := by
  simp only [val_main_v6, val_main_v5, val_main_v4, val_main_cst, later]
  pointwise
  split_ifs <;> rfl

theorem v14_apply (x : FVec Ideal S8192x2816 .f32) (r : Fin 8192) (l : Fin 2816) :
    val_main_v14 (F := Ideal) x (ix2 r l) = later x 1 r l := by
  simp only [val_main_v14, val_main_v13, val_main_v12, val_main_cst_0, later]
  pointwise
  split_ifs <;> rfl

theorem v34_apply (x : FVec Ideal S8192x2816 .f32) (r : Fin 8192) (l : Fin 2816) :
    val_main_v34 (F := Ideal) x (ix2 r l) = later x 2 r l := v6_apply x r l

theorem v42_apply (x : FVec Ideal S8192x2816 .f32) (r : Fin 8192) (l : Fin 2816) :
    val_main_v42 (F := Ideal) x (ix2 r l) = later x 1 r l := v14_apply x r l

/-- The reference's gate before its sigmoid. -/
theorem v27_apply (x : FVec Ideal S8192x2816 .f32) (w : FVec Ideal S3x5632 .f32) (b : FVec Ideal S5632 .f32)
    (r : Fin 8192) (l : Fin 2816) :
    val_main_v27 (F := Ideal) x w b (ix2 r l) = conv x w b r l ⟨l.val, lo_lt l⟩ := by
  simp only [val_main_v27, val_main_v26, val_main_v25, val_main_v24, val_main_v23, val_main_v22, val_main_v21,
    val_main_v20, val_main_v19, val_main_v18, val_main_v17, val_main_v16, val_main_v15, val_main_v11, val_main_v10,
    val_main_v9, val_main_v8, val_main_v7, val_main_v3, val_main_v2, val_main_v1, val_main_v0, conv]
  pointwise
  rw [v6_apply, v14_apply]

/-- The reference's value. -/
theorem v55_apply (x : FVec Ideal S8192x2816 .f32) (w : FVec Ideal S3x5632 .f32) (b : FVec Ideal S5632 .f32)
    (r : Fin 8192) (l : Fin 2816) :
    val_main_v55 (F := Ideal) x w b (ix2 r l) = conv x w b r l ⟨2816 + l.val, hi_lt l⟩ := by
  simp only [val_main_v55, val_main_v54, val_main_v53, val_main_v52, val_main_v51, val_main_v50, val_main_v49,
    val_main_v48, val_main_v47, val_main_v46, val_main_v45, val_main_v44, val_main_v43, val_main_v39, val_main_v38,
    val_main_v37, val_main_v36, val_main_v35, val_main_v31, val_main_v30, val_main_v29, val_main_v28, conv]
  pointwise
  rw [v34_apply, v42_apply]

/-- The reference's gated value. -/
theorem v57_apply (g v : FVec Ideal S8192x2816 .f32) (w : FVec Ideal S3x5632 .f32) (b : FVec Ideal S5632 .f32)
    (r : Fin 8192) (l : Fin 2816) :
    val_main_v57 (F := Ideal) g v w b (ix2 r l) = act g v w b r l := by
  simp only [val_main_v57, val_main_v56, val_main_call0_v5, val_main_call0_v4, val_main_call0_v3, val_main_call0_v2,
    val_main_call0_v1, val_main_call0_v0, val_main_call0_cst, val_main_call0_cst_0]
  pointwise
  rw [v27_apply, v55_apply]
  rfl

/-- The reference's row behind the product. -/
theorem v60_apply (g v : FVec Ideal S8192x2816 .f32) (w : FVec Ideal S3x5632 .f32) (b : FVec Ideal S5632 .f32)
    (d : FVec Ideal S2816x1024 .bf16) (x : FVec Ideal S8192x1024 .f32) (r : Fin 8192) (l : Fin 1024) :
    val_main_v60 (F := Ideal) g v w b d x (ix2 r l) = out g v w b d x r l := by
  simp only [val_main_v60, val_main_v59, val_main_v58, out]
  pointwise
  simp only [v57_apply]

theorem act_eq (g v : FVec Ideal S8192x2816 .f32) (w : FVec Ideal S3x5632 .f32) (b : FVec Ideal S5632 .f32) :
    val_main_v76 (F := Ideal) g v w b = Act g v w b := by
  funext i
  idx_vars i
  simp only [val_main_v76]
  pointwise
  rw [v57_apply]
  rfl

theorem v61_apply (g v : FVec Ideal S8192x2816 .f32) (w : FVec Ideal S3x5632 .f32) (b : FVec Ideal S5632 .f32)
    (d : FVec Ideal S2816x1024 .bf16) (x y : FVec Ideal S8192x1024 .f32) (r : Fin 8192) (l : Fin 1024) :
    val_main_v61 (F := Ideal) g v w b d x y (ix2 r l) = err g v w b d x y r l := by
  simp only [val_main_v61, err]
  pointwise
  rw [v60_apply]

theorem diff_eq (g v : FVec Ideal S8192x2816 .f32) (w : FVec Ideal S3x5632 .f32) (b : FVec Ideal S5632 .f32)
    (d : FVec Ideal S2816x1024 .bf16) (x y : FVec Ideal S8192x1024 .f32) :
    val_main_v75 (F := Ideal) g v w b d x y = Diff g v w b d x y := by
  funext i
  idx_vars i
  simp only [val_main_v75, val_main_v74, val_main_v73, val_main_v72, val_main_v71, val_main_v70, val_main_v64,
    val_main_v63, val_main_cst_3, val_main_cst_8, val_main_cst_9, val_main_cst_10, Diff]
  pointwise
  simp only [v61_apply]
  rw [ofBits_1024, Ideal.div_coe (by norm_num), ofBits_half, ofBits_two, ← mul_assoc, mul_comm]
  refine congrArg (fun s : EReal => err g v w b d x y i0 i1 * s) ?_
  norm_cast
  norm_num

theorem loss_eq (g v : FVec Ideal S8192x2816 .f32) (w : FVec Ideal S3x5632 .f32) (b : FVec Ideal S5632 .f32)
    (d : FVec Ideal S2816x1024 .bf16) (x y : FVec Ideal S8192x1024 .f32) :
    val_main_v77 (F := Ideal) g v w b d x y = Loss g v w b d x y := by
  funext i
  idx_vars i
  simp only [val_main_v77, val_main_v69, val_main_v68, val_main_v67, val_main_v66, val_main_v65, val_main_v62,
    val_main_cst_4, val_main_cst_5, val_main_cst_6, val_main_cst_7, Loss, row]
  pointwise
  simp only [v61_apply, ofBits_1024, Ideal.div_coe (show (1024 : ℝ) ≠ 0 by norm_num), ofBits_half]
  rw [mul_comm]

end Cert.FfnLossRefIdeal.Value
-- ==== Proof.FfnLossValue.lean ====
module

public import proofs.«01_k».proof.Proof.FfnLossPure
public import proofs.«01_k».proof.Proof.Gen.FfnLossIdeal.Value
public import Idealize.ShloMosaic.Lib.Pipeline.ValueKit
public import Idealize.ShloMosaic.Lib.Pipeline.ReadBack

/-!
What the last feed-forward's second call leaves: the gated values of its causal convolution, the loss of their
product with the weight on top of the residual, and that loss' gradient. A block reads its own rows and the eight rows before them.
-/

@[expose] public section

set_option maxRecDepth 16384

noncomputable section

open Idealize.ShloMosaic Idealize.ShloMosaic.TcCoe Idealize.SL.Sem
open Idealize.ShloMosaic.Pipeline (Dat)

namespace Cert.FfnLossIdeal.Value
open Cert.FfnLossIdeal Cert.FfnLossIdeal.Gen
open Cert.FfnLossRefIdeal.Value (later conv act out err row Act Diff Loss)
open Cert.Consts

variable (m : (ℓ : Loc nD τ sig) → Buf (Elt Ideal) ℓ)

theorem lt (t : Fin cfg0.N) : t.val < 32 := lt_of_lt_of_eq t.isLt N_0

/-- Each window's block at grid point `t`. -/
theorem idx : ∀ t : Fin cfg0.N, win0_0.index t = ![t.val, 0] ∧ win0_1.index t = ![32 * t.val - 1, 0]
    ∧ win0_2.index t = ![t.val, 0] ∧ win0_3.index t = ![32 * t.val - 1, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![0, 0] :=
  (by decide +kernel : ∀ t : Fin grid0.N, _)

theorem crd : ∀ t : Fin cfg0.N, (grid0.coords t 0).val = t.val :=
  (by decide +kernel : ∀ t : Fin grid0.N, _)

theorem row_lt {n : ℕ} (h : n < 32) (r : Fin 256) : 256 * n + r.val < 8192 := by omega

theorem prev_lt {n : ℕ} (h : n < 32) (r : Fin 8) : 8 * (32 * n - 1) + r.val < 8192 := by omega

theorem back_lt (r : Fin 256) (k : ℕ) : (8 + r.val + 264 - k) % 264 < 264 := Nat.mod_lt _ (by decide)

theorem back_sub_lt (r : Fin 256) (k : ℕ) : (8 + r.val + 264 - k) % 264 - 8 < 256 := by
  have := back_lt r k
  omega

/-- The first block's rows before it are zero. -/
theorem sel (n : ℕ) (h : n < 32) (a b : EReal) :
    Scalar.select (Scalar.cmpi CmpIPredicate.eq (BitVec.ofNat 32 n) 0#32) a b = if n = 0 then a else b := by
  have h2 : ∀ k : Fin 32, (Scalar.cmpi CmpIPredicate.eq (BitVec.ofNat 32 k.val) 0#32 = 1) ↔ k.val = 0 := by decide
  simp only [Scalar.select, h2 ⟨n, h⟩]

/-- A block below its eight rows before it, rotated by `k` rows, is the array delayed by `k` rows. -/
theorem halo (x : FVec Ideal S8192x2816 .f32) {n : ℕ} (hn : n < 32) (p : FVec Ideal S8x2816 .f32)
    (v : FVec Ideal S256x2816 .f32) (hp : ∀ r l, p (ix2 r l) = x (ix2 ⟨8 * (32 * n - 1) + r.val, prev_lt hn r⟩ l))
    (hv : ∀ r l, v (ix2 r l) = x (ix2 ⟨256 * n + r.val, row_lt hn r⟩ l)) (k : ℕ) (h0 : 0 < k) (h2 : k < 3)
    (r : Fin 256) (l : Fin 2816) :
    (if h : (8 + r.val + 264 - k) % 264 < 8 then
        Scalar.select (Scalar.cmpi CmpIPredicate.eq (BitVec.ofNat 32 n) 0#32) (0 : EReal)
          (p (ix2 ⟨(8 + r.val + 264 - k) % 264, h⟩ l))
      else v (ix2 ⟨(8 + r.val + 264 - k) % 264 - 8, back_sub_lt r k⟩ l))
      = later x k ⟨256 * n + r.val, row_lt hn r⟩ l := by
  have e : (8 + r.val + 264 - k) % 264 = 8 + r.val - k := by omega
  simp only [sel n hn]
  unfold later
  split_ifs with h3 h4 h5 h5 h5
  · rfl
  · exact absurd h5 (by dsimp only; omega)
  · exact absurd h5 (by dsimp only; omega)
  · rw [hp]
    exact congrArg x (congrArg (ix2 · l) (Fin.ext (by dsimp only; omega)))
  · exact absurd h5 (by dsimp only; omega)
  · rw [hv]
    exact congrArg x (congrArg (ix2 · l) (Fin.ext (by dsimp only; omega)))

/-- The gate's convolution in a block. -/
theorem pay7_apply (x : FVec Ideal S8192x2816 .f32) (w : FVec Ideal S3x5632 .f32) (b : FVec Ideal S5632 .f32)
    (i : grid0.Coords) {n : ℕ} (hn : n < 32) (hi : (i 0).val = n) (p : FVec Ideal S8x2816 .f32)
    (v : FVec Ideal S256x2816 .f32) (w0 w1 w2 b0 : FVec Ideal S1x2816 .f32)
    (hp : ∀ r l, p (ix2 r l) = x (ix2 ⟨8 * (32 * n - 1) + r.val, prev_lt hn r⟩ l))
    (hv : ∀ r l, v (ix2 r l) = x (ix2 ⟨256 * n + r.val, row_lt hn r⟩ l)) (r : Fin 256) (l : Fin 2816) (o : Fin 5632)
    (h0 : w0 (ix2 0 l) = w (ix2 0 o)) (h1 : w1 (ix2 0 l) = w (ix2 1 o)) (h2 : w2 (ix2 0 l) = w (ix2 2 o))
    (hb : b0 (ix2 0 l) = b (ix1 o)) :
    k0_pay7 (F := Ideal) i p v w0 w1 w2 b0 (ix2 r l) = conv x w b ⟨256 * n + r.val, row_lt hn r⟩ l o := by
  pointwise [k0_pay7]
  rw [hi, h0, h1, h2, hb, hv r l]
  have e2 := halo x hn p v hp hv 2 (by decide) (by decide) r l
  have e1 := halo x hn p v hp hv 1 (by decide) (by decide) r l
  rw [e2, e1]
  rfl

/-- The gated values in a block. -/
theorem pay8_apply (x : FVec Ideal S8192x2816 .f32) (w : FVec Ideal S3x5632 .f32) (b : FVec Ideal S5632 .f32)
    (i : grid0.Coords) {n : ℕ} (hn : n < 32) (hi : (i 0).val = n) (p : FVec Ideal S8x2816 .f32)
    (v : FVec Ideal S256x2816 .f32) (w0 w1 w2 b0 : FVec Ideal S1x2816 .f32)
    (hp : ∀ r l, p (ix2 r l) = x (ix2 ⟨8 * (32 * n - 1) + r.val, prev_lt hn r⟩ l))
    (hv : ∀ r l, v (ix2 r l) = x (ix2 ⟨256 * n + r.val, row_lt hn r⟩ l)) (r : Fin 256) (l : Fin 2816) (o : Fin 5632)
    (h0 : w0 (ix2 0 l) = w (ix2 0 o)) (h1 : w1 (ix2 0 l) = w (ix2 1 o)) (h2 : w2 (ix2 0 l) = w (ix2 2 o))
    (hb : b0 (ix2 0 l) = b (ix1 o)) (gate : FVec Ideal S256x2816 .f32) :
    k0_pay8 (F := Ideal) (k0_pay6 i p) gate v w0 w1 w2 b0 (ix2 r l)
      = gate (ix2 r l) * Ideal.logistic (gate (ix2 r l)) * conv x w b ⟨256 * n + r.val, row_lt hn r⟩ l o := by
  pointwise [k0_pay8, k0_pay6]
  rw [hi, h0, h1, h2, hb, hv r l]
  have e2 := halo x hn p v hp hv 2 (by decide) (by decide) r l
  have e1 := halo x hn p v hp hv 1 (by decide) (by decide) r l
  rw [e2, e1]
  rfl

theorem idx4 (X : FVec Ideal S3x2816 .f32) (t : Fin cfg0.N) (j : Fin 3) (l : Fin 2816) :
    X ((win0_4.blk t).view.emb (ix2 j l)) = X (ix2 j l) := by
  blk_point [idx t]

theorem idx5 (X : FVec Ideal S3x2816 .f32) (t : Fin cfg0.N) (j : Fin 3) (l : Fin 2816) :
    X ((win0_5.blk t).view.emb (ix2 j l)) = X (ix2 j l) := by
  blk_point [idx t]

theorem w4 (c : Dev nD) (t : Fin cfg0.N) (j : Fin 3) (l : Fin 2816) :
    iblk m c 4 t (ix2 j l) = m ((c : Thread nD τ).loc main_arg2) (ix2 j ⟨l.val, Cert.FfnLossRefIdeal.Value.lo_lt l⟩) := by
  refine (idx4 (extractStridedSlice S3x2816 ![0, 0] (m (c, Proc.tc.devRef main_arg2)) slices_S3x5632_S3x2816_0_0) t j l).trans ?_
  pointwise

theorem w5 (c : Dev nD) (t : Fin cfg0.N) (j : Fin 3) (l : Fin 2816) :
    iblk m c 5 t (ix2 j l) = m ((c : Thread nD τ).loc main_arg2) (ix2 j ⟨2816 + l.val, Cert.FfnLossRefIdeal.Value.hi_lt l⟩) := by
  refine (idx5 (extractStridedSlice S3x2816 ![0, 2816] (m (c, Proc.tc.devRef main_arg2)) slices_S3x5632_S3x2816_0_2816) t j l).trans ?_
  pointwise

theorem g0 (c : Dev nD) (t : Fin cfg0.N) (r : Fin 256) (l : Fin 2816) :
    iblk m c 0 t (ix2 r l) = m ((c : Thread nD τ).loc main_arg0) (ix2 ⟨256 * t.val + r.val, row_lt (lt t) r⟩ l) := by
  blk_point [iblk, V, idx t]

theorem g1 (c : Dev nD) (t : Fin cfg0.N) (r : Fin 8) (l : Fin 2816) :
    iblk m c 1 t (ix2 r l) = m ((c : Thread nD τ).loc main_arg0) (ix2 ⟨8 * (32 * t.val - 1) + r.val, prev_lt (lt t) r⟩ l) := by
  blk_point [iblk, V, idx t]

theorem g2 (c : Dev nD) (t : Fin cfg0.N) (r : Fin 256) (l : Fin 2816) :
    iblk m c 2 t (ix2 r l) = m ((c : Thread nD τ).loc main_arg1) (ix2 ⟨256 * t.val + r.val, row_lt (lt t) r⟩ l) := by
  blk_point [iblk, V, idx t]

theorem g3 (c : Dev nD) (t : Fin cfg0.N) (r : Fin 8) (l : Fin 2816) :
    iblk m c 3 t (ix2 r l) = m ((c : Thread nD τ).loc main_arg1) (ix2 ⟨8 * (32 * t.val - 1) + r.val, prev_lt (lt t) r⟩ l) := by
  blk_point [iblk, V, idx t]

theorem b6 (c : Dev nD) (t : Fin cfg0.N) (l : Fin 2816) :
    iblk m c 6 t (ix2 0 l) = m ((c : Thread nD τ).loc main_arg3) (ix1 ⟨l.val, Cert.FfnLossRefIdeal.Value.lo_lt l⟩) := by
  blk_point [iblk, V, idx t]

theorem b7 (c : Dev nD) (t : Fin cfg0.N) (l : Fin 2816) :
    iblk m c 7 t (ix2 0 l) = m ((c : Thread nD τ).loc main_arg3) (ix1 ⟨2816 + l.val, Cert.FfnLossRefIdeal.Value.hi_lt l⟩) := by
  blk_point [iblk, V, idx t]

theorem ld0 (X : Vec Ideal S3x2816 .f32) (l : Fin 2816) :
    View.ld (Val := Elt Ideal) (e' := .f32) X (Rect.unit ![0, 0] ![1, 2816] inb_S3x2816_S1x2816_0_0) (ix2 0 l) = X (ix2 0 l) := by
  refine congrArg X (funext fun a => ?_)
  fin_cases a <;> exact Fin.ext (by simp [LoadRect.idx, Rect.unit, ix2])

theorem ld1 (X : Vec Ideal S3x2816 .f32) (l : Fin 2816) :
    View.ld (Val := Elt Ideal) (e' := .f32) X (Rect.unit ![1, 0] ![1, 2816] inb_S3x2816_S1x2816_1_0) (ix2 0 l) = X (ix2 1 l) := by
  refine congrArg X (funext fun a => ?_)
  fin_cases a <;> exact Fin.ext (by simp [LoadRect.idx, Rect.unit, ix2])

theorem ld2 (X : Vec Ideal S3x2816 .f32) (l : Fin 2816) :
    View.ld (Val := Elt Ideal) (e' := .f32) X (Rect.unit ![2, 0] ![1, 2816] inb_S3x2816_S1x2816_2_0) (ix2 0 l) = X (ix2 2 l) := by
  refine congrArg X (funext fun a => ?_)
  fin_cases a <;> exact Fin.ext (by simp [LoadRect.idx, Rect.unit, ix2])

/-- The gated values of point `t`, as the body computes them from its blocks. -/
def gated (c : Dev nD) (t : Fin cfg0.N) : FVec Ideal S256x2816 .bf16 :=
  k0_pay8 (k0_pay6 (grid0.coords t) (iblk m c 3 t))
      (k0_pay7 (grid0.coords t) (iblk m c 1 t) (iblk m c 0 t)
        (View.ld (iblk m c 4 t) (Rect.unit ![0, 0] ![1, 2816] inb_S3x2816_S1x2816_0_0))
        (View.ld (iblk m c 4 t) (Rect.unit ![1, 0] ![1, 2816] inb_S3x2816_S1x2816_1_0))
        (View.ld (iblk m c 4 t) (Rect.unit ![2, 0] ![1, 2816] inb_S3x2816_S1x2816_2_0)) (iblk m c 6 t))
      (iblk m c 2 t) (View.ld (iblk m c 5 t) (Rect.unit ![0, 0] ![1, 2816] inb_S3x2816_S1x2816_0_0))
      (View.ld (iblk m c 5 t) (Rect.unit ![1, 0] ![1, 2816] inb_S3x2816_S1x2816_1_0))
      (View.ld (iblk m c 5 t) (Rect.unit ![2, 0] ![1, 2816] inb_S3x2816_S1x2816_2_0)) (iblk m c 7 t)

theorem gated_apply (c : Dev nD) (t : Fin cfg0.N) (r : Fin 256) (l : Fin 2816) :
    gated m c t (ix2 r l) = act (m ((c : Thread nD τ).loc main_arg0)) (m ((c : Thread nD τ).loc main_arg1))
      (m ((c : Thread nD τ).loc main_arg2)) (m ((c : Thread nD τ).loc main_arg3))
      ⟨256 * t.val + r.val, row_lt (lt t) r⟩ l := by
  unfold gated act
  refine (pay8_apply (m ((c : Thread nD τ).loc main_arg1)) (m ((c : Thread nD τ).loc main_arg2))
    (m ((c : Thread nD τ).loc main_arg3)) (grid0.coords t) (lt t) (crd t) (iblk m c 3 t) (iblk m c 2 t) _ _ _ _
    (g3 m c t) (g2 m c t) r l ⟨2816 + l.val, Cert.FfnLossRefIdeal.Value.hi_lt l⟩ ((ld0 _ l).trans (w5 m c t 0 l))
    ((ld1 _ l).trans (w5 m c t 1 l)) ((ld2 _ l).trans (w5 m c t 2 l)) (b7 m c t l) _).trans ?_
  refine congrArg (fun s => s * Ideal.logistic s * _) (pay7_apply (m ((c : Thread nD τ).loc main_arg0)) (m ((c : Thread nD τ).loc main_arg2))
    (m ((c : Thread nD τ).loc main_arg3)) (grid0.coords t) (lt t) (crd t) (iblk m c 1 t) (iblk m c 0 t) _ _ _ _
    (g1 m c t) (g0 m c t) r l ⟨l.val, Cert.FfnLossRefIdeal.Value.lo_lt l⟩ ((ld0 _ l).trans (w4 m c t 0 l))
    ((ld1 _ l).trans (w4 m c t 1 l)) ((ld2 _ l).trans (w4 m c t 2 l)) (b6 m c t l))

theorem emb12 (x : FVec Ideal S8192x2816 .bf16) (t : Fin cfg0.N) (r : Fin 256) (l : Fin 2816) :
    x (((View.whole main_v6_1).slice (win0_12.rect t)).emb (ix2 r l)) = x (ix2 ⟨256 * t.val + r.val, row_lt (lt t) r⟩ l) := by
  blk_point [idx t]

theorem emb11 (x : FVec Ideal S8192x1024 .f32) (t : Fin cfg0.N) (r : Fin 256) (l : Fin 1024) :
    x (((View.whole main_v6_0).slice (win0_11.rect t)).emb (ix2 r l)) = x (ix2 ⟨256 * t.val + r.val, row_lt (lt t) r⟩ l) := by
  blk_point [idx t]

theorem final12 (c : Dev nD) : (dats m 0 c).arrAt 12 (cfgs 0).N
    = Act (m ((c : Thread nD τ).loc main_arg0)) (m ((c : Thread nD τ).loc main_arg1))
     (m ((c : Thread nD τ).loc main_arg2)) (m ((c : Thread nD τ).loc main_arg3)) := by
  refine (dats m 0 c).arrAt_eq_of_covers 12 _ (by decide +kernel) fun t hf y => ?_
  blk_simp
  rw [after0_12]
  idx_vars y
  by_cases h : t.val = 0
  · rw [outsAt0_A m c t (by omega) (by omega)]
    frame_out
    exact (gated_apply m c t y0 y1).trans (emb12 (Act _ _ _ _) t y0 y1).symm
  · rw [outsAt0_B m c t (by have := lt t; omega) (by omega)]
    frame_out
    exact (gated_apply m c t y0 y1).trans (emb12 (Act _ _ _ _) t y0 y1).symm

/-- The block of the product, as the body computes it. -/
def prod (c : Dev nD) (t : Fin cfg0.N) : FVec Ideal S256x1024 .f32 :=
  k0_pay9 (k0_pay6 (grid0.coords t) (iblk m c 3 t))
      (k0_pay7 (grid0.coords t) (iblk m c 1 t) (iblk m c 0 t)
        (View.ld (iblk m c 4 t) (Rect.unit ![0, 0] ![1, 2816] inb_S3x2816_S1x2816_0_0))
        (View.ld (iblk m c 4 t) (Rect.unit ![1, 0] ![1, 2816] inb_S3x2816_S1x2816_1_0))
        (View.ld (iblk m c 4 t) (Rect.unit ![2, 0] ![1, 2816] inb_S3x2816_S1x2816_2_0)) (iblk m c 6 t))
      (iblk m c 2 t) (View.ld (iblk m c 5 t) (Rect.unit ![0, 0] ![1, 2816] inb_S3x2816_S1x2816_0_0))
      (View.ld (iblk m c 5 t) (Rect.unit ![1, 0] ![1, 2816] inb_S3x2816_S1x2816_1_0))
      (View.ld (iblk m c 5 t) (Rect.unit ![2, 0] ![1, 2816] inb_S3x2816_S1x2816_2_0)) (iblk m c 7 t) (k0_pay5 (F := Ideal))
      (iblk m c 8 t)

/-- The row behind the product in a block. -/
theorem prod_apply (c : Dev nD) (t : Fin cfg0.N) (r : Fin 256) (l : Fin 1024) :
    prod m c t (ix2 r l) + iblk m c 9 t (ix2 r l)
      = out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        ⟨256 * t.val + r.val, row_lt (lt t) r⟩ l := by
  unfold prod
  pointwise [k0_pay9, k0_pay5, out]
  rw [add_comm]
  refine congrArg₂ (· + ·) ?_ (Finset.sum_congr rfl fun k _ => congrArg₂ (· * ·) (gated_apply m c t r k) ?_)
  · blk_point [iblk, V, idx t]
  · blk_point [iblk, V, idx t]

/-- How far a block's element is from its target. -/
theorem err_apply (c : Dev nD) (t : Fin cfg0.N) (r : Fin 256) (l : Fin 1024) :
    k0_pay1 (F := Ideal) (prod m c t) (iblk m c 9 t) (iblk m c 10 t) (ix2 r l)
      = err (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) ⟨256 * t.val + r.val, row_lt (lt t) r⟩ l := by
  pointwise [k0_pay1, err]
  refine congrArg₂ (· - ·) (prod_apply m c t r l) ?_
  blk_point [iblk, V, idx t]

theorem diff_apply (c : Dev nD) (t : Fin cfg0.N) (r : Fin 256) (l : Fin 1024) :
    k0_pay2 (F := Ideal) (prod m c t) (iblk m c 9 t) (iblk m c 10 t) (ix2 r l)
      = err (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) ⟨256 * t.val + r.val, row_lt (lt t) r⟩ l * ((1 / 1024 : ℝ) : EReal) := by
  pointwise [k0_pay2]
  exact congrArg₂ (· * ·) (err_apply m c t r l) ofBits_inv_1024

/-- A block's part of the loss. -/
theorem part_apply (c : Dev nD) (t : Fin cfg0.N) (j) :
    k0_pay3 (F := Ideal) (prod m c t) (iblk m c 9 t) (iblk m c 10 t) j
      = (∑ r : Fin 256, row (err (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) ⟨256 * t.val + r.val, row_lt (lt t) r⟩)) * ((1 / 2 : ℝ) : EReal) := by
  pointwise [k0_pay3]
  refine congrArg₂ (· * ·) (Finset.sum_congr rfl fun r _ => congrArg₂ (· * ·) (Finset.sum_congr rfl fun k _ =>
    congrArg₂ (· * ·) (err_apply m c t r k) (err_apply m c t r k)) ofBits_inv_1024) ofBits_half

/-- A later block adds its part. -/
theorem step (p x y : FVec Ideal S256x1024 .f32) (acc : FVec Ideal S8x128 .f32) (j) :
    k0_pay4 (F := Ideal) p x y acc j = acc j + k0_pay3 (F := Ideal) p x y j := by
  pointwise [k0_pay4]

theorem final11 (c : Dev nD) : (dats m 0 c).arrAt 11 (cfgs 0).N
    = Diff (m ((c : Thread nD τ).loc main_arg0)) (m ((c : Thread nD τ).loc main_arg1))
     (m ((c : Thread nD τ).loc main_arg2)) (m ((c : Thread nD τ).loc main_arg3)) (m ((c : Thread nD τ).loc main_arg4))
     (m ((c : Thread nD τ).loc main_arg5)) (m ((c : Thread nD τ).loc main_arg6)) := by
  refine (dats m 0 c).arrAt_eq_of_covers 11 _ (by decide +kernel) fun t hf y => ?_
  blk_simp
  rw [after0_11]
  idx_vars y
  by_cases h : t.val = 0
  · rw [outsAt0_A m c t (by omega) (by omega)]
    frame_out
    exact (diff_apply m c t y0 y1).trans (emb11 (Diff _ _ _ _ _ _ _) t y0 y1).symm
  · rw [outsAt0_B m c t (by have := lt t; omega) (by omega)]
    frame_out
    exact (diff_apply m c t y0 y1).trans (emb11 (Diff _ _ _ _ _ _ _) t y0 y1).symm

theorem row_nonneg (e : Fin 1024 → EReal) : 0 ≤ row e :=
  mul_nonneg (Finset.sum_nonneg fun k _ => sq_nonneg' (e k)) (by norm_cast; norm_num)

theorem final13 (c : Dev nD) : (dats m 0 c).arrAt 13 (cfgs 0).N
    = Loss (m ((c : Thread nD τ).loc main_arg0)) (m ((c : Thread nD τ).loc main_arg1))
     (m ((c : Thread nD τ).loc main_arg2)) (m ((c : Thread nD τ).loc main_arg3)) (m ((c : Thread nD τ).loc main_arg4))
     (m ((c : Thread nD τ).loc main_arg5)) (m ((c : Thread nD τ).loc main_arg6)) := by
  refine (dats m 0 c).arrAt_eq_of_covers 13 _ (by decide +kernel) fun t hf y => ?_
  blk_simp
  rw [after0_13, Pipeline.eq_sum_fin_of_reset_step_apply_of_flush (fun n h => (outsAt0 m c n h).2.2) 32 (fun _ => 0) _
    (fun t h j => by
      rw [outsAt0_A m c t h (by have := lt t; omega)]
      frame_out
      exact (part_apply m c t j).trans (zero_add _).symm)
    (fun t h j => by
      rw [outsAt0_B m c t h (by omega)]
      frame_out
      exact (step _ _ _ _ j).trans (congrArg (_ + ·) (part_apply m c t j)))
    t ((flush0_13 t).mp hf) _, zero_add]
  refine (sum_mul_of_nonneg Finset.univ _ _ (fun s => Finset.sum_nonneg fun r _ => row_nonneg _)).symm.trans
    (congrArg (· * ((1 / 2 : ℝ) : EReal)) ?_)
  refine Fin.sum_mul_add_congr fun s k hl => ?_
  refine congrArg (fun r => row (err _ _ _ _ _ _ _ r)) (Fin.ext ?_)
  have := lt t
  dsimp only
  omega

end Cert.FfnLossIdeal.Value
-- ==== Proof.FfnLossClaim.lean ====
module

public import proofs.«01_k».proof.Defs
public import proofs.«01_k».proof.Proof.FfnLossValue
public import proofs.«01_k».proof.Proof.Gen.FfnLossRefIdeal.Run
public import Idealize.ShloMosaic.Lib.Claim

/-!
The last feed-forward's second call, with the loss, and its reference leave equal results.
-/

@[expose] public section

set_option maxRecDepth 16384
set_option maxHeartbeats 2000000

noncomputable section

open Idealize.ShloMosaic Idealize.SL.Sem

namespace Cert.Proof

/-- The last feed-forward's second call and the loss: kernel and reference agree. -/
theorem algebraic_ffn_loss : Cert.algebraic_FfnLossIdeal_FfnLossRefIdeal := by
  pair_intro
  · run_from Cert.FfnLossIdeal.Gen.run_main m g
  · run_from Cert.FfnLossRefIdeal.Value.run m' g'
    · rw [Cert.FfnLossIdeal.Value.final11 m c, ← (hagree c).1, ← (hagree c).2.1, ← (hagree c).2.2.1,
        ← (hagree c).2.2.2.1, ← (hagree c).2.2.2.2.1, ← (hagree c).2.2.2.2.2.1, ← (hagree c).2.2.2.2.2.2]
      exact Cert.FfnLossRefIdeal.Value.diff_eq _ _ _ _ _ _ _
    · rw [Cert.FfnLossIdeal.Value.final12 m c, ← (hagree c).1, ← (hagree c).2.1, ← (hagree c).2.2.1,
        ← (hagree c).2.2.2.1]
      exact Cert.FfnLossRefIdeal.Value.act_eq _ _ _ _
    · rw [Cert.FfnLossIdeal.Value.final13 m c, ← (hagree c).1, ← (hagree c).2.1, ← (hagree c).2.2.1,
        ← (hagree c).2.2.2.1, ← (hagree c).2.2.2.2.1, ← (hagree c).2.2.2.2.2.1, ← (hagree c).2.2.2.2.2.2]
      exact Cert.FfnLossRefIdeal.Value.loss_eq _ _ _ _ _ _ _

end Cert.Proof

end
-- ==== Proof.FirstNorm.lean ====
module

public import proofs.«01_k».proof.Defs
public import proofs.«01_k».proof.Proof.Gen.FirstNormIdeal.Value
public import proofs.«01_k».proof.Proof.Gen.FirstNormRefIdeal.Run
public import proofs.«01_k».proof.Proof.Gen.FirstNormRefIdeal.Read
public import Idealize.ShloMosaic.Lib.Pipeline.ValueKit
public import Idealize.ShloMosaic.Lib.Claim
public import Idealize.ShloMosaic.Lib.Quiescent

/-!
`FirstNorm`: a row over the root of its mean square, times the gain.
-/

@[expose] public section

set_option maxRecDepth 16384

noncomputable section

open Idealize.ShloMosaic Idealize.ShloMosaic.TcCoe Idealize.SL.Sem
open Idealize.ShloMosaic.Pipeline (Dat)

namespace Cert.FirstNormRefIdeal.Value
open Cert.FirstNormRefIdeal Cert.FirstNormRefIdeal.Read

/-- The norm of a row. -/
def at_ (x : FVec Ideal S8192x1024 .f32) (g : FVec Ideal S1024 .f32) (r : Fin 8192) (l : Fin 1024) : EReal :=
  x (ix2 r l) * Ideal.rsqrt (Ideal.div (∑ k : Fin 1024, x (ix2 r k) * x (ix2 r k)) (Ideal.ofBits .f32 0x44800000#32)
    + Ideal.ofBits .f32 0x358637BD#32) * g (ix1 l)

/-- The normalised rows. -/
def Out (x : FVec Ideal S8192x1024 .f32) (g : FVec Ideal S1024 .f32) : FVec Ideal S8192x1024 .bf16 :=
  fun i => at_ x g (i 0) (i 1)

/-- The reference computes them. -/
theorem out_eq (x : FVec Ideal S8192x1024 .f32) (g : FVec Ideal S1024 .f32) : val_main_v13 (F := Ideal) x g = Out x g := by
  funext i
  idx_vars i
  simp only [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1, Out, at_]
  pointwise

end Cert.FirstNormRefIdeal.Value

namespace Cert.FirstNormIdeal.Value
open Cert.FirstNormIdeal Cert.FirstNormIdeal.Gen
open Cert.FirstNormRefIdeal.Value (Out at_)

variable (m : (ℓ : Loc nD τ sig) → Buf (Elt Ideal) ℓ)

/-- Each window's block at grid point `t`. -/
theorem idx : ∀ t : Fin cfg0.N, win0_0.index t = ![t.val, 0] ∧ win0_1.index t = ![0, 0]
    ∧ win0_2.index t = ![t.val, 0] :=
  (by decide +kernel : ∀ t : Fin grid0.N, _)

theorem lt (t : Fin cfg0.N) : t.val < 16 := lt_of_lt_of_eq t.isLt N_0

/-- A block of normalised rows. -/
theorem point (c : Dev nD) (t : Fin cfg0.N) (y) :
    k0_pay1 (iblk m c 0 t) (iblk m c 1 t) y
      = Out (m ((c : Thread nD τ).loc main_arg0)) (m ((c : Thread nD τ).loc main_arg1))
        (((cfg0.win 2).blk t).view.emb y) := by
  pointwise [k0_pay1, Out, at_]
  blk_point [iblk, V, idx t]

/-- The normalised rows. -/
theorem final (c : Dev nD) : (dats m 0 c).arrAt 2 (cfgs 0).N
    = Out (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.FirstNormIdeal.Value

namespace Cert.Proof

/-- Kernel and reference leave equal rows. -/
theorem algebraic_FirstNorm : Cert.algebraic_FirstNormIdeal_FirstNormRefIdeal := by
  pair_intro
  · run_from Cert.FirstNormIdeal.Gen.run_main m g
  · run_from Cert.FirstNormRefIdeal.Value.run m' g'
    rw [Cert.FirstNormIdeal.Value.final m c]
    exact Cert.FirstNormRefIdeal.Value.out_eq _ _

/-- The reference runs to an end and leaves its arguments alone. -/
theorem frame_FirstNorm_ref : Cert.quiescent_FirstNormRefIdeal := fun m ρ _ =>
  (θ_run Cert.FirstNormRefIdeal.defs _ _).mono
    (fun r h => ⟨fun c => (h c).2, sem_eq_zero_of_no_sems (by decide) r.2⟩)
    (Cert.FirstNormRefIdeal.Value.run (F := Ideal) m ρ)

end Cert.Proof

end
-- ==== Proof.Adam.lean ====
module

public import Idealize.ShloMosaic.PureOps.Ideal
public import Idealize.ShloMosaic.Lib.Pipeline.ValueKit

/-!
One step of the optimiser on one number: the moments from the gradient, and the parameter's change from the moments.
-/

@[expose] public section

noncomputable section

namespace Cert.Adam

open Idealize.ShloMosaic

/-- The first moment after the step. -/
def mom (g m : EReal) : EReal := Ideal.ofBits .f32 0x3F666666#32 * m + Ideal.ofBits .f32 0x3DCCCCCD#32 * g

/-- The second moment after the step. -/
def var (g v : EReal) : EReal := Ideal.ofBits .f32 0x3F7FBE77#32 * v + Ideal.ofBits .f32 0x3A83126F#32 * (g * g)

/-- The parameter's change. -/
def change (w g m v : EReal) : EReal :=
  Ideal.ofBits .f32 0xBA83126F#32
    * (Ideal.div (Ideal.div (mom g m) (Ideal.ofBits .f32 0x3F26BD02#32))
        (Ideal.sqrt (Ideal.div (var g v) (Ideal.ofBits .f32 0x3C231ACC#32)) + Ideal.ofBits .f32 0x322BCC77#32)
      + Ideal.ofBits .f32 0x3C23D70A#32 * w)

/-- The first layer's rows of the grid take the first branch. -/
theorem sel (n : ℕ) (h : n < 2) (a b : EReal) :
    Scalar.select (Scalar.cmpi CmpIPredicate.eq (BitVec.ofNat 32 n) 0#32) a b = if n = 0 then a else b := by
  have h2 : ∀ k : Fin 2, (Scalar.cmpi CmpIPredicate.eq (BitVec.ofNat 32 k.val) 0#32 = 1) ↔ k.val = 0 := by decide
  simp only [Scalar.select, h2 ⟨n, h⟩]

end Cert.Adam

end
-- ==== Proof.AdamIn.lean ====
module

public import proofs.«01_k».proof.Defs
public import proofs.«01_k».proof.Proof.Adam
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit
public import Idealize.ShloMosaic.Lib.Claim
public import Idealize.ShloMosaic.Lib.Quiescent

/-!
`AdamIn`: the optimiser's call for the first product. A layer's gradient is the sum of the eight devices' parts; the
moments and the parameter's change follow from it entry by entry.
-/

@[expose] public section

set_option maxRecDepth 16384
set_option maxHeartbeats 1000000

noncomputable section

open Idealize.ShloMosaic Idealize.ShloMosaic.TcCoe Idealize.SL.Sem
open Idealize.ShloMosaic.Pipeline (Dat)

namespace Cert.AdamInRefIdeal.Value
open Cert.AdamInRefIdeal Cert.AdamInRefIdeal.Read

/-- A layer's gradient: the sum of the devices' parts. -/
def grad (p q : FVec Ideal S8x1024x576 .bf16) (l : Fin 2) (r : Fin 1024) (o : Fin 576) : EReal :=
  if l.val = 0 then ∑ k : Fin 8, p (ix3 k r o) else ∑ k : Fin 8, q (ix3 k r o)

/-- Both layers' gradients. -/
def Grad (p q : FVec Ideal S8x1024x576 .bf16) : FVec Ideal S2x1024x576 .f32 := fun i => grad p q (i 0) (i 1) (i 2)

theorem Grad_apply (p q : FVec Ideal S8x1024x576 .bf16) (l : Fin 2) (r : Fin 1024) (o : Fin 576) : Grad p q (ix3 l r o)
    = if l.val = 0 then ∑ k : Fin 8, p (ix3 k r o) else ∑ k : Fin 8, q (ix3 k r o) := rfl

/-- The first moments after the step. -/
def Mom (p q : FVec Ideal S8x1024x576 .bf16) (m : FVec Ideal S2x1024x576 .f32) : FVec Ideal S2x1024x576 .f32 :=
  fun i => Adam.mom (Grad p q i) (m i)

/-- The second moments after the step. -/
def Var (p q : FVec Ideal S8x1024x576 .bf16) (v : FVec Ideal S2x1024x576 .f32) : FVec Ideal S2x1024x576 .f32 :=
  fun i => Adam.var (Grad p q i) (v i)

/-- The parameters' changes. -/
def Change (p q : FVec Ideal S8x1024x576 .bf16) (w m v : FVec Ideal S2x1024x576 .f32) : FVec Ideal S2x1024x576 .f32 :=
  fun i => Adam.change (w i) (Grad p q i) (m i) (v i)

/-- The reference sums the devices' parts. -/
theorem grad_eq (p q : FVec Ideal S8x1024x576 .bf16) : val_main_v6 (F := Ideal) p q = Grad p q := by
  funext i
  idx_vars i
  simp only [val_main_v6, val_main_v5, val_main_v4, val_main_v3, val_main_v1, val_main_v2, val_main_v0, val_main_cst, val_main_cst_0, Grad, grad]
  pointwise
  split_ifs <;> first | rfl | omega

/-- The reference's first moments. -/
theorem mom_eq (p q : FVec Ideal S8x1024x576 .bf16) (m : FVec Ideal S2x1024x576 .f32) :
    val_main_v11 (F := Ideal) p q m = Mom p q m := by
  unfold val_main_v11 val_main_v10
  rw [grad_eq]
  rfl

/-- The reference's second moments. -/
theorem var_eq (p q : FVec Ideal S8x1024x576 .bf16) (x : FVec Ideal S2x1024x576 .f32) :
    val_main_v17 (F := Ideal) p q x = Var p q x := by
  unfold val_main_v17 val_main_v16 val_main_v14
  rw [grad_eq]
  rfl

/-- The reference's changes. -/
theorem change_eq (p q : FVec Ideal S8x1024x576 .bf16) (w m x : FVec Ideal S2x1024x576 .f32) :
    val_main_v30 (F := Ideal) p q w m x = Change p q w m x := by
  unfold val_main_v30 val_main_v28 val_main_v25 val_main_v24 val_main_v22 val_main_v21 val_main_v19
  rw [mom_eq, var_eq]
  rfl

end Cert.AdamInRefIdeal.Value

namespace Cert.AdamInIdeal.Value
open Cert.AdamInIdeal Cert.AdamInIdeal.Gen
open Cert.AdamInRefIdeal.Value (grad Grad Mom Var Change)

variable (m : (ℓ : Loc nD τ sig) → Buf (Elt Ideal) ℓ)

theorem lt (t : Fin cfg0.N) : t.val < 8 := lt_of_lt_of_eq t.isLt N_0

/-- The grid runs over a layer's row blocks, then the next layer's. -/
theorem crd : ∀ t : Fin cfg0.N, (grid0.coords t 0).val = t.val / 4 :=
  (by decide +kernel : ∀ t : Fin grid0.N, _)

/-- Each window's block at grid point `t`. -/
theorem idx : ∀ t : Fin cfg0.N, win0_2.index t = ![t.val / 4, t.val % 4, 0]
    ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] :=
  (by decide +kernel : ∀ t : Fin grid0.N, _)

/-- The first layer's parts move with the first half of the grid. -/
theorem idx0 : ∀ t : Fin cfg0.N, t.val / 4 = 0 → win0_0.index t = ![0, t.val % 4, 0] :=
  (by decide +kernel : ∀ t : Fin grid0.N, _)

/-- The second layer's parts move with the second half. -/
theorem idx1 : ∀ t : Fin cfg0.N, ¬ t.val / 4 = 0 → win0_1.index t = ![0, t.val % 4, 0] :=
  (by decide +kernel : ∀ t : Fin grid0.N, _)

theorem row_lt (n : ℕ) (r : Fin 256) : 256 * (n % 4) + r.val < 1024 := by
  have := Nat.mod_lt n (by decide : 0 < 4)
  omega

theorem layer_lt (t : Fin cfg0.N) : t.val / 4 < 2 := by
  have := lt t
  omega

/-- A block of one layer's rows is indexed by row and column. -/
theorem one_row (y : (S1x256x576 : Shape).Idx) : ∃ (r : Fin 256) (o : Fin 576), y = ix3 0 r o :=
  ⟨y 1, y 2, by
    funext a
    fin_cases a
    · exact Subsingleton.elim (α := Fin 1) _ _
    · rfl
    · rfl⟩

/-- One device's part of a block. -/
theorem part (x : FVec Ideal S8x256x576 .bf16) (k : ℕ) (hk : k < 8) (h) (r : Fin 256) (o : Fin 576) :
    View.ld (Val := Elt Ideal) (e' := .bf16) x (Rect.unit (s := S8x256x576) ![k, 0, 0] S1x256x576.size h) (ix3 0 r o)
      = x (ix3 ⟨k, hk⟩ r o) := by
  refine congrArg x (funext fun a => ?_)
  fin_cases a <;> exact Fin.ext (by simp [LoadRect.idx, Rect.unit, ix3])

/-- The whole of a block. -/
theorem whole (x : FVec Ideal S1x256x576 .f32) (r : Fin 256) (o : Fin 576) :
    View.ld (Val := Elt Ideal) (e' := .f32) x r0_8 (ix3 0 r o) = x (ix3 0 r o) := by
  refine congrArg x (funext fun a => ?_)
  fin_cases a <;> exact Fin.ext (by simp [LoadRect.idx, Rect.unit, ix3])

theorem g0 (c : Dev nD) (t : Fin cfg0.N) (h : t.val / 4 = 0) (k : Fin 8) (r : Fin 256) (o : Fin 576) :
    iblk m c 0 t (ix3 k r o) = m ((c : Thread nD τ).loc main_arg0) (ix3 k ⟨256 * (t.val % 4) + r.val, row_lt _ r⟩ o) := by
  blk_point [iblk, V, idx0 t h]

theorem g1 (c : Dev nD) (t : Fin cfg0.N) (h : ¬ t.val / 4 = 0) (k : Fin 8) (r : Fin 256) (o : Fin 576) :
    iblk m c 1 t (ix3 k r o) = m ((c : Thread nD τ).loc main_arg1) (ix3 k ⟨256 * (t.val % 4) + r.val, row_lt _ r⟩ o) := by
  blk_point [iblk, V, idx1 t h]

theorem g2 (c : Dev nD) (t : Fin cfg0.N) (r : Fin 256) (o : Fin 576) :
    iblk m c 2 t (ix3 0 r o) = m ((c : Thread nD τ).loc main_arg2)
      (ix3 ⟨t.val / 4, layer_lt t⟩ ⟨256 * (t.val % 4) + r.val, row_lt _ r⟩ o) := by
  blk_point [iblk, V, idx t]

theorem g3 (c : Dev nD) (t : Fin cfg0.N) (r : Fin 256) (o : Fin 576) :
    iblk m c 3 t (ix3 0 r o) = m ((c : Thread nD τ).loc main_arg3)
      (ix3 ⟨t.val / 4, layer_lt t⟩ ⟨256 * (t.val % 4) + r.val, row_lt _ r⟩ o) := by
  blk_point [iblk, V, idx t]

theorem g4 (c : Dev nD) (t : Fin cfg0.N) (r : Fin 256) (o : Fin 576) :
    iblk m c 4 t (ix3 0 r o) = m ((c : Thread nD τ).loc main_arg4)
      (ix3 ⟨t.val / 4, layer_lt t⟩ ⟨256 * (t.val % 4) + r.val, row_lt _ r⟩ o) := by
  blk_point [iblk, V, idx t]

theorem emb5 (x : FVec Ideal S2x1024x576 .f32) (t : Fin cfg0.N) (r : Fin 256) (o : Fin 576) :
    x (((cfg0.win 5).blk t).view.emb (ix3 0 r o))
      = x (ix3 ⟨t.val / 4, layer_lt t⟩ ⟨256 * (t.val % 4) + r.val, row_lt _ r⟩ o) := by
  blk_point [idx t]

theorem emb6 (x : FVec Ideal S2x1024x576 .f32) (t : Fin cfg0.N) (r : Fin 256) (o : Fin 576) :
    x (((cfg0.win 6).blk t).view.emb (ix3 0 r o))
      = x (ix3 ⟨t.val / 4, layer_lt t⟩ ⟨256 * (t.val % 4) + r.val, row_lt _ r⟩ o) := by
  blk_point [idx t]

theorem emb7 (x : FVec Ideal S2x1024x576 .f32) (t : Fin cfg0.N) (r : Fin 256) (o : Fin 576) :
    x (((cfg0.win 7).blk t).view.emb (ix3 0 r o))
      = x (ix3 ⟨t.val / 4, layer_lt t⟩ ⟨256 * (t.val % 4) + r.val, row_lt _ r⟩ o) := by
  blk_point [idx t]

theorem emb8 (x : FVec Ideal S2x1024x576 .f32) (t : Fin cfg0.N) (r : Fin 256) (o : Fin 576) :
    x (((cfg0.win 8).blk t).view.emb (ix3 0 r o))
      = x (ix3 ⟨t.val / 4, layer_lt t⟩ ⟨256 * (t.val % 4) + r.val, row_lt _ r⟩ o) := by
  blk_point [idx t]

/-- The sum of the devices' parts of the first layer. -/
theorem sum0 (x : FVec Ideal S8x256x576 .bf16) (r : Fin 256) (o : Fin 576) :
    k0_pay2 (F := Ideal) (View.ld x r0_0) (View.ld x r0_1) (View.ld x r0_2) (View.ld x r0_3) (View.ld x r0_4) (View.ld x r0_5)
      (View.ld x r0_6) (View.ld x r0_7) (ix2 r o) = ∑ k : Fin 8, x (ix3 k r o) := by
  rw [Fin.sum_univ_eight]
  pointwise [k0_pay2]

/-- A block's gradient. -/
theorem sum_at (i : grid0.Coords) (h : (i 0).val < 2) (x y : FVec Ideal S8x256x576 .bf16) (w a b : FVec Ideal S1x256x576 .f32)
    (r : Fin 256) (o : Fin 576) :
    k0_pay12 (F := Ideal) i x y w a b (ix2 r o)
      = if (i 0).val = 0 then ∑ k : Fin 8, x (ix3 k r o) else ∑ k : Fin 8, y (ix3 k r o) := by
  refine Eq.trans ?_ (Adam.sel (i 0).val h _ _)
  rw [← sum0 x r o, Fin.sum_univ_eight]
  pointwise [k0_pay12, k0_pay3]

/-- A block's gradient is the layers' gradient there. -/
theorem sum_grad (c : Dev nD) (t : Fin cfg0.N) (r : Fin 256) (o : Fin 576) :
    k0_pay12 (F := Ideal) (grid0.coords t) (iblk m c 0 t) (iblk m c 1 t) (iblk m c 2 t) (iblk m c 3 t) (iblk m c 4 t) (ix2 r o)
      = Grad (m ((c : Thread nD τ).loc main_arg0)) (m ((c : Thread nD τ).loc main_arg1)) (ix3 ⟨t.val / 4, layer_lt t⟩ ⟨256 * (t.val % 4) + r.val, row_lt _ r⟩ o) := by
  rw [sum_at _ (by rw [crd t]; exact layer_lt t), crd t]
  rw [Cert.AdamInRefIdeal.Value.Grad_apply]
  by_cases h : t.val / 4 = 0
  · rw [if_pos h, if_pos h]
    exact Finset.sum_congr rfl fun k _ => g0 m c t h k r o
  · rw [if_neg h, if_neg h]
    exact Finset.sum_congr rfl fun k _ => g1 m c t h k r o

theorem point5 (c : Dev nD) (t : Fin cfg0.N) (r : Fin 256) (o : Fin 576) :
    k0_pay7 (k0_pay12 (grid0.coords t) (iblk m c 0 t) (iblk m c 1 t) (iblk m c 2 t) (iblk m c 3 t) (iblk m c 4 t)) (ix3 0 r o)
      = Grad (m ((c : Thread nD τ).loc main_arg0)) (m ((c : Thread nD τ).loc main_arg1)) (ix3 ⟨t.val / 4, layer_lt t⟩ ⟨256 * (t.val % 4) + r.val, row_lt _ r⟩ o) := by
  rw [← sum_grad m c t r o]
  pointwise [k0_pay7]

theorem point7 (c : Dev nD) (t : Fin cfg0.N) (r : Fin 256) (o : Fin 576) :
    k0_pay8 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t)) (ix3 0 r o)
      = Mom (m ((c : Thread nD τ).loc main_arg0)) (m ((c : Thread nD τ).loc main_arg1)) (m ((c : Thread nD τ).loc main_arg3)) (ix3 ⟨t.val / 4, layer_lt t⟩ ⟨256 * (t.val % 4) + r.val, row_lt _ r⟩ o) := by
  show _ = Adam.mom _ _
  rw [← sum_grad m c t r o, ← g3 m c t r o, ← whole (iblk m c 3 t) r o]
  pointwise [k0_pay8, k0_pay5, k0_pay13, k0_pay4, Adam.mom]

theorem point8 (c : Dev nD) (t : Fin cfg0.N) (r : Fin 256) (o : Fin 576) :
    k0_pay9 (k0_pay12 (grid0.coords t) (iblk m c 0 t) (iblk m c 1 t) (iblk m c 2 t) (iblk m c 3 t) (iblk m c 4 t))
      (iblk m c 4 t) (ix3 0 r o)
      = Var (m ((c : Thread nD τ).loc main_arg0)) (m ((c : Thread nD τ).loc main_arg1)) (m ((c : Thread nD τ).loc main_arg4)) (ix3 ⟨t.val / 4, layer_lt t⟩ ⟨256 * (t.val % 4) + r.val, row_lt _ r⟩ o) := by
  show _ = Adam.var _ _
  rw [← sum_grad m c t r o, ← g4 m c t r o]
  pointwise [k0_pay9, k0_pay6, Adam.var]

theorem point6 (c : Dev nD) (t : Fin cfg0.N) (r : Fin 256) (o : Fin 576) :
    k0_pay1 (k0_pay10 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t))
      (iblk m c 4 t)) (k0_pay11 (iblk m c 2 t)) (ix3 0 r o)
      = Change (m ((c : Thread nD τ).loc main_arg0)) (m ((c : Thread nD τ).loc main_arg1)) (m ((c : Thread nD τ).loc main_arg2)) (m ((c : Thread nD τ).loc main_arg3))
        (m ((c : Thread nD τ).loc main_arg4)) (ix3 ⟨t.val / 4, layer_lt t⟩ ⟨256 * (t.val % 4) + r.val, row_lt _ r⟩ o) := by
  show _ = Adam.change _ _ _ _
  rw [← sum_grad m c t r o, ← g2 m c t r o, ← g3 m c t r o, ← g4 m c t r o, ← whole (iblk m c 3 t) r o]
  pointwise [k0_pay1, k0_pay10, k0_pay5, k0_pay6, k0_pay11, k0_pay13, k0_pay4, Adam.change, Adam.mom, Adam.var]

theorem result5 (c : Dev nD) : (dats m 0 c).arrAt 5 (cfgs 0).N
    = Grad (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, o, h⟩ := one_row y
  subst h
  exact (point5 m c t r o).trans (emb5 _ t r o).symm

theorem result6 (c : Dev nD) : (dats m 0 c).arrAt 6 (cfgs 0).N
    = Change (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, o, h⟩ := one_row y
  subst h
  exact (point6 m c t r o).trans (emb6 _ t r o).symm

theorem result7 (c : Dev nD) : (dats m 0 c).arrAt 7 (cfgs 0).N
    = Mom (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  obtain ⟨r, o, h⟩ := one_row y
  subst h
  exact (point7 m c t r o).trans (emb7 _ t r o).symm

theorem result8 (c : Dev nD) : (dats m 0 c).arrAt 8 (cfgs 0).N
    = Var (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  obtain ⟨r, o, h⟩ := one_row y
  subst h
  exact (point8 m c t r o).trans (emb8 _ t r o).symm

end Cert.AdamInIdeal.Value

namespace Cert.Proof

/-- Kernel and reference leave equal gradients, changes and moments. -/
theorem algebraic_AdamIn : Cert.algebraic_AdamInIdeal_AdamInRefIdeal := by
  pair_intro
  · run_from Cert.AdamInIdeal.Gen.run_main m g
  · run_from Cert.AdamInRefIdeal.Value.run m' g'
    · rw [Cert.AdamInIdeal.Value.result5 m c, ← (hagree c).1, ← (hagree c).2.1]
      exact Cert.AdamInRefIdeal.Value.grad_eq _ _
    · rw [Cert.AdamInIdeal.Value.result6 m c, ← (hagree c).1, ← (hagree c).2.1, ← (hagree c).2.2.1, ← (hagree c).2.2.2.1,
        ← (hagree c).2.2.2.2]
      exact Cert.AdamInRefIdeal.Value.change_eq _ _ _ _ _
    · rw [Cert.AdamInIdeal.Value.result7 m c, ← (hagree c).1, ← (hagree c).2.1, ← (hagree c).2.2.2.1]
      exact Cert.AdamInRefIdeal.Value.mom_eq _ _ _
    · rw [Cert.AdamInIdeal.Value.result8 m c, ← (hagree c).1, ← (hagree c).2.1, ← (hagree c).2.2.2.2]
      exact Cert.AdamInRefIdeal.Value.var_eq _ _ _

/-- The reference runs to an end and leaves its arguments alone. -/
theorem frame_AdamIn_ref : Cert.quiescent_AdamInRefIdeal := fun m ρ _ =>
  (θ_run Cert.AdamInRefIdeal.defs _ _).mono
    (fun r h => ⟨fun c => (h c).2.2.2.2, sem_eq_zero_of_no_sems (by decide) r.2⟩)
    (Cert.AdamInRefIdeal.Value.run (F := Ideal) m ρ)

end Cert.Proof

end
-- ==== Proof.AdamNarrow.lean ====
module

public import proofs.«01_k».proof.Defs
public import proofs.«01_k».proof.Proof.Adam
public import proofs.«01_k».proof.Proof.Gen.AdamNarrowIdeal.Value
public import proofs.«01_k».proof.Proof.Gen.AdamNarrowRefIdeal.Run
public import proofs.«01_k».proof.Proof.Gen.AdamNarrowRefIdeal.Read
public import Idealize.ShloMosaic.Lib.Pipeline.ValueKit
public import Idealize.ShloMosaic.Lib.Claim
public import Idealize.ShloMosaic.Lib.Quiescent

/-!
`AdamNarrow`: the optimiser's call for the first and third branch projections. A layer's gradient is the sum of the eight devices' parts; the
moments and the parameter's change follow from it entry by entry.
-/

@[expose] public section

set_option maxRecDepth 16384
set_option maxHeartbeats 1000000

noncomputable section

open Idealize.ShloMosaic Idealize.ShloMosaic.TcCoe Idealize.SL.Sem
open Idealize.ShloMosaic.Pipeline (Dat)

namespace Cert.AdamNarrowRefIdeal.Value
open Cert.AdamNarrowRefIdeal Cert.AdamNarrowRefIdeal.Read

/-- A layer's gradient: the sum of the devices' parts. -/
def grad (p q : FVec Ideal S8x256x128 .bf16) (l : Fin 2) (r : Fin 256) (o : Fin 128) : EReal :=
  if l.val = 0 then ∑ k : Fin 8, p (ix3 k r o) else ∑ k : Fin 8, q (ix3 k r o)

/-- Both layers' gradients. -/
def Grad (p q : FVec Ideal S8x256x128 .bf16) : FVec Ideal S2x256x128 .f32 := fun i => grad p q (i 0) (i 1) (i 2)

theorem Grad_apply (p q : FVec Ideal S8x256x128 .bf16) (l : Fin 2) (r : Fin 256) (o : Fin 128) : Grad p q (ix3 l r o)
    = if l.val = 0 then ∑ k : Fin 8, p (ix3 k r o) else ∑ k : Fin 8, q (ix3 k r o) := rfl

/-- The first moments after the step. -/
def Mom (p q : FVec Ideal S8x256x128 .bf16) (m : FVec Ideal S2x256x128 .f32) : FVec Ideal S2x256x128 .f32 :=
  fun i => Adam.mom (Grad p q i) (m i)

/-- The second moments after the step. -/
def Var (p q : FVec Ideal S8x256x128 .bf16) (v : FVec Ideal S2x256x128 .f32) : FVec Ideal S2x256x128 .f32 :=
  fun i => Adam.var (Grad p q i) (v i)

/-- The parameters' changes. -/
def Change (p q : FVec Ideal S8x256x128 .bf16) (w m v : FVec Ideal S2x256x128 .f32) : FVec Ideal S2x256x128 .f32 :=
  fun i => Adam.change (w i) (Grad p q i) (m i) (v i)

/-- The reference sums the devices' parts. -/
theorem grad_eq (p q : FVec Ideal S8x256x128 .bf16) : val_main_v6 (F := Ideal) p q = Grad p q := by
  funext i
  idx_vars i
  simp only [val_main_v6, val_main_v5, val_main_v4, val_main_v3, val_main_v1, val_main_v2, val_main_v0, val_main_cst, val_main_cst_0, Grad, grad]
  pointwise
  split_ifs <;> first | rfl | omega

/-- The reference's first moments. -/
theorem mom_eq (p q : FVec Ideal S8x256x128 .bf16) (m : FVec Ideal S2x256x128 .f32) :
    val_main_v11 (F := Ideal) p q m = Mom p q m := by
  unfold val_main_v11 val_main_v10
  rw [grad_eq]
  rfl

/-- The reference's second moments. -/
theorem var_eq (p q : FVec Ideal S8x256x128 .bf16) (x : FVec Ideal S2x256x128 .f32) :
    val_main_v17 (F := Ideal) p q x = Var p q x := by
  unfold val_main_v17 val_main_v16 val_main_v14
  rw [grad_eq]
  rfl

/-- The reference's changes. -/
theorem change_eq (p q : FVec Ideal S8x256x128 .bf16) (w m x : FVec Ideal S2x256x128 .f32) :
    val_main_v30 (F := Ideal) p q w m x = Change p q w m x := by
  unfold val_main_v30 val_main_v28 val_main_v25 val_main_v24 val_main_v22 val_main_v21 val_main_v19
  rw [mom_eq, var_eq]
  rfl

end Cert.AdamNarrowRefIdeal.Value

namespace Cert.AdamNarrowIdeal.Value
open Cert.AdamNarrowIdeal Cert.AdamNarrowIdeal.Gen
open Cert.AdamNarrowRefIdeal.Value (grad Grad Mom Var Change)

variable (m : (ℓ : Loc nD τ sig) → Buf (Elt Ideal) ℓ)

theorem lt (t : Fin cfg0.N) : t.val < 2 := lt_of_lt_of_eq t.isLt N_0

/-- The grid runs over a layer's row blocks, then the next layer's. -/
theorem crd : ∀ t : Fin cfg0.N, (grid0.coords t 0).val = t.val / 1 :=
  (by decide +kernel : ∀ t : Fin grid0.N, _)

/-- Each window's block at grid point `t`. -/
theorem idx : ∀ t : Fin cfg0.N, win0_2.index t = ![t.val / 1, t.val % 1, 0]
    ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0]
    ∧ win0_7.index t = ![t.val / 1, t.val % 1, 0] ∧ win0_8.index t = ![t.val / 1, t.val % 1, 0] :=
  (by decide +kernel : ∀ t : Fin grid0.N, _)

/-- The first layer's parts move with the first half of the grid. -/
theorem idx0 : ∀ t : Fin cfg0.N, t.val / 1 = 0 → win0_0.index t = ![0, t.val % 1, 0] :=
  (by decide +kernel : ∀ t : Fin grid0.N, _)

/-- The second layer's parts move with the second half. -/
theorem idx1 : ∀ t : Fin cfg0.N, ¬ t.val / 1 = 0 → win0_1.index t = ![0, t.val % 1, 0] :=
  (by decide +kernel : ∀ t : Fin grid0.N, _)

theorem row_lt (n : ℕ) (r : Fin 256) : 256 * (n % 1) + r.val < 256 := by
  have := Nat.mod_lt n (by decide : 0 < 1)
  omega

theorem layer_lt (t : Fin cfg0.N) : t.val / 1 < 2 := by
  have := lt t
  omega

/-- A block of one layer's rows is indexed by row and column. -/
theorem one_row (y : (S1x256x128 : Shape).Idx) : ∃ (r : Fin 256) (o : Fin 128), y = ix3 0 r o :=
  ⟨y 1, y 2, by
    funext a
    fin_cases a
    · exact Subsingleton.elim (α := Fin 1) _ _
    · rfl
    · rfl⟩

/-- One device's part of a block. -/
theorem part (x : FVec Ideal S8x256x128 .bf16) (k : ℕ) (hk : k < 8) (h) (r : Fin 256) (o : Fin 128) :
    View.ld (Val := Elt Ideal) (e' := .bf16) x (Rect.unit (s := S8x256x128) ![k, 0, 0] S1x256x128.size h) (ix3 0 r o)
      = x (ix3 ⟨k, hk⟩ r o) := by
  refine congrArg x (funext fun a => ?_)
  fin_cases a <;> exact Fin.ext (by simp [LoadRect.idx, Rect.unit, ix3])

/-- The whole of a block. -/
theorem whole (x : FVec Ideal S1x256x128 .f32) (r : Fin 256) (o : Fin 128) :
    View.ld (Val := Elt Ideal) (e' := .f32) x r0_8 (ix3 0 r o) = x (ix3 0 r o) := by
  refine congrArg x (funext fun a => ?_)
  fin_cases a <;> exact Fin.ext (by simp [LoadRect.idx, Rect.unit, ix3])

theorem g0 (c : Dev nD) (t : Fin cfg0.N) (h : t.val / 1 = 0) (k : Fin 8) (r : Fin 256) (o : Fin 128) :
    iblk m c 0 t (ix3 k r o) = m ((c : Thread nD τ).loc main_arg0) (ix3 k ⟨256 * (t.val % 1) + r.val, row_lt _ r⟩ o) := by
  blk_point [iblk, V, idx0 t h]

theorem g1 (c : Dev nD) (t : Fin cfg0.N) (h : ¬ t.val / 1 = 0) (k : Fin 8) (r : Fin 256) (o : Fin 128) :
    iblk m c 1 t (ix3 k r o) = m ((c : Thread nD τ).loc main_arg1) (ix3 k ⟨256 * (t.val % 1) + r.val, row_lt _ r⟩ o) := by
  blk_point [iblk, V, idx1 t h]

theorem g2 (c : Dev nD) (t : Fin cfg0.N) (r : Fin 256) (o : Fin 128) :
    iblk m c 2 t (ix3 0 r o) = m ((c : Thread nD τ).loc main_arg2)
      (ix3 ⟨t.val / 1, layer_lt t⟩ ⟨256 * (t.val % 1) + r.val, row_lt _ r⟩ o) := by
  blk_point [iblk, V, idx t]

theorem g3 (c : Dev nD) (t : Fin cfg0.N) (r : Fin 256) (o : Fin 128) :
    iblk m c 3 t (ix3 0 r o) = m ((c : Thread nD τ).loc main_arg3)
      (ix3 ⟨t.val / 1, layer_lt t⟩ ⟨256 * (t.val % 1) + r.val, row_lt _ r⟩ o) := by
  blk_point [iblk, V, idx t]

theorem g4 (c : Dev nD) (t : Fin cfg0.N) (r : Fin 256) (o : Fin 128) :
    iblk m c 4 t (ix3 0 r o) = m ((c : Thread nD τ).loc main_arg4)
      (ix3 ⟨t.val / 1, layer_lt t⟩ ⟨256 * (t.val % 1) + r.val, row_lt _ r⟩ o) := by
  blk_point [iblk, V, idx t]

theorem emb5 (x : FVec Ideal S2x256x128 .f32) (t : Fin cfg0.N) (r : Fin 256) (o : Fin 128) :
    x (((cfg0.win 5).blk t).view.emb (ix3 0 r o))
      = x (ix3 ⟨t.val / 1, layer_lt t⟩ ⟨256 * (t.val % 1) + r.val, row_lt _ r⟩ o) := by
  blk_point [idx t]

theorem emb6 (x : FVec Ideal S2x256x128 .f32) (t : Fin cfg0.N) (r : Fin 256) (o : Fin 128) :
    x (((cfg0.win 6).blk t).view.emb (ix3 0 r o))
      = x (ix3 ⟨t.val / 1, layer_lt t⟩ ⟨256 * (t.val % 1) + r.val, row_lt _ r⟩ o) := by
  blk_point [idx t]

theorem emb7 (x : FVec Ideal S2x256x128 .f32) (t : Fin cfg0.N) (r : Fin 256) (o : Fin 128) :
    x (((cfg0.win 7).blk t).view.emb (ix3 0 r o))
      = x (ix3 ⟨t.val / 1, layer_lt t⟩ ⟨256 * (t.val % 1) + r.val, row_lt _ r⟩ o) := by
  blk_point [idx t]

theorem emb8 (x : FVec Ideal S2x256x128 .f32) (t : Fin cfg0.N) (r : Fin 256) (o : Fin 128) :
    x (((cfg0.win 8).blk t).view.emb (ix3 0 r o))
      = x (ix3 ⟨t.val / 1, layer_lt t⟩ ⟨256 * (t.val % 1) + r.val, row_lt _ r⟩ o) := by
  blk_point [idx t]

/-- The sum of the devices' parts of the first layer. -/
theorem sum0 (x : FVec Ideal S8x256x128 .bf16) (r : Fin 256) (o : Fin 128) :
    k0_pay2 (F := Ideal) (View.ld x r0_0) (View.ld x r0_1) (View.ld x r0_2) (View.ld x r0_3) (View.ld x r0_4) (View.ld x r0_5)
      (View.ld x r0_6) (View.ld x r0_7) (ix2 r o) = ∑ k : Fin 8, x (ix3 k r o) := by
  rw [Fin.sum_univ_eight]
  pointwise [k0_pay2]

/-- A block's gradient. -/
theorem sum_at (i : grid0.Coords) (h : (i 0).val < 2) (x y : FVec Ideal S8x256x128 .bf16) (w a b : FVec Ideal S1x256x128 .f32)
    (r : Fin 256) (o : Fin 128) :
    k0_pay12 (F := Ideal) i x y w a b (ix2 r o)
      = if (i 0).val = 0 then ∑ k : Fin 8, x (ix3 k r o) else ∑ k : Fin 8, y (ix3 k r o) := by
  refine Eq.trans ?_ (Adam.sel (i 0).val h _ _)
  rw [← sum0 x r o, Fin.sum_univ_eight]
  pointwise [k0_pay12, k0_pay3]

/-- A block's gradient is the layers' gradient there. -/
theorem sum_grad (c : Dev nD) (t : Fin cfg0.N) (r : Fin 256) (o : Fin 128) :
    k0_pay12 (F := Ideal) (grid0.coords t) (iblk m c 0 t) (iblk m c 1 t) (iblk m c 2 t) (iblk m c 3 t) (iblk m c 4 t) (ix2 r o)
      = Grad (m ((c : Thread nD τ).loc main_arg0)) (m ((c : Thread nD τ).loc main_arg1)) (ix3 ⟨t.val / 1, layer_lt t⟩ ⟨256 * (t.val % 1) + r.val, row_lt _ r⟩ o) := by
  rw [sum_at _ (by rw [crd t]; exact layer_lt t), crd t]
  rw [Cert.AdamNarrowRefIdeal.Value.Grad_apply]
  by_cases h : t.val / 1 = 0
  · rw [if_pos h, if_pos h]
    exact Finset.sum_congr rfl fun k _ => g0 m c t h k r o
  · rw [if_neg h, if_neg h]
    exact Finset.sum_congr rfl fun k _ => g1 m c t h k r o

theorem point5 (c : Dev nD) (t : Fin cfg0.N) (r : Fin 256) (o : Fin 128) :
    k0_pay7 (k0_pay12 (grid0.coords t) (iblk m c 0 t) (iblk m c 1 t) (iblk m c 2 t) (iblk m c 3 t) (iblk m c 4 t)) (ix3 0 r o)
      = Grad (m ((c : Thread nD τ).loc main_arg0)) (m ((c : Thread nD τ).loc main_arg1)) (ix3 ⟨t.val / 1, layer_lt t⟩ ⟨256 * (t.val % 1) + r.val, row_lt _ r⟩ o) := by
  rw [← sum_grad m c t r o]
  pointwise [k0_pay7]

theorem point7 (c : Dev nD) (t : Fin cfg0.N) (r : Fin 256) (o : Fin 128) :
    k0_pay8 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t)) (ix3 0 r o)
      = Mom (m ((c : Thread nD τ).loc main_arg0)) (m ((c : Thread nD τ).loc main_arg1)) (m ((c : Thread nD τ).loc main_arg3)) (ix3 ⟨t.val / 1, layer_lt t⟩ ⟨256 * (t.val % 1) + r.val, row_lt _ r⟩ o) := by
  show _ = Adam.mom _ _
  rw [← sum_grad m c t r o, ← g3 m c t r o, ← whole (iblk m c 3 t) r o]
  pointwise [k0_pay8, k0_pay5, k0_pay13, k0_pay4, Adam.mom]

theorem point8 (c : Dev nD) (t : Fin cfg0.N) (r : Fin 256) (o : Fin 128) :
    k0_pay9 (k0_pay12 (grid0.coords t) (iblk m c 0 t) (iblk m c 1 t) (iblk m c 2 t) (iblk m c 3 t) (iblk m c 4 t))
      (iblk m c 4 t) (ix3 0 r o)
      = Var (m ((c : Thread nD τ).loc main_arg0)) (m ((c : Thread nD τ).loc main_arg1)) (m ((c : Thread nD τ).loc main_arg4)) (ix3 ⟨t.val / 1, layer_lt t⟩ ⟨256 * (t.val % 1) + r.val, row_lt _ r⟩ o) := by
  show _ = Adam.var _ _
  rw [← sum_grad m c t r o, ← g4 m c t r o]
  pointwise [k0_pay9, k0_pay6, Adam.var]

theorem point6 (c : Dev nD) (t : Fin cfg0.N) (r : Fin 256) (o : Fin 128) :
    k0_pay1 (k0_pay10 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t))
      (iblk m c 4 t)) (k0_pay11 (iblk m c 2 t)) (ix3 0 r o)
      = Change (m ((c : Thread nD τ).loc main_arg0)) (m ((c : Thread nD τ).loc main_arg1)) (m ((c : Thread nD τ).loc main_arg2)) (m ((c : Thread nD τ).loc main_arg3))
        (m ((c : Thread nD τ).loc main_arg4)) (ix3 ⟨t.val / 1, layer_lt t⟩ ⟨256 * (t.val % 1) + r.val, row_lt _ r⟩ o) := by
  show _ = Adam.change _ _ _ _
  rw [← sum_grad m c t r o, ← g2 m c t r o, ← g3 m c t r o, ← g4 m c t r o, ← whole (iblk m c 3 t) r o]
  pointwise [k0_pay1, k0_pay10, k0_pay5, k0_pay6, k0_pay11, k0_pay13, k0_pay4, Adam.change, Adam.mom, Adam.var]

theorem result5 (c : Dev nD) : (dats m 0 c).arrAt 5 (cfgs 0).N
    = Grad (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, o, h⟩ := one_row y
  subst h
  exact (point5 m c t r o).trans (emb5 _ t r o).symm

theorem result6 (c : Dev nD) : (dats m 0 c).arrAt 6 (cfgs 0).N
    = Change (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, o, h⟩ := one_row y
  subst h
  exact (point6 m c t r o).trans (emb6 _ t r o).symm

theorem result7 (c : Dev nD) : (dats m 0 c).arrAt 7 (cfgs 0).N
    = Mom (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  obtain ⟨r, o, h⟩ := one_row y
  subst h
  exact (point7 m c t r o).trans (emb7 _ t r o).symm

theorem result8 (c : Dev nD) : (dats m 0 c).arrAt 8 (cfgs 0).N
    = Var (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  obtain ⟨r, o, h⟩ := one_row y
  subst h
  exact (point8 m c t r o).trans (emb8 _ t r o).symm

end Cert.AdamNarrowIdeal.Value

namespace Cert.Proof

/-- Kernel and reference leave equal gradients, changes and moments. -/
theorem algebraic_AdamNarrow : Cert.algebraic_AdamNarrowIdeal_AdamNarrowRefIdeal := by
  pair_intro
  · run_from Cert.AdamNarrowIdeal.Gen.run_main m g
  · run_from Cert.AdamNarrowRefIdeal.Value.run m' g'
    · rw [Cert.AdamNarrowIdeal.Value.result5 m c, ← (hagree c).1, ← (hagree c).2.1]
      exact Cert.AdamNarrowRefIdeal.Value.grad_eq _ _
    · rw [Cert.AdamNarrowIdeal.Value.result6 m c, ← (hagree c).1, ← (hagree c).2.1, ← (hagree c).2.2.1, ← (hagree c).2.2.2.1,
        ← (hagree c).2.2.2.2]
      exact Cert.AdamNarrowRefIdeal.Value.change_eq _ _ _ _ _
    · rw [Cert.AdamNarrowIdeal.Value.result7 m c, ← (hagree c).1, ← (hagree c).2.1, ← (hagree c).2.2.2.1]
      exact Cert.AdamNarrowRefIdeal.Value.mom_eq _ _ _
    · rw [Cert.AdamNarrowIdeal.Value.result8 m c, ← (hagree c).1, ← (hagree c).2.1, ← (hagree c).2.2.2.2]
      exact Cert.AdamNarrowRefIdeal.Value.var_eq _ _ _

/-- The reference runs to an end and leaves its arguments alone. -/
theorem frame_AdamNarrow_ref : Cert.quiescent_AdamNarrowRefIdeal := fun m ρ _ =>
  (θ_run Cert.AdamNarrowRefIdeal.defs _ _).mono
    (fun r h => ⟨fun c => (h c).2.2.2.2, sem_eq_zero_of_no_sems (by decide) r.2⟩)
    (Cert.AdamNarrowRefIdeal.Value.run (F := Ideal) m ρ)

end Cert.Proof

end
-- ==== Proof.AdamMiddle.lean ====
module

public import proofs.«01_k».proof.Defs
public import proofs.«01_k».proof.Proof.Adam
public import proofs.«01_k».proof.Proof.Gen.AdamMiddleIdeal.Value
public import proofs.«01_k».proof.Proof.Gen.AdamMiddleRefIdeal.Run
public import proofs.«01_k».proof.Proof.Gen.AdamMiddleRefIdeal.Read
public import Idealize.ShloMosaic.Lib.Pipeline.ValueKit
public import Idealize.ShloMosaic.Lib.Claim
public import Idealize.ShloMosaic.Lib.Quiescent

/-!
`AdamMiddle`: the optimiser's call for the second branch projection. A layer's gradient is the sum of the eight devices' parts; the
moments and the parameter's change follow from it entry by entry.
-/

@[expose] public section

set_option maxRecDepth 16384
set_option maxHeartbeats 1000000

noncomputable section

open Idealize.ShloMosaic Idealize.ShloMosaic.TcCoe Idealize.SL.Sem
open Idealize.ShloMosaic.Pipeline (Dat)

namespace Cert.AdamMiddleRefIdeal.Value
open Cert.AdamMiddleRefIdeal Cert.AdamMiddleRefIdeal.Read

/-- A layer's gradient: the sum of the devices' parts. -/
def grad (p q : FVec Ideal S8x512x128 .bf16) (l : Fin 2) (r : Fin 512) (o : Fin 128) : EReal :=
  if l.val = 0 then ∑ k : Fin 8, p (ix3 k r o) else ∑ k : Fin 8, q (ix3 k r o)

/-- Both layers' gradients. -/
def Grad (p q : FVec Ideal S8x512x128 .bf16) : FVec Ideal S2x512x128 .f32 := fun i => grad p q (i 0) (i 1) (i 2)

theorem Grad_apply (p q : FVec Ideal S8x512x128 .bf16) (l : Fin 2) (r : Fin 512) (o : Fin 128) : Grad p q (ix3 l r o)
    = if l.val = 0 then ∑ k : Fin 8, p (ix3 k r o) else ∑ k : Fin 8, q (ix3 k r o) := rfl

/-- The first moments after the step. -/
def Mom (p q : FVec Ideal S8x512x128 .bf16) (m : FVec Ideal S2x512x128 .f32) : FVec Ideal S2x512x128 .f32 :=
  fun i => Adam.mom (Grad p q i) (m i)

/-- The second moments after the step. -/
def Var (p q : FVec Ideal S8x512x128 .bf16) (v : FVec Ideal S2x512x128 .f32) : FVec Ideal S2x512x128 .f32 :=
  fun i => Adam.var (Grad p q i) (v i)

/-- The parameters' changes. -/
def Change (p q : FVec Ideal S8x512x128 .bf16) (w m v : FVec Ideal S2x512x128 .f32) : FVec Ideal S2x512x128 .f32 :=
  fun i => Adam.change (w i) (Grad p q i) (m i) (v i)

/-- The reference sums the devices' parts. -/
theorem grad_eq (p q : FVec Ideal S8x512x128 .bf16) : val_main_v6 (F := Ideal) p q = Grad p q := by
  funext i
  idx_vars i
  simp only [val_main_v6, val_main_v5, val_main_v4, val_main_v3, val_main_v1, val_main_v2, val_main_v0, val_main_cst, val_main_cst_0, Grad, grad]
  pointwise
  split_ifs <;> first | rfl | omega

/-- The reference's first moments. -/
theorem mom_eq (p q : FVec Ideal S8x512x128 .bf16) (m : FVec Ideal S2x512x128 .f32) :
    val_main_v11 (F := Ideal) p q m = Mom p q m := by
  unfold val_main_v11 val_main_v10
  rw [grad_eq]
  rfl

/-- The reference's second moments. -/
theorem var_eq (p q : FVec Ideal S8x512x128 .bf16) (x : FVec Ideal S2x512x128 .f32) :
    val_main_v17 (F := Ideal) p q x = Var p q x := by
  unfold val_main_v17 val_main_v16 val_main_v14
  rw [grad_eq]
  rfl

/-- The reference's changes. -/
theorem change_eq (p q : FVec Ideal S8x512x128 .bf16) (w m x : FVec Ideal S2x512x128 .f32) :
    val_main_v30 (F := Ideal) p q w m x = Change p q w m x := by
  unfold val_main_v30 val_main_v28 val_main_v25 val_main_v24 val_main_v22 val_main_v21 val_main_v19
  rw [mom_eq, var_eq]
  rfl

end Cert.AdamMiddleRefIdeal.Value

namespace Cert.AdamMiddleIdeal.Value
open Cert.AdamMiddleIdeal Cert.AdamMiddleIdeal.Gen
open Cert.AdamMiddleRefIdeal.Value (grad Grad Mom Var Change)

variable (m : (ℓ : Loc nD τ sig) → Buf (Elt Ideal) ℓ)

theorem lt (t : Fin cfg0.N) : t.val < 4 := lt_of_lt_of_eq t.isLt N_0

/-- The grid runs over a layer's row blocks, then the next layer's. -/
theorem crd : ∀ t : Fin cfg0.N, (grid0.coords t 0).val = t.val / 2 :=
  (by decide +kernel : ∀ t : Fin grid0.N, _)

/-- Each window's block at grid point `t`. -/
theorem idx : ∀ t : Fin cfg0.N, win0_2.index t = ![t.val / 2, t.val % 2, 0]
    ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

/-- The first layer's parts move with the first half of the grid. -/
theorem idx0 : ∀ t : Fin cfg0.N, t.val / 2 = 0 → win0_0.index t = ![0, t.val % 2, 0] :=
  (by decide +kernel : ∀ t : Fin grid0.N, _)

/-- The second layer's parts move with the second half. -/
theorem idx1 : ∀ t : Fin cfg0.N, ¬ t.val / 2 = 0 → win0_1.index t = ![0, t.val % 2, 0] :=
  (by decide +kernel : ∀ t : Fin grid0.N, _)

theorem row_lt (n : ℕ) (r : Fin 256) : 256 * (n % 2) + r.val < 512 := by
  have := Nat.mod_lt n (by decide : 0 < 2)
  omega

theorem layer_lt (t : Fin cfg0.N) : t.val / 2 < 2 := by
  have := lt t
  omega

/-- A block of one layer's rows is indexed by row and column. -/
theorem one_row (y : (S1x256x128 : Shape).Idx) : ∃ (r : Fin 256) (o : Fin 128), y = ix3 0 r o :=
  ⟨y 1, y 2, by
    funext a
    fin_cases a
    · exact Subsingleton.elim (α := Fin 1) _ _
    · rfl
    · rfl⟩

/-- One device's part of a block. -/
theorem part (x : FVec Ideal S8x256x128 .bf16) (k : ℕ) (hk : k < 8) (h) (r : Fin 256) (o : Fin 128) :
    View.ld (Val := Elt Ideal) (e' := .bf16) x (Rect.unit (s := S8x256x128) ![k, 0, 0] S1x256x128.size h) (ix3 0 r o)
      = x (ix3 ⟨k, hk⟩ r o) := by
  refine congrArg x (funext fun a => ?_)
  fin_cases a <;> exact Fin.ext (by simp [LoadRect.idx, Rect.unit, ix3])

/-- The whole of a block. -/
theorem whole (x : FVec Ideal S1x256x128 .f32) (r : Fin 256) (o : Fin 128) :
    View.ld (Val := Elt Ideal) (e' := .f32) x r0_8 (ix3 0 r o) = x (ix3 0 r o) := by
  refine congrArg x (funext fun a => ?_)
  fin_cases a <;> exact Fin.ext (by simp [LoadRect.idx, Rect.unit, ix3])

theorem g0 (c : Dev nD) (t : Fin cfg0.N) (h : t.val / 2 = 0) (k : Fin 8) (r : Fin 256) (o : Fin 128) :
    iblk m c 0 t (ix3 k r o) = m ((c : Thread nD τ).loc main_arg0) (ix3 k ⟨256 * (t.val % 2) + r.val, row_lt _ r⟩ o) := by
  blk_point [iblk, V, idx0 t h]

theorem g1 (c : Dev nD) (t : Fin cfg0.N) (h : ¬ t.val / 2 = 0) (k : Fin 8) (r : Fin 256) (o : Fin 128) :
    iblk m c 1 t (ix3 k r o) = m ((c : Thread nD τ).loc main_arg1) (ix3 k ⟨256 * (t.val % 2) + r.val, row_lt _ r⟩ o) := by
  blk_point [iblk, V, idx1 t h]

theorem g2 (c : Dev nD) (t : Fin cfg0.N) (r : Fin 256) (o : Fin 128) :
    iblk m c 2 t (ix3 0 r o) = m ((c : Thread nD τ).loc main_arg2)
      (ix3 ⟨t.val / 2, layer_lt t⟩ ⟨256 * (t.val % 2) + r.val, row_lt _ r⟩ o) := by
  blk_point [iblk, V, idx t]

theorem g3 (c : Dev nD) (t : Fin cfg0.N) (r : Fin 256) (o : Fin 128) :
    iblk m c 3 t (ix3 0 r o) = m ((c : Thread nD τ).loc main_arg3)
      (ix3 ⟨t.val / 2, layer_lt t⟩ ⟨256 * (t.val % 2) + r.val, row_lt _ r⟩ o) := by
  blk_point [iblk, V, idx t]

theorem g4 (c : Dev nD) (t : Fin cfg0.N) (r : Fin 256) (o : Fin 128) :
    iblk m c 4 t (ix3 0 r o) = m ((c : Thread nD τ).loc main_arg4)
      (ix3 ⟨t.val / 2, layer_lt t⟩ ⟨256 * (t.val % 2) + r.val, row_lt _ r⟩ o) := by
  blk_point [iblk, V, idx t]

theorem emb5 (x : FVec Ideal S2x512x128 .f32) (t : Fin cfg0.N) (r : Fin 256) (o : Fin 128) :
    x (((cfg0.win 5).blk t).view.emb (ix3 0 r o))
      = x (ix3 ⟨t.val / 2, layer_lt t⟩ ⟨256 * (t.val % 2) + r.val, row_lt _ r⟩ o) := by
  blk_point [idx t]

theorem emb6 (x : FVec Ideal S2x512x128 .f32) (t : Fin cfg0.N) (r : Fin 256) (o : Fin 128) :
    x (((cfg0.win 6).blk t).view.emb (ix3 0 r o))
      = x (ix3 ⟨t.val / 2, layer_lt t⟩ ⟨256 * (t.val % 2) + r.val, row_lt _ r⟩ o) := by
  blk_point [idx t]

theorem emb7 (x : FVec Ideal S2x512x128 .f32) (t : Fin cfg0.N) (r : Fin 256) (o : Fin 128) :
    x (((cfg0.win 7).blk t).view.emb (ix3 0 r o))
      = x (ix3 ⟨t.val / 2, layer_lt t⟩ ⟨256 * (t.val % 2) + r.val, row_lt _ r⟩ o) := by
  blk_point [idx t]

theorem emb8 (x : FVec Ideal S2x512x128 .f32) (t : Fin cfg0.N) (r : Fin 256) (o : Fin 128) :
    x (((cfg0.win 8).blk t).view.emb (ix3 0 r o))
      = x (ix3 ⟨t.val / 2, layer_lt t⟩ ⟨256 * (t.val % 2) + r.val, row_lt _ r⟩ o) := by
  blk_point [idx t]

/-- The sum of the devices' parts of the first layer. -/
theorem sum0 (x : FVec Ideal S8x256x128 .bf16) (r : Fin 256) (o : Fin 128) :
    k0_pay2 (F := Ideal) (View.ld x r0_0) (View.ld x r0_1) (View.ld x r0_2) (View.ld x r0_3) (View.ld x r0_4) (View.ld x r0_5)
      (View.ld x r0_6) (View.ld x r0_7) (ix2 r o) = ∑ k : Fin 8, x (ix3 k r o) := by
  rw [Fin.sum_univ_eight]
  pointwise [k0_pay2]

/-- A block's gradient. -/
theorem sum_at (i : grid0.Coords) (h : (i 0).val < 2) (x y : FVec Ideal S8x256x128 .bf16) (w a b : FVec Ideal S1x256x128 .f32)
    (r : Fin 256) (o : Fin 128) :
    k0_pay12 (F := Ideal) i x y w a b (ix2 r o)
      = if (i 0).val = 0 then ∑ k : Fin 8, x (ix3 k r o) else ∑ k : Fin 8, y (ix3 k r o) := by
  refine Eq.trans ?_ (Adam.sel (i 0).val h _ _)
  rw [← sum0 x r o, Fin.sum_univ_eight]
  pointwise [k0_pay12, k0_pay3]

/-- A block's gradient is the layers' gradient there. -/
theorem sum_grad (c : Dev nD) (t : Fin cfg0.N) (r : Fin 256) (o : Fin 128) :
    k0_pay12 (F := Ideal) (grid0.coords t) (iblk m c 0 t) (iblk m c 1 t) (iblk m c 2 t) (iblk m c 3 t) (iblk m c 4 t) (ix2 r o)
      = Grad (m ((c : Thread nD τ).loc main_arg0)) (m ((c : Thread nD τ).loc main_arg1)) (ix3 ⟨t.val / 2, layer_lt t⟩ ⟨256 * (t.val % 2) + r.val, row_lt _ r⟩ o) := by
  rw [sum_at _ (by rw [crd t]; exact layer_lt t), crd t]
  rw [Cert.AdamMiddleRefIdeal.Value.Grad_apply]
  by_cases h : t.val / 2 = 0
  · rw [if_pos h, if_pos h]
    exact Finset.sum_congr rfl fun k _ => g0 m c t h k r o
  · rw [if_neg h, if_neg h]
    exact Finset.sum_congr rfl fun k _ => g1 m c t h k r o

theorem point5 (c : Dev nD) (t : Fin cfg0.N) (r : Fin 256) (o : Fin 128) :
    k0_pay7 (k0_pay12 (grid0.coords t) (iblk m c 0 t) (iblk m c 1 t) (iblk m c 2 t) (iblk m c 3 t) (iblk m c 4 t)) (ix3 0 r o)
      = Grad (m ((c : Thread nD τ).loc main_arg0)) (m ((c : Thread nD τ).loc main_arg1)) (ix3 ⟨t.val / 2, layer_lt t⟩ ⟨256 * (t.val % 2) + r.val, row_lt _ r⟩ o) := by
  rw [← sum_grad m c t r o]
  pointwise [k0_pay7]

theorem point7 (c : Dev nD) (t : Fin cfg0.N) (r : Fin 256) (o : Fin 128) :
    k0_pay8 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t)) (ix3 0 r o)
      = Mom (m ((c : Thread nD τ).loc main_arg0)) (m ((c : Thread nD τ).loc main_arg1)) (m ((c : Thread nD τ).loc main_arg3)) (ix3 ⟨t.val / 2, layer_lt t⟩ ⟨256 * (t.val % 2) + r.val, row_lt _ r⟩ o) := by
  show _ = Adam.mom _ _
  rw [← sum_grad m c t r o, ← g3 m c t r o, ← whole (iblk m c 3 t) r o]
  pointwise [k0_pay8, k0_pay5, k0_pay13, k0_pay4, Adam.mom]

theorem point8 (c : Dev nD) (t : Fin cfg0.N) (r : Fin 256) (o : Fin 128) :
    k0_pay9 (k0_pay12 (grid0.coords t) (iblk m c 0 t) (iblk m c 1 t) (iblk m c 2 t) (iblk m c 3 t) (iblk m c 4 t))
      (iblk m c 4 t) (ix3 0 r o)
      = Var (m ((c : Thread nD τ).loc main_arg0)) (m ((c : Thread nD τ).loc main_arg1)) (m ((c : Thread nD τ).loc main_arg4)) (ix3 ⟨t.val / 2, layer_lt t⟩ ⟨256 * (t.val % 2) + r.val, row_lt _ r⟩ o) := by
  show _ = Adam.var _ _
  rw [← sum_grad m c t r o, ← g4 m c t r o]
  pointwise [k0_pay9, k0_pay6, Adam.var]

theorem point6 (c : Dev nD) (t : Fin cfg0.N) (r : Fin 256) (o : Fin 128) :
    k0_pay1 (k0_pay10 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t))
      (iblk m c 4 t)) (k0_pay11 (iblk m c 2 t)) (ix3 0 r o)
      = Change (m ((c : Thread nD τ).loc main_arg0)) (m ((c : Thread nD τ).loc main_arg1)) (m ((c : Thread nD τ).loc main_arg2)) (m ((c : Thread nD τ).loc main_arg3))
        (m ((c : Thread nD τ).loc main_arg4)) (ix3 ⟨t.val / 2, layer_lt t⟩ ⟨256 * (t.val % 2) + r.val, row_lt _ r⟩ o) := by
  show _ = Adam.change _ _ _ _
  rw [← sum_grad m c t r o, ← g2 m c t r o, ← g3 m c t r o, ← g4 m c t r o, ← whole (iblk m c 3 t) r o]
  pointwise [k0_pay1, k0_pay10, k0_pay5, k0_pay6, k0_pay11, k0_pay13, k0_pay4, Adam.change, Adam.mom, Adam.var]

theorem result5 (c : Dev nD) : (dats m 0 c).arrAt 5 (cfgs 0).N
    = Grad (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, o, h⟩ := one_row y
  subst h
  exact (point5 m c t r o).trans (emb5 _ t r o).symm

theorem result6 (c : Dev nD) : (dats m 0 c).arrAt 6 (cfgs 0).N
    = Change (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, o, h⟩ := one_row y
  subst h
  exact (point6 m c t r o).trans (emb6 _ t r o).symm

theorem result7 (c : Dev nD) : (dats m 0 c).arrAt 7 (cfgs 0).N
    = Mom (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  obtain ⟨r, o, h⟩ := one_row y
  subst h
  exact (point7 m c t r o).trans (emb7 _ t r o).symm

theorem result8 (c : Dev nD) : (dats m 0 c).arrAt 8 (cfgs 0).N
    = Var (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  obtain ⟨r, o, h⟩ := one_row y
  subst h
  exact (point8 m c t r o).trans (emb8 _ t r o).symm

end Cert.AdamMiddleIdeal.Value

namespace Cert.Proof

/-- Kernel and reference leave equal gradients, changes and moments. -/
theorem algebraic_AdamMiddle : Cert.algebraic_AdamMiddleIdeal_AdamMiddleRefIdeal := by
  pair_intro
  · run_from Cert.AdamMiddleIdeal.Gen.run_main m g
  · run_from Cert.AdamMiddleRefIdeal.Value.run m' g'
    · rw [Cert.AdamMiddleIdeal.Value.result5 m c, ← (hagree c).1, ← (hagree c).2.1]
      exact Cert.AdamMiddleRefIdeal.Value.grad_eq _ _
    · rw [Cert.AdamMiddleIdeal.Value.result6 m c, ← (hagree c).1, ← (hagree c).2.1, ← (hagree c).2.2.1, ← (hagree c).2.2.2.1,
        ← (hagree c).2.2.2.2]
      exact Cert.AdamMiddleRefIdeal.Value.change_eq _ _ _ _ _
    · rw [Cert.AdamMiddleIdeal.Value.result7 m c, ← (hagree c).1, ← (hagree c).2.1, ← (hagree c).2.2.2.1]
      exact Cert.AdamMiddleRefIdeal.Value.mom_eq _ _ _
    · rw [Cert.AdamMiddleIdeal.Value.result8 m c, ← (hagree c).1, ← (hagree c).2.1, ← (hagree c).2.2.2.2]
      exact Cert.AdamMiddleRefIdeal.Value.var_eq _ _ _

/-- The reference runs to an end and leaves its arguments alone. -/
theorem frame_AdamMiddle_ref : Cert.quiescent_AdamMiddleRefIdeal := fun m ρ _ =>
  (θ_run Cert.AdamMiddleRefIdeal.defs _ _).mono
    (fun r h => ⟨fun c => (h c).2.2.2.2, sem_eq_zero_of_no_sems (by decide) r.2⟩)
    (Cert.AdamMiddleRefIdeal.Value.run (F := Ideal) m ρ)

end Cert.Proof

end
-- ==== Proof.AdamOut.lean ====
module

public import proofs.«01_k».proof.Defs
public import proofs.«01_k».proof.Proof.Adam
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Claim
public import Idealize.ShloMosaic.Lib.Quiescent

/-!
`AdamOut`: the optimiser's call for the output product. A layer's gradient is the sum of the eight devices' parts; the
moments and the parameter's change follow from it entry by entry.
-/

@[expose] public section

set_option maxRecDepth 16384
set_option maxHeartbeats 1000000

noncomputable section

open Idealize.ShloMosaic Idealize.ShloMosaic.TcCoe Idealize.SL.Sem
open Idealize.ShloMosaic.Pipeline (Dat)

namespace Cert.AdamOutRefIdeal.Value
open Cert.AdamOutRefIdeal Cert.AdamOutRefIdeal.Read

/-- A layer's gradient: the sum of the devices' parts. -/
def grad (p q : FVec Ideal S8x128x1024 .bf16) (l : Fin 2) (r : Fin 128) (o : Fin 1024) : EReal :=
  if l.val = 0 then ∑ k : Fin 8, p (ix3 k r o) else ∑ k : Fin 8, q (ix3 k r o)

/-- Both layers' gradients. -/
def Grad (p q : FVec Ideal S8x128x1024 .bf16) : FVec Ideal S2x128x1024 .f32 := fun i => grad p q (i 0) (i 1) (i 2)

theorem Grad_apply (p q : FVec Ideal S8x128x1024 .bf16) (l : Fin 2) (r : Fin 128) (o : Fin 1024) : Grad p q (ix3 l r o)
    = if l.val = 0 then ∑ k : Fin 8, p (ix3 k r o) else ∑ k : Fin 8, q (ix3 k r o) := rfl

/-- The first moments after the step. -/
def Mom (p q : FVec Ideal S8x128x1024 .bf16) (m : FVec Ideal S2x128x1024 .f32) : FVec Ideal S2x128x1024 .f32 :=
  fun i => Adam.mom (Grad p q i) (m i)

/-- The second moments after the step. -/
def Var (p q : FVec Ideal S8x128x1024 .bf16) (v : FVec Ideal S2x128x1024 .f32) : FVec Ideal S2x128x1024 .f32 :=
  fun i => Adam.var (Grad p q i) (v i)

/-- The parameters' changes. -/
def Change (p q : FVec Ideal S8x128x1024 .bf16) (w m v : FVec Ideal S2x128x1024 .f32) : FVec Ideal S2x128x1024 .f32 :=
  fun i => Adam.change (w i) (Grad p q i) (m i) (v i)

/-- The reference sums the devices' parts. -/
theorem grad_eq (p q : FVec Ideal S8x128x1024 .bf16) : val_main_v6 (F := Ideal) p q = Grad p q := by
  funext i
  idx_vars i
  simp only [val_main_v6, val_main_v5, val_main_v4, val_main_v3, val_main_v1, val_main_v2, val_main_v0, val_main_cst, val_main_cst_0, Grad, grad]
  pointwise
  split_ifs <;> first | rfl | omega

/-- The reference's first moments. -/
theorem mom_eq (p q : FVec Ideal S8x128x1024 .bf16) (m : FVec Ideal S2x128x1024 .f32) :
    val_main_v11 (F := Ideal) p q m = Mom p q m := by
  unfold val_main_v11 val_main_v10
  rw [grad_eq]
  rfl

/-- The reference's second moments. -/
theorem var_eq (p q : FVec Ideal S8x128x1024 .bf16) (x : FVec Ideal S2x128x1024 .f32) :
    val_main_v17 (F := Ideal) p q x = Var p q x := by
  unfold val_main_v17 val_main_v16 val_main_v14
  rw [grad_eq]
  rfl

/-- The reference's changes. -/
theorem change_eq (p q : FVec Ideal S8x128x1024 .bf16) (w m x : FVec Ideal S2x128x1024 .f32) :
    val_main_v30 (F := Ideal) p q w m x = Change p q w m x := by
  unfold val_main_v30 val_main_v28 val_main_v25 val_main_v24 val_main_v22 val_main_v21 val_main_v19
  rw [mom_eq, var_eq]
  rfl

end Cert.AdamOutRefIdeal.Value

namespace Cert.AdamOutIdeal.Value
open Cert.AdamOutIdeal Cert.AdamOutIdeal.Gen
open Cert.AdamOutRefIdeal.Value (grad Grad Mom Var Change)

variable (m : (ℓ : Loc nD τ sig) → Buf (Elt Ideal) ℓ)

theorem lt (t : Fin cfg0.N) : t.val < 2 := lt_of_lt_of_eq t.isLt N_0

/-- The grid runs over a layer's row blocks, then the next layer's. -/
theorem crd : ∀ t : Fin cfg0.N, (grid0.coords t 0).val = t.val / 1 :=
  (by decide +kernel : ∀ t : Fin grid0.N, _)

/-- Each window's block at grid point `t`. -/
theorem idx : ∀ t : Fin cfg0.N, win0_2.index t = ![t.val / 1, t.val % 1, 0]
    ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0]
    ∧ win0_7.index t = ![t.val / 1, t.val % 1, 0] ∧ win0_8.index t = ![t.val / 1, t.val % 1, 0] :=
  (by decide +kernel : ∀ t : Fin grid0.N, _)

/-- The first layer's parts move with the first half of the grid. -/
theorem idx0 : ∀ t : Fin cfg0.N, t.val / 1 = 0 → win0_0.index t = ![0, t.val % 1, 0] :=
  (by decide +kernel : ∀ t : Fin grid0.N, _)

/-- The second layer's parts move with the second half. -/
theorem idx1 : ∀ t : Fin cfg0.N, ¬ t.val / 1 = 0 → win0_1.index t = ![0, t.val % 1, 0] :=
  (by decide +kernel : ∀ t : Fin grid0.N, _)

theorem row_lt (n : ℕ) (r : Fin 128) : 128 * (n % 1) + r.val < 128 := by
  have := Nat.mod_lt n (by decide : 0 < 1)
  omega

theorem layer_lt (t : Fin cfg0.N) : t.val / 1 < 2 := by
  have := lt t
  omega

/-- A block of one layer's rows is indexed by row and column. -/
theorem one_row (y : (S1x128x1024 : Shape).Idx) : ∃ (r : Fin 128) (o : Fin 1024), y = ix3 0 r o :=
  ⟨y 1, y 2, by
    funext a
    fin_cases a
    · exact Subsingleton.elim (α := Fin 1) _ _
    · rfl
    · rfl⟩

/-- One device's part of a block. -/
theorem part (x : FVec Ideal S8x128x1024 .bf16) (k : ℕ) (hk : k < 8) (h) (r : Fin 128) (o : Fin 1024) :
    View.ld (Val := Elt Ideal) (e' := .bf16) x (Rect.unit (s := S8x128x1024) ![k, 0, 0] S1x128x1024.size h) (ix3 0 r o)
      = x (ix3 ⟨k, hk⟩ r o) := by
  refine congrArg x (funext fun a => ?_)
  fin_cases a <;> exact Fin.ext (by simp [LoadRect.idx, Rect.unit, ix3])

/-- The whole of a block. -/
theorem whole (x : FVec Ideal S1x128x1024 .f32) (r : Fin 128) (o : Fin 1024) :
    View.ld (Val := Elt Ideal) (e' := .f32) x r0_8 (ix3 0 r o) = x (ix3 0 r o) := by
  refine congrArg x (funext fun a => ?_)
  fin_cases a <;> exact Fin.ext (by simp [LoadRect.idx, Rect.unit, ix3])

theorem g0 (c : Dev nD) (t : Fin cfg0.N) (h : t.val / 1 = 0) (k : Fin 8) (r : Fin 128) (o : Fin 1024) :
    iblk m c 0 t (ix3 k r o) = m ((c : Thread nD τ).loc main_arg0) (ix3 k ⟨128 * (t.val % 1) + r.val, row_lt _ r⟩ o) := by
  blk_point [iblk, V, idx0 t h]

theorem g1 (c : Dev nD) (t : Fin cfg0.N) (h : ¬ t.val / 1 = 0) (k : Fin 8) (r : Fin 128) (o : Fin 1024) :
    iblk m c 1 t (ix3 k r o) = m ((c : Thread nD τ).loc main_arg1) (ix3 k ⟨128 * (t.val % 1) + r.val, row_lt _ r⟩ o) := by
  blk_point [iblk, V, idx1 t h]

theorem g2 (c : Dev nD) (t : Fin cfg0.N) (r : Fin 128) (o : Fin 1024) :
    iblk m c 2 t (ix3 0 r o) = m ((c : Thread nD τ).loc main_arg2)
      (ix3 ⟨t.val / 1, layer_lt t⟩ ⟨128 * (t.val % 1) + r.val, row_lt _ r⟩ o) := by
  blk_point [iblk, V, idx t]

theorem g3 (c : Dev nD) (t : Fin cfg0.N) (r : Fin 128) (o : Fin 1024) :
    iblk m c 3 t (ix3 0 r o) = m ((c : Thread nD τ).loc main_arg3)
      (ix3 ⟨t.val / 1, layer_lt t⟩ ⟨128 * (t.val % 1) + r.val, row_lt _ r⟩ o) := by
  blk_point [iblk, V, idx t]

theorem g4 (c : Dev nD) (t : Fin cfg0.N) (r : Fin 128) (o : Fin 1024) :
    iblk m c 4 t (ix3 0 r o) = m ((c : Thread nD τ).loc main_arg4)
      (ix3 ⟨t.val / 1, layer_lt t⟩ ⟨128 * (t.val % 1) + r.val, row_lt _ r⟩ o) := by
  blk_point [iblk, V, idx t]

theorem emb5 (x : FVec Ideal S2x128x1024 .f32) (t : Fin cfg0.N) (r : Fin 128) (o : Fin 1024) :
    x (((cfg0.win 5).blk t).view.emb (ix3 0 r o))
      = x (ix3 ⟨t.val / 1, layer_lt t⟩ ⟨128 * (t.val % 1) + r.val, row_lt _ r⟩ o) := by
  blk_point [idx t]

theorem emb6 (x : FVec Ideal S2x128x1024 .f32) (t : Fin cfg0.N) (r : Fin 128) (o : Fin 1024) :
    x (((cfg0.win 6).blk t).view.emb (ix3 0 r o))
      = x (ix3 ⟨t.val / 1, layer_lt t⟩ ⟨128 * (t.val % 1) + r.val, row_lt _ r⟩ o) := by
  blk_point [idx t]

theorem emb7 (x : FVec Ideal S2x128x1024 .f32) (t : Fin cfg0.N) (r : Fin 128) (o : Fin 1024) :
    x (((cfg0.win 7).blk t).view.emb (ix3 0 r o))
      = x (ix3 ⟨t.val / 1, layer_lt t⟩ ⟨128 * (t.val % 1) + r.val, row_lt _ r⟩ o) := by
  blk_point [idx t]

theorem emb8 (x : FVec Ideal S2x128x1024 .f32) (t : Fin cfg0.N) (r : Fin 128) (o : Fin 1024) :
    x (((cfg0.win 8).blk t).view.emb (ix3 0 r o))
      = x (ix3 ⟨t.val / 1, layer_lt t⟩ ⟨128 * (t.val % 1) + r.val, row_lt _ r⟩ o) := by
  blk_point [idx t]

/-- The sum of the devices' parts of the first layer. -/
theorem sum0 (x : FVec Ideal S8x128x1024 .bf16) (r : Fin 128) (o : Fin 1024) :
    k0_pay2 (F := Ideal) (View.ld x r0_0) (View.ld x r0_1) (View.ld x r0_2) (View.ld x r0_3) (View.ld x r0_4) (View.ld x r0_5)
      (View.ld x r0_6) (View.ld x r0_7) (ix2 r o) = ∑ k : Fin 8, x (ix3 k r o) := by
  rw [Fin.sum_univ_eight]
  pointwise [k0_pay2]

/-- A block's gradient. -/
theorem sum_at (i : grid0.Coords) (h : (i 0).val < 2) (x y : FVec Ideal S8x128x1024 .bf16) (w a b : FVec Ideal S1x128x1024 .f32)
    (r : Fin 128) (o : Fin 1024) :
    k0_pay12 (F := Ideal) i x y w a b (ix2 r o)
      = if (i 0).val = 0 then ∑ k : Fin 8, x (ix3 k r o) else ∑ k : Fin 8, y (ix3 k r o) := by
  refine Eq.trans ?_ (Adam.sel (i 0).val h _ _)
  rw [← sum0 x r o, Fin.sum_univ_eight]
  pointwise [k0_pay12, k0_pay3]

/-- A block's gradient is the layers' gradient there. -/
theorem sum_grad (c : Dev nD) (t : Fin cfg0.N) (r : Fin 128) (o : Fin 1024) :
    k0_pay12 (F := Ideal) (grid0.coords t) (iblk m c 0 t) (iblk m c 1 t) (iblk m c 2 t) (iblk m c 3 t) (iblk m c 4 t) (ix2 r o)
      = Grad (m ((c : Thread nD τ).loc main_arg0)) (m ((c : Thread nD τ).loc main_arg1)) (ix3 ⟨t.val / 1, layer_lt t⟩ ⟨128 * (t.val % 1) + r.val, row_lt _ r⟩ o) := by
  rw [sum_at _ (by rw [crd t]; exact layer_lt t), crd t]
  rw [Cert.AdamOutRefIdeal.Value.Grad_apply]
  by_cases h : t.val / 1 = 0
  · rw [if_pos h, if_pos h]
    exact Finset.sum_congr rfl fun k _ => g0 m c t h k r o
  · rw [if_neg h, if_neg h]
    exact Finset.sum_congr rfl fun k _ => g1 m c t h k r o

theorem point5 (c : Dev nD) (t : Fin cfg0.N) (r : Fin 128) (o : Fin 1024) :
    k0_pay7 (k0_pay12 (grid0.coords t) (iblk m c 0 t) (iblk m c 1 t) (iblk m c 2 t) (iblk m c 3 t) (iblk m c 4 t)) (ix3 0 r o)
      = Grad (m ((c : Thread nD τ).loc main_arg0)) (m ((c : Thread nD τ).loc main_arg1)) (ix3 ⟨t.val / 1, layer_lt t⟩ ⟨128 * (t.val % 1) + r.val, row_lt _ r⟩ o) := by
  rw [← sum_grad m c t r o]
  pointwise [k0_pay7]

theorem point7 (c : Dev nD) (t : Fin cfg0.N) (r : Fin 128) (o : Fin 1024) :
    k0_pay8 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t)) (ix3 0 r o)
      = Mom (m ((c : Thread nD τ).loc main_arg0)) (m ((c : Thread nD τ).loc main_arg1)) (m ((c : Thread nD τ).loc main_arg3)) (ix3 ⟨t.val / 1, layer_lt t⟩ ⟨128 * (t.val % 1) + r.val, row_lt _ r⟩ o) := by
  show _ = Adam.mom _ _
  rw [← sum_grad m c t r o, ← g3 m c t r o, ← whole (iblk m c 3 t) r o]
  pointwise [k0_pay8, k0_pay5, k0_pay13, k0_pay4, Adam.mom]

theorem point8 (c : Dev nD) (t : Fin cfg0.N) (r : Fin 128) (o : Fin 1024) :
    k0_pay9 (k0_pay12 (grid0.coords t) (iblk m c 0 t) (iblk m c 1 t) (iblk m c 2 t) (iblk m c 3 t) (iblk m c 4 t))
      (iblk m c 4 t) (ix3 0 r o)
      = Var (m ((c : Thread nD τ).loc main_arg0)) (m ((c : Thread nD τ).loc main_arg1)) (m ((c : Thread nD τ).loc main_arg4)) (ix3 ⟨t.val / 1, layer_lt t⟩ ⟨128 * (t.val % 1) + r.val, row_lt _ r⟩ o) := by
  show _ = Adam.var _ _
  rw [← sum_grad m c t r o, ← g4 m c t r o]
  pointwise [k0_pay9, k0_pay6, Adam.var]

theorem point6 (c : Dev nD) (t : Fin cfg0.N) (r : Fin 128) (o : Fin 1024) :
    k0_pay1 (k0_pay10 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t))
      (iblk m c 4 t)) (k0_pay11 (iblk m c 2 t)) (ix3 0 r o)
      = Change (m ((c : Thread nD τ).loc main_arg0)) (m ((c : Thread nD τ).loc main_arg1)) (m ((c : Thread nD τ).loc main_arg2)) (m ((c : Thread nD τ).loc main_arg3))
        (m ((c : Thread nD τ).loc main_arg4)) (ix3 ⟨t.val / 1, layer_lt t⟩ ⟨128 * (t.val % 1) + r.val, row_lt _ r⟩ o) := by
  show _ = Adam.change _ _ _ _
  rw [← sum_grad m c t r o, ← g2 m c t r o, ← g3 m c t r o, ← g4 m c t r o, ← whole (iblk m c 3 t) r o]
  pointwise [k0_pay1, k0_pay10, k0_pay5, k0_pay6, k0_pay11, k0_pay13, k0_pay4, Adam.change, Adam.mom, Adam.var]

theorem result5 (c : Dev nD) : (dats m 0 c).arrAt 5 (cfgs 0).N
    = Grad (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, o, h⟩ := one_row y
  subst h
  exact (point5 m c t r o).trans (emb5 _ t r o).symm

theorem result6 (c : Dev nD) : (dats m 0 c).arrAt 6 (cfgs 0).N
    = Change (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, o, h⟩ := one_row y
  subst h
  exact (point6 m c t r o).trans (emb6 _ t r o).symm

theorem result7 (c : Dev nD) : (dats m 0 c).arrAt 7 (cfgs 0).N
    = Mom (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  obtain ⟨r, o, h⟩ := one_row y
  subst h
  exact (point7 m c t r o).trans (emb7 _ t r o).symm

theorem result8 (c : Dev nD) : (dats m 0 c).arrAt 8 (cfgs 0).N
    = Var (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  obtain ⟨r, o, h⟩ := one_row y
  subst h
  exact (point8 m c t r o).trans (emb8 _ t r o).symm

end Cert.AdamOutIdeal.Value

namespace Cert.Proof

/-- Kernel and reference leave equal gradients, changes and moments. -/
theorem algebraic_AdamOut : Cert.algebraic_AdamOutIdeal_AdamOutRefIdeal := by
  pair_intro
  · run_from Cert.AdamOutIdeal.Gen.run_main m g
  · run_from Cert.AdamOutRefIdeal.Value.run m' g'
    · rw [Cert.AdamOutIdeal.Value.result5 m c, ← (hagree c).1, ← (hagree c).2.1]
      exact Cert.AdamOutRefIdeal.Value.grad_eq _ _
    · rw [Cert.AdamOutIdeal.Value.result6 m c, ← (hagree c).1, ← (hagree c).2.1, ← (hagree c).2.2.1, ← (hagree c).2.2.2.1,
        ← (hagree c).2.2.2.2]
      exact Cert.AdamOutRefIdeal.Value.change_eq _ _ _ _ _
    · rw [Cert.AdamOutIdeal.Value.result7 m c, ← (hagree c).1, ← (hagree c).2.1, ← (hagree c).2.2.2.1]
      exact Cert.AdamOutRefIdeal.Value.mom_eq _ _ _
    · rw [Cert.AdamOutIdeal.Value.result8 m c, ← (hagree c).1, ← (hagree c).2.1, ← (hagree c).2.2.2.2]
      exact Cert.AdamOutRefIdeal.Value.var_eq _ _ _

/-- The reference runs to an end and leaves its arguments alone. -/
theorem frame_AdamOut_ref : Cert.quiescent_AdamOutRefIdeal := fun m ρ _ =>
  (θ_run Cert.AdamOutRefIdeal.defs _ _).mono
    (fun r h => ⟨fun c => (h c).2.2.2.2, sem_eq_zero_of_no_sems (by decide) r.2⟩)
    (Cert.AdamOutRefIdeal.Value.run (F := Ideal) m ρ)

end Cert.Proof

end
-- ==== Proof.AdamUp.lean ====
module

public import proofs.«01_k».proof.Defs
public import proofs.«01_k».proof.Proof.Adam
public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Lib.Pipeline.ValueKit
public import Idealize.ShloMosaic.Lib.Claim
public import Idealize.ShloMosaic.Lib.Quiescent

/-!
`AdamUp`: the optimiser's call for the widening product. A layer's gradient is the sum of the eight devices' parts; the
moments and the parameter's change follow from it entry by entry.
-/

@[expose] public section

set_option maxRecDepth 16384
set_option maxHeartbeats 1000000

noncomputable section

open Idealize.ShloMosaic Idealize.ShloMosaic.TcCoe Idealize.SL.Sem
open Idealize.ShloMosaic.Pipeline (Dat)

namespace Cert.AdamUpRefIdeal.Value
open Cert.AdamUpRefIdeal Cert.AdamUpRefIdeal.Read

/-- A layer's gradient: the sum of the devices' parts. -/
def grad (p q : FVec Ideal S8x1024x704 .bf16) (l : Fin 2) (r : Fin 1024) (o : Fin 704) : EReal :=
  if l.val = 0 then ∑ k : Fin 8, p (ix3 k r o) else ∑ k : Fin 8, q (ix3 k r o)

/-- Both layers' gradients. -/
def Grad (p q : FVec Ideal S8x1024x704 .bf16) : FVec Ideal S2x1024x704 .f32 := fun i => grad p q (i 0) (i 1) (i 2)

theorem Grad_apply (p q : FVec Ideal S8x1024x704 .bf16) (l : Fin 2) (r : Fin 1024) (o : Fin 704) : Grad p q (ix3 l r o)
    = if l.val = 0 then ∑ k : Fin 8, p (ix3 k r o) else ∑ k : Fin 8, q (ix3 k r o) := rfl

/-- The first moments after the step. -/
def Mom (p q : FVec Ideal S8x1024x704 .bf16) (m : FVec Ideal S2x1024x704 .f32) : FVec Ideal S2x1024x704 .f32 :=
  fun i => Adam.mom (Grad p q i) (m i)

/-- The second moments after the step. -/
def Var (p q : FVec Ideal S8x1024x704 .bf16) (v : FVec Ideal S2x1024x704 .f32) : FVec Ideal S2x1024x704 .f32 :=
  fun i => Adam.var (Grad p q i) (v i)

/-- The parameters' changes. -/
def Change (p q : FVec Ideal S8x1024x704 .bf16) (w m v : FVec Ideal S2x1024x704 .f32) : FVec Ideal S2x1024x704 .f32 :=
  fun i => Adam.change (w i) (Grad p q i) (m i) (v i)

/-- The reference sums the devices' parts. -/
theorem grad_eq (p q : FVec Ideal S8x1024x704 .bf16) : val_main_v6 (F := Ideal) p q = Grad p q := by
  funext i
  idx_vars i
  simp only [val_main_v6, val_main_v5, val_main_v4, val_main_v3, val_main_v1, val_main_v2, val_main_v0, val_main_cst, val_main_cst_0, Grad, grad]
  pointwise
  split_ifs <;> first | rfl | omega

/-- The reference's first moments. -/
theorem mom_eq (p q : FVec Ideal S8x1024x704 .bf16) (m : FVec Ideal S2x1024x704 .f32) :
    val_main_v11 (F := Ideal) p q m = Mom p q m := by
  unfold val_main_v11 val_main_v10
  rw [grad_eq]
  rfl

/-- The reference's second moments. -/
theorem var_eq (p q : FVec Ideal S8x1024x704 .bf16) (x : FVec Ideal S2x1024x704 .f32) :
    val_main_v17 (F := Ideal) p q x = Var p q x := by
  unfold val_main_v17 val_main_v16 val_main_v14
  rw [grad_eq]
  rfl

/-- The reference's changes. -/
theorem change_eq (p q : FVec Ideal S8x1024x704 .bf16) (w m x : FVec Ideal S2x1024x704 .f32) :
    val_main_v30 (F := Ideal) p q w m x = Change p q w m x := by
  unfold val_main_v30 val_main_v28 val_main_v25 val_main_v24 val_main_v22 val_main_v21 val_main_v19
  rw [mom_eq, var_eq]
  rfl

end Cert.AdamUpRefIdeal.Value

namespace Cert.AdamUpIdeal.Value
open Cert.AdamUpIdeal Cert.AdamUpIdeal.Gen
open Cert.AdamUpRefIdeal.Value (grad Grad Mom Var Change)

variable (m : (ℓ : Loc nD τ sig) → Buf (Elt Ideal) ℓ)

theorem lt (t : Fin cfg0.N) : t.val < 8 := lt_of_lt_of_eq t.isLt N_0

/-- The grid runs over a layer's row blocks, then the next layer's. -/
theorem crd : ∀ t : Fin cfg0.N, (grid0.coords t 0).val = t.val / 4 :=
  (by decide +kernel : ∀ t : Fin grid0.N, _)

/-- Each window's block at grid point `t`. -/
theorem idx : ∀ t : Fin cfg0.N, win0_2.index t = ![t.val / 4, t.val % 4, 0]
    ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] :=
  (by decide +kernel : ∀ t : Fin grid0.N, _)

/-- The first layer's parts move with the first half of the grid. -/
theorem idx0 : ∀ t : Fin cfg0.N, t.val / 4 = 0 → win0_0.index t = ![0, t.val % 4, 0] :=
  (by decide +kernel : ∀ t : Fin grid0.N, _)

/-- The second layer's parts move with the second half. -/
theorem idx1 : ∀ t : Fin cfg0.N, ¬ t.val / 4 = 0 → win0_1.index t = ![0, t.val % 4, 0] :=
  (by decide +kernel : ∀ t : Fin grid0.N, _)

theorem row_lt (n : ℕ) (r : Fin 256) : 256 * (n % 4) + r.val < 1024 := by
  have := Nat.mod_lt n (by decide : 0 < 4)
  omega

theorem layer_lt (t : Fin cfg0.N) : t.val / 4 < 2 := by
  have := lt t
  omega

/-- A block of one layer's rows is indexed by row and column. -/
theorem one_row (y : (S1x256x704 : Shape).Idx) : ∃ (r : Fin 256) (o : Fin 704), y = ix3 0 r o :=
  ⟨y 1, y 2, by
    funext a
    fin_cases a
    · exact Subsingleton.elim (α := Fin 1) _ _
    · rfl
    · rfl⟩

/-- One device's part of a block. -/
theorem part (x : FVec Ideal S8x256x704 .bf16) (k : ℕ) (hk : k < 8) (h) (r : Fin 256) (o : Fin 704) :
    View.ld (Val := Elt Ideal) (e' := .bf16) x (Rect.unit (s := S8x256x704) ![k, 0, 0] S1x256x704.size h) (ix3 0 r o)
      = x (ix3 ⟨k, hk⟩ r o) := by
  refine congrArg x (funext fun a => ?_)
  fin_cases a <;> exact Fin.ext (by simp [LoadRect.idx, Rect.unit, ix3])

/-- The whole of a block. -/
theorem whole (x : FVec Ideal S1x256x704 .f32) (r : Fin 256) (o : Fin 704) :
    View.ld (Val := Elt Ideal) (e' := .f32) x r0_8 (ix3 0 r o) = x (ix3 0 r o) := by
  refine congrArg x (funext fun a => ?_)
  fin_cases a <;> exact Fin.ext (by simp [LoadRect.idx, Rect.unit, ix3])

theorem g0 (c : Dev nD) (t : Fin cfg0.N) (h : t.val / 4 = 0) (k : Fin 8) (r : Fin 256) (o : Fin 704) :
    iblk m c 0 t (ix3 k r o) = m ((c : Thread nD τ).loc main_arg0) (ix3 k ⟨256 * (t.val % 4) + r.val, row_lt _ r⟩ o) := by
  blk_point [iblk, V, idx0 t h]

theorem g1 (c : Dev nD) (t : Fin cfg0.N) (h : ¬ t.val / 4 = 0) (k : Fin 8) (r : Fin 256) (o : Fin 704) :
    iblk m c 1 t (ix3 k r o) = m ((c : Thread nD τ).loc main_arg1) (ix3 k ⟨256 * (t.val % 4) + r.val, row_lt _ r⟩ o) := by
  blk_point [iblk, V, idx1 t h]

theorem g2 (c : Dev nD) (t : Fin cfg0.N) (r : Fin 256) (o : Fin 704) :
    iblk m c 2 t (ix3 0 r o) = m ((c : Thread nD τ).loc main_arg2)
      (ix3 ⟨t.val / 4, layer_lt t⟩ ⟨256 * (t.val % 4) + r.val, row_lt _ r⟩ o) := by
  blk_point [iblk, V, idx t]

theorem g3 (c : Dev nD) (t : Fin cfg0.N) (r : Fin 256) (o : Fin 704) :
    iblk m c 3 t (ix3 0 r o) = m ((c : Thread nD τ).loc main_arg3)
      (ix3 ⟨t.val / 4, layer_lt t⟩ ⟨256 * (t.val % 4) + r.val, row_lt _ r⟩ o) := by
  blk_point [iblk, V, idx t]

theorem g4 (c : Dev nD) (t : Fin cfg0.N) (r : Fin 256) (o : Fin 704) :
    iblk m c 4 t (ix3 0 r o) = m ((c : Thread nD τ).loc main_arg4)
      (ix3 ⟨t.val / 4, layer_lt t⟩ ⟨256 * (t.val % 4) + r.val, row_lt _ r⟩ o) := by
  blk_point [iblk, V, idx t]

theorem emb5 (x : FVec Ideal S2x1024x704 .f32) (t : Fin cfg0.N) (r : Fin 256) (o : Fin 704) :
    x (((cfg0.win 5).blk t).view.emb (ix3 0 r o))
      = x (ix3 ⟨t.val / 4, layer_lt t⟩ ⟨256 * (t.val % 4) + r.val, row_lt _ r⟩ o) := by
  blk_point [idx t]

theorem emb6 (x : FVec Ideal S2x1024x704 .f32) (t : Fin cfg0.N) (r : Fin 256) (o : Fin 704) :
    x (((cfg0.win 6).blk t).view.emb (ix3 0 r o))
      = x (ix3 ⟨t.val / 4, layer_lt t⟩ ⟨256 * (t.val % 4) + r.val, row_lt _ r⟩ o) := by
  blk_point [idx t]

theorem emb7 (x : FVec Ideal S2x1024x704 .f32) (t : Fin cfg0.N) (r : Fin 256) (o : Fin 704) :
    x (((cfg0.win 7).blk t).view.emb (ix3 0 r o))
      = x (ix3 ⟨t.val / 4, layer_lt t⟩ ⟨256 * (t.val % 4) + r.val, row_lt _ r⟩ o) := by
  blk_point [idx t]

theorem emb8 (x : FVec Ideal S2x1024x704 .f32) (t : Fin cfg0.N) (r : Fin 256) (o : Fin 704) :
    x (((cfg0.win 8).blk t).view.emb (ix3 0 r o))
      = x (ix3 ⟨t.val / 4, layer_lt t⟩ ⟨256 * (t.val % 4) + r.val, row_lt _ r⟩ o) := by
  blk_point [idx t]

/-- The sum of the devices' parts of the first layer. -/
theorem sum0 (x : FVec Ideal S8x256x704 .bf16) (r : Fin 256) (o : Fin 704) :
    k0_pay2 (F := Ideal) (View.ld x r0_0) (View.ld x r0_1) (View.ld x r0_2) (View.ld x r0_3) (View.ld x r0_4) (View.ld x r0_5)
      (View.ld x r0_6) (View.ld x r0_7) (ix2 r o) = ∑ k : Fin 8, x (ix3 k r o) := by
  rw [Fin.sum_univ_eight]
  pointwise [k0_pay2]

/-- A block's gradient. -/
theorem sum_at (i : grid0.Coords) (h : (i 0).val < 2) (x y : FVec Ideal S8x256x704 .bf16) (w a b : FVec Ideal S1x256x704 .f32)
    (r : Fin 256) (o : Fin 704) :
    k0_pay12 (F := Ideal) i x y w a b (ix2 r o)
      = if (i 0).val = 0 then ∑ k : Fin 8, x (ix3 k r o) else ∑ k : Fin 8, y (ix3 k r o) := by
  refine Eq.trans ?_ (Adam.sel (i 0).val h _ _)
  rw [← sum0 x r o, Fin.sum_univ_eight]
  pointwise [k0_pay12, k0_pay3]

/-- A block's gradient is the layers' gradient there. -/
theorem sum_grad (c : Dev nD) (t : Fin cfg0.N) (r : Fin 256) (o : Fin 704) :
    k0_pay12 (F := Ideal) (grid0.coords t) (iblk m c 0 t) (iblk m c 1 t) (iblk m c 2 t) (iblk m c 3 t) (iblk m c 4 t) (ix2 r o)
      = Grad (m ((c : Thread nD τ).loc main_arg0)) (m ((c : Thread nD τ).loc main_arg1)) (ix3 ⟨t.val / 4, layer_lt t⟩ ⟨256 * (t.val % 4) + r.val, row_lt _ r⟩ o) := by
  rw [sum_at _ (by rw [crd t]; exact layer_lt t), crd t]
  rw [Cert.AdamUpRefIdeal.Value.Grad_apply]
  by_cases h : t.val / 4 = 0
  · rw [if_pos h, if_pos h]
    exact Finset.sum_congr rfl fun k _ => g0 m c t h k r o
  · rw [if_neg h, if_neg h]
    exact Finset.sum_congr rfl fun k _ => g1 m c t h k r o

theorem point5 (c : Dev nD) (t : Fin cfg0.N) (r : Fin 256) (o : Fin 704) :
    k0_pay7 (k0_pay12 (grid0.coords t) (iblk m c 0 t) (iblk m c 1 t) (iblk m c 2 t) (iblk m c 3 t) (iblk m c 4 t)) (ix3 0 r o)
      = Grad (m ((c : Thread nD τ).loc main_arg0)) (m ((c : Thread nD τ).loc main_arg1)) (ix3 ⟨t.val / 4, layer_lt t⟩ ⟨256 * (t.val % 4) + r.val, row_lt _ r⟩ o) := by
  rw [← sum_grad m c t r o]
  pointwise [k0_pay7]

theorem point7 (c : Dev nD) (t : Fin cfg0.N) (r : Fin 256) (o : Fin 704) :
    k0_pay8 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t)) (ix3 0 r o)
      = Mom (m ((c : Thread nD τ).loc main_arg0)) (m ((c : Thread nD τ).loc main_arg1)) (m ((c : Thread nD τ).loc main_arg3)) (ix3 ⟨t.val / 4, layer_lt t⟩ ⟨256 * (t.val % 4) + r.val, row_lt _ r⟩ o) := by
  show _ = Adam.mom _ _
  rw [← sum_grad m c t r o, ← g3 m c t r o, ← whole (iblk m c 3 t) r o]
  pointwise [k0_pay8, k0_pay5, k0_pay13, k0_pay4, Adam.mom]

theorem point8 (c : Dev nD) (t : Fin cfg0.N) (r : Fin 256) (o : Fin 704) :
    k0_pay9 (k0_pay12 (grid0.coords t) (iblk m c 0 t) (iblk m c 1 t) (iblk m c 2 t) (iblk m c 3 t) (iblk m c 4 t))
      (iblk m c 4 t) (ix3 0 r o)
      = Var (m ((c : Thread nD τ).loc main_arg0)) (m ((c : Thread nD τ).loc main_arg1)) (m ((c : Thread nD τ).loc main_arg4)) (ix3 ⟨t.val / 4, layer_lt t⟩ ⟨256 * (t.val % 4) + r.val, row_lt _ r⟩ o) := by
  show _ = Adam.var _ _
  rw [← sum_grad m c t r o, ← g4 m c t r o]
  pointwise [k0_pay9, k0_pay6, Adam.var]

theorem point6 (c : Dev nD) (t : Fin cfg0.N) (r : Fin 256) (o : Fin 704) :
    k0_pay1 (k0_pay10 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t))
      (iblk m c 4 t)) (k0_pay11 (iblk m c 2 t)) (ix3 0 r o)
      = Change (m ((c : Thread nD τ).loc main_arg0)) (m ((c : Thread nD τ).loc main_arg1)) (m ((c : Thread nD τ).loc main_arg2)) (m ((c : Thread nD τ).loc main_arg3))
        (m ((c : Thread nD τ).loc main_arg4)) (ix3 ⟨t.val / 4, layer_lt t⟩ ⟨256 * (t.val % 4) + r.val, row_lt _ r⟩ o) := by
  show _ = Adam.change _ _ _ _
  rw [← sum_grad m c t r o, ← g2 m c t r o, ← g3 m c t r o, ← g4 m c t r o, ← whole (iblk m c 3 t) r o]
  pointwise [k0_pay1, k0_pay10, k0_pay5, k0_pay6, k0_pay11, k0_pay13, k0_pay4, Adam.change, Adam.mom, Adam.var]

theorem result5 (c : Dev nD) : (dats m 0 c).arrAt 5 (cfgs 0).N
    = Grad (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, o, h⟩ := one_row y
  subst h
  exact (point5 m c t r o).trans (emb5 _ t r o).symm

theorem result6 (c : Dev nD) : (dats m 0 c).arrAt 6 (cfgs 0).N
    = Change (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, o, h⟩ := one_row y
  subst h
  exact (point6 m c t r o).trans (emb6 _ t r o).symm

theorem result7 (c : Dev nD) : (dats m 0 c).arrAt 7 (cfgs 0).N
    = Mom (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  obtain ⟨r, o, h⟩ := one_row y
  subst h
  exact (point7 m c t r o).trans (emb7 _ t r o).symm

theorem result8 (c : Dev nD) : (dats m 0 c).arrAt 8 (cfgs 0).N
    = Var (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  obtain ⟨r, o, h⟩ := one_row y
  subst h
  exact (point8 m c t r o).trans (emb8 _ t r o).symm

end Cert.AdamUpIdeal.Value

namespace Cert.Proof

/-- Kernel and reference leave equal gradients, changes and moments. -/
theorem algebraic_AdamUp : Cert.algebraic_AdamUpIdeal_AdamUpRefIdeal := by
  pair_intro
  · run_from Cert.AdamUpIdeal.Gen.run_main m g
  · run_from Cert.AdamUpRefIdeal.Value.run m' g'
    · rw [Cert.AdamUpIdeal.Value.result5 m c, ← (hagree c).1, ← (hagree c).2.1]
      exact Cert.AdamUpRefIdeal.Value.grad_eq _ _
    · rw [Cert.AdamUpIdeal.Value.result6 m c, ← (hagree c).1, ← (hagree c).2.1, ← (hagree c).2.2.1, ← (hagree c).2.2.2.1,
        ← (hagree c).2.2.2.2]
      exact Cert.AdamUpRefIdeal.Value.change_eq _ _ _ _ _
    · rw [Cert.AdamUpIdeal.Value.result7 m c, ← (hagree c).1, ← (hagree c).2.1, ← (hagree c).2.2.2.1]
      exact Cert.AdamUpRefIdeal.Value.mom_eq _ _ _
    · rw [Cert.AdamUpIdeal.Value.result8 m c, ← (hagree c).1, ← (hagree c).2.1, ← (hagree c).2.2.2.2]
      exact Cert.AdamUpRefIdeal.Value.var_eq _ _ _

/-- The reference runs to an end and leaves its arguments alone. -/
theorem frame_AdamUp_ref : Cert.quiescent_AdamUpRefIdeal := fun m ρ _ =>
  (θ_run Cert.AdamUpRefIdeal.defs _ _).mono
    (fun r h => ⟨fun c => (h c).2.2.2.2, sem_eq_zero_of_no_sems (by decide) r.2⟩)
    (Cert.AdamUpRefIdeal.Value.run (F := Ideal) m ρ)

end Cert.Proof

end
-- ==== Proof.AdamDown.lean ====
module

public import proofs.«01_k».proof.Defs
public import proofs.«01_k».proof.Proof.Adam
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Pipeline.ValueKit
public import Idealize.ShloMosaic.Lib.Claim
public import Idealize.ShloMosaic.Lib.Quiescent

/-!
`AdamDown`: the optimiser's call for the narrowing product. A layer's gradient is the sum of the eight devices' parts; the
moments and the parameter's change follow from it entry by entry.
-/

@[expose] public section

set_option maxRecDepth 16384
set_option maxHeartbeats 1000000

noncomputable section

open Idealize.ShloMosaic Idealize.ShloMosaic.TcCoe Idealize.SL.Sem
open Idealize.ShloMosaic.Pipeline (Dat)

namespace Cert.AdamDownRefIdeal.Value
open Cert.AdamDownRefIdeal Cert.AdamDownRefIdeal.Read

/-- A layer's gradient: the sum of the devices' parts. -/
def grad (p q : FVec Ideal S8x352x1024 .bf16) (l : Fin 2) (r : Fin 352) (o : Fin 1024) : EReal :=
  if l.val = 0 then ∑ k : Fin 8, p (ix3 k r o) else ∑ k : Fin 8, q (ix3 k r o)

/-- Both layers' gradients. -/
def Grad (p q : FVec Ideal S8x352x1024 .bf16) : FVec Ideal S2x352x1024 .f32 := fun i => grad p q (i 0) (i 1) (i 2)

theorem Grad_apply (p q : FVec Ideal S8x352x1024 .bf16) (l : Fin 2) (r : Fin 352) (o : Fin 1024) : Grad p q (ix3 l r o)
    = if l.val = 0 then ∑ k : Fin 8, p (ix3 k r o) else ∑ k : Fin 8, q (ix3 k r o) := rfl

/-- The first moments after the step. -/
def Mom (p q : FVec Ideal S8x352x1024 .bf16) (m : FVec Ideal S2x352x1024 .f32) : FVec Ideal S2x352x1024 .f32 :=
  fun i => Adam.mom (Grad p q i) (m i)

/-- The second moments after the step. -/
def Var (p q : FVec Ideal S8x352x1024 .bf16) (v : FVec Ideal S2x352x1024 .f32) : FVec Ideal S2x352x1024 .f32 :=
  fun i => Adam.var (Grad p q i) (v i)

/-- The parameters' changes. -/
def Change (p q : FVec Ideal S8x352x1024 .bf16) (w m v : FVec Ideal S2x352x1024 .f32) : FVec Ideal S2x352x1024 .f32 :=
  fun i => Adam.change (w i) (Grad p q i) (m i) (v i)

/-- The reference sums the devices' parts. -/
theorem grad_eq (p q : FVec Ideal S8x352x1024 .bf16) : val_main_v6 (F := Ideal) p q = Grad p q := by
  funext i
  idx_vars i
  simp only [val_main_v6, val_main_v5, val_main_v4, val_main_v3, val_main_v1, val_main_v2, val_main_v0, val_main_cst, val_main_cst_0, Grad, grad]
  pointwise
  split_ifs <;> first | rfl | omega

/-- The reference's first moments. -/
theorem mom_eq (p q : FVec Ideal S8x352x1024 .bf16) (m : FVec Ideal S2x352x1024 .f32) :
    val_main_v11 (F := Ideal) p q m = Mom p q m := by
  unfold val_main_v11 val_main_v10
  rw [grad_eq]
  rfl

/-- The reference's second moments. -/
theorem var_eq (p q : FVec Ideal S8x352x1024 .bf16) (x : FVec Ideal S2x352x1024 .f32) :
    val_main_v17 (F := Ideal) p q x = Var p q x := by
  unfold val_main_v17 val_main_v16 val_main_v14
  rw [grad_eq]
  rfl

/-- The reference's changes. -/
theorem change_eq (p q : FVec Ideal S8x352x1024 .bf16) (w m x : FVec Ideal S2x352x1024 .f32) :
    val_main_v30 (F := Ideal) p q w m x = Change p q w m x := by
  unfold val_main_v30 val_main_v28 val_main_v25 val_main_v24 val_main_v22 val_main_v21 val_main_v19
  rw [mom_eq, var_eq]
  rfl

end Cert.AdamDownRefIdeal.Value

namespace Cert.AdamDownIdeal.Value
open Cert.AdamDownIdeal Cert.AdamDownIdeal.Gen
open Cert.AdamDownRefIdeal.Value (grad Grad Mom Var Change)

variable (m : (ℓ : Loc nD τ sig) → Buf (Elt Ideal) ℓ)

theorem lt (t : Fin cfg0.N) : t.val < 4 := lt_of_lt_of_eq t.isLt N_0

/-- The grid runs over a layer's row blocks, then the next layer's. -/
theorem crd : ∀ t : Fin cfg0.N, (grid0.coords t 0).val = t.val / 2 :=
  (by decide +kernel : ∀ t : Fin grid0.N, _)

/-- Each window's block at grid point `t`. -/
theorem idx : ∀ t : Fin cfg0.N, win0_2.index t = ![t.val / 2, t.val % 2, 0]
    ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

/-- The first layer's parts move with the first half of the grid. -/
theorem idx0 : ∀ t : Fin cfg0.N, t.val / 2 = 0 → win0_0.index t = ![0, t.val % 2, 0] :=
  (by decide +kernel : ∀ t : Fin grid0.N, _)

/-- The second layer's parts move with the second half. -/
theorem idx1 : ∀ t : Fin cfg0.N, ¬ t.val / 2 = 0 → win0_1.index t = ![0, t.val % 2, 0] :=
  (by decide +kernel : ∀ t : Fin grid0.N, _)

theorem row_lt (n : ℕ) (r : Fin 176) : 176 * (n % 2) + r.val < 352 := by
  have := Nat.mod_lt n (by decide : 0 < 2)
  omega

theorem layer_lt (t : Fin cfg0.N) : t.val / 2 < 2 := by
  have := lt t
  omega

/-- A block of one layer's rows is indexed by row and column. -/
theorem one_row (y : (S1x176x1024 : Shape).Idx) : ∃ (r : Fin 176) (o : Fin 1024), y = ix3 0 r o :=
  ⟨y 1, y 2, by
    funext a
    fin_cases a
    · exact Subsingleton.elim (α := Fin 1) _ _
    · rfl
    · rfl⟩

/-- One device's part of a block. -/
theorem part (x : FVec Ideal S8x176x1024 .bf16) (k : ℕ) (hk : k < 8) (h) (r : Fin 176) (o : Fin 1024) :
    View.ld (Val := Elt Ideal) (e' := .bf16) x (Rect.unit (s := S8x176x1024) ![k, 0, 0] S1x176x1024.size h) (ix3 0 r o)
      = x (ix3 ⟨k, hk⟩ r o) := by
  refine congrArg x (funext fun a => ?_)
  fin_cases a <;> exact Fin.ext (by simp [LoadRect.idx, Rect.unit, ix3])

/-- The whole of a block. -/
theorem whole (x : FVec Ideal S1x176x1024 .f32) (r : Fin 176) (o : Fin 1024) :
    View.ld (Val := Elt Ideal) (e' := .f32) x r0_8 (ix3 0 r o) = x (ix3 0 r o) := by
  refine congrArg x (funext fun a => ?_)
  fin_cases a <;> exact Fin.ext (by simp [LoadRect.idx, Rect.unit, ix3])

theorem g0 (c : Dev nD) (t : Fin cfg0.N) (h : t.val / 2 = 0) (k : Fin 8) (r : Fin 176) (o : Fin 1024) :
    iblk m c 0 t (ix3 k r o) = m ((c : Thread nD τ).loc main_arg0) (ix3 k ⟨176 * (t.val % 2) + r.val, row_lt _ r⟩ o) := by
  blk_point [iblk, V, idx0 t h]

theorem g1 (c : Dev nD) (t : Fin cfg0.N) (h : ¬ t.val / 2 = 0) (k : Fin 8) (r : Fin 176) (o : Fin 1024) :
    iblk m c 1 t (ix3 k r o) = m ((c : Thread nD τ).loc main_arg1) (ix3 k ⟨176 * (t.val % 2) + r.val, row_lt _ r⟩ o) := by
  blk_point [iblk, V, idx1 t h]

theorem g2 (c : Dev nD) (t : Fin cfg0.N) (r : Fin 176) (o : Fin 1024) :
    iblk m c 2 t (ix3 0 r o) = m ((c : Thread nD τ).loc main_arg2)
      (ix3 ⟨t.val / 2, layer_lt t⟩ ⟨176 * (t.val % 2) + r.val, row_lt _ r⟩ o) := by
  blk_point [iblk, V, idx t]

theorem g3 (c : Dev nD) (t : Fin cfg0.N) (r : Fin 176) (o : Fin 1024) :
    iblk m c 3 t (ix3 0 r o) = m ((c : Thread nD τ).loc main_arg3)
      (ix3 ⟨t.val / 2, layer_lt t⟩ ⟨176 * (t.val % 2) + r.val, row_lt _ r⟩ o) := by
  blk_point [iblk, V, idx t]

theorem g4 (c : Dev nD) (t : Fin cfg0.N) (r : Fin 176) (o : Fin 1024) :
    iblk m c 4 t (ix3 0 r o) = m ((c : Thread nD τ).loc main_arg4)
      (ix3 ⟨t.val / 2, layer_lt t⟩ ⟨176 * (t.val % 2) + r.val, row_lt _ r⟩ o) := by
  blk_point [iblk, V, idx t]

theorem emb5 (x : FVec Ideal S2x352x1024 .f32) (t : Fin cfg0.N) (r : Fin 176) (o : Fin 1024) :
    x (((cfg0.win 5).blk t).view.emb (ix3 0 r o))
      = x (ix3 ⟨t.val / 2, layer_lt t⟩ ⟨176 * (t.val % 2) + r.val, row_lt _ r⟩ o) := by
  blk_point [idx t]

theorem emb6 (x : FVec Ideal S2x352x1024 .f32) (t : Fin cfg0.N) (r : Fin 176) (o : Fin 1024) :
    x (((cfg0.win 6).blk t).view.emb (ix3 0 r o))
      = x (ix3 ⟨t.val / 2, layer_lt t⟩ ⟨176 * (t.val % 2) + r.val, row_lt _ r⟩ o) := by
  blk_point [idx t]

theorem emb7 (x : FVec Ideal S2x352x1024 .f32) (t : Fin cfg0.N) (r : Fin 176) (o : Fin 1024) :
    x (((cfg0.win 7).blk t).view.emb (ix3 0 r o))
      = x (ix3 ⟨t.val / 2, layer_lt t⟩ ⟨176 * (t.val % 2) + r.val, row_lt _ r⟩ o) := by
  blk_point [idx t]

theorem emb8 (x : FVec Ideal S2x352x1024 .f32) (t : Fin cfg0.N) (r : Fin 176) (o : Fin 1024) :
    x (((cfg0.win 8).blk t).view.emb (ix3 0 r o))
      = x (ix3 ⟨t.val / 2, layer_lt t⟩ ⟨176 * (t.val % 2) + r.val, row_lt _ r⟩ o) := by
  blk_point [idx t]

/-- The sum of the devices' parts of the first layer. -/
theorem sum0 (x : FVec Ideal S8x176x1024 .bf16) (r : Fin 176) (o : Fin 1024) :
    k0_pay2 (F := Ideal) (View.ld x r0_0) (View.ld x r0_1) (View.ld x r0_2) (View.ld x r0_3) (View.ld x r0_4) (View.ld x r0_5)
      (View.ld x r0_6) (View.ld x r0_7) (ix2 r o) = ∑ k : Fin 8, x (ix3 k r o) := by
  rw [Fin.sum_univ_eight]
  pointwise [k0_pay2]

/-- A block's gradient. -/
theorem sum_at (i : grid0.Coords) (h : (i 0).val < 2) (x y : FVec Ideal S8x176x1024 .bf16) (w a b : FVec Ideal S1x176x1024 .f32)
    (r : Fin 176) (o : Fin 1024) :
    k0_pay12 (F := Ideal) i x y w a b (ix2 r o)
      = if (i 0).val = 0 then ∑ k : Fin 8, x (ix3 k r o) else ∑ k : Fin 8, y (ix3 k r o) := by
  refine Eq.trans ?_ (Adam.sel (i 0).val h _ _)
  rw [← sum0 x r o, Fin.sum_univ_eight]
  pointwise [k0_pay12, k0_pay3]

/-- A block's gradient is the layers' gradient there. -/
theorem sum_grad (c : Dev nD) (t : Fin cfg0.N) (r : Fin 176) (o : Fin 1024) :
    k0_pay12 (F := Ideal) (grid0.coords t) (iblk m c 0 t) (iblk m c 1 t) (iblk m c 2 t) (iblk m c 3 t) (iblk m c 4 t) (ix2 r o)
      = Grad (m ((c : Thread nD τ).loc main_arg0)) (m ((c : Thread nD τ).loc main_arg1)) (ix3 ⟨t.val / 2, layer_lt t⟩ ⟨176 * (t.val % 2) + r.val, row_lt _ r⟩ o) := by
  rw [sum_at _ (by rw [crd t]; exact layer_lt t), crd t]
  rw [Cert.AdamDownRefIdeal.Value.Grad_apply]
  by_cases h : t.val / 2 = 0
  · rw [if_pos h, if_pos h]
    exact Finset.sum_congr rfl fun k _ => g0 m c t h k r o
  · rw [if_neg h, if_neg h]
    exact Finset.sum_congr rfl fun k _ => g1 m c t h k r o

theorem point5 (c : Dev nD) (t : Fin cfg0.N) (r : Fin 176) (o : Fin 1024) :
    k0_pay7 (k0_pay12 (grid0.coords t) (iblk m c 0 t) (iblk m c 1 t) (iblk m c 2 t) (iblk m c 3 t) (iblk m c 4 t)) (ix3 0 r o)
      = Grad (m ((c : Thread nD τ).loc main_arg0)) (m ((c : Thread nD τ).loc main_arg1)) (ix3 ⟨t.val / 2, layer_lt t⟩ ⟨176 * (t.val % 2) + r.val, row_lt _ r⟩ o) := by
  rw [← sum_grad m c t r o]
  pointwise [k0_pay7]

theorem point7 (c : Dev nD) (t : Fin cfg0.N) (r : Fin 176) (o : Fin 1024) :
    k0_pay8 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t)) (ix3 0 r o)
      = Mom (m ((c : Thread nD τ).loc main_arg0)) (m ((c : Thread nD τ).loc main_arg1)) (m ((c : Thread nD τ).loc main_arg3)) (ix3 ⟨t.val / 2, layer_lt t⟩ ⟨176 * (t.val % 2) + r.val, row_lt _ r⟩ o) := by
  show _ = Adam.mom _ _
  rw [← sum_grad m c t r o, ← g3 m c t r o, ← whole (iblk m c 3 t) r o]
  pointwise [k0_pay8, k0_pay5, k0_pay13, k0_pay4, Adam.mom]

theorem point8 (c : Dev nD) (t : Fin cfg0.N) (r : Fin 176) (o : Fin 1024) :
    k0_pay9 (k0_pay12 (grid0.coords t) (iblk m c 0 t) (iblk m c 1 t) (iblk m c 2 t) (iblk m c 3 t) (iblk m c 4 t))
      (iblk m c 4 t) (ix3 0 r o)
      = Var (m ((c : Thread nD τ).loc main_arg0)) (m ((c : Thread nD τ).loc main_arg1)) (m ((c : Thread nD τ).loc main_arg4)) (ix3 ⟨t.val / 2, layer_lt t⟩ ⟨176 * (t.val % 2) + r.val, row_lt _ r⟩ o) := by
  show _ = Adam.var _ _
  rw [← sum_grad m c t r o, ← g4 m c t r o]
  pointwise [k0_pay9, k0_pay6, Adam.var]

theorem point6 (c : Dev nD) (t : Fin cfg0.N) (r : Fin 176) (o : Fin 1024) :
    k0_pay1 (k0_pay10 (k0_pay12 (grid0.coords t) (iblk m c 0 t) (iblk m c 1 t) (iblk m c 2 t) (iblk m c 3 t) (iblk m c 4 t))
      (k0_pay13 (grid0.coords t) (iblk m c 0 t) (iblk m c 1 t) (iblk m c 2 t) (iblk m c 3 t) (iblk m c 4 t))
      (iblk m c 4 t)) (k0_pay11 (iblk m c 2 t)) (ix3 0 r o)
      = Change (m ((c : Thread nD τ).loc main_arg0)) (m ((c : Thread nD τ).loc main_arg1)) (m ((c : Thread nD τ).loc main_arg2)) (m ((c : Thread nD τ).loc main_arg3))
        (m ((c : Thread nD τ).loc main_arg4)) (ix3 ⟨t.val / 2, layer_lt t⟩ ⟨176 * (t.val % 2) + r.val, row_lt _ r⟩ o) := by
  show _ = Adam.change _ _ _ _
  rw [← sum_grad m c t r o, ← g2 m c t r o, ← g3 m c t r o, ← g4 m c t r o, ← whole (iblk m c 3 t) r o]
  pointwise [k0_pay1, k0_pay10, k0_pay5, k0_pay6, k0_pay11, k0_pay13, k0_pay4, Adam.change, Adam.mom, Adam.var]

theorem result5 (c : Dev nD) : (dats m 0 c).arrAt 5 (cfgs 0).N
    = Grad (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, o, h⟩ := one_row y
  subst h
  exact (point5 m c t r o).trans (emb5 _ t r o).symm

theorem result6 (c : Dev nD) : (dats m 0 c).arrAt 6 (cfgs 0).N
    = Change (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, o, h⟩ := one_row y
  subst h
  exact (point6 m c t r o).trans (emb6 _ t r o).symm

theorem result7 (c : Dev nD) : (dats m 0 c).arrAt 7 (cfgs 0).N
    = Mom (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  obtain ⟨r, o, h⟩ := one_row y
  subst h
  exact (point7 m c t r o).trans (emb7 _ t r o).symm

theorem result8 (c : Dev nD) : (dats m 0 c).arrAt 8 (cfgs 0).N
    = Var (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  obtain ⟨r, o, h⟩ := one_row y
  subst h
  exact (point8 m c t r o).trans (emb8 _ t r o).symm

end Cert.AdamDownIdeal.Value

namespace Cert.Proof

/-- Kernel and reference leave equal gradients, changes and moments. -/
theorem algebraic_AdamDown : Cert.algebraic_AdamDownIdeal_AdamDownRefIdeal := by
  pair_intro
  · run_from Cert.AdamDownIdeal.Gen.run_main m g
  · run_from Cert.AdamDownRefIdeal.Value.run m' g'
    · rw [Cert.AdamDownIdeal.Value.result5 m c, ← (hagree c).1, ← (hagree c).2.1]
      exact Cert.AdamDownRefIdeal.Value.grad_eq _ _
    · rw [Cert.AdamDownIdeal.Value.result6 m c, ← (hagree c).1, ← (hagree c).2.1, ← (hagree c).2.2.1, ← (hagree c).2.2.2.1,
        ← (hagree c).2.2.2.2]
      exact Cert.AdamDownRefIdeal.Value.change_eq _ _ _ _ _
    · rw [Cert.AdamDownIdeal.Value.result7 m c, ← (hagree c).1, ← (hagree c).2.1, ← (hagree c).2.2.2.1]
      exact Cert.AdamDownRefIdeal.Value.mom_eq _ _ _
    · rw [Cert.AdamDownIdeal.Value.result8 m c, ← (hagree c).1, ← (hagree c).2.1, ← (hagree c).2.2.2.2]
      exact Cert.AdamDownRefIdeal.Value.var_eq _ _ _

/-- The reference runs to an end and leaves its arguments alone. -/
theorem frame_AdamDown_ref : Cert.quiescent_AdamDownRefIdeal := fun m ρ _ =>
  (θ_run Cert.AdamDownRefIdeal.defs _ _).mono
    (fun r h => ⟨fun c => (h c).2.2.2.2, sem_eq_zero_of_no_sems (by decide) r.2⟩)
    (Cert.AdamDownRefIdeal.Value.run (F := Ideal) m ρ)

end Cert.Proof

end
-- ==== Proof.AdamConv.lean ====
module

public import proofs.«01_k».proof.Defs
public import proofs.«01_k».proof.Proof.Adam
public import proofs.«01_k».proof.Proof.Gen.AdamConvIdeal.Value
public import proofs.«01_k».proof.Proof.Gen.AdamConvRefIdeal.Run
public import proofs.«01_k».proof.Proof.Gen.AdamConvRefIdeal.Read
public import Idealize.ShloMosaic.Lib.Pipeline.ValueKit
public import Idealize.ShloMosaic.Lib.Claim
public import Idealize.ShloMosaic.Lib.Quiescent

/-!
`AdamConv`: the optimiser's call for the convolution. A layer's gradient is the sum of the eight devices' parts; the
moments and the parameter's change follow from it entry by entry.
-/

@[expose] public section

set_option maxRecDepth 16384
set_option maxHeartbeats 1000000

noncomputable section

open Idealize.ShloMosaic Idealize.ShloMosaic.TcCoe Idealize.SL.Sem
open Idealize.ShloMosaic.Pipeline (Dat)

namespace Cert.AdamConvRefIdeal.Value
open Cert.AdamConvRefIdeal Cert.AdamConvRefIdeal.Read

/-- A layer's gradient: the sum of the devices' parts. -/
def grad (p q : FVec Ideal S8x3x704 .f32) (l : Fin 2) (r : Fin 3) (o : Fin 704) : EReal :=
  if l.val = 0 then ∑ k : Fin 8, p (ix3 k r o) else ∑ k : Fin 8, q (ix3 k r o)

/-- Both layers' gradients. -/
def Grad (p q : FVec Ideal S8x3x704 .f32) : FVec Ideal S2x3x704 .f32 := fun i => grad p q (i 0) (i 1) (i 2)

theorem Grad_apply (p q : FVec Ideal S8x3x704 .f32) (l : Fin 2) (r : Fin 3) (o : Fin 704) : Grad p q (ix3 l r o)
    = if l.val = 0 then ∑ k : Fin 8, p (ix3 k r o) else ∑ k : Fin 8, q (ix3 k r o) := rfl

/-- The first moments after the step. -/
def Mom (p q : FVec Ideal S8x3x704 .f32) (m : FVec Ideal S2x3x704 .f32) : FVec Ideal S2x3x704 .f32 :=
  fun i => Adam.mom (Grad p q i) (m i)

/-- The second moments after the step. -/
def Var (p q : FVec Ideal S8x3x704 .f32) (v : FVec Ideal S2x3x704 .f32) : FVec Ideal S2x3x704 .f32 :=
  fun i => Adam.var (Grad p q i) (v i)

/-- The parameters' changes. -/
def Change (p q : FVec Ideal S8x3x704 .f32) (w m v : FVec Ideal S2x3x704 .f32) : FVec Ideal S2x3x704 .f32 :=
  fun i => Adam.change (w i) (Grad p q i) (m i) (v i)

/-- The reference sums the devices' parts. -/
theorem grad_eq (p q : FVec Ideal S8x3x704 .f32) : val_main_v4 (F := Ideal) p q = Grad p q := by
  funext i
  idx_vars i
  simp only [val_main_v4, val_main_v3, val_main_v2, val_main_v1, val_main_v0, val_main_cst, val_main_cst_0, Grad, grad]
  pointwise
  split_ifs <;> first | rfl | omega

/-- The reference's first moments. -/
theorem mom_eq (p q : FVec Ideal S8x3x704 .f32) (m : FVec Ideal S2x3x704 .f32) :
    val_main_v9 (F := Ideal) p q m = Mom p q m := by
  unfold val_main_v9 val_main_v8
  rw [grad_eq]
  rfl

/-- The reference's second moments. -/
theorem var_eq (p q : FVec Ideal S8x3x704 .f32) (x : FVec Ideal S2x3x704 .f32) :
    val_main_v15 (F := Ideal) p q x = Var p q x := by
  unfold val_main_v15 val_main_v14 val_main_v12
  rw [grad_eq]
  rfl

/-- The reference's changes. -/
theorem change_eq (p q : FVec Ideal S8x3x704 .f32) (w m x : FVec Ideal S2x3x704 .f32) :
    val_main_v28 (F := Ideal) p q w m x = Change p q w m x := by
  unfold val_main_v28 val_main_v26 val_main_v23 val_main_v22 val_main_v20 val_main_v19 val_main_v17
  rw [mom_eq, var_eq]
  rfl

end Cert.AdamConvRefIdeal.Value

namespace Cert.AdamConvIdeal.Value
open Cert.AdamConvIdeal Cert.AdamConvIdeal.Gen
open Cert.AdamConvRefIdeal.Value (grad Grad Mom Var Change)

variable (m : (ℓ : Loc nD τ sig) → Buf (Elt Ideal) ℓ)

theorem lt (t : Fin cfg0.N) : t.val < 2 := lt_of_lt_of_eq t.isLt N_0

/-- The grid runs over a layer's row blocks, then the next layer's. -/
theorem crd : ∀ t : Fin cfg0.N, (grid0.coords t 0).val = t.val / 1 :=
  (by decide +kernel : ∀ t : Fin grid0.N, _)

/-- Each window's block at grid point `t`. -/
theorem idx : ∀ t : Fin cfg0.N, win0_2.index t = ![t.val / 1, t.val % 1, 0]
    ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0]
    ∧ win0_7.index t = ![t.val / 1, t.val % 1, 0] ∧ win0_8.index t = ![t.val / 1, t.val % 1, 0] :=
  (by decide +kernel : ∀ t : Fin grid0.N, _)

/-- The first layer's parts move with the first half of the grid. -/
theorem idx0 : ∀ t : Fin cfg0.N, t.val / 1 = 0 → win0_0.index t = ![0, t.val % 1, 0] :=
  (by decide +kernel : ∀ t : Fin grid0.N, _)

/-- The second layer's parts move with the second half. -/
theorem idx1 : ∀ t : Fin cfg0.N, ¬ t.val / 1 = 0 → win0_1.index t = ![0, t.val % 1, 0] :=
  (by decide +kernel : ∀ t : Fin grid0.N, _)

theorem row_lt (n : ℕ) (r : Fin 3) : 3 * (n % 1) + r.val < 3 := by
  have := Nat.mod_lt n (by decide : 0 < 1)
  omega

theorem layer_lt (t : Fin cfg0.N) : t.val / 1 < 2 := by
  have := lt t
  omega

/-- A block of one layer's rows is indexed by row and column. -/
theorem one_row (y : (S1x3x704 : Shape).Idx) : ∃ (r : Fin 3) (o : Fin 704), y = ix3 0 r o :=
  ⟨y 1, y 2, by
    funext a
    fin_cases a
    · exact Subsingleton.elim (α := Fin 1) _ _
    · rfl
    · rfl⟩

/-- One device's part of a block. -/
theorem part (x : FVec Ideal S8x3x704 .f32) (k : ℕ) (hk : k < 8) (h) (r : Fin 3) (o : Fin 704) :
    View.ld (Val := Elt Ideal) (e' := .f32) x (Rect.unit (s := S8x3x704) ![k, 0, 0] S1x3x704.size h) (ix3 0 r o)
      = x (ix3 ⟨k, hk⟩ r o) := by
  refine congrArg x (funext fun a => ?_)
  fin_cases a <;> exact Fin.ext (by simp [LoadRect.idx, Rect.unit, ix3])

/-- The whole of a block. -/
theorem whole (x : FVec Ideal S1x3x704 .f32) (r : Fin 3) (o : Fin 704) :
    View.ld (Val := Elt Ideal) (e' := .f32) x r0_8 (ix3 0 r o) = x (ix3 0 r o) := by
  refine congrArg x (funext fun a => ?_)
  fin_cases a <;> exact Fin.ext (by simp [LoadRect.idx, Rect.unit, ix3])

theorem g0 (c : Dev nD) (t : Fin cfg0.N) (h : t.val / 1 = 0) (k : Fin 8) (r : Fin 3) (o : Fin 704) :
    iblk m c 0 t (ix3 k r o) = m ((c : Thread nD τ).loc main_arg0) (ix3 k ⟨3 * (t.val % 1) + r.val, row_lt _ r⟩ o) := by
  blk_point [iblk, V, idx0 t h]

theorem g1 (c : Dev nD) (t : Fin cfg0.N) (h : ¬ t.val / 1 = 0) (k : Fin 8) (r : Fin 3) (o : Fin 704) :
    iblk m c 1 t (ix3 k r o) = m ((c : Thread nD τ).loc main_arg1) (ix3 k ⟨3 * (t.val % 1) + r.val, row_lt _ r⟩ o) := by
  blk_point [iblk, V, idx1 t h]

theorem g2 (c : Dev nD) (t : Fin cfg0.N) (r : Fin 3) (o : Fin 704) :
    iblk m c 2 t (ix3 0 r o) = m ((c : Thread nD τ).loc main_arg2)
      (ix3 ⟨t.val / 1, layer_lt t⟩ ⟨3 * (t.val % 1) + r.val, row_lt _ r⟩ o) := by
  blk_point [iblk, V, idx t]

theorem g3 (c : Dev nD) (t : Fin cfg0.N) (r : Fin 3) (o : Fin 704) :
    iblk m c 3 t (ix3 0 r o) = m ((c : Thread nD τ).loc main_arg3)
      (ix3 ⟨t.val / 1, layer_lt t⟩ ⟨3 * (t.val % 1) + r.val, row_lt _ r⟩ o) := by
  blk_point [iblk, V, idx t]

theorem g4 (c : Dev nD) (t : Fin cfg0.N) (r : Fin 3) (o : Fin 704) :
    iblk m c 4 t (ix3 0 r o) = m ((c : Thread nD τ).loc main_arg4)
      (ix3 ⟨t.val / 1, layer_lt t⟩ ⟨3 * (t.val % 1) + r.val, row_lt _ r⟩ o) := by
  blk_point [iblk, V, idx t]

theorem emb5 (x : FVec Ideal S2x3x704 .f32) (t : Fin cfg0.N) (r : Fin 3) (o : Fin 704) :
    x (((cfg0.win 5).blk t).view.emb (ix3 0 r o))
      = x (ix3 ⟨t.val / 1, layer_lt t⟩ ⟨3 * (t.val % 1) + r.val, row_lt _ r⟩ o) := by
  blk_point [idx t]

theorem emb6 (x : FVec Ideal S2x3x704 .f32) (t : Fin cfg0.N) (r : Fin 3) (o : Fin 704) :
    x (((cfg0.win 6).blk t).view.emb (ix3 0 r o))
      = x (ix3 ⟨t.val / 1, layer_lt t⟩ ⟨3 * (t.val % 1) + r.val, row_lt _ r⟩ o) := by
  blk_point [idx t]

theorem emb7 (x : FVec Ideal S2x3x704 .f32) (t : Fin cfg0.N) (r : Fin 3) (o : Fin 704) :
    x (((cfg0.win 7).blk t).view.emb (ix3 0 r o))
      = x (ix3 ⟨t.val / 1, layer_lt t⟩ ⟨3 * (t.val % 1) + r.val, row_lt _ r⟩ o) := by
  blk_point [idx t]

theorem emb8 (x : FVec Ideal S2x3x704 .f32) (t : Fin cfg0.N) (r : Fin 3) (o : Fin 704) :
    x (((cfg0.win 8).blk t).view.emb (ix3 0 r o))
      = x (ix3 ⟨t.val / 1, layer_lt t⟩ ⟨3 * (t.val % 1) + r.val, row_lt _ r⟩ o) := by
  blk_point [idx t]

/-- The sum of the devices' parts of the first layer. -/
theorem sum0 (x : FVec Ideal S8x3x704 .f32) (r : Fin 3) (o : Fin 704) :
    k0_pay6 (F := Ideal) (View.ld x r0_0) (View.ld x r0_1) (View.ld x r0_2) (View.ld x r0_3) (View.ld x r0_4) (View.ld x r0_5)
      (View.ld x r0_6) (View.ld x r0_7) (ix2 r o) = ∑ k : Fin 8, x (ix3 k r o) := by
  rw [Fin.sum_univ_eight]
  pointwise [k0_pay6]

/-- A block's gradient, as the body has it. -/
abbrev sums (i : grid0.Coords) (x y : FVec Ideal S8x3x704 .f32) (w a b : FVec Ideal S1x3x704 .f32) : FVec Ideal S3x704 .f32 :=
  k0_pay8 (F := Ideal) (Scalar.cmpi .eq (BitVec.ofNat 32 (i 0).val) 0#32) (k0_pay12 i x y w a b) (k0_pay13 i x y w a b)
    (View.ld y r0_1) (View.ld y r0_2) (View.ld y r0_3) (View.ld y r0_4) (View.ld y r0_5) (View.ld y r0_6) (View.ld y r0_7)

/-- A block's gradient. -/
theorem sum_at (i : grid0.Coords) (h : (i 0).val < 2) (x y : FVec Ideal S8x3x704 .f32) (w a b : FVec Ideal S1x3x704 .f32)
    (r : Fin 3) (o : Fin 704) :
    sums i x y w a b (ix2 r o)
      = if (i 0).val = 0 then ∑ k : Fin 8, x (ix3 k r o) else ∑ k : Fin 8, y (ix3 k r o) := by
  refine Eq.trans ?_ (Adam.sel (i 0).val h _ _)
  rw [← sum0 x r o, Fin.sum_univ_eight]
  pointwise [sums, k0_pay8, k0_pay12, k0_pay13, k0_pay7]

/-- A block's gradient is the layers' gradient there. -/
theorem sum_grad (c : Dev nD) (t : Fin cfg0.N) (r : Fin 3) (o : Fin 704) :
    sums (grid0.coords t) (iblk m c 0 t) (iblk m c 1 t) (iblk m c 2 t) (iblk m c 3 t) (iblk m c 4 t) (ix2 r o)
      = Grad (m ((c : Thread nD τ).loc main_arg0)) (m ((c : Thread nD τ).loc main_arg1)) (ix3 ⟨t.val / 1, layer_lt t⟩ ⟨3 * (t.val % 1) + r.val, row_lt _ r⟩ o) := by
  rw [sum_at _ (by rw [crd t]; exact layer_lt t), crd t]
  rw [Cert.AdamConvRefIdeal.Value.Grad_apply]
  by_cases h : t.val / 1 = 0
  · rw [if_pos h, if_pos h]
    exact Finset.sum_congr rfl fun k _ => g0 m c t h k r o
  · rw [if_neg h, if_neg h]
    exact Finset.sum_congr rfl fun k _ => g1 m c t h k r o

theorem point5 (c : Dev nD) (t : Fin cfg0.N) (r : Fin 3) (o : Fin 704) :
    k0_pay2 (sums (grid0.coords t) (iblk m c 0 t) (iblk m c 1 t) (iblk m c 2 t) (iblk m c 3 t) (iblk m c 4 t)) (ix3 0 r o)
      = Grad (m ((c : Thread nD τ).loc main_arg0)) (m ((c : Thread nD τ).loc main_arg1)) (ix3 ⟨t.val / 1, layer_lt t⟩ ⟨3 * (t.val % 1) + r.val, row_lt _ r⟩ o) := by
  rw [← sum_grad m c t r o]
  pointwise [k0_pay2]

theorem point7 (c : Dev nD) (t : Fin cfg0.N) (r : Fin 3) (o : Fin 704) :
    k0_pay3 (k0_pay14 (grid0.coords t) (iblk m c 0 t) (iblk m c 1 t) (iblk m c 2 t) (iblk m c 3 t) (iblk m c 4 t)) (ix3 0 r o)
      = Mom (m ((c : Thread nD τ).loc main_arg0)) (m ((c : Thread nD τ).loc main_arg1)) (m ((c : Thread nD τ).loc main_arg3)) (ix3 ⟨t.val / 1, layer_lt t⟩ ⟨3 * (t.val % 1) + r.val, row_lt _ r⟩ o) := by
  show _ = Adam.mom _ _
  rw [← sum_grad m c t r o, ← g3 m c t r o, ← whole (iblk m c 3 t) r o]
  pointwise [k0_pay3, k0_pay14, k0_pay9, Adam.mom]

theorem point8 (c : Dev nD) (t : Fin cfg0.N) (r : Fin 3) (o : Fin 704) :
    k0_pay4 (k0_pay15 (grid0.coords t) (iblk m c 0 t) (iblk m c 1 t) (iblk m c 2 t) (iblk m c 3 t) (iblk m c 4 t)) (k0_pay16 (grid0.coords t) (iblk m c 0 t) (iblk m c 1 t) (iblk m c 2 t) (iblk m c 3 t) (iblk m c 4 t)) (ix3 0 r o)
      = Var (m ((c : Thread nD τ).loc main_arg0)) (m ((c : Thread nD τ).loc main_arg1)) (m ((c : Thread nD τ).loc main_arg4)) (ix3 ⟨t.val / 1, layer_lt t⟩ ⟨3 * (t.val % 1) + r.val, row_lt _ r⟩ o) := by
  show _ = Adam.var _ _
  rw [← sum_grad m c t r o, ← g4 m c t r o, ← whole (iblk m c 4 t) r o]
  pointwise [k0_pay4, k0_pay1, k0_pay15, k0_pay16, k0_pay10, k0_pay11, Adam.var]

theorem point6 (c : Dev nD) (t : Fin cfg0.N) (r : Fin 3) (o : Fin 704) :
    k0_pay5 (k0_pay14 (grid0.coords t) (iblk m c 0 t) (iblk m c 1 t) (iblk m c 2 t) (iblk m c 3 t) (iblk m c 4 t)) (k0_pay15 (grid0.coords t) (iblk m c 0 t) (iblk m c 1 t) (iblk m c 2 t) (iblk m c 3 t) (iblk m c 4 t))
      (k0_pay16 (grid0.coords t) (iblk m c 0 t) (iblk m c 1 t) (iblk m c 2 t) (iblk m c 3 t) (iblk m c 4 t)) (iblk m c 2 t) (ix3 0 r o)
      = Change (m ((c : Thread nD τ).loc main_arg0)) (m ((c : Thread nD τ).loc main_arg1)) (m ((c : Thread nD τ).loc main_arg2)) (m ((c : Thread nD τ).loc main_arg3))
        (m ((c : Thread nD τ).loc main_arg4)) (ix3 ⟨t.val / 1, layer_lt t⟩ ⟨3 * (t.val % 1) + r.val, row_lt _ r⟩ o) := by
  show _ = Adam.change _ _ _ _
  rw [← sum_grad m c t r o, ← g2 m c t r o, ← g3 m c t r o, ← g4 m c t r o, ← whole (iblk m c 3 t) r o,
    ← whole (iblk m c 4 t) r o]
  pointwise [k0_pay5, k0_pay1, k0_pay14, k0_pay15, k0_pay16, k0_pay9, k0_pay10, k0_pay11, Adam.change, Adam.mom, Adam.var]

theorem result5 (c : Dev nD) : (dats m 0 c).arrAt 5 (cfgs 0).N
    = Grad (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, o, h⟩ := one_row y
  subst h
  exact (point5 m c t r o).trans (emb5 _ t r o).symm

theorem result6 (c : Dev nD) : (dats m 0 c).arrAt 6 (cfgs 0).N
    = Change (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, o, h⟩ := one_row y
  subst h
  exact (point6 m c t r o).trans (emb6 _ t r o).symm

theorem result7 (c : Dev nD) : (dats m 0 c).arrAt 7 (cfgs 0).N
    = Mom (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  obtain ⟨r, o, h⟩ := one_row y
  subst h
  exact (point7 m c t r o).trans (emb7 _ t r o).symm

theorem result8 (c : Dev nD) : (dats m 0 c).arrAt 8 (cfgs 0).N
    = Var (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  obtain ⟨r, o, h⟩ := one_row y
  subst h
  exact (point8 m c t r o).trans (emb8 _ t r o).symm

end Cert.AdamConvIdeal.Value

namespace Cert.Proof

/-- Kernel and reference leave equal gradients, changes and moments. -/
theorem algebraic_AdamConv : Cert.algebraic_AdamConvIdeal_AdamConvRefIdeal := by
  pair_intro
  · run_from Cert.AdamConvIdeal.Gen.run_main m g
  · run_from Cert.AdamConvRefIdeal.Value.run m' g'
    · rw [Cert.AdamConvIdeal.Value.result5 m c, ← (hagree c).1, ← (hagree c).2.1]
      exact Cert.AdamConvRefIdeal.Value.grad_eq _ _
    · rw [Cert.AdamConvIdeal.Value.result6 m c, ← (hagree c).1, ← (hagree c).2.1, ← (hagree c).2.2.1, ← (hagree c).2.2.2.1,
        ← (hagree c).2.2.2.2]
      exact Cert.AdamConvRefIdeal.Value.change_eq _ _ _ _ _
    · rw [Cert.AdamConvIdeal.Value.result7 m c, ← (hagree c).1, ← (hagree c).2.1, ← (hagree c).2.2.2.1]
      exact Cert.AdamConvRefIdeal.Value.mom_eq _ _ _
    · rw [Cert.AdamConvIdeal.Value.result8 m c, ← (hagree c).1, ← (hagree c).2.1, ← (hagree c).2.2.2.2]
      exact Cert.AdamConvRefIdeal.Value.var_eq _ _ _

/-- The reference runs to an end and leaves its arguments alone. -/
theorem frame_AdamConv_ref : Cert.quiescent_AdamConvRefIdeal := fun m ρ _ =>
  (θ_run Cert.AdamConvRefIdeal.defs _ _).mono
    (fun r h => ⟨fun c => (h c).2.2.2.2, sem_eq_zero_of_no_sems (by decide) r.2⟩)
    (Cert.AdamConvRefIdeal.Value.run (F := Ideal) m ρ)

end Cert.Proof

end
-- ==== Proof.PoolFwdPure.lean ====
module

public import proofs.«01_k».proof.Proof.Gen.PoolFwdRefIdeal.Read
public import Idealize.ShloMosaic.Lib.Pointwise

/-!
The pooling mixer as a formula on the argument arrays, and the reference's arrays read as this formula.
-/

@[expose] public section

set_option maxRecDepth 16384

noncomputable section

open Idealize.ShloMosaic Idealize.ShloMosaic.TcCoe Idealize.SL.Sem

namespace Cert.PoolFwdRefIdeal.Value
open Cert.PoolFwdRefIdeal Cert.PoolFwdRefIdeal.Read

theorem sub_lt (k : ℕ) (r : Fin 8192) : r.val - k < 8192 := by omega
theorem col_lt (l : Fin 256) : l.val < 4608 := by omega
theorem lane_lt (g : Fin 4) (c : Fin 64) : 64 * g.val + c.val < 256 := by omega
theorem group_lt (l : Fin 256) : l.val / 64 < 4 := by omega
theorem rest_lt (l : Fin 256) : l.val % 64 < 64 := by omega

/-- Row `r` of the array delayed by `k` rows, zero before the first. -/
def later (x : FVec Ideal S8192x4608 .f32) (k : ℕ) (r : Fin 8192) (l : Fin 256) : EReal :=
  if r.val < k then 0 else x (ix2 ⟨r.val - k, sub_lt k r⟩ ⟨l.val, col_lt l⟩)

/-- The sum over the `w` rows that end with row `r`. -/
def window (x : FVec Ideal S8192x4608 .f32) (w : ℕ) (r : Fin 8192) (l : Fin 256) : EReal :=
  ∑ k ∈ Finset.range w, later x k r l

/-- How many rows the window has. -/
def count (w : ℕ) (r : Fin 8192) : EReal :=
  FloatOps.sitofp (F := Ideal) FTy.f32 (IntOp.minsi (IntOp.addi (BitVec.ofNat 32 r.val) 1#32) (BitVec.ofNat 32 w))

/-- The window's mean minus the row itself. -/
def diff (x : FVec Ideal S8192x4608 .f32) (w : ℕ) (r : Fin 8192) (l : Fin 256) : EReal :=
  Ideal.div (window x w r l) (count w r) - x (ix2 r ⟨l.val, col_lt l⟩)

/-- The window of each group of channels. -/
def width (g : ℕ) : ℕ := if g = 0 then 2 else if g = 1 then 4 else if g = 2 then 8 else 16

/-- A group's map of its differences. -/
def mixed (x : FVec Ideal S8192x4608 .f32) (w : FVec Ideal S4x64x64 .f32) (g : Fin 4) (r : Fin 8192) (l : Fin 64) : EReal :=
  ∑ c : Fin 64, diff x (width g.val) r ⟨64 * g.val + c.val, lane_lt g c⟩ * w (ix3 g c l)

/-- The mixer's rows. -/
def Out (x : FVec Ideal S8192x4608 .f32) (w : FVec Ideal S4x64x64 .f32) (s : FVec Ideal S256 .f32) :
    FVec Ideal S8192x256 .bf16 :=
  fun i => mixed x w ⟨(i 1).val / 64, group_lt (i 1)⟩ (i 0) ⟨(i 1).val % 64, rest_lt (i 1)⟩ * s (ix1 (i 1))

theorem v4_apply (x : FVec Ideal S8192x4608 .f32) (r : Fin 8192) (l : Fin 64) :
    val_main_v4 (F := Ideal) x (ix2 r l) = later x 1 r ⟨0 + l.val, lane_lt 0 l⟩ := by
  simp only [val_main_v4, val_main_v2, val_main_v3, val_main_cst, val_main_v1, val_main_v0, later]
  pointwise
  split_ifs <;> rfl

/-- Group 0: the differences. -/
theorem v15_apply (x : FVec Ideal S8192x4608 .f32) (r : Fin 8192) (l : Fin 64) :
    val_main_v15 (F := Ideal) x (ix2 r l) = diff x 2 r ⟨0 + l.val, lane_lt 0 l⟩ := by
  simp only [val_main_v15, val_main_v14, val_main_v1, val_main_v5, val_main_v13, val_main_v0, val_main_v12,
    val_main_v11, val_main_v10, val_main_v8, val_main_v9, val_main_v6, val_main_v7, val_main_c_0, val_main_c, diff,
    window, count]
  pointwise
  simp only [Finset.sum_range_succ, Finset.sum_range_zero, zero_add, v4_apply]
  rfl

/-- Group 0: the map. -/
theorem v18_apply (x : FVec Ideal S8192x4608 .f32) (w : FVec Ideal S4x64x64 .f32) (r : Fin 8192)
    (l : Fin 64) : val_main_v18 (F := Ideal) x w (ix2 r l) = mixed x w 0 r l := by
  simp only [val_main_v18, val_main_v17, val_main_v16, mixed]
  pointwise
  simp only [v15_apply]
  rfl

theorem v22_apply (x : FVec Ideal S8192x4608 .f32) (r : Fin 8192) (l : Fin 64) :
    val_main_v22 (F := Ideal) x (ix2 r l) = later x 1 r ⟨64 + l.val, lane_lt 1 l⟩ := by
  simp only [val_main_v22, val_main_v20, val_main_v21, val_main_cst_1, val_main_v19, val_main_v0, later]
  pointwise
  split_ifs <;> rfl

theorem v26_apply (x : FVec Ideal S8192x4608 .f32) (r : Fin 8192) (l : Fin 64) :
    val_main_v26 (F := Ideal) x (ix2 r l) = later x 2 r ⟨64 + l.val, lane_lt 1 l⟩ := by
  simp only [val_main_v26, val_main_v24, val_main_v25, val_main_cst_2, val_main_v19, val_main_v0, later]
  pointwise
  split_ifs <;> rfl

theorem v30_apply (x : FVec Ideal S8192x4608 .f32) (r : Fin 8192) (l : Fin 64) :
    val_main_v30 (F := Ideal) x (ix2 r l) = later x 3 r ⟨64 + l.val, lane_lt 1 l⟩ := by
  simp only [val_main_v30, val_main_v28, val_main_v29, val_main_cst_3, val_main_v19, val_main_v0, later]
  pointwise
  split_ifs <;> rfl

/-- Group 1: the differences. -/
theorem v41_apply (x : FVec Ideal S8192x4608 .f32) (r : Fin 8192) (l : Fin 64) :
    val_main_v41 (F := Ideal) x (ix2 r l) = diff x 4 r ⟨64 + l.val, lane_lt 1 l⟩ := by
  simp only [val_main_v41, val_main_v40, val_main_v19, val_main_v31, val_main_v39, val_main_v0, val_main_v27,
    val_main_v38, val_main_v23, val_main_v37, val_main_v36, val_main_v34, val_main_v35, val_main_v32, val_main_v33,
    val_main_c_5, val_main_c_4, diff, window, count]
  pointwise
  simp only [Finset.sum_range_succ, Finset.sum_range_zero, zero_add, v22_apply, v26_apply, v30_apply]
  rfl

/-- Group 1: the map. -/
theorem v44_apply (x : FVec Ideal S8192x4608 .f32) (w : FVec Ideal S4x64x64 .f32) (r : Fin 8192)
    (l : Fin 64) : val_main_v44 (F := Ideal) x w (ix2 r l) = mixed x w 1 r l := by
  simp only [val_main_v44, val_main_v43, val_main_v42, mixed]
  pointwise
  simp only [v41_apply]
  rfl

theorem v48_apply (x : FVec Ideal S8192x4608 .f32) (r : Fin 8192) (l : Fin 64) :
    val_main_v48 (F := Ideal) x (ix2 r l) = later x 1 r ⟨128 + l.val, lane_lt 2 l⟩ := by
  simp only [val_main_v48, val_main_v46, val_main_v47, val_main_cst_6, val_main_v45, val_main_v0, later]
  pointwise
  split_ifs <;> rfl

theorem v52_apply (x : FVec Ideal S8192x4608 .f32) (r : Fin 8192) (l : Fin 64) :
    val_main_v52 (F := Ideal) x (ix2 r l) = later x 2 r ⟨128 + l.val, lane_lt 2 l⟩ := by
  simp only [val_main_v52, val_main_v50, val_main_v51, val_main_cst_7, val_main_v45, val_main_v0, later]
  pointwise
  split_ifs <;> rfl

theorem v56_apply (x : FVec Ideal S8192x4608 .f32) (r : Fin 8192) (l : Fin 64) :
    val_main_v56 (F := Ideal) x (ix2 r l) = later x 3 r ⟨128 + l.val, lane_lt 2 l⟩ := by
  simp only [val_main_v56, val_main_v54, val_main_v55, val_main_cst_8, val_main_v45, val_main_v0, later]
  pointwise
  split_ifs <;> rfl

theorem v60_apply (x : FVec Ideal S8192x4608 .f32) (r : Fin 8192) (l : Fin 64) :
    val_main_v60 (F := Ideal) x (ix2 r l) = later x 4 r ⟨128 + l.val, lane_lt 2 l⟩ := by
  simp only [val_main_v60, val_main_v58, val_main_v59, val_main_cst_9, val_main_v45, val_main_v0, later]
  pointwise
  split_ifs <;> rfl

theorem v64_apply (x : FVec Ideal S8192x4608 .f32) (r : Fin 8192) (l : Fin 64) :
    val_main_v64 (F := Ideal) x (ix2 r l) = later x 5 r ⟨128 + l.val, lane_lt 2 l⟩ := by
  simp only [val_main_v64, val_main_v62, val_main_v63, val_main_cst_10, val_main_v45, val_main_v0, later]
  pointwise
  split_ifs <;> rfl

theorem v68_apply (x : FVec Ideal S8192x4608 .f32) (r : Fin 8192) (l : Fin 64) :
    val_main_v68 (F := Ideal) x (ix2 r l) = later x 6 r ⟨128 + l.val, lane_lt 2 l⟩ := by
  simp only [val_main_v68, val_main_v66, val_main_v67, val_main_cst_11, val_main_v45, val_main_v0, later]
  pointwise
  split_ifs <;> rfl

theorem v72_apply (x : FVec Ideal S8192x4608 .f32) (r : Fin 8192) (l : Fin 64) :
    val_main_v72 (F := Ideal) x (ix2 r l) = later x 7 r ⟨128 + l.val, lane_lt 2 l⟩ := by
  simp only [val_main_v72, val_main_v70, val_main_v71, val_main_cst_12, val_main_v45, val_main_v0, later]
  pointwise
  split_ifs <;> rfl

/-- Group 2: the differences. -/
theorem v83_apply (x : FVec Ideal S8192x4608 .f32) (r : Fin 8192) (l : Fin 64) :
    val_main_v83 (F := Ideal) x (ix2 r l) = diff x 8 r ⟨128 + l.val, lane_lt 2 l⟩ := by
  simp only [val_main_v83, val_main_v82, val_main_v45, val_main_v73, val_main_v81, val_main_v0, val_main_v69,
    val_main_v80, val_main_v65, val_main_v79, val_main_v61, val_main_v78, val_main_v57, val_main_v76, val_main_v77,
    val_main_v53, val_main_v74, val_main_v75, val_main_c_14, val_main_v49, val_main_c_13, diff, window, count]
  pointwise
  simp only [Finset.sum_range_succ, Finset.sum_range_zero, zero_add, v48_apply, v52_apply, v56_apply, v60_apply, v64_apply, v68_apply, v72_apply]
  rfl

/-- Group 2: the map. -/
theorem v86_apply (x : FVec Ideal S8192x4608 .f32) (w : FVec Ideal S4x64x64 .f32) (r : Fin 8192)
    (l : Fin 64) : val_main_v86 (F := Ideal) x w (ix2 r l) = mixed x w 2 r l := by
  simp only [val_main_v86, val_main_v85, val_main_v84, mixed]
  pointwise
  simp only [v83_apply]
  rfl

theorem v90_apply (x : FVec Ideal S8192x4608 .f32) (r : Fin 8192) (l : Fin 64) :
    val_main_v90 (F := Ideal) x (ix2 r l) = later x 1 r ⟨192 + l.val, lane_lt 3 l⟩ := by
  simp only [val_main_v90, val_main_v88, val_main_v89, val_main_cst_15, val_main_v87, val_main_v0, later]
  pointwise
  split_ifs <;> rfl

theorem v94_apply (x : FVec Ideal S8192x4608 .f32) (r : Fin 8192) (l : Fin 64) :
    val_main_v94 (F := Ideal) x (ix2 r l) = later x 2 r ⟨192 + l.val, lane_lt 3 l⟩ := by
  simp only [val_main_v94, val_main_v92, val_main_v93, val_main_cst_16, val_main_v87, val_main_v0, later]
  pointwise
  split_ifs <;> rfl

theorem v98_apply (x : FVec Ideal S8192x4608 .f32) (r : Fin 8192) (l : Fin 64) :
    val_main_v98 (F := Ideal) x (ix2 r l) = later x 3 r ⟨192 + l.val, lane_lt 3 l⟩ := by
  simp only [val_main_v98, val_main_v96, val_main_v97, val_main_cst_17, val_main_v87, val_main_v0, later]
  pointwise
  split_ifs <;> rfl

theorem v102_apply (x : FVec Ideal S8192x4608 .f32) (r : Fin 8192) (l : Fin 64) :
    val_main_v102 (F := Ideal) x (ix2 r l) = later x 4 r ⟨192 + l.val, lane_lt 3 l⟩ := by
  simp only [val_main_v102, val_main_v100, val_main_v101, val_main_cst_18, val_main_v87, val_main_v0, later]
  pointwise
  split_ifs <;> rfl

theorem v106_apply (x : FVec Ideal S8192x4608 .f32) (r : Fin 8192) (l : Fin 64) :
    val_main_v106 (F := Ideal) x (ix2 r l) = later x 5 r ⟨192 + l.val, lane_lt 3 l⟩ := by
  simp only [val_main_v106, val_main_v104, val_main_v105, val_main_cst_19, val_main_v87, val_main_v0, later]
  pointwise
  split_ifs <;> rfl

theorem v110_apply (x : FVec Ideal S8192x4608 .f32) (r : Fin 8192) (l : Fin 64) :
    val_main_v110 (F := Ideal) x (ix2 r l) = later x 6 r ⟨192 + l.val, lane_lt 3 l⟩ := by
  simp only [val_main_v110, val_main_v108, val_main_v109, val_main_cst_20, val_main_v87, val_main_v0, later]
  pointwise
  split_ifs <;> rfl

theorem v114_apply (x : FVec Ideal S8192x4608 .f32) (r : Fin 8192) (l : Fin 64) :
    val_main_v114 (F := Ideal) x (ix2 r l) = later x 7 r ⟨192 + l.val, lane_lt 3 l⟩ := by
  simp only [val_main_v114, val_main_v112, val_main_v113, val_main_cst_21, val_main_v87, val_main_v0, later]
  pointwise
  split_ifs <;> rfl

theorem v118_apply (x : FVec Ideal S8192x4608 .f32) (r : Fin 8192) (l : Fin 64) :
    val_main_v118 (F := Ideal) x (ix2 r l) = later x 8 r ⟨192 + l.val, lane_lt 3 l⟩ := by
  simp only [val_main_v118, val_main_v116, val_main_v117, val_main_cst_22, val_main_v87, val_main_v0, later]
  pointwise
  split_ifs <;> rfl

theorem v122_apply (x : FVec Ideal S8192x4608 .f32) (r : Fin 8192) (l : Fin 64) :
    val_main_v122 (F := Ideal) x (ix2 r l) = later x 9 r ⟨192 + l.val, lane_lt 3 l⟩ := by
  simp only [val_main_v122, val_main_v120, val_main_v121, val_main_cst_23, val_main_v87, val_main_v0, later]
  pointwise
  split_ifs <;> rfl

theorem v126_apply (x : FVec Ideal S8192x4608 .f32) (r : Fin 8192) (l : Fin 64) :
    val_main_v126 (F := Ideal) x (ix2 r l) = later x 10 r ⟨192 + l.val, lane_lt 3 l⟩ := by
  simp only [val_main_v126, val_main_v124, val_main_v125, val_main_cst_24, val_main_v87, val_main_v0, later]
  pointwise
  split_ifs <;> rfl

theorem v130_apply (x : FVec Ideal S8192x4608 .f32) (r : Fin 8192) (l : Fin 64) :
    val_main_v130 (F := Ideal) x (ix2 r l) = later x 11 r ⟨192 + l.val, lane_lt 3 l⟩ := by
  simp only [val_main_v130, val_main_v128, val_main_v129, val_main_cst_25, val_main_v87, val_main_v0, later]
  pointwise
  split_ifs <;> rfl

theorem v134_apply (x : FVec Ideal S8192x4608 .f32) (r : Fin 8192) (l : Fin 64) :
    val_main_v134 (F := Ideal) x (ix2 r l) = later x 12 r ⟨192 + l.val, lane_lt 3 l⟩ := by
  simp only [val_main_v134, val_main_v132, val_main_v133, val_main_cst_26, val_main_v87, val_main_v0, later]
  pointwise
  split_ifs <;> rfl

theorem v138_apply (x : FVec Ideal S8192x4608 .f32) (r : Fin 8192) (l : Fin 64) :
    val_main_v138 (F := Ideal) x (ix2 r l) = later x 13 r ⟨192 + l.val, lane_lt 3 l⟩ := by
  simp only [val_main_v138, val_main_v136, val_main_v137, val_main_cst_27, val_main_v87, val_main_v0, later]
  pointwise
  split_ifs <;> rfl

theorem v142_apply (x : FVec Ideal S8192x4608 .f32) (r : Fin 8192) (l : Fin 64) :
    val_main_v142 (F := Ideal) x (ix2 r l) = later x 14 r ⟨192 + l.val, lane_lt 3 l⟩ := by
  simp only [val_main_v142, val_main_v140, val_main_v141, val_main_cst_28, val_main_v87, val_main_v0, later]
  pointwise
  split_ifs <;> rfl

theorem v146_apply (x : FVec Ideal S8192x4608 .f32) (r : Fin 8192) (l : Fin 64) :
    val_main_v146 (F := Ideal) x (ix2 r l) = later x 15 r ⟨192 + l.val, lane_lt 3 l⟩ := by
  simp only [val_main_v146, val_main_v144, val_main_v145, val_main_cst_29, val_main_v87, val_main_v0, later]
  pointwise
  split_ifs <;> rfl

/-- Group 3: the differences. -/
theorem v157_apply (x : FVec Ideal S8192x4608 .f32) (r : Fin 8192) (l : Fin 64) :
    val_main_v157 (F := Ideal) x (ix2 r l) = diff x 16 r ⟨192 + l.val, lane_lt 3 l⟩ := by
  simp only [val_main_v157, val_main_v156, val_main_v87, val_main_v147, val_main_v155, val_main_v0, val_main_v143,
    val_main_v154, val_main_v139, val_main_v153, val_main_v135, val_main_v152, val_main_v131, val_main_v150,
    val_main_v151, val_main_v127, val_main_v148, val_main_v149, val_main_c_31, val_main_v123, val_main_c_30,
    val_main_v119, val_main_v115, val_main_v111, val_main_v107, val_main_v103, val_main_v99, val_main_v95,
    val_main_v91, diff, window, count]
  pointwise
  simp only [Finset.sum_range_succ, Finset.sum_range_zero, zero_add, v90_apply, v94_apply, v98_apply, v102_apply, v106_apply, v110_apply, v114_apply, v118_apply, v122_apply, v126_apply, v130_apply, v134_apply, v138_apply, v142_apply, v146_apply]
  rfl

/-- Group 3: the map. -/
theorem v160_apply (x : FVec Ideal S8192x4608 .f32) (w : FVec Ideal S4x64x64 .f32) (r : Fin 8192)
    (l : Fin 64) : val_main_v160 (F := Ideal) x w (ix2 r l) = mixed x w 3 r l := by
  simp only [val_main_v160, val_main_v159, val_main_v158, mixed]
  pointwise
  simp only [v157_apply]
  rfl

/-- The groups side by side. -/
theorem v161_apply (x : FVec Ideal S8192x4608 .f32) (w : FVec Ideal S4x64x64 .f32) (r : Fin 8192) (l : Fin 256) :
    val_main_v161 (F := Ideal) x w (ix2 r l)
      = mixed x w ⟨l.val / 64, group_lt l⟩ r ⟨l.val % 64, rest_lt l⟩ := by
  simp only [val_main_v161]
  pointwise
  have hl := l.isLt
  by_cases h0 : l.val < 64
  · refine (dif_pos h0).trans ((v18_apply x w r _).trans ?_)
    exact congrArg₂ (fun a b => mixed x w a r b) (Fin.ext (show 0 = l.val / 64 by omega)) (Fin.ext (by dsimp only; omega))
  refine (dif_neg h0).trans ?_
  by_cases h1 : l.val - 64 < 64
  · refine (dif_pos h1).trans ((v44_apply x w r _).trans ?_)
    exact congrArg₂ (fun a b => mixed x w a r b) (Fin.ext (show 1 = l.val / 64 by omega)) (Fin.ext (by dsimp only; omega))
  refine (dif_neg h1).trans ?_
  by_cases h2 : l.val - 64 - 64 < 64
  · refine (dif_pos h2).trans ((v86_apply x w r _).trans ?_)
    exact congrArg₂ (fun a b => mixed x w a r b) (Fin.ext (show 2 = l.val / 64 by omega)) (Fin.ext (by dsimp only; omega))
  refine (dif_neg h2).trans ((v160_apply x w r _).trans ?_)
  exact congrArg₂ (fun a b => mixed x w a r b) (Fin.ext (show 3 = l.val / 64 by omega)) (Fin.ext (by dsimp only; omega))

/-- The reference computes the mixer's rows. -/
theorem out_eq (x : FVec Ideal S8192x4608 .f32) (w : FVec Ideal S4x64x64 .f32) (s : FVec Ideal S256 .f32) :
    val_main_v165 (F := Ideal) x w s = Out x w s := by
  funext i
  idx_vars i
  simp only [val_main_v165, val_main_v164, val_main_v163, val_main_v162]
  pointwise
  rw [v161_apply]
  rfl

end Cert.PoolFwdRefIdeal.Value
-- ==== Proof.PoolFwdValue.lean ====
module

public import proofs.«01_k».proof.Proof.PoolFwdPure
public import proofs.«01_k».proof.Proof.Gen.PoolFwdIdeal.Value
public import Idealize.ShloMosaic.Lib.Pipeline.ValueKit
public import Idealize.ShloMosaic.Lib.Pipeline.ReadBack

/-!
What the pooling call leaves. A block reads its own rows and the sixteen rows before them; sums over two, four,
eight and sixteen rows arise by doubling, each from the one before and its own delay.
-/

@[expose] public section

set_option maxRecDepth 16384

noncomputable section

open Idealize.ShloMosaic Idealize.ShloMosaic.TcCoe Idealize.SL.Sem
open Idealize.ShloMosaic.Pipeline (Dat)

namespace Cert.PoolFwdIdeal.Value
open Cert.PoolFwdIdeal Cert.PoolFwdIdeal.Gen
open Cert.PoolFwdRefIdeal.Value (later window count diff width mixed Out lane_lt col_lt group_lt rest_lt)

variable (m : (ℓ : Loc nD τ sig) → Buf (Elt Ideal) ℓ)

theorem lt (t : Fin cfg0.N) : t.val < 64 := lt_of_lt_of_eq t.isLt N_0

/-- Each window's block at grid point `t`. -/
theorem idx : ∀ t : Fin cfg0.N, win0_0.index t = ![t.val, 0] ∧ win0_1.index t = ![8 * t.val - 1, 0]
    ∧ win0_2.index t = ![0, 0] ∧ win0_3.index t = ![0, 0] ∧ win0_4.index t = ![t.val, 0] :=
  (by decide +kernel : ∀ t : Fin grid0.N, _)

theorem crd : ∀ t : Fin cfg0.N, (grid0.coords t 0).val = t.val :=
  (by decide +kernel : ∀ t : Fin grid0.N, _)

theorem row_lt {n : ℕ} (h : n < 64) (r : Fin 128) : 128 * n + r.val < 8192 := by omega

theorem prev_lt {n : ℕ} (h : n < 64) (r : Fin 16) : 16 * (8 * n - 1) + r.val < 8192 := by omega

/-- The first block's rows before it are zero. -/
theorem sel (n : ℕ) (h : n < 64) (a b : EReal) :
    Scalar.select (Scalar.cmpi CmpIPredicate.sgt (BitVec.ofNat 32 n) 0#32) a b = if n = 0 then b else a := by
  have h2 : ∀ k : Fin 64, (Scalar.cmpi CmpIPredicate.sgt (BitVec.ofNat 32 k.val) 0#32 = 1) ↔ ¬k.val = 0 := by decide
  simp only [Scalar.select, h2 ⟨n, h⟩, ite_not]

/-- A choice by the lane. -/
theorem lane {α : Type} (l : Fin 256) (b : ℕ) (hb : b = 64 ∨ b = 128 ∨ b = 192) (u v : α) :
    Scalar.select (IntOp.cmpi CmpIPredicate.slt (BitVec.ofNat 32 l.val) (BitVec.ofNat 32 b)) u v = if l.val < b then u else v := by
  have h1 : ∀ k : Fin 256, (IntOp.cmpi CmpIPredicate.slt (BitVec.ofNat 32 k.val) 64#32 = 1) ↔ k.val < 64 := by decide +kernel
  have h2 : ∀ k : Fin 256, (IntOp.cmpi CmpIPredicate.slt (BitVec.ofNat 32 k.val) 128#32 = 1) ↔ k.val < 128 := by decide +kernel
  have h3 : ∀ k : Fin 256, (IntOp.cmpi CmpIPredicate.slt (BitVec.ofNat 32 k.val) 192#32 = 1) ↔ k.val < 192 := by decide +kernel
  rcases hb with rfl | rfl | rfl
  · simp only [Scalar.select, h1 l]
  · simp only [Scalar.select, h2 l]
  · simp only [Scalar.select, h3 l]

/-- The block's rows below the sixteen before them. -/
def cat (i : grid0.Coords) (p : FVec Ideal S16x256 .f32) (v : FVec Ideal S128x256 .f32) : FVec Ideal S144x256 .f32 :=
  concatenate S144x256 0 [⟨S16x256, (Scalar.select (Scalar.cmpi .sgt (BitVec.ofNat 32 (i 0).val) 0#32) p
    (broadcast S16x256 (Scalar.ofBits (F := Ideal) .f32 0x00000000#32) : FVec Ideal S16x256 .f32) : FVec Ideal S16x256 .f32)⟩,
    ⟨S128x256, v⟩] concatenates_S16x256_S128x256_S144x256_d0

/-- Sums over two, four, eight and sixteen rows. -/
def two (v : FVec Ideal S144x256 .f32) : FVec Ideal S144x256 .f32 :=
  addf v (dynamicRotate 0 1#32 none v rotates_S144x256_d0)
def four (v : FVec Ideal S144x256 .f32) : FVec Ideal S144x256 .f32 :=
  addf (two v) (dynamicRotate 0 2#32 none (two v) rotates_S144x256_d0)
def eight (v : FVec Ideal S144x256 .f32) : FVec Ideal S144x256 .f32 :=
  addf (four v) (dynamicRotate 0 4#32 none (four v) rotates_S144x256_d0)
def sixteen (v : FVec Ideal S144x256 .f32) : FVec Ideal S144x256 .f32 :=
  addf (eight v) (dynamicRotate 0 8#32 none (eight v) rotates_S144x256_d0)

theorem double (c : ℕ → EReal) (w : ℕ) (r : ℕ) :
    (∑ k ∈ Finset.range w, c (r - k)) + ∑ k ∈ Finset.range w, c (r - w - k) = ∑ k ∈ Finset.range (w + w), c (r - k) := by
  rw [Finset.sum_range_add]
  refine congrArg (_ + ·) (Finset.sum_congr rfl fun k _ => congrArg c ?_)
  omega

variable {v : FVec Ideal S144x256 .f32} {l : Fin 256} {c : ℕ → EReal}

theorem two_apply (h : ∀ r : Fin 144, v (ix2 r l) = c r.val) (r : Fin 144) (hr : 1 ≤ r.val) :
    two v (ix2 r l) = ∑ k ∈ Finset.range 2, c (r.val - k) := by
  pointwise [two]
  rw [h, h, ← double c 1 r.val]
  simp only [Finset.sum_range_one, Nat.sub_zero]
  exact congrArg (fun n => c r.val + c n) (show (r.val + 144 - 1) % 144 = r.val - 1 by omega)

theorem four_apply (h : ∀ r : Fin 144, v (ix2 r l) = c r.val) (r : Fin 144) (hr : 3 ≤ r.val) :
    four v (ix2 r l) = ∑ k ∈ Finset.range 4, c (r.val - k) := by
  pointwise [four]
  rw [two_apply h r (by omega), two_apply h _ (by dsimp only; omega), ← double c 2 r.val]
  exact congrArg (_ + ·) (Finset.sum_congr rfl fun k _ => congrArg c (by dsimp only; omega))

theorem eight_apply (h : ∀ r : Fin 144, v (ix2 r l) = c r.val) (r : Fin 144) (hr : 7 ≤ r.val) :
    eight v (ix2 r l) = ∑ k ∈ Finset.range 8, c (r.val - k) := by
  pointwise [eight]
  rw [four_apply h r (by omega), four_apply h _ (by dsimp only; omega), ← double c 4 r.val]
  exact congrArg (_ + ·) (Finset.sum_congr rfl fun k _ => congrArg c (by dsimp only; omega))

theorem sixteen_apply (h : ∀ r : Fin 144, v (ix2 r l) = c r.val) (r : Fin 144) (hr : 15 ≤ r.val) :
    sixteen v (ix2 r l) = ∑ k ∈ Finset.range 16, c (r.val - k) := by
  pointwise [sixteen]
  rw [eight_apply h r (by omega), eight_apply h _ (by dsimp only; omega), ← double c 8 r.val]
  exact congrArg (_ + ·) (Finset.sum_congr rfl fun k _ => congrArg c (by dsimp only; omega))

theorem below_lt (r : Fin 128) : 16 + r.val < 144 := by omega

/-- Of the four sums each lane takes its group's. -/
theorem choose (a b d e : FVec Ideal S144x256 .f32) (r : Fin 128) (l : Fin 256) :
    extractStridedSlice S128x256 ![16, 0]
      (select (cmpi .slt (iota .tc S144x256 32 [1] iota_S144x256_d1_w32) (broadcast S144x256 64#32)) a
        (select (cmpi .slt (iota .tc S144x256 32 [1] iota_S144x256_d1_w32) (broadcast S144x256 128#32)) b
          (select (cmpi .slt (iota .tc S144x256 32 [1] iota_S144x256_d1_w32) (broadcast S144x256 192#32)) d e)))
      slices_S144x256_o16_0_S128x256 (ix2 r l)
      = if l.val < 64 then a (ix2 ⟨16 + r.val, below_lt r⟩ l) else if l.val < 128 then b (ix2 ⟨16 + r.val, below_lt r⟩ l)
        else if l.val < 192 then d (ix2 ⟨16 + r.val, below_lt r⟩ l) else e (ix2 ⟨16 + r.val, below_lt r⟩ l) := by
  pointwise
  rw [lane l 64 (by simp), lane l 128 (by simp), lane l 192 (by simp)]

theorem pay2_apply (i : grid0.Coords) (p : FVec Ideal S16x256 .f32) (v : FVec Ideal S128x256 .f32) (r : Fin 128)
    (l : Fin 256) (c : ℕ → EReal) (h : ∀ r : Fin 144, cat i p v (ix2 r l) = c r.val) :
    k0_pay2 (F := Ideal) i p v (ix2 r l) = ∑ k ∈ Finset.range (width (l.val / 64)), c (16 + r.val - k) := by
  refine (choose (two (cat i p v)) (four (cat i p v)) (eight (cat i p v)) (sixteen (cat i p v)) r l).trans ?_
  have hl := l.isLt
  rw [two_apply h _ (by dsimp only; omega), four_apply h _ (by dsimp only; omega), eight_apply h _ (by dsimp only; omega),
    sixteen_apply h _ (by dsimp only; omega)]
  unfold width
  split_ifs <;> first | rfl | omega

/-- Row `n` of the block with the rows before it. -/
def rowAt (x : FVec Ideal S8192x4608 .f32) (t : ℕ) (l : Fin 256) (n : ℕ) : EReal :=
  if 128 * t + n < 16 then 0 else x (ix2 ⟨(128 * t + n - 16) % 8192, Nat.mod_lt _ (by decide)⟩ ⟨l.val, col_lt l⟩)

theorem cat_apply (x : FVec Ideal S8192x4608 .f32) (i : grid0.Coords) {n : ℕ} (hn : n < 64) (hi : (i 0).val = n)
    (p : FVec Ideal S16x256 .f32) (v : FVec Ideal S128x256 .f32)
    (hp : ∀ r l, p (ix2 r l) = x (ix2 ⟨16 * (8 * n - 1) + r.val, prev_lt hn r⟩ ⟨l.val, col_lt l⟩))
    (hv : ∀ r l, v (ix2 r l) = x (ix2 ⟨128 * n + r.val, row_lt hn r⟩ ⟨l.val, col_lt l⟩)) (r : Fin 144) (l : Fin 256) :
    cat i p v (ix2 r l) = rowAt x n l r.val := by
  pointwise [cat]
  rw [hi]
  have hr := r.isLt
  unfold rowAt
  by_cases h3 : r.val < 16
  · refine (dif_pos h3).trans ((sel n hn _ _).trans ?_)
    split_ifs with h4 h5 h5
    · rfl
    · exact absurd h5 (by omega)
    · exact absurd h5 (by omega)
    · rw [hp]
      exact congrArg x (congrArg (ix2 · _) (Fin.ext (by dsimp only; omega)))
  · refine (dif_neg h3).trans ?_
    refine (hv ⟨r.val - 16, by omega⟩ l).trans (Eq.trans ?_ (if_neg (show ¬128 * n + r.val < 16 by omega)).symm)
    exact congrArg x (congrArg (ix2 · _) (Fin.ext (by dsimp only; omega)))

/-- The block's sums are the array's windows. -/
theorem window_eq (x : FVec Ideal S8192x4608 .f32) {n : ℕ} (hn : n < 64) (w : ℕ) (hw : w ≤ 16) (r : Fin 128) (l : Fin 256) :
    ∑ k ∈ Finset.range w, rowAt x n l (16 + r.val - k) = window x w ⟨128 * n + r.val, row_lt hn r⟩ l := by
  unfold window
  refine Finset.sum_congr rfl fun k hk => ?_
  have hk := Finset.mem_range.mp hk
  have hr := r.isLt
  unfold rowAt later
  split_ifs with h1 h2 h2
  · rfl
  · exact absurd h1 (by dsimp only at h2; omega)
  · exact absurd h2 (by dsimp only; omega)
  · exact congrArg x (congrArg (ix2 · _) (Fin.ext (by dsimp only; omega)))

theorem width_le (g : ℕ) : width g ≤ 16 := by
  unfold width
  split_ifs <;> decide

/-- The row's number in the array. -/
theorem number {n : ℕ} (hn : n < 64) (r : Fin 128) :
    IntOp.addi (BitVec.ofNat 32 r.val) (Scalar.muli (BitVec.ofNat 32 n) 128#32) = BitVec.ofNat 32 (128 * n + r.val) := by
  show BitVec.ofNat 32 r.val + BitVec.ofNat 32 n * 128#32 = _
  refine BitVec.eq_of_toNat_eq ?_
  simp only [BitVec.toNat_add, BitVec.toNat_mul, BitVec.toNat_ofNat]
  omega

/-- The group's window as the body chooses it. -/
theorem width_eq (l : Fin 256) :
    Scalar.select (IntOp.cmpi CmpIPredicate.slt (BitVec.ofNat 32 l.val) 64#32) (2#32)
      (Scalar.select (IntOp.cmpi CmpIPredicate.slt (BitVec.ofNat 32 l.val) 128#32) (4#32)
        (Scalar.select (IntOp.cmpi CmpIPredicate.slt (BitVec.ofNat 32 l.val) 192#32) 8#32 16#32))
      = BitVec.ofNat 32 (width (l.val / 64)) := by
  have hl := l.isLt
  rw [lane l 64 (by simp), lane l 128 (by simp), lane l 192 (by simp)]
  unfold width
  split_ifs <;> first | rfl | omega

/-- The block matrix is the group's map inside its group and zero outside. -/
theorem eye (a b : Fin 4) : FloatOps.uitofp (F := Ideal) FTy.f32
    (IntOp.cmpi CmpIPredicate.eq (IntOp.addi (BitVec.ofNat 32 a.val) 0#32) (BitVec.ofNat 32 b.val)) = if a = b then (1 : EReal) else 0 := by
  have h : ∀ a b : Fin 4, IntOp.cmpi CmpIPredicate.eq (IntOp.addi (BitVec.ofNat 32 a.val) 0#32) (BitVec.ofNat 32 b.val)
      = if a = b then 1#1 else 0#1 := by decide
  rw [h]
  split_ifs <;> simp [FloatOps.uitofp]

/-- A sum over the lanes, group by group. -/
theorem groups (f : Fin 256 → EReal) : ∑ k : Fin 256, f k = ∑ g : Fin 4, ∑ c : Fin 64, f ⟨64 * g.val + c.val, lane_lt g c⟩ := by
  rw [← Fintype.sum_prod_type' (fun (g : Fin 4) (c : Fin 64) => f ⟨64 * g.val + c.val, lane_lt g c⟩)]
  refine ((finProdFinEquiv (m := 4) (n := 64)).sum_comp (fun k : Fin 256 => f k)).symm.trans ?_
  refine Finset.sum_congr rfl fun q _ => congrArg f (Fin.ext ?_)
  show q.2.val + 64 * q.1.val = 64 * q.1.val + q.2.val
  omega

theorem blocks (d : Fin 256 → EReal) (w : FVec Ideal S4x64x64 .f32) (h : Fin 4) (e : Fin 64) :
    ∑ k : Fin 256, d k * ((if (⟨k.val / 64, group_lt k⟩ : Fin 4) = h then (1 : EReal) else 0)
        * w (ix3 ⟨k.val / 64, group_lt k⟩ ⟨k.val % 64, rest_lt k⟩ e))
      = ∑ c : Fin 64, d ⟨64 * h.val + c.val, lane_lt h c⟩ * w (ix3 h c e) := by
  have hg : ∀ (g : Fin 4) (c : Fin 64), (⟨(64 * g.val + c.val) / 64, group_lt ⟨_, lane_lt g c⟩⟩ : Fin 4) = g :=
    fun g c => Fin.ext (by dsimp only; omega)
  have hc : ∀ (g : Fin 4) (c : Fin 64), (⟨(64 * g.val + c.val) % 64, rest_lt ⟨_, lane_lt g c⟩⟩ : Fin 64) = c :=
    fun g c => Fin.ext (by dsimp only; omega)
  rw [groups, Finset.sum_eq_single h]
  · refine Finset.sum_congr rfl fun c _ => ?_
    simp only [hg, hc, if_true, one_mul]
  · intro g _ hne
    refine Finset.sum_eq_zero fun c _ => ?_
    simp only [hg, hne, if_false, zero_mul, mul_zero]
  · intro h
    exact absurd (Finset.mem_univ _) h

theorem x0 (c : Dev nD) (t : Fin cfg0.N) (r : Fin 128) (l : Fin 256) :
    iblk m c 0 t (ix2 r l) = m ((c : Thread nD τ).loc main_arg0) (ix2 ⟨128 * t.val + r.val, row_lt (lt t) r⟩ ⟨l.val, col_lt l⟩) := by
  blk_point [iblk, V, idx t]

theorem x1 (c : Dev nD) (t : Fin cfg0.N) (r : Fin 16) (l : Fin 256) :
    iblk m c 1 t (ix2 r l)
      = m ((c : Thread nD τ).loc main_arg0) (ix2 ⟨16 * (8 * t.val - 1) + r.val, prev_lt (lt t) r⟩ ⟨l.val, col_lt l⟩) := by
  blk_point [iblk, V, idx t]

theorem idx2 (X : FVec Ideal S256x256 .bf16) (t : Fin cfg0.N) (k l : Fin 256) :
    X ((win0_2.blk t).view.emb (ix2 k l)) = X (ix2 k l) := by
  blk_point [idx t]

/-- The host's block matrix. -/
def diag (w : FVec Ideal S4x64x64 .f32) : FVec Ideal S256x256 .bf16 :=
  truncf .bf16 (shapeCast S256x256 (mulf
    (broadcastInDim S4x64x4x64 ![0, 1, 2, 3] bcast_S4x1x4x1_S4x64x4x64_0_1_2_3
      (broadcastInDim S4x1x4x1 ![0, 2] bcast_S4x4_S4x1x4x1_0_2
        (uitofp .f32 (cmpi .eq (addi (iotaInDim S4x4 32 0) (broadcastInDim S4x4 ![] bcast_S_S4x4 (constantI S_ 32 0#32)))
          (iotaInDim S4x4 32 1)) : FVec Ideal S4x4 .f32)))
    (broadcastInDim S4x64x4x64 ![0, 1, 2, 3] bcast_S4x64x1x64_S4x64x4x64_0_1_2_3
      (broadcastInDim S4x64x1x64 ![0, 1, 3] bcast_S4x64x64_S4x64x1x64_0_1_3 w))) shapeCasts_S4x64x4x64_S256x256)
    bitsLt_bf16_f32

theorem diag_apply (w : FVec Ideal S4x64x64 .f32) (k l : Fin 256) : diag w (ix2 k l)
      = (if (⟨k.val / 64, group_lt k⟩ : Fin 4) = ⟨l.val / 64, group_lt l⟩ then (1 : EReal) else 0)
        * w (ix3 ⟨k.val / 64, group_lt k⟩ ⟨k.val % 64, rest_lt k⟩ ⟨l.val % 64, rest_lt l⟩) := by
  rw [← eye]
  pointwise [diag]

theorem x2 (c : Dev nD) (t : Fin cfg0.N) (k l : Fin 256) :
    iblk m c 2 t (ix2 k l) = diag (m ((c : Thread nD τ).loc main_arg1)) (ix2 k l) :=
  idx2 (diag (m (c, Proc.tc.devRef main_arg1))) t k l

theorem x3 (c : Dev nD) (t : Fin cfg0.N) (l : Fin 256) :
    iblk m c 3 t (ix2 0 l) = m ((c : Thread nD τ).loc main_arg2) (ix1 l) := by
  blk_point [iblk, V, idx t]

/-- A block of the mixer's rows. -/
theorem point (c : Dev nD) (t : Fin cfg0.N) (r : Fin 128) (l : Fin 256) :
    k0_pay1 (F := Ideal) (iblk m c 0 t) (k0_pay2 (grid0.coords t) (iblk m c 1 t) (iblk m c 0 t)) (k0_pay3 (grid0.coords t))
      k0_pay4 k0_pay5 k0_pay6 16#32 k0_pay7 (iblk m c 2 t) (iblk m c 3 t) (ix2 r l)
      = Out (m ((c : Thread nD τ).loc main_arg0)) (m ((c : Thread nD τ).loc main_arg1)) (m ((c : Thread nD τ).loc main_arg2))
        (ix2 ⟨128 * t.val + r.val, row_lt (lt t) r⟩ l) := by
  pointwise [k0_pay1, k0_pay3, k0_pay4, k0_pay5, k0_pay6, k0_pay7]
  rw [x3, crd]
  refine Eq.trans (congrArg (· * _) (Finset.sum_congr rfl fun k _ => ?_)) (congrArg (· * _)
    (blocks (fun k => diff (m ((c : Thread nD τ).loc main_arg0)) (width (k.val / 64)) ⟨128 * t.val + r.val, row_lt (lt t) r⟩ k)
      (m ((c : Thread nD τ).loc main_arg1)) ⟨l.val / 64, group_lt l⟩ ⟨l.val % 64, rest_lt l⟩)) |>.trans ?_
  · rw [x2, diag_apply, number (lt t), width_eq, x0, pay2_apply _ _ _ _ _ (rowAt (m ((c : Thread nD τ).loc main_arg0)) t.val k)
      (fun r => cat_apply _ _ (lt t) (crd t) _ _ (x1 m c t) (x0 m c t) r k), window_eq _ (lt t) _ (width_le _)]
    rfl
  · have hg : ∀ k : Fin 64, (64 * (l.val / 64) + k.val) / 64 = l.val / 64 := fun k => by omega
    simp only [hg]
    rfl

theorem emb4 (x : FVec Ideal S8192x256 .bf16) (t : Fin cfg0.N) (r : Fin 128) (l : Fin 256) :
    x (((View.whole main_v14).slice (win0_4.rect t)).emb (ix2 r l)) = x (ix2 ⟨128 * t.val + r.val, row_lt (lt t) r⟩ l) := by
  blk_point [idx t]

/-- The mixer's rows. -/
theorem final (c : Dev nD) : (dats m 0 c).arrAt 4 (cfgs 0).N
    = Out (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  exact (point m c t y0 y1).trans (emb4 (Out _ _ _) t y0 y1).symm

end Cert.PoolFwdIdeal.Value
-- ==== Proof.PoolFwd.lean ====
module

public import proofs.«01_k».proof.Defs
public import proofs.«01_k».proof.Proof.PoolFwdValue
public import proofs.«01_k».proof.Proof.Gen.PoolFwdRefIdeal.Run
public import proofs.«01_k».proof.Proof.Gen.PoolFwdRefIdeal.Read
public import Idealize.ShloMosaic.Lib.Claim
public import Idealize.ShloMosaic.Lib.Quiescent

/-!
`PoolFwd`: the pooling mixer's call and its reference leave equal rows.
-/

@[expose] public section

set_option maxRecDepth 16384

noncomputable section

open Idealize.ShloMosaic Idealize.ShloMosaic.TcCoe Idealize.SL.Sem

namespace Cert.Proof

/-- Kernel and reference leave equal rows. -/
theorem algebraic_PoolFwd : Cert.algebraic_PoolFwdIdeal_PoolFwdRefIdeal := by
  pair_intro
  · run_from Cert.PoolFwdIdeal.Gen.run_main m g
  · run_from Cert.PoolFwdRefIdeal.Value.run m' g'
    rw [Cert.PoolFwdIdeal.Value.final m c, ← (hagree c).1, ← (hagree c).2.1, ← (hagree c).2.2]
    exact (Cert.PoolFwdRefIdeal.Read.val_main_v165_eq (StableHlo.launchContents m' c)).trans
      (Cert.PoolFwdRefIdeal.Value.out_eq _ _ _)

/-- The reference runs to an end and leaves its arguments alone. -/
theorem frame_PoolFwd_ref : Cert.quiescent_PoolFwdRefIdeal := fun m ρ _ =>
  (θ_run Cert.PoolFwdRefIdeal.defs _ _).mono
    (fun r h => ⟨fun c => (h c).2, sem_eq_zero_of_no_sems (by decide) r.2⟩)
    (Cert.PoolFwdRefIdeal.Value.run (F := Ideal) m ρ)

end Cert.Proof

end
-- ==== Proof.PoolBwdPure.lean ====
module

public import proofs.«01_k».proof.Proof.PoolFwdPure
public import proofs.«01_k».proof.Proof.Gen.PoolBwdRefIdeal.Read
public import Idealize.ShloMosaic.Lib.Pointwise

/-!
The pooling mixer's gradients as formulas on the argument arrays, and the reference's arrays read as these formulas.
-/

@[expose] public section

set_option maxRecDepth 16384

noncomputable section

open Idealize.ShloMosaic Idealize.ShloMosaic.TcCoe Idealize.SL.Sem

namespace Cert.PoolBwdRefIdeal.Value
open Cert.PoolBwdRefIdeal Cert.PoolBwdRefIdeal.Read
open Cert.PoolFwdRefIdeal.Value (later window count diff width lane_lt col_lt group_lt rest_lt sub_lt)

/-- The difference of a channel, over its group's window. -/
def dif (x : FVec Ideal S8192x4608 .f32) (r : Fin 8192) (l : Fin 256) : EReal := diff x (width (l.val / 64)) r l

/-- The differences' cotangent. -/
def dd (a : FVec Ideal S8192x256 .f32) (w : FVec Ideal S256x256 .bf16) (s : FVec Ideal S256 .f32) (r : Fin 8192)
    (l : Fin 256) : EReal :=
  ∑ k : Fin 256, a (ix2 r k) * s (ix1 k) * w (ix2 l k)

/-- The mean's cotangent `k` rows later, zero past the last. -/
def sooner (a : FVec Ideal S8192x256 .f32) (w : FVec Ideal S256x256 .bf16) (s : FVec Ideal S256 .f32) (n : ℕ) (r : Fin 8192)
    (l : Fin 256) (k : ℕ) : EReal :=
  if h : r.val + k < 8192 then Ideal.div (dd a w s ⟨r.val + k, h⟩ l) (count n ⟨r.val + k, h⟩) else 0

/-- The rows' cotangent, over a window of `n` rows. -/
def dx (a : FVec Ideal S8192x256 .f32) (w : FVec Ideal S256x256 .bf16) (s : FVec Ideal S256 .f32) (n : ℕ) (r : Fin 8192)
    (l : Fin 256) : EReal :=
  ∑ k ∈ Finset.range n, sooner a w s n r l k - dd a w s r l

/-- The rows' cotangent. -/
def DX (a : FVec Ideal S8192x256 .f32) (w : FVec Ideal S256x256 .bf16) (s : FVec Ideal S256 .f32) :
    FVec Ideal S8192x256 .bf16 :=
  fun i => dx a w s (width ((i 1).val / 64)) (i 0) (i 1)

/-- The map's cotangent. -/
def DW (x : FVec Ideal S8192x4608 .f32) (a : FVec Ideal S8192x256 .f32) (s : FVec Ideal S256 .f32) : FVec Ideal S256x256 .f32 :=
  fun i => ∑ r : Fin 8192, dif x r (i 0) * (a (ix2 r (i 1)) * s (ix1 (i 1)))

/-- The scale's cotangent. -/
def DS (x : FVec Ideal S8192x4608 .f32) (a : FVec Ideal S8192x256 .f32) (w : FVec Ideal S256x256 .bf16) :
    FVec Ideal S1x256 .f32 :=
  fun i => ∑ r : Fin 8192, a (ix2 r (i 1)) * ∑ k : Fin 256, dif x r k * w (ix2 k (i 1))

theorem low_lt (l : Fin 64) : l.val < 256 := by omega

/-! ### The band of rows -/

/-- Whether row `c` is among the `n` rows that end with row `r`. -/
def inBand (n : ℕ) (r c : ℕ) : EReal := if c ≤ r ∧ r < c + n then 1 else 0

theorem band (n : ℕ) (hn : n ≤ 16) (r c : Fin 8192) : FloatOps.uitofp (F := Ideal) FTy.f32
    (IntOp.andi (IntOp.cmpi CmpIPredicate.sle (BitVec.ofNat 32 c.val) (BitVec.ofNat 32 r.val))
      (IntOp.cmpi CmpIPredicate.slt (BitVec.ofNat 32 r.val) (IntOp.addi (BitVec.ofNat 32 c.val) (BitVec.ofNat 32 n))))
    = inBand n r.val c.val := by
  have hr := r.isLt
  have hc := c.isLt
  have small : ∀ k : ℕ, k < 16384 → (BitVec.ofNat 32 k).toInt = k := fun k hk => by
    rw [BitVec.toInt_eq_toNat_of_lt (by rw [BitVec.toNat_ofNat]; omega), BitVec.toNat_ofNat, Nat.mod_eq_of_lt (by omega)]
  have h1 : IntOp.cmpi CmpIPredicate.sle (BitVec.ofNat 32 c.val) (BitVec.ofNat 32 r.val) = if c.val ≤ r.val then 1#1 else 0#1 := by
    simp only [IntOp.cmpi, BitVec.sle, small c.val (by omega), small r.val (by omega)]
    by_cases h : c.val ≤ r.val
    · rw [if_pos h, decide_eq_true (by omega)]; rfl
    · rw [if_neg h, decide_eq_false (by omega)]; rfl
  have h2 : IntOp.cmpi CmpIPredicate.slt (BitVec.ofNat 32 r.val) (IntOp.addi (BitVec.ofNat 32 c.val) (BitVec.ofNat 32 n))
      = if r.val < c.val + n then 1#1 else 0#1 := by
    have h3 : IntOp.addi (BitVec.ofNat 32 c.val) (BitVec.ofNat 32 n) = BitVec.ofNat 32 (c.val + n) :=
      (BitVec.ofNat_add c.val n).symm
    rw [h3]
    simp only [IntOp.cmpi, BitVec.slt, small r.val (by omega), small (c.val + n) (by omega)]
    by_cases h : r.val < c.val + n
    · rw [if_pos h, decide_eq_true (by omega)]; rfl
    · rw [if_neg h, decide_eq_false (by omega)]; rfl
  rw [h1, h2]
  unfold inBand
  by_cases h : c.val ≤ r.val <;> by_cases h' : r.val < c.val + n <;> simp [h, h', IntOp.andi, FloatOps.uitofp]

theorem hits (n r c : ℕ) (v : EReal) : (∑ k ∈ Finset.range n, if c + k = r then v else 0) = inBand n r c * v := by
  unfold inBand
  by_cases h : c ≤ r ∧ r < c + n
  · rw [if_pos h, one_mul, Finset.sum_eq_single (r - c)]
    · exact if_pos (by omega)
    · exact fun k _ hk => if_neg (by omega)
    · exact fun hk => absurd (Finset.mem_range.mpr (by omega)) hk
  · rw [if_neg h, zero_mul]
    exact Finset.sum_eq_zero fun k hk => if_neg (by have := Finset.mem_range.mp hk; omega)

/-- The band's product with a column is a window's sum. -/
theorem band_window (x : FVec Ideal S8192x4608 .f32) (n : ℕ) (r : Fin 8192) (l : Fin 256) :
    ∑ c : Fin 8192, inBand n r.val c.val * x (ix2 c ⟨l.val, col_lt l⟩) = window x n r l := by
  simp only [← hits]
  rw [Finset.sum_comm]
  refine Finset.sum_congr rfl fun k _ => ?_
  unfold later
  by_cases h : r.val < k
  · rw [if_pos h]
    exact Finset.sum_eq_zero fun c _ => if_neg (by omega)
  · rw [if_neg h, Finset.sum_eq_single ⟨r.val - k, sub_lt k r⟩]
    · exact if_pos (by dsimp only; omega)
    · exact fun c _ hc => if_neg fun e => hc (Fin.ext (by dsimp only; omega))
    · exact fun hc => absurd (Finset.mem_univ _) hc

/-- The transposed band's product with a column sums the rows to come. -/
theorem band_back (f : Fin 8192 → EReal) (n : ℕ) (r : Fin 8192) :
    ∑ c : Fin 8192, f c * inBand n c.val r.val
      = ∑ k ∈ Finset.range n, if h : r.val + k < 8192 then f ⟨r.val + k, h⟩ else 0 := by
  simp only [mul_comm (f _), ← hits]
  rw [Finset.sum_comm]
  refine Finset.sum_congr rfl fun k _ => ?_
  by_cases h : r.val + k < 8192
  · rw [dif_pos h, Finset.sum_eq_single ⟨r.val + k, h⟩]
    · exact if_pos rfl
    · exact fun c _ hc => if_neg fun e => hc (Fin.ext e.symm)
    · exact fun hc => absurd (Finset.mem_univ _) hc
  · rw [dif_neg h]
    exact Finset.sum_eq_zero fun c _ => if_neg (by have := c.isLt; omega)

/-! ### The reference's arrays -/

/-- The map's result's cotangent, back through the map. -/
theorem v107_apply (a : FVec Ideal S8192x256 .f32) (w : FVec Ideal S256x256 .bf16) (s : FVec Ideal S256 .f32) (r : Fin 8192)
    (l : Fin 256) : val_main_v107 (F := Ideal) a w s (ix2 r l) = dd a w s r l := by
  simp only [val_main_v107, val_main_v103, val_main_v102, val_main_v96, val_main_v1, dd]
  pointwise

/-- Group 0: the band. -/
theorem v16_apply (r c : Fin 8192) : val_main_v16 (F := Ideal) (ix2 r c) = inBand 2 r.val c.val := by
  simp only [val_main_v2, val_main_v3, val_main_v4, val_main_v5, val_main_v7, val_main_v8, val_main_v9, val_main_v10, val_main_v11, val_main_v12, val_main_v13, val_main_v14, val_main_v15, val_main_v16, val_main_c]
  pointwise
  exact band 2 (by decide) r c

/-- Group 0: the number of rows. -/
theorem v23_apply (r : Fin 8192) (l : Fin 1) : val_main_v23 (F := Ideal) (ix2 r l) = count 2 r := by
  simp only [val_main_v17, val_main_v18, val_main_v19, val_main_v20, val_main_v21, val_main_v22, val_main_v23, val_main_c_0, val_main_c_1, Cert.PoolFwdRefIdeal.Value.count]
  pointwise

/-- Group 0: the differences. -/
theorem v27_apply (x : FVec Ideal S8192x4608 .f32) (r : Fin 8192) (l : Fin 64) :
    val_main_v27 (F := Ideal) x (ix2 r l) = diff x 2 r ⟨0 + l.val, lane_lt 0 l⟩ := by
  simp only [val_main_v27, val_main_v26, val_main_v25, val_main_v24, val_main_v6, val_main_v0, diff]
  pointwise
  simp only [v16_apply, v23_apply, ← band_window]

/-- Group 0: the rows' cotangent. -/
theorem v140_apply (a : FVec Ideal S8192x256 .f32) (w : FVec Ideal S256x256 .bf16) (s : FVec Ideal S256 .f32) (r : Fin 8192)
    (l : Fin 64) : val_main_v140 (F := Ideal) a w s (ix2 r l) = dx a w s 2 r ⟨l.val, low_lt l⟩ := by
  simp only [val_main_v135, val_main_v136, val_main_v137, val_main_v138, val_main_v139, val_main_v140, val_main_v108]
  pointwise
  simp only [v16_apply, v23_apply, v107_apply]
  exact (add_comm _ _).trans (congrArg (· + -dd a w s r ⟨l.val, low_lt l⟩)
    (band_back (fun c => Ideal.div (dd a w s c ⟨l.val, low_lt l⟩) (count 2 c)) 2 r))

/-- Group 1: the band. -/
theorem v38_apply (r c : Fin 8192) : val_main_v38 (F := Ideal) (ix2 r c) = inBand 4 r.val c.val := by
  simp only [val_main_v2, val_main_v3, val_main_v4, val_main_v5, val_main_v29, val_main_v30, val_main_v31, val_main_v32, val_main_v33, val_main_v34, val_main_v35, val_main_v36, val_main_v37, val_main_v38, val_main_c_2]
  pointwise
  exact band 4 (by decide) r c

/-- Group 1: the number of rows. -/
theorem v45_apply (r : Fin 8192) (l : Fin 1) : val_main_v45 (F := Ideal) (ix2 r l) = count 4 r := by
  simp only [val_main_v39, val_main_v40, val_main_v41, val_main_v42, val_main_v43, val_main_v44, val_main_v45, val_main_c_3, val_main_c_4, Cert.PoolFwdRefIdeal.Value.count]
  pointwise

/-- Group 1: the differences. -/
theorem v49_apply (x : FVec Ideal S8192x4608 .f32) (r : Fin 8192) (l : Fin 64) :
    val_main_v49 (F := Ideal) x (ix2 r l) = diff x 4 r ⟨64 + l.val, lane_lt 1 l⟩ := by
  simp only [val_main_v49, val_main_v48, val_main_v47, val_main_v46, val_main_v28, val_main_v0, diff]
  pointwise
  simp only [v38_apply, v45_apply, ← band_window]

/-- Group 1: the rows' cotangent. -/
theorem v132_apply (a : FVec Ideal S8192x256 .f32) (w : FVec Ideal S256x256 .bf16) (s : FVec Ideal S256 .f32) (r : Fin 8192)
    (l : Fin 64) : val_main_v132 (F := Ideal) a w s (ix2 r l) = dx a w s 4 r ⟨64 + l.val, lane_lt 1 l⟩ := by
  simp only [val_main_v127, val_main_v128, val_main_v129, val_main_v130, val_main_v131, val_main_v132, val_main_v109]
  pointwise
  simp only [v38_apply, v45_apply, v107_apply]
  exact (add_comm _ _).trans (congrArg (· + -dd a w s r ⟨64 + l.val, lane_lt 1 l⟩)
    (band_back (fun c => Ideal.div (dd a w s c ⟨64 + l.val, lane_lt 1 l⟩) (count 4 c)) 4 r))

/-- Group 2: the band. -/
theorem v60_apply (r c : Fin 8192) : val_main_v60 (F := Ideal) (ix2 r c) = inBand 8 r.val c.val := by
  simp only [val_main_v2, val_main_v3, val_main_v4, val_main_v5, val_main_v51, val_main_v52, val_main_v53, val_main_v54, val_main_v55, val_main_v56, val_main_v57, val_main_v58, val_main_v59, val_main_v60, val_main_c_5]
  pointwise
  exact band 8 (by decide) r c

/-- Group 2: the number of rows. -/
theorem v67_apply (r : Fin 8192) (l : Fin 1) : val_main_v67 (F := Ideal) (ix2 r l) = count 8 r := by
  simp only [val_main_v61, val_main_v62, val_main_v63, val_main_v64, val_main_v65, val_main_v66, val_main_v67, val_main_c_6, val_main_c_7, Cert.PoolFwdRefIdeal.Value.count]
  pointwise

/-- Group 2: the differences. -/
theorem v71_apply (x : FVec Ideal S8192x4608 .f32) (r : Fin 8192) (l : Fin 64) :
    val_main_v71 (F := Ideal) x (ix2 r l) = diff x 8 r ⟨128 + l.val, lane_lt 2 l⟩ := by
  simp only [val_main_v71, val_main_v70, val_main_v69, val_main_v68, val_main_v50, val_main_v0, diff]
  pointwise
  simp only [v60_apply, v67_apply, ← band_window]

/-- Group 2: the rows' cotangent. -/
theorem v124_apply (a : FVec Ideal S8192x256 .f32) (w : FVec Ideal S256x256 .bf16) (s : FVec Ideal S256 .f32) (r : Fin 8192)
    (l : Fin 64) : val_main_v124 (F := Ideal) a w s (ix2 r l) = dx a w s 8 r ⟨128 + l.val, lane_lt 2 l⟩ := by
  simp only [val_main_v119, val_main_v120, val_main_v121, val_main_v122, val_main_v123, val_main_v124, val_main_v110]
  pointwise
  simp only [v60_apply, v67_apply, v107_apply]
  exact (add_comm _ _).trans (congrArg (· + -dd a w s r ⟨128 + l.val, lane_lt 2 l⟩)
    (band_back (fun c => Ideal.div (dd a w s c ⟨128 + l.val, lane_lt 2 l⟩) (count 8 c)) 8 r))

/-- Group 3: the band. -/
theorem v82_apply (r c : Fin 8192) : val_main_v82 (F := Ideal) (ix2 r c) = inBand 16 r.val c.val := by
  simp only [val_main_v2, val_main_v3, val_main_v4, val_main_v5, val_main_v73, val_main_v74, val_main_v75, val_main_v76, val_main_v77, val_main_v78, val_main_v79, val_main_v80, val_main_v81, val_main_v82, val_main_c_8]
  pointwise
  exact band 16 (by decide) r c

/-- Group 3: the number of rows. -/
theorem v89_apply (r : Fin 8192) (l : Fin 1) : val_main_v89 (F := Ideal) (ix2 r l) = count 16 r := by
  simp only [val_main_v83, val_main_v84, val_main_v85, val_main_v86, val_main_v87, val_main_v88, val_main_v89, val_main_c_9, val_main_c_10, Cert.PoolFwdRefIdeal.Value.count]
  pointwise

/-- Group 3: the differences. -/
theorem v93_apply (x : FVec Ideal S8192x4608 .f32) (r : Fin 8192) (l : Fin 64) :
    val_main_v93 (F := Ideal) x (ix2 r l) = diff x 16 r ⟨192 + l.val, lane_lt 3 l⟩ := by
  simp only [val_main_v93, val_main_v92, val_main_v91, val_main_v90, val_main_v72, val_main_v0, diff]
  pointwise
  simp only [v82_apply, v89_apply, ← band_window]

/-- Group 3: the rows' cotangent. -/
theorem v117_apply (a : FVec Ideal S8192x256 .f32) (w : FVec Ideal S256x256 .bf16) (s : FVec Ideal S256 .f32) (r : Fin 8192)
    (l : Fin 64) : val_main_v117 (F := Ideal) a w s (ix2 r l) = dx a w s 16 r ⟨192 + l.val, lane_lt 3 l⟩ := by
  simp only [val_main_v112, val_main_v113, val_main_v114, val_main_v115, val_main_v116, val_main_v117, val_main_v111]
  pointwise
  simp only [v82_apply, v89_apply, v107_apply]
  exact (add_comm _ _).trans (congrArg (· + -dd a w s r ⟨192 + l.val, lane_lt 3 l⟩)
    (band_back (fun c => Ideal.div (dd a w s c ⟨192 + l.val, lane_lt 3 l⟩) (count 16 c)) 16 r))

/-- The groups' differences side by side. -/
theorem v94_apply (x : FVec Ideal S8192x4608 .f32) (r : Fin 8192) (l : Fin 256) :
    val_main_v94 (F := Ideal) x (ix2 r l) = dif x r l := by
  simp only [val_main_v94, dif]
  pointwise
  have hl := l.isLt
  by_cases h0 : l.val < 64
  · refine (dif_pos h0).trans ((v27_apply x r _).trans ?_)
    exact congrArg₂ (fun n a => diff x n r a) (by rw [show l.val / 64 = 0 by omega]; rfl) (Fin.ext (by dsimp only; omega))
  refine (dif_neg h0).trans ?_
  by_cases h1 : l.val - 64 < 64
  · refine (dif_pos h1).trans ((v49_apply x r _).trans ?_)
    exact congrArg₂ (fun n a => diff x n r a) (by rw [show l.val / 64 = 1 by omega]; rfl) (Fin.ext (by dsimp only; omega))
  refine (dif_neg h1).trans ?_
  by_cases h2 : l.val - 64 - 64 < 64
  · refine (dif_pos h2).trans ((v71_apply x r _).trans ?_)
    exact congrArg₂ (fun n a => diff x n r a) (by rw [show l.val / 64 = 2 by omega]; rfl) (Fin.ext (by dsimp only; omega))
  refine (dif_neg h2).trans ((v93_apply x r _).trans ?_)
  exact congrArg₂ (fun n a => diff x n r a) (by rw [show l.val / 64 = 3 by omega]; rfl) (Fin.ext (by dsimp only; omega))

/-- The reference's map's cotangent. -/
theorem dw_eq (x : FVec Ideal S8192x4608 .f32) (a : FVec Ideal S8192x256 .f32) (s : FVec Ideal S256 .f32) :
    val_main_v106 (F := Ideal) x a s = DW x a s := by
  funext i
  idx_vars i
  simp only [val_main_v106, val_main_v105, val_main_v103, val_main_v102, val_main_v96, DW]
  pointwise
  simp only [v94_apply]
  exact Finset.sum_congr rfl fun r _ => mul_comm _ _

/-- The reference's scale's cotangent. -/
theorem ds_eq (x : FVec Ideal S8192x4608 .f32) (a : FVec Ideal S8192x256 .f32) (w : FVec Ideal S256x256 .bf16) :
    val_main_v144 (F := Ideal) x a w = DS x a w := by
  funext i
  idx_vars i
  simp only [val_main_v144, val_main_v104, val_main_v101, val_main_v100, val_main_v99, val_main_v95, val_main_v1,
    val_main_cst, val_main_cst_11, DS]
  pointwise
  rw [Fin.sum_univ_one]
  simp only [v94_apply]
  exact Finset.sum_congr rfl fun r _ => mul_comm _ _

/-- Group 0's columns, zero elsewhere. -/
theorem v141_apply (a : FVec Ideal S8192x256 .f32) (w : FVec Ideal S256x256 .bf16) (s : FVec Ideal S256 .f32) (r : Fin 8192)
    (l : Fin 256) : val_main_v141 (F := Ideal) a w s (ix2 r l)
      = if l.val / 64 = 0 then dx a w s 2 r l else 0 := by
  simp only [val_main_v141, val_main_cst_15]
  pointwise
  have hl := l.isLt
  by_cases h : l.val < 64
  · refine (dif_pos h).trans ((v140_apply a w s r _).trans (Eq.trans ?_ (if_pos (show l.val / 64 = 0 by omega)).symm))
    exact congrArg (dx a w s 2 r) (Fin.ext rfl)
  · exact (dif_neg h).trans (if_neg (show ¬l.val / 64 = 0 by omega)).symm

/-- Group 1's columns, zero elsewhere. -/
theorem v133_apply (a : FVec Ideal S8192x256 .f32) (w : FVec Ideal S256x256 .bf16) (s : FVec Ideal S256 .f32) (r : Fin 8192)
    (l : Fin 256) : val_main_v133 (F := Ideal) a w s (ix2 r l)
      = if l.val / 64 = 1 then dx a w s 4 r l else 0 := by
  simp only [val_main_v133, val_main_cst_14]
  pointwise
  have hl := l.isLt
  by_cases h : 64 ≤ l.val ∧ l.val - 64 < 64
  · refine (dif_pos h).trans ((v132_apply a w s r _).trans (Eq.trans ?_ (if_pos (show l.val / 64 = 1 by omega)).symm))
    exact congrArg (dx a w s 4 r) (Fin.ext (by dsimp only; omega))
  · exact (dif_neg h).trans (if_neg (show ¬l.val / 64 = 1 by omega)).symm

/-- Group 2's columns, zero elsewhere. -/
theorem v125_apply (a : FVec Ideal S8192x256 .f32) (w : FVec Ideal S256x256 .bf16) (s : FVec Ideal S256 .f32) (r : Fin 8192)
    (l : Fin 256) : val_main_v125 (F := Ideal) a w s (ix2 r l)
      = if l.val / 64 = 2 then dx a w s 8 r l else 0 := by
  simp only [val_main_v125, val_main_cst_13]
  pointwise
  have hl := l.isLt
  by_cases h : 128 ≤ l.val ∧ l.val - 128 < 64
  · refine (dif_pos h).trans ((v124_apply a w s r _).trans (Eq.trans ?_ (if_pos (show l.val / 64 = 2 by omega)).symm))
    exact congrArg (dx a w s 8 r) (Fin.ext (by dsimp only; omega))
  · exact (dif_neg h).trans (if_neg (show ¬l.val / 64 = 2 by omega)).symm

/-- Group 3's columns, zero elsewhere. -/
theorem v118_apply (a : FVec Ideal S8192x256 .f32) (w : FVec Ideal S256x256 .bf16) (s : FVec Ideal S256 .f32) (r : Fin 8192)
    (l : Fin 256) : val_main_v118 (F := Ideal) a w s (ix2 r l)
      = if l.val / 64 = 3 then dx a w s 16 r l else 0 := by
  simp only [val_main_v118, val_main_cst_12]
  pointwise
  have hl := l.isLt
  by_cases h : 192 ≤ l.val ∧ l.val - 192 < 64
  · refine (dif_pos h).trans ((v117_apply a w s r _).trans (Eq.trans ?_ (if_pos (show l.val / 64 = 3 by omega)).symm))
    exact congrArg (dx a w s 16 r) (Fin.ext (by dsimp only; omega))
  · exact (dif_neg h).trans (if_neg (show ¬l.val / 64 = 3 by omega)).symm

/-- The reference's rows' cotangent. -/
theorem dx_eq (a : FVec Ideal S8192x256 .f32) (w : FVec Ideal S256x256 .bf16) (s : FVec Ideal S256 .f32) :
    val_main_v143 (F := Ideal) a w s = DX a w s := by
  funext i
  idx_vars i
  simp only [val_main_v143, val_main_v142, val_main_v134, val_main_v126, DX]
  pointwise
  rw [v118_apply, v125_apply, v133_apply, v141_apply]
  have hl := i1.isLt
  show _ = dx a w s (width (i1.val / 64)) i0 i1
  unfold width
  split_ifs <;> first | omega | simp only [zero_add, add_zero]

end Cert.PoolBwdRefIdeal.Value
-- ==== Proof.PoolBwdValue.lean ====
module

public import proofs.«01_k».proof.Proof.PoolBwdPure
public import proofs.«01_k».proof.Proof.PoolFwdValue
public import proofs.«01_k».proof.Proof.Gen.PoolBwdIdeal.Value
public import Idealize.ShloMosaic.Lib.Pipeline.ValueKit
public import Idealize.ShloMosaic.Lib.Pipeline.ReadBack

/-!
What the pooling mixer's gradient call leaves. A block reads its own rows, the sixteen rows before them and the sixteen
rows of the cotangent after them; sums over the rows to come arise by doubling.
-/

@[expose] public section

set_option maxRecDepth 16384

noncomputable section

open Idealize.ShloMosaic Idealize.ShloMosaic.TcCoe Idealize.SL.Sem
open Idealize.ShloMosaic.Pipeline (Dat)

namespace Cert.PoolBwdIdeal.Value
open Cert.PoolBwdIdeal Cert.PoolBwdIdeal.Gen
open Cert.PoolFwdRefIdeal.Value (later window count diff width lane_lt col_lt group_lt rest_lt)
open Cert.PoolFwdIdeal.Value (rowAt cat cat_apply window_eq width_le width_eq number lane row_lt prev_lt)
open Cert.PoolBwdRefIdeal.Value (dif dd sooner dx DX DW DS)

variable (m : (ℓ : Loc nD τ sig) → Buf (Elt Ideal) ℓ)

theorem lt (t : Fin cfg0.N) : t.val < 64 := lt_of_lt_of_eq t.isLt N_0

/-- Each window's block at grid point `t`. -/
theorem idx : ∀ t : Fin cfg0.N, win0_0.index t = ![t.val, 0] ∧ win0_1.index t = ![8 * t.val - 1, 0]
    ∧ win0_2.index t = ![t.val, 0] ∧ win0_3.index t = ![min (8 * t.val + 8) 511, 0] ∧ win0_4.index t = ![0, 0]
    ∧ win0_5.index t = ![0, 0] ∧ win0_6.index t = ![t.val, 0] ∧ win0_7.index t = ![0, 0] ∧ win0_8.index t = ![0, 0] :=
  (by decide +kernel : ∀ t : Fin grid0.N, _)

theorem crd : ∀ t : Fin cfg0.N, (grid0.coords t 0).val = t.val :=
  (by decide +kernel : ∀ t : Fin grid0.N, _)

theorem next_lt {n : ℕ} (h : n < 64) (r : Fin 16) : 16 * min (8 * n + 8) 511 + r.val < 8192 := by omega

/-- The last block's rows after it are zero. -/
theorem sel (n : ℕ) (h : n < 64) (a b : EReal) :
    Scalar.select (Scalar.cmpi CmpIPredicate.slt (BitVec.ofNat 32 n) 63#32) a b = if n < 63 then a else b := by
  have h2 : ∀ k : Fin 64, (Scalar.cmpi CmpIPredicate.slt (BitVec.ofNat 32 k.val) 63#32 = 1) ↔ k.val < 63 := by decide
  simp only [Scalar.select, h2 ⟨n, h⟩]

/-! ### The differences -/

theorem pay3_apply (i : grid0.Coords) (p : FVec Ideal S16x256 .f32) (v : FVec Ideal S128x256 .f32) (r : Fin 128)
    (l : Fin 256) (c : ℕ → EReal) (h : ∀ r : Fin 144, cat i p v (ix2 r l) = c r.val) :
    k0_pay3 (F := Ideal) i p v (ix2 r l) = ∑ k ∈ Finset.range (width (l.val / 64)), c (16 + r.val - k) :=
  Cert.PoolFwdIdeal.Value.pay2_apply i p v r l c h

/-- A block's differences. -/
def dblk (i : grid0.Coords) (p : FVec Ideal S16x256 .f32) (v : FVec Ideal S128x256 .f32) : FVec Ideal S128x256 .f32 :=
  k0_pay9 v (k0_pay3 i p v) (k0_pay4 i) k0_pay5 k0_pay6 k0_pay7 16#32 k0_pay8

theorem dblk_apply (x : FVec Ideal S8192x4608 .f32) (i : grid0.Coords) {n : ℕ} (hn : n < 64) (hi : (i 0).val = n)
    (p : FVec Ideal S16x256 .f32) (v : FVec Ideal S128x256 .f32)
    (hp : ∀ r l, p (ix2 r l) = x (ix2 ⟨16 * (8 * n - 1) + r.val, prev_lt hn r⟩ ⟨l.val, col_lt l⟩))
    (hv : ∀ r l, v (ix2 r l) = x (ix2 ⟨128 * n + r.val, row_lt hn r⟩ ⟨l.val, col_lt l⟩)) (r : Fin 128) (l : Fin 256) :
    dblk i p v (ix2 r l) = dif x ⟨128 * n + r.val, row_lt hn r⟩ l := by
  pointwise [dblk, k0_pay9, k0_pay4, k0_pay5, k0_pay6, k0_pay7, k0_pay8]
  rw [hi, number hn, width_eq, hv, pay3_apply _ _ _ _ _ (rowAt x n l) (fun r => cat_apply x _ hn hi _ _ hp hv r l),
    window_eq x hn _ (width_le _)]
  rfl

/-! ### The cotangents -/

/-- Row `n` of the map's result's cotangent, zero past the last. -/
def cot (a : FVec Ideal S8192x256 .f32) (s : FVec Ideal S256 .f32) (n : ℕ) (l : Fin 256) : EReal :=
  if h : n < 8192 then a (ix2 ⟨n, h⟩ l) * s (ix1 l) else 0

/-- Row `n` of the differences' cotangent, zero past the last. -/
def ddAt (a : FVec Ideal S8192x256 .f32) (w : FVec Ideal S256x256 .bf16) (s : FVec Ideal S256 .f32) (n : ℕ) (l : Fin 256) :
    EReal :=
  if h : n < 8192 then dd a w s ⟨n, h⟩ l else 0

/-- The number of rows of row `n`'s window. -/
def cnt (w n : ℕ) : EReal :=
  FloatOps.sitofp (F := Ideal) FTy.f32 (IntOp.minsi (IntOp.addi (BitVec.ofNat 32 n) 1#32) (BitVec.ofNat 32 w))

/-- Row `n` of the mean's cotangent, zero past the last. -/
def mean (a : FVec Ideal S8192x256 .f32) (w : FVec Ideal S256x256 .bf16) (s : FVec Ideal S256 .f32) (g n : ℕ) (l : Fin 256) :
    EReal :=
  if h : n < 8192 then Ideal.div (dd a w s ⟨n, h⟩ l) (count g ⟨n, h⟩) else 0

section
variable {a : FVec Ideal S8192x256 .f32} {w : FVec Ideal S256x256 .bf16} {s : FVec Ideal S256 .f32} {n : ℕ} (hn : n < 64)
  {v52 : FVec Ideal S128x256 .f32} {v54 : FVec Ideal S16x256 .f32} {v58 : FVec Ideal S1x256 .f32} {v62 : FVec Ideal S256x256 .bf16}
  (hv : ∀ r l, v52 (ix2 r l) = a (ix2 ⟨128 * n + r.val, row_lt hn r⟩ l))
  (hp : ∀ r l, v54 (ix2 r l) = a (ix2 ⟨16 * min (8 * n + 8) 511 + r.val, next_lt hn r⟩ l))
  (hs : ∀ l, v58 (ix2 0 l) = s (ix1 l)) (hw : ∀ k l, v62 (ix2 k l) = w (ix2 k l))
include hv hp hs

theorem pay11_apply (r : Fin 144) (l : Fin 256) :
    k0_pay11 (F := Ideal) (BitVec.ofNat 32 n) v52 v54 v58 (ix2 r l) = cot a s (128 * n + r.val) l := by
  pointwise [k0_pay11]
  rw [hs]
  have hr := r.isLt
  unfold cot
  by_cases h : r.val < 128
  · rw [dif_pos (show 128 * n + r.val < 8192 by omega)]
    exact congrArg (· * _) ((dif_pos h).trans (hv ⟨r.val, h⟩ l))
  · refine (congrArg (· * _) ((dif_neg h).trans (sel n hn _ _))).trans ?_
    by_cases h3 : n < 63
    · rw [if_pos h3, dif_pos (show 128 * n + r.val < 8192 by omega), hp]
      exact congrArg (fun k => a (ix2 k l) * s (ix1 l)) (Fin.ext (by dsimp only; omega))
    · rw [if_neg h3, dif_neg (show ¬128 * n + r.val < 8192 by omega)]
      exact zero_mul _

include hw

theorem pay12_apply (r : Fin 144) (l : Fin 256) :
    k0_pay12 (F := Ideal) (BitVec.ofNat 32 n) v52 v54 v58 v62 (ix2 r l) = ddAt a w s (128 * n + r.val) l := by
  pointwise [k0_pay12]
  simp only [pay11_apply hn hv hp hs, hw]
  unfold ddAt cot
  by_cases h : 128 * n + r.val < 8192
  · simp only [dif_pos h]
    rfl
  · simp only [dif_neg h, zero_mul, Finset.sum_const_zero]

end

/-- Past the last row a window is full. -/
theorem full (g : Fin 4) (j : Fin 16) : cnt (width g.val) (8192 + j.val) ≠ 0 := by
  have h : ∀ (g : Fin 4) (j : Fin 16), (IntOp.minsi (IntOp.addi (BitVec.ofNat 32 (8192 + j.val)) 1#32)
      (BitVec.ofNat 32 (width g.val))).toInt ≠ 0 := by decide +kernel
  intro e
  have e' : (((IntOp.minsi (IntOp.addi (BitVec.ofNat 32 (8192 + j.val)) 1#32)
      (BitVec.ofNat 32 (width g.val))).toInt : ℝ) : EReal) = 0 := e
  exact h g j (by exact_mod_cast e')

theorem mean_eq (a : FVec Ideal S8192x256 .f32) (w : FVec Ideal S256x256 .bf16) (s : FVec Ideal S256 .f32) (n : ℕ)
    (hn : n < 8208) (l : Fin 256) :
    Ideal.div (ddAt a w s n l) (cnt (width (l.val / 64)) n) = mean a w s (width (l.val / 64)) n l := by
  unfold ddAt mean
  by_cases h : n < 8192
  · rw [dif_pos h, dif_pos h]
    rfl
  · rw [dif_neg h, dif_neg h]
    obtain ⟨j, rfl⟩ := Nat.exists_eq_add_of_le (show 8192 ≤ n by omega)
    rw [Ideal.div, if_neg (full ⟨l.val / 64, group_lt l⟩ ⟨j, by omega⟩), zero_mul]

/-! ### Sums over the rows to come -/

/-- Sums over two, four, eight and sixteen rows. -/
def two (v : FVec Ideal S144x256 .f32) : FVec Ideal S144x256 .f32 :=
  addf v (dynamicRotate 0 143#32 none v rotates_S144x256_d0)
def four (v : FVec Ideal S144x256 .f32) : FVec Ideal S144x256 .f32 :=
  addf (two v) (dynamicRotate 0 142#32 none (two v) rotates_S144x256_d0)
def eight (v : FVec Ideal S144x256 .f32) : FVec Ideal S144x256 .f32 :=
  addf (four v) (dynamicRotate 0 140#32 none (four v) rotates_S144x256_d0)
def sixteen (v : FVec Ideal S144x256 .f32) : FVec Ideal S144x256 .f32 :=
  addf (eight v) (dynamicRotate 0 136#32 none (eight v) rotates_S144x256_d0)

theorem double (c : ℕ → EReal) (w : ℕ) (r : ℕ) :
    (∑ k ∈ Finset.range w, c (r + k)) + ∑ k ∈ Finset.range w, c (r + w + k) = ∑ k ∈ Finset.range (w + w), c (r + k) := by
  rw [Finset.sum_range_add]
  refine congrArg (_ + ·) (Finset.sum_congr rfl fun k _ => congrArg c ?_)
  omega

section
variable {v : FVec Ideal S144x256 .f32} {l : Fin 256} {c : ℕ → EReal}

theorem two_apply (h : ∀ r : Fin 144, v (ix2 r l) = c r.val) (r : Fin 144) (hr : r.val + 1 < 144) :
    two v (ix2 r l) = ∑ k ∈ Finset.range 2, c (r.val + k) := by
  pointwise [two]
  rw [h, h, ← double c 1 r.val]
  simp only [Finset.sum_range_one, Nat.add_zero]
  exact congrArg (fun n => c r.val + c n) (show (r.val + 144 - 143) % 144 = r.val + 1 by omega)

theorem four_apply (h : ∀ r : Fin 144, v (ix2 r l) = c r.val) (r : Fin 144) (hr : r.val + 3 < 144) :
    four v (ix2 r l) = ∑ k ∈ Finset.range 4, c (r.val + k) := by
  pointwise [four]
  rw [two_apply h r (by omega), two_apply h _ (by dsimp only; omega), ← double c 2 r.val]
  exact congrArg (_ + ·) (Finset.sum_congr rfl fun k _ => congrArg c (by dsimp only; omega))

theorem eight_apply (h : ∀ r : Fin 144, v (ix2 r l) = c r.val) (r : Fin 144) (hr : r.val + 7 < 144) :
    eight v (ix2 r l) = ∑ k ∈ Finset.range 8, c (r.val + k) := by
  pointwise [eight]
  rw [four_apply h r (by omega), four_apply h _ (by dsimp only; omega), ← double c 4 r.val]
  exact congrArg (_ + ·) (Finset.sum_congr rfl fun k _ => congrArg c (by dsimp only; omega))

theorem sixteen_apply (h : ∀ r : Fin 144, v (ix2 r l) = c r.val) (r : Fin 144) (hr : r.val + 15 < 144) :
    sixteen v (ix2 r l) = ∑ k ∈ Finset.range 16, c (r.val + k) := by
  pointwise [sixteen]
  rw [eight_apply h r (by omega), eight_apply h _ (by dsimp only; omega), ← double c 8 r.val]
  exact congrArg (_ + ·) (Finset.sum_congr rfl fun k _ => congrArg c (by dsimp only; omega))
end

theorem top_lt (r : Fin 128) : r.val < 144 := by omega

/-- A block's rows' cotangent from the differences' cotangent and the means' cotangents: of the four sums each lane takes
its group's, and the rows themselves are taken off. -/
def tail (u q : FVec Ideal S144x256 .f32) : FVec Ideal S128x256 .bf16 :=
  truncf .bf16 (subf (extractStridedSlice S128x256 ![0, 0]
      (select (cmpi .slt (iota .tc S144x256 32 [1] iota_S144x256_d1_w32) (broadcast S144x256 64#32)) (two q)
        (select (cmpi .slt (iota .tc S144x256 32 [1] iota_S144x256_d1_w32) (broadcast S144x256 128#32)) (four q)
          (select (cmpi .slt (iota .tc S144x256 32 [1] iota_S144x256_d1_w32) (broadcast S144x256 192#32)) (eight q) (sixteen q))))
      slices_S144x256_o0_0_S128x256) (extractStridedSlice S128x256 ![0, 0] u slices_S144x256_o0_0_S128x256))
      bitsLt_bf16_f32

theorem tail_apply (u q : FVec Ideal S144x256 .f32) (r : Fin 128) (l : Fin 256) : tail u q (ix2 r l)
      = (if l.val < 64 then two q (ix2 ⟨r.val, top_lt r⟩ l) else if l.val < 128 then four q (ix2 ⟨r.val, top_lt r⟩ l)
        else if l.val < 192 then eight q (ix2 ⟨r.val, top_lt r⟩ l) else sixteen q (ix2 ⟨r.val, top_lt r⟩ l))
        - u (ix2 ⟨r.val, top_lt r⟩ l) := by
  pointwise [tail]
  rw [lane l 64 (by simp), lane l 128 (by simp), lane l 192 (by simp)]

/-- The means' cotangents of a block. -/
def quot (u : FVec Ideal S144x256 .f32) (v71 : IVec S144x256 32) (v73 v75 v77 : IVec S144x256 1) : FVec Ideal S144x256 .f32 :=
  divf u (sitofp .f32 (minsi v71 (select v73 (broadcast S144x256 2#32)
    (select v75 (broadcast S144x256 4#32) (select v77 (broadcast S144x256 8#32) (broadcast S144x256 16#32))))))

theorem pay17_eq (u : FVec Ideal S144x256 .f32) (v71 : IVec S144x256 32) (v73 v75 v77 : IVec S144x256 1) :
    k0_pay17 (F := Ideal) u v71 v73 v75 v77 = tail u (quot u v71 v73 v75 v77) := by
  unfold k0_pay17
  generalize h : quot u v71 v73 v75 v77 = q
  unfold quot at h
  simp only [h]
  rfl

/-- The row's number in the array. -/
theorem number' {n : ℕ} (hn : n < 64) (r : Fin 144) :
    IntOp.addi (BitVec.ofNat 32 r.val) (Scalar.muli (BitVec.ofNat 32 n) 128#32) = BitVec.ofNat 32 (128 * n + r.val) := by
  show BitVec.ofNat 32 r.val + BitVec.ofNat 32 n * 128#32 = _
  refine BitVec.eq_of_toNat_eq ?_
  simp only [BitVec.toNat_add, BitVec.toNat_mul, BitVec.toNat_ofNat]
  omega

theorem quot_apply (u : FVec Ideal S144x256 .f32) {n : ℕ} (hn : n < 64) (r : Fin 144) (l : Fin 256) :
    quot u (k0_pay13 (BitVec.ofNat 32 n)) k0_pay14 k0_pay15 k0_pay16 (ix2 r l) = Ideal.div (u (ix2 r l)) (cnt (width (l.val / 64)) (128 * n + r.val)) := by
  pointwise [quot, k0_pay13, k0_pay14, k0_pay15, k0_pay16]
  rw [number' hn, width_eq]
  rfl

theorem tail_sum (u q : FVec Ideal S144x256 .f32) (r : Fin 128) (l : Fin 256) (c : ℕ → EReal)
    (h : ∀ r : Fin 144, q (ix2 r l) = c r.val) :
    tail u q (ix2 r l) = (∑ k ∈ Finset.range (width (l.val / 64)), c (r.val + k)) - u (ix2 ⟨r.val, top_lt r⟩ l) := by
  rw [tail_apply]
  have hl := l.isLt
  have hr := r.isLt
  have h2 := two_apply h ⟨r.val, top_lt r⟩ (show r.val + 1 < 144 by omega)
  have h4 := four_apply h ⟨r.val, top_lt r⟩ (show r.val + 3 < 144 by omega)
  have h8 := eight_apply h ⟨r.val, top_lt r⟩ (show r.val + 7 < 144 by omega)
  have h16 := sixteen_apply h ⟨r.val, top_lt r⟩ (show r.val + 15 < 144 by omega)
  rw [h2, h4, h8, h16]
  refine congrArg (· - _) ?_
  by_cases e0 : l.val < 64
  · rw [if_pos e0, show width (l.val / 64) = 2 by rw [show l.val / 64 = 0 by omega]; rfl]
  rw [if_neg e0]
  by_cases e1 : l.val < 128
  · rw [if_pos e1, show width (l.val / 64) = 4 by rw [show l.val / 64 = 1 by omega]; rfl]
  rw [if_neg e1]
  by_cases e2 : l.val < 192
  · rw [if_pos e2, show width (l.val / 64) = 8 by rw [show l.val / 64 = 2 by omega]; rfl]
  rw [if_neg e2, show width (l.val / 64) = 16 by rw [show l.val / 64 = 3 by omega]; rfl]

theorem pay17_apply (u : FVec Ideal S144x256 .f32) (v71 : IVec S144x256 32) (v73 v75 v77 : IVec S144x256 1) (r : Fin 128)
    (l : Fin 256) (c : ℕ → EReal) (h : ∀ r : Fin 144, quot u v71 v73 v75 v77 (ix2 r l) = c r.val) :
    k0_pay17 (F := Ideal) u v71 v73 v75 v77 (ix2 r l)
      = (∑ k ∈ Finset.range (width (l.val / 64)), c (r.val + k)) - u (ix2 ⟨r.val, top_lt r⟩ l) :=
  (congrFun (pay17_eq u v71 v73 v75 v77) (ix2 r l)).trans (tail_sum u _ r l c h)

/-! ### The blocks -/

theorem x0 (c : Dev nD) (t : Fin cfg0.N) (r : Fin 128) (l : Fin 256) :
    iblk m c 0 t (ix2 r l) = m ((c : Thread nD τ).loc main_arg0) (ix2 ⟨128 * t.val + r.val, row_lt (lt t) r⟩ ⟨l.val, col_lt l⟩) := by
  blk_point [iblk, V, idx t]

theorem x1 (c : Dev nD) (t : Fin cfg0.N) (r : Fin 16) (l : Fin 256) :
    iblk m c 1 t (ix2 r l)
      = m ((c : Thread nD τ).loc main_arg0) (ix2 ⟨16 * (8 * t.val - 1) + r.val, prev_lt (lt t) r⟩ ⟨l.val, col_lt l⟩) := by
  blk_point [iblk, V, idx t]

theorem x2 (c : Dev nD) (t : Fin cfg0.N) (r : Fin 128) (l : Fin 256) :
    iblk m c 2 t (ix2 r l) = m ((c : Thread nD τ).loc main_arg1) (ix2 ⟨128 * t.val + r.val, row_lt (lt t) r⟩ l) := by
  blk_point [iblk, V, idx t]

theorem x3 (c : Dev nD) (t : Fin cfg0.N) (r : Fin 16) (l : Fin 256) :
    iblk m c 3 t (ix2 r l) = m ((c : Thread nD τ).loc main_arg1) (ix2 ⟨16 * min (8 * t.val + 8) 511 + r.val, next_lt (lt t) r⟩ l) := by
  blk_point [iblk, V, idx t]

theorem x4 (c : Dev nD) (t : Fin cfg0.N) (k l : Fin 256) :
    iblk m c 4 t (ix2 k l) = m ((c : Thread nD τ).loc main_arg2) (ix2 k l) := by
  blk_point [iblk, V, idx t]

theorem x5 (c : Dev nD) (t : Fin cfg0.N) (l : Fin 256) :
    iblk m c 5 t (ix2 0 l) = m ((c : Thread nD τ).loc main_arg3) (ix1 l) := by
  blk_point [iblk, V, idx t]

/-- A block of the rows' cotangent. -/
theorem point6 (c : Dev nD) (t : Fin cfg0.N) (r : Fin 128) (l : Fin 256) :
    k0_pay17 (F := Ideal) (k0_pay12 (BitVec.ofNat 32 (grid0.coords t 0).val) (iblk m c 2 t) (iblk m c 3 t) (iblk m c 5 t) (iblk m c 4 t))
      (k0_pay13 (BitVec.ofNat 32 (grid0.coords t 0).val)) k0_pay14 k0_pay15 k0_pay16 (ix2 r l)
      = DX (m ((c : Thread nD τ).loc main_arg1)) (m ((c : Thread nD τ).loc main_arg2)) (m ((c : Thread nD τ).loc main_arg3))
        (ix2 ⟨128 * t.val + r.val, row_lt (lt t) r⟩ l) := by
  have ht := lt t
  rw [crd]
  refine (pay17_apply _ _ _ _ _ r l (fun n => mean (m ((c : Thread nD τ).loc main_arg1)) (m ((c : Thread nD τ).loc main_arg2))
    (m ((c : Thread nD τ).loc main_arg3)) (width (l.val / 64)) (128 * t.val + n) l) fun r => ?_).trans ?_
  · rw [quot_apply _ (lt t), pay12_apply (lt t) (x2 m c t) (x3 m c t) (x5 m c t) (x4 m c t)]
    exact mean_eq _ _ _ _ (by have := r.isLt; omega) l
  · rw [pay12_apply (lt t) (x2 m c t) (x3 m c t) (x5 m c t) (x4 m c t), ddAt,
      dif_pos (show 128 * t.val + r.val < 8192 from row_lt (lt t) r)]
    refine congrArg (· - _) (Finset.sum_congr rfl fun k _ => ?_)
    exact congrArg (fun q => mean _ _ _ (width (l.val / 64)) q l) (Nat.add_assoc (128 * t.val) r.val k).symm

/-- A row's part of the map's cotangent. -/
def wrow (x : FVec Ideal S8192x4608 .f32) (a : FVec Ideal S8192x256 .f32) (s : FVec Ideal S256 .f32) (k l : Fin 256)
    (r : Fin 8192) : EReal :=
  dif x r k * (a (ix2 r l) * s (ix1 l))

/-- A row's part of the scale's cotangent. -/
def srow (x : FVec Ideal S8192x4608 .f32) (a : FVec Ideal S8192x256 .f32) (w : FVec Ideal S256x256 .bf16) (l : Fin 256)
    (r : Fin 8192) : EReal :=
  a (ix2 r l) * ∑ k : Fin 256, dif x r k * w (ix2 k l)

/-- A row block's part of the map's cotangent. -/
theorem part7 (c : Dev nD) (t : Fin cfg0.N) (j) :
    k0_pay18 (F := Ideal) (dblk (grid0.coords t) (iblk m c 1 t) (iblk m c 0 t))
      (k0_pay11 (BitVec.ofNat 32 (grid0.coords t 0).val) (iblk m c 2 t) (iblk m c 3 t) (iblk m c 5 t)) j
      = ∑ r : Fin 128, wrow (m ((c : Thread nD τ).loc main_arg0)) (m ((c : Thread nD τ).loc main_arg1)) (m ((c : Thread nD τ).loc main_arg3))
        (j 0) (j 1) ⟨128 * t.val + r.val, row_lt (lt t) r⟩ := by
  idx_vars j
  pointwise [k0_pay18]
  refine Finset.sum_congr rfl fun r _ => ?_
  rw [dblk_apply _ _ (lt t) (crd t) _ _ (x1 m c t) (x0 m c t), crd, pay11_apply (lt t) (x2 m c t) (x3 m c t) (x5 m c t), cot]
  exact congrArg (_ * ·) (dif_pos (row_lt (lt t) r))

/-- A row block's part of the scale's cotangent. -/
theorem part8 (c : Dev nD) (t : Fin cfg0.N) (j) :
    k0_pay19 (F := Ideal) (k0_pay10 (iblk m c 0 t) (k0_pay3 (grid0.coords t) (iblk m c 1 t) (iblk m c 0 t)) (k0_pay4 (grid0.coords t))
      k0_pay5 k0_pay6 k0_pay7 16#32 k0_pay8 (iblk m c 4 t)) (iblk m c 2 t) j
      = ∑ r : Fin 128, srow (m ((c : Thread nD τ).loc main_arg0)) (m ((c : Thread nD τ).loc main_arg1)) (m ((c : Thread nD τ).loc main_arg2))
        (j 1) ⟨128 * t.val + r.val, row_lt (lt t) r⟩ := by
  idx_vars j
  pointwise [k0_pay19, k0_pay10]
  refine Finset.sum_congr rfl fun r _ => ?_
  refine congrArg₂ (fun p q : EReal => p * q) (x2 m c t r j1) (Finset.sum_congr rfl fun k _ => ?_)
  exact congrArg₂ (fun p q : EReal => p * q) (dblk_apply _ _ (lt t) (crd t) _ _ (x1 m c t) (x0 m c t) r k) (x4 m c t k j1)

/-- A later block adds its part. -/
theorem step7 (p acc : FVec Ideal S256x256 .f32) (j) : k0_pay1 (F := Ideal) p acc j = acc j + p j := by
  pointwise [k0_pay1]

theorem step8 (p acc : FVec Ideal S1x256 .f32) (j) : k0_pay2 (F := Ideal) p acc j = acc j + p j := by
  pointwise [k0_pay2]

theorem emb6 (x : FVec Ideal S8192x256 .bf16) (t : Fin cfg0.N) (r : Fin 128) (l : Fin 256) :
    x (((cfg0.win 6).blk t).view.emb (ix2 r l)) = x (ix2 ⟨128 * t.val + r.val, row_lt (lt t) r⟩ l) := by
  blk_point [idx t]

theorem emb7 (x : FVec Ideal S256x256 .f32) (t : Fin cfg0.N) (k l : Fin 256) :
    x (((cfg0.win 7).blk t).view.emb (ix2 k l)) = x (ix2 k l) := by
  blk_point [idx t]

theorem emb8 (x : FVec Ideal S1x256 .f32) (t : Fin cfg0.N) (k : Fin 1) (l : Fin 256) :
    x (((cfg0.win 8).blk t).view.emb (ix2 k l)) = x (ix2 k l) := by
  blk_point [idx t]

/-- The rows' cotangent. -/
theorem final6 (c : Dev nD) : (dats m 0 c).arrAt 6 (cfgs 0).N
    = DX (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  by_cases h : t.val = 0
  · rw [outsAt0_A m c t (by omega) (by omega)]
    frame_out
    idx_vars y
    exact (point6 m c t y0 y1).trans (emb6 (DX _ _ _) t y0 y1).symm
  · rw [outsAt0_B m c t (by have := lt t; omega) (by omega)]
    frame_out
    idx_vars y
    exact (point6 m c t y0 y1).trans (emb6 (DX _ _ _) t y0 y1).symm

/-- The map's cotangent: the row blocks' parts add up to the sum over all rows. -/
theorem final7 (c : Dev nD) : (dats m 0 c).arrAt 7 (cfgs 0).N
    = DW (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.1) 64 (fun _ => 0) _
    (fun t h j => by
      rw [outsAt0_A m c t h (by have := lt t; omega)]; frame_out; exact (part7 m c t j).trans (zero_add _).symm)
    (fun t h j => by rw [outsAt0_B m c t h (by omega)]; frame_out; rw [step7]; exact congrArg (_ + ·) (part7 m c t j))
    t ((flush0_7 t).mp hf) _, zero_add]
  have ht := lt t
  idx_vars y
  refine (Fin.sum_mul_add_congr (f := wrow (m ((c : Thread nD τ).loc main_arg0)) (m ((c : Thread nD τ).loc main_arg1))
    (m ((c : Thread nD τ).loc main_arg3)) y0 y1) fun s k hl => ?_).trans ?_
  · refine congrArg (wrow _ _ _ y0 y1) (Fin.ext ?_)
    show 128 * (64 * (t.val / 64) + s.val) + k.val = s.val * 128 + k.val
    omega
  · exact (emb7 (DW _ _ _) t y0 y1).symm

/-- The scale's cotangent: the row blocks' parts add up to the sum over all rows. -/
theorem final8 (c : Dev nD) : (dats m 0 c).arrAt 8 (cfgs 0).N
    = DS (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8, Pipeline.eq_sum_fin_of_reset_step_apply_of_flush (fun n h => (outsAt0 m c n h).2.2) 64 (fun _ => 0) _
    (fun t h j => by
      rw [outsAt0_A m c t h (by have := lt t; omega)]; frame_out; exact (part8 m c t j).trans (zero_add _).symm)
    (fun t h j => by rw [outsAt0_B m c t h (by omega)]; frame_out; rw [step8]; exact congrArg (_ + ·) (part8 m c t j))
    t ((flush0_8 t).mp hf) _, zero_add]
  have ht := lt t
  idx_vars y
  refine (Fin.sum_mul_add_congr (f := srow (m ((c : Thread nD τ).loc main_arg0)) (m ((c : Thread nD τ).loc main_arg1))
    (m ((c : Thread nD τ).loc main_arg2)) y1) fun s k hl => ?_).trans ?_
  · refine congrArg (srow _ _ _ y1) (Fin.ext ?_)
    show 128 * (64 * (t.val / 64) + s.val) + k.val = s.val * 128 + k.val
    omega
  · exact (emb8 (DS _ _ _) t y0 y1).symm

end Cert.PoolBwdIdeal.Value
-- ==== Proof.PoolBwd.lean ====
module

public import proofs.«01_k».proof.Defs
public import proofs.«01_k».proof.Proof.PoolBwdValue
public import proofs.«01_k».proof.Proof.Gen.PoolBwdRefIdeal.Run
public import proofs.«01_k».proof.Proof.Gen.PoolBwdRefIdeal.Read
public import Idealize.ShloMosaic.Lib.Claim
public import Idealize.ShloMosaic.Lib.Quiescent

/-!
`PoolBwd`: the pooling mixer's gradient call and its reference leave equal results.
-/

@[expose] public section

set_option maxRecDepth 16384

noncomputable section

open Idealize.ShloMosaic Idealize.ShloMosaic.TcCoe Idealize.SL.Sem

namespace Cert.Proof

/-- Kernel and reference leave equal gradients. -/
theorem algebraic_PoolBwd : Cert.algebraic_PoolBwdIdeal_PoolBwdRefIdeal := by
  pair_intro
  · run_from Cert.PoolBwdIdeal.Gen.run_main m g
  · run_from Cert.PoolBwdRefIdeal.Value.run m' g'
    · rw [Cert.PoolBwdIdeal.Value.final6 m c, ← (hagree c).2.1, ← (hagree c).2.2.1, ← (hagree c).2.2.2]
      exact (Cert.PoolBwdRefIdeal.Read.val_main_v143_eq m' c).trans
        (Cert.PoolBwdRefIdeal.Value.dx_eq _ _ _)
    · rw [Cert.PoolBwdIdeal.Value.final7 m c, ← (hagree c).1, ← (hagree c).2.1, ← (hagree c).2.2.2]
      exact (Cert.PoolBwdRefIdeal.Read.val_main_v106_eq m' c).trans
        (Cert.PoolBwdRefIdeal.Value.dw_eq _ _ _)
    · rw [Cert.PoolBwdIdeal.Value.final8 m c, ← (hagree c).1, ← (hagree c).2.1, ← (hagree c).2.2.1]
      exact (Cert.PoolBwdRefIdeal.Read.val_main_v144_eq m' c).trans
        (Cert.PoolBwdRefIdeal.Value.ds_eq _ _ _)

/-- The reference runs to an end and leaves its arguments alone. -/
theorem frame_PoolBwd_ref : Cert.quiescent_PoolBwdRefIdeal := fun m ρ _ =>
  (θ_run Cert.PoolBwdRefIdeal.defs _ _).mono
    (fun r h => ⟨fun c => (h c).2.2.2, sem_eq_zero_of_no_sems (by decide) r.2⟩)
    (Cert.PoolBwdRefIdeal.Value.run (F := Ideal) m ρ)

end Cert.Proof

end
-- ==== Proof.SmallLatePack.lean ====
module

public import proofs.«01_k».proof.Proof.Adam
public import proofs.«01_k».proof.Proof.Gen.SmallLateIdeal.Frame
public import Idealize.ShloMosaic.Lib.Pipeline.ValueKit

/-!
How the small weights are laid out in packed rows, and how one of them is taken out again.
-/

@[expose] public section

set_option maxRecDepth 16384
set_option maxHeartbeats 1000000

noncomputable section

open Idealize.ShloMosaic Idealize.ShloMosaic.TcCoe Idealize.SL.Sem

namespace Cert.SmallLateIdeal.Value
open Cert.SmallLateIdeal Cert.SmallLateIdeal.Gen

theorem at_vals {a a' : Fin 24} {b b' : Fin 128} (h : a.val = a'.val) (h' : b.val = b'.val) : ix2 a b = ix2 a' b' := by
  rw [Fin.ext h, Fin.ext h']

/-- `norm1` laid out in rows. -/
def lay_norm1 (x0 : FVec Ideal S2x1024 .f32) : FVec Ideal S16x128 .f32 :=
  shapeCast S16x128 (pad S2048 ![0] ![0] ![0] (shapeCast S2048 x0 shapeCasts_S2x1024_S2048) (sitofp (F := Ideal) .f32 (constantI S_ 32 0#32)) pads_S2048_S2048_000 h_S_) shapeCasts_S2048_S16x128

/-- The parts of `norm1` laid out in rows, device by device. -/
def layParts_norm1 (x0 : FVec Ideal S8x2x1024 .f32) : FVec Ideal S8x16x128 .f32 :=
  shapeCast S8x16x128 (pad S8x2048 ![0, 0] ![0, 0] ![0, 0] (shapeCast S8x2048 x0 shapeCasts_S8x2x1024_S8x2048) (sitofp (F := Ideal) .f32 (constantI S_ 32 0#32)) pads_S8x2048_S8x2048_000_000 h_S_) shapeCasts_S8x2048_S8x16x128

/-- `k_norm` laid out in rows. -/
def lay_k_norm (x1 : FVec Ideal S2x64 .f32) : FVec Ideal S8x128 .f32 :=
  shapeCast S8x128 (pad S1024 ![0] ![896] ![0] (shapeCast S128 x1 shapeCasts_S2x64_S128) (sitofp (F := Ideal) .f32 (constantI S_ 32 0#32)) pads_S128_S1024_08960 h_S_) shapeCasts_S1024_S8x128

/-- The parts of `k_norm` laid out in rows, device by device. -/
def layParts_k_norm (x1 : FVec Ideal S8x2x64 .f32) : FVec Ideal S8x8x128 .f32 :=
  shapeCast S8x8x128 (pad S8x1024 ![0, 0] ![0, 896] ![0, 0] (shapeCast S8x128 x1 shapeCasts_S8x2x64_S8x128) (sitofp (F := Ideal) .f32 (constantI S_ 32 0#32)) pads_S8x128_S8x1024_000_08960 h_S_) shapeCasts_S8x1024_S8x8x128

/-- The weights one after another, each padded to whole tiles of eight rows. -/
def pack (x0 : FVec Ideal S2x1024 .f32) (x1 : FVec Ideal S2x64 .f32) : FVec Ideal S24x128 .f32 :=
  concatenate S24x128 0 [⟨S16x128, lay_norm1 x0⟩,
      ⟨S8x128, lay_k_norm x1⟩] concatenates_S16x128_S8x128_S24x128_d0

/-- The devices' parts, packed device by device. -/
def packParts (x0 : FVec Ideal S8x2x1024 .f32) (x1 : FVec Ideal S8x2x64 .f32) : FVec Ideal S8x24x128 .f32 :=
  concatenate S8x24x128 1 [⟨S8x16x128, layParts_norm1 x0⟩,
      ⟨S8x8x128, layParts_k_norm x1⟩] concatenates_S8x16x128_S8x8x128_S8x24x128_d1

/-- `norm1` taken out of the packed rows. -/
def take_norm1 (X : FVec Ideal S24x128 .f32) : FVec Ideal S2x1024 .f32 :=
  shapeCast S2x1024 (shapeCast S2048 (extractStridedSlice S16x128 ![0, 0] X slices_S24x128_S16x128_0_0) shapeCasts_S16x128_S2048) shapeCasts_S2048_S2x1024

theorem row_norm1 (a : Fin 2) (b : Fin 1024) : 0 + (1024 * a.val + b.val) / 128 < 24 := by omega

theorem col_norm1 (a : Fin 2) (b : Fin 1024) : (1024 * a.val + b.val) % 128 < 128 := Nat.mod_lt _ (by decide)

theorem take_norm1_at (X : FVec Ideal S24x128 .f32) (a : Fin 2) (b : Fin 1024) : take_norm1 X (ix2 a b)
    = X (ix2 ⟨0 + (1024 * a.val + b.val) / 128, row_norm1 a b⟩ ⟨(1024 * a.val + b.val) % 128, col_norm1 a b⟩) := by
  simp only [take_norm1]
  pointwise
  first
  | rfl
  | exact congrArg X (at_vals (by dsimp only; omega) (by dsimp only; omega))

theorem lrow_norm1 (a : Fin 2) (b : Fin 1024) : (1024 * a.val + b.val) / 128 < 16 := by omega

theorem lay_norm1_at (x : FVec Ideal S2x1024 .f32) (a : Fin 2) (b : Fin 1024) :
    lay_norm1 x (ix2 ⟨(1024 * a.val + b.val) / 128, lrow_norm1 a b⟩ ⟨(1024 * a.val + b.val) % 128, col_norm1 a b⟩) = x (ix2 a b) := by
  simp only [lay_norm1]
  pointwise
  all_goals (split_ifs <;> first | rfl | (exfalso; omega))

theorem layParts_norm1_at (x : FVec Ideal S8x2x1024 .f32) (k : Fin 8) (a : Fin 2) (b : Fin 1024) :
    layParts_norm1 x (ix3 k ⟨(1024 * a.val + b.val) / 128, lrow_norm1 a b⟩ ⟨(1024 * a.val + b.val) % 128, col_norm1 a b⟩) = x (ix3 k a b) := by
  simp only [layParts_norm1]
  pointwise
  all_goals (split_ifs <;> first | rfl | (exfalso; omega))

theorem pack_row_norm1 (x0 : FVec Ideal S2x1024 .f32) (x1 : FVec Ideal S2x64 .f32) (r : Fin 16) (o : Fin 128) :
    pack x0 x1 (ix2 ⟨0 + r.val, by omega⟩ o) = lay_norm1 x0 (ix2 r o) := by
  unfold pack
  refine concatenate_apply_piece (t := S24x128) 0 _ _ _ 0 (by exact Nat.le_of_ble_eq_true rfl) S16x128 (lay_norm1 x0) (by rfl) rfl 0 (by rfl) (ix2 r o) (fun b hb => ?_) (by rfl)
  fin_cases b
  · exact absurd rfl hb
  · rfl

theorem parts_row_norm1 (x0 : FVec Ideal S8x2x1024 .f32) (x1 : FVec Ideal S8x2x64 .f32) (k : Fin 8) (r : Fin 16) (o : Fin 128) :
    packParts x0 x1 (ix3 k ⟨0 + r.val, by omega⟩ o) = layParts_norm1 x0 (ix3 k r o) := by
  unfold packParts
  refine concatenate_apply_piece (t := S8x24x128) 1 _ _ _ 0 (by exact Nat.le_of_ble_eq_true rfl) S8x16x128 (layParts_norm1 x0) (by rfl) rfl 0 (by rfl) (ix3 k r o) (fun b hb => ?_) (by rfl)
  fin_cases b
  · rfl
  · exact absurd rfl hb
  · rfl

theorem pack_norm1_at (x0 : FVec Ideal S2x1024 .f32) (x1 : FVec Ideal S2x64 .f32) (a : Fin 2) (b : Fin 1024) :
    pack x0 x1 (ix2 ⟨0 + (1024 * a.val + b.val) / 128, row_norm1 a b⟩ ⟨(1024 * a.val + b.val) % 128, col_norm1 a b⟩) = x0 (ix2 a b) :=
  (pack_row_norm1 x0 x1 ⟨(1024 * a.val + b.val) / 128, lrow_norm1 a b⟩ _).trans (lay_norm1_at x0 a b)

theorem parts_norm1_at (x0 : FVec Ideal S8x2x1024 .f32) (x1 : FVec Ideal S8x2x64 .f32) (k : Fin 8) (a : Fin 2) (b : Fin 1024) :
    packParts x0 x1 (ix3 k ⟨0 + (1024 * a.val + b.val) / 128, row_norm1 a b⟩ ⟨(1024 * a.val + b.val) % 128, col_norm1 a b⟩) = x0 (ix3 k a b) :=
  (parts_row_norm1 x0 x1 k ⟨(1024 * a.val + b.val) / 128, lrow_norm1 a b⟩ _).trans (layParts_norm1_at x0 k a b)

/-- `k_norm` taken out of the packed rows. -/
def take_k_norm (X : FVec Ideal S24x128 .f32) : FVec Ideal S2x64 .f32 :=
  shapeCast S2x64 (extractStridedSlice S128 ![0] (shapeCast S1024 (extractStridedSlice S8x128 ![16, 0] X slices_S24x128_S8x128_16_0) shapeCasts_S8x128_S1024) slices_S1024_S128_0) shapeCasts_S128_S2x64

theorem row_k_norm (a : Fin 2) (b : Fin 64) : 16 + (64 * a.val + b.val) / 128 < 24 := by omega

theorem col_k_norm (a : Fin 2) (b : Fin 64) : (64 * a.val + b.val) % 128 < 128 := Nat.mod_lt _ (by decide)

theorem take_k_norm_at (X : FVec Ideal S24x128 .f32) (a : Fin 2) (b : Fin 64) : take_k_norm X (ix2 a b)
    = X (ix2 ⟨16 + (64 * a.val + b.val) / 128, row_k_norm a b⟩ ⟨(64 * a.val + b.val) % 128, col_k_norm a b⟩) := by
  simp only [take_k_norm]
  pointwise
  first
  | rfl
  | exact congrArg X (at_vals (by dsimp only; omega) (by dsimp only; omega))

theorem lrow_k_norm (a : Fin 2) (b : Fin 64) : (64 * a.val + b.val) / 128 < 8 := by omega

theorem lay_k_norm_at (x : FVec Ideal S2x64 .f32) (a : Fin 2) (b : Fin 64) :
    lay_k_norm x (ix2 ⟨(64 * a.val + b.val) / 128, lrow_k_norm a b⟩ ⟨(64 * a.val + b.val) % 128, col_k_norm a b⟩) = x (ix2 a b) := by
  simp only [lay_k_norm]
  pointwise
  all_goals (split_ifs <;> first | rfl | (exfalso; omega))

theorem layParts_k_norm_at (x : FVec Ideal S8x2x64 .f32) (k : Fin 8) (a : Fin 2) (b : Fin 64) :
    layParts_k_norm x (ix3 k ⟨(64 * a.val + b.val) / 128, lrow_k_norm a b⟩ ⟨(64 * a.val + b.val) % 128, col_k_norm a b⟩) = x (ix3 k a b) := by
  simp only [layParts_k_norm]
  pointwise
  all_goals (split_ifs <;> first | rfl | (exfalso; omega))

theorem pack_row_k_norm (x0 : FVec Ideal S2x1024 .f32) (x1 : FVec Ideal S2x64 .f32) (r : Fin 8) (o : Fin 128) :
    pack x0 x1 (ix2 ⟨16 + r.val, by omega⟩ o) = lay_k_norm x1 (ix2 r o) := by
  unfold pack
  refine concatenate_apply_piece (t := S24x128) 0 _ _ _ 1 (by exact Nat.le_of_ble_eq_true rfl) S8x128 (lay_k_norm x1) (by rfl) rfl 16 (by rfl) (ix2 r o) (fun b hb => ?_) (by rfl)
  fin_cases b
  · exact absurd rfl hb
  · rfl

theorem parts_row_k_norm (x0 : FVec Ideal S8x2x1024 .f32) (x1 : FVec Ideal S8x2x64 .f32) (k : Fin 8) (r : Fin 8) (o : Fin 128) :
    packParts x0 x1 (ix3 k ⟨16 + r.val, by omega⟩ o) = layParts_k_norm x1 (ix3 k r o) := by
  unfold packParts
  refine concatenate_apply_piece (t := S8x24x128) 1 _ _ _ 1 (by exact Nat.le_of_ble_eq_true rfl) S8x8x128 (layParts_k_norm x1) (by rfl) rfl 16 (by rfl) (ix3 k r o) (fun b hb => ?_) (by rfl)
  fin_cases b
  · rfl
  · exact absurd rfl hb
  · rfl

theorem pack_k_norm_at (x0 : FVec Ideal S2x1024 .f32) (x1 : FVec Ideal S2x64 .f32) (a : Fin 2) (b : Fin 64) :
    pack x0 x1 (ix2 ⟨16 + (64 * a.val + b.val) / 128, row_k_norm a b⟩ ⟨(64 * a.val + b.val) % 128, col_k_norm a b⟩) = x1 (ix2 a b) :=
  (pack_row_k_norm x0 x1 ⟨(64 * a.val + b.val) / 128, lrow_k_norm a b⟩ _).trans (lay_k_norm_at x1 a b)

theorem parts_k_norm_at (x0 : FVec Ideal S8x2x1024 .f32) (x1 : FVec Ideal S8x2x64 .f32) (k : Fin 8) (a : Fin 2) (b : Fin 64) :
    packParts x0 x1 (ix3 k ⟨16 + (64 * a.val + b.val) / 128, row_k_norm a b⟩ ⟨(64 * a.val + b.val) % 128, col_k_norm a b⟩) = x1 (ix3 k a b) :=
  (parts_row_k_norm x0 x1 k ⟨(64 * a.val + b.val) / 128, lrow_k_norm a b⟩ _).trans (layParts_k_norm_at x1 k a b)

end Cert.SmallLateIdeal.Value

end
-- ==== Proof.SmallLateRegion.lean ====
module

public import proofs.«01_k».proof.Proof.Adam
public import proofs.«01_k».proof.Proof.Gen.SmallLateIdeal.Frame
public import Idealize.ShloMosaic.Lib.Pipeline.ValueKit

/-!
What the call computes row by row: the devices' parts summed, then the step of each entry.
-/

@[expose] public section

set_option maxRecDepth 16384
set_option maxHeartbeats 1000000

noncomputable section

open Idealize.ShloMosaic Idealize.ShloMosaic.TcCoe Idealize.SL.Sem

namespace Cert.SmallLateIdeal.Value
open Cert.SmallLateIdeal Cert.SmallLateIdeal.Gen

variable (m : (ℓ : Loc nD τ sig) → Buf (Elt Ideal) ℓ)

/-- The packed gradient: the devices' parts summed row by row. -/
def G (p : FVec Ideal S8x24x128 .f32) : FVec Ideal S24x128 .f32 := fun i => ∑ k : Fin 8, p (ix3 k (i 0) (i 1))

theorem G_at (p : FVec Ideal S8x24x128 .f32) (r : Fin 24) (o : Fin 128) : G p (ix2 r o) = ∑ k : Fin 8, p (ix3 k r o) := rfl

theorem lt (t : Fin cfg0.N) : t.val < 3 := lt_of_lt_of_eq t.isLt N_0

/-- Each window moves down the rows with the grid. -/
theorem idx : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]
    ∧ win0_7.index t = ![t.val, 0] :=
  (by decide +kernel : ∀ t : Fin grid0.N, _)

theorem row_lt (t : Fin cfg0.N) (r : Fin 8) : 8 * t.val + r.val < 24 := by
  have := lt t
  omega

/-- The whole of a block. -/
theorem whole (x : FVec Ideal S8x128 .f32) (r : Fin 8) (o : Fin 128) :
    View.ld (Val := Elt Ideal) (e' := .f32) x r0_8 (ix2 r o) = x (ix2 r o) := by
  refine congrArg x (funext fun a => ?_)
  fin_cases a <;> exact Fin.ext (by simp [LoadRect.idx, Rect.unit, ix2])

theorem g0 (c : Dev nD) (t : Fin cfg0.N) (k : Fin 8) (r : Fin 8) (o : Fin 128) :
    iblk m c 0 t (ix3 k r o) = V m c main_v6 (ix3 k ⟨8 * t.val + r.val, row_lt t r⟩ o) := by
  blk_point [iblk, idx t]

theorem g1 (c : Dev nD) (t : Fin cfg0.N) (r : Fin 8) (o : Fin 128) :
    iblk m c 1 t (ix2 r o) = V m c main_v13 (ix2 ⟨8 * t.val + r.val, row_lt t r⟩ o) := by
  blk_point [iblk, idx t]

theorem g2 (c : Dev nD) (t : Fin cfg0.N) (r : Fin 8) (o : Fin 128) :
    iblk m c 2 t (ix2 r o) = V m c main_v20 (ix2 ⟨8 * t.val + r.val, row_lt t r⟩ o) := by
  blk_point [iblk, idx t]

theorem g3 (c : Dev nD) (t : Fin cfg0.N) (r : Fin 8) (o : Fin 128) :
    iblk m c 3 t (ix2 r o) = V m c main_v27 (ix2 ⟨8 * t.val + r.val, row_lt t r⟩ o) := by
  blk_point [iblk, idx t]

theorem emb4 (x : FVec Ideal S24x128 .f32) (t : Fin cfg0.N) (r : Fin 8) (o : Fin 128) :
    x (((cfg0.win 4).blk t).view.emb (ix2 r o)) = x (ix2 ⟨8 * t.val + r.val, row_lt t r⟩ o) := by
  blk_point [idx t]

theorem emb5 (x : FVec Ideal S24x128 .f32) (t : Fin cfg0.N) (r : Fin 8) (o : Fin 128) :
    x (((cfg0.win 5).blk t).view.emb (ix2 r o)) = x (ix2 ⟨8 * t.val + r.val, row_lt t r⟩ o) := by
  blk_point [idx t]

theorem emb6 (x : FVec Ideal S24x128 .f32) (t : Fin cfg0.N) (r : Fin 8) (o : Fin 128) :
    x (((cfg0.win 6).blk t).view.emb (ix2 r o)) = x (ix2 ⟨8 * t.val + r.val, row_lt t r⟩ o) := by
  blk_point [idx t]

theorem emb7 (x : FVec Ideal S24x128 .f32) (t : Fin cfg0.N) (r : Fin 8) (o : Fin 128) :
    x (((cfg0.win 7).blk t).view.emb (ix2 r o)) = x (ix2 ⟨8 * t.val + r.val, row_lt t r⟩ o) := by
  blk_point [idx t]

/-- The devices' parts of a block summed. -/
theorem sum0 (x : FVec Ideal S8x8x128 .f32) (r : Fin 8) (o : Fin 128) :
    k0_pay3 (F := Ideal) (View.ld x r0_0) (View.ld x r0_1) (View.ld x r0_2) (View.ld x r0_3) (View.ld x r0_4) (View.ld x r0_5) (View.ld x r0_6) (View.ld x r0_7) (ix2 r o) = ∑ k : Fin 8, x (ix3 k r o) := by
  rw [Fin.sum_univ_eight]
  pointwise [k0_pay3]

/-- A block's gradient is the packed gradient there. -/
theorem sum_grad (c : Dev nD) (t : Fin cfg0.N) (r : Fin 8) (o : Fin 128) :
    k0_pay5 (F := Ideal) (iblk m c 0 t) (iblk m c 1 t) (iblk m c 2 t) (iblk m c 3 t) (ix2 r o) = G (V m c main_v6) (ix2 ⟨8 * t.val + r.val, row_lt t r⟩ o) := by
  rw [G_at, k0_pay5, sum0]
  exact Finset.sum_congr rfl fun k _ => g0 m c t k r o

theorem point6 (c : Dev nD) (t : Fin cfg0.N) (r : Fin 8) (o : Fin 128) :
    k0_pay6 (F := Ideal) (iblk m c 0 t) (iblk m c 1 t) (iblk m c 2 t) (iblk m c 3 t) (ix2 r o) = Adam.mom (G (V m c main_v6) (ix2 ⟨8 * t.val + r.val, row_lt t r⟩ o)) ((V m c main_v20) (ix2 ⟨8 * t.val + r.val, row_lt t r⟩ o)) := by
  rw [← sum_grad m c t r o, ← g2 m c t r o, ← whole (iblk m c 2 t) r o]
  pointwise [k0_pay6, k0_pay4, k0_pay5, Adam.mom]

theorem point7 (c : Dev nD) (t : Fin cfg0.N) (r : Fin 8) (o : Fin 128) :
    k0_pay1 (F := Ideal) (k0_pay5 (iblk m c 0 t) (iblk m c 1 t) (iblk m c 2 t) (iblk m c 3 t)) (iblk m c 3 t) (ix2 r o) = Adam.var (G (V m c main_v6) (ix2 ⟨8 * t.val + r.val, row_lt t r⟩ o)) ((V m c main_v27) (ix2 ⟨8 * t.val + r.val, row_lt t r⟩ o)) := by
  rw [← sum_grad m c t r o, ← g3 m c t r o]
  pointwise [k0_pay1, Adam.var]

theorem point5 (c : Dev nD) (t : Fin cfg0.N) (r : Fin 8) (o : Fin 128) :
    k0_pay2 (F := Ideal) (k0_pay5 (iblk m c 0 t) (iblk m c 1 t) (iblk m c 2 t) (iblk m c 3 t)) (k0_pay6 (iblk m c 0 t) (iblk m c 1 t) (iblk m c 2 t) (iblk m c 3 t)) (iblk m c 3 t) (iblk m c 1 t) (ix2 r o)
      = Adam.change ((V m c main_v13) (ix2 ⟨8 * t.val + r.val, row_lt t r⟩ o)) (G (V m c main_v6) (ix2 ⟨8 * t.val + r.val, row_lt t r⟩ o)) ((V m c main_v20) (ix2 ⟨8 * t.val + r.val, row_lt t r⟩ o)) ((V m c main_v27) (ix2 ⟨8 * t.val + r.val, row_lt t r⟩ o)) := by
  rw [Adam.change, ← point6 m c t r o, ← point7 m c t r o, ← g1 m c t r o]
  pointwise [k0_pay2, k0_pay1]

theorem result4 (c : Dev nD) : (dats m 0 c).arrAt 4 (cfgs 0).N = G (V m c main_v6) := by
  refine (dats m 0 c).arrAt_eq_of_covers 4 _ (by decide +kernel) fun t hf y => ?_
  blk_simp
  rw [after0_4]
  frame_out
  idx_vars y
  exact (sum_grad m c t _ _).trans (emb4 _ t _ _).symm

theorem result5 (c : Dev nD) : (dats m 0 c).arrAt 5 (cfgs 0).N
    = fun i => Adam.change ((V m c main_v13) i) (G (V m c main_v6) i) ((V m c main_v20) i) ((V m c main_v27) i) := by
  refine (dats m 0 c).arrAt_eq_of_covers 5 _ (by decide +kernel) fun t hf y => ?_
  blk_simp
  rw [after0_5]
  frame_out
  idx_vars y
  exact (point5 m c t _ _).trans (emb5 (fun i => Adam.change ((V m c main_v13) i) (G (V m c main_v6) i) ((V m c main_v20) i) ((V m c main_v27) i)) t _ _).symm

theorem result6 (c : Dev nD) : (dats m 0 c).arrAt 6 (cfgs 0).N
    = fun i => Adam.mom (G (V m c main_v6) i) ((V m c main_v20) i) := by
  refine (dats m 0 c).arrAt_eq_of_covers 6 _ (by decide +kernel) fun t hf y => ?_
  blk_simp
  rw [after0_6]
  frame_out
  idx_vars y
  exact (point6 m c t _ _).trans (emb6 (fun i => Adam.mom (G (V m c main_v6) i) ((V m c main_v20) i)) t _ _).symm

theorem result7 (c : Dev nD) : (dats m 0 c).arrAt 7 (cfgs 0).N
    = fun i => Adam.var (G (V m c main_v6) i) ((V m c main_v27) i) := by
  refine (dats m 0 c).arrAt_eq_of_covers 7 _ (by decide +kernel) fun t hf y => ?_
  blk_simp
  rw [after0_7]
  frame_out
  idx_vars y
  exact (point7 m c t _ _).trans (emb7 (fun i => Adam.var (G (V m c main_v6) i) ((V m c main_v27) i)) t _ _).symm

end Cert.SmallLateIdeal.Value

end
-- ==== Proof.SmallLateRef.lean ====
module

public import proofs.«01_k».proof.Proof.Adam
public import proofs.«01_k».proof.Proof.Gen.SmallLateRefIdeal.Read
public import Idealize.ShloMosaic.Lib.Pipeline.ValueKit

/-!
The reference, weight by weight: the sum of the devices' parts and the step it leads to.
-/

@[expose] public section

set_option maxRecDepth 16384
set_option maxHeartbeats 1000000

noncomputable section

open Idealize.ShloMosaic Idealize.ShloMosaic.TcCoe Idealize.SL.Sem

namespace Cert.SmallLateRefIdeal.Value
open Cert.SmallLateRefIdeal Cert.SmallLateRefIdeal.Read

/-- The gradient of `norm1`: the sum of the devices' parts. -/
def Grad_norm1 (p : FVec Ideal S8x2x1024 .f32) : FVec Ideal S2x1024 .f32 := fun i => ∑ k : Fin 8, p (ix3 k (i 0) (i 1))

/-- The reference sums the devices' parts of `norm1`. -/
theorem grad_norm1 (p : FVec Ideal S8x2x1024 .f32) : val_main_v0 (F := Ideal) p = Grad_norm1 p := by
  funext i
  idx_vars i
  simp only [val_main_v0, val_main_cst, Grad_norm1]
  pointwise

/-- The reference's first moments of `norm1`. -/
theorem mom_norm1 (p : FVec Ideal S8x2x1024 .f32) (m : FVec Ideal S2x1024 .f32) : val_main_v5 (F := Ideal) p m = fun i => Adam.mom (Grad_norm1 p i) (m i) := by
  unfold val_main_v5 val_main_v4
  rw [grad_norm1]
  rfl

/-- The reference's second moments of `norm1`. -/
theorem var_norm1 (p : FVec Ideal S8x2x1024 .f32) (x : FVec Ideal S2x1024 .f32) : val_main_v11 (F := Ideal) p x = fun i => Adam.var (Grad_norm1 p i) (x i) := by
  unfold val_main_v11 val_main_v10 val_main_v8
  rw [grad_norm1]
  rfl

/-- The reference's changes of `norm1`. -/
theorem change_norm1 (p : FVec Ideal S8x2x1024 .f32) (w m x : FVec Ideal S2x1024 .f32) :
    val_main_v24 (F := Ideal) p w m x = fun i => Adam.change (w i) (Grad_norm1 p i) (m i) (x i) := by
  unfold val_main_v24 val_main_v22 val_main_v19 val_main_v18 val_main_v16 val_main_v15 val_main_v13
  rw [mom_norm1, var_norm1]
  rfl

/-- The gradient of `k_norm`: the sum of the devices' parts. -/
def Grad_k_norm (p : FVec Ideal S8x2x64 .f32) : FVec Ideal S2x64 .f32 := fun i => ∑ k : Fin 8, p (ix3 k (i 0) (i 1))

/-- The reference sums the devices' parts of `k_norm`. -/
theorem grad_k_norm (p : FVec Ideal S8x2x64 .f32) : val_main_v25 (F := Ideal) p = Grad_k_norm p := by
  funext i
  idx_vars i
  simp only [val_main_v25, val_main_cst_9, Grad_k_norm]
  pointwise

/-- The reference's first moments of `k_norm`. -/
theorem mom_k_norm (p : FVec Ideal S8x2x64 .f32) (m : FVec Ideal S2x64 .f32) : val_main_v30 (F := Ideal) p m = fun i => Adam.mom (Grad_k_norm p i) (m i) := by
  unfold val_main_v30 val_main_v29
  rw [grad_k_norm]
  rfl

/-- The reference's second moments of `k_norm`. -/
theorem var_k_norm (p : FVec Ideal S8x2x64 .f32) (x : FVec Ideal S2x64 .f32) : val_main_v36 (F := Ideal) p x = fun i => Adam.var (Grad_k_norm p i) (x i) := by
  unfold val_main_v36 val_main_v35 val_main_v33
  rw [grad_k_norm]
  rfl

/-- The reference's changes of `k_norm`. -/
theorem change_k_norm (p : FVec Ideal S8x2x64 .f32) (w m x : FVec Ideal S2x64 .f32) :
    val_main_v49 (F := Ideal) p w m x = fun i => Adam.change (w i) (Grad_k_norm p i) (m i) (x i) := by
  unfold val_main_v49 val_main_v47 val_main_v44 val_main_v43 val_main_v41 val_main_v40 val_main_v38
  rw [mom_k_norm, var_k_norm]
  rfl

end Cert.SmallLateRefIdeal.Value

end
-- ==== Proof.SmallLate.lean ====
module

public import proofs.«01_k».proof.Defs
public import proofs.«01_k».proof.Proof.SmallLatePack
public import proofs.«01_k».proof.Proof.SmallLateRegion
public import proofs.«01_k».proof.Proof.SmallLateRef
public import proofs.«01_k».proof.Proof.Gen.SmallLateRefIdeal.Run
public import Idealize.ShloMosaic.Lib.Claim
public import Idealize.ShloMosaic.Lib.Quiescent

/-!
`SmallLate`: the optimiser's call for the two weights kept for the last exchange. The weights lie one after another in
packed rows; what the call leaves in a weight's rows is that weight's step.
-/

@[expose] public section

set_option maxRecDepth 16384
set_option maxHeartbeats 2000000

noncomputable section

open Idealize.ShloMosaic Idealize.ShloMosaic.TcCoe Idealize.SL.Sem
open Idealize.ShloMosaic.Pipeline (Dat)

namespace Cert.SmallLateIdeal.Value
open Cert.SmallLateIdeal Cert.SmallLateIdeal.Gen
open Cert.SmallLateRefIdeal.Value

variable (m : (ℓ : Loc nD τ sig) → Buf (Elt Ideal) ℓ)

theorem parts_eq (c : Dev nD) : V m c main_v6 = packParts (m ((c : Thread nD τ).loc main_arg0)) (m ((c : Thread nD τ).loc main_arg1)) := by
  show StableHlo.after _ _ (Proc.devRef .tc main_v6) = _
  simp only [List.flatten_cons, List.flatten_nil, List.cons_append, List.nil_append, List.append_nil]
  after_results
  rfl

theorem weights_eq (c : Dev nD) : V m c main_v13 = pack (m ((c : Thread nD τ).loc main_arg2)) (m ((c : Thread nD τ).loc main_arg3)) := by
  show StableHlo.after _ _ (Proc.devRef .tc main_v13) = _
  simp only [List.flatten_cons, List.flatten_nil, List.cons_append, List.nil_append, List.append_nil]
  after_results
  rfl

theorem first_eq (c : Dev nD) : V m c main_v20 = pack (m ((c : Thread nD τ).loc main_arg4)) (m ((c : Thread nD τ).loc main_arg5)) := by
  show StableHlo.after _ _ (Proc.devRef .tc main_v20) = _
  simp only [List.flatten_cons, List.flatten_nil, List.cons_append, List.nil_append, List.append_nil]
  after_results
  rfl

theorem second_eq (c : Dev nD) : V m c main_v27 = pack (m ((c : Thread nD τ).loc main_arg6)) (m ((c : Thread nD τ).loc main_arg7)) := by
  show StableHlo.after _ _ (Proc.devRef .tc main_v27) = _
  simp only [List.flatten_cons, List.flatten_nil, List.cons_append, List.nil_append, List.append_nil]
  after_results
  rfl

/-- The packed gradient at an entry of `norm1`. -/
theorem sum_norm1 (x0 : FVec Ideal S8x2x1024 .f32) (x1 : FVec Ideal S8x2x64 .f32) (i : S2x1024.Idx) :
    take_norm1 (G (packParts x0 x1)) i = Grad_norm1 x0 i := by
  idx_vars i
  rw [take_norm1_at, G_at]
  exact Finset.sum_congr rfl fun k _ => parts_norm1_at _ _ k _ _

/-- Packing and taking out again. -/
theorem take_pack_norm1 (x0 : FVec Ideal S2x1024 .f32) (x1 : FVec Ideal S2x64 .f32) (i : S2x1024.Idx) :
    take_norm1 (pack x0 x1) i = x0 i := by
  idx_vars i
  rw [take_norm1_at]
  exact pack_norm1_at _ _ _ _

theorem end_v31 (c : Dev nD) : Pipeline.afterTail₀ cfgs (dats m) 0 (V0 m) [hostOps1] c main_v31 = Grad_norm1 (m ((c : Thread nD τ).loc main_arg0)) := by
  have h : Pipeline.afterTail₀ cfgs (dats m) 0 (V0 m) [hostOps1] c main_v31 = take_norm1 ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_norm1 _ _ i

theorem end_v38 (c : Dev nD) : Pipeline.afterTail₀ cfgs (dats m) 0 (V0 m) [hostOps1] c main_v38 = fun i => Adam.change ((m ((c : Thread nD τ).loc main_arg2)) i) (Grad_norm1 (m ((c : Thread nD τ).loc main_arg0)) i) ((m ((c : Thread nD τ).loc main_arg4)) i) ((m ((c : Thread nD τ).loc main_arg6)) i) := by
  have h : Pipeline.afterTail₀ cfgs (dats m) 0 (V0 m) [hostOps1] c main_v38 = take_norm1 ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_norm1 (pack (m ((c : Thread nD τ).loc main_arg2)) (m ((c : Thread nD τ).loc main_arg3))) i) (take_norm1 (G (packParts (m ((c : Thread nD τ).loc main_arg0)) (m ((c : Thread nD τ).loc main_arg1)))) i) (take_norm1 (pack (m ((c : Thread nD τ).loc main_arg4)) (m ((c : Thread nD τ).loc main_arg5))) i) (take_norm1 (pack (m ((c : Thread nD τ).loc main_arg6)) (m ((c : Thread nD τ).loc main_arg7))) i) = _
  rw [take_pack_norm1, sum_norm1, take_pack_norm1, take_pack_norm1]

theorem end_v45 (c : Dev nD) : Pipeline.afterTail₀ cfgs (dats m) 0 (V0 m) [hostOps1] c main_v45 = fun i => Adam.mom (Grad_norm1 (m ((c : Thread nD τ).loc main_arg0)) i) ((m ((c : Thread nD τ).loc main_arg4)) i) := by
  have h : Pipeline.afterTail₀ cfgs (dats m) 0 (V0 m) [hostOps1] c main_v45 = take_norm1 ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_norm1 (G (packParts (m ((c : Thread nD τ).loc main_arg0)) (m ((c : Thread nD τ).loc main_arg1)))) i) (take_norm1 (pack (m ((c : Thread nD τ).loc main_arg4)) (m ((c : Thread nD τ).loc main_arg5))) i) = _
  rw [sum_norm1, take_pack_norm1]

theorem end_v52 (c : Dev nD) : Pipeline.afterTail₀ cfgs (dats m) 0 (V0 m) [hostOps1] c main_v52 = fun i => Adam.var (Grad_norm1 (m ((c : Thread nD τ).loc main_arg0)) i) ((m ((c : Thread nD τ).loc main_arg6)) i) := by
  have h : Pipeline.afterTail₀ cfgs (dats m) 0 (V0 m) [hostOps1] c main_v52 = take_norm1 ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_norm1 (G (packParts (m ((c : Thread nD τ).loc main_arg0)) (m ((c : Thread nD τ).loc main_arg1)))) i) (take_norm1 (pack (m ((c : Thread nD τ).loc main_arg6)) (m ((c : Thread nD τ).loc main_arg7))) i) = _
  rw [sum_norm1, take_pack_norm1]

/-- The packed gradient at an entry of `k_norm`. -/
theorem sum_k_norm (x0 : FVec Ideal S8x2x1024 .f32) (x1 : FVec Ideal S8x2x64 .f32) (i : S2x64.Idx) :
    take_k_norm (G (packParts x0 x1)) i = Grad_k_norm x1 i := by
  idx_vars i
  rw [take_k_norm_at, G_at]
  exact Finset.sum_congr rfl fun k _ => parts_k_norm_at _ _ k _ _

/-- Packing and taking out again. -/
theorem take_pack_k_norm (x0 : FVec Ideal S2x1024 .f32) (x1 : FVec Ideal S2x64 .f32) (i : S2x64.Idx) :
    take_k_norm (pack x0 x1) i = x1 i := by
  idx_vars i
  rw [take_k_norm_at]
  exact pack_k_norm_at _ _ _ _

theorem end_v35 (c : Dev nD) : Pipeline.afterTail₀ cfgs (dats m) 0 (V0 m) [hostOps1] c main_v35 = Grad_k_norm (m ((c : Thread nD τ).loc main_arg1)) := by
  have h : Pipeline.afterTail₀ cfgs (dats m) 0 (V0 m) [hostOps1] c main_v35 = take_k_norm ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_k_norm _ _ i

theorem end_v42 (c : Dev nD) : Pipeline.afterTail₀ cfgs (dats m) 0 (V0 m) [hostOps1] c main_v42 = fun i => Adam.change ((m ((c : Thread nD τ).loc main_arg3)) i) (Grad_k_norm (m ((c : Thread nD τ).loc main_arg1)) i) ((m ((c : Thread nD τ).loc main_arg5)) i) ((m ((c : Thread nD τ).loc main_arg7)) i) := by
  have h : Pipeline.afterTail₀ cfgs (dats m) 0 (V0 m) [hostOps1] c main_v42 = take_k_norm ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_k_norm (pack (m ((c : Thread nD τ).loc main_arg2)) (m ((c : Thread nD τ).loc main_arg3))) i) (take_k_norm (G (packParts (m ((c : Thread nD τ).loc main_arg0)) (m ((c : Thread nD τ).loc main_arg1)))) i) (take_k_norm (pack (m ((c : Thread nD τ).loc main_arg4)) (m ((c : Thread nD τ).loc main_arg5))) i) (take_k_norm (pack (m ((c : Thread nD τ).loc main_arg6)) (m ((c : Thread nD τ).loc main_arg7))) i) = _
  rw [take_pack_k_norm, sum_k_norm, take_pack_k_norm, take_pack_k_norm]

theorem end_v49 (c : Dev nD) : Pipeline.afterTail₀ cfgs (dats m) 0 (V0 m) [hostOps1] c main_v49 = fun i => Adam.mom (Grad_k_norm (m ((c : Thread nD τ).loc main_arg1)) i) ((m ((c : Thread nD τ).loc main_arg5)) i) := by
  have h : Pipeline.afterTail₀ cfgs (dats m) 0 (V0 m) [hostOps1] c main_v49 = take_k_norm ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_k_norm (G (packParts (m ((c : Thread nD τ).loc main_arg0)) (m ((c : Thread nD τ).loc main_arg1)))) i) (take_k_norm (pack (m ((c : Thread nD τ).loc main_arg4)) (m ((c : Thread nD τ).loc main_arg5))) i) = _
  rw [sum_k_norm, take_pack_k_norm]

theorem end_v56 (c : Dev nD) : Pipeline.afterTail₀ cfgs (dats m) 0 (V0 m) [hostOps1] c main_v56 = fun i => Adam.var (Grad_k_norm (m ((c : Thread nD τ).loc main_arg1)) i) ((m ((c : Thread nD τ).loc main_arg7)) i) := by
  have h : Pipeline.afterTail₀ cfgs (dats m) 0 (V0 m) [hostOps1] c main_v56 = take_k_norm ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_k_norm (G (packParts (m ((c : Thread nD τ).loc main_arg0)) (m ((c : Thread nD τ).loc main_arg1)))) i) (take_k_norm (pack (m ((c : Thread nD τ).loc main_arg6)) (m ((c : Thread nD τ).loc main_arg7))) i) = _
  rw [sum_k_norm, take_pack_k_norm]

/-- The call runs to an end with every weight's step in its results and its arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v31) = Grad_norm1 (m ((c : Thread nD τ).loc main_arg0))
      ∧ r.2.mem ((c.tc : Thread nD τ).loc main_v38) = (fun i => Adam.change ((m ((c : Thread nD τ).loc main_arg2)) i) (Grad_norm1 (m ((c : Thread nD τ).loc main_arg0)) i) ((m ((c : Thread nD τ).loc main_arg4)) i) ((m ((c : Thread nD τ).loc main_arg6)) i))
      ∧ r.2.mem ((c.tc : Thread nD τ).loc main_v45) = (fun i => Adam.mom (Grad_norm1 (m ((c : Thread nD τ).loc main_arg0)) i) ((m ((c : Thread nD τ).loc main_arg4)) i))
      ∧ r.2.mem ((c.tc : Thread nD τ).loc main_v52) = (fun i => Adam.var (Grad_norm1 (m ((c : Thread nD τ).loc main_arg0)) i) ((m ((c : Thread nD τ).loc main_arg6)) i))
      ∧ r.2.mem ((c.tc : Thread nD τ).loc main_v35) = Grad_k_norm (m ((c : Thread nD τ).loc main_arg1))
      ∧ r.2.mem ((c.tc : Thread nD τ).loc main_v42) = (fun i => Adam.change ((m ((c : Thread nD τ).loc main_arg3)) i) (Grad_k_norm (m ((c : Thread nD τ).loc main_arg1)) i) ((m ((c : Thread nD τ).loc main_arg5)) i) ((m ((c : Thread nD τ).loc main_arg7)) i))
      ∧ r.2.mem ((c.tc : Thread nD τ).loc main_v49) = (fun i => Adam.mom (Grad_k_norm (m ((c : Thread nD τ).loc main_arg1)) i) ((m ((c : Thread nD τ).loc main_arg5)) i))
      ∧ r.2.mem ((c.tc : Thread nD τ).loc main_v56) = (fun i => Adam.var (Grad_k_norm (m ((c : Thread nD τ).loc main_arg1)) i) ((m ((c : Thread nD τ).loc main_arg7)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1 c).2 main_v31 (Pipeline.mem_restRefs_of main_v31 (by decide) (by decide)) |>.trans (end_v31 m c),
      (h.1 c).2 main_v38 (Pipeline.mem_restRefs_of main_v38 (by decide) (by decide)) |>.trans (end_v38 m c),
      (h.1 c).2 main_v45 (Pipeline.mem_restRefs_of main_v45 (by decide) (by decide)) |>.trans (end_v45 m c),
      (h.1 c).2 main_v52 (Pipeline.mem_restRefs_of main_v52 (by decide) (by decide)) |>.trans (end_v52 m c),
      (h.1 c).2 main_v35 (Pipeline.mem_restRefs_of main_v35 (by decide) (by decide)) |>.trans (end_v35 m c),
      (h.1 c).2 main_v42 (Pipeline.mem_restRefs_of main_v42 (by decide) (by decide)) |>.trans (end_v42 m c),
      (h.1 c).2 main_v49 (Pipeline.mem_restRefs_of main_v49 (by decide) (by decide)) |>.trans (end_v49 m c),
      (h.1 c).2 main_v56 (Pipeline.mem_restRefs_of main_v56 (by decide) (by decide)) |>.trans (end_v56 m c),
      h.2 c⟩)
    (θ_run_and (run_main m ρ) (unchanged m ρ))

end Cert.SmallLateIdeal.Value

namespace Cert.Proof

/-- Kernel and reference leave equal gradients, changes and moments. -/
theorem algebraic_SmallLate : Cert.algebraic_SmallLateIdeal_SmallLateRefIdeal := by
  intro m g m' g' hpre hagree
  refine ⟨_, _, _, _, _, _, _, _, Cert.SmallLateIdeal.Value.run m g, ?_⟩
  exact (θ_run Cert.SmallLateRefIdeal.defs _ _).mono
    (fun r h c => ⟨(h c).1.trans ((Cert.SmallLateRefIdeal.Value.grad_norm1 (m' ((c.tc : Thread Cert.SmallLateRefIdeal.nD Cert.SmallLateRefIdeal.τ).loc Cert.SmallLateRefIdeal.main_arg0))).trans (by rw [(hagree c).1]; try rfl)),
      (h c).2.1.trans ((Cert.SmallLateRefIdeal.Value.change_norm1 (m' ((c.tc : Thread Cert.SmallLateRefIdeal.nD Cert.SmallLateRefIdeal.τ).loc Cert.SmallLateRefIdeal.main_arg0)) (m' ((c.tc : Thread Cert.SmallLateRefIdeal.nD Cert.SmallLateRefIdeal.τ).loc Cert.SmallLateRefIdeal.main_arg2)) (m' ((c.tc : Thread Cert.SmallLateRefIdeal.nD Cert.SmallLateRefIdeal.τ).loc Cert.SmallLateRefIdeal.main_arg4)) (m' ((c.tc : Thread Cert.SmallLateRefIdeal.nD Cert.SmallLateRefIdeal.τ).loc Cert.SmallLateRefIdeal.main_arg6))).trans (by rw [(hagree c).1, (hagree c).2.2.1, (hagree c).2.2.2.2.1, (hagree c).2.2.2.2.2.2.1]; try rfl)),
      (h c).2.2.1.trans ((Cert.SmallLateRefIdeal.Value.mom_norm1 (m' ((c.tc : Thread Cert.SmallLateRefIdeal.nD Cert.SmallLateRefIdeal.τ).loc Cert.SmallLateRefIdeal.main_arg0)) (m' ((c.tc : Thread Cert.SmallLateRefIdeal.nD Cert.SmallLateRefIdeal.τ).loc Cert.SmallLateRefIdeal.main_arg4))).trans (by rw [(hagree c).1, (hagree c).2.2.2.2.1]; try rfl)),
      (h c).2.2.2.1.trans ((Cert.SmallLateRefIdeal.Value.var_norm1 (m' ((c.tc : Thread Cert.SmallLateRefIdeal.nD Cert.SmallLateRefIdeal.τ).loc Cert.SmallLateRefIdeal.main_arg0)) (m' ((c.tc : Thread Cert.SmallLateRefIdeal.nD Cert.SmallLateRefIdeal.τ).loc Cert.SmallLateRefIdeal.main_arg6))).trans (by rw [(hagree c).1, (hagree c).2.2.2.2.2.2.1]; try rfl)),
      (h c).2.2.2.2.1.trans ((Cert.SmallLateRefIdeal.Value.grad_k_norm (m' ((c.tc : Thread Cert.SmallLateRefIdeal.nD Cert.SmallLateRefIdeal.τ).loc Cert.SmallLateRefIdeal.main_arg1))).trans (by rw [(hagree c).2.1]; try rfl)),
      (h c).2.2.2.2.2.1.trans ((Cert.SmallLateRefIdeal.Value.change_k_norm (m' ((c.tc : Thread Cert.SmallLateRefIdeal.nD Cert.SmallLateRefIdeal.τ).loc Cert.SmallLateRefIdeal.main_arg1)) (m' ((c.tc : Thread Cert.SmallLateRefIdeal.nD Cert.SmallLateRefIdeal.τ).loc Cert.SmallLateRefIdeal.main_arg3)) (m' ((c.tc : Thread Cert.SmallLateRefIdeal.nD Cert.SmallLateRefIdeal.τ).loc Cert.SmallLateRefIdeal.main_arg5)) (m' ((c.tc : Thread Cert.SmallLateRefIdeal.nD Cert.SmallLateRefIdeal.τ).loc Cert.SmallLateRefIdeal.main_arg7))).trans (by rw [(hagree c).2.1, (hagree c).2.2.2.1, (hagree c).2.2.2.2.2.1, (hagree c).2.2.2.2.2.2.2]; try rfl)),
      (h c).2.2.2.2.2.2.1.trans ((Cert.SmallLateRefIdeal.Value.mom_k_norm (m' ((c.tc : Thread Cert.SmallLateRefIdeal.nD Cert.SmallLateRefIdeal.τ).loc Cert.SmallLateRefIdeal.main_arg1)) (m' ((c.tc : Thread Cert.SmallLateRefIdeal.nD Cert.SmallLateRefIdeal.τ).loc Cert.SmallLateRefIdeal.main_arg5))).trans (by rw [(hagree c).2.1, (hagree c).2.2.2.2.2.1]; try rfl)),
      (h c).2.2.2.2.2.2.2.1.trans ((Cert.SmallLateRefIdeal.Value.var_k_norm (m' ((c.tc : Thread Cert.SmallLateRefIdeal.nD Cert.SmallLateRefIdeal.τ).loc Cert.SmallLateRefIdeal.main_arg1)) (m' ((c.tc : Thread Cert.SmallLateRefIdeal.nD Cert.SmallLateRefIdeal.τ).loc Cert.SmallLateRefIdeal.main_arg7))).trans (by rw [(hagree c).2.1, (hagree c).2.2.2.2.2.2.2]; try rfl)),
      (h c).2.2.2.2.2.2.2.2⟩)
    (Cert.SmallLateRefIdeal.Value.run (F := Ideal) m' g')

/-- The reference runs to an end and leaves its arguments alone. -/
theorem frame_SmallLate_ref : Cert.quiescent_SmallLateRefIdeal := fun m ρ _ =>
  (θ_run Cert.SmallLateRefIdeal.defs _ _).mono
    (fun r h => ⟨fun c => (h c).2.2.2.2.2.2.2.2, sem_eq_zero_of_no_sems (by decide) r.2⟩)
    (Cert.SmallLateRefIdeal.Value.run (F := Ideal) m ρ)

end Cert.Proof

end
-- ==== Proof.SmallEarlyPack.lean ====
module

public import proofs.«01_k».proof.Proof.Adam
public import proofs.«01_k».proof.Proof.Gen.SmallEarlyIdeal.Frame
public import Idealize.ShloMosaic.Lib.Pipeline.ValueKit

/-!
How the small weights are laid out in packed rows, and how one of them is taken out again.
-/

@[expose] public section

set_option maxRecDepth 16384
set_option maxHeartbeats 1000000

noncomputable section

open Idealize.ShloMosaic Idealize.ShloMosaic.TcCoe Idealize.SL.Sem

namespace Cert.SmallEarlyIdeal.Value
open Cert.SmallEarlyIdeal Cert.SmallEarlyIdeal.Gen

theorem at_vals {a a' : Fin 1536} {b b' : Fin 128} (h : a.val = a'.val) (h' : b.val = b'.val) : ix2 a b = ix2 a' b' := by
  rw [Fin.ext h, Fin.ext h']

/-- `q_norm` laid out in rows. -/
def lay_q_norm (x0 : FVec Ideal S2x64 .f32) : FVec Ideal S8x128 .f32 :=
  shapeCast S8x128 (pad S1024 ![0] ![896] ![0] (shapeCast S128 x0 shapeCasts_S2x64_S128) (sitofp (F := Ideal) .f32 (constantI S_ 32 0#32)) pads_S128_S1024_08960 h_S_) shapeCasts_S1024_S8x128

/-- The parts of `q_norm` laid out in rows, device by device. -/
def layParts_q_norm (x0 : FVec Ideal S8x2x64 .f32) : FVec Ideal S8x8x128 .f32 :=
  shapeCast S8x8x128 (pad S8x1024 ![0, 0] ![0, 896] ![0, 0] (shapeCast S8x128 x0 shapeCasts_S8x2x64_S8x128) (sitofp (F := Ideal) .f32 (constantI S_ 32 0#32)) pads_S8x128_S8x1024_000_08960 h_S_) shapeCasts_S8x1024_S8x8x128

/-- `sinks` laid out in rows. -/
def lay_sinks (x1 : FVec Ideal S2x8 .f32) : FVec Ideal S8x128 .f32 :=
  shapeCast S8x128 (pad S1024 ![0] ![1008] ![0] (shapeCast S16 x1 shapeCasts_S2x8_S16) (sitofp (F := Ideal) .f32 (constantI S_ 32 0#32)) pads_S16_S1024_010080 h_S_) shapeCasts_S1024_S8x128

/-- The parts of `sinks` laid out in rows, device by device. -/
def layParts_sinks (x1 : FVec Ideal S8x2x8 .f32) : FVec Ideal S8x8x128 .f32 :=
  shapeCast S8x8x128 (pad S8x1024 ![0, 0] ![0, 1008] ![0, 0] (shapeCast S8x16 x1 shapeCasts_S8x2x8_S8x16) (sitofp (F := Ideal) .f32 (constantI S_ 32 0#32)) pads_S8x16_S8x1024_000_010080 h_S_) shapeCasts_S8x1024_S8x8x128

/-- `w_pool` laid out in rows. -/
def lay_w_pool (x2 : FVec Ideal S2x4x64x64 .f32) : FVec Ideal S256x128 .f32 :=
  shapeCast S256x128 (pad S32768 ![0] ![0] ![0] (shapeCast S32768 x2 shapeCasts_S2x4x64x64_S32768) (sitofp (F := Ideal) .f32 (constantI S_ 32 0#32)) pads_S32768_S32768_000 h_S_) shapeCasts_S32768_S256x128

/-- The parts of `w_pool` laid out in rows, device by device. -/
def layParts_w_pool (x2 : FVec Ideal S8x2x4x64x64 .f32) : FVec Ideal S8x256x128 .f32 :=
  shapeCast S8x256x128 (pad S8x32768 ![0, 0] ![0, 0] ![0, 0] (shapeCast S8x32768 x2 shapeCasts_S8x2x4x64x64_S8x32768) (sitofp (F := Ideal) .f32 (constantI S_ 32 0#32)) pads_S8x32768_S8x32768_000_000 h_S_) shapeCasts_S8x32768_S8x256x128

/-- `pool_scale` laid out in rows. -/
def lay_pool_scale (x3 : FVec Ideal S2x256 .f32) : FVec Ideal S8x128 .f32 :=
  shapeCast S8x128 (pad S1024 ![0] ![512] ![0] (shapeCast S512 x3 shapeCasts_S2x256_S512) (sitofp (F := Ideal) .f32 (constantI S_ 32 0#32)) pads_S512_S1024_05120 h_S_) shapeCasts_S1024_S8x128

/-- The parts of `pool_scale` laid out in rows, device by device. -/
def layParts_pool_scale (x3 : FVec Ideal S8x2x256 .f32) : FVec Ideal S8x8x128 .f32 :=
  shapeCast S8x8x128 (pad S8x1024 ![0, 0] ![0, 512] ![0, 0] (shapeCast S8x512 x3 shapeCasts_S8x2x256_S8x512) (sitofp (F := Ideal) .f32 (constantI S_ 32 0#32)) pads_S8x512_S8x1024_000_05120 h_S_) shapeCasts_S8x1024_S8x8x128

/-- `sgu_v_norm` laid out in rows. -/
def lay_sgu_v_norm (x4 : FVec Ideal S2x64 .f32) : FVec Ideal S8x128 .f32 :=
  shapeCast S8x128 (pad S1024 ![0] ![896] ![0] (shapeCast S128 x4 shapeCasts_S2x64_S128) (sitofp (F := Ideal) .f32 (constantI S_ 32 0#32)) pads_S128_S1024_08960 h_S_) shapeCasts_S1024_S8x128

/-- The parts of `sgu_v_norm` laid out in rows, device by device. -/
def layParts_sgu_v_norm (x4 : FVec Ideal S8x2x64 .f32) : FVec Ideal S8x8x128 .f32 :=
  shapeCast S8x8x128 (pad S8x1024 ![0, 0] ![0, 896] ![0, 0] (shapeCast S8x128 x4 shapeCasts_S8x2x64_S8x128) (sitofp (F := Ideal) .f32 (constantI S_ 32 0#32)) pads_S8x128_S8x1024_000_08960 h_S_) shapeCasts_S8x1024_S8x8x128

/-- `w_s` laid out in rows. -/
def lay_w_s (x5 : FVec Ideal S2x4x128x128 .f32) : FVec Ideal S1024x128 .f32 :=
  shapeCast S1024x128 (pad S131072 ![0] ![0] ![0] (shapeCast S131072 x5 shapeCasts_S2x4x128x128_S131072) (sitofp (F := Ideal) .f32 (constantI S_ 32 0#32)) pads_S131072_S131072_000 h_S_) shapeCasts_S131072_S1024x128

/-- The parts of `w_s` laid out in rows, device by device. -/
def layParts_w_s (x5 : FVec Ideal S8x2x4x128x128 .f32) : FVec Ideal S8x1024x128 .f32 :=
  shapeCast S8x1024x128 (pad S8x131072 ![0, 0] ![0, 0] ![0, 0] (shapeCast S8x131072 x5 shapeCasts_S8x2x4x128x128_S8x131072) (sitofp (F := Ideal) .f32 (constantI S_ 32 0#32)) pads_S8x131072_S8x131072_000_000 h_S_) shapeCasts_S8x131072_S8x1024x128

/-- `b_s` laid out in rows. -/
def lay_b_s (x6 : FVec Ideal S2x4x128 .f32) : FVec Ideal S8x128 .f32 :=
  shapeCast S8x128 (pad S1024 ![0] ![0] ![0] (shapeCast S1024 x6 shapeCasts_S2x4x128_S1024) (sitofp (F := Ideal) .f32 (constantI S_ 32 0#32)) pads_S1024_S1024_000 h_S_) shapeCasts_S1024_S8x128

/-- The parts of `b_s` laid out in rows, device by device. -/
def layParts_b_s (x6 : FVec Ideal S8x2x4x128 .f32) : FVec Ideal S8x8x128 .f32 :=
  shapeCast S8x8x128 (pad S8x1024 ![0, 0] ![0, 0] ![0, 0] (shapeCast S8x1024 x6 shapeCasts_S8x2x4x128_S8x1024) (sitofp (F := Ideal) .f32 (constantI S_ 32 0#32)) pads_S8x1024_S8x1024_000_000 h_S_) shapeCasts_S8x1024_S8x8x128

/-- `norm2` laid out in rows. -/
def lay_norm2 (x7 : FVec Ideal S2x1024 .f32) : FVec Ideal S16x128 .f32 :=
  shapeCast S16x128 (pad S2048 ![0] ![0] ![0] (shapeCast S2048 x7 shapeCasts_S2x1024_S2048) (sitofp (F := Ideal) .f32 (constantI S_ 32 0#32)) pads_S2048_S2048_000 h_S_) shapeCasts_S2048_S16x128

/-- The parts of `norm2` laid out in rows, device by device. -/
def layParts_norm2 (x7 : FVec Ideal S8x2x1024 .f32) : FVec Ideal S8x16x128 .f32 :=
  shapeCast S8x16x128 (pad S8x2048 ![0, 0] ![0, 0] ![0, 0] (shapeCast S8x2048 x7 shapeCasts_S8x2x1024_S8x2048) (sitofp (F := Ideal) .f32 (constantI S_ 32 0#32)) pads_S8x2048_S8x2048_000_000 h_S_) shapeCasts_S8x2048_S8x16x128

/-- `conv_b` laid out in rows. -/
def lay_conv_b (x8 : FVec Ideal S2x5632 .f32) : FVec Ideal S88x128 .f32 :=
  shapeCast S88x128 (pad S11264 ![0] ![0] ![0] (shapeCast S11264 x8 shapeCasts_S2x5632_S11264) (sitofp (F := Ideal) .f32 (constantI S_ 32 0#32)) pads_S11264_S11264_000 h_S_) shapeCasts_S11264_S88x128

/-- The parts of `conv_b` laid out in rows, device by device. -/
def layParts_conv_b (x8 : FVec Ideal S8x2x5632 .f32) : FVec Ideal S8x88x128 .f32 :=
  shapeCast S8x88x128 (pad S8x11264 ![0, 0] ![0, 0] ![0, 0] (shapeCast S8x11264 x8 shapeCasts_S8x2x5632_S8x11264) (sitofp (F := Ideal) .f32 (constantI S_ 32 0#32)) pads_S8x11264_S8x11264_000_000 h_S_) shapeCasts_S8x11264_S8x88x128

/-- The weights one after another, each padded to whole tiles of eight rows. -/
def pack (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) : FVec Ideal S1536x128 .f32 :=
  concatenate S1536x128 0 [⟨S8x128, lay_q_norm x0⟩,
      ⟨S8x128, lay_sinks x1⟩,
      ⟨S256x128, lay_w_pool x2⟩,
      ⟨S8x128, lay_pool_scale x3⟩,
      ⟨S8x128, lay_sgu_v_norm x4⟩,
      ⟨S1024x128, lay_w_s x5⟩,
      ⟨S8x128, lay_b_s x6⟩,
      ⟨S16x128, lay_norm2 x7⟩,
      ⟨S88x128, lay_conv_b x8⟩,
      ⟨S112x128, broadcastInDim S112x128 ![] bcast_S_S112x128 (constant (F := Ideal) S_ .f32 0x00000000#32)⟩] concatenates_S8x128_S8x128_S256x128_S8x128_S8x128_S1024x128_S8x128_S16x128_S88x128_S112x128_S1536x128_d0

/-- The devices' parts, packed device by device. -/
def packParts (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) : FVec Ideal S8x1536x128 .f32 :=
  concatenate S8x1536x128 1 [⟨S8x8x128, layParts_q_norm x0⟩,
      ⟨S8x8x128, layParts_sinks x1⟩,
      ⟨S8x256x128, layParts_w_pool x2⟩,
      ⟨S8x8x128, layParts_pool_scale x3⟩,
      ⟨S8x8x128, layParts_sgu_v_norm x4⟩,
      ⟨S8x1024x128, layParts_w_s x5⟩,
      ⟨S8x8x128, layParts_b_s x6⟩,
      ⟨S8x16x128, layParts_norm2 x7⟩,
      ⟨S8x88x128, layParts_conv_b x8⟩,
      ⟨S8x112x128, broadcastInDim S8x112x128 ![1, 2] bcast_S112x128_S8x112x128_1_2 (broadcastInDim S112x128 ![] bcast_S_S112x128 (constant (F := Ideal) S_ .f32 0x00000000#32))⟩] concatenates_S8x8x128_S8x8x128_S8x256x128_S8x8x128_S8x8x128_S8x1024x128_S8x8x128_S8x16x128_S8x88x128_S8x112x128_S8x1536x128_d1

/-- `q_norm` taken out of the packed rows. -/
def take_q_norm (X : FVec Ideal S1536x128 .f32) : FVec Ideal S2x64 .f32 :=
  shapeCast S2x64 (extractStridedSlice S128 ![0] (shapeCast S1024 (extractStridedSlice S8x128 ![0, 0] X slices_S1536x128_S8x128_0_0) shapeCasts_S8x128_S1024) slices_S1024_S128_0) shapeCasts_S128_S2x64

theorem row_q_norm (a : Fin 2) (b : Fin 64) : 0 + (64 * a.val + b.val) / 128 < 1536 := by omega

theorem col_q_norm (a : Fin 2) (b : Fin 64) : (64 * a.val + b.val) % 128 < 128 := Nat.mod_lt _ (by decide)

theorem take_q_norm_at (X : FVec Ideal S1536x128 .f32) (a : Fin 2) (b : Fin 64) : take_q_norm X (ix2 a b)
    = X (ix2 ⟨0 + (64 * a.val + b.val) / 128, row_q_norm a b⟩ ⟨(64 * a.val + b.val) % 128, col_q_norm a b⟩) := by
  simp only [take_q_norm]
  pointwise
  first
  | rfl
  | exact congrArg X (at_vals (by dsimp only; omega) (by dsimp only; omega))

theorem lrow_q_norm (a : Fin 2) (b : Fin 64) : (64 * a.val + b.val) / 128 < 8 := by omega

theorem lay_q_norm_at (x : FVec Ideal S2x64 .f32) (a : Fin 2) (b : Fin 64) :
    lay_q_norm x (ix2 ⟨(64 * a.val + b.val) / 128, lrow_q_norm a b⟩ ⟨(64 * a.val + b.val) % 128, col_q_norm a b⟩) = x (ix2 a b) := by
  simp only [lay_q_norm]
  pointwise
  all_goals (split_ifs <;> first | rfl | (exfalso; omega))

theorem layParts_q_norm_at (x : FVec Ideal S8x2x64 .f32) (k : Fin 8) (a : Fin 2) (b : Fin 64) :
    layParts_q_norm x (ix3 k ⟨(64 * a.val + b.val) / 128, lrow_q_norm a b⟩ ⟨(64 * a.val + b.val) % 128, col_q_norm a b⟩) = x (ix3 k a b) := by
  simp only [layParts_q_norm]
  pointwise
  all_goals (split_ifs <;> first | rfl | (exfalso; omega))

theorem pack_row_q_norm (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (r : Fin 8) (o : Fin 128) :
    pack x0 x1 x2 x3 x4 x5 x6 x7 x8 (ix2 ⟨0 + r.val, by omega⟩ o) = lay_q_norm x0 (ix2 r o) := by
  unfold pack
  refine concatenate_apply_piece (t := S1536x128) 0 _ _ _ 0 (by exact Nat.le_of_ble_eq_true rfl) S8x128 (lay_q_norm x0) (by rfl) rfl 0 (by rfl) (ix2 r o) (fun b hb => ?_) (by rfl)
  fin_cases b
  · exact absurd rfl hb
  · rfl

theorem parts_row_q_norm (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (r : Fin 8) (o : Fin 128) :
    packParts x0 x1 x2 x3 x4 x5 x6 x7 x8 (ix3 k ⟨0 + r.val, by omega⟩ o) = layParts_q_norm x0 (ix3 k r o) := by
  unfold packParts
  refine concatenate_apply_piece (t := S8x1536x128) 1 _ _ _ 0 (by exact Nat.le_of_ble_eq_true rfl) S8x8x128 (layParts_q_norm x0) (by rfl) rfl 0 (by rfl) (ix3 k r o) (fun b hb => ?_) (by rfl)
  fin_cases b
  · rfl
  · exact absurd rfl hb
  · rfl

theorem pack_q_norm_at (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (a : Fin 2) (b : Fin 64) :
    pack x0 x1 x2 x3 x4 x5 x6 x7 x8 (ix2 ⟨0 + (64 * a.val + b.val) / 128, row_q_norm a b⟩ ⟨(64 * a.val + b.val) % 128, col_q_norm a b⟩) = x0 (ix2 a b) :=
  (pack_row_q_norm x0 x1 x2 x3 x4 x5 x6 x7 x8 ⟨(64 * a.val + b.val) / 128, lrow_q_norm a b⟩ _).trans (lay_q_norm_at x0 a b)

theorem parts_q_norm_at (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (a : Fin 2) (b : Fin 64) :
    packParts x0 x1 x2 x3 x4 x5 x6 x7 x8 (ix3 k ⟨0 + (64 * a.val + b.val) / 128, row_q_norm a b⟩ ⟨(64 * a.val + b.val) % 128, col_q_norm a b⟩) = x0 (ix3 k a b) :=
  (parts_row_q_norm x0 x1 x2 x3 x4 x5 x6 x7 x8 k ⟨(64 * a.val + b.val) / 128, lrow_q_norm a b⟩ _).trans (layParts_q_norm_at x0 k a b)

/-- `sinks` taken out of the packed rows. -/
def take_sinks (X : FVec Ideal S1536x128 .f32) : FVec Ideal S2x8 .f32 :=
  shapeCast S2x8 (extractStridedSlice S16 ![0] (shapeCast S1024 (extractStridedSlice S8x128 ![8, 0] X slices_S1536x128_S8x128_8_0) shapeCasts_S8x128_S1024) slices_S1024_S16_0) shapeCasts_S16_S2x8

theorem row_sinks (a : Fin 2) (b : Fin 8) : 8 + (8 * a.val + b.val) / 128 < 1536 := by omega

theorem col_sinks (a : Fin 2) (b : Fin 8) : (8 * a.val + b.val) % 128 < 128 := Nat.mod_lt _ (by decide)

theorem take_sinks_at (X : FVec Ideal S1536x128 .f32) (a : Fin 2) (b : Fin 8) : take_sinks X (ix2 a b)
    = X (ix2 ⟨8 + (8 * a.val + b.val) / 128, row_sinks a b⟩ ⟨(8 * a.val + b.val) % 128, col_sinks a b⟩) := by
  simp only [take_sinks]
  pointwise
  first
  | rfl
  | exact congrArg X (at_vals (by dsimp only; omega) (by dsimp only; omega))

theorem lrow_sinks (a : Fin 2) (b : Fin 8) : (8 * a.val + b.val) / 128 < 8 := by omega

theorem lay_sinks_at (x : FVec Ideal S2x8 .f32) (a : Fin 2) (b : Fin 8) :
    lay_sinks x (ix2 ⟨(8 * a.val + b.val) / 128, lrow_sinks a b⟩ ⟨(8 * a.val + b.val) % 128, col_sinks a b⟩) = x (ix2 a b) := by
  simp only [lay_sinks]
  pointwise
  all_goals (split_ifs <;> first | rfl | (exfalso; omega))

theorem layParts_sinks_at (x : FVec Ideal S8x2x8 .f32) (k : Fin 8) (a : Fin 2) (b : Fin 8) :
    layParts_sinks x (ix3 k ⟨(8 * a.val + b.val) / 128, lrow_sinks a b⟩ ⟨(8 * a.val + b.val) % 128, col_sinks a b⟩) = x (ix3 k a b) := by
  simp only [layParts_sinks]
  pointwise
  all_goals (split_ifs <;> first | rfl | (exfalso; omega))

theorem pack_row_sinks (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (r : Fin 8) (o : Fin 128) :
    pack x0 x1 x2 x3 x4 x5 x6 x7 x8 (ix2 ⟨8 + r.val, by omega⟩ o) = lay_sinks x1 (ix2 r o) := by
  unfold pack
  refine concatenate_apply_piece (t := S1536x128) 0 _ _ _ 1 (by exact Nat.le_of_ble_eq_true rfl) S8x128 (lay_sinks x1) (by rfl) rfl 8 (by rfl) (ix2 r o) (fun b hb => ?_) (by rfl)
  fin_cases b
  · exact absurd rfl hb
  · rfl

theorem parts_row_sinks (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (r : Fin 8) (o : Fin 128) :
    packParts x0 x1 x2 x3 x4 x5 x6 x7 x8 (ix3 k ⟨8 + r.val, by omega⟩ o) = layParts_sinks x1 (ix3 k r o) := by
  unfold packParts
  refine concatenate_apply_piece (t := S8x1536x128) 1 _ _ _ 1 (by exact Nat.le_of_ble_eq_true rfl) S8x8x128 (layParts_sinks x1) (by rfl) rfl 8 (by rfl) (ix3 k r o) (fun b hb => ?_) (by rfl)
  fin_cases b
  · rfl
  · exact absurd rfl hb
  · rfl

theorem pack_sinks_at (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (a : Fin 2) (b : Fin 8) :
    pack x0 x1 x2 x3 x4 x5 x6 x7 x8 (ix2 ⟨8 + (8 * a.val + b.val) / 128, row_sinks a b⟩ ⟨(8 * a.val + b.val) % 128, col_sinks a b⟩) = x1 (ix2 a b) :=
  (pack_row_sinks x0 x1 x2 x3 x4 x5 x6 x7 x8 ⟨(8 * a.val + b.val) / 128, lrow_sinks a b⟩ _).trans (lay_sinks_at x1 a b)

theorem parts_sinks_at (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (a : Fin 2) (b : Fin 8) :
    packParts x0 x1 x2 x3 x4 x5 x6 x7 x8 (ix3 k ⟨8 + (8 * a.val + b.val) / 128, row_sinks a b⟩ ⟨(8 * a.val + b.val) % 128, col_sinks a b⟩) = x1 (ix3 k a b) :=
  (parts_row_sinks x0 x1 x2 x3 x4 x5 x6 x7 x8 k ⟨(8 * a.val + b.val) / 128, lrow_sinks a b⟩ _).trans (layParts_sinks_at x1 k a b)

/-- `w_pool` taken out of the packed rows. -/
def take_w_pool (X : FVec Ideal S1536x128 .f32) : FVec Ideal S2x4x64x64 .f32 :=
  shapeCast S2x4x64x64 (shapeCast S32768 (extractStridedSlice S256x128 ![16, 0] X slices_S1536x128_S256x128_16_0) shapeCasts_S256x128_S32768) shapeCasts_S32768_S2x4x64x64

theorem row_w_pool (a : Fin 2) (b : Fin 4) (c : Fin 64) (d : Fin 64) : 16 + (64 * (64 * (4 * a.val + b.val) + c.val) + d.val) / 128 < 1536 := by omega

theorem col_w_pool (a : Fin 2) (b : Fin 4) (c : Fin 64) (d : Fin 64) : (64 * (64 * (4 * a.val + b.val) + c.val) + d.val) % 128 < 128 := Nat.mod_lt _ (by decide)

theorem take_w_pool_at (X : FVec Ideal S1536x128 .f32) (a : Fin 2) (b : Fin 4) (c : Fin 64) (d : Fin 64) : take_w_pool X (ix4 a b c d)
    = X (ix2 ⟨16 + (64 * (64 * (4 * a.val + b.val) + c.val) + d.val) / 128, row_w_pool a b c d⟩ ⟨(64 * (64 * (4 * a.val + b.val) + c.val) + d.val) % 128, col_w_pool a b c d⟩) := by
  simp only [take_w_pool]
  pointwise
  first
  | rfl
  | exact congrArg X (at_vals (by dsimp only; omega) (by dsimp only; omega))

theorem lrow_w_pool (a : Fin 2) (b : Fin 4) (c : Fin 64) (d : Fin 64) : (64 * (64 * (4 * a.val + b.val) + c.val) + d.val) / 128 < 256 := by omega

theorem lay_w_pool_at (x : FVec Ideal S2x4x64x64 .f32) (a : Fin 2) (b : Fin 4) (c : Fin 64) (d : Fin 64) :
    lay_w_pool x (ix2 ⟨(64 * (64 * (4 * a.val + b.val) + c.val) + d.val) / 128, lrow_w_pool a b c d⟩ ⟨(64 * (64 * (4 * a.val + b.val) + c.val) + d.val) % 128, col_w_pool a b c d⟩) = x (ix4 a b c d) := by
  simp only [lay_w_pool]
  pointwise
  all_goals (split_ifs <;> first | rfl | (exfalso; omega))

theorem layParts_w_pool_at (x : FVec Ideal S8x2x4x64x64 .f32) (k : Fin 8) (a : Fin 2) (b : Fin 4) (c : Fin 64) (d : Fin 64) :
    layParts_w_pool x (ix3 k ⟨(64 * (64 * (4 * a.val + b.val) + c.val) + d.val) / 128, lrow_w_pool a b c d⟩ ⟨(64 * (64 * (4 * a.val + b.val) + c.val) + d.val) % 128, col_w_pool a b c d⟩) = x (ix5 k a b c d) := by
  simp only [layParts_w_pool]
  pointwise
  all_goals (split_ifs <;> first | rfl | (exfalso; omega))

theorem pack_row_w_pool (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (r : Fin 256) (o : Fin 128) :
    pack x0 x1 x2 x3 x4 x5 x6 x7 x8 (ix2 ⟨16 + r.val, by omega⟩ o) = lay_w_pool x2 (ix2 r o) := by
  unfold pack
  refine concatenate_apply_piece (t := S1536x128) 0 _ _ _ 2 (by exact Nat.le_of_ble_eq_true rfl) S256x128 (lay_w_pool x2) (by rfl) rfl 16 (by rfl) (ix2 r o) (fun b hb => ?_) (by rfl)
  fin_cases b
  · exact absurd rfl hb
  · rfl

theorem parts_row_w_pool (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (r : Fin 256) (o : Fin 128) :
    packParts x0 x1 x2 x3 x4 x5 x6 x7 x8 (ix3 k ⟨16 + r.val, by omega⟩ o) = layParts_w_pool x2 (ix3 k r o) := by
  unfold packParts
  refine concatenate_apply_piece (t := S8x1536x128) 1 _ _ _ 2 (by exact Nat.le_of_ble_eq_true rfl) S8x256x128 (layParts_w_pool x2) (by rfl) rfl 16 (by rfl) (ix3 k r o) (fun b hb => ?_) (by rfl)
  fin_cases b
  · rfl
  · exact absurd rfl hb
  · rfl

theorem pack_w_pool_at (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (a : Fin 2) (b : Fin 4) (c : Fin 64) (d : Fin 64) :
    pack x0 x1 x2 x3 x4 x5 x6 x7 x8 (ix2 ⟨16 + (64 * (64 * (4 * a.val + b.val) + c.val) + d.val) / 128, row_w_pool a b c d⟩ ⟨(64 * (64 * (4 * a.val + b.val) + c.val) + d.val) % 128, col_w_pool a b c d⟩) = x2 (ix4 a b c d) :=
  (pack_row_w_pool x0 x1 x2 x3 x4 x5 x6 x7 x8 ⟨(64 * (64 * (4 * a.val + b.val) + c.val) + d.val) / 128, lrow_w_pool a b c d⟩ _).trans (lay_w_pool_at x2 a b c d)

theorem parts_w_pool_at (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (a : Fin 2) (b : Fin 4) (c : Fin 64) (d : Fin 64) :
    packParts x0 x1 x2 x3 x4 x5 x6 x7 x8 (ix3 k ⟨16 + (64 * (64 * (4 * a.val + b.val) + c.val) + d.val) / 128, row_w_pool a b c d⟩ ⟨(64 * (64 * (4 * a.val + b.val) + c.val) + d.val) % 128, col_w_pool a b c d⟩) = x2 (ix5 k a b c d) :=
  (parts_row_w_pool x0 x1 x2 x3 x4 x5 x6 x7 x8 k ⟨(64 * (64 * (4 * a.val + b.val) + c.val) + d.val) / 128, lrow_w_pool a b c d⟩ _).trans (layParts_w_pool_at x2 k a b c d)

/-- `pool_scale` taken out of the packed rows. -/
def take_pool_scale (X : FVec Ideal S1536x128 .f32) : FVec Ideal S2x256 .f32 :=
  shapeCast S2x256 (extractStridedSlice S512 ![0] (shapeCast S1024 (extractStridedSlice S8x128 ![272, 0] X slices_S1536x128_S8x128_272_0) shapeCasts_S8x128_S1024) slices_S1024_S512_0) shapeCasts_S512_S2x256

theorem row_pool_scale (a : Fin 2) (b : Fin 256) : 272 + (256 * a.val + b.val) / 128 < 1536 := by omega

theorem col_pool_scale (a : Fin 2) (b : Fin 256) : (256 * a.val + b.val) % 128 < 128 := Nat.mod_lt _ (by decide)

theorem take_pool_scale_at (X : FVec Ideal S1536x128 .f32) (a : Fin 2) (b : Fin 256) : take_pool_scale X (ix2 a b)
    = X (ix2 ⟨272 + (256 * a.val + b.val) / 128, row_pool_scale a b⟩ ⟨(256 * a.val + b.val) % 128, col_pool_scale a b⟩) := by
  simp only [take_pool_scale]
  pointwise
  first
  | rfl
  | exact congrArg X (at_vals (by dsimp only; omega) (by dsimp only; omega))

theorem lrow_pool_scale (a : Fin 2) (b : Fin 256) : (256 * a.val + b.val) / 128 < 8 := by omega

theorem lay_pool_scale_at (x : FVec Ideal S2x256 .f32) (a : Fin 2) (b : Fin 256) :
    lay_pool_scale x (ix2 ⟨(256 * a.val + b.val) / 128, lrow_pool_scale a b⟩ ⟨(256 * a.val + b.val) % 128, col_pool_scale a b⟩) = x (ix2 a b) := by
  simp only [lay_pool_scale]
  pointwise
  all_goals (split_ifs <;> first | rfl | (exfalso; omega))

theorem layParts_pool_scale_at (x : FVec Ideal S8x2x256 .f32) (k : Fin 8) (a : Fin 2) (b : Fin 256) :
    layParts_pool_scale x (ix3 k ⟨(256 * a.val + b.val) / 128, lrow_pool_scale a b⟩ ⟨(256 * a.val + b.val) % 128, col_pool_scale a b⟩) = x (ix3 k a b) := by
  simp only [layParts_pool_scale]
  pointwise
  all_goals (split_ifs <;> first | rfl | (exfalso; omega))

theorem pack_row_pool_scale (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (r : Fin 8) (o : Fin 128) :
    pack x0 x1 x2 x3 x4 x5 x6 x7 x8 (ix2 ⟨272 + r.val, by omega⟩ o) = lay_pool_scale x3 (ix2 r o) := by
  unfold pack
  refine concatenate_apply_piece (t := S1536x128) 0 _ _ _ 3 (by exact Nat.le_of_ble_eq_true rfl) S8x128 (lay_pool_scale x3) (by rfl) rfl 272 (by rfl) (ix2 r o) (fun b hb => ?_) (by rfl)
  fin_cases b
  · exact absurd rfl hb
  · rfl

theorem parts_row_pool_scale (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (r : Fin 8) (o : Fin 128) :
    packParts x0 x1 x2 x3 x4 x5 x6 x7 x8 (ix3 k ⟨272 + r.val, by omega⟩ o) = layParts_pool_scale x3 (ix3 k r o) := by
  unfold packParts
  refine concatenate_apply_piece (t := S8x1536x128) 1 _ _ _ 3 (by exact Nat.le_of_ble_eq_true rfl) S8x8x128 (layParts_pool_scale x3) (by rfl) rfl 272 (by rfl) (ix3 k r o) (fun b hb => ?_) (by rfl)
  fin_cases b
  · rfl
  · exact absurd rfl hb
  · rfl

theorem pack_pool_scale_at (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (a : Fin 2) (b : Fin 256) :
    pack x0 x1 x2 x3 x4 x5 x6 x7 x8 (ix2 ⟨272 + (256 * a.val + b.val) / 128, row_pool_scale a b⟩ ⟨(256 * a.val + b.val) % 128, col_pool_scale a b⟩) = x3 (ix2 a b) :=
  (pack_row_pool_scale x0 x1 x2 x3 x4 x5 x6 x7 x8 ⟨(256 * a.val + b.val) / 128, lrow_pool_scale a b⟩ _).trans (lay_pool_scale_at x3 a b)

theorem parts_pool_scale_at (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (a : Fin 2) (b : Fin 256) :
    packParts x0 x1 x2 x3 x4 x5 x6 x7 x8 (ix3 k ⟨272 + (256 * a.val + b.val) / 128, row_pool_scale a b⟩ ⟨(256 * a.val + b.val) % 128, col_pool_scale a b⟩) = x3 (ix3 k a b) :=
  (parts_row_pool_scale x0 x1 x2 x3 x4 x5 x6 x7 x8 k ⟨(256 * a.val + b.val) / 128, lrow_pool_scale a b⟩ _).trans (layParts_pool_scale_at x3 k a b)

/-- `sgu_v_norm` taken out of the packed rows. -/
def take_sgu_v_norm (X : FVec Ideal S1536x128 .f32) : FVec Ideal S2x64 .f32 :=
  shapeCast S2x64 (extractStridedSlice S128 ![0] (shapeCast S1024 (extractStridedSlice S8x128 ![280, 0] X slices_S1536x128_S8x128_280_0) shapeCasts_S8x128_S1024) slices_S1024_S128_0) shapeCasts_S128_S2x64

theorem row_sgu_v_norm (a : Fin 2) (b : Fin 64) : 280 + (64 * a.val + b.val) / 128 < 1536 := by omega

theorem col_sgu_v_norm (a : Fin 2) (b : Fin 64) : (64 * a.val + b.val) % 128 < 128 := Nat.mod_lt _ (by decide)

theorem take_sgu_v_norm_at (X : FVec Ideal S1536x128 .f32) (a : Fin 2) (b : Fin 64) : take_sgu_v_norm X (ix2 a b)
    = X (ix2 ⟨280 + (64 * a.val + b.val) / 128, row_sgu_v_norm a b⟩ ⟨(64 * a.val + b.val) % 128, col_sgu_v_norm a b⟩) := by
  simp only [take_sgu_v_norm]
  pointwise
  first
  | rfl
  | exact congrArg X (at_vals (by dsimp only; omega) (by dsimp only; omega))

theorem lrow_sgu_v_norm (a : Fin 2) (b : Fin 64) : (64 * a.val + b.val) / 128 < 8 := by omega

theorem lay_sgu_v_norm_at (x : FVec Ideal S2x64 .f32) (a : Fin 2) (b : Fin 64) :
    lay_sgu_v_norm x (ix2 ⟨(64 * a.val + b.val) / 128, lrow_sgu_v_norm a b⟩ ⟨(64 * a.val + b.val) % 128, col_sgu_v_norm a b⟩) = x (ix2 a b) := by
  simp only [lay_sgu_v_norm]
  pointwise
  all_goals (split_ifs <;> first | rfl | (exfalso; omega))

theorem layParts_sgu_v_norm_at (x : FVec Ideal S8x2x64 .f32) (k : Fin 8) (a : Fin 2) (b : Fin 64) :
    layParts_sgu_v_norm x (ix3 k ⟨(64 * a.val + b.val) / 128, lrow_sgu_v_norm a b⟩ ⟨(64 * a.val + b.val) % 128, col_sgu_v_norm a b⟩) = x (ix3 k a b) := by
  simp only [layParts_sgu_v_norm]
  pointwise
  all_goals (split_ifs <;> first | rfl | (exfalso; omega))

theorem pack_row_sgu_v_norm (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (r : Fin 8) (o : Fin 128) :
    pack x0 x1 x2 x3 x4 x5 x6 x7 x8 (ix2 ⟨280 + r.val, by omega⟩ o) = lay_sgu_v_norm x4 (ix2 r o) := by
  unfold pack
  refine concatenate_apply_piece (t := S1536x128) 0 _ _ _ 4 (by exact Nat.le_of_ble_eq_true rfl) S8x128 (lay_sgu_v_norm x4) (by rfl) rfl 280 (by rfl) (ix2 r o) (fun b hb => ?_) (by rfl)
  fin_cases b
  · exact absurd rfl hb
  · rfl

theorem parts_row_sgu_v_norm (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (r : Fin 8) (o : Fin 128) :
    packParts x0 x1 x2 x3 x4 x5 x6 x7 x8 (ix3 k ⟨280 + r.val, by omega⟩ o) = layParts_sgu_v_norm x4 (ix3 k r o) := by
  unfold packParts
  refine concatenate_apply_piece (t := S8x1536x128) 1 _ _ _ 4 (by exact Nat.le_of_ble_eq_true rfl) S8x8x128 (layParts_sgu_v_norm x4) (by rfl) rfl 280 (by rfl) (ix3 k r o) (fun b hb => ?_) (by rfl)
  fin_cases b
  · rfl
  · exact absurd rfl hb
  · rfl

theorem pack_sgu_v_norm_at (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (a : Fin 2) (b : Fin 64) :
    pack x0 x1 x2 x3 x4 x5 x6 x7 x8 (ix2 ⟨280 + (64 * a.val + b.val) / 128, row_sgu_v_norm a b⟩ ⟨(64 * a.val + b.val) % 128, col_sgu_v_norm a b⟩) = x4 (ix2 a b) :=
  (pack_row_sgu_v_norm x0 x1 x2 x3 x4 x5 x6 x7 x8 ⟨(64 * a.val + b.val) / 128, lrow_sgu_v_norm a b⟩ _).trans (lay_sgu_v_norm_at x4 a b)

theorem parts_sgu_v_norm_at (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (a : Fin 2) (b : Fin 64) :
    packParts x0 x1 x2 x3 x4 x5 x6 x7 x8 (ix3 k ⟨280 + (64 * a.val + b.val) / 128, row_sgu_v_norm a b⟩ ⟨(64 * a.val + b.val) % 128, col_sgu_v_norm a b⟩) = x4 (ix3 k a b) :=
  (parts_row_sgu_v_norm x0 x1 x2 x3 x4 x5 x6 x7 x8 k ⟨(64 * a.val + b.val) / 128, lrow_sgu_v_norm a b⟩ _).trans (layParts_sgu_v_norm_at x4 k a b)

/-- `w_s` taken out of the packed rows. -/
def take_w_s (X : FVec Ideal S1536x128 .f32) : FVec Ideal S2x4x128x128 .f32 :=
  shapeCast S2x4x128x128 (shapeCast S131072 (extractStridedSlice S1024x128 ![288, 0] X slices_S1536x128_S1024x128_288_0) shapeCasts_S1024x128_S131072) shapeCasts_S131072_S2x4x128x128

theorem row_w_s (a : Fin 2) (b : Fin 4) (c : Fin 128) (d : Fin 128) : 288 + (128 * (128 * (4 * a.val + b.val) + c.val) + d.val) / 128 < 1536 := by omega

theorem col_w_s (a : Fin 2) (b : Fin 4) (c : Fin 128) (d : Fin 128) : (128 * (128 * (4 * a.val + b.val) + c.val) + d.val) % 128 < 128 := Nat.mod_lt _ (by decide)

theorem take_w_s_at (X : FVec Ideal S1536x128 .f32) (a : Fin 2) (b : Fin 4) (c : Fin 128) (d : Fin 128) : take_w_s X (ix4 a b c d)
    = X (ix2 ⟨288 + (128 * (128 * (4 * a.val + b.val) + c.val) + d.val) / 128, row_w_s a b c d⟩ ⟨(128 * (128 * (4 * a.val + b.val) + c.val) + d.val) % 128, col_w_s a b c d⟩) := by
  simp only [take_w_s]
  pointwise
  first
  | rfl
  | exact congrArg X (at_vals (by dsimp only; omega) (by dsimp only; omega))

theorem lrow_w_s (a : Fin 2) (b : Fin 4) (c : Fin 128) (d : Fin 128) : (128 * (128 * (4 * a.val + b.val) + c.val) + d.val) / 128 < 1024 := by omega

theorem lay_w_s_at (x : FVec Ideal S2x4x128x128 .f32) (a : Fin 2) (b : Fin 4) (c : Fin 128) (d : Fin 128) :
    lay_w_s x (ix2 ⟨(128 * (128 * (4 * a.val + b.val) + c.val) + d.val) / 128, lrow_w_s a b c d⟩ ⟨(128 * (128 * (4 * a.val + b.val) + c.val) + d.val) % 128, col_w_s a b c d⟩) = x (ix4 a b c d) := by
  simp only [lay_w_s]
  pointwise
  all_goals (split_ifs <;> first | rfl | (exfalso; omega))

theorem layParts_w_s_at (x : FVec Ideal S8x2x4x128x128 .f32) (k : Fin 8) (a : Fin 2) (b : Fin 4) (c : Fin 128) (d : Fin 128) :
    layParts_w_s x (ix3 k ⟨(128 * (128 * (4 * a.val + b.val) + c.val) + d.val) / 128, lrow_w_s a b c d⟩ ⟨(128 * (128 * (4 * a.val + b.val) + c.val) + d.val) % 128, col_w_s a b c d⟩) = x (ix5 k a b c d) := by
  simp only [layParts_w_s]
  pointwise
  all_goals (split_ifs <;> first | rfl | (exfalso; omega))

theorem pack_row_w_s (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (r : Fin 1024) (o : Fin 128) :
    pack x0 x1 x2 x3 x4 x5 x6 x7 x8 (ix2 ⟨288 + r.val, by omega⟩ o) = lay_w_s x5 (ix2 r o) := by
  unfold pack
  refine concatenate_apply_piece (t := S1536x128) 0 _ _ _ 5 (by exact Nat.le_of_ble_eq_true rfl) S1024x128 (lay_w_s x5) (by rfl) rfl 288 (by rfl) (ix2 r o) (fun b hb => ?_) (by rfl)
  fin_cases b
  · exact absurd rfl hb
  · rfl

theorem parts_row_w_s (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (r : Fin 1024) (o : Fin 128) :
    packParts x0 x1 x2 x3 x4 x5 x6 x7 x8 (ix3 k ⟨288 + r.val, by omega⟩ o) = layParts_w_s x5 (ix3 k r o) := by
  unfold packParts
  refine concatenate_apply_piece (t := S8x1536x128) 1 _ _ _ 5 (by exact Nat.le_of_ble_eq_true rfl) S8x1024x128 (layParts_w_s x5) (by rfl) rfl 288 (by rfl) (ix3 k r o) (fun b hb => ?_) (by rfl)
  fin_cases b
  · rfl
  · exact absurd rfl hb
  · rfl

theorem pack_w_s_at (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (a : Fin 2) (b : Fin 4) (c : Fin 128) (d : Fin 128) :
    pack x0 x1 x2 x3 x4 x5 x6 x7 x8 (ix2 ⟨288 + (128 * (128 * (4 * a.val + b.val) + c.val) + d.val) / 128, row_w_s a b c d⟩ ⟨(128 * (128 * (4 * a.val + b.val) + c.val) + d.val) % 128, col_w_s a b c d⟩) = x5 (ix4 a b c d) :=
  (pack_row_w_s x0 x1 x2 x3 x4 x5 x6 x7 x8 ⟨(128 * (128 * (4 * a.val + b.val) + c.val) + d.val) / 128, lrow_w_s a b c d⟩ _).trans (lay_w_s_at x5 a b c d)

theorem parts_w_s_at (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (a : Fin 2) (b : Fin 4) (c : Fin 128) (d : Fin 128) :
    packParts x0 x1 x2 x3 x4 x5 x6 x7 x8 (ix3 k ⟨288 + (128 * (128 * (4 * a.val + b.val) + c.val) + d.val) / 128, row_w_s a b c d⟩ ⟨(128 * (128 * (4 * a.val + b.val) + c.val) + d.val) % 128, col_w_s a b c d⟩) = x5 (ix5 k a b c d) :=
  (parts_row_w_s x0 x1 x2 x3 x4 x5 x6 x7 x8 k ⟨(128 * (128 * (4 * a.val + b.val) + c.val) + d.val) / 128, lrow_w_s a b c d⟩ _).trans (layParts_w_s_at x5 k a b c d)

/-- `b_s` taken out of the packed rows. -/
def take_b_s (X : FVec Ideal S1536x128 .f32) : FVec Ideal S2x4x128 .f32 :=
  shapeCast S2x4x128 (shapeCast S1024 (extractStridedSlice S8x128 ![1312, 0] X slices_S1536x128_S8x128_1312_0) shapeCasts_S8x128_S1024) shapeCasts_S1024_S2x4x128

theorem row_b_s (a : Fin 2) (b : Fin 4) (c : Fin 128) : 1312 + (128 * (4 * a.val + b.val) + c.val) / 128 < 1536 := by omega

theorem col_b_s (a : Fin 2) (b : Fin 4) (c : Fin 128) : (128 * (4 * a.val + b.val) + c.val) % 128 < 128 := Nat.mod_lt _ (by decide)

theorem take_b_s_at (X : FVec Ideal S1536x128 .f32) (a : Fin 2) (b : Fin 4) (c : Fin 128) : take_b_s X (ix3 a b c)
    = X (ix2 ⟨1312 + (128 * (4 * a.val + b.val) + c.val) / 128, row_b_s a b c⟩ ⟨(128 * (4 * a.val + b.val) + c.val) % 128, col_b_s a b c⟩) := by
  simp only [take_b_s]
  pointwise
  first
  | rfl
  | exact congrArg X (at_vals (by dsimp only; omega) (by dsimp only; omega))

theorem lrow_b_s (a : Fin 2) (b : Fin 4) (c : Fin 128) : (128 * (4 * a.val + b.val) + c.val) / 128 < 8 := by omega

theorem lay_b_s_at (x : FVec Ideal S2x4x128 .f32) (a : Fin 2) (b : Fin 4) (c : Fin 128) :
    lay_b_s x (ix2 ⟨(128 * (4 * a.val + b.val) + c.val) / 128, lrow_b_s a b c⟩ ⟨(128 * (4 * a.val + b.val) + c.val) % 128, col_b_s a b c⟩) = x (ix3 a b c) := by
  simp only [lay_b_s]
  pointwise
  all_goals (split_ifs <;> first | rfl | (exfalso; omega))

theorem layParts_b_s_at (x : FVec Ideal S8x2x4x128 .f32) (k : Fin 8) (a : Fin 2) (b : Fin 4) (c : Fin 128) :
    layParts_b_s x (ix3 k ⟨(128 * (4 * a.val + b.val) + c.val) / 128, lrow_b_s a b c⟩ ⟨(128 * (4 * a.val + b.val) + c.val) % 128, col_b_s a b c⟩) = x (ix4 k a b c) := by
  simp only [layParts_b_s]
  pointwise
  all_goals (split_ifs <;> first | rfl | (exfalso; omega))

theorem pack_row_b_s (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (r : Fin 8) (o : Fin 128) :
    pack x0 x1 x2 x3 x4 x5 x6 x7 x8 (ix2 ⟨1312 + r.val, by omega⟩ o) = lay_b_s x6 (ix2 r o) := by
  unfold pack
  refine concatenate_apply_piece (t := S1536x128) 0 _ _ _ 6 (by exact Nat.le_of_ble_eq_true rfl) S8x128 (lay_b_s x6) (by rfl) rfl 1312 (by rfl) (ix2 r o) (fun b hb => ?_) (by rfl)
  fin_cases b
  · exact absurd rfl hb
  · rfl

theorem parts_row_b_s (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (r : Fin 8) (o : Fin 128) :
    packParts x0 x1 x2 x3 x4 x5 x6 x7 x8 (ix3 k ⟨1312 + r.val, by omega⟩ o) = layParts_b_s x6 (ix3 k r o) := by
  unfold packParts
  refine concatenate_apply_piece (t := S8x1536x128) 1 _ _ _ 6 (by exact Nat.le_of_ble_eq_true rfl) S8x8x128 (layParts_b_s x6) (by rfl) rfl 1312 (by rfl) (ix3 k r o) (fun b hb => ?_) (by rfl)
  fin_cases b
  · rfl
  · exact absurd rfl hb
  · rfl

theorem pack_b_s_at (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (a : Fin 2) (b : Fin 4) (c : Fin 128) :
    pack x0 x1 x2 x3 x4 x5 x6 x7 x8 (ix2 ⟨1312 + (128 * (4 * a.val + b.val) + c.val) / 128, row_b_s a b c⟩ ⟨(128 * (4 * a.val + b.val) + c.val) % 128, col_b_s a b c⟩) = x6 (ix3 a b c) :=
  (pack_row_b_s x0 x1 x2 x3 x4 x5 x6 x7 x8 ⟨(128 * (4 * a.val + b.val) + c.val) / 128, lrow_b_s a b c⟩ _).trans (lay_b_s_at x6 a b c)

theorem parts_b_s_at (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (a : Fin 2) (b : Fin 4) (c : Fin 128) :
    packParts x0 x1 x2 x3 x4 x5 x6 x7 x8 (ix3 k ⟨1312 + (128 * (4 * a.val + b.val) + c.val) / 128, row_b_s a b c⟩ ⟨(128 * (4 * a.val + b.val) + c.val) % 128, col_b_s a b c⟩) = x6 (ix4 k a b c) :=
  (parts_row_b_s x0 x1 x2 x3 x4 x5 x6 x7 x8 k ⟨(128 * (4 * a.val + b.val) + c.val) / 128, lrow_b_s a b c⟩ _).trans (layParts_b_s_at x6 k a b c)

/-- `norm2` taken out of the packed rows. -/
def take_norm2 (X : FVec Ideal S1536x128 .f32) : FVec Ideal S2x1024 .f32 :=
  shapeCast S2x1024 (shapeCast S2048 (extractStridedSlice S16x128 ![1320, 0] X slices_S1536x128_S16x128_1320_0) shapeCasts_S16x128_S2048) shapeCasts_S2048_S2x1024

theorem row_norm2 (a : Fin 2) (b : Fin 1024) : 1320 + (1024 * a.val + b.val) / 128 < 1536 := by omega

theorem col_norm2 (a : Fin 2) (b : Fin 1024) : (1024 * a.val + b.val) % 128 < 128 := Nat.mod_lt _ (by decide)

theorem take_norm2_at (X : FVec Ideal S1536x128 .f32) (a : Fin 2) (b : Fin 1024) : take_norm2 X (ix2 a b)
    = X (ix2 ⟨1320 + (1024 * a.val + b.val) / 128, row_norm2 a b⟩ ⟨(1024 * a.val + b.val) % 128, col_norm2 a b⟩) := by
  simp only [take_norm2]
  pointwise
  first
  | rfl
  | exact congrArg X (at_vals (by dsimp only; omega) (by dsimp only; omega))

theorem lrow_norm2 (a : Fin 2) (b : Fin 1024) : (1024 * a.val + b.val) / 128 < 16 := by omega

theorem lay_norm2_at (x : FVec Ideal S2x1024 .f32) (a : Fin 2) (b : Fin 1024) :
    lay_norm2 x (ix2 ⟨(1024 * a.val + b.val) / 128, lrow_norm2 a b⟩ ⟨(1024 * a.val + b.val) % 128, col_norm2 a b⟩) = x (ix2 a b) := by
  simp only [lay_norm2]
  pointwise
  all_goals (split_ifs <;> first | rfl | (exfalso; omega))

theorem layParts_norm2_at (x : FVec Ideal S8x2x1024 .f32) (k : Fin 8) (a : Fin 2) (b : Fin 1024) :
    layParts_norm2 x (ix3 k ⟨(1024 * a.val + b.val) / 128, lrow_norm2 a b⟩ ⟨(1024 * a.val + b.val) % 128, col_norm2 a b⟩) = x (ix3 k a b) := by
  simp only [layParts_norm2]
  pointwise
  all_goals (split_ifs <;> first | rfl | (exfalso; omega))

theorem pack_row_norm2 (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (r : Fin 16) (o : Fin 128) :
    pack x0 x1 x2 x3 x4 x5 x6 x7 x8 (ix2 ⟨1320 + r.val, by omega⟩ o) = lay_norm2 x7 (ix2 r o) := by
  unfold pack
  refine concatenate_apply_piece (t := S1536x128) 0 _ _ _ 7 (by exact Nat.le_of_ble_eq_true rfl) S16x128 (lay_norm2 x7) (by rfl) rfl 1320 (by rfl) (ix2 r o) (fun b hb => ?_) (by rfl)
  fin_cases b
  · exact absurd rfl hb
  · rfl

theorem parts_row_norm2 (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (r : Fin 16) (o : Fin 128) :
    packParts x0 x1 x2 x3 x4 x5 x6 x7 x8 (ix3 k ⟨1320 + r.val, by omega⟩ o) = layParts_norm2 x7 (ix3 k r o) := by
  unfold packParts
  refine concatenate_apply_piece (t := S8x1536x128) 1 _ _ _ 7 (by exact Nat.le_of_ble_eq_true rfl) S8x16x128 (layParts_norm2 x7) (by rfl) rfl 1320 (by rfl) (ix3 k r o) (fun b hb => ?_) (by rfl)
  fin_cases b
  · rfl
  · exact absurd rfl hb
  · rfl

theorem pack_norm2_at (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (a : Fin 2) (b : Fin 1024) :
    pack x0 x1 x2 x3 x4 x5 x6 x7 x8 (ix2 ⟨1320 + (1024 * a.val + b.val) / 128, row_norm2 a b⟩ ⟨(1024 * a.val + b.val) % 128, col_norm2 a b⟩) = x7 (ix2 a b) :=
  (pack_row_norm2 x0 x1 x2 x3 x4 x5 x6 x7 x8 ⟨(1024 * a.val + b.val) / 128, lrow_norm2 a b⟩ _).trans (lay_norm2_at x7 a b)

theorem parts_norm2_at (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (a : Fin 2) (b : Fin 1024) :
    packParts x0 x1 x2 x3 x4 x5 x6 x7 x8 (ix3 k ⟨1320 + (1024 * a.val + b.val) / 128, row_norm2 a b⟩ ⟨(1024 * a.val + b.val) % 128, col_norm2 a b⟩) = x7 (ix3 k a b) :=
  (parts_row_norm2 x0 x1 x2 x3 x4 x5 x6 x7 x8 k ⟨(1024 * a.val + b.val) / 128, lrow_norm2 a b⟩ _).trans (layParts_norm2_at x7 k a b)

/-- `conv_b` taken out of the packed rows. -/
def take_conv_b (X : FVec Ideal S1536x128 .f32) : FVec Ideal S2x5632 .f32 :=
  shapeCast S2x5632 (shapeCast S11264 (extractStridedSlice S88x128 ![1336, 0] X slices_S1536x128_S88x128_1336_0) shapeCasts_S88x128_S11264) shapeCasts_S11264_S2x5632

theorem row_conv_b (a : Fin 2) (b : Fin 5632) : 1336 + (5632 * a.val + b.val) / 128 < 1536 := by omega

theorem col_conv_b (a : Fin 2) (b : Fin 5632) : (5632 * a.val + b.val) % 128 < 128 := Nat.mod_lt _ (by decide)

theorem take_conv_b_at (X : FVec Ideal S1536x128 .f32) (a : Fin 2) (b : Fin 5632) : take_conv_b X (ix2 a b)
    = X (ix2 ⟨1336 + (5632 * a.val + b.val) / 128, row_conv_b a b⟩ ⟨(5632 * a.val + b.val) % 128, col_conv_b a b⟩) := by
  simp only [take_conv_b]
  pointwise
  first
  | rfl
  | exact congrArg X (at_vals (by dsimp only; omega) (by dsimp only; omega))

theorem lrow_conv_b (a : Fin 2) (b : Fin 5632) : (5632 * a.val + b.val) / 128 < 88 := by omega

theorem lay_conv_b_at (x : FVec Ideal S2x5632 .f32) (a : Fin 2) (b : Fin 5632) :
    lay_conv_b x (ix2 ⟨(5632 * a.val + b.val) / 128, lrow_conv_b a b⟩ ⟨(5632 * a.val + b.val) % 128, col_conv_b a b⟩) = x (ix2 a b) := by
  simp only [lay_conv_b]
  pointwise
  all_goals (split_ifs <;> first | rfl | (exfalso; omega))

theorem layParts_conv_b_at (x : FVec Ideal S8x2x5632 .f32) (k : Fin 8) (a : Fin 2) (b : Fin 5632) :
    layParts_conv_b x (ix3 k ⟨(5632 * a.val + b.val) / 128, lrow_conv_b a b⟩ ⟨(5632 * a.val + b.val) % 128, col_conv_b a b⟩) = x (ix3 k a b) := by
  simp only [layParts_conv_b]
  pointwise
  all_goals (split_ifs <;> first | rfl | (exfalso; omega))

theorem pack_row_conv_b (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (r : Fin 88) (o : Fin 128) :
    pack x0 x1 x2 x3 x4 x5 x6 x7 x8 (ix2 ⟨1336 + r.val, by omega⟩ o) = lay_conv_b x8 (ix2 r o) := by
  unfold pack
  refine concatenate_apply_piece (t := S1536x128) 0 _ _ _ 8 (by exact Nat.le_of_ble_eq_true rfl) S88x128 (lay_conv_b x8) (by rfl) rfl 1336 (by rfl) (ix2 r o) (fun b hb => ?_) (by rfl)
  fin_cases b
  · exact absurd rfl hb
  · rfl

theorem parts_row_conv_b (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (r : Fin 88) (o : Fin 128) :
    packParts x0 x1 x2 x3 x4 x5 x6 x7 x8 (ix3 k ⟨1336 + r.val, by omega⟩ o) = layParts_conv_b x8 (ix3 k r o) := by
  unfold packParts
  refine concatenate_apply_piece (t := S8x1536x128) 1 _ _ _ 8 (by exact Nat.le_of_ble_eq_true rfl) S8x88x128 (layParts_conv_b x8) (by rfl) rfl 1336 (by rfl) (ix3 k r o) (fun b hb => ?_) (by rfl)
  fin_cases b
  · rfl
  · exact absurd rfl hb
  · rfl

theorem pack_conv_b_at (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (a : Fin 2) (b : Fin 5632) :
    pack x0 x1 x2 x3 x4 x5 x6 x7 x8 (ix2 ⟨1336 + (5632 * a.val + b.val) / 128, row_conv_b a b⟩ ⟨(5632 * a.val + b.val) % 128, col_conv_b a b⟩) = x8 (ix2 a b) :=
  (pack_row_conv_b x0 x1 x2 x3 x4 x5 x6 x7 x8 ⟨(5632 * a.val + b.val) / 128, lrow_conv_b a b⟩ _).trans (lay_conv_b_at x8 a b)

theorem parts_conv_b_at (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (k : Fin 8) (a : Fin 2) (b : Fin 5632) :
    packParts x0 x1 x2 x3 x4 x5 x6 x7 x8 (ix3 k ⟨1336 + (5632 * a.val + b.val) / 128, row_conv_b a b⟩ ⟨(5632 * a.val + b.val) % 128, col_conv_b a b⟩) = x8 (ix3 k a b) :=
  (parts_row_conv_b x0 x1 x2 x3 x4 x5 x6 x7 x8 k ⟨(5632 * a.val + b.val) / 128, lrow_conv_b a b⟩ _).trans (layParts_conv_b_at x8 k a b)

end Cert.SmallEarlyIdeal.Value

end
-- ==== Proof.SmallEarlyRegion.lean ====
module

public import proofs.«01_k».proof.Proof.Adam
public import proofs.«01_k».proof.Proof.Gen.SmallEarlyIdeal.Frame
public import Idealize.ShloMosaic.Lib.Pipeline.ValueKit

/-!
What the call computes row by row: the devices' parts summed, then the step of each entry.
-/

@[expose] public section

set_option maxRecDepth 16384
set_option maxHeartbeats 1000000

noncomputable section

open Idealize.ShloMosaic Idealize.ShloMosaic.TcCoe Idealize.SL.Sem

namespace Cert.SmallEarlyIdeal.Value
open Cert.SmallEarlyIdeal Cert.SmallEarlyIdeal.Gen

variable (m : (ℓ : Loc nD τ sig) → Buf (Elt Ideal) ℓ)

/-- The packed gradient: the devices' parts summed row by row. -/
def G (p : FVec Ideal S8x1536x128 .f32) : FVec Ideal S1536x128 .f32 := fun i => ∑ k : Fin 8, p (ix3 k (i 0) (i 1))

theorem G_at (p : FVec Ideal S8x1536x128 .f32) (r : Fin 1536) (o : Fin 128) : G p (ix2 r o) = ∑ k : Fin 8, p (ix3 k r o) := rfl

theorem lt (t : Fin cfg0.N) : t.val < 6 := lt_of_lt_of_eq t.isLt N_0

/-- Each window moves down the rows with the grid. -/
theorem idx : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]
    ∧ win0_7.index t = ![t.val, 0] :=
  (by decide +kernel : ∀ t : Fin grid0.N, _)

theorem row_lt (t : Fin cfg0.N) (r : Fin 256) : 256 * t.val + r.val < 1536 := by
  have := lt t
  omega

/-- The whole of a block. -/
theorem whole (x : FVec Ideal S256x128 .f32) (r : Fin 256) (o : Fin 128) :
    View.ld (Val := Elt Ideal) (e' := .f32) x r0_8 (ix2 r o) = x (ix2 r o) := by
  refine congrArg x (funext fun a => ?_)
  fin_cases a <;> exact Fin.ext (by simp [LoadRect.idx, Rect.unit, ix2])

theorem g0 (c : Dev nD) (t : Fin cfg0.N) (k : Fin 8) (r : Fin 256) (o : Fin 128) :
    iblk m c 0 t (ix3 k r o) = V m c main_v29 (ix3 k ⟨256 * t.val + r.val, row_lt t r⟩ o) := by
  blk_point [iblk, idx t]

theorem g1 (c : Dev nD) (t : Fin cfg0.N) (r : Fin 256) (o : Fin 128) :
    iblk m c 1 t (ix2 r o) = V m c main_v58 (ix2 ⟨256 * t.val + r.val, row_lt t r⟩ o) := by
  blk_point [iblk, idx t]

theorem g2 (c : Dev nD) (t : Fin cfg0.N) (r : Fin 256) (o : Fin 128) :
    iblk m c 2 t (ix2 r o) = V m c main_v87 (ix2 ⟨256 * t.val + r.val, row_lt t r⟩ o) := by
  blk_point [iblk, idx t]

theorem g3 (c : Dev nD) (t : Fin cfg0.N) (r : Fin 256) (o : Fin 128) :
    iblk m c 3 t (ix2 r o) = V m c main_v116 (ix2 ⟨256 * t.val + r.val, row_lt t r⟩ o) := by
  blk_point [iblk, idx t]

theorem emb4 (x : FVec Ideal S1536x128 .f32) (t : Fin cfg0.N) (r : Fin 256) (o : Fin 128) :
    x (((cfg0.win 4).blk t).view.emb (ix2 r o)) = x (ix2 ⟨256 * t.val + r.val, row_lt t r⟩ o) := by
  blk_point [idx t]

theorem emb5 (x : FVec Ideal S1536x128 .f32) (t : Fin cfg0.N) (r : Fin 256) (o : Fin 128) :
    x (((cfg0.win 5).blk t).view.emb (ix2 r o)) = x (ix2 ⟨256 * t.val + r.val, row_lt t r⟩ o) := by
  blk_point [idx t]

theorem emb6 (x : FVec Ideal S1536x128 .f32) (t : Fin cfg0.N) (r : Fin 256) (o : Fin 128) :
    x (((cfg0.win 6).blk t).view.emb (ix2 r o)) = x (ix2 ⟨256 * t.val + r.val, row_lt t r⟩ o) := by
  blk_point [idx t]

theorem emb7 (x : FVec Ideal S1536x128 .f32) (t : Fin cfg0.N) (r : Fin 256) (o : Fin 128) :
    x (((cfg0.win 7).blk t).view.emb (ix2 r o)) = x (ix2 ⟨256 * t.val + r.val, row_lt t r⟩ o) := by
  blk_point [idx t]

/-- The devices' parts of a block summed. -/
theorem sum0 (x : FVec Ideal S8x256x128 .f32) (r : Fin 256) (o : Fin 128) :
    k0_pay3 (F := Ideal) (View.ld x r0_0) (View.ld x r0_1) (View.ld x r0_2) (View.ld x r0_3) (View.ld x r0_4) (View.ld x r0_5) (View.ld x r0_6) (View.ld x r0_7) (ix2 r o) = ∑ k : Fin 8, x (ix3 k r o) := by
  rw [Fin.sum_univ_eight]
  pointwise [k0_pay3]

/-- A block's gradient is the packed gradient there. -/
theorem sum_grad (c : Dev nD) (t : Fin cfg0.N) (r : Fin 256) (o : Fin 128) :
    k0_pay5 (F := Ideal) (iblk m c 0 t) (iblk m c 1 t) (iblk m c 2 t) (iblk m c 3 t) (ix2 r o) = G (V m c main_v29) (ix2 ⟨256 * t.val + r.val, row_lt t r⟩ o) := by
  rw [G_at, k0_pay5, sum0]
  exact Finset.sum_congr rfl fun k _ => g0 m c t k r o

theorem point6 (c : Dev nD) (t : Fin cfg0.N) (r : Fin 256) (o : Fin 128) :
    k0_pay6 (F := Ideal) (iblk m c 0 t) (iblk m c 1 t) (iblk m c 2 t) (iblk m c 3 t) (ix2 r o) = Adam.mom (G (V m c main_v29) (ix2 ⟨256 * t.val + r.val, row_lt t r⟩ o)) ((V m c main_v87) (ix2 ⟨256 * t.val + r.val, row_lt t r⟩ o)) := by
  rw [← sum_grad m c t r o, ← g2 m c t r o, ← whole (iblk m c 2 t) r o]
  pointwise [k0_pay6, k0_pay4, k0_pay5, Adam.mom]

theorem point7 (c : Dev nD) (t : Fin cfg0.N) (r : Fin 256) (o : Fin 128) :
    k0_pay1 (F := Ideal) (k0_pay5 (iblk m c 0 t) (iblk m c 1 t) (iblk m c 2 t) (iblk m c 3 t)) (iblk m c 3 t) (ix2 r o) = Adam.var (G (V m c main_v29) (ix2 ⟨256 * t.val + r.val, row_lt t r⟩ o)) ((V m c main_v116) (ix2 ⟨256 * t.val + r.val, row_lt t r⟩ o)) := by
  rw [← sum_grad m c t r o, ← g3 m c t r o]
  pointwise [k0_pay1, Adam.var]

theorem point5 (c : Dev nD) (t : Fin cfg0.N) (r : Fin 256) (o : Fin 128) :
    k0_pay2 (F := Ideal) (k0_pay5 (iblk m c 0 t) (iblk m c 1 t) (iblk m c 2 t) (iblk m c 3 t)) (k0_pay6 (iblk m c 0 t) (iblk m c 1 t) (iblk m c 2 t) (iblk m c 3 t)) (iblk m c 3 t) (iblk m c 1 t) (ix2 r o)
      = Adam.change ((V m c main_v58) (ix2 ⟨256 * t.val + r.val, row_lt t r⟩ o)) (G (V m c main_v29) (ix2 ⟨256 * t.val + r.val, row_lt t r⟩ o)) ((V m c main_v87) (ix2 ⟨256 * t.val + r.val, row_lt t r⟩ o)) ((V m c main_v116) (ix2 ⟨256 * t.val + r.val, row_lt t r⟩ o)) := by
  rw [Adam.change, ← point6 m c t r o, ← point7 m c t r o, ← g1 m c t r o]
  pointwise [k0_pay2, k0_pay1]

theorem result4 (c : Dev nD) : (dats m 0 c).arrAt 4 (cfgs 0).N = G (V m c main_v29) := by
  refine (dats m 0 c).arrAt_eq_of_covers 4 _ (by decide +kernel) fun t hf y => ?_
  blk_simp
  rw [after0_4]
  frame_out
  idx_vars y
  exact (sum_grad m c t _ _).trans (emb4 _ t _ _).symm

theorem result5 (c : Dev nD) : (dats m 0 c).arrAt 5 (cfgs 0).N
    = fun i => Adam.change ((V m c main_v58) i) (G (V m c main_v29) i) ((V m c main_v87) i) ((V m c main_v116) i) := by
  refine (dats m 0 c).arrAt_eq_of_covers 5 _ (by decide +kernel) fun t hf y => ?_
  blk_simp
  rw [after0_5]
  frame_out
  idx_vars y
  exact (point5 m c t _ _).trans (emb5 (fun i => Adam.change ((V m c main_v58) i) (G (V m c main_v29) i) ((V m c main_v87) i) ((V m c main_v116) i)) t _ _).symm

theorem result6 (c : Dev nD) : (dats m 0 c).arrAt 6 (cfgs 0).N
    = fun i => Adam.mom (G (V m c main_v29) i) ((V m c main_v87) i) := by
  refine (dats m 0 c).arrAt_eq_of_covers 6 _ (by decide +kernel) fun t hf y => ?_
  blk_simp
  rw [after0_6]
  frame_out
  idx_vars y
  exact (point6 m c t _ _).trans (emb6 (fun i => Adam.mom (G (V m c main_v29) i) ((V m c main_v87) i)) t _ _).symm

theorem result7 (c : Dev nD) : (dats m 0 c).arrAt 7 (cfgs 0).N
    = fun i => Adam.var (G (V m c main_v29) i) ((V m c main_v116) i) := by
  refine (dats m 0 c).arrAt_eq_of_covers 7 _ (by decide +kernel) fun t hf y => ?_
  blk_simp
  rw [after0_7]
  frame_out
  idx_vars y
  exact (point7 m c t _ _).trans (emb7 (fun i => Adam.var (G (V m c main_v29) i) ((V m c main_v116) i)) t _ _).symm

end Cert.SmallEarlyIdeal.Value

end
-- ==== Proof.SmallEarlyRef.lean ====
module

public import proofs.«01_k».proof.Proof.Adam
public import proofs.«01_k».proof.Proof.Gen.SmallEarlyRefIdeal.Read
public import Idealize.ShloMosaic.Lib.Pipeline.ValueKit

/-!
The reference, weight by weight: the sum of the devices' parts and the step it leads to.
-/

@[expose] public section

set_option maxRecDepth 16384
set_option maxHeartbeats 1000000

noncomputable section

open Idealize.ShloMosaic Idealize.ShloMosaic.TcCoe Idealize.SL.Sem

namespace Cert.SmallEarlyRefIdeal.Value
open Cert.SmallEarlyRefIdeal Cert.SmallEarlyRefIdeal.Read

/-- The gradient of `q_norm`: the sum of the devices' parts. -/
def Grad_q_norm (p : FVec Ideal S8x2x64 .f32) : FVec Ideal S2x64 .f32 := fun i => ∑ k : Fin 8, p (ix3 k (i 0) (i 1))

/-- The reference sums the devices' parts of `q_norm`. -/
theorem grad_q_norm (p : FVec Ideal S8x2x64 .f32) : val_main_v0 (F := Ideal) p = Grad_q_norm p := by
  funext i
  idx_vars i
  simp only [val_main_v0, val_main_cst, Grad_q_norm]
  pointwise

/-- The reference's first moments of `q_norm`. -/
theorem mom_q_norm (p : FVec Ideal S8x2x64 .f32) (m : FVec Ideal S2x64 .f32) : val_main_v5 (F := Ideal) p m = fun i => Adam.mom (Grad_q_norm p i) (m i) := by
  unfold val_main_v5 val_main_v4
  rw [grad_q_norm]
  rfl

/-- The reference's second moments of `q_norm`. -/
theorem var_q_norm (p : FVec Ideal S8x2x64 .f32) (x : FVec Ideal S2x64 .f32) : val_main_v11 (F := Ideal) p x = fun i => Adam.var (Grad_q_norm p i) (x i) := by
  unfold val_main_v11 val_main_v10 val_main_v8
  rw [grad_q_norm]
  rfl

/-- The reference's changes of `q_norm`. -/
theorem change_q_norm (p : FVec Ideal S8x2x64 .f32) (w m x : FVec Ideal S2x64 .f32) :
    val_main_v24 (F := Ideal) p w m x = fun i => Adam.change (w i) (Grad_q_norm p i) (m i) (x i) := by
  unfold val_main_v24 val_main_v22 val_main_v19 val_main_v18 val_main_v16 val_main_v15 val_main_v13
  rw [mom_q_norm, var_q_norm]
  rfl

/-- The gradient of `sinks`: the sum of the devices' parts. -/
def Grad_sinks (p : FVec Ideal S8x2x8 .f32) : FVec Ideal S2x8 .f32 := fun i => ∑ k : Fin 8, p (ix3 k (i 0) (i 1))

/-- The reference sums the devices' parts of `sinks`. -/
theorem grad_sinks (p : FVec Ideal S8x2x8 .f32) : val_main_v25 (F := Ideal) p = Grad_sinks p := by
  funext i
  idx_vars i
  simp only [val_main_v25, val_main_cst_9, Grad_sinks]
  pointwise

/-- The reference's first moments of `sinks`. -/
theorem mom_sinks (p : FVec Ideal S8x2x8 .f32) (m : FVec Ideal S2x8 .f32) : val_main_v30 (F := Ideal) p m = fun i => Adam.mom (Grad_sinks p i) (m i) := by
  unfold val_main_v30 val_main_v29
  rw [grad_sinks]
  rfl

/-- The reference's second moments of `sinks`. -/
theorem var_sinks (p : FVec Ideal S8x2x8 .f32) (x : FVec Ideal S2x8 .f32) : val_main_v36 (F := Ideal) p x = fun i => Adam.var (Grad_sinks p i) (x i) := by
  unfold val_main_v36 val_main_v35 val_main_v33
  rw [grad_sinks]
  rfl

/-- The reference's changes of `sinks`. -/
theorem change_sinks (p : FVec Ideal S8x2x8 .f32) (w m x : FVec Ideal S2x8 .f32) :
    val_main_v49 (F := Ideal) p w m x = fun i => Adam.change (w i) (Grad_sinks p i) (m i) (x i) := by
  unfold val_main_v49 val_main_v47 val_main_v44 val_main_v43 val_main_v41 val_main_v40 val_main_v38
  rw [mom_sinks, var_sinks]
  rfl

/-- The gradient of `w_pool`: the sum of the devices' parts. -/
def Grad_w_pool (p : FVec Ideal S8x2x4x64x64 .f32) : FVec Ideal S2x4x64x64 .f32 := fun i => ∑ k : Fin 8, p (ix5 k (i 0) (i 1) (i 2) (i 3))

/-- The reference sums the devices' parts of `w_pool`. -/
theorem grad_w_pool (p : FVec Ideal S8x2x4x64x64 .f32) : val_main_v50 (F := Ideal) p = Grad_w_pool p := by
  funext i
  idx_vars i
  simp only [val_main_v50, val_main_cst_19, Grad_w_pool]
  pointwise

/-- The reference's first moments of `w_pool`. -/
theorem mom_w_pool (p : FVec Ideal S8x2x4x64x64 .f32) (m : FVec Ideal S2x4x64x64 .f32) : val_main_v55 (F := Ideal) p m = fun i => Adam.mom (Grad_w_pool p i) (m i) := by
  unfold val_main_v55 val_main_v54
  rw [grad_w_pool]
  rfl

/-- The reference's second moments of `w_pool`. -/
theorem var_w_pool (p : FVec Ideal S8x2x4x64x64 .f32) (x : FVec Ideal S2x4x64x64 .f32) : val_main_v61 (F := Ideal) p x = fun i => Adam.var (Grad_w_pool p i) (x i) := by
  unfold val_main_v61 val_main_v60 val_main_v58
  rw [grad_w_pool]
  rfl

/-- The reference's changes of `w_pool`. -/
theorem change_w_pool (p : FVec Ideal S8x2x4x64x64 .f32) (w m x : FVec Ideal S2x4x64x64 .f32) :
    val_main_v74 (F := Ideal) p w m x = fun i => Adam.change (w i) (Grad_w_pool p i) (m i) (x i) := by
  unfold val_main_v74 val_main_v72 val_main_v69 val_main_v68 val_main_v66 val_main_v65 val_main_v63
  rw [mom_w_pool, var_w_pool]
  rfl

/-- The gradient of `pool_scale`: the sum of the devices' parts. -/
def Grad_pool_scale (p : FVec Ideal S8x2x256 .f32) : FVec Ideal S2x256 .f32 := fun i => ∑ k : Fin 8, p (ix3 k (i 0) (i 1))

/-- The reference sums the devices' parts of `pool_scale`. -/
theorem grad_pool_scale (p : FVec Ideal S8x2x256 .f32) : val_main_v75 (F := Ideal) p = Grad_pool_scale p := by
  funext i
  idx_vars i
  simp only [val_main_v75, val_main_cst_29, Grad_pool_scale]
  pointwise

/-- The reference's first moments of `pool_scale`. -/
theorem mom_pool_scale (p : FVec Ideal S8x2x256 .f32) (m : FVec Ideal S2x256 .f32) : val_main_v80 (F := Ideal) p m = fun i => Adam.mom (Grad_pool_scale p i) (m i) := by
  unfold val_main_v80 val_main_v79
  rw [grad_pool_scale]
  rfl

/-- The reference's second moments of `pool_scale`. -/
theorem var_pool_scale (p : FVec Ideal S8x2x256 .f32) (x : FVec Ideal S2x256 .f32) : val_main_v86 (F := Ideal) p x = fun i => Adam.var (Grad_pool_scale p i) (x i) := by
  unfold val_main_v86 val_main_v85 val_main_v83
  rw [grad_pool_scale]
  rfl

/-- The reference's changes of `pool_scale`. -/
theorem change_pool_scale (p : FVec Ideal S8x2x256 .f32) (w m x : FVec Ideal S2x256 .f32) :
    val_main_v99 (F := Ideal) p w m x = fun i => Adam.change (w i) (Grad_pool_scale p i) (m i) (x i) := by
  unfold val_main_v99 val_main_v97 val_main_v94 val_main_v93 val_main_v91 val_main_v90 val_main_v88
  rw [mom_pool_scale, var_pool_scale]
  rfl

/-- The gradient of `sgu_v_norm`: the sum of the devices' parts. -/
def Grad_sgu_v_norm (p : FVec Ideal S8x2x64 .f32) : FVec Ideal S2x64 .f32 := fun i => ∑ k : Fin 8, p (ix3 k (i 0) (i 1))

/-- The reference sums the devices' parts of `sgu_v_norm`. -/
theorem grad_sgu_v_norm (p : FVec Ideal S8x2x64 .f32) : val_main_v100 (F := Ideal) p = Grad_sgu_v_norm p := by
  funext i
  idx_vars i
  simp only [val_main_v100, val_main_cst_39, Grad_sgu_v_norm]
  pointwise

/-- The reference's first moments of `sgu_v_norm`. -/
theorem mom_sgu_v_norm (p : FVec Ideal S8x2x64 .f32) (m : FVec Ideal S2x64 .f32) : val_main_v105 (F := Ideal) p m = fun i => Adam.mom (Grad_sgu_v_norm p i) (m i) := by
  unfold val_main_v105 val_main_v104
  rw [grad_sgu_v_norm]
  rfl

/-- The reference's second moments of `sgu_v_norm`. -/
theorem var_sgu_v_norm (p : FVec Ideal S8x2x64 .f32) (x : FVec Ideal S2x64 .f32) : val_main_v111 (F := Ideal) p x = fun i => Adam.var (Grad_sgu_v_norm p i) (x i) := by
  unfold val_main_v111 val_main_v110 val_main_v108
  rw [grad_sgu_v_norm]
  rfl

/-- The reference's changes of `sgu_v_norm`. -/
theorem change_sgu_v_norm (p : FVec Ideal S8x2x64 .f32) (w m x : FVec Ideal S2x64 .f32) :
    val_main_v124 (F := Ideal) p w m x = fun i => Adam.change (w i) (Grad_sgu_v_norm p i) (m i) (x i) := by
  unfold val_main_v124 val_main_v122 val_main_v119 val_main_v118 val_main_v116 val_main_v115 val_main_v113
  rw [mom_sgu_v_norm, var_sgu_v_norm]
  rfl

/-- The gradient of `w_s`: the sum of the devices' parts. -/
def Grad_w_s (p : FVec Ideal S8x2x4x128x128 .f32) : FVec Ideal S2x4x128x128 .f32 := fun i => ∑ k : Fin 8, p (ix5 k (i 0) (i 1) (i 2) (i 3))

/-- The reference sums the devices' parts of `w_s`. -/
theorem grad_w_s (p : FVec Ideal S8x2x4x128x128 .f32) : val_main_v125 (F := Ideal) p = Grad_w_s p := by
  funext i
  idx_vars i
  simp only [val_main_v125, val_main_cst_49, Grad_w_s]
  pointwise

/-- The reference's first moments of `w_s`. -/
theorem mom_w_s (p : FVec Ideal S8x2x4x128x128 .f32) (m : FVec Ideal S2x4x128x128 .f32) : val_main_v130 (F := Ideal) p m = fun i => Adam.mom (Grad_w_s p i) (m i) := by
  unfold val_main_v130 val_main_v129
  rw [grad_w_s]
  rfl

/-- The reference's second moments of `w_s`. -/
theorem var_w_s (p : FVec Ideal S8x2x4x128x128 .f32) (x : FVec Ideal S2x4x128x128 .f32) : val_main_v136 (F := Ideal) p x = fun i => Adam.var (Grad_w_s p i) (x i) := by
  unfold val_main_v136 val_main_v135 val_main_v133
  rw [grad_w_s]
  rfl

/-- The reference's changes of `w_s`. -/
theorem change_w_s (p : FVec Ideal S8x2x4x128x128 .f32) (w m x : FVec Ideal S2x4x128x128 .f32) :
    val_main_v149 (F := Ideal) p w m x = fun i => Adam.change (w i) (Grad_w_s p i) (m i) (x i) := by
  unfold val_main_v149 val_main_v147 val_main_v144 val_main_v143 val_main_v141 val_main_v140 val_main_v138
  rw [mom_w_s, var_w_s]
  rfl

/-- The gradient of `b_s`: the sum of the devices' parts. -/
def Grad_b_s (p : FVec Ideal S8x2x4x128 .f32) : FVec Ideal S2x4x128 .f32 := fun i => ∑ k : Fin 8, p (ix4 k (i 0) (i 1) (i 2))

/-- The reference sums the devices' parts of `b_s`. -/
theorem grad_b_s (p : FVec Ideal S8x2x4x128 .f32) : val_main_v150 (F := Ideal) p = Grad_b_s p := by
  funext i
  idx_vars i
  simp only [val_main_v150, val_main_cst_59, Grad_b_s]
  pointwise

/-- The reference's first moments of `b_s`. -/
theorem mom_b_s (p : FVec Ideal S8x2x4x128 .f32) (m : FVec Ideal S2x4x128 .f32) : val_main_v155 (F := Ideal) p m = fun i => Adam.mom (Grad_b_s p i) (m i) := by
  unfold val_main_v155 val_main_v154
  rw [grad_b_s]
  rfl

/-- The reference's second moments of `b_s`. -/
theorem var_b_s (p : FVec Ideal S8x2x4x128 .f32) (x : FVec Ideal S2x4x128 .f32) : val_main_v161 (F := Ideal) p x = fun i => Adam.var (Grad_b_s p i) (x i) := by
  unfold val_main_v161 val_main_v160 val_main_v158
  rw [grad_b_s]
  rfl

/-- The reference's changes of `b_s`. -/
theorem change_b_s (p : FVec Ideal S8x2x4x128 .f32) (w m x : FVec Ideal S2x4x128 .f32) :
    val_main_v174 (F := Ideal) p w m x = fun i => Adam.change (w i) (Grad_b_s p i) (m i) (x i) := by
  unfold val_main_v174 val_main_v172 val_main_v169 val_main_v168 val_main_v166 val_main_v165 val_main_v163
  rw [mom_b_s, var_b_s]
  rfl

/-- The gradient of `norm2`: the sum of the devices' parts. -/
def Grad_norm2 (p : FVec Ideal S8x2x1024 .f32) : FVec Ideal S2x1024 .f32 := fun i => ∑ k : Fin 8, p (ix3 k (i 0) (i 1))

/-- The reference sums the devices' parts of `norm2`. -/
theorem grad_norm2 (p : FVec Ideal S8x2x1024 .f32) : val_main_v175 (F := Ideal) p = Grad_norm2 p := by
  funext i
  idx_vars i
  simp only [val_main_v175, val_main_cst_69, Grad_norm2]
  pointwise

/-- The reference's first moments of `norm2`. -/
theorem mom_norm2 (p : FVec Ideal S8x2x1024 .f32) (m : FVec Ideal S2x1024 .f32) : val_main_v180 (F := Ideal) p m = fun i => Adam.mom (Grad_norm2 p i) (m i) := by
  unfold val_main_v180 val_main_v179
  rw [grad_norm2]
  rfl

/-- The reference's second moments of `norm2`. -/
theorem var_norm2 (p : FVec Ideal S8x2x1024 .f32) (x : FVec Ideal S2x1024 .f32) : val_main_v186 (F := Ideal) p x = fun i => Adam.var (Grad_norm2 p i) (x i) := by
  unfold val_main_v186 val_main_v185 val_main_v183
  rw [grad_norm2]
  rfl

/-- The reference's changes of `norm2`. -/
theorem change_norm2 (p : FVec Ideal S8x2x1024 .f32) (w m x : FVec Ideal S2x1024 .f32) :
    val_main_v199 (F := Ideal) p w m x = fun i => Adam.change (w i) (Grad_norm2 p i) (m i) (x i) := by
  unfold val_main_v199 val_main_v197 val_main_v194 val_main_v193 val_main_v191 val_main_v190 val_main_v188
  rw [mom_norm2, var_norm2]
  rfl

/-- The gradient of `conv_b`: the sum of the devices' parts. -/
def Grad_conv_b (p : FVec Ideal S8x2x5632 .f32) : FVec Ideal S2x5632 .f32 := fun i => ∑ k : Fin 8, p (ix3 k (i 0) (i 1))

/-- The reference sums the devices' parts of `conv_b`. -/
theorem grad_conv_b (p : FVec Ideal S8x2x5632 .f32) : val_main_v200 (F := Ideal) p = Grad_conv_b p := by
  funext i
  idx_vars i
  simp only [val_main_v200, val_main_cst_79, Grad_conv_b]
  pointwise

/-- The reference's first moments of `conv_b`. -/
theorem mom_conv_b (p : FVec Ideal S8x2x5632 .f32) (m : FVec Ideal S2x5632 .f32) : val_main_v205 (F := Ideal) p m = fun i => Adam.mom (Grad_conv_b p i) (m i) := by
  unfold val_main_v205 val_main_v204
  rw [grad_conv_b]
  rfl

/-- The reference's second moments of `conv_b`. -/
theorem var_conv_b (p : FVec Ideal S8x2x5632 .f32) (x : FVec Ideal S2x5632 .f32) : val_main_v211 (F := Ideal) p x = fun i => Adam.var (Grad_conv_b p i) (x i) := by
  unfold val_main_v211 val_main_v210 val_main_v208
  rw [grad_conv_b]
  rfl

/-- The reference's changes of `conv_b`. -/
theorem change_conv_b (p : FVec Ideal S8x2x5632 .f32) (w m x : FVec Ideal S2x5632 .f32) :
    val_main_v224 (F := Ideal) p w m x = fun i => Adam.change (w i) (Grad_conv_b p i) (m i) (x i) := by
  unfold val_main_v224 val_main_v222 val_main_v219 val_main_v218 val_main_v216 val_main_v215 val_main_v213
  rw [mom_conv_b, var_conv_b]
  rfl

end Cert.SmallEarlyRefIdeal.Value

end
-- ==== Proof.SmallEarly.lean ====
module

public import proofs.«01_k».proof.Defs
public import proofs.«01_k».proof.Proof.SmallEarlyPack
public import proofs.«01_k».proof.Proof.SmallEarlyRegion
public import proofs.«01_k».proof.Proof.SmallEarlyRef
public import proofs.«01_k».proof.Proof.Gen.SmallEarlyRefIdeal.Run
public import Idealize.ShloMosaic.Lib.Claim
public import Idealize.ShloMosaic.Lib.Quiescent

/-!
`SmallEarly`: the optimiser's call for the nine small weights exchanged early. The weights lie one after another in
packed rows; what the call leaves in a weight's rows is that weight's step.
-/

@[expose] public section

set_option maxRecDepth 16384
set_option maxHeartbeats 2000000

noncomputable section

open Idealize.ShloMosaic Idealize.ShloMosaic.TcCoe Idealize.SL.Sem
open Idealize.ShloMosaic.Pipeline (Dat)

namespace Cert.SmallEarlyIdeal.Value
open Cert.SmallEarlyIdeal Cert.SmallEarlyIdeal.Gen
open Cert.SmallEarlyRefIdeal.Value

variable (m : (ℓ : Loc nD τ sig) → Buf (Elt Ideal) ℓ)

theorem parts_eq (c : Dev nD) : V m c main_v29 = packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after _ _ (Proc.devRef .tc main_v29) = _
  simp only [List.flatten_cons, List.flatten_nil, List.cons_append, List.nil_append, List.append_nil]
  after_results
  rfl

theorem weights_eq (c : Dev nD) : V m c main_v58 = pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  show StableHlo.after _ _ (Proc.devRef .tc main_v58) = _
  simp only [List.flatten_cons, List.flatten_nil, List.cons_append, List.nil_append, List.append_nil]
  after_results
  rfl

theorem first_eq (c : Dev nD) : V m c main_v87 = pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  show StableHlo.after _ _ (Proc.devRef .tc main_v87) = _
  simp only [List.flatten_cons, List.flatten_nil, List.cons_append, List.nil_append, List.append_nil]
  after_results
  rfl

theorem second_eq (c : Dev nD) : V m c main_v116 = pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  show StableHlo.after _ _ (Proc.devRef .tc main_v116) = _
  simp only [List.flatten_cons, List.flatten_nil, List.cons_append, List.nil_append, List.append_nil]
  after_results
  rfl

/-- The packed gradient at an entry of `q_norm`. -/
theorem sum_q_norm (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (i : S2x64.Idx) :
    take_q_norm (G (packParts x0 x1 x2 x3 x4 x5 x6 x7 x8)) i = Grad_q_norm x0 i := by
  idx_vars i
  rw [take_q_norm_at, G_at]
  exact Finset.sum_congr rfl fun k _ => parts_q_norm_at _ _ _ _ _ _ _ _ _ k _ _

/-- Packing and taking out again. -/
theorem take_pack_q_norm (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (i : S2x64.Idx) :
    take_q_norm (pack x0 x1 x2 x3 x4 x5 x6 x7 x8) i = x0 i := by
  idx_vars i
  rw [take_q_norm_at]
  exact pack_q_norm_at _ _ _ _ _ _ _ _ _ _ _

theorem end_v121 (c : Dev nD) : Pipeline.afterTail₀ cfgs (dats m) 0 (V0 m) [hostOps1] c main_v121 = Grad_q_norm (m ((c : Thread nD τ).loc main_arg0)) := by
  have h : Pipeline.afterTail₀ cfgs (dats m) 0 (V0 m) [hostOps1] c main_v121 = take_q_norm ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_q_norm _ _ _ _ _ _ _ _ _ i

theorem end_v152 (c : Dev nD) : Pipeline.afterTail₀ cfgs (dats m) 0 (V0 m) [hostOps1] c main_v152 = fun i => Adam.change ((m ((c : Thread nD τ).loc main_arg9)) i) (Grad_q_norm (m ((c : Thread nD τ).loc main_arg0)) i) ((m ((c : Thread nD τ).loc main_arg18)) i) ((m ((c : Thread nD τ).loc main_arg27)) i) := by
  have h : Pipeline.afterTail₀ cfgs (dats m) 0 (V0 m) [hostOps1] c main_v152 = take_q_norm ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_q_norm (pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) i) (take_q_norm (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_q_norm (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) (take_q_norm (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [take_pack_q_norm, sum_q_norm, take_pack_q_norm, take_pack_q_norm]

theorem end_v183 (c : Dev nD) : Pipeline.afterTail₀ cfgs (dats m) 0 (V0 m) [hostOps1] c main_v183 = fun i => Adam.mom (Grad_q_norm (m ((c : Thread nD τ).loc main_arg0)) i) ((m ((c : Thread nD τ).loc main_arg18)) i) := by
  have h : Pipeline.afterTail₀ cfgs (dats m) 0 (V0 m) [hostOps1] c main_v183 = take_q_norm ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_q_norm (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_q_norm (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) = _
  rw [sum_q_norm, take_pack_q_norm]

theorem end_v214 (c : Dev nD) : Pipeline.afterTail₀ cfgs (dats m) 0 (V0 m) [hostOps1] c main_v214 = fun i => Adam.var (Grad_q_norm (m ((c : Thread nD τ).loc main_arg0)) i) ((m ((c : Thread nD τ).loc main_arg27)) i) := by
  have h : Pipeline.afterTail₀ cfgs (dats m) 0 (V0 m) [hostOps1] c main_v214 = take_q_norm ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_q_norm (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_q_norm (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [sum_q_norm, take_pack_q_norm]

/-- The packed gradient at an entry of `sinks`. -/
theorem sum_sinks (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (i : S2x8.Idx) :
    take_sinks (G (packParts x0 x1 x2 x3 x4 x5 x6 x7 x8)) i = Grad_sinks x1 i := by
  idx_vars i
  rw [take_sinks_at, G_at]
  exact Finset.sum_congr rfl fun k _ => parts_sinks_at _ _ _ _ _ _ _ _ _ k _ _

/-- Packing and taking out again. -/
theorem take_pack_sinks (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (i : S2x8.Idx) :
    take_sinks (pack x0 x1 x2 x3 x4 x5 x6 x7 x8) i = x1 i := by
  idx_vars i
  rw [take_sinks_at]
  exact pack_sinks_at _ _ _ _ _ _ _ _ _ _ _

theorem end_v125 (c : Dev nD) : Pipeline.afterTail₀ cfgs (dats m) 0 (V0 m) [hostOps1] c main_v125 = Grad_sinks (m ((c : Thread nD τ).loc main_arg1)) := by
  have h : Pipeline.afterTail₀ cfgs (dats m) 0 (V0 m) [hostOps1] c main_v125 = take_sinks ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_sinks _ _ _ _ _ _ _ _ _ i

theorem end_v156 (c : Dev nD) : Pipeline.afterTail₀ cfgs (dats m) 0 (V0 m) [hostOps1] c main_v156 = fun i => Adam.change ((m ((c : Thread nD τ).loc main_arg10)) i) (Grad_sinks (m ((c : Thread nD τ).loc main_arg1)) i) ((m ((c : Thread nD τ).loc main_arg19)) i) ((m ((c : Thread nD τ).loc main_arg28)) i) := by
  have h : Pipeline.afterTail₀ cfgs (dats m) 0 (V0 m) [hostOps1] c main_v156 = take_sinks ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_sinks (pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) i) (take_sinks (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_sinks (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) (take_sinks (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [take_pack_sinks, sum_sinks, take_pack_sinks, take_pack_sinks]

theorem end_v187 (c : Dev nD) : Pipeline.afterTail₀ cfgs (dats m) 0 (V0 m) [hostOps1] c main_v187 = fun i => Adam.mom (Grad_sinks (m ((c : Thread nD τ).loc main_arg1)) i) ((m ((c : Thread nD τ).loc main_arg19)) i) := by
  have h : Pipeline.afterTail₀ cfgs (dats m) 0 (V0 m) [hostOps1] c main_v187 = take_sinks ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_sinks (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_sinks (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) = _
  rw [sum_sinks, take_pack_sinks]

theorem end_v218 (c : Dev nD) : Pipeline.afterTail₀ cfgs (dats m) 0 (V0 m) [hostOps1] c main_v218 = fun i => Adam.var (Grad_sinks (m ((c : Thread nD τ).loc main_arg1)) i) ((m ((c : Thread nD τ).loc main_arg28)) i) := by
  have h : Pipeline.afterTail₀ cfgs (dats m) 0 (V0 m) [hostOps1] c main_v218 = take_sinks ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_sinks (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_sinks (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [sum_sinks, take_pack_sinks]

/-- The packed gradient at an entry of `w_pool`. -/
theorem sum_w_pool (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (i : S2x4x64x64.Idx) :
    take_w_pool (G (packParts x0 x1 x2 x3 x4 x5 x6 x7 x8)) i = Grad_w_pool x2 i := by
  idx_vars i
  rw [take_w_pool_at, G_at]
  exact Finset.sum_congr rfl fun k _ => parts_w_pool_at _ _ _ _ _ _ _ _ _ k _ _ _ _

/-- Packing and taking out again. -/
theorem take_pack_w_pool (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (i : S2x4x64x64.Idx) :
    take_w_pool (pack x0 x1 x2 x3 x4 x5 x6 x7 x8) i = x2 i := by
  idx_vars i
  rw [take_w_pool_at]
  exact pack_w_pool_at _ _ _ _ _ _ _ _ _ _ _ _ _

theorem end_v128 (c : Dev nD) : Pipeline.afterTail₀ cfgs (dats m) 0 (V0 m) [hostOps1] c main_v128 = Grad_w_pool (m ((c : Thread nD τ).loc main_arg2)) := by
  have h : Pipeline.afterTail₀ cfgs (dats m) 0 (V0 m) [hostOps1] c main_v128 = take_w_pool ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_w_pool _ _ _ _ _ _ _ _ _ i

theorem end_v159 (c : Dev nD) : Pipeline.afterTail₀ cfgs (dats m) 0 (V0 m) [hostOps1] c main_v159 = fun i => Adam.change ((m ((c : Thread nD τ).loc main_arg11)) i) (Grad_w_pool (m ((c : Thread nD τ).loc main_arg2)) i) ((m ((c : Thread nD τ).loc main_arg20)) i) ((m ((c : Thread nD τ).loc main_arg29)) i) := by
  have h : Pipeline.afterTail₀ cfgs (dats m) 0 (V0 m) [hostOps1] c main_v159 = take_w_pool ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_w_pool (pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) i) (take_w_pool (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_w_pool (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) (take_w_pool (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [take_pack_w_pool, sum_w_pool, take_pack_w_pool, take_pack_w_pool]

theorem end_v190 (c : Dev nD) : Pipeline.afterTail₀ cfgs (dats m) 0 (V0 m) [hostOps1] c main_v190 = fun i => Adam.mom (Grad_w_pool (m ((c : Thread nD τ).loc main_arg2)) i) ((m ((c : Thread nD τ).loc main_arg20)) i) := by
  have h : Pipeline.afterTail₀ cfgs (dats m) 0 (V0 m) [hostOps1] c main_v190 = take_w_pool ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_w_pool (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_w_pool (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) = _
  rw [sum_w_pool, take_pack_w_pool]

theorem end_v221 (c : Dev nD) : Pipeline.afterTail₀ cfgs (dats m) 0 (V0 m) [hostOps1] c main_v221 = fun i => Adam.var (Grad_w_pool (m ((c : Thread nD τ).loc main_arg2)) i) ((m ((c : Thread nD τ).loc main_arg29)) i) := by
  have h : Pipeline.afterTail₀ cfgs (dats m) 0 (V0 m) [hostOps1] c main_v221 = take_w_pool ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_w_pool (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_w_pool (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [sum_w_pool, take_pack_w_pool]

/-- The packed gradient at an entry of `pool_scale`. -/
theorem sum_pool_scale (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (i : S2x256.Idx) :
    take_pool_scale (G (packParts x0 x1 x2 x3 x4 x5 x6 x7 x8)) i = Grad_pool_scale x3 i := by
  idx_vars i
  rw [take_pool_scale_at, G_at]
  exact Finset.sum_congr rfl fun k _ => parts_pool_scale_at _ _ _ _ _ _ _ _ _ k _ _

/-- Packing and taking out again. -/
theorem take_pack_pool_scale (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (i : S2x256.Idx) :
    take_pool_scale (pack x0 x1 x2 x3 x4 x5 x6 x7 x8) i = x3 i := by
  idx_vars i
  rw [take_pool_scale_at]
  exact pack_pool_scale_at _ _ _ _ _ _ _ _ _ _ _

theorem end_v132 (c : Dev nD) : Pipeline.afterTail₀ cfgs (dats m) 0 (V0 m) [hostOps1] c main_v132 = Grad_pool_scale (m ((c : Thread nD τ).loc main_arg3)) := by
  have h : Pipeline.afterTail₀ cfgs (dats m) 0 (V0 m) [hostOps1] c main_v132 = take_pool_scale ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_pool_scale _ _ _ _ _ _ _ _ _ i

theorem end_v163 (c : Dev nD) : Pipeline.afterTail₀ cfgs (dats m) 0 (V0 m) [hostOps1] c main_v163 = fun i => Adam.change ((m ((c : Thread nD τ).loc main_arg12)) i) (Grad_pool_scale (m ((c : Thread nD τ).loc main_arg3)) i) ((m ((c : Thread nD τ).loc main_arg21)) i) ((m ((c : Thread nD τ).loc main_arg30)) i) := by
  have h : Pipeline.afterTail₀ cfgs (dats m) 0 (V0 m) [hostOps1] c main_v163 = take_pool_scale ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_pool_scale (pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) i) (take_pool_scale (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_pool_scale (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) (take_pool_scale (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [take_pack_pool_scale, sum_pool_scale, take_pack_pool_scale, take_pack_pool_scale]

theorem end_v194 (c : Dev nD) : Pipeline.afterTail₀ cfgs (dats m) 0 (V0 m) [hostOps1] c main_v194 = fun i => Adam.mom (Grad_pool_scale (m ((c : Thread nD τ).loc main_arg3)) i) ((m ((c : Thread nD τ).loc main_arg21)) i) := by
  have h : Pipeline.afterTail₀ cfgs (dats m) 0 (V0 m) [hostOps1] c main_v194 = take_pool_scale ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_pool_scale (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_pool_scale (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) = _
  rw [sum_pool_scale, take_pack_pool_scale]

theorem end_v225 (c : Dev nD) : Pipeline.afterTail₀ cfgs (dats m) 0 (V0 m) [hostOps1] c main_v225 = fun i => Adam.var (Grad_pool_scale (m ((c : Thread nD τ).loc main_arg3)) i) ((m ((c : Thread nD τ).loc main_arg30)) i) := by
  have h : Pipeline.afterTail₀ cfgs (dats m) 0 (V0 m) [hostOps1] c main_v225 = take_pool_scale ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_pool_scale (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_pool_scale (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [sum_pool_scale, take_pack_pool_scale]

/-- The packed gradient at an entry of `sgu_v_norm`. -/
theorem sum_sgu_v_norm (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (i : S2x64.Idx) :
    take_sgu_v_norm (G (packParts x0 x1 x2 x3 x4 x5 x6 x7 x8)) i = Grad_sgu_v_norm x4 i := by
  idx_vars i
  rw [take_sgu_v_norm_at, G_at]
  exact Finset.sum_congr rfl fun k _ => parts_sgu_v_norm_at _ _ _ _ _ _ _ _ _ k _ _

/-- Packing and taking out again. -/
theorem take_pack_sgu_v_norm (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (i : S2x64.Idx) :
    take_sgu_v_norm (pack x0 x1 x2 x3 x4 x5 x6 x7 x8) i = x4 i := by
  idx_vars i
  rw [take_sgu_v_norm_at]
  exact pack_sgu_v_norm_at _ _ _ _ _ _ _ _ _ _ _

theorem end_v136 (c : Dev nD) : Pipeline.afterTail₀ cfgs (dats m) 0 (V0 m) [hostOps1] c main_v136 = Grad_sgu_v_norm (m ((c : Thread nD τ).loc main_arg4)) := by
  have h : Pipeline.afterTail₀ cfgs (dats m) 0 (V0 m) [hostOps1] c main_v136 = take_sgu_v_norm ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_sgu_v_norm _ _ _ _ _ _ _ _ _ i

theorem end_v167 (c : Dev nD) : Pipeline.afterTail₀ cfgs (dats m) 0 (V0 m) [hostOps1] c main_v167 = fun i => Adam.change ((m ((c : Thread nD τ).loc main_arg13)) i) (Grad_sgu_v_norm (m ((c : Thread nD τ).loc main_arg4)) i) ((m ((c : Thread nD τ).loc main_arg22)) i) ((m ((c : Thread nD τ).loc main_arg31)) i) := by
  have h : Pipeline.afterTail₀ cfgs (dats m) 0 (V0 m) [hostOps1] c main_v167 = take_sgu_v_norm ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_sgu_v_norm (pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) i) (take_sgu_v_norm (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_sgu_v_norm (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) (take_sgu_v_norm (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [take_pack_sgu_v_norm, sum_sgu_v_norm, take_pack_sgu_v_norm, take_pack_sgu_v_norm]

theorem end_v198 (c : Dev nD) : Pipeline.afterTail₀ cfgs (dats m) 0 (V0 m) [hostOps1] c main_v198 = fun i => Adam.mom (Grad_sgu_v_norm (m ((c : Thread nD τ).loc main_arg4)) i) ((m ((c : Thread nD τ).loc main_arg22)) i) := by
  have h : Pipeline.afterTail₀ cfgs (dats m) 0 (V0 m) [hostOps1] c main_v198 = take_sgu_v_norm ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_sgu_v_norm (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_sgu_v_norm (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) = _
  rw [sum_sgu_v_norm, take_pack_sgu_v_norm]

theorem end_v229 (c : Dev nD) : Pipeline.afterTail₀ cfgs (dats m) 0 (V0 m) [hostOps1] c main_v229 = fun i => Adam.var (Grad_sgu_v_norm (m ((c : Thread nD τ).loc main_arg4)) i) ((m ((c : Thread nD τ).loc main_arg31)) i) := by
  have h : Pipeline.afterTail₀ cfgs (dats m) 0 (V0 m) [hostOps1] c main_v229 = take_sgu_v_norm ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_sgu_v_norm (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_sgu_v_norm (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [sum_sgu_v_norm, take_pack_sgu_v_norm]

/-- The packed gradient at an entry of `w_s`. -/
theorem sum_w_s (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (i : S2x4x128x128.Idx) :
    take_w_s (G (packParts x0 x1 x2 x3 x4 x5 x6 x7 x8)) i = Grad_w_s x5 i := by
  idx_vars i
  rw [take_w_s_at, G_at]
  exact Finset.sum_congr rfl fun k _ => parts_w_s_at _ _ _ _ _ _ _ _ _ k _ _ _ _

/-- Packing and taking out again. -/
theorem take_pack_w_s (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (i : S2x4x128x128.Idx) :
    take_w_s (pack x0 x1 x2 x3 x4 x5 x6 x7 x8) i = x5 i := by
  idx_vars i
  rw [take_w_s_at]
  exact pack_w_s_at _ _ _ _ _ _ _ _ _ _ _ _ _

theorem end_v139 (c : Dev nD) : Pipeline.afterTail₀ cfgs (dats m) 0 (V0 m) [hostOps1] c main_v139 = Grad_w_s (m ((c : Thread nD τ).loc main_arg5)) := by
  have h : Pipeline.afterTail₀ cfgs (dats m) 0 (V0 m) [hostOps1] c main_v139 = take_w_s ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_w_s _ _ _ _ _ _ _ _ _ i

theorem end_v170 (c : Dev nD) : Pipeline.afterTail₀ cfgs (dats m) 0 (V0 m) [hostOps1] c main_v170 = fun i => Adam.change ((m ((c : Thread nD τ).loc main_arg14)) i) (Grad_w_s (m ((c : Thread nD τ).loc main_arg5)) i) ((m ((c : Thread nD τ).loc main_arg23)) i) ((m ((c : Thread nD τ).loc main_arg32)) i) := by
  have h : Pipeline.afterTail₀ cfgs (dats m) 0 (V0 m) [hostOps1] c main_v170 = take_w_s ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_w_s (pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) i) (take_w_s (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_w_s (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) (take_w_s (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [take_pack_w_s, sum_w_s, take_pack_w_s, take_pack_w_s]

theorem end_v201 (c : Dev nD) : Pipeline.afterTail₀ cfgs (dats m) 0 (V0 m) [hostOps1] c main_v201 = fun i => Adam.mom (Grad_w_s (m ((c : Thread nD τ).loc main_arg5)) i) ((m ((c : Thread nD τ).loc main_arg23)) i) := by
  have h : Pipeline.afterTail₀ cfgs (dats m) 0 (V0 m) [hostOps1] c main_v201 = take_w_s ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_w_s (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_w_s (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) = _
  rw [sum_w_s, take_pack_w_s]

theorem end_v232 (c : Dev nD) : Pipeline.afterTail₀ cfgs (dats m) 0 (V0 m) [hostOps1] c main_v232 = fun i => Adam.var (Grad_w_s (m ((c : Thread nD τ).loc main_arg5)) i) ((m ((c : Thread nD τ).loc main_arg32)) i) := by
  have h : Pipeline.afterTail₀ cfgs (dats m) 0 (V0 m) [hostOps1] c main_v232 = take_w_s ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_w_s (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_w_s (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [sum_w_s, take_pack_w_s]

/-- The packed gradient at an entry of `b_s`. -/
theorem sum_b_s (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (i : S2x4x128.Idx) :
    take_b_s (G (packParts x0 x1 x2 x3 x4 x5 x6 x7 x8)) i = Grad_b_s x6 i := by
  idx_vars i
  rw [take_b_s_at, G_at]
  exact Finset.sum_congr rfl fun k _ => parts_b_s_at _ _ _ _ _ _ _ _ _ k _ _ _

/-- Packing and taking out again. -/
theorem take_pack_b_s (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (i : S2x4x128.Idx) :
    take_b_s (pack x0 x1 x2 x3 x4 x5 x6 x7 x8) i = x6 i := by
  idx_vars i
  rw [take_b_s_at]
  exact pack_b_s_at _ _ _ _ _ _ _ _ _ _ _ _

theorem end_v142 (c : Dev nD) : Pipeline.afterTail₀ cfgs (dats m) 0 (V0 m) [hostOps1] c main_v142 = Grad_b_s (m ((c : Thread nD τ).loc main_arg6)) := by
  have h : Pipeline.afterTail₀ cfgs (dats m) 0 (V0 m) [hostOps1] c main_v142 = take_b_s ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_b_s _ _ _ _ _ _ _ _ _ i

theorem end_v173 (c : Dev nD) : Pipeline.afterTail₀ cfgs (dats m) 0 (V0 m) [hostOps1] c main_v173 = fun i => Adam.change ((m ((c : Thread nD τ).loc main_arg15)) i) (Grad_b_s (m ((c : Thread nD τ).loc main_arg6)) i) ((m ((c : Thread nD τ).loc main_arg24)) i) ((m ((c : Thread nD τ).loc main_arg33)) i) := by
  have h : Pipeline.afterTail₀ cfgs (dats m) 0 (V0 m) [hostOps1] c main_v173 = take_b_s ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_b_s (pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) i) (take_b_s (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_b_s (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) (take_b_s (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [take_pack_b_s, sum_b_s, take_pack_b_s, take_pack_b_s]

theorem end_v204 (c : Dev nD) : Pipeline.afterTail₀ cfgs (dats m) 0 (V0 m) [hostOps1] c main_v204 = fun i => Adam.mom (Grad_b_s (m ((c : Thread nD τ).loc main_arg6)) i) ((m ((c : Thread nD τ).loc main_arg24)) i) := by
  have h : Pipeline.afterTail₀ cfgs (dats m) 0 (V0 m) [hostOps1] c main_v204 = take_b_s ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_b_s (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_b_s (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) = _
  rw [sum_b_s, take_pack_b_s]

theorem end_v235 (c : Dev nD) : Pipeline.afterTail₀ cfgs (dats m) 0 (V0 m) [hostOps1] c main_v235 = fun i => Adam.var (Grad_b_s (m ((c : Thread nD τ).loc main_arg6)) i) ((m ((c : Thread nD τ).loc main_arg33)) i) := by
  have h : Pipeline.afterTail₀ cfgs (dats m) 0 (V0 m) [hostOps1] c main_v235 = take_b_s ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_b_s (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_b_s (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [sum_b_s, take_pack_b_s]

/-- The packed gradient at an entry of `norm2`. -/
theorem sum_norm2 (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (i : S2x1024.Idx) :
    take_norm2 (G (packParts x0 x1 x2 x3 x4 x5 x6 x7 x8)) i = Grad_norm2 x7 i := by
  idx_vars i
  rw [take_norm2_at, G_at]
  exact Finset.sum_congr rfl fun k _ => parts_norm2_at _ _ _ _ _ _ _ _ _ k _ _

/-- Packing and taking out again. -/
theorem take_pack_norm2 (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (i : S2x1024.Idx) :
    take_norm2 (pack x0 x1 x2 x3 x4 x5 x6 x7 x8) i = x7 i := by
  idx_vars i
  rw [take_norm2_at]
  exact pack_norm2_at _ _ _ _ _ _ _ _ _ _ _

theorem end_v145 (c : Dev nD) : Pipeline.afterTail₀ cfgs (dats m) 0 (V0 m) [hostOps1] c main_v145 = Grad_norm2 (m ((c : Thread nD τ).loc main_arg7)) := by
  have h : Pipeline.afterTail₀ cfgs (dats m) 0 (V0 m) [hostOps1] c main_v145 = take_norm2 ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_norm2 _ _ _ _ _ _ _ _ _ i

theorem end_v176 (c : Dev nD) : Pipeline.afterTail₀ cfgs (dats m) 0 (V0 m) [hostOps1] c main_v176 = fun i => Adam.change ((m ((c : Thread nD τ).loc main_arg16)) i) (Grad_norm2 (m ((c : Thread nD τ).loc main_arg7)) i) ((m ((c : Thread nD τ).loc main_arg25)) i) ((m ((c : Thread nD τ).loc main_arg34)) i) := by
  have h : Pipeline.afterTail₀ cfgs (dats m) 0 (V0 m) [hostOps1] c main_v176 = take_norm2 ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_norm2 (pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) i) (take_norm2 (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_norm2 (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) (take_norm2 (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [take_pack_norm2, sum_norm2, take_pack_norm2, take_pack_norm2]

theorem end_v207 (c : Dev nD) : Pipeline.afterTail₀ cfgs (dats m) 0 (V0 m) [hostOps1] c main_v207 = fun i => Adam.mom (Grad_norm2 (m ((c : Thread nD τ).loc main_arg7)) i) ((m ((c : Thread nD τ).loc main_arg25)) i) := by
  have h : Pipeline.afterTail₀ cfgs (dats m) 0 (V0 m) [hostOps1] c main_v207 = take_norm2 ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_norm2 (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_norm2 (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) = _
  rw [sum_norm2, take_pack_norm2]

theorem end_v238 (c : Dev nD) : Pipeline.afterTail₀ cfgs (dats m) 0 (V0 m) [hostOps1] c main_v238 = fun i => Adam.var (Grad_norm2 (m ((c : Thread nD τ).loc main_arg7)) i) ((m ((c : Thread nD τ).loc main_arg34)) i) := by
  have h : Pipeline.afterTail₀ cfgs (dats m) 0 (V0 m) [hostOps1] c main_v238 = take_norm2 ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_norm2 (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_norm2 (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [sum_norm2, take_pack_norm2]

/-- The packed gradient at an entry of `conv_b`. -/
theorem sum_conv_b (x0 : FVec Ideal S8x2x64 .f32) (x1 : FVec Ideal S8x2x8 .f32) (x2 : FVec Ideal S8x2x4x64x64 .f32) (x3 : FVec Ideal S8x2x256 .f32) (x4 : FVec Ideal S8x2x64 .f32) (x5 : FVec Ideal S8x2x4x128x128 .f32) (x6 : FVec Ideal S8x2x4x128 .f32) (x7 : FVec Ideal S8x2x1024 .f32) (x8 : FVec Ideal S8x2x5632 .f32) (i : S2x5632.Idx) :
    take_conv_b (G (packParts x0 x1 x2 x3 x4 x5 x6 x7 x8)) i = Grad_conv_b x8 i := by
  idx_vars i
  rw [take_conv_b_at, G_at]
  exact Finset.sum_congr rfl fun k _ => parts_conv_b_at _ _ _ _ _ _ _ _ _ k _ _

/-- Packing and taking out again. -/
theorem take_pack_conv_b (x0 : FVec Ideal S2x64 .f32) (x1 : FVec Ideal S2x8 .f32) (x2 : FVec Ideal S2x4x64x64 .f32) (x3 : FVec Ideal S2x256 .f32) (x4 : FVec Ideal S2x64 .f32) (x5 : FVec Ideal S2x4x128x128 .f32) (x6 : FVec Ideal S2x4x128 .f32) (x7 : FVec Ideal S2x1024 .f32) (x8 : FVec Ideal S2x5632 .f32) (i : S2x5632.Idx) :
    take_conv_b (pack x0 x1 x2 x3 x4 x5 x6 x7 x8) i = x8 i := by
  idx_vars i
  rw [take_conv_b_at]
  exact pack_conv_b_at _ _ _ _ _ _ _ _ _ _ _

theorem end_v148 (c : Dev nD) : Pipeline.afterTail₀ cfgs (dats m) 0 (V0 m) [hostOps1] c main_v148 = Grad_conv_b (m ((c : Thread nD τ).loc main_arg8)) := by
  have h : Pipeline.afterTail₀ cfgs (dats m) 0 (V0 m) [hostOps1] c main_v148 = take_conv_b ((dats m 0 c).arrAt 4 (cfgs 0).N) := by
    unfold Pipeline.afterTail₀
    simp only [List.flatten_cons, List.flatten_nil, List.cons_append, List.nil_append, List.append_nil]
    after_results
    erw [Pipeline.withArrays_arr _ launch0.win.arr_inj c _ _ 4]
    rfl
  rw [h, result4, parts_eq]
  exact funext fun i => sum_conv_b _ _ _ _ _ _ _ _ _ i

theorem end_v179 (c : Dev nD) : Pipeline.afterTail₀ cfgs (dats m) 0 (V0 m) [hostOps1] c main_v179 = fun i => Adam.change ((m ((c : Thread nD τ).loc main_arg17)) i) (Grad_conv_b (m ((c : Thread nD τ).loc main_arg8)) i) ((m ((c : Thread nD τ).loc main_arg26)) i) ((m ((c : Thread nD τ).loc main_arg35)) i) := by
  have h : Pipeline.afterTail₀ cfgs (dats m) 0 (V0 m) [hostOps1] c main_v179 = take_conv_b ((dats m 0 c).arrAt 5 (cfgs 0).N) := by
    unfold Pipeline.afterTail₀
    simp only [List.flatten_cons, List.flatten_nil, List.cons_append, List.nil_append, List.append_nil]
    after_results
    erw [Pipeline.withArrays_arr _ launch0.win.arr_inj c _ _ 5]
    rfl
  rw [h, result5, parts_eq, weights_eq, first_eq, second_eq]
  funext i
  show Adam.change (take_conv_b (pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) i) (take_conv_b (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_conv_b (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) (take_conv_b (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [take_pack_conv_b, sum_conv_b, take_pack_conv_b, take_pack_conv_b]

theorem end_v210 (c : Dev nD) : Pipeline.afterTail₀ cfgs (dats m) 0 (V0 m) [hostOps1] c main_v210 = fun i => Adam.mom (Grad_conv_b (m ((c : Thread nD τ).loc main_arg8)) i) ((m ((c : Thread nD τ).loc main_arg26)) i) := by
  have h : Pipeline.afterTail₀ cfgs (dats m) 0 (V0 m) [hostOps1] c main_v210 = take_conv_b ((dats m 0 c).arrAt 6 (cfgs 0).N) := by
    unfold Pipeline.afterTail₀
    simp only [List.flatten_cons, List.flatten_nil, List.cons_append, List.nil_append, List.append_nil]
    after_results
    erw [Pipeline.withArrays_arr _ launch0.win.arr_inj c _ _ 6]
    rfl
  rw [h, result6, parts_eq, first_eq]
  funext i
  show Adam.mom (take_conv_b (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_conv_b (pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) i) = _
  rw [sum_conv_b, take_pack_conv_b]

theorem end_v241 (c : Dev nD) : Pipeline.afterTail₀ cfgs (dats m) 0 (V0 m) [hostOps1] c main_v241 = fun i => Adam.var (Grad_conv_b (m ((c : Thread nD τ).loc main_arg8)) i) ((m ((c : Thread nD τ).loc main_arg35)) i) := by
  have h : Pipeline.afterTail₀ cfgs (dats m) 0 (V0 m) [hostOps1] c main_v241 = take_conv_b ((dats m 0 c).arrAt 7 (cfgs 0).N) := by
    unfold Pipeline.afterTail₀
    simp only [List.flatten_cons, List.flatten_nil, List.cons_append, List.nil_append, List.append_nil]
    after_results
    erw [Pipeline.withArrays_arr _ launch0.win.arr_inj c _ _ 7]
    rfl
  rw [h, result7, parts_eq, second_eq]
  funext i
  show Adam.var (take_conv_b (G (packParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) i) (take_conv_b (pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) i) = _
  rw [sum_conv_b, take_pack_conv_b]

/-- The call runs to an end with every weight's step in its results and its arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v121) = Grad_q_norm (m ((c : Thread nD τ).loc main_arg0))
      ∧ r.2.mem ((c.tc : Thread nD τ).loc main_v152) = (fun i => Adam.change ((m ((c : Thread nD τ).loc main_arg9)) i) (Grad_q_norm (m ((c : Thread nD τ).loc main_arg0)) i) ((m ((c : Thread nD τ).loc main_arg18)) i) ((m ((c : Thread nD τ).loc main_arg27)) i))
      ∧ r.2.mem ((c.tc : Thread nD τ).loc main_v183) = (fun i => Adam.mom (Grad_q_norm (m ((c : Thread nD τ).loc main_arg0)) i) ((m ((c : Thread nD τ).loc main_arg18)) i))
      ∧ r.2.mem ((c.tc : Thread nD τ).loc main_v214) = (fun i => Adam.var (Grad_q_norm (m ((c : Thread nD τ).loc main_arg0)) i) ((m ((c : Thread nD τ).loc main_arg27)) i))
      ∧ r.2.mem ((c.tc : Thread nD τ).loc main_v125) = Grad_sinks (m ((c : Thread nD τ).loc main_arg1))
      ∧ r.2.mem ((c.tc : Thread nD τ).loc main_v156) = (fun i => Adam.change ((m ((c : Thread nD τ).loc main_arg10)) i) (Grad_sinks (m ((c : Thread nD τ).loc main_arg1)) i) ((m ((c : Thread nD τ).loc main_arg19)) i) ((m ((c : Thread nD τ).loc main_arg28)) i))
      ∧ r.2.mem ((c.tc : Thread nD τ).loc main_v187) = (fun i => Adam.mom (Grad_sinks (m ((c : Thread nD τ).loc main_arg1)) i) ((m ((c : Thread nD τ).loc main_arg19)) i))
      ∧ r.2.mem ((c.tc : Thread nD τ).loc main_v218) = (fun i => Adam.var (Grad_sinks (m ((c : Thread nD τ).loc main_arg1)) i) ((m ((c : Thread nD τ).loc main_arg28)) i))
      ∧ r.2.mem ((c.tc : Thread nD τ).loc main_v128) = Grad_w_pool (m ((c : Thread nD τ).loc main_arg2))
      ∧ r.2.mem ((c.tc : Thread nD τ).loc main_v159) = (fun i => Adam.change ((m ((c : Thread nD τ).loc main_arg11)) i) (Grad_w_pool (m ((c : Thread nD τ).loc main_arg2)) i) ((m ((c : Thread nD τ).loc main_arg20)) i) ((m ((c : Thread nD τ).loc main_arg29)) i))
      ∧ r.2.mem ((c.tc : Thread nD τ).loc main_v190) = (fun i => Adam.mom (Grad_w_pool (m ((c : Thread nD τ).loc main_arg2)) i) ((m ((c : Thread nD τ).loc main_arg20)) i))
      ∧ r.2.mem ((c.tc : Thread nD τ).loc main_v221) = (fun i => Adam.var (Grad_w_pool (m ((c : Thread nD τ).loc main_arg2)) i) ((m ((c : Thread nD τ).loc main_arg29)) i))
      ∧ r.2.mem ((c.tc : Thread nD τ).loc main_v132) = Grad_pool_scale (m ((c : Thread nD τ).loc main_arg3))
      ∧ r.2.mem ((c.tc : Thread nD τ).loc main_v163) = (fun i => Adam.change ((m ((c : Thread nD τ).loc main_arg12)) i) (Grad_pool_scale (m ((c : Thread nD τ).loc main_arg3)) i) ((m ((c : Thread nD τ).loc main_arg21)) i) ((m ((c : Thread nD τ).loc main_arg30)) i))
      ∧ r.2.mem ((c.tc : Thread nD τ).loc main_v194) = (fun i => Adam.mom (Grad_pool_scale (m ((c : Thread nD τ).loc main_arg3)) i) ((m ((c : Thread nD τ).loc main_arg21)) i))
      ∧ r.2.mem ((c.tc : Thread nD τ).loc main_v225) = (fun i => Adam.var (Grad_pool_scale (m ((c : Thread nD τ).loc main_arg3)) i) ((m ((c : Thread nD τ).loc main_arg30)) i))
      ∧ r.2.mem ((c.tc : Thread nD τ).loc main_v136) = Grad_sgu_v_norm (m ((c : Thread nD τ).loc main_arg4))
      ∧ r.2.mem ((c.tc : Thread nD τ).loc main_v167) = (fun i => Adam.change ((m ((c : Thread nD τ).loc main_arg13)) i) (Grad_sgu_v_norm (m ((c : Thread nD τ).loc main_arg4)) i) ((m ((c : Thread nD τ).loc main_arg22)) i) ((m ((c : Thread nD τ).loc main_arg31)) i))
      ∧ r.2.mem ((c.tc : Thread nD τ).loc main_v198) = (fun i => Adam.mom (Grad_sgu_v_norm (m ((c : Thread nD τ).loc main_arg4)) i) ((m ((c : Thread nD τ).loc main_arg22)) i))
      ∧ r.2.mem ((c.tc : Thread nD τ).loc main_v229) = (fun i => Adam.var (Grad_sgu_v_norm (m ((c : Thread nD τ).loc main_arg4)) i) ((m ((c : Thread nD τ).loc main_arg31)) i))
      ∧ r.2.mem ((c.tc : Thread nD τ).loc main_v139) = Grad_w_s (m ((c : Thread nD τ).loc main_arg5))
      ∧ r.2.mem ((c.tc : Thread nD τ).loc main_v170) = (fun i => Adam.change ((m ((c : Thread nD τ).loc main_arg14)) i) (Grad_w_s (m ((c : Thread nD τ).loc main_arg5)) i) ((m ((c : Thread nD τ).loc main_arg23)) i) ((m ((c : Thread nD τ).loc main_arg32)) i))
      ∧ r.2.mem ((c.tc : Thread nD τ).loc main_v201) = (fun i => Adam.mom (Grad_w_s (m ((c : Thread nD τ).loc main_arg5)) i) ((m ((c : Thread nD τ).loc main_arg23)) i))
      ∧ r.2.mem ((c.tc : Thread nD τ).loc main_v232) = (fun i => Adam.var (Grad_w_s (m ((c : Thread nD τ).loc main_arg5)) i) ((m ((c : Thread nD τ).loc main_arg32)) i))
      ∧ r.2.mem ((c.tc : Thread nD τ).loc main_v142) = Grad_b_s (m ((c : Thread nD τ).loc main_arg6))
      ∧ r.2.mem ((c.tc : Thread nD τ).loc main_v173) = (fun i => Adam.change ((m ((c : Thread nD τ).loc main_arg15)) i) (Grad_b_s (m ((c : Thread nD τ).loc main_arg6)) i) ((m ((c : Thread nD τ).loc main_arg24)) i) ((m ((c : Thread nD τ).loc main_arg33)) i))
      ∧ r.2.mem ((c.tc : Thread nD τ).loc main_v204) = (fun i => Adam.mom (Grad_b_s (m ((c : Thread nD τ).loc main_arg6)) i) ((m ((c : Thread nD τ).loc main_arg24)) i))
      ∧ r.2.mem ((c.tc : Thread nD τ).loc main_v235) = (fun i => Adam.var (Grad_b_s (m ((c : Thread nD τ).loc main_arg6)) i) ((m ((c : Thread nD τ).loc main_arg33)) i))
      ∧ r.2.mem ((c.tc : Thread nD τ).loc main_v145) = Grad_norm2 (m ((c : Thread nD τ).loc main_arg7))
      ∧ r.2.mem ((c.tc : Thread nD τ).loc main_v176) = (fun i => Adam.change ((m ((c : Thread nD τ).loc main_arg16)) i) (Grad_norm2 (m ((c : Thread nD τ).loc main_arg7)) i) ((m ((c : Thread nD τ).loc main_arg25)) i) ((m ((c : Thread nD τ).loc main_arg34)) i))
      ∧ r.2.mem ((c.tc : Thread nD τ).loc main_v207) = (fun i => Adam.mom (Grad_norm2 (m ((c : Thread nD τ).loc main_arg7)) i) ((m ((c : Thread nD τ).loc main_arg25)) i))
      ∧ r.2.mem ((c.tc : Thread nD τ).loc main_v238) = (fun i => Adam.var (Grad_norm2 (m ((c : Thread nD τ).loc main_arg7)) i) ((m ((c : Thread nD τ).loc main_arg34)) i))
      ∧ r.2.mem ((c.tc : Thread nD τ).loc main_v148) = Grad_conv_b (m ((c : Thread nD τ).loc main_arg8))
      ∧ r.2.mem ((c.tc : Thread nD τ).loc main_v179) = (fun i => Adam.change ((m ((c : Thread nD τ).loc main_arg17)) i) (Grad_conv_b (m ((c : Thread nD τ).loc main_arg8)) i) ((m ((c : Thread nD τ).loc main_arg26)) i) ((m ((c : Thread nD τ).loc main_arg35)) i))
      ∧ r.2.mem ((c.tc : Thread nD τ).loc main_v210) = (fun i => Adam.mom (Grad_conv_b (m ((c : Thread nD τ).loc main_arg8)) i) ((m ((c : Thread nD τ).loc main_arg26)) i))
      ∧ r.2.mem ((c.tc : Thread nD τ).loc main_v241) = (fun i => Adam.var (Grad_conv_b (m ((c : Thread nD τ).loc main_arg8)) i) ((m ((c : Thread nD τ).loc main_arg35)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) :=
  (θ_run defs _ _).mono (fun r h c => ⟨(h.1 c).2 main_v121 (Pipeline.mem_restRefs_of main_v121 (by decide) (by decide)) |>.trans (end_v121 m c),
      (h.1 c).2 main_v152 (Pipeline.mem_restRefs_of main_v152 (by decide) (by decide)) |>.trans (end_v152 m c),
      (h.1 c).2 main_v183 (Pipeline.mem_restRefs_of main_v183 (by decide) (by decide)) |>.trans (end_v183 m c),
      (h.1 c).2 main_v214 (Pipeline.mem_restRefs_of main_v214 (by decide) (by decide)) |>.trans (end_v214 m c),
      (h.1 c).2 main_v125 (Pipeline.mem_restRefs_of main_v125 (by decide) (by decide)) |>.trans (end_v125 m c),
      (h.1 c).2 main_v156 (Pipeline.mem_restRefs_of main_v156 (by decide) (by decide)) |>.trans (end_v156 m c),
      (h.1 c).2 main_v187 (Pipeline.mem_restRefs_of main_v187 (by decide) (by decide)) |>.trans (end_v187 m c),
      (h.1 c).2 main_v218 (Pipeline.mem_restRefs_of main_v218 (by decide) (by decide)) |>.trans (end_v218 m c),
      (h.1 c).2 main_v128 (Pipeline.mem_restRefs_of main_v128 (by decide) (by decide)) |>.trans (end_v128 m c),
      (h.1 c).2 main_v159 (Pipeline.mem_restRefs_of main_v159 (by decide) (by decide)) |>.trans (end_v159 m c),
      (h.1 c).2 main_v190 (Pipeline.mem_restRefs_of main_v190 (by decide) (by decide)) |>.trans (end_v190 m c),
      (h.1 c).2 main_v221 (Pipeline.mem_restRefs_of main_v221 (by decide) (by decide)) |>.trans (end_v221 m c),
      (h.1 c).2 main_v132 (Pipeline.mem_restRefs_of main_v132 (by decide) (by decide)) |>.trans (end_v132 m c),
      (h.1 c).2 main_v163 (Pipeline.mem_restRefs_of main_v163 (by decide) (by decide)) |>.trans (end_v163 m c),
      (h.1 c).2 main_v194 (Pipeline.mem_restRefs_of main_v194 (by decide) (by decide)) |>.trans (end_v194 m c),
      (h.1 c).2 main_v225 (Pipeline.mem_restRefs_of main_v225 (by decide) (by decide)) |>.trans (end_v225 m c),
      (h.1 c).2 main_v136 (Pipeline.mem_restRefs_of main_v136 (by decide) (by decide)) |>.trans (end_v136 m c),
      (h.1 c).2 main_v167 (Pipeline.mem_restRefs_of main_v167 (by decide) (by decide)) |>.trans (end_v167 m c),
      (h.1 c).2 main_v198 (Pipeline.mem_restRefs_of main_v198 (by decide) (by decide)) |>.trans (end_v198 m c),
      (h.1 c).2 main_v229 (Pipeline.mem_restRefs_of main_v229 (by decide) (by decide)) |>.trans (end_v229 m c),
      (h.1 c).2 main_v139 (Pipeline.mem_restRefs_of main_v139 (by decide) (by decide)) |>.trans (end_v139 m c),
      (h.1 c).2 main_v170 (Pipeline.mem_restRefs_of main_v170 (by decide) (by decide)) |>.trans (end_v170 m c),
      (h.1 c).2 main_v201 (Pipeline.mem_restRefs_of main_v201 (by decide) (by decide)) |>.trans (end_v201 m c),
      (h.1 c).2 main_v232 (Pipeline.mem_restRefs_of main_v232 (by decide) (by decide)) |>.trans (end_v232 m c),
      (h.1 c).2 main_v142 (Pipeline.mem_restRefs_of main_v142 (by decide) (by decide)) |>.trans (end_v142 m c),
      (h.1 c).2 main_v173 (Pipeline.mem_restRefs_of main_v173 (by decide) (by decide)) |>.trans (end_v173 m c),
      (h.1 c).2 main_v204 (Pipeline.mem_restRefs_of main_v204 (by decide) (by decide)) |>.trans (end_v204 m c),
      (h.1 c).2 main_v235 (Pipeline.mem_restRefs_of main_v235 (by decide) (by decide)) |>.trans (end_v235 m c),
      (h.1 c).2 main_v145 (Pipeline.mem_restRefs_of main_v145 (by decide) (by decide)) |>.trans (end_v145 m c),
      (h.1 c).2 main_v176 (Pipeline.mem_restRefs_of main_v176 (by decide) (by decide)) |>.trans (end_v176 m c),
      (h.1 c).2 main_v207 (Pipeline.mem_restRefs_of main_v207 (by decide) (by decide)) |>.trans (end_v207 m c),
      (h.1 c).2 main_v238 (Pipeline.mem_restRefs_of main_v238 (by decide) (by decide)) |>.trans (end_v238 m c),
      (h.1 c).2 main_v148 (Pipeline.mem_restRefs_of main_v148 (by decide) (by decide)) |>.trans (end_v148 m c),
      (h.1 c).2 main_v179 (Pipeline.mem_restRefs_of main_v179 (by decide) (by decide)) |>.trans (end_v179 m c),
      (h.1 c).2 main_v210 (Pipeline.mem_restRefs_of main_v210 (by decide) (by decide)) |>.trans (end_v210 m c),
      (h.1 c).2 main_v241 (Pipeline.mem_restRefs_of main_v241 (by decide) (by decide)) |>.trans (end_v241 m c),
      h.2 c⟩)
    (θ_run_and (run_main m ρ) (unchanged m ρ))

end Cert.SmallEarlyIdeal.Value

namespace Cert.Proof

/-- Kernel and reference leave equal gradients, changes and moments. -/
theorem algebraic_SmallEarly : Cert.algebraic_SmallEarlyIdeal_SmallEarlyRefIdeal := by
  intro m g m' g' hpre hagree
  refine ⟨_, _, _, _, _, _, _, _, _, _, _, _, _, _, _, _, _, _, _, _, _, _, _, _, _, _, _, _, _, _, _, _, _, _, _, _, Cert.SmallEarlyIdeal.Value.run m g, ?_⟩
  exact (θ_run Cert.SmallEarlyRefIdeal.defs _ _).mono
    (fun r h c => ⟨(h c).1.trans ((Cert.SmallEarlyRefIdeal.Value.grad_q_norm (m' ((c.tc : Thread Cert.SmallEarlyRefIdeal.nD Cert.SmallEarlyRefIdeal.τ).loc Cert.SmallEarlyRefIdeal.main_arg0))).trans (by rw [(hagree c).1]; try rfl)),
      (h c).2.1.trans ((Cert.SmallEarlyRefIdeal.Value.change_q_norm (m' ((c.tc : Thread Cert.SmallEarlyRefIdeal.nD Cert.SmallEarlyRefIdeal.τ).loc Cert.SmallEarlyRefIdeal.main_arg0)) (m' ((c.tc : Thread Cert.SmallEarlyRefIdeal.nD Cert.SmallEarlyRefIdeal.τ).loc Cert.SmallEarlyRefIdeal.main_arg9)) (m' ((c.tc : Thread Cert.SmallEarlyRefIdeal.nD Cert.SmallEarlyRefIdeal.τ).loc Cert.SmallEarlyRefIdeal.main_arg18)) (m' ((c.tc : Thread Cert.SmallEarlyRefIdeal.nD Cert.SmallEarlyRefIdeal.τ).loc Cert.SmallEarlyRefIdeal.main_arg27))).trans (by rw [(hagree c).1, (hagree c).2.2.2.2.2.2.2.2.2.1, (hagree c).2.2.2.2.2.2.2.2.2.2.2.2.2.2.2.2.2.2.1, (hagree c).2.2.2.2.2.2.2.2.2.2.2.2.2.2.2.2.2.2.2.2.2.2.2.2.2.2.2.1]; try rfl)),
      (h c).2.2.1.trans ((Cert.SmallEarlyRefIdeal.Value.mom_q_norm (m' ((c.tc : Thread Cert.SmallEarlyRefIdeal.nD Cert.SmallEarlyRefIdeal.τ).loc Cert.SmallEarlyRefIdeal.main_arg0)) (m' ((c.tc : Thread Cert.SmallEarlyRefIdeal.nD Cert.SmallEarlyRefIdeal.τ).loc Cert.SmallEarlyRefIdeal.main_arg18))).trans (by rw [(hagree c).1, (hagree c).2.2.2.2.2.2.2.2.2.2.2.2.2.2.2.2.2.2.1]; try rfl)),
      (h c).2.2.2.1.trans ((Cert.SmallEarlyRefIdeal.Value.var_q_norm (m' ((c.tc : Thread Cert.SmallEarlyRefIdeal.nD Cert.SmallEarlyRefIdeal.τ).loc Cert.SmallEarlyRefIdeal.main_arg0)) (m' ((c.tc : Thread Cert.SmallEarlyRefIdeal.nD Cert.SmallEarlyRefIdeal.τ).loc Cert.SmallEarlyRefIdeal.main_arg27))).trans (by rw [(hagree c).1, (hagree c).2.2.2.2.2.2.2.2.2.2.2.2.2.2.2.2.2.2.2.2.2.2.2.2.2.2.2.1]; try rfl)),
      (h c).2.2.2.2.1.trans ((Cert.SmallEarlyRefIdeal.Value.grad_sinks (m' ((c.tc : Thread Cert.SmallEarlyRefIdeal.nD Cert.SmallEarlyRefIdeal.τ).loc Cert.SmallEarlyRefIdeal.main_arg1))).trans (by rw [(hagree c).2.1]; try rfl)),
      (h c).2.2.2.2.2.1.trans ((Cert.SmallEarlyRefIdeal.Value.change_sinks (m' ((c.tc : Thread Cert.SmallEarlyRefIdeal.nD Cert.SmallEarlyRefIdeal.τ).loc Cert.SmallEarlyRefIdeal.main_arg1)) (m' ((c.tc : Thread Cert.SmallEarlyRefIdeal.nD Cert.SmallEarlyRefIdeal.τ).loc Cert.SmallEarlyRefIdeal.main_arg10)) (m' ((c.tc : Thread Cert.SmallEarlyRefIdeal.nD Cert.SmallEarlyRefIdeal.τ).loc Cert.SmallEarlyRefIdeal.main_arg19)) (m' ((c.tc : Thread Cert.SmallEarlyRefIdeal.nD Cert.SmallEarlyRefIdeal.τ).loc Cert.SmallEarlyRefIdeal.main_arg28))).trans (by rw [(hagree c).2.1, (hagree c).2.2.2.2.2.2.2.2.2.2.1, (hagree c).2.2.2.2.2.2.2.2.2.2.2.2.2.2.2.2.2.2.2.1, (hagree c).2.2.2.2.2.2.2.2.2.2.2.2.2.2.2.2.2.2.2.2.2.2.2.2.2.2.2.2.1]; try rfl)),
      (h c).2.2.2.2.2.2.1.trans ((Cert.SmallEarlyRefIdeal.Value.mom_sinks (m' ((c.tc : Thread Cert.SmallEarlyRefIdeal.nD Cert.SmallEarlyRefIdeal.τ).loc Cert.SmallEarlyRefIdeal.main_arg1)) (m' ((c.tc : Thread Cert.SmallEarlyRefIdeal.nD Cert.SmallEarlyRefIdeal.τ).loc Cert.SmallEarlyRefIdeal.main_arg19))).trans (by rw [(hagree c).2.1, (hagree c).2.2.2.2.2.2.2.2.2.2.2.2.2.2.2.2.2.2.2.1]; try rfl)),
      (h c).2.2.2.2.2.2.2.1.trans ((Cert.SmallEarlyRefIdeal.Value.var_sinks (m' ((c.tc : Thread Cert.SmallEarlyRefIdeal.nD Cert.SmallEarlyRefIdeal.τ).loc Cert.SmallEarlyRefIdeal.main_arg1)) (m' ((c.tc : Thread Cert.SmallEarlyRefIdeal.nD Cert.SmallEarlyRefIdeal.τ).loc Cert.SmallEarlyRefIdeal.main_arg28))).trans (by rw [(hagree c).2.1, (hagree c).2.2.2.2.2.2.2.2.2.2.2.2.2.2.2.2.2.2.2.2.2.2.2.2.2.2.2.2.1]; try rfl)),
      (h c).2.2.2.2.2.2.2.2.1.trans ((Cert.SmallEarlyRefIdeal.Value.grad_w_pool (m' ((c.tc : Thread Cert.SmallEarlyRefIdeal.nD Cert.SmallEarlyRefIdeal.τ).loc Cert.SmallEarlyRefIdeal.main_arg2))).trans (by rw [(hagree c).2.2.1]; try rfl)),
      (h c).2.2.2.2.2.2.2.2.2.1.trans ((Cert.SmallEarlyRefIdeal.Value.change_w_pool (m' ((c.tc : Thread Cert.SmallEarlyRefIdeal.nD Cert.SmallEarlyRefIdeal.τ).loc Cert.SmallEarlyRefIdeal.main_arg2)) (m' ((c.tc : Thread Cert.SmallEarlyRefIdeal.nD Cert.SmallEarlyRefIdeal.τ).loc Cert.SmallEarlyRefIdeal.main_arg11)) (m' ((c.tc : Thread Cert.SmallEarlyRefIdeal.nD Cert.SmallEarlyRefIdeal.τ).loc Cert.SmallEarlyRefIdeal.main_arg20)) (m' ((c.tc : Thread Cert.SmallEarlyRefIdeal.nD Cert.SmallEarlyRefIdeal.τ).loc Cert.SmallEarlyRefIdeal.main_arg29))).trans (by rw [(hagree c).2.2.1, (hagree c).2.2.2.2.2.2.2.2.2.2.2.1, (hagree c).2.2.2.2.2.2.2.2.2.2.2.2.2.2.2.2.2.2.2.2.1, (hagree c).2.2.2.2.2.2.2.2.2.2.2.2.2.2.2.2.2.2.2.2.2.2.2.2.2.2.2.2.2.1]; try rfl)),
      (h c).2.2.2.2.2.2.2.2.2.2.1.trans ((Cert.SmallEarlyRefIdeal.Value.mom_w_pool (m' ((c.tc : Thread Cert.SmallEarlyRefIdeal.nD Cert.SmallEarlyRefIdeal.τ).loc Cert.SmallEarlyRefIdeal.main_arg2)) (m' ((c.tc : Thread Cert.SmallEarlyRefIdeal.nD Cert.SmallEarlyRefIdeal.τ).loc Cert.SmallEarlyRefIdeal.main_arg20))).trans (by rw [(hagree c).2.2.1, (hagree c).2.2.2.2.2.2.2.2.2.2.2.2.2.2.2.2.2.2.2.2.1]; try rfl)),
      (h c).2.2.2.2.2.2.2.2.2.2.2.1.trans ((Cert.SmallEarlyRefIdeal.Value.var_w_pool (m' ((c.tc : Thread Cert.SmallEarlyRefIdeal.nD Cert.SmallEarlyRefIdeal.τ).loc Cert.SmallEarlyRefIdeal.main_arg2)) (m' ((c.tc : Thread Cert.SmallEarlyRefIdeal.nD Cert.SmallEarlyRefIdeal.τ).loc Cert.SmallEarlyRefIdeal.main_arg29))).trans (by rw [(hagree c).2.2.1, (hagree c).2.2.2.2.2.2.2.2.2.2.2.2.2.2.2.2.2.2.2.2.2.2.2.2.2.2.2.2.2.1]; try rfl)),
      (h c).2.2.2.2.2.2.2.2.2.2.2.2.1.trans ((Cert.SmallEarlyRefIdeal.Value.grad_pool_scale (m' ((c.tc : Thread Cert.SmallEarlyRefIdeal.nD Cert.SmallEarlyRefIdeal.τ).loc Cert.SmallEarlyRefIdeal.main_arg3))).trans (by rw [(hagree c).2.2.2.1]; try rfl)),
      (h c).2.2.2.2.2.2.2.2.2.2.2.2.2.1.trans ((Cert.SmallEarlyRefIdeal.Value.change_pool_scale (m' ((c.tc : Thread Cert.SmallEarlyRefIdeal.nD Cert.SmallEarlyRefIdeal.τ).loc Cert.SmallEarlyRefIdeal.main_arg3)) (m' ((c.tc : Thread Cert.SmallEarlyRefIdeal.nD Cert.SmallEarlyRefIdeal.τ).loc Cert.SmallEarlyRefIdeal.main_arg12)) (m' ((c.tc : Thread Cert.SmallEarlyRefIdeal.nD Cert.SmallEarlyRefIdeal.τ).loc Cert.SmallEarlyRefIdeal.main_arg21)) (m' ((c.tc : Thread Cert.SmallEarlyRefIdeal.nD Cert.SmallEarlyRefIdeal.τ).loc Cert.SmallEarlyRefIdeal.main_arg30))).trans (by rw [(hagree c).2.2.2.1, (hagree c).2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.2.2.2.2.2.2.2.2.1]; try rfl)),
      (h c).2.2.2.2.2.2.2.2.2.2.2.2.2.2.1.trans ((Cert.SmallEarlyRefIdeal.Value.mom_pool_scale (m' ((c.tc : Thread Cert.SmallEarlyRefIdeal.nD Cert.SmallEarlyRefIdeal.τ).loc Cert.SmallEarlyRefIdeal.main_arg3)) (m' ((c.tc : Thread Cert.SmallEarlyRefIdeal.nD Cert.SmallEarlyRefIdeal.τ).loc Cert.SmallEarlyRefIdeal.main_arg21))).trans (by rw [(hagree c).2.2.2.1, (hagree c).2.2.2.2.2.2.2.2.2.2.2.2.2.2.2.2.2.2.2.2.2.1]; try rfl)),
      (h c).2.2.2.2.2.2.2.2.2.2.2.2.2.2.2.1.trans ((Cert.SmallEarlyRefIdeal.Value.var_pool_scale (m' ((c.tc : Thread Cert.SmallEarlyRefIdeal.nD Cert.SmallEarlyRefIdeal.τ).loc Cert.SmallEarlyRefIdeal.main_arg3)) (m' ((c.tc : Thread Cert.SmallEarlyRefIdeal.nD Cert.SmallEarlyRefIdeal.τ).loc Cert.SmallEarlyRefIdeal.main_arg30))).trans (by rw [(hagree c).2.2.2.1, (hagree c).2.2.2.2.2.2.2.2.2.2.2.2.2.2.2.2.2.2.2.2.2.2.2.2.2.2.2.2.2.2.1]; try rfl)),
      (h c).2.2.2.2.2.2.2.2.2.2.2.2.2.2.2.2.1.trans ((Cert.SmallEarlyRefIdeal.Value.grad_sgu_v_norm (m' ((c.tc : Thread Cert.SmallEarlyRefIdeal.nD Cert.SmallEarlyRefIdeal.τ).loc Cert.SmallEarlyRefIdeal.main_arg4))).trans (by rw [(hagree c).2.2.2.2.1]; try rfl)),
      (h c).2.2.2.2.2.2.2.2.2.2.2.2.2.2.2.2.2.1.trans ((Cert.SmallEarlyRefIdeal.Value.change_sgu_v_norm (m' ((c.tc : Thread Cert.SmallEarlyRefIdeal.nD Cert.SmallEarlyRefIdeal.τ).loc Cert.SmallEarlyRefIdeal.main_arg4)) (m' ((c.tc : Thread Cert.SmallEarlyRefIdeal.nD Cert.SmallEarlyRefIdeal.τ).loc Cert.SmallEarlyRefIdeal.main_arg13)) (m' ((c.tc : Thread Cert.SmallEarlyRefIdeal.nD Cert.SmallEarlyRefIdeal.τ).loc Cert.SmallEarlyRefIdeal.main_arg22)) (m' ((c.tc : Thread Cert.SmallEarlyRefIdeal.nD Cert.SmallEarlyRefIdeal.τ).loc Cert.SmallEarlyRefIdeal.main_arg31))).trans (by rw [(hagree c).2.2.2.2.1, (hagree c).2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.2.2.2.2.2.2.2.2.1]; try rfl)),
      (h c).2.2.2.2.2.2.2.2.2.2.2.2.2.2.2.2.2.2.1.trans ((Cert.SmallEarlyRefIdeal.Value.mom_sgu_v_norm (m' ((c.tc : Thread Cert.SmallEarlyRefIdeal.nD Cert.SmallEarlyRefIdeal.τ).loc Cert.SmallEarlyRefIdeal.main_arg4)) (m' ((c.tc : Thread Cert.SmallEarlyRefIdeal.nD Cert.SmallEarlyRefIdeal.τ).loc Cert.SmallEarlyRefIdeal.main_arg22))).trans (by rw [(hagree c).2.2.2.2.1, (hagree c).2.2.2.2.2.2.2.2.2.2.2.2.2.2.2.2.2.2.2.2.2.2.1]; try rfl)),
      (h c).2.2.2.2.2.2.2.2.2.2.2.2.2.2.2.2.2.2.2.1.trans ((Cert.SmallEarlyRefIdeal.Value.var_sgu_v_norm (m' ((c.tc : Thread Cert.SmallEarlyRefIdeal.nD Cert.SmallEarlyRefIdeal.τ).loc Cert.SmallEarlyRefIdeal.main_arg4)) (m' ((c.tc : Thread Cert.SmallEarlyRefIdeal.nD Cert.SmallEarlyRefIdeal.τ).loc Cert.SmallEarlyRefIdeal.main_arg31))).trans (by rw [(hagree c).2.2.2.2.1, (hagree c).2.2.2.2.2.2.2.2.2.2.2.2.2.2.2.2.2.2.2.2.2.2.2.2.2.2.2.2.2.2.2.1]; try rfl)),
      (h c).2.2.2.2.2.2.2.2.2.2.2.2.2.2.2.2.2.2.2.2.1.trans ((Cert.SmallEarlyRefIdeal.Value.grad_w_s (m' ((c.tc : Thread Cert.SmallEarlyRefIdeal.nD Cert.SmallEarlyRefIdeal.τ).loc Cert.SmallEarlyRefIdeal.main_arg5))).trans (by rw [(hagree c).2.2.2.2.2.1]; try rfl)),
      (h c).2.2.2.2.2.2.2.2.2.2.2.2.2.2.2.2.2.2.2.2.2.1.trans ((Cert.SmallEarlyRefIdeal.Value.change_w_s (m' ((c.tc : Thread Cert.SmallEarlyRefIdeal.nD Cert.SmallEarlyRefIdeal.τ).loc Cert.SmallEarlyRefIdeal.main_arg5)) (m' ((c.tc : Thread Cert.SmallEarlyRefIdeal.nD Cert.SmallEarlyRefIdeal.τ).loc Cert.SmallEarlyRefIdeal.main_arg14)) (m' ((c.tc : Thread Cert.SmallEarlyRefIdeal.nD Cert.SmallEarlyRefIdeal.τ).loc Cert.SmallEarlyRefIdeal.main_arg23)) (m' ((c.tc : Thread Cert.SmallEarlyRefIdeal.nD Cert.SmallEarlyRefIdeal.τ).loc Cert.SmallEarlyRefIdeal.main_arg32))).trans (by rw [(hagree c).2.2.2.2.2.1, (hagree c).2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.2.2.2.2.2.2.2.2.1]; try rfl)),
      (h c).2.2.2.2.2.2.2.2.2.2.2.2.2.2.2.2.2.2.2.2.2.2.1.trans ((Cert.SmallEarlyRefIdeal.Value.mom_w_s (m' ((c.tc : Thread Cert.SmallEarlyRefIdeal.nD Cert.SmallEarlyRefIdeal.τ).loc Cert.SmallEarlyRefIdeal.main_arg5)) (m' ((c.tc : Thread Cert.SmallEarlyRefIdeal.nD Cert.SmallEarlyRefIdeal.τ).loc Cert.SmallEarlyRefIdeal.main_arg23))).trans (by rw [(hagree c).2.2.2.2.2.1, (hagree c).2.2.2.2.2.2.2.2.2.2.2.2.2.2.2.2.2.2.2.2.2.2.2.1]; try rfl)),
      (h c).2.2.2.2.2.2.2.2.2.2.2.2.2.2.2.2.2.2.2.2.2.2.2.1.trans ((Cert.SmallEarlyRefIdeal.Value.var_w_s (m' ((c.tc : Thread Cert.SmallEarlyRefIdeal.nD Cert.SmallEarlyRefIdeal.τ).loc Cert.SmallEarlyRefIdeal.main_arg5)) (m' ((c.tc : Thread Cert.SmallEarlyRefIdeal.nD Cert.SmallEarlyRefIdeal.τ).loc Cert.SmallEarlyRefIdeal.main_arg32))).trans (by rw [(hagree c).2.2.2.2.2.1, (hagree c).2.2.2.2.2.2.2.2.2.2.2.2.2.2.2.2.2.2.2.2.2.2.2.2.2.2.2.2.2.2.2.2.1]; try rfl)),
      (h c).2.2.2.2.2.2.2.2.2.2.2.2.2.2.2.2.2.2.2.2.2.2.2.2.1.trans ((Cert.SmallEarlyRefIdeal.Value.grad_b_s (m' ((c.tc : Thread Cert.SmallEarlyRefIdeal.nD Cert.SmallEarlyRefIdeal.τ).loc Cert.SmallEarlyRefIdeal.main_arg6))).trans (by rw [(hagree c).2.2.2.2.2.2.1]; try rfl)),
      (h c).2.2.2.2.2.2.2.2.2.2.2.2.2.2.2.2.2.2.2.2.2.2.2.2.2.1.trans ((Cert.SmallEarlyRefIdeal.Value.change_b_s (m' ((c.tc : Thread Cert.SmallEarlyRefIdeal.nD Cert.SmallEarlyRefIdeal.τ).loc Cert.SmallEarlyRefIdeal.main_arg6)) (m' ((c.tc : Thread Cert.SmallEarlyRefIdeal.nD Cert.SmallEarlyRefIdeal.τ).loc Cert.SmallEarlyRefIdeal.main_arg15)) (m' ((c.tc : Thread Cert.SmallEarlyRefIdeal.nD Cert.SmallEarlyRefIdeal.τ).loc Cert.SmallEarlyRefIdeal.main_arg24)) (m' ((c.tc : Thread Cert.SmallEarlyRefIdeal.nD Cert.SmallEarlyRefIdeal.τ).loc Cert.SmallEarlyRefIdeal.main_arg33))).trans (by rw [(hagree c).2.2.2.2.2.2.1, (hagree c).2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.2.2.2.2.2.2.2.2.1]; try rfl)),
      (h c).2.2.2.2.2.2.2.2.2.2.2.2.2.2.2.2.2.2.2.2.2.2.2.2.2.2.1.trans ((Cert.SmallEarlyRefIdeal.Value.mom_b_s (m' ((c.tc : Thread Cert.SmallEarlyRefIdeal.nD Cert.SmallEarlyRefIdeal.τ).loc Cert.SmallEarlyRefIdeal.main_arg6)) (m' ((c.tc : Thread Cert.SmallEarlyRefIdeal.nD Cert.SmallEarlyRefIdeal.τ).loc Cert.SmallEarlyRefIdeal.main_arg24))).trans (by rw [(hagree c).2.2.2.2.2.2.1, (hagree c).2.2.2.2.2.2.2.2.2.2.2.2.2.2.2.2.2.2.2.2.2.2.2.2.1]; try rfl)),
      (h c).2.2.2.2.2.2.2.2.2.2.2.2.2.2.2.2.2.2.2.2.2.2.2.2.2.2.2.1.trans ((Cert.SmallEarlyRefIdeal.Value.var_b_s (m' ((c.tc : Thread Cert.SmallEarlyRefIdeal.nD Cert.SmallEarlyRefIdeal.τ).loc Cert.SmallEarlyRefIdeal.main_arg6)) (m' ((c.tc : Thread Cert.SmallEarlyRefIdeal.nD Cert.SmallEarlyRefIdeal.τ).loc Cert.SmallEarlyRefIdeal.main_arg33))).trans (by rw [(hagree c).2.2.2.2.2.2.1, (hagree c).2.2.2.2.2.2.2.2.2.2.2.2.2.2.2.2.2.2.2.2.2.2.2.2.2.2.2.2.2.2.2.2.2.1]; try rfl)),
      (h c).2.2.2.2.2.2.2.2.2.2.2.2.2.2.2.2.2.2.2.2.2.2.2.2.2.2.2.2.1.trans ((Cert.SmallEarlyRefIdeal.Value.grad_norm2 (m' ((c.tc : Thread Cert.SmallEarlyRefIdeal.nD Cert.SmallEarlyRefIdeal.τ).loc Cert.SmallEarlyRefIdeal.main_arg7))).trans (by rw [(hagree c).2.2.2.2.2.2.2.1]; try rfl)),
      (h c).2.2.2.2.2.2.2.2.2.2.2.2.2.2.2.2.2.2.2.2.2.2.2.2.2.2.2.2.2.1.trans ((Cert.SmallEarlyRefIdeal.Value.change_norm2 (m' ((c.tc : Thread Cert.SmallEarlyRefIdeal.nD Cert.SmallEarlyRefIdeal.τ).loc Cert.SmallEarlyRefIdeal.main_arg7)) (m' ((c.tc : Thread Cert.SmallEarlyRefIdeal.nD Cert.SmallEarlyRefIdeal.τ).loc Cert.SmallEarlyRefIdeal.main_arg16)) (m' ((c.tc : Thread Cert.SmallEarlyRefIdeal.nD Cert.SmallEarlyRefIdeal.τ).loc Cert.SmallEarlyRefIdeal.main_arg25)) (m' ((c.tc : Thread Cert.SmallEarlyRefIdeal.nD Cert.SmallEarlyRefIdeal.τ).loc Cert.SmallEarlyRefIdeal.main_arg34))).trans (by rw [(hagree c).2.2.2.2.2.2.2.1, (hagree c).2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.1]; try rfl)),
      (h c).2.2.2.2.2.2.2.2.2.2.2.2.2.2.2.2.2.2.2.2.2.2.2.2.2.2.2.2.2.2.1.trans ((Cert.SmallEarlyRefIdeal.Value.mom_norm2 (m' ((c.tc : Thread Cert.SmallEarlyRefIdeal.nD Cert.SmallEarlyRefIdeal.τ).loc Cert.SmallEarlyRefIdeal.main_arg7)) (m' ((c.tc : Thread Cert.SmallEarlyRefIdeal.nD Cert.SmallEarlyRefIdeal.τ).loc Cert.SmallEarlyRefIdeal.main_arg25))).trans (by rw [(hagree c).2.2.2.2.2.2.2.1, (hagree c).2.2.2.2.2.2.2.2.2.2.2.2.2.2.2.2.2.2.2.2.2.2.2.2.2.1]; try rfl)),
      (h c).2.2.2.2.2.2.2.2.2.2.2.2.2.2.2.2.2.2.2.2.2.2.2.2.2.2.2.2.2.2.2.1.trans ((Cert.SmallEarlyRefIdeal.Value.var_norm2 (m' ((c.tc : Thread Cert.SmallEarlyRefIdeal.nD Cert.SmallEarlyRefIdeal.τ).loc Cert.SmallEarlyRefIdeal.main_arg7)) (m' ((c.tc : Thread Cert.SmallEarlyRefIdeal.nD Cert.SmallEarlyRefIdeal.τ).loc Cert.SmallEarlyRefIdeal.main_arg34))).trans (by rw [(hagree c).2.2.2.2.2.2.2.1, (hagree c).2.2.2.2.2.2.2.2.2.2.2.2.2.2.2.2.2.2.2.2.2.2.2.2.2.2.2.2.2.2.2.2.2.2.1]; try rfl)),
      (h c).2.2.2.2.2.2.2.2.2.2.2.2.2.2.2.2.2.2.2.2.2.2.2.2.2.2.2.2.2.2.2.2.1.trans ((Cert.SmallEarlyRefIdeal.Value.grad_conv_b (m' ((c.tc : Thread Cert.SmallEarlyRefIdeal.nD Cert.SmallEarlyRefIdeal.τ).loc Cert.SmallEarlyRefIdeal.main_arg8))).trans (by rw [(hagree c).2.2.2.2.2.2.2.2.1]; try rfl)),
      (h c).2.2.2.2.2.2.2.2.2.2.2.2.2.2.2.2.2.2.2.2.2.2.2.2.2.2.2.2.2.2.2.2.2.1.trans ((Cert.SmallEarlyRefIdeal.Value.change_conv_b (m' ((c.tc : Thread Cert.SmallEarlyRefIdeal.nD Cert.SmallEarlyRefIdeal.τ).loc Cert.SmallEarlyRefIdeal.main_arg8)) (m' ((c.tc : Thread Cert.SmallEarlyRefIdeal.nD Cert.SmallEarlyRefIdeal.τ).loc Cert.SmallEarlyRefIdeal.main_arg17)) (m' ((c.tc : Thread Cert.SmallEarlyRefIdeal.nD Cert.SmallEarlyRefIdeal.τ).loc Cert.SmallEarlyRefIdeal.main_arg26)) (m' ((c.tc : Thread Cert.SmallEarlyRefIdeal.nD Cert.SmallEarlyRefIdeal.τ).loc Cert.SmallEarlyRefIdeal.main_arg35))).trans (by rw [(hagree c).2.2.2.2.2.2.2.2.1, (hagree c).2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2]; try rfl)),
      (h c).2.2.2.2.2.2.2.2.2.2.2.2.2.2.2.2.2.2.2.2.2.2.2.2.2.2.2.2.2.2.2.2.2.2.1.trans ((Cert.SmallEarlyRefIdeal.Value.mom_conv_b (m' ((c.tc : Thread Cert.SmallEarlyRefIdeal.nD Cert.SmallEarlyRefIdeal.τ).loc Cert.SmallEarlyRefIdeal.main_arg8)) (m' ((c.tc : Thread Cert.SmallEarlyRefIdeal.nD Cert.SmallEarlyRefIdeal.τ).loc Cert.SmallEarlyRefIdeal.main_arg26))).trans (by rw [(hagree c).2.2.2.2.2.2.2.2.1, (hagree c).2.2.2.2.2.2.2.2.2.2.2.2.2.2.2.2.2.2.2.2.2.2.2.2.2.2.1]; try rfl)),
      (h c).2.2.2.2.2.2.2.2.2.2.2.2.2.2.2.2.2.2.2.2.2.2.2.2.2.2.2.2.2.2.2.2.2.2.2.1.trans ((Cert.SmallEarlyRefIdeal.Value.var_conv_b (m' ((c.tc : Thread Cert.SmallEarlyRefIdeal.nD Cert.SmallEarlyRefIdeal.τ).loc Cert.SmallEarlyRefIdeal.main_arg8)) (m' ((c.tc : Thread Cert.SmallEarlyRefIdeal.nD Cert.SmallEarlyRefIdeal.τ).loc Cert.SmallEarlyRefIdeal.main_arg35))).trans (by rw [(hagree c).2.2.2.2.2.2.2.2.1, (hagree c).2.2.2.2.2.2.2.2.2.2.2.2.2.2.2.2.2.2.2.2.2.2.2.2.2.2.2.2.2.2.2.2.2.2.2]; try rfl)),
      (h c).2.2.2.2.2.2.2.2.2.2.2.2.2.2.2.2.2.2.2.2.2.2.2.2.2.2.2.2.2.2.2.2.2.2.2.2⟩)
    (Cert.SmallEarlyRefIdeal.Value.run (F := Ideal) m' g')

/-- The reference runs to an end and leaves its arguments alone. -/
theorem frame_SmallEarly_ref : Cert.quiescent_SmallEarlyRefIdeal := fun m ρ _ =>
  (θ_run Cert.SmallEarlyRefIdeal.defs _ _).mono
    (fun r h => ⟨fun c => (h c).2.2.2.2.2.2.2.2.2.2.2.2.2.2.2.2.2.2.2.2.2.2.2.2.2.2.2.2.2.2.2.2.2.2.2.2, sem_eq_zero_of_no_sems (by decide) r.2⟩)
    (Cert.SmallEarlyRefIdeal.Value.run (F := Ideal) m ρ)

end Cert.Proof

end
-- ==== Proof.lean ====
module

public import proofs.«01_k».proof.Defs
public import proofs.«01_k».proof.Proof.RefFrames
public import proofs.«01_k».proof.Proof.Gen.Sgu.Frame
public import proofs.«01_k».proof.Proof.Gen.SguIdeal.Frame
public import proofs.«01_k».proof.Proof.Gen.Branch.Frame
public import proofs.«01_k».proof.Proof.Gen.BranchIdeal.Frame
public import proofs.«01_k».proof.Proof.BranchClaim
public import proofs.«01_k».proof.Proof.Gen.Up.Frame
public import proofs.«01_k».proof.Proof.Gen.UpIdeal.Frame
public import proofs.«01_k».proof.Proof.UpClaim
public import proofs.«01_k».proof.Proof.Gen.InBwd.Frame
public import proofs.«01_k».proof.Proof.Gen.InBwdIdeal.Frame
public import proofs.«01_k».proof.Proof.InBwdClaim
public import proofs.«01_k».proof.Proof.Gen.DownBwd.Frame
public import proofs.«01_k».proof.Proof.Gen.DownBwdIdeal.Frame
public import proofs.«01_k».proof.Proof.DownBwd
public import proofs.«01_k».proof.Proof.Gen.OutBwd.Frame
public import proofs.«01_k».proof.Proof.Gen.OutBwdIdeal.Frame
public import proofs.«01_k».proof.Proof.OutBwd
public import proofs.«01_k».proof.Proof.Gen.DownW.Frame
public import proofs.«01_k».proof.Proof.Gen.DownWIdeal.Frame
public import proofs.«01_k».proof.Proof.DownW
public import proofs.«01_k».proof.Proof.Gen.UpW.Frame
public import proofs.«01_k».proof.Proof.Gen.UpWIdeal.Frame
public import proofs.«01_k».proof.Proof.UpW
public import proofs.«01_k».proof.Proof.Gen.OutW.Frame
public import proofs.«01_k».proof.Proof.Gen.OutWIdeal.Frame
public import proofs.«01_k».proof.Proof.OutW
public import proofs.«01_k».proof.Proof.Gen.NarrowW.Frame
public import proofs.«01_k».proof.Proof.Gen.NarrowWIdeal.Frame
public import proofs.«01_k».proof.Proof.NarrowW
public import proofs.«01_k».proof.Proof.Gen.MiddleW.Frame
public import proofs.«01_k».proof.Proof.Gen.MiddleWIdeal.Frame
public import proofs.«01_k».proof.Proof.MiddleW
public import proofs.«01_k».proof.Proof.Gen.InW.Frame
public import proofs.«01_k».proof.Proof.Gen.InWIdeal.Frame
public import proofs.«01_k».proof.Proof.InW
public import proofs.«01_k».proof.Proof.Gen.InProj.Frame
public import proofs.«01_k».proof.Proof.Gen.InProjIdeal.Frame
public import proofs.«01_k».proof.Proof.InProj
public import proofs.«01_k».proof.Proof.Gen.UpGate.Frame
public import proofs.«01_k».proof.Proof.Gen.UpGateIdeal.Frame
public import proofs.«01_k».proof.Proof.UpGate
public import proofs.«01_k».proof.Proof.Gen.UpVal.Frame
public import proofs.«01_k».proof.Proof.Gen.UpValIdeal.Frame
public import proofs.«01_k».proof.Proof.UpVal
public import proofs.«01_k».proof.Proof.Gen.BranchA.Frame
public import proofs.«01_k».proof.Proof.Gen.BranchAIdeal.Frame
public import proofs.«01_k».proof.Proof.BranchAClaim
public import proofs.«01_k».proof.Proof.Gen.BranchC.Frame
public import proofs.«01_k».proof.Proof.Gen.BranchCIdeal.Frame
public import proofs.«01_k».proof.Proof.BranchCClaim
public import proofs.«01_k».proof.Proof.Gen.MergeOut.Frame
public import proofs.«01_k».proof.Proof.Gen.MergeOutIdeal.Frame
public import proofs.«01_k».proof.Proof.MergeOutClaim
public import proofs.«01_k».proof.Proof.Gen.FfnDown.Frame
public import proofs.«01_k».proof.Proof.Gen.FfnDownIdeal.Frame
public import proofs.«01_k».proof.Proof.FfnDownClaim
public import proofs.«01_k».proof.Proof.Gen.FfnLoss.Frame
public import proofs.«01_k».proof.Proof.Gen.FfnLossIdeal.Frame
public import proofs.«01_k».proof.Proof.FfnLossClaim
public import proofs.«01_k».proof.Proof.Gen.FirstNorm.Frame
public import proofs.«01_k».proof.Proof.Gen.FirstNormIdeal.Frame
public import proofs.«01_k».proof.Proof.FirstNorm
public import proofs.«01_k».proof.Proof.Gen.AdamIn.Frame
public import proofs.«01_k».proof.Proof.Gen.AdamInIdeal.Frame
public import proofs.«01_k».proof.Proof.AdamIn
public import proofs.«01_k».proof.Proof.Gen.AdamNarrow.Frame
public import proofs.«01_k».proof.Proof.Gen.AdamNarrowIdeal.Frame
public import proofs.«01_k».proof.Proof.AdamNarrow
public import proofs.«01_k».proof.Proof.Gen.AdamMiddle.Frame
public import proofs.«01_k».proof.Proof.Gen.AdamMiddleIdeal.Frame
public import proofs.«01_k».proof.Proof.AdamMiddle
public import proofs.«01_k».proof.Proof.Gen.AdamOut.Frame
public import proofs.«01_k».proof.Proof.Gen.AdamOutIdeal.Frame
public import proofs.«01_k».proof.Proof.AdamOut
public import proofs.«01_k».proof.Proof.Gen.AdamUp.Frame
public import proofs.«01_k».proof.Proof.Gen.AdamUpIdeal.Frame
public import proofs.«01_k».proof.Proof.AdamUp
public import proofs.«01_k».proof.Proof.Gen.AdamDown.Frame
public import proofs.«01_k».proof.Proof.Gen.AdamDownIdeal.Frame
public import proofs.«01_k».proof.Proof.AdamDown
public import proofs.«01_k».proof.Proof.Gen.AdamConv.Frame
public import proofs.«01_k».proof.Proof.Gen.AdamConvIdeal.Frame
public import proofs.«01_k».proof.Proof.AdamConv
public import proofs.«01_k».proof.Proof.Gen.PoolFwd.Frame
public import proofs.«01_k».proof.Proof.Gen.PoolFwdIdeal.Frame
public import proofs.«01_k».proof.Proof.PoolFwd
public import proofs.«01_k».proof.Proof.Gen.PoolBwd.Frame
public import proofs.«01_k».proof.Proof.Gen.PoolBwdIdeal.Frame
public import proofs.«01_k».proof.Proof.PoolBwd
public import proofs.«01_k».proof.Proof.Gen.SmallLate.Frame
public import proofs.«01_k».proof.Proof.Gen.SmallLateIdeal.Frame
public import proofs.«01_k».proof.Proof.SmallLate
public import proofs.«01_k».proof.Proof.Gen.SmallEarly.Frame
public import proofs.«01_k».proof.Proof.Gen.SmallEarlyIdeal.Frame
public import proofs.«01_k».proof.Proof.SmallEarly

/-! The claims, put together. -/

@[expose] public section

set_option maxRecDepth 16384

noncomputable section

namespace Cert.Proof

open Idealize.ShloMosaic Idealize.SL.Sem

theorem claim : Cert.Claim :=
  ⟨Cert.Sgu.Gen.facts, Cert.SguIdeal.Gen.facts, Cert.SguRefIdeal.Gen.facts,
    Cert.Branch.Gen.facts, Cert.BranchIdeal.Gen.facts, Cert.BranchRefIdeal.Gen.facts,
    Cert.Up.Gen.facts, Cert.UpIdeal.Gen.facts, Cert.UpRefIdeal.Gen.facts,
    Cert.InBwd.Gen.facts, Cert.InBwdIdeal.Gen.facts, Cert.InBwdRefIdeal.Gen.facts,
    Cert.DownBwd.Gen.facts, Cert.DownBwdIdeal.Gen.facts, Cert.DownBwdRefIdeal.Gen.facts,
    Cert.OutBwd.Gen.facts, Cert.OutBwdIdeal.Gen.facts, Cert.OutBwdRefIdeal.Gen.facts,
    Cert.DownW.Gen.facts, Cert.DownWIdeal.Gen.facts, Cert.DownWRefIdeal.Gen.facts,
    Cert.UpW.Gen.facts, Cert.UpWIdeal.Gen.facts, Cert.UpWRefIdeal.Gen.facts,
    Cert.OutW.Gen.facts, Cert.OutWIdeal.Gen.facts, Cert.OutWRefIdeal.Gen.facts,
    Cert.NarrowW.Gen.facts, Cert.NarrowWIdeal.Gen.facts, Cert.NarrowWRefIdeal.Gen.facts,
    Cert.MiddleW.Gen.facts, Cert.MiddleWIdeal.Gen.facts, Cert.MiddleWRefIdeal.Gen.facts,
    Cert.InW.Gen.facts, Cert.InWIdeal.Gen.facts, Cert.InWRefIdeal.Gen.facts,
    Cert.InProj.Gen.facts, Cert.InProjIdeal.Gen.facts, Cert.InProjRefIdeal.Gen.facts,
    Cert.UpGate.Gen.facts, Cert.UpGateIdeal.Gen.facts, Cert.UpGateRefIdeal.Gen.facts,
    Cert.UpVal.Gen.facts, Cert.UpValIdeal.Gen.facts, Cert.UpValRefIdeal.Gen.facts,
    Cert.BranchA.Gen.facts, Cert.BranchAIdeal.Gen.facts, Cert.BranchARefIdeal.Gen.facts,
    Cert.BranchC.Gen.facts, Cert.BranchCIdeal.Gen.facts, Cert.BranchCRefIdeal.Gen.facts,
    Cert.MergeOut.Gen.facts, Cert.MergeOutIdeal.Gen.facts, Cert.MergeOutRefIdeal.Gen.facts,
    Cert.FfnDown.Gen.facts, Cert.FfnDownIdeal.Gen.facts, Cert.FfnDownRefIdeal.Gen.facts,
    Cert.FfnLoss.Gen.facts, Cert.FfnLossIdeal.Gen.facts, Cert.FfnLossRefIdeal.Gen.facts,
    Cert.FirstNorm.Gen.facts, Cert.FirstNormIdeal.Gen.facts, Cert.FirstNormRefIdeal.Gen.facts,
    Cert.AdamIn.Gen.facts, Cert.AdamInIdeal.Gen.facts, Cert.AdamInRefIdeal.Gen.facts,
    Cert.AdamNarrow.Gen.facts, Cert.AdamNarrowIdeal.Gen.facts, Cert.AdamNarrowRefIdeal.Gen.facts,
    Cert.AdamMiddle.Gen.facts, Cert.AdamMiddleIdeal.Gen.facts, Cert.AdamMiddleRefIdeal.Gen.facts,
    Cert.AdamOut.Gen.facts, Cert.AdamOutIdeal.Gen.facts, Cert.AdamOutRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.AdamConv.Gen.facts, Cert.AdamConvIdeal.Gen.facts, Cert.AdamConvRefIdeal.Gen.facts,
    Cert.PoolFwd.Gen.facts, Cert.PoolFwdIdeal.Gen.facts, Cert.PoolFwdRefIdeal.Gen.facts,
    Cert.PoolBwd.Gen.facts, Cert.PoolBwdIdeal.Gen.facts, Cert.PoolBwdRefIdeal.Gen.facts,
    Cert.SmallLate.Gen.facts, Cert.SmallLateIdeal.Gen.facts, Cert.SmallLateRefIdeal.Gen.facts,
    Cert.SmallEarly.Gen.facts, Cert.SmallEarlyIdeal.Gen.facts, Cert.SmallEarlyRefIdeal.Gen.facts,
    fun m ρ _ => Cert.Sgu.Gen.frame m ρ,
    fun m ρ _ => Cert.SguIdeal.Gen.frame m ρ,
    frame_sgu_ref,
    fun m ρ _ => Cert.Branch.Gen.frame m ρ,
    fun m ρ _ => Cert.BranchIdeal.Gen.frame m ρ,
    frame_branch_ref,
    fun m ρ _ => Cert.Up.Gen.frame m ρ,
    fun m ρ _ => Cert.UpIdeal.Gen.frame m ρ,
    frame_up_ref,
    fun m ρ _ => Cert.InBwd.Gen.frame m ρ,
    fun m ρ _ => Cert.InBwdIdeal.Gen.frame m ρ,
    frame_in_bwd_ref,
    fun m ρ _ => Cert.DownBwd.Gen.frame m ρ,
    fun m ρ _ => Cert.DownBwdIdeal.Gen.frame m ρ,
    frame_DownBwd_ref,
    fun m ρ _ => Cert.OutBwd.Gen.frame m ρ,
    fun m ρ _ => Cert.OutBwdIdeal.Gen.frame m ρ,
    frame_OutBwd_ref,
    fun m ρ _ => Cert.DownW.Gen.frame m ρ,
    fun m ρ _ => Cert.DownWIdeal.Gen.frame m ρ,
    frame_DownW_ref,
    fun m ρ _ => Cert.UpW.Gen.frame m ρ,
    fun m ρ _ => Cert.UpWIdeal.Gen.frame m ρ,
    frame_UpW_ref,
    fun m ρ _ => Cert.OutW.Gen.frame m ρ,
    fun m ρ _ => Cert.OutWIdeal.Gen.frame m ρ,
    frame_OutW_ref,
    fun m ρ _ => Cert.NarrowW.Gen.frame m ρ,
    fun m ρ _ => Cert.NarrowWIdeal.Gen.frame m ρ,
    frame_NarrowW_ref,
    fun m ρ _ => Cert.MiddleW.Gen.frame m ρ,
    fun m ρ _ => Cert.MiddleWIdeal.Gen.frame m ρ,
    frame_MiddleW_ref,
    fun m ρ _ => Cert.InW.Gen.frame m ρ,
    fun m ρ _ => Cert.InWIdeal.Gen.frame m ρ,
    frame_InW_ref,
    fun m ρ _ => Cert.InProj.Gen.frame m ρ,
    fun m ρ _ => Cert.InProjIdeal.Gen.frame m ρ,
    frame_InProj_ref,
    fun m ρ _ => Cert.UpGate.Gen.frame m ρ,
    fun m ρ _ => Cert.UpGateIdeal.Gen.frame m ρ,
    frame_UpGate_ref,
    fun m ρ _ => Cert.UpVal.Gen.frame m ρ,
    fun m ρ _ => Cert.UpValIdeal.Gen.frame m ρ,
    frame_UpVal_ref,
    fun m ρ _ => Cert.BranchA.Gen.frame m ρ,
    fun m ρ _ => Cert.BranchAIdeal.Gen.frame m ρ,
    frame_branch_a_ref,
    fun m ρ _ => Cert.BranchC.Gen.frame m ρ,
    fun m ρ _ => Cert.BranchCIdeal.Gen.frame m ρ,
    frame_branch_c_ref,
    fun m ρ _ => Cert.MergeOut.Gen.frame m ρ,
    fun m ρ _ => Cert.MergeOutIdeal.Gen.frame m ρ,
    frame_merge_out_ref,
    fun m ρ _ => Cert.FfnDown.Gen.frame m ρ,
    fun m ρ _ => Cert.FfnDownIdeal.Gen.frame m ρ,
    frame_ffn_down_ref,
    fun m ρ _ => Cert.FfnLoss.Gen.frame m ρ,
    fun m ρ _ => Cert.FfnLossIdeal.Gen.frame m ρ,
    frame_ffn_loss_ref,
    fun m ρ _ => Cert.FirstNorm.Gen.frame m ρ,
    fun m ρ _ => Cert.FirstNormIdeal.Gen.frame m ρ,
    frame_FirstNorm_ref,
    fun m ρ _ => Cert.AdamIn.Gen.frame m ρ,
    fun m ρ _ => Cert.AdamInIdeal.Gen.frame m ρ,
    frame_AdamIn_ref,
    fun m ρ _ => Cert.AdamNarrow.Gen.frame m ρ,
    fun m ρ _ => Cert.AdamNarrowIdeal.Gen.frame m ρ,
    frame_AdamNarrow_ref,
    fun m ρ _ => Cert.AdamMiddle.Gen.frame m ρ,
    fun m ρ _ => Cert.AdamMiddleIdeal.Gen.frame m ρ,
    frame_AdamMiddle_ref,
    fun m ρ _ => Cert.AdamOut.Gen.frame m ρ,
    fun m ρ _ => Cert.AdamOutIdeal.Gen.frame m ρ,
    frame_AdamOut_ref,
    fun m ρ _ => Cert.AdamUp.Gen.frame m ρ,
    fun m ρ _ => Cert.AdamUpIdeal.Gen.frame m ρ,
    frame_AdamUp_ref,
    fun m ρ _ => Cert.AdamDown.Gen.frame m ρ,
    fun m ρ _ => Cert.AdamDownIdeal.Gen.frame m ρ,
    frame_AdamDown_ref,
    fun m ρ _ => Cert.AdamConv.Gen.frame m ρ,
    fun m ρ _ => Cert.AdamConvIdeal.Gen.frame m ρ,
    frame_AdamConv_ref,
    fun m ρ _ => Cert.PoolFwd.Gen.frame m ρ,
    fun m ρ _ => Cert.PoolFwdIdeal.Gen.frame m ρ,
    frame_PoolFwd_ref,
    fun m ρ _ => Cert.PoolBwd.Gen.frame m ρ,
    fun m ρ _ => Cert.PoolBwdIdeal.Gen.frame m ρ,
    frame_PoolBwd_ref,
    fun m ρ _ => Cert.SmallLate.Gen.frame m ρ,
    fun m ρ _ => Cert.SmallLateIdeal.Gen.frame m ρ,
    frame_SmallLate_ref,
    fun m ρ _ => Cert.SmallEarly.Gen.frame m ρ,
    fun m ρ _ => Cert.SmallEarlyIdeal.Gen.frame m ρ,
    frame_SmallEarly_ref,
    ⟨IdealRules.named_const.statement Cert.SguIdeal.κ "gelu_a" .f32 0x3D372713#32 ((8943 / 200000 : ℝ) : EReal) rfl,
      IdealRules.named_const.statement Cert.SguIdeal.κ "gelu_3a" .f32 0x3E095D4F#32 ((26829 / 200000 : ℝ) : EReal) rfl⟩,
    trivial, algebraic_branch,
    trivial, algebraic_up,
    trivial, algebraic_in_bwd,
    trivial, algebraic_DownBwd,
    trivial, algebraic_OutBwd,
    trivial, algebraic_DownW,
    trivial, algebraic_UpW,
    trivial, algebraic_OutW,
    trivial, algebraic_NarrowW,
    trivial, algebraic_MiddleW,
    trivial, algebraic_InW,
    trivial, algebraic_InProj,
    trivial, algebraic_UpGate,
    trivial, algebraic_UpVal,
    trivial, algebraic_branch_a,
    trivial, algebraic_branch_c,
    trivial, algebraic_merge_out,
    trivial, algebraic_ffn_down,
    trivial, algebraic_ffn_loss,
    trivial, algebraic_FirstNorm,
    trivial, algebraic_AdamIn,
    trivial, algebraic_AdamNarrow,
    trivial, algebraic_AdamMiddle,
    trivial, algebraic_AdamOut,
    trivial, algebraic_AdamUp,
    trivial, algebraic_AdamDown,
    trivial, algebraic_AdamConv,
    trivial, algebraic_PoolFwd,
    trivial, algebraic_PoolBwd,
    trivial, algebraic_SmallLate,
    trivial, algebraic_SmallEarly⟩

end Cert.Proof

end
